-- ==== Defs.lean ====
def Pre_Kernel [hPre_packed : Cert.Pre_packed.Facts] (m : (ℓ : Loc Cert.Kernel.nD Cert.Kernel.τ Cert.Kernel.sig) → Buf (Elt Bits) ℓ) : Prop :=
  ∀ c : Dev Cert.Kernel.nD,
    (Cert.Pre_packed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_packed : Cert.Pre_packed.Facts] (m : (ℓ : Loc Cert.KernelIdeal.nD Cert.KernelIdeal.τ Cert.KernelIdeal.sig) → Buf (Elt Ideal) ℓ) : Prop :=
  ∀ c : Dev Cert.KernelIdeal.nD,
    (Cert.Pre_packed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_packed [hPre_packed : Cert.Pre_packed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_packed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Proj [hPre_fits : Cert.Pre_fits.Facts] (m : (ℓ : Loc Cert.Proj.nD Cert.Proj.τ Cert.Proj.sig) → Buf (Elt Bits) ℓ) : Prop :=
  ∀ c : Dev Cert.Proj.nD,
    (Cert.Pre_fits.fn (F := Bits) (m ((c.tc : Thread Cert.Proj.nD Cert.Proj.τ).loc Cert.Proj.main_arg0)) (m ((c.tc : Thread Cert.Proj.nD Cert.Proj.τ).loc Cert.Proj.main_arg1)) (m ((c.tc : Thread Cert.Proj.nD Cert.Proj.τ).loc Cert.Proj.main_arg2)) (m ((c.tc : Thread Cert.Proj.nD Cert.Proj.τ).loc Cert.Proj.main_arg3)) (m ((c.tc : Thread Cert.Proj.nD Cert.Proj.τ).loc Cert.Proj.main_arg4)) (m ((c.tc : Thread Cert.Proj.nD Cert.Proj.τ).loc Cert.Proj.main_arg5)) (m ((c.tc : Thread Cert.Proj.nD Cert.Proj.τ).loc Cert.Proj.main_arg6))) = (fun _ => 1#1)

def Pre_ProjIdeal [hPre_fits : Cert.Pre_fits.Facts] (m : (ℓ : Loc Cert.ProjIdeal.nD Cert.ProjIdeal.τ Cert.ProjIdeal.sig) → Buf (Elt Ideal) ℓ) : Prop :=
  ∀ c : Dev Cert.ProjIdeal.nD,
    (Cert.Pre_fits.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6))) = (fun _ => 1#1)

def Pre_ProjReferenceIdeal (m : (ℓ : Loc Cert.ProjReferenceIdeal.nD Cert.ProjReferenceIdeal.τ Cert.ProjReferenceIdeal.sig) → Buf (Elt Ideal) ℓ) : Prop :=
  True

def Pre_ProjReferenceIdeal_fits [hPre_fits : Cert.Pre_fits.Facts] (m : (ℓ : Loc Cert.ProjReferenceIdeal.nD Cert.ProjReferenceIdeal.τ Cert.ProjReferenceIdeal.sig) → Buf (Elt Ideal) ℓ) : Prop :=
  ∀ c : Dev Cert.ProjReferenceIdeal.nD,
    (Cert.Pre_fits.fn (F := Ideal) (m ((c.tc : Thread Cert.ProjReferenceIdeal.nD Cert.ProjReferenceIdeal.τ).loc Cert.ProjReferenceIdeal.main_arg0)) (m ((c.tc : Thread Cert.ProjReferenceIdeal.nD Cert.ProjReferenceIdeal.τ).loc Cert.ProjReferenceIdeal.main_arg1)) (m ((c.tc : Thread Cert.ProjReferenceIdeal.nD Cert.ProjReferenceIdeal.τ).loc Cert.ProjReferenceIdeal.main_arg2)) (m ((c.tc : Thread Cert.ProjReferenceIdeal.nD Cert.ProjReferenceIdeal.τ).loc Cert.ProjReferenceIdeal.main_arg3)) (m ((c.tc : Thread Cert.ProjReferenceIdeal.nD Cert.ProjReferenceIdeal.τ).loc Cert.ProjReferenceIdeal.main_arg4)) (m ((c.tc : Thread Cert.ProjReferenceIdeal.nD Cert.ProjReferenceIdeal.τ).loc Cert.ProjReferenceIdeal.main_arg5)) (m ((c.tc : Thread Cert.ProjReferenceIdeal.nD Cert.ProjReferenceIdeal.τ).loc Cert.ProjReferenceIdeal.main_arg6))) = (fun _ => 1#1)

def quiescent_Kernel [hKernel : Cert.Kernel.Facts] [hPre_packed : Cert.Pre_packed.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_packed : Cert.Pre_packed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_packed [hReferenceIdeal : Cert.ReferenceIdeal.Facts] [hPre_packed : Cert.Pre_packed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_packed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Proj [hProj : Cert.Proj.Facts] [hPre_fits : Cert.Pre_fits.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6))
      ∧ r.2.sem = fun _ => 0)

def quiescent_ProjIdeal [hProjIdeal : Cert.ProjIdeal.Facts] [hPre_fits : Cert.Pre_fits.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4)
      ∧ r.2.mem ((c.tc : Thread Cert.ProjReferenceIdeal.nD Cert.ProjReferenceIdeal.τ).loc Cert.ProjReferenceIdeal.main_arg5) = m ((c.tc : Thread Cert.ProjReferenceIdeal.nD Cert.ProjReferenceIdeal.τ).loc Cert.ProjReferenceIdeal.main_arg5)
      ∧ r.2.mem ((c.tc : Thread Cert.ProjReferenceIdeal.nD Cert.ProjReferenceIdeal.τ).loc Cert.ProjReferenceIdeal.main_arg6) = m ((c.tc : Thread Cert.ProjReferenceIdeal.nD Cert.ProjReferenceIdeal.τ).loc Cert.ProjReferenceIdeal.main_arg6))
      ∧ r.2.sem = fun _ => 0)

def quiescent_ProjReferenceIdeal_pre_fits [hProjReferenceIdeal : Cert.ProjReferenceIdeal.Facts] [hPre_fits : Cert.Pre_fits.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal_fits m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4)
      ∧ r.2.mem ((c.tc : Thread Cert.ProjReferenceIdeal.nD Cert.ProjReferenceIdeal.τ).loc Cert.ProjReferenceIdeal.main_arg5) = m ((c.tc : Thread Cert.ProjReferenceIdeal.nD Cert.ProjReferenceIdeal.τ).loc Cert.ProjReferenceIdeal.main_arg5)
      ∧ r.2.mem ((c.tc : Thread Cert.ProjReferenceIdeal.nD Cert.ProjReferenceIdeal.τ).loc Cert.ProjReferenceIdeal.main_arg6) = m ((c.tc : Thread Cert.ProjReferenceIdeal.nD Cert.ProjReferenceIdeal.τ).loc Cert.ProjReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_packed : Cert.Pre_packed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Proj_ProjIdeal : Prop :=
  True

def algebraic_ProjIdeal_ProjReferenceIdeal [hProjIdeal : Cert.ProjIdeal.Facts] [hProjReferenceIdeal : Cert.ProjReferenceIdeal.Facts] [hPre_fits : Cert.Pre_fits.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)
      ∧ m' ((c.tc : Thread Cert.ProjReferenceIdeal.nD Cert.ProjReferenceIdeal.τ).loc Cert.ProjReferenceIdeal.main_arg3) = m ((c.tc : Thread Cert.ProjIdeal.nD Cert.ProjIdeal.τ).loc Cert.ProjIdeal.main_arg3)
      ∧ m' ((c.tc : Thread Cert.ProjReferenceIdeal.nD Cert.ProjReferenceIdeal.τ).loc Cert.ProjReferenceIdeal.main_arg4) = m ((c.tc : Thread Cert.ProjIdeal.nD Cert.ProjIdeal.τ).loc Cert.ProjIdeal.main_arg4)
      ∧ m' ((c.tc : Thread Cert.ProjReferenceIdeal.nD Cert.ProjReferenceIdeal.τ).loc Cert.ProjReferenceIdeal.main_arg5) = m ((c.tc : Thread Cert.ProjIdeal.nD Cert.ProjIdeal.τ).loc Cert.ProjIdeal.main_arg5)
      ∧ m' ((c.tc : Thread Cert.ProjReferenceIdeal.nD Cert.ProjReferenceIdeal.τ).loc Cert.ProjReferenceIdeal.main_arg6) = m ((c.tc : Thread Cert.ProjIdeal.nD Cert.ProjIdeal.τ).loc Cert.ProjIdeal.main_arg6)) →
    ∃ (v0 : (c : Dev Cert.ProjIdeal.nD) → Buf (Elt Ideal) ((c.tc : Thread Cert.ProjIdeal.nD Cert.ProjIdeal.τ).loc Cert.ProjIdeal.main_v0_0)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0_0) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v0) = v0 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4)
          ∧ r.2.mem ((c.tc : Thread Cert.ProjReferenceIdeal.nD Cert.ProjReferenceIdeal.τ).loc Cert.ProjReferenceIdeal.main_arg5) = m' ((c.tc : Thread Cert.ProjReferenceIdeal.nD Cert.ProjReferenceIdeal.τ).loc Cert.ProjReferenceIdeal.main_arg5)
          ∧ r.2.mem ((c.tc : Thread Cert.ProjReferenceIdeal.nD Cert.ProjReferenceIdeal.τ).loc Cert.ProjReferenceIdeal.main_arg6) = m' ((c.tc : Thread Cert.ProjReferenceIdeal.nD Cert.ProjReferenceIdeal.τ).loc Cert.ProjReferenceIdeal.main_arg6))

def Claim : Prop :=
  ∃ (hKernel : Cert.Kernel.Facts) (hKernelIdeal : Cert.KernelIdeal.Facts) (hReferenceIdeal : Cert.ReferenceIdeal.Facts) (hProj : Cert.Proj.Facts) (hProjIdeal : Cert.ProjIdeal.Facts) (hProjReferenceIdeal : Cert.ProjReferenceIdeal.Facts) (hPre_packed : Cert.Pre_packed.Facts) (hPre_fits : Cert.Pre_fits.Facts),
    quiescent_Kernel (hKernel := hKernel) (hPre_packed := hPre_packed)
    ∧ quiescent_KernelIdeal (hKernelIdeal := hKernelIdeal) (hPre_packed := hPre_packed)
    ∧ quiescent_ReferenceIdeal (hReferenceIdeal := hReferenceIdeal)
    ∧ quiescent_ReferenceIdeal_pre_packed (hReferenceIdeal := hReferenceIdeal) (hPre_packed := hPre_packed)
    ∧ quiescent_Proj (hProj := hProj) (hPre_fits := hPre_fits)
    ∧ quiescent_ProjIdeal (hProjIdeal := hProjIdeal) (hPre_fits := hPre_fits)
    ∧ quiescent_ProjReferenceIdeal (hProjReferenceIdeal := hProjReferenceIdeal)
    ∧ quiescent_ProjReferenceIdeal_pre_fits (hProjReferenceIdeal := hProjReferenceIdeal) (hPre_fits := hPre_fits)
    ∧ preserves_Kernel_KernelIdeal
    ∧ algebraic_KernelIdeal_ReferenceIdeal (hKernelIdeal := hKernelIdeal) (hReferenceIdeal := hReferenceIdeal) (hPre_packed := hPre_packed)
    ∧ preserves_Proj_ProjIdeal
    ∧ algebraic_ProjIdeal_ProjReferenceIdeal (hProjIdeal := hProjIdeal) (hProjReferenceIdeal := hProjReferenceIdeal) (hPre_fits := hPre_fits)
-- ==== Pre_fits.lean ====
abbrev S6 : Shape := ⟨1, ![6]⟩
abbrev S1536x10240 : Shape := ⟨2, ![1536, 10240]⟩
abbrev S1536x80 : Shape := ⟨2, ![1536, 80]⟩
abbrev S10240x5120 : Shape := ⟨2, ![10240, 5120]⟩
abbrev S80x40 : Shape := ⟨2, ![80, 40]⟩
abbrev S1x5120 : Shape := ⟨2, ![1, 5120]⟩
abbrev S1536x1 : Shape := ⟨2, ![1536, 1]⟩
abbrev S_ : Shape := ⟨0, ![]⟩

class Facts : Prop where
  bcast_S_S6 : S_.BroadcastsInDim S6 (![] : Fin 0 → Fin S6.rank)
  reducesTo_S6_S_d0 : S6.ReducesTo [0] S_
  h_S_ : 0 < S_.numel

variable [Facts]

def fn {F : FTy → Type} [FloatOps F] (main_arg0 : IVec S6 32) (main_arg1 : FVec F S1536x10240 .fp8e4m3) (main_arg2 : FVec F S1536x80 .f32) (main_arg3 : FVec F S10240x5120 .fp8e4m3) (main_arg4 : FVec F S80x40 .f32) (main_arg5 : FVec F S1x5120 .f32) (main_arg6 : IVec S1536x1 32) : IVec S_ 1 :=
  let main_c : IVec S_ 32 := constantI S_ 32 0#32
  let main_v0 : IVec S6 32 := broadcastInDim S6 ![] bcast_S_S6 main_c
  let main_v1 : IVec S6 1 := cmpi .sge main_arg0 main_v0
  let main_c_0 : IVec S_ 32 := constantI S_ 32 256#32
  let main_v2 : IVec S6 32 := broadcastInDim S6 ![] bcast_S_S6 main_c_0
  let main_v3 : IVec S6 1 := cmpi .sle main_arg0 main_v2
  let main_v4 : IVec S6 1 := andi main_v1 main_v3
  let main_c_1 : IVec S_ 1 := constantI S_ 1 1#1
  let main_v5 : IVec S_ 1 := (fun x v => Host.reduce IntOp.andi x v reducesTo_S6_S_d0 h_S_) main_v4 main_c_1
  let main_c_2 : IVec S_ 32 := constantI S_ 32 0#32
  let main_v6 : IVec S_ 32 := (fun x v => Host.reduce IntOp.addi x v reducesTo_S6_S_d0 h_S_) main_arg0 main_c_2
  let main_c_3 : IVec S_ 32 := constantI S_ 32 880#32
  let main_v7 : IVec S_ 1 := cmpi .sle main_v6 main_c_3
  let main_v8 : IVec S_ 1 := andi main_v5 main_v7
  main_v8
-- ==== Pre_packed.lean ====
abbrev S6 : Shape := ⟨1, ![6]⟩
abbrev S880x5120 : Shape := ⟨2, ![880, 5120]⟩
abbrev S880x128 : Shape := ⟨2, ![880, 128]⟩
abbrev S5120x32000 : Shape := ⟨2, ![5120, 32000]⟩
abbrev S40x250 : Shape := ⟨2, ![40, 250]⟩
abbrev S_ : Shape := ⟨0, ![]⟩
abbrev S880x1 : Shape := ⟨2, ![880, 1]⟩

class Facts : Prop where
  bcast_S_S6 : S_.BroadcastsInDim S6 (![] : Fin 0 → Fin S6.rank)
  reducesTo_S6_S_d0 : S6.ReducesTo [0] S_
  h_S_ : 0 < S_.numel
  slices_S880x128_S880x1_0_0 : S880x128.Slices ![0, 0] S880x1
  bcast_S880x1_S880x128_0_1 : S880x1.BroadcastsInDim S880x128 (![0, 1] : Fin 2 → Fin S880x128.rank)
  bcast_S_S880x128 : S_.BroadcastsInDim S880x128 (![] : Fin 0 → Fin S880x128.rank)

variable [Facts]

def fn {F : FTy → Type} [FloatOps F] (main_arg0 : IVec S6 32) (main_arg1 : FVec F S880x5120 .bf16) (main_arg2 : FVec F S880x128 .f32) (main_arg3 : FVec F S5120x32000 .fp8e4m3) (main_arg4 : FVec F S40x250 .f32) : IVec S880x128 1 :=
  let main_c : IVec S_ 32 := constantI S_ 32 0#32
  let main_v0 : IVec S6 32 := broadcastInDim S6 ![] bcast_S_S6 main_c
  let main_v1 : IVec S6 1 := cmpi .sge main_arg0 main_v0
  let main_c_0 : IVec S_ 32 := constantI S_ 32 256#32
  let main_v2 : IVec S6 32 := broadcastInDim S6 ![] bcast_S_S6 main_c_0
  let main_v3 : IVec S6 1 := cmpi .sle main_arg0 main_v2
  let main_v4 : IVec S6 1 := andi main_v1 main_v3
  let main_c_1 : IVec S_ 1 := constantI S_ 1 1#1
  let main_v5 : IVec S_ 1 := (fun x v => Host.reduce IntOp.andi x v reducesTo_S6_S_d0 h_S_) main_v4 main_c_1
  let main_c_2 : IVec S_ 32 := constantI S_ 32 0#32
  let main_v6 : IVec S_ 32 := (fun x v => Host.reduce IntOp.addi x v reducesTo_S6_S_d0 h_S_) main_arg0 main_c_2
  let main_c_3 : IVec S_ 32 := constantI S_ 32 880#32
  let main_v7 : IVec S_ 1 := cmpi .sle main_v6 main_c_3
  let main_v8 : IVec S_ 1 := andi main_v5 main_v7
  let main_v9 : FVec F S880x1 .f32 := (extractStridedSlice S880x1 ![0, 0] · slices_S880x128_S880x1_0_0) main_arg2
  let main_v10 : FVec F S880x128 .f32 := broadcastInDim S880x128 ![0, 1] bcast_S880x1_S880x128_0_1 main_v9
  let main_v11 : IVec S880x128 1 := cmpf .oeq main_arg2 main_v10
  let main_v12 : IVec S880x128 1 := broadcastInDim S880x128 ![] bcast_S_S880x128 main_v8
  let main_v13 : IVec S880x128 1 := andi main_v11 main_v12
  main_v13
-- ==== Kernel.lean ====
abbrev S6 : Shape := ⟨1, ![6]⟩
abbrev S880x5120 : Shape := ⟨2, ![880, 5120]⟩
abbrev S880x128 : Shape := ⟨2, ![880, 128]⟩
abbrev S5120x32000 : Shape := ⟨2, ![5120, 32000]⟩
abbrev S40x250 : Shape := ⟨2, ![40, 250]⟩
abbrev S6x256 : Shape := ⟨2, ![6, 256]⟩
abbrev S5120x640 : Shape := ⟨2, ![5120, 640]⟩
abbrev S880x640 : Shape := ⟨2, ![880, 640]⟩
abbrev S1136x128 : Shape := ⟨2, ![1136, 128]⟩
abbrev S1x1 : Shape := ⟨2, ![1, 1]⟩
abbrev S128x128 : Shape := ⟨2, ![128, 128]⟩
abbrev S16x128 : Shape := ⟨2, ![16, 128]⟩
abbrev S16 : Shape := ⟨1, ![16]⟩
abbrev S16x1 : Shape := ⟨2, ![16, 1]⟩
abbrev S1 : Shape := ⟨1, ![1]⟩
abbrev S128 : Shape := ⟨1, ![128]⟩
abbrev S1x128 : Shape := ⟨2, ![1, 128]⟩

abbrev nBuf : Space → Nat
  | .hbm => 5
  | .vmem => 11
  | .smem => 2
  | _ => 0

abbrev bufTy : (tb : Table) → Fin (tcTables nBuf tb) → BufTy
  | .hbm, ⟨0, _⟩ => ⟨S880x5120, .bf16⟩
  | .hbm, ⟨1, _⟩ => ⟨S880x128, .f32⟩
  | .hbm, ⟨2, _⟩ => ⟨S5120x32000, .fp8e4m3⟩
  | .hbm, ⟨3, _⟩ => ⟨S40x250, .f32⟩
  | .hbm, ⟨4, _⟩ => ⟨S6x256, .f32⟩
  | .local _ .vmem, ⟨0, _⟩ => ⟨S880x5120, .bf16⟩
  | .local _ .vmem, ⟨1, _⟩ => ⟨S880x128, .f32⟩
  | .local _ .vmem, ⟨2, _⟩ => ⟨S5120x640, .fp8e4m3⟩
  | .local _ .vmem, ⟨3, _⟩ => ⟨S5120x640, .fp8e4m3⟩
  | .local _ .vmem, ⟨4, _⟩ => ⟨S6x256, .f32⟩
  | .local _ .vmem, ⟨5, _⟩ => ⟨S5120x640, .bf16⟩
  | .local _ .vmem, ⟨6, _⟩ => ⟨S880x640, .f32⟩
  | .local _ .vmem, ⟨7, _⟩ => ⟨S880x128, .f32⟩
  | .local _ .vmem, ⟨8, _⟩ => ⟨S880x128, .f32⟩
  | .local _ .vmem, ⟨9, _⟩ => ⟨S880x128, .f32⟩
  | .local _ .vmem, ⟨10, _⟩ => ⟨S1136x128, .f32⟩
  | .local _ .smem, ⟨0, _⟩ => ⟨S6, .i32⟩
  | .local _ .smem, ⟨1, _⟩ => ⟨S40x250, .f32⟩
  | _, _ => ⟨S880x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨1, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_scratch5 : Ref sig .tc := ⟨.vmem, 10, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5

abbrev nD : Nat := 1
abbrev τ : Topo := Topo.v7x

variable {F : FTy → Type} [FloatOps F]

abbrev grid0 : Pipeline.Grid := ⟨1, ![50], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32_1 : BitVec 32) : Fin 2 → Nat :=
  let c0 : Index := 0#32
  let arg0 : BitVec 32 := BitVec.ofNat 32 (i 0).val
  let c5_i32 : BitVec 32 := 5#32
  let v3 : BitVec 32 := Scalar.muli arg0 c5_i32
  let v4 : BitVec 32 := Scalar.addi v3 c0_i32_1
  let v5 : Index := Scalar.indexCast v4
  ![0, v5.toNat]
def k0_off2 (i : grid0.Coords) (c0_i32_27 : BitVec 32) : Fin 2 → Nat :=
  let c1 : Index := 1#32
  let arg0 : BitVec 32 := BitVec.ofNat 32 (i 0).val
  let c5_i32_26 : BitVec 32 := 5#32
  let v63 : BitVec 32 := Scalar.muli arg0 c5_i32_26
  let v64 : BitVec 32 := Scalar.addi v63 c0_i32_27
  let v65 : Index := Scalar.indexCast v64
  ![1, v65.toNat]
def k0_off3 (i : grid0.Coords) (c0_i32_61 : BitVec 32) : Fin 2 → Nat :=
  let c2 : Index := 2#32
  let arg0 : BitVec 32 := BitVec.ofNat 32 (i 0).val
  let c5_i32_60 : BitVec 32 := 5#32
  let v123 : BitVec 32 := Scalar.muli arg0 c5_i32_60
  let v124 : BitVec 32 := Scalar.addi v123 c0_i32_61
  let v125 : Index := Scalar.indexCast v124
  ![2, v125.toNat]
def k0_off4 (i : grid0.Coords) (c0_i32_95 : BitVec 32) : Fin 2 → Nat :=
  let c3 : Index := 3#32
  let arg0 : BitVec 32 := BitVec.ofNat 32 (i 0).val
  let c5_i32_94 : BitVec 32 := 5#32
  let v183 : BitVec 32 := Scalar.muli arg0 c5_i32_94
  let v184 : BitVec 32 := Scalar.addi v183 c0_i32_95
  let v185 : Index := Scalar.indexCast v184
  ![3, v185.toNat]
def k0_off5 (i : grid0.Coords) (c0_i32_129 : BitVec 32) : Fin 2 → Nat :=
  let c4 : Index := 4#32
  let arg0 : BitVec 32 := BitVec.ofNat 32 (i 0).val
  let c5_i32_128 : BitVec 32 := 5#32
  let v243 : BitVec 32 := Scalar.muli arg0 c5_i32_128
  let v244 : BitVec 32 := Scalar.addi v243 c0_i32_129
  let v245 : Index := Scalar.indexCast v244
  ![4, v245.toNat]
def k0_off6 (i : grid0.Coords) (c0_i32_163 : BitVec 32) : Fin 2 → Nat :=
  let c5 : Index := 5#32
  let arg0 : BitVec 32 := BitVec.ofNat 32 (i 0).val
  let c5_i32_162 : BitVec 32 := 5#32
  let v303 : BitVec 32 := Scalar.muli arg0 c5_i32_162
  let v304 : BitVec 32 := Scalar.addi v303 c0_i32_163
  let v305 : Index := Scalar.indexCast v304
  ![5, v305.toNat]
def k0_off7 (i : grid0.Coords) (c0_i32_196 : BitVec 32) : Fin 2 → Nat :=
  let c6 : Index := 6#32
  let arg0 : BitVec 32 := BitVec.ofNat 32 (i 0).val
  let c5_i32_195 : BitVec 32 := 5#32
  let v363 : BitVec 32 := Scalar.muli arg0 c5_i32_195
  let v364 : BitVec 32 := Scalar.addi v363 c0_i32_196
  let v365 : Index := Scalar.indexCast v364
  ![6, v365.toNat]
def k0_off8 (i : grid0.Coords) (c0_i32_229 : BitVec 32) : Fin 2 → Nat :=
  let c7 : Index := 7#32
  let arg0 : BitVec 32 := BitVec.ofNat 32 (i 0).val
  let c5_i32_228 : BitVec 32 := 5#32
  let v423 : BitVec 32 := Scalar.muli arg0 c5_i32_228
  let v424 : BitVec 32 := Scalar.addi v423 c0_i32_229
  let v425 : Index := Scalar.indexCast v424
  ![7, v425.toNat]
def k0_off9 (i : grid0.Coords) (c0_i32_262 : BitVec 32) : Fin 2 → Nat :=
  let c8 : Index := 8#32
  let arg0 : BitVec 32 := BitVec.ofNat 32 (i 0).val
  let c5_i32_261 : BitVec 32 := 5#32
  let v483 : BitVec 32 := Scalar.muli arg0 c5_i32_261
  let v484 : BitVec 32 := Scalar.addi v483 c0_i32_262
  let v485 : Index := Scalar.indexCast v484
  ![8, v485.toNat]
def k0_off10 (i : grid0.Coords) (c0_i32_295 : BitVec 32) : Fin 2 → Nat :=
  let c9 : Index := 9#32
  let arg0 : BitVec 32 := BitVec.ofNat 32 (i 0).val
  let c5_i32_294 : BitVec 32 := 5#32
  let v543 : BitVec 32 := Scalar.muli arg0 c5_i32_294
  let v544 : BitVec 32 := Scalar.addi v543 c0_i32_295
  let v545 : Index := Scalar.indexCast v544
  ![9, v545.toNat]
def k0_off11 (i : grid0.Coords) (c0_i32_328 : BitVec 32) : Fin 2 → Nat :=
  let c10 : Index := 10#32
  let arg0 : BitVec 32 := BitVec.ofNat 32 (i 0).val
  let c5_i32_327 : BitVec 32 := 5#32
  let v603 : BitVec 32 := Scalar.muli arg0 c5_i32_327
  let v604 : BitVec 32 := Scalar.addi v603 c0_i32_328
  let v605 : Index := Scalar.indexCast v604
  ![10, v605.toNat]
def k0_off12 (i : grid0.Coords) (c0_i32_361 : BitVec 32) : Fin 2 → Nat :=
  let c11 : Index := 11#32
  let arg0 : BitVec 32 := BitVec.ofNat 32 (i 0).val
  let c5_i32_360 : BitVec 32 := 5#32
  let v663 : BitVec 32 := Scalar.muli arg0 c5_i32_360
  let v664 : BitVec 32 := Scalar.addi v663 c0_i32_361
  let v665 : Index := Scalar.indexCast v664
  ![11, v665.toNat]
def k0_off13 (i : grid0.Coords) (c0_i32_394 : BitVec 32) : Fin 2 → Nat :=
  let c12 : Index := 12#32
  let arg0 : BitVec 32 := BitVec.ofNat 32 (i 0).val
  let c5_i32_393 : BitVec 32 := 5#32
  let v723 : BitVec 32 := Scalar.muli arg0 c5_i32_393
  let v724 : BitVec 32 := Scalar.addi v723 c0_i32_394
  let v725 : Index := Scalar.indexCast v724
  ![12, v725.toNat]
def k0_off14 (i : grid0.Coords) (c0_i32_427 : BitVec 32) : Fin 2 → Nat :=
  let c13 : Index := 13#32
  let arg0 : BitVec 32 := BitVec.ofNat 32 (i 0).val
  let c5_i32_426 : BitVec 32 := 5#32
  let v783 : BitVec 32 := Scalar.muli arg0 c5_i32_426
  let v784 : BitVec 32 := Scalar.addi v783 c0_i32_427
  let v785 : Index := Scalar.indexCast v784
  ![13, v785.toNat]
def k0_off15 (i : grid0.Coords) (c0_i32_460 : BitVec 32) : Fin 2 → Nat :=
  let c14 : Index := 14#32
  let arg0 : BitVec 32 := BitVec.ofNat 32 (i 0).val
  let c5_i32_459 : BitVec 32 := 5#32
  let v843 : BitVec 32 := Scalar.muli arg0 c5_i32_459
  let v844 : BitVec 32 := Scalar.addi v843 c0_i32_460
  let v845 : Index := Scalar.indexCast v844
  ![14, v845.toNat]
def k0_off16 (i : grid0.Coords) (c0_i32_493 : BitVec 32) : Fin 2 → Nat :=
  let c15 : Index := 15#32
  let arg0 : BitVec 32 := BitVec.ofNat 32 (i 0).val
  let c5_i32_492 : BitVec 32 := 5#32
  let v903 : BitVec 32 := Scalar.muli arg0 c5_i32_492
  let v904 : BitVec 32 := Scalar.addi v903 c0_i32_493
  let v905 : Index := Scalar.indexCast v904
  ![15, v905.toNat]
def k0_off17 (i : grid0.Coords) (c0_i32_526 : BitVec 32) : Fin 2 → Nat :=
  let c16 : Index := 16#32
  let arg0 : BitVec 32 := BitVec.ofNat 32 (i 0).val
  let c5_i32_525 : BitVec 32 := 5#32
  let v963 : BitVec 32 := Scalar.muli arg0 c5_i32_525
  let v964 : BitVec 32 := Scalar.addi v963 c0_i32_526
  let v965 : Index := Scalar.indexCast v964
  ![16, v965.toNat]
def k0_off18 (i : grid0.Coords) (c0_i32_559 : BitVec 32) : Fin 2 → Nat :=
  let c17 : Index := 17#32
  let arg0 : BitVec 32 := BitVec.ofNat 32 (i 0).val
  let c5_i32_558 : BitVec 32 := 5#32
  let v1023 : BitVec 32 := Scalar.muli arg0 c5_i32_558
  let v1024 : BitVec 32 := Scalar.addi v1023 c0_i32_559
  let v1025 : Index := Scalar.indexCast v1024
  ![17, v1025.toNat]
def k0_off19 (i : grid0.Coords) (c0_i32_592 : BitVec 32) : Fin 2 → Nat :=
  let c18 : Index := 18#32
  let arg0 : BitVec 32 := BitVec.ofNat 32 (i 0).val
  let c5_i32_591 : BitVec 32 := 5#32
  let v1083 : BitVec 32 := Scalar.muli arg0 c5_i32_591
  let v1084 : BitVec 32 := Scalar.addi v1083 c0_i32_592
  let v1085 : Index := Scalar.indexCast v1084
  ![18, v1085.toNat]
def k0_off20 (i : grid0.Coords) (c0_i32_625 : BitVec 32) : Fin 2 → Nat :=
  let c19 : Index := 19#32
  let arg0 : BitVec 32 := BitVec.ofNat 32 (i 0).val
  let c5_i32_624 : BitVec 32 := 5#32
  let v1143 : BitVec 32 := Scalar.muli arg0 c5_i32_624
  let v1144 : BitVec 32 := Scalar.addi v1143 c0_i32_625
  let v1145 : Index := Scalar.indexCast v1144
  ![19, v1145.toNat]
def k0_off21 (i : grid0.Coords) (c0_i32_658 : BitVec 32) : Fin 2 → Nat :=
  let c20 : Index := 20#32
  let arg0 : BitVec 32 := BitVec.ofNat 32 (i 0).val
  let c5_i32_657 : BitVec 32 := 5#32
  let v1203 : BitVec 32 := Scalar.muli arg0 c5_i32_657
  let v1204 : BitVec 32 := Scalar.addi v1203 c0_i32_658
  let v1205 : Index := Scalar.indexCast v1204
  ![20, v1205.toNat]
def k0_off22 (i : grid0.Coords) (c0_i32_691 : BitVec 32) : Fin 2 → Nat :=
  let c21 : Index := 21#32
  let arg0 : BitVec 32 := BitVec.ofNat 32 (i 0).val
  let c5_i32_690 : BitVec 32 := 5#32
  let v1263 : BitVec 32 := Scalar.muli arg0 c5_i32_690
  let v1264 : BitVec 32 := Scalar.addi v1263 c0_i32_691
  let v1265 : Index := Scalar.indexCast v1264
  ![21, v1265.toNat]
def k0_off23 (i : grid0.Coords) (c0_i32_724 : BitVec 32) : Fin 2 → Nat :=
  let c22 : Index := 22#32
  let arg0 : BitVec 32 := BitVec.ofNat 32 (i 0).val
  let c5_i32_723 : BitVec 32 := 5#32
  let v1323 : BitVec 32 := Scalar.muli arg0 c5_i32_723
  let v1324 : BitVec 32 := Scalar.addi v1323 c0_i32_724
  let v1325 : Index := Scalar.indexCast v1324
  ![22, v1325.toNat]
def k0_off24 (i : grid0.Coords) (c0_i32_757 : BitVec 32) : Fin 2 → Nat :=
  let c23 : Index := 23#32
  let arg0 : BitVec 32 := BitVec.ofNat 32 (i 0).val
  let c5_i32_756 : BitVec 32 := 5#32
  let v1383 : BitVec 32 := Scalar.muli arg0 c5_i32_756
  let v1384 : BitVec 32 := Scalar.addi v1383 c0_i32_757
  let v1385 : Index := Scalar.indexCast v1384
  ![23, v1385.toNat]
def k0_off25 (i : grid0.Coords) (c0_i32_790 : BitVec 32) : Fin 2 → Nat :=
  let c24 : Index := 24#32
  let arg0 : BitVec 32 := BitVec.ofNat 32 (i 0).val
  let c5_i32_789 : BitVec 32 := 5#32
  let v1443 : BitVec 32 := Scalar.muli arg0 c5_i32_789
  let v1444 : BitVec 32 := Scalar.addi v1443 c0_i32_790
  let v1445 : Index := Scalar.indexCast v1444
  ![24, v1445.toNat]
def k0_off26 (i : grid0.Coords) (c0_i32_823 : BitVec 32) : Fin 2 → Nat :=
  let c25 : Index := 25#32
  let arg0 : BitVec 32 := BitVec.ofNat 32 (i 0).val
  let c5_i32_822 : BitVec 32 := 5#32
  let v1503 : BitVec 32 := Scalar.muli arg0 c5_i32_822
  let v1504 : BitVec 32 := Scalar.addi v1503 c0_i32_823
  let v1505 : Index := Scalar.indexCast v1504
  ![25, v1505.toNat]
def k0_off27 (i : grid0.Coords) (c0_i32_856 : BitVec 32) : Fin 2 → Nat :=
  let c26 : Index := 26#32
  let arg0 : BitVec 32 := BitVec.ofNat 32 (i 0).val
  let c5_i32_855 : BitVec 32 := 5#32
  let v1563 : BitVec 32 := Scalar.muli arg0 c5_i32_855
  let v1564 : BitVec 32 := Scalar.addi v1563 c0_i32_856
  let v1565 : Index := Scalar.indexCast v1564
  ![26, v1565.toNat]
def k0_off28 (i : grid0.Coords) (c0_i32_889 : BitVec 32) : Fin 2 → Nat :=
  let c27 : Index := 27#32
  let arg0 : BitVec 32 := BitVec.ofNat 32 (i 0).val
  let c5_i32_888 : BitVec 32 := 5#32
  let v1623 : BitVec 32 := Scalar.muli arg0 c5_i32_888
  let v1624 : BitVec 32 := Scalar.addi v1623 c0_i32_889
  let v1625 : Index := Scalar.indexCast v1624
  ![27, v1625.toNat]
def k0_off29 (i : grid0.Coords) (c0_i32_922 : BitVec 32) : Fin 2 → Nat :=
  let c28 : Index := 28#32
  let arg0 : BitVec 32 := BitVec.ofNat 32 (i 0).val
  let c5_i32_921 : BitVec 32 := 5#32
  let v1683 : BitVec 32 := Scalar.muli arg0 c5_i32_921
  let v1684 : BitVec 32 := Scalar.addi v1683 c0_i32_922
  let v1685 : Index := Scalar.indexCast v1684
  ![28, v1685.toNat]
def k0_off30 (i : grid0.Coords) (c0_i32_955 : BitVec 32) : Fin 2 → Nat :=
  let c29 : Index := 29#32
  let arg0 : BitVec 32 := BitVec.ofNat 32 (i 0).val
  let c5_i32_954 : BitVec 32 := 5#32
  let v1743 : BitVec 32 := Scalar.muli arg0 c5_i32_954
  let v1744 : BitVec 32 := Scalar.addi v1743 c0_i32_955
  let v1745 : Index := Scalar.indexCast v1744
  ![29, v1745.toNat]
def k0_off31 (i : grid0.Coords) (c0_i32_988 : BitVec 32) : Fin 2 → Nat :=
  let c30 : Index := 30#32
  let arg0 : BitVec 32 := BitVec.ofNat 32 (i 0).val
  let c5_i32_987 : BitVec 32 := 5#32
  let v1803 : BitVec 32 := Scalar.muli arg0 c5_i32_987
  let v1804 : BitVec 32 := Scalar.addi v1803 c0_i32_988
  let v1805 : Index := Scalar.indexCast v1804
  ![30, v1805.toNat]
def k0_off32 (i : grid0.Coords) (c0_i32_1021 : BitVec 32) : Fin 2 → Nat :=
  let c31 : Index := 31#32
  let arg0 : BitVec 32 := BitVec.ofNat 32 (i 0).val
  let c5_i32_1020 : BitVec 32 := 5#32
  let v1863 : BitVec 32 := Scalar.muli arg0 c5_i32_1020
  let v1864 : BitVec 32 := Scalar.addi v1863 c0_i32_1021
  let v1865 : Index := Scalar.indexCast v1864
  ![31, v1865.toNat]
def k0_off33 (i : grid0.Coords) (c0_i32_1054 : BitVec 32) : Fin 2 → Nat :=
  let c32 : Index := 32#32
  let arg0 : BitVec 32 := BitVec.ofNat 32 (i 0).val
  let c5_i32_1053 : BitVec 32 := 5#32
  let v1923 : BitVec 32 := Scalar.muli arg0 c5_i32_1053
  let v1924 : BitVec 32 := Scalar.addi v1923 c0_i32_1054
  let v1925 : Index := Scalar.indexCast v1924
  ![32, v1925.toNat]
def k0_off34 (i : grid0.Coords) (c0_i32_1087 : BitVec 32) : Fin 2 → Nat :=
  let c33 : Index := 33#32
  let arg0 : BitVec 32 := BitVec.ofNat 32 (i 0).val
  let c5_i32_1086 : BitVec 32 := 5#32
  let v1983 : BitVec 32 := Scalar.muli arg0 c5_i32_1086
  let v1984 : BitVec 32 := Scalar.addi v1983 c0_i32_1087
  let v1985 : Index := Scalar.indexCast v1984
  ![33, v1985.toNat]
def k0_off35 (i : grid0.Coords) (c0_i32_1120 : BitVec 32) : Fin 2 → Nat :=
  let c34 : Index := 34#32
  let arg0 : BitVec 32 := BitVec.ofNat 32 (i 0).val
  let c5_i32_1119 : BitVec 32 := 5#32
  let v2043 : BitVec 32 := Scalar.muli arg0 c5_i32_1119
  let v2044 : BitVec 32 := Scalar.addi v2043 c0_i32_1120
  let v2045 : Index := Scalar.indexCast v2044
  ![34, v2045.toNat]
def k0_off36 (i : grid0.Coords) (c0_i32_1153 : BitVec 32) : Fin 2 → Nat :=
  let c35 : Index := 35#32
  let arg0 : BitVec 32 := BitVec.ofNat 32 (i 0).val
  let c5_i32_1152 : BitVec 32 := 5#32
  let v2103 : BitVec 32 := Scalar.muli arg0 c5_i32_1152
  let v2104 : BitVec 32 := Scalar.addi v2103 c0_i32_1153
  let v2105 : Index := Scalar.indexCast v2104
  ![35, v2105.toNat]
def k0_off37 (i : grid0.Coords) (c0_i32_1186 : BitVec 32) : Fin 2 → Nat :=
  let c36 : Index := 36#32
  let arg0 : BitVec 32 := BitVec.ofNat 32 (i 0).val
  let c5_i32_1185 : BitVec 32 := 5#32
  let v2163 : BitVec 32 := Scalar.muli arg0 c5_i32_1185
  let v2164 : BitVec 32 := Scalar.addi v2163 c0_i32_1186
  let v2165 : Index := Scalar.indexCast v2164
  ![36, v2165.toNat]
def k0_off38 (i : grid0.Coords) (c0_i32_1219 : BitVec 32) : Fin 2 → Nat :=
  let c37 : Index := 37#32
  let arg0 : BitVec 32 := BitVec.ofNat 32 (i 0).val
  let c5_i32_1218 : BitVec 32 := 5#32
  let v2223 : BitVec 32 := Scalar.muli arg0 c5_i32_1218
  let v2224 : BitVec 32 := Scalar.addi v2223 c0_i32_1219
  let v2225 : Index := Scalar.indexCast v2224
  ![37, v2225.toNat]
def k0_off39 (i : grid0.Coords) (c0_i32_1252 : BitVec 32) : Fin 2 → Nat :=
  let c38 : Index := 38#32
  let arg0 : BitVec 32 := BitVec.ofNat 32 (i 0).val
  let c5_i32_1251 : BitVec 32 := 5#32
  let v2283 : BitVec 32 := Scalar.muli arg0 c5_i32_1251
  let v2284 : BitVec 32 := Scalar.addi v2283 c0_i32_1252
  let v2285 : Index := Scalar.indexCast v2284
  ![38, v2285.toNat]
def k0_off40 (i : grid0.Coords) (c0_i32_1285 : BitVec 32) : Fin 2 → Nat :=
  let c39 : Index := 39#32
  let arg0 : BitVec 32 := BitVec.ofNat 32 (i 0).val
  let c5_i32_1284 : BitVec 32 := 5#32
  let v2343 : BitVec 32 := Scalar.muli arg0 c5_i32_1284
  let v2344 : BitVec 32 := Scalar.addi v2343 c0_i32_1285
  let v2345 : Index := Scalar.indexCast v2344
  ![39, v2345.toNat]
@[reducible] def k0_t1_loop : Scf.Loop 32 :=
  let c0_i32_1323 : BitVec 32 := 0#32
  let c55_i32 : BitVec 32 := 55#32
  let v2409 : BitVec 32 := Scalar.addi c0_i32_1323 c55_i32
  let c1_i32_1324 : BitVec 32 := 1#32
  ⟨c0_i32_1323, v2409, c1_i32_1324⟩
def k0_mult1 (k0_t1 : Fin k0_t1_loop.trips) : BitVec 32 :=
  let c0_i32_1323 : BitVec 32 := 0#32
  let c1_i32_1324 : BitVec 32 := 1#32
  let arg13 : BitVec 32 := Scf.iv c0_i32_1323 c1_i32_1324 k0_t1
  let c16_i32 : BitVec 32 := 16#32
  let v2413 : BitVec 32 := Scalar.muli arg13 c16_i32
  v2413
def k0_off41 (k0_t1 : Fin k0_t1_loop.trips) : Fin 2 → Nat :=
  let c0_i32_1323 : BitVec 32 := 0#32
  let c1_i32_1324 : BitVec 32 := 1#32
  let arg13 : BitVec 32 := Scf.iv c0_i32_1323 c1_i32_1324 k0_t1
  let c16_i32 : BitVec 32 := 16#32
  let v2413 : BitVec 32 := Scalar.muli arg13 c16_i32
  let v2414 : BitVec 32 := v2413
  let v2419 : Index := Scalar.indexCast v2414
  let c0_1327 : Index := 0#32
  ![v2419.toNat, 0]
def k0_off42 (k0_t1 : Fin k0_t1_loop.trips) : Fin 2 → Nat :=
  let c0_i32_1323 : BitVec 32 := 0#32
  let c1_i32_1324 : BitVec 32 := 1#32
  let arg13 : BitVec 32 := Scf.iv c0_i32_1323 c1_i32_1324 k0_t1
  let c16_i32 : BitVec 32 := 16#32
  let v2413 : BitVec 32 := Scalar.muli arg13 c16_i32
  let v2414 : BitVec 32 := v2413
  let v2421 : Index := Scalar.indexCast v2414
  let c128_1328 : Index := 128#32
  ![v2421.toNat, 128]
def k0_off43 (k0_t1 : Fin k0_t1_loop.trips) : Fin 2 → Nat :=
  let c0_i32_1323 : BitVec 32 := 0#32
  let c1_i32_1324 : BitVec 32 := 1#32
  let arg13 : BitVec 32 := Scf.iv c0_i32_1323 c1_i32_1324 k0_t1
  let c16_i32 : BitVec 32 := 16#32
  let v2413 : BitVec 32 := Scalar.muli arg13 c16_i32
  let v2414 : BitVec 32 := v2413
  let v2423 : Index := Scalar.indexCast v2414
  let c256_1329 : Index := 256#32
  ![v2423.toNat, 256]
def k0_off44 (k0_t1 : Fin k0_t1_loop.trips) : Fin 2 → Nat :=
  let c0_i32_1323 : BitVec 32 := 0#32
  let c1_i32_1324 : BitVec 32 := 1#32
  let arg13 : BitVec 32 := Scf.iv c0_i32_1323 c1_i32_1324 k0_t1
  let c16_i32 : BitVec 32 := 16#32
  let v2413 : BitVec 32 := Scalar.muli arg13 c16_i32
  let v2414 : BitVec 32 := v2413
  let v2425 : Index := Scalar.indexCast v2414
  let c384_1330 : Index := 384#32
  ![v2425.toNat, 384]
def k0_off45 (k0_t1 : Fin k0_t1_loop.trips) : Fin 2 → Nat :=
  let c0_i32_1323 : BitVec 32 := 0#32
  let c1_i32_1324 : BitVec 32 := 1#32
  let arg13 : BitVec 32 := Scf.iv c0_i32_1323 c1_i32_1324 k0_t1
  let c16_i32 : BitVec 32 := 16#32
  let v2413 : BitVec 32 := Scalar.muli arg13 c16_i32
  let v2414 : BitVec 32 := v2413
  let v2427 : Index := Scalar.indexCast v2414
  let c512_1331 : Index := 512#32
  ![v2427.toNat, 512]
def k0_off46 (k0_t1 : Fin k0_t1_loop.trips) : Fin 2 → Nat :=
  let c0_i32_1323 : BitVec 32 := 0#32
  let c1_i32_1324 : BitVec 32 := 1#32
  let arg13 : BitVec 32 := Scf.iv c0_i32_1323 c1_i32_1324 k0_t1
  let c16_i32 : BitVec 32 := 16#32
  let v2413 : BitVec 32 := Scalar.muli arg13 c16_i32
  let v2414 : BitVec 32 := v2413
  let v2429 : Index := Scalar.indexCast v2414
  let c0_1332 : Index := 0#32
  ![v2429.toNat, 0]
def k0_cond2 (i : grid0.Coords) : BitVec 1 :=
  let arg0 : BitVec 32 := BitVec.ofNat 32 (i 0).val
  let c49_i32 : BitVec 32 := 49#32
  let v2410 : BitVec 1 := Scalar.cmpi .eq arg0 c49_i32
  let v2411 : BitVec 32 := Scalar.extui v2410
  let c0_i32_1326 : BitVec 32 := 0#32
  let v2412 : BitVec 1 := Scalar.cmpi .ne v2411 c0_i32_1326
  v2412

@[reducible] def k0_t2_loop : Scf.Loop 32 :=
  let c0_i32_1330 : BitVec 32 := 0#32
  let c55_i32_1331 : BitVec 32 := 55#32
  let v2417 : BitVec 32 := Scalar.addi c0_i32_1330 c55_i32_1331
  let c1_i32_1332 : BitVec 32 := 1#32
  ⟨c0_i32_1330, v2417, c1_i32_1332⟩
def k0_mult2 (k0_t2 : Fin k0_t2_loop.trips) : BitVec 32 :=
  let c0_i32_1330 : BitVec 32 := 0#32
  let c1_i32_1332 : BitVec 32 := 1#32
  let arg13 : BitVec 32 := Scf.iv c0_i32_1330 c1_i32_1332 k0_t2
  let c16_i32 : BitVec 32 := 16#32
  let v2632 : BitVec 32 := Scalar.muli arg13 c16_i32
  v2632
def k0_off47 (k0_t2 : Fin k0_t2_loop.trips) : Fin 2 → Nat :=
  let c0_i32_1330 : BitVec 32 := 0#32
  let c1_i32_1332 : BitVec 32 := 1#32
  let arg13 : BitVec 32 := Scf.iv c0_i32_1330 c1_i32_1332 k0_t2
  let c16_i32 : BitVec 32 := 16#32
  let v2632 : BitVec 32 := Scalar.muli arg13 c16_i32
  let v2633 : BitVec 32 := v2632
  let v2634 : Index := Scalar.indexCast v2633
  let c0_1437 : Index := 0#32
  ![v2634.toNat, 0]
def k0_off48 (k0_t2 : Fin k0_t2_loop.trips) : Fin 2 → Nat :=
  let c0_i32_1330 : BitVec 32 := 0#32
  let c1_i32_1332 : BitVec 32 := 1#32
  let arg13 : BitVec 32 := Scf.iv c0_i32_1330 c1_i32_1332 k0_t2
  let c16_i32 : BitVec 32 := 16#32
  let v2632 : BitVec 32 := Scalar.muli arg13 c16_i32
  let v2633 : BitVec 32 := v2632
  let v2657 : Index := Scalar.indexCast v2633
  let c0_1444 : Index := 0#32
  ![v2657.toNat, 0]
def k0_off49 (c0_i32_1335 : BitVec 32) : Fin 2 → Nat :=
  let c0_i32_1334 : BitVec 32 := 0#32
  let v2418 : BitVec 32 := Scalar.addi c0_i32_1334 c0_i32_1335
  let v2419 : Index := Scalar.indexCast v2418
  let c0_1336 : Index := 0#32
  ![v2419.toNat, 0]
def k0_off50 (v2452 : BitVec 32) (c0_i32_1353 : BitVec 32) : Fin 2 → Nat :=
  let c0_i32_1352 : BitVec 32 := 0#32
  let v2453 : BitVec 32 := Scalar.addi c0_i32_1352 v2452
  let v2454 : BitVec 32 := Scalar.addi v2453 c0_i32_1353
  let v2455 : Index := Scalar.indexCast v2454
  let c0_1354 : Index := 0#32
  ![v2455.toNat, 0]

def k0_chk1 (i : grid0.Coords) (v2452 : BitVec 32) : Prop :=
  (∀ (k0_h2 : k0_cond2 i = 1#1), ∀ (r : Fin 2), ∀ a, (k0_off50 v2452 (BitVec.ofNat 32 (128 * r.val))) a + S128x128.size a ≤ S1136x128.size a)
theorem k0_off50_inb : ∀ (i : grid0.Coords) (v2452 : BitVec 32) (k0_hw1 : k0_chk1 i v2452), ∀ (k0_h2 : k0_cond2 i = 1#1), ∀ (r : Fin 2), ∀ a, (k0_off50 v2452 (BitVec.ofNat 32 (128 * r.val))) a + S128x128.size a ≤ S1136x128.size a := fun i v2452 k0_hw1 k0_h2 r => k0_hw1 k0_h2 r

def k0_off51 (v2452 : BitVec 32) (v2488 : BitVec 32) (c0_i32_1370 : BitVec 32) : Fin 2 → Nat :=
  let c0_i32_1352 : BitVec 32 := 0#32
  let v2453 : BitVec 32 := Scalar.addi c0_i32_1352 v2452
  let v2489 : BitVec 32 := Scalar.addi v2453 v2488
  let v2490 : BitVec 32 := Scalar.addi v2489 c0_i32_1370
  let v2491 : Index := Scalar.indexCast v2490
  let c0_1371 : Index := 0#32
  ![v2491.toNat, 0]

def k0_chk2 (i : grid0.Coords) (v2452 : BitVec 32) (v2488 : BitVec 32) : Prop :=
  (∀ (k0_h2 : k0_cond2 i = 1#1), ∀ (r : Fin 2), ∀ a, (k0_off51 v2452 v2488 (BitVec.ofNat 32 (128 * r.val))) a + S128x128.size a ≤ S1136x128.size a)
theorem k0_off51_inb : ∀ (i : grid0.Coords) (v2452 : BitVec 32) (v2488 : BitVec 32) (k0_hw2 : k0_chk2 i v2452 v2488), ∀ (k0_h2 : k0_cond2 i = 1#1), ∀ (r : Fin 2), ∀ a, (k0_off51 v2452 v2488 (BitVec.ofNat 32 (128 * r.val))) a + S128x128.size a ≤ S1136x128.size a := fun i v2452 v2488 k0_hw2 k0_h2 r => k0_hw2 k0_h2 r

def k0_off52 (v2452 : BitVec 32) (v2488 : BitVec 32) (v2524 : BitVec 32) (c0_i32_1387 : BitVec 32) : Fin 2 → Nat :=
  let c0_i32_1352 : BitVec 32 := 0#32
  let v2453 : BitVec 32 := Scalar.addi c0_i32_1352 v2452
  let v2489 : BitVec 32 := Scalar.addi v2453 v2488
  let v2525 : BitVec 32 := Scalar.addi v2489 v2524
  let v2526 : BitVec 32 := Scalar.addi v2525 c0_i32_1387
  let v2527 : Index := Scalar.indexCast v2526
  let c0_1388 : Index := 0#32
  ![v2527.toNat, 0]

def k0_chk3 (i : grid0.Coords) (v2452 : BitVec 32) (v2488 : BitVec 32) (v2524 : BitVec 32) : Prop :=
  (∀ (k0_h2 : k0_cond2 i = 1#1), ∀ (r : Fin 2), ∀ a, (k0_off52 v2452 v2488 v2524 (BitVec.ofNat 32 (128 * r.val))) a + S128x128.size a ≤ S1136x128.size a)
theorem k0_off52_inb : ∀ (i : grid0.Coords) (v2452 : BitVec 32) (v2488 : BitVec 32) (v2524 : BitVec 32) (k0_hw3 : k0_chk3 i v2452 v2488 v2524), ∀ (k0_h2 : k0_cond2 i = 1#1), ∀ (r : Fin 2), ∀ a, (k0_off52 v2452 v2488 v2524 (BitVec.ofNat 32 (128 * r.val))) a + S128x128.size a ≤ S1136x128.size a := fun i v2452 v2488 v2524 k0_hw3 k0_h2 r => k0_hw3 k0_h2 r

def k0_off53 (v2452 : BitVec 32) (v2488 : BitVec 32) (v2524 : BitVec 32) (v2560 : BitVec 32) (c0_i32_1404 : BitVec 32) : Fin 2 → Nat :=
  let c0_i32_1352 : BitVec 32 := 0#32
  let v2453 : BitVec 32 := Scalar.addi c0_i32_1352 v2452
  let v2489 : BitVec 32 := Scalar.addi v2453 v2488
  let v2525 : BitVec 32 := Scalar.addi v2489 v2524
  let v2561 : BitVec 32 := Scalar.addi v2525 v2560
  let v2562 : BitVec 32 := Scalar.addi v2561 c0_i32_1404
  let v2563 : Index := Scalar.indexCast v2562
  let c0_1405 : Index := 0#32
  ![v2563.toNat, 0]

def k0_chk4 (i : grid0.Coords) (v2452 : BitVec 32) (v2488 : BitVec 32) (v2524 : BitVec 32) (v2560 : BitVec 32) : Prop :=
  (∀ (k0_h2 : k0_cond2 i = 1#1), ∀ (r : Fin 2), ∀ a, (k0_off53 v2452 v2488 v2524 v2560 (BitVec.ofNat 32 (128 * r.val))) a + S128x128.size a ≤ S1136x128.size a)
theorem k0_off53_inb : ∀ (i : grid0.Coords) (v2452 : BitVec 32) (v2488 : BitVec 32) (v2524 : BitVec 32) (v2560 : BitVec 32) (k0_hw4 : k0_chk4 i v2452 v2488 v2524 v2560), ∀ (k0_h2 : k0_cond2 i = 1#1), ∀ (r : Fin 2), ∀ a, (k0_off53 v2452 v2488 v2524 v2560 (BitVec.ofNat 32 (128 * r.val))) a + S128x128.size a ≤ S1136x128.size a := fun i v2452 v2488 v2524 v2560 k0_hw4 k0_h2 r => k0_hw4 k0_h2 r

def k0_off54 (v2452 : BitVec 32) (v2488 : BitVec 32) (v2524 : BitVec 32) (v2560 : BitVec 32) (v2596 : BitVec 32) (c0_i32_1421 : BitVec 32) : Fin 2 → Nat :=
  let c0_i32_1352 : BitVec 32 := 0#32
  let v2453 : BitVec 32 := Scalar.addi c0_i32_1352 v2452
  let v2489 : BitVec 32 := Scalar.addi v2453 v2488
  let v2525 : BitVec 32 := Scalar.addi v2489 v2524
  let v2561 : BitVec 32 := Scalar.addi v2525 v2560
  let v2597 : BitVec 32 := Scalar.addi v2561 v2596
  let v2598 : BitVec 32 := Scalar.addi v2597 c0_i32_1421
  let v2599 : Index := Scalar.indexCast v2598
  let c0_1422 : Index := 0#32
  ![v2599.toNat, 0]

def k0_chk5 (i : grid0.Coords) (v2452 : BitVec 32) (v2488 : BitVec 32) (v2524 : BitVec 32) (v2560 : BitVec 32) (v2596 : BitVec 32) : Prop :=
  (∀ (k0_h2 : k0_cond2 i = 1#1), ∀ (r : Fin 2), ∀ a, (k0_off54 v2452 v2488 v2524 v2560 v2596 (BitVec.ofNat 32 (128 * r.val))) a + S128x128.size a ≤ S1136x128.size a)
theorem k0_off54_inb : ∀ (i : grid0.Coords) (v2452 : BitVec 32) (v2488 : BitVec 32) (v2524 : BitVec 32) (v2560 : BitVec 32) (v2596 : BitVec 32) (k0_hw5 : k0_chk5 i v2452 v2488 v2524 v2560 v2596), ∀ (k0_h2 : k0_cond2 i = 1#1), ∀ (r : Fin 2), ∀ a, (k0_off54 v2452 v2488 v2524 v2560 v2596 (BitVec.ofNat 32 (128 * r.val))) a + S128x128.size a ≤ S1136x128.size a := fun i v2452 v2488 v2524 v2560 v2596 k0_hw5 k0_h2 r => k0_hw5 k0_h2 r

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S880x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S880x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5120x640 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .smem S40x250 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S6x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S6 : Shape := ⟨1, ![6]⟩
abbrev S880x5120 : Shape := ⟨2, ![880, 5120]⟩
abbrev S880x128 : Shape := ⟨2, ![880, 128]⟩
abbrev S5120x32000 : Shape := ⟨2, ![5120, 32000]⟩
abbrev S40x250 : Shape := ⟨2, ![40, 250]⟩
abbrev S6x256 : Shape := ⟨2, ![6, 256]⟩
abbrev S40x128x250x128 : Shape := ⟨4, ![40, 128, 250, 128]⟩
abbrev S40x1x250x1 : Shape := ⟨4, ![40, 1, 250, 1]⟩
abbrev S880x32000 : Shape := ⟨2, ![880, 32000]⟩
abbrev S880 : Shape := ⟨1, ![880]⟩
abbrev S880x1 : Shape := ⟨2, ![880, 1]⟩
abbrev S880x256 : Shape := ⟨2, ![880, 256]⟩
abbrev S1 : Shape := ⟨1, ![1]⟩
abbrev S256 : Shape := ⟨1, ![256]⟩
abbrev S1x256 : Shape := ⟨2, ![1, 256]⟩

abbrev nBuf : Space → Nat
  | .hbm => 6
  | .vmem => 5
  | .smem => 1
  | _ => 0

abbrev bufTy : (tb : Table) → Fin (tcTables nBuf tb) → BufTy
  | .hbm, ⟨0, _⟩ => ⟨S6, .i32⟩
  | .hbm, ⟨1, _⟩ => ⟨S880x5120, .bf16⟩
  | .hbm, ⟨2, _⟩ => ⟨S880x128, .f32⟩
  | .hbm, ⟨3, _⟩ => ⟨S5120x32000, .fp8e4m3⟩
  | .hbm, ⟨4, _⟩ => ⟨S40x250, .f32⟩
  | .hbm, ⟨5, _⟩ => ⟨S6x256, .f32⟩
  | .local _ .vmem, ⟨0, _⟩ => ⟨S880x5120, .bf16⟩
  | .local _ .vmem, ⟨1, _⟩ => ⟨S880x128, .f32⟩
  | .local _ .vmem, ⟨2, _⟩ => ⟨S5120x32000, .fp8e4m3⟩
  | .local _ .vmem, ⟨3, _⟩ => ⟨S40x250, .f32⟩
  | .local _ .vmem, ⟨4, _⟩ => ⟨S6x256, .f32⟩
  | .local _ .smem, ⟨0, _⟩ => ⟨S6, .i32⟩
  | _, _ => ⟨S6, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .smem S6 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S880x5120 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S880x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5120x32000 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S40x250 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proj.lean ====
abbrev S6 : Shape := ⟨1, ![6]⟩
abbrev S1536x10240 : Shape := ⟨2, ![1536, 10240]⟩
abbrev S1536x80 : Shape := ⟨2, ![1536, 80]⟩
abbrev S10240x5120 : Shape := ⟨2, ![10240, 5120]⟩
abbrev S80x40 : Shape := ⟨2, ![80, 40]⟩
abbrev S1x5120 : Shape := ⟨2, ![1, 5120]⟩
abbrev S1536x1 : Shape := ⟨2, ![1536, 1]⟩
abbrev S1536x5120 : Shape := ⟨2, ![1536, 5120]⟩
abbrev S1536x40 : Shape := ⟨2, ![1536, 40]⟩
abbrev S880x5120 : Shape := ⟨2, ![880, 5120]⟩
abbrev S880x128 : Shape := ⟨2, ![880, 128]⟩
abbrev S256x10240 : Shape := ⟨2, ![256, 10240]⟩
abbrev S256x80 : Shape := ⟨2, ![256, 80]⟩
abbrev S10240x512 : Shape := ⟨2, ![10240, 512]⟩
abbrev S256x1 : Shape := ⟨2, ![256, 1]⟩
abbrev S256x512 : Shape := ⟨2, ![256, 512]⟩
abbrev S256x5120 : Shape := ⟨2, ![256, 5120]⟩
abbrev S256x40 : Shape := ⟨2, ![256, 40]⟩
abbrev S41x288x128 : Shape := ⟨3, ![41, 288, 128]⟩
abbrev S32x128 : Shape := ⟨2, ![32, 128]⟩
abbrev S32x1 : Shape := ⟨2, ![32, 1]⟩
abbrev S1x1 : Shape := ⟨2, ![1, 1]⟩
abbrev S128x128 : Shape := ⟨2, ![128, 128]⟩
abbrev S1 : Shape := ⟨1, ![1]⟩
abbrev S32 : Shape := ⟨1, ![32]⟩
abbrev S1x128 : Shape := ⟨2, ![1, 128]⟩
abbrev S1x32x128 : Shape := ⟨3, ![1, 32, 128]⟩
abbrev S32x40 : Shape := ⟨2, ![32, 40]⟩
abbrev S16x128 : Shape := ⟨2, ![16, 128]⟩
abbrev S1x16x128 : Shape := ⟨3, ![1, 16, 128]⟩

abbrev nBuf : Space → Nat
  | .hbm => 11
  | .vmem => 21
  | .smem => 2
  | _ => 0

abbrev bufTy : (tb : Table) → Fin (tcTables nBuf tb) → BufTy
  | .hbm, ⟨0, _⟩ => ⟨S1536x10240, .fp8e4m3⟩
  | .hbm, ⟨1, _⟩ => ⟨S1536x80, .f32⟩
  | .hbm, ⟨2, _⟩ => ⟨S10240x5120, .fp8e4m3⟩
  | .hbm, ⟨3, _⟩ => ⟨S80x40, .f32⟩
  | .hbm, ⟨4, _⟩ => ⟨S1x5120, .f32⟩
  | .hbm, ⟨5, _⟩ => ⟨S1536x1, .i32⟩
  | .hbm, ⟨6, _⟩ => ⟨S1536x5120, .bf16⟩
  | .hbm, ⟨7, _⟩ => ⟨S1536x5120, .fp8e4m3⟩
  | .hbm, ⟨8, _⟩ => ⟨S1536x40, .f32⟩
  | .hbm, ⟨9, _⟩ => ⟨S880x5120, .bf16⟩
  | .hbm, ⟨10, _⟩ => ⟨S880x128, .f32⟩
  | .local _ .vmem, ⟨0, _⟩ => ⟨S256x10240, .fp8e4m3⟩
  | .local _ .vmem, ⟨1, _⟩ => ⟨S256x10240, .fp8e4m3⟩
  | .local _ .vmem, ⟨2, _⟩ => ⟨S256x80, .f32⟩
  | .local _ .vmem, ⟨3, _⟩ => ⟨S256x80, .f32⟩
  | .local _ .vmem, ⟨4, _⟩ => ⟨S10240x512, .fp8e4m3⟩
  | .local _ .vmem, ⟨5, _⟩ => ⟨S10240x512, .fp8e4m3⟩
  | .local _ .vmem, ⟨6, _⟩ => ⟨S1x5120, .f32⟩
  | .local _ .vmem, ⟨7, _⟩ => ⟨S256x1, .i32⟩
  | .local _ .vmem, ⟨8, _⟩ => ⟨S256x1, .i32⟩
  | .local _ .vmem, ⟨9, _⟩ => ⟨S256x512, .bf16⟩
  | .local _ .vmem, ⟨10, _⟩ => ⟨S256x512, .bf16⟩
  | .local _ .vmem, ⟨11, _⟩ => ⟨S256x5120, .fp8e4m3⟩
  | .local _ .vmem, ⟨12, _⟩ => ⟨S256x5120, .fp8e4m3⟩
  | .local _ .vmem, ⟨13, _⟩ => ⟨S256x40, .f32⟩
  | .local _ .vmem, ⟨14, _⟩ => ⟨S256x40, .f32⟩
  | .local _ .vmem, ⟨15, _⟩ => ⟨S880x5120, .bf16⟩
  | .local _ .vmem, ⟨16, _⟩ => ⟨S880x128, .f32⟩
  | .local _ .vmem, ⟨17, _⟩ => ⟨S256x10240, .bf16⟩
  | .local _ .vmem, ⟨18, _⟩ => ⟨S10240x512, .bf16⟩
  | .local _ .vmem, ⟨19, _⟩ => ⟨S256x5120, .f32⟩
  | .local _ .vmem, ⟨20, _⟩ => ⟨S41x288x128, .f32⟩
  | .local _ .smem, ⟨0, _⟩ => ⟨S6, .i32⟩
  | .local _ .smem, ⟨1, _⟩ => ⟨S80x40, .f32⟩
  | _, _ => ⟨S1536x10240, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨1, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_stg3_0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨2, ![6, 10], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_2089 : BitVec 32 := 0#32
  let c8_i32 : BitVec 32 := 8#32
  let v3862 : BitVec 32 := Scalar.addi c0_i32_2089 c8_i32
  let c1_i32_2090 : BitVec 32 := 1#32
  ⟨c0_i32_2089, v3862, c1_i32_2090⟩
def k0_mult1 (k0_t1 : Fin k0_t1_loop.trips) : BitVec 32 :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  v3863
def k0_off1 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v3865 : Index := Scalar.indexCast v3864
  let c0_2092 : Index := 0#32
  ![v3865.toNat, 0]
def k0_off2 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v3868 : Index := Scalar.indexCast v3864
  let c0_2093 : Index := 0#32
  ![v3868.toNat, 0]
def k0_off3 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v3878 : Index := Scalar.indexCast v3864
  let c128_2095 : Index := 128#32
  ![v3878.toNat, 128]
def k0_off4 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v3881 : Index := Scalar.indexCast v3864
  let c1_2096 : Index := 1#32
  ![v3881.toNat, 1]
def k0_off5 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v3891 : Index := Scalar.indexCast v3864
  let c256_2098 : Index := 256#32
  ![v3891.toNat, 256]
def k0_off6 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v3894 : Index := Scalar.indexCast v3864
  let c2_2099 : Index := 2#32
  ![v3894.toNat, 2]
def k0_off7 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v3904 : Index := Scalar.indexCast v3864
  let c384_2101 : Index := 384#32
  ![v3904.toNat, 384]
def k0_off8 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v3907 : Index := Scalar.indexCast v3864
  let c3_2102 : Index := 3#32
  ![v3907.toNat, 3]
def k0_off9 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v3917 : Index := Scalar.indexCast v3864
  let c512_2104 : Index := 512#32
  ![v3917.toNat, 512]
def k0_off10 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v3920 : Index := Scalar.indexCast v3864
  let c4_2105 : Index := 4#32
  ![v3920.toNat, 4]
def k0_off11 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v3930 : Index := Scalar.indexCast v3864
  let c640_2107 : Index := 640#32
  ![v3930.toNat, 640]
def k0_off12 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v3933 : Index := Scalar.indexCast v3864
  let c5_2108 : Index := 5#32
  ![v3933.toNat, 5]
def k0_off13 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v3943 : Index := Scalar.indexCast v3864
  let c768_2110 : Index := 768#32
  ![v3943.toNat, 768]
def k0_off14 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v3946 : Index := Scalar.indexCast v3864
  let c6_2111 : Index := 6#32
  ![v3946.toNat, 6]
def k0_off15 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v3956 : Index := Scalar.indexCast v3864
  let c896_2113 : Index := 896#32
  ![v3956.toNat, 896]
def k0_off16 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v3959 : Index := Scalar.indexCast v3864
  let c7_2114 : Index := 7#32
  ![v3959.toNat, 7]
def k0_off17 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v3969 : Index := Scalar.indexCast v3864
  let c1024_2116 : Index := 1024#32
  ![v3969.toNat, 1024]
def k0_off18 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v3972 : Index := Scalar.indexCast v3864
  let c8_2117 : Index := 8#32
  ![v3972.toNat, 8]
def k0_off19 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v3982 : Index := Scalar.indexCast v3864
  let c1152_2119 : Index := 1152#32
  ![v3982.toNat, 1152]
def k0_off20 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v3985 : Index := Scalar.indexCast v3864
  let c9_2120 : Index := 9#32
  ![v3985.toNat, 9]
def k0_off21 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v3995 : Index := Scalar.indexCast v3864
  let c1280_2122 : Index := 1280#32
  ![v3995.toNat, 1280]
def k0_off22 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v3998 : Index := Scalar.indexCast v3864
  let c10_2123 : Index := 10#32
  ![v3998.toNat, 10]
def k0_off23 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4008 : Index := Scalar.indexCast v3864
  let c1408_2125 : Index := 1408#32
  ![v4008.toNat, 1408]
def k0_off24 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4011 : Index := Scalar.indexCast v3864
  let c11_2126 : Index := 11#32
  ![v4011.toNat, 11]
def k0_off25 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4021 : Index := Scalar.indexCast v3864
  let c1536_2128 : Index := 1536#32
  ![v4021.toNat, 1536]
def k0_off26 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4024 : Index := Scalar.indexCast v3864
  let c12_2129 : Index := 12#32
  ![v4024.toNat, 12]
def k0_off27 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4034 : Index := Scalar.indexCast v3864
  let c1664_2131 : Index := 1664#32
  ![v4034.toNat, 1664]
def k0_off28 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4037 : Index := Scalar.indexCast v3864
  let c13_2132 : Index := 13#32
  ![v4037.toNat, 13]
def k0_off29 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4047 : Index := Scalar.indexCast v3864
  let c1792_2134 : Index := 1792#32
  ![v4047.toNat, 1792]
def k0_off30 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4050 : Index := Scalar.indexCast v3864
  let c14_2135 : Index := 14#32
  ![v4050.toNat, 14]
def k0_off31 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4060 : Index := Scalar.indexCast v3864
  let c1920_2137 : Index := 1920#32
  ![v4060.toNat, 1920]
def k0_off32 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4063 : Index := Scalar.indexCast v3864
  let c15_2138 : Index := 15#32
  ![v4063.toNat, 15]
def k0_off33 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4073 : Index := Scalar.indexCast v3864
  let c2048_2140 : Index := 2048#32
  ![v4073.toNat, 2048]
def k0_off34 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4076 : Index := Scalar.indexCast v3864
  let c16_2141 : Index := 16#32
  ![v4076.toNat, 16]
def k0_off35 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4086 : Index := Scalar.indexCast v3864
  let c2176_2143 : Index := 2176#32
  ![v4086.toNat, 2176]
def k0_off36 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4089 : Index := Scalar.indexCast v3864
  let c17_2144 : Index := 17#32
  ![v4089.toNat, 17]
def k0_off37 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4099 : Index := Scalar.indexCast v3864
  let c2304_2146 : Index := 2304#32
  ![v4099.toNat, 2304]
def k0_off38 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4102 : Index := Scalar.indexCast v3864
  let c18_2147 : Index := 18#32
  ![v4102.toNat, 18]
def k0_off39 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4112 : Index := Scalar.indexCast v3864
  let c2432_2149 : Index := 2432#32
  ![v4112.toNat, 2432]
def k0_off40 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4115 : Index := Scalar.indexCast v3864
  let c19_2150 : Index := 19#32
  ![v4115.toNat, 19]
def k0_off41 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4125 : Index := Scalar.indexCast v3864
  let c2560_2152 : Index := 2560#32
  ![v4125.toNat, 2560]
def k0_off42 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4128 : Index := Scalar.indexCast v3864
  let c20_2153 : Index := 20#32
  ![v4128.toNat, 20]
def k0_off43 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4138 : Index := Scalar.indexCast v3864
  let c2688_2155 : Index := 2688#32
  ![v4138.toNat, 2688]
def k0_off44 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4141 : Index := Scalar.indexCast v3864
  let c21_2156 : Index := 21#32
  ![v4141.toNat, 21]
def k0_off45 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4151 : Index := Scalar.indexCast v3864
  let c2816_2158 : Index := 2816#32
  ![v4151.toNat, 2816]
def k0_off46 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4154 : Index := Scalar.indexCast v3864
  let c22_2159 : Index := 22#32
  ![v4154.toNat, 22]
def k0_off47 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4164 : Index := Scalar.indexCast v3864
  let c2944_2161 : Index := 2944#32
  ![v4164.toNat, 2944]
def k0_off48 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4167 : Index := Scalar.indexCast v3864
  let c23_2162 : Index := 23#32
  ![v4167.toNat, 23]
def k0_off49 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4177 : Index := Scalar.indexCast v3864
  let c3072_2164 : Index := 3072#32
  ![v4177.toNat, 3072]
def k0_off50 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4180 : Index := Scalar.indexCast v3864
  let c24_2165 : Index := 24#32
  ![v4180.toNat, 24]
def k0_off51 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4190 : Index := Scalar.indexCast v3864
  let c3200_2167 : Index := 3200#32
  ![v4190.toNat, 3200]
def k0_off52 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4193 : Index := Scalar.indexCast v3864
  let c25_2168 : Index := 25#32
  ![v4193.toNat, 25]
def k0_off53 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4203 : Index := Scalar.indexCast v3864
  let c3328_2170 : Index := 3328#32
  ![v4203.toNat, 3328]
def k0_off54 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4206 : Index := Scalar.indexCast v3864
  let c26_2171 : Index := 26#32
  ![v4206.toNat, 26]
def k0_off55 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4216 : Index := Scalar.indexCast v3864
  let c3456_2173 : Index := 3456#32
  ![v4216.toNat, 3456]
def k0_off56 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4219 : Index := Scalar.indexCast v3864
  let c27_2174 : Index := 27#32
  ![v4219.toNat, 27]
def k0_off57 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4229 : Index := Scalar.indexCast v3864
  let c3584_2176 : Index := 3584#32
  ![v4229.toNat, 3584]
def k0_off58 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4232 : Index := Scalar.indexCast v3864
  let c28_2177 : Index := 28#32
  ![v4232.toNat, 28]
def k0_off59 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4242 : Index := Scalar.indexCast v3864
  let c3712_2179 : Index := 3712#32
  ![v4242.toNat, 3712]
def k0_off60 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4245 : Index := Scalar.indexCast v3864
  let c29_2180 : Index := 29#32
  ![v4245.toNat, 29]
def k0_off61 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4255 : Index := Scalar.indexCast v3864
  let c3840_2182 : Index := 3840#32
  ![v4255.toNat, 3840]
def k0_off62 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4258 : Index := Scalar.indexCast v3864
  let c30_2183 : Index := 30#32
  ![v4258.toNat, 30]
def k0_off63 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4268 : Index := Scalar.indexCast v3864
  let c3968_2185 : Index := 3968#32
  ![v4268.toNat, 3968]
def k0_off64 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4271 : Index := Scalar.indexCast v3864
  let c31_2186 : Index := 31#32
  ![v4271.toNat, 31]
def k0_off65 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4281 : Index := Scalar.indexCast v3864
  let c4096_2188 : Index := 4096#32
  ![v4281.toNat, 4096]
def k0_off66 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4284 : Index := Scalar.indexCast v3864
  let c32_2189 : Index := 32#32
  ![v4284.toNat, 32]
def k0_off67 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4294 : Index := Scalar.indexCast v3864
  let c4224_2191 : Index := 4224#32
  ![v4294.toNat, 4224]
def k0_off68 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4297 : Index := Scalar.indexCast v3864
  let c33_2192 : Index := 33#32
  ![v4297.toNat, 33]
def k0_off69 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4307 : Index := Scalar.indexCast v3864
  let c4352_2194 : Index := 4352#32
  ![v4307.toNat, 4352]
def k0_off70 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4310 : Index := Scalar.indexCast v3864
  let c34_2195 : Index := 34#32
  ![v4310.toNat, 34]
def k0_off71 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4320 : Index := Scalar.indexCast v3864
  let c4480_2197 : Index := 4480#32
  ![v4320.toNat, 4480]
def k0_off72 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4323 : Index := Scalar.indexCast v3864
  let c35_2198 : Index := 35#32
  ![v4323.toNat, 35]
def k0_off73 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4333 : Index := Scalar.indexCast v3864
  let c4608_2200 : Index := 4608#32
  ![v4333.toNat, 4608]
def k0_off74 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4336 : Index := Scalar.indexCast v3864
  let c36_2201 : Index := 36#32
  ![v4336.toNat, 36]
def k0_off75 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4346 : Index := Scalar.indexCast v3864
  let c4736_2203 : Index := 4736#32
  ![v4346.toNat, 4736]
def k0_off76 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4349 : Index := Scalar.indexCast v3864
  let c37_2204 : Index := 37#32
  ![v4349.toNat, 37]
def k0_off77 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4359 : Index := Scalar.indexCast v3864
  let c4864_2206 : Index := 4864#32
  ![v4359.toNat, 4864]
def k0_off78 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4362 : Index := Scalar.indexCast v3864
  let c38_2207 : Index := 38#32
  ![v4362.toNat, 38]
def k0_off79 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4372 : Index := Scalar.indexCast v3864
  let c4992_2209 : Index := 4992#32
  ![v4372.toNat, 4992]
def k0_off80 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4375 : Index := Scalar.indexCast v3864
  let c39_2210 : Index := 39#32
  ![v4375.toNat, 39]
def k0_off81 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4385 : Index := Scalar.indexCast v3864
  let c5120_2212 : Index := 5120#32
  ![v4385.toNat, 5120]
def k0_off82 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4388 : Index := Scalar.indexCast v3864
  let c40_2213 : Index := 40#32
  ![v4388.toNat, 40]
def k0_off83 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4398 : Index := Scalar.indexCast v3864
  let c5248_2215 : Index := 5248#32
  ![v4398.toNat, 5248]
def k0_off84 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4401 : Index := Scalar.indexCast v3864
  let c41_2216 : Index := 41#32
  ![v4401.toNat, 41]
def k0_off85 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4411 : Index := Scalar.indexCast v3864
  let c5376_2218 : Index := 5376#32
  ![v4411.toNat, 5376]
def k0_off86 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4414 : Index := Scalar.indexCast v3864
  let c42_2219 : Index := 42#32
  ![v4414.toNat, 42]
def k0_off87 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4424 : Index := Scalar.indexCast v3864
  let c5504_2221 : Index := 5504#32
  ![v4424.toNat, 5504]
def k0_off88 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4427 : Index := Scalar.indexCast v3864
  let c43_2222 : Index := 43#32
  ![v4427.toNat, 43]
def k0_off89 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4437 : Index := Scalar.indexCast v3864
  let c5632_2224 : Index := 5632#32
  ![v4437.toNat, 5632]
def k0_off90 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4440 : Index := Scalar.indexCast v3864
  let c44_2225 : Index := 44#32
  ![v4440.toNat, 44]
def k0_off91 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4450 : Index := Scalar.indexCast v3864
  let c5760_2227 : Index := 5760#32
  ![v4450.toNat, 5760]
def k0_off92 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4453 : Index := Scalar.indexCast v3864
  let c45_2228 : Index := 45#32
  ![v4453.toNat, 45]
def k0_off93 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4463 : Index := Scalar.indexCast v3864
  let c5888_2230 : Index := 5888#32
  ![v4463.toNat, 5888]
def k0_off94 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4466 : Index := Scalar.indexCast v3864
  let c46_2231 : Index := 46#32
  ![v4466.toNat, 46]
def k0_off95 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4476 : Index := Scalar.indexCast v3864
  let c6016_2233 : Index := 6016#32
  ![v4476.toNat, 6016]
def k0_off96 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4479 : Index := Scalar.indexCast v3864
  let c47_2234 : Index := 47#32
  ![v4479.toNat, 47]
def k0_off97 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4489 : Index := Scalar.indexCast v3864
  let c6144_2236 : Index := 6144#32
  ![v4489.toNat, 6144]
def k0_off98 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4492 : Index := Scalar.indexCast v3864
  let c48_2237 : Index := 48#32
  ![v4492.toNat, 48]
def k0_off99 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4502 : Index := Scalar.indexCast v3864
  let c6272_2239 : Index := 6272#32
  ![v4502.toNat, 6272]
def k0_off100 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4505 : Index := Scalar.indexCast v3864
  let c49_2240 : Index := 49#32
  ![v4505.toNat, 49]
def k0_off101 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4515 : Index := Scalar.indexCast v3864
  let c6400_2242 : Index := 6400#32
  ![v4515.toNat, 6400]
def k0_off102 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4518 : Index := Scalar.indexCast v3864
  let c50_2243 : Index := 50#32
  ![v4518.toNat, 50]
def k0_off103 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4528 : Index := Scalar.indexCast v3864
  let c6528_2245 : Index := 6528#32
  ![v4528.toNat, 6528]
def k0_off104 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4531 : Index := Scalar.indexCast v3864
  let c51_2246 : Index := 51#32
  ![v4531.toNat, 51]
def k0_off105 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4541 : Index := Scalar.indexCast v3864
  let c6656_2248 : Index := 6656#32
  ![v4541.toNat, 6656]
def k0_off106 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4544 : Index := Scalar.indexCast v3864
  let c52_2249 : Index := 52#32
  ![v4544.toNat, 52]
def k0_off107 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4554 : Index := Scalar.indexCast v3864
  let c6784_2251 : Index := 6784#32
  ![v4554.toNat, 6784]
def k0_off108 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4557 : Index := Scalar.indexCast v3864
  let c53_2252 : Index := 53#32
  ![v4557.toNat, 53]
def k0_off109 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4567 : Index := Scalar.indexCast v3864
  let c6912_2254 : Index := 6912#32
  ![v4567.toNat, 6912]
def k0_off110 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4570 : Index := Scalar.indexCast v3864
  let c54_2255 : Index := 54#32
  ![v4570.toNat, 54]
def k0_off111 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4580 : Index := Scalar.indexCast v3864
  let c7040_2257 : Index := 7040#32
  ![v4580.toNat, 7040]
def k0_off112 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4583 : Index := Scalar.indexCast v3864
  let c55_2258 : Index := 55#32
  ![v4583.toNat, 55]
def k0_off113 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4593 : Index := Scalar.indexCast v3864
  let c7168_2260 : Index := 7168#32
  ![v4593.toNat, 7168]
def k0_off114 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4596 : Index := Scalar.indexCast v3864
  let c56_2261 : Index := 56#32
  ![v4596.toNat, 56]
def k0_off115 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4606 : Index := Scalar.indexCast v3864
  let c7296_2263 : Index := 7296#32
  ![v4606.toNat, 7296]
def k0_off116 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4609 : Index := Scalar.indexCast v3864
  let c57_2264 : Index := 57#32
  ![v4609.toNat, 57]
def k0_off117 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4619 : Index := Scalar.indexCast v3864
  let c7424_2266 : Index := 7424#32
  ![v4619.toNat, 7424]
def k0_off118 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4622 : Index := Scalar.indexCast v3864
  let c58_2267 : Index := 58#32
  ![v4622.toNat, 58]
def k0_off119 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4632 : Index := Scalar.indexCast v3864
  let c7552_2269 : Index := 7552#32
  ![v4632.toNat, 7552]
def k0_off120 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4635 : Index := Scalar.indexCast v3864
  let c59_2270 : Index := 59#32
  ![v4635.toNat, 59]
def k0_off121 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4645 : Index := Scalar.indexCast v3864
  let c7680_2272 : Index := 7680#32
  ![v4645.toNat, 7680]
def k0_off122 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4648 : Index := Scalar.indexCast v3864
  let c60_2273 : Index := 60#32
  ![v4648.toNat, 60]
def k0_off123 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4658 : Index := Scalar.indexCast v3864
  let c7808_2275 : Index := 7808#32
  ![v4658.toNat, 7808]
def k0_off124 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4661 : Index := Scalar.indexCast v3864
  let c61_2276 : Index := 61#32
  ![v4661.toNat, 61]
def k0_off125 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4671 : Index := Scalar.indexCast v3864
  let c7936_2278 : Index := 7936#32
  ![v4671.toNat, 7936]
def k0_off126 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4674 : Index := Scalar.indexCast v3864
  let c62_2279 : Index := 62#32
  ![v4674.toNat, 62]
def k0_off127 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4684 : Index := Scalar.indexCast v3864
  let c8064_2281 : Index := 8064#32
  ![v4684.toNat, 8064]
def k0_off128 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4687 : Index := Scalar.indexCast v3864
  let c63_2282 : Index := 63#32
  ![v4687.toNat, 63]
def k0_off129 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4697 : Index := Scalar.indexCast v3864
  let c8192_2284 : Index := 8192#32
  ![v4697.toNat, 8192]
def k0_off130 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4700 : Index := Scalar.indexCast v3864
  let c64_2285 : Index := 64#32
  ![v4700.toNat, 64]
def k0_off131 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4710 : Index := Scalar.indexCast v3864
  let c8320_2287 : Index := 8320#32
  ![v4710.toNat, 8320]
def k0_off132 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4713 : Index := Scalar.indexCast v3864
  let c65_2288 : Index := 65#32
  ![v4713.toNat, 65]
def k0_off133 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4723 : Index := Scalar.indexCast v3864
  let c8448_2290 : Index := 8448#32
  ![v4723.toNat, 8448]
def k0_off134 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4726 : Index := Scalar.indexCast v3864
  let c66_2291 : Index := 66#32
  ![v4726.toNat, 66]
def k0_off135 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4736 : Index := Scalar.indexCast v3864
  let c8576_2293 : Index := 8576#32
  ![v4736.toNat, 8576]
def k0_off136 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4739 : Index := Scalar.indexCast v3864
  let c67_2294 : Index := 67#32
  ![v4739.toNat, 67]
def k0_off137 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4749 : Index := Scalar.indexCast v3864
  let c8704_2296 : Index := 8704#32
  ![v4749.toNat, 8704]
def k0_off138 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4752 : Index := Scalar.indexCast v3864
  let c68_2297 : Index := 68#32
  ![v4752.toNat, 68]
def k0_off139 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4762 : Index := Scalar.indexCast v3864
  let c8832_2299 : Index := 8832#32
  ![v4762.toNat, 8832]
def k0_off140 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4765 : Index := Scalar.indexCast v3864
  let c69_2300 : Index := 69#32
  ![v4765.toNat, 69]
def k0_off141 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4775 : Index := Scalar.indexCast v3864
  let c8960_2302 : Index := 8960#32
  ![v4775.toNat, 8960]
def k0_off142 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4778 : Index := Scalar.indexCast v3864
  let c70_2303 : Index := 70#32
  ![v4778.toNat, 70]
def k0_off143 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4788 : Index := Scalar.indexCast v3864
  let c9088_2305 : Index := 9088#32
  ![v4788.toNat, 9088]
def k0_off144 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4791 : Index := Scalar.indexCast v3864
  let c71_2306 : Index := 71#32
  ![v4791.toNat, 71]
def k0_off145 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4801 : Index := Scalar.indexCast v3864
  let c9216_2308 : Index := 9216#32
  ![v4801.toNat, 9216]
def k0_off146 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4804 : Index := Scalar.indexCast v3864
  let c72_2309 : Index := 72#32
  ![v4804.toNat, 72]
def k0_off147 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4814 : Index := Scalar.indexCast v3864
  let c9344_2311 : Index := 9344#32
  ![v4814.toNat, 9344]
def k0_off148 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4817 : Index := Scalar.indexCast v3864
  let c73_2312 : Index := 73#32
  ![v4817.toNat, 73]
def k0_off149 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4827 : Index := Scalar.indexCast v3864
  let c9472_2314 : Index := 9472#32
  ![v4827.toNat, 9472]
def k0_off150 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4830 : Index := Scalar.indexCast v3864
  let c74_2315 : Index := 74#32
  ![v4830.toNat, 74]
def k0_off151 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4840 : Index := Scalar.indexCast v3864
  let c9600_2317 : Index := 9600#32
  ![v4840.toNat, 9600]
def k0_off152 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4843 : Index := Scalar.indexCast v3864
  let c75_2318 : Index := 75#32
  ![v4843.toNat, 75]
def k0_off153 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4853 : Index := Scalar.indexCast v3864
  let c9728_2320 : Index := 9728#32
  ![v4853.toNat, 9728]
def k0_off154 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4856 : Index := Scalar.indexCast v3864
  let c76_2321 : Index := 76#32
  ![v4856.toNat, 76]
def k0_off155 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4866 : Index := Scalar.indexCast v3864
  let c9856_2323 : Index := 9856#32
  ![v4866.toNat, 9856]
def k0_off156 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4869 : Index := Scalar.indexCast v3864
  let c77_2324 : Index := 77#32
  ![v4869.toNat, 77]
def k0_off157 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4879 : Index := Scalar.indexCast v3864
  let c9984_2326 : Index := 9984#32
  ![v4879.toNat, 9984]
def k0_off158 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4882 : Index := Scalar.indexCast v3864
  let c78_2327 : Index := 78#32
  ![v4882.toNat, 78]
def k0_off159 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4892 : Index := Scalar.indexCast v3864
  let c10112_2329 : Index := 10112#32
  ![v4892.toNat, 10112]
def k0_off160 (k0_t1 : Fin k0_t1_loop.trips) : Fin 2 → Nat :=
  let c0_i32_2089 : BitVec 32 := 0#32
  let c1_i32_2090 : BitVec 32 := 1#32
  let arg18 : BitVec 32 := Scf.iv c0_i32_2089 c1_i32_2090 k0_t1
  let c32_i32 : BitVec 32 := 32#32
  let v3863 : BitVec 32 := Scalar.muli arg18 c32_i32
  let v3864 : BitVec 32 := v3863
  let v4895 : Index := Scalar.indexCast v3864
  let c79_2330 : Index := 79#32
  ![v4895.toNat, 79]
def k0_off161 (i : grid0.Coords) (c0_i32_4 : BitVec 32) : Fin 2 → Nat :=
  let c0 : Index := 0#32
  let arg1 : BitVec 32 := BitVec.ofNat 32 (i 1).val
  let c4_i32 : BitVec 32 := 4#32
  let v8 : BitVec 32 := Scalar.muli arg1 c4_i32
  let v9 : BitVec 32 := Scalar.addi v8 c0_i32_4
  let v10 : Index := Scalar.indexCast v9
  ![0, v10.toNat]
def k0_off162 (i : grid0.Coords) (c0_i32_25 : BitVec 32) : Fin 2 → Nat :=
  let c1 : Index := 1#32
  let arg1 : BitVec 32 := BitVec.ofNat 32 (i 1).val
  let c4_i32_24 : BitVec 32 := 4#32
  let v56 : BitVec 32 := Scalar.muli arg1 c4_i32_24
  let v57 : BitVec 32 := Scalar.addi v56 c0_i32_25
  let v58 : Index := Scalar.indexCast v57
  ![1, v58.toNat]
def k0_off163 (i : grid0.Coords) (c0_i32_52 : BitVec 32) : Fin 2 → Nat :=
  let c2 : Index := 2#32
  let arg1 : BitVec 32 := BitVec.ofNat 32 (i 1).val
  let c4_i32_51 : BitVec 32 := 4#32
  let v104 : BitVec 32 := Scalar.muli arg1 c4_i32_51
  let v105 : BitVec 32 := Scalar.addi v104 c0_i32_52
  let v106 : Index := Scalar.indexCast v105
  ![2, v106.toNat]
def k0_off164 (i : grid0.Coords) (c0_i32_79 : BitVec 32) : Fin 2 → Nat :=
  let c3 : Index := 3#32
  let arg1 : BitVec 32 := BitVec.ofNat 32 (i 1).val
  let c4_i32_78 : BitVec 32 := 4#32
  let v152 : BitVec 32 := Scalar.muli arg1 c4_i32_78
  let v153 : BitVec 32 := Scalar.addi v152 c0_i32_79
  let v154 : Index := Scalar.indexCast v153
  ![3, v154.toNat]
def k0_off165 (i : grid0.Coords) (c0_i32_106 : BitVec 32) : Fin 2 → Nat :=
  let c4 : Index := 4#32
  let arg1 : BitVec 32 := BitVec.ofNat 32 (i 1).val
  let c4_i32_105 : BitVec 32 := 4#32
  let v200 : BitVec 32 := Scalar.muli arg1 c4_i32_105
  let v201 : BitVec 32 := Scalar.addi v200 c0_i32_106
  let v202 : Index := Scalar.indexCast v201
  ![4, v202.toNat]
def k0_off166 (i : grid0.Coords) (c0_i32_132 : BitVec 32) : Fin 2 → Nat :=
  let c5 : Index := 5#32
  let arg1 : BitVec 32 := BitVec.ofNat 32 (i 1).val
  let c4_i32_131 : BitVec 32 := 4#32
  let v248 : BitVec 32 := Scalar.muli arg1 c4_i32_131
  let v249 : BitVec 32 := Scalar.addi v248 c0_i32_132
  let v250 : Index := Scalar.indexCast v249
  ![5, v250.toNat]
def k0_off167 (i : grid0.Coords) (c0_i32_158 : BitVec 32) : Fin 2 → Nat :=
  let c6 : Index := 6#32
  let arg1 : BitVec 32 := BitVec.ofNat 32 (i 1).val
  let c4_i32_157 : BitVec 32 := 4#32
  let v296 : BitVec 32 := Scalar.muli arg1 c4_i32_157
  let v297 : BitVec 32 := Scalar.addi v296 c0_i32_158
  let v298 : Index := Scalar.indexCast v297
  ![6, v298.toNat]
def k0_off168 (i : grid0.Coords) (c0_i32_184 : BitVec 32) : Fin 2 → Nat :=
  let c7 : Index := 7#32
  let arg1 : BitVec 32 := BitVec.ofNat 32 (i 1).val
  let c4_i32_183 : BitVec 32 := 4#32
  let v344 : BitVec 32 := Scalar.muli arg1 c4_i32_183
  let v345 : BitVec 32 := Scalar.addi v344 c0_i32_184
  let v346 : Index := Scalar.indexCast v345
  ![7, v346.toNat]
def k0_off169 (i : grid0.Coords) (c0_i32_210 : BitVec 32) : Fin 2 → Nat :=
  let c8 : Index := 8#32
  let arg1 : BitVec 32 := BitVec.ofNat 32 (i 1).val
  let c4_i32_209 : BitVec 32 := 4#32
  let v392 : BitVec 32 := Scalar.muli arg1 c4_i32_209
  let v393 : BitVec 32 := Scalar.addi v392 c0_i32_210
  let v394 : Index := Scalar.indexCast v393
  ![8, v394.toNat]
def k0_off170 (i : grid0.Coords) (c0_i32_236 : BitVec 32) : Fin 2 → Nat :=
  let c9 : Index := 9#32
  let arg1 : BitVec 32 := BitVec.ofNat 32 (i 1).val
  let c4_i32_235 : BitVec 32 := 4#32
  let v440 : BitVec 32 := Scalar.muli arg1 c4_i32_235
  let v441 : BitVec 32 := Scalar.addi v440 c0_i32_236
  let v442 : Index := Scalar.indexCast v441
  ![9, v442.toNat]
def k0_off171 (i : grid0.Coords) (c0_i32_262 : BitVec 32) : Fin 2 → Nat :=
  let c10 : Index := 10#32
  let arg1 : BitVec 32 := BitVec.ofNat 32 (i 1).val
  let c4_i32_261 : BitVec 32 := 4#32
  let v488 : BitVec 32 := Scalar.muli arg1 c4_i32_261
  let v489 : BitVec 32 := Scalar.addi v488 c0_i32_262
  let v490 : Index := Scalar.indexCast v489
  ![10, v490.toNat]
def k0_off172 (i : grid0.Coords) (c0_i32_288 : BitVec 32) : Fin 2 → Nat :=
  let c11 : Index := 11#32
  let arg1 : BitVec 32 := BitVec.ofNat 32 (i 1).val
  let c4_i32_287 : BitVec 32 := 4#32
  let v536 : BitVec 32 := Scalar.muli arg1 c4_i32_287
  let v537 : BitVec 32 := Scalar.addi v536 c0_i32_288
  let v538 : Index := Scalar.indexCast v537
  ![11, v538.toNat]
def k0_off173 (i : grid0.Coords) (c0_i32_314 : BitVec 32) : Fin 2 → Nat :=
  let c12 : Index := 12#32
  let arg1 : BitVec 32 := BitVec.ofNat 32 (i 1).val
  let c4_i32_313 : BitVec 32 := 4#32
  let v584 : BitVec 32 := Scalar.muli arg1 c4_i32_313
  let v585 : BitVec 32 := Scalar.addi v584 c0_i32_314
  let v586 : Index := Scalar.indexCast v585
  ![12, v586.toNat]
def k0_off174 (i : grid0.Coords) (c0_i32_340 : BitVec 32) : Fin 2 → Nat :=
  let c13 : Index := 13#32
  let arg1 : BitVec 32 := BitVec.ofNat 32 (i 1).val
  let c4_i32_339 : BitVec 32 := 4#32
  let v632 : BitVec 32 := Scalar.muli arg1 c4_i32_339
  let v633 : BitVec 32 := Scalar.addi v632 c0_i32_340
  let v634 : Index := Scalar.indexCast v633
  ![13, v634.toNat]
def k0_off175 (i : grid0.Coords) (c0_i32_366 : BitVec 32) : Fin 2 → Nat :=
  let c14 : Index := 14#32
  let arg1 : BitVec 32 := BitVec.ofNat 32 (i 1).val
  let c4_i32_365 : BitVec 32 := 4#32
  let v680 : BitVec 32 := Scalar.muli arg1 c4_i32_365
  let v681 : BitVec 32 := Scalar.addi v680 c0_i32_366
  let v682 : Index := Scalar.indexCast v681
  ![14, v682.toNat]
def k0_off176 (i : grid0.Coords) (c0_i32_392 : BitVec 32) : Fin 2 → Nat :=
  let c15 : Index := 15#32
  let arg1 : BitVec 32 := BitVec.ofNat 32 (i 1).val
  let c4_i32_391 : BitVec 32 := 4#32
  let v728 : BitVec 32 := Scalar.muli arg1 c4_i32_391
  let v729 : BitVec 32 := Scalar.addi v728 c0_i32_392
  let v730 : Index := Scalar.indexCast v729
  ![15, v730.toNat]
def k0_off177 (i : grid0.Coords) (c0_i32_418 : BitVec 32) : Fin 2 → Nat :=
  let c16 : Index := 16#32
  let arg1 : BitVec 32 := BitVec.ofNat 32 (i 1).val
  let c4_i32_417 : BitVec 32 := 4#32
  let v776 : BitVec 32 := Scalar.muli arg1 c4_i32_417
  let v777 : BitVec 32 := Scalar.addi v776 c0_i32_418
  let v778 : Index := Scalar.indexCast v777
  ![16, v778.toNat]
def k0_off178 (i : grid0.Coords) (c0_i32_444 : BitVec 32) : Fin 2 → Nat :=
  let c17 : Index := 17#32
  let arg1 : BitVec 32 := BitVec.ofNat 32 (i 1).val
  let c4_i32_443 : BitVec 32 := 4#32
  let v824 : BitVec 32 := Scalar.muli arg1 c4_i32_443
  let v825 : BitVec 32 := Scalar.addi v824 c0_i32_444
  let v826 : Index := Scalar.indexCast v825
  ![17, v826.toNat]
def k0_off179 (i : grid0.Coords) (c0_i32_470 : BitVec 32) : Fin 2 → Nat :=
  let c18 : Index := 18#32
  let arg1 : BitVec 32 := BitVec.ofNat 32 (i 1).val
  let c4_i32_469 : BitVec 32 := 4#32
  let v872 : BitVec 32 := Scalar.muli arg1 c4_i32_469
  let v873 : BitVec 32 := Scalar.addi v872 c0_i32_470
  let v874 : Index := Scalar.indexCast v873
  ![18, v874.toNat]
def k0_off180 (i : grid0.Coords) (c0_i32_496 : BitVec 32) : Fin 2 → Nat :=
  let c19 : Index := 19#32
  let arg1 : BitVec 32 := BitVec.ofNat 32 (i 1).val
  let c4_i32_495 : BitVec 32 := 4#32
  let v920 : BitVec 32 := Scalar.muli arg1 c4_i32_495
  let v921 : BitVec 32 := Scalar.addi v920 c0_i32_496
  let v922 : Index := Scalar.indexCast v921
  ![19, v922.toNat]
def k0_off181 (i : grid0.Coords) (c0_i32_522 : BitVec 32) : Fin 2 → Nat :=
  let c20 : Index := 20#32
  let arg1 : BitVec 32 := BitVec.ofNat 32 (i 1).val
  let c4_i32_521 : BitVec 32 := 4#32
  let v968 : BitVec 32 := Scalar.muli arg1 c4_i32_521
  let v969 : BitVec 32 := Scalar.addi v968 c0_i32_522
  let v970 : Index := Scalar.indexCast v969
  ![20, v970.toNat]
def k0_off182 (i : grid0.Coords) (c0_i32_548 : BitVec 32) : Fin 2 → Nat :=
  let c21 : Index := 21#32
  let arg1 : BitVec 32 := BitVec.ofNat 32 (i 1).val
  let c4_i32_547 : BitVec 32 := 4#32
  let v1016 : BitVec 32 := Scalar.muli arg1 c4_i32_547
  let v1017 : BitVec 32 := Scalar.addi v1016 c0_i32_548
  let v1018 : Index := Scalar.indexCast v1017
  ![21, v1018.toNat]
def k0_off183 (i : grid0.Coords) (c0_i32_574 : BitVec 32) : Fin 2 → Nat :=
  let c22 : Index := 22#32
  let arg1 : BitVec 32 := BitVec.ofNat 32 (i 1).val
  let c4_i32_573 : BitVec 32 := 4#32
  let v1064 : BitVec 32 := Scalar.muli arg1 c4_i32_573
  let v1065 : BitVec 32 := Scalar.addi v1064 c0_i32_574
  let v1066 : Index := Scalar.indexCast v1065
  ![22, v1066.toNat]
def k0_off184 (i : grid0.Coords) (c0_i32_600 : BitVec 32) : Fin 2 → Nat :=
  let c23 : Index := 23#32
  let arg1 : BitVec 32 := BitVec.ofNat 32 (i 1).val
  let c4_i32_599 : BitVec 32 := 4#32
  let v1112 : BitVec 32 := Scalar.muli arg1 c4_i32_599
  let v1113 : BitVec 32 := Scalar.addi v1112 c0_i32_600
  let v1114 : Index := Scalar.indexCast v1113
  ![23, v1114.toNat]
def k0_off185 (i : grid0.Coords) (c0_i32_626 : BitVec 32) : Fin 2 → Nat :=
  let c24 : Index := 24#32
  let arg1 : BitVec 32 := BitVec.ofNat 32 (i 1).val
  let c4_i32_625 : BitVec 32 := 4#32
  let v1160 : BitVec 32 := Scalar.muli arg1 c4_i32_625
  let v1161 : BitVec 32 := Scalar.addi v1160 c0_i32_626
  let v1162 : Index := Scalar.indexCast v1161
  ![24, v1162.toNat]
def k0_off186 (i : grid0.Coords) (c0_i32_652 : BitVec 32) : Fin 2 → Nat :=
  let c25 : Index := 25#32
  let arg1 : BitVec 32 := BitVec.ofNat 32 (i 1).val
  let c4_i32_651 : BitVec 32 := 4#32
  let v1208 : BitVec 32 := Scalar.muli arg1 c4_i32_651
  let v1209 : BitVec 32 := Scalar.addi v1208 c0_i32_652
  let v1210 : Index := Scalar.indexCast v1209
  ![25, v1210.toNat]
def k0_off187 (i : grid0.Coords) (c0_i32_678 : BitVec 32) : Fin 2 → Nat :=
  let c26 : Index := 26#32
  let arg1 : BitVec 32 := BitVec.ofNat 32 (i 1).val
  let c4_i32_677 : BitVec 32 := 4#32
  let v1256 : BitVec 32 := Scalar.muli arg1 c4_i32_677
  let v1257 : BitVec 32 := Scalar.addi v1256 c0_i32_678
  let v1258 : Index := Scalar.indexCast v1257
  ![26, v1258.toNat]
def k0_off188 (i : grid0.Coords) (c0_i32_704 : BitVec 32) : Fin 2 → Nat :=
  let c27 : Index := 27#32
  let arg1 : BitVec 32 := BitVec.ofNat 32 (i 1).val
  let c4_i32_703 : BitVec 32 := 4#32
  let v1304 : BitVec 32 := Scalar.muli arg1 c4_i32_703
  let v1305 : BitVec 32 := Scalar.addi v1304 c0_i32_704
  let v1306 : Index := Scalar.indexCast v1305
  ![27, v1306.toNat]
def k0_off189 (i : grid0.Coords) (c0_i32_730 : BitVec 32) : Fin 2 → Nat :=
  let c28 : Index := 28#32
  let arg1 : BitVec 32 := BitVec.ofNat 32 (i 1).val
  let c4_i32_729 : BitVec 32 := 4#32
  let v1352 : BitVec 32 := Scalar.muli arg1 c4_i32_729
  let v1353 : BitVec 32 := Scalar.addi v1352 c0_i32_730
  let v1354 : Index := Scalar.indexCast v1353
  ![28, v1354.toNat]
def k0_off190 (i : grid0.Coords) (c0_i32_756 : BitVec 32) : Fin 2 → Nat :=
  let c29 : Index := 29#32
  let arg1 : BitVec 32 := BitVec.ofNat 32 (i 1).val
  let c4_i32_755 : BitVec 32 := 4#32
  let v1400 : BitVec 32 := Scalar.muli arg1 c4_i32_755
  let v1401 : BitVec 32 := Scalar.addi v1400 c0_i32_756
  let v1402 : Index := Scalar.indexCast v1401
  ![29, v1402.toNat]
def k0_off191 (i : grid0.Coords) (c0_i32_782 : BitVec 32) : Fin 2 → Nat :=
  let c30 : Index := 30#32
  let arg1 : BitVec 32 := BitVec.ofNat 32 (i 1).val
  let c4_i32_781 : BitVec 32 := 4#32
  let v1448 : BitVec 32 := Scalar.muli arg1 c4_i32_781
  let v1449 : BitVec 32 := Scalar.addi v1448 c0_i32_782
  let v1450 : Index := Scalar.indexCast v1449
  ![30, v1450.toNat]
def k0_off192 (i : grid0.Coords) (c0_i32_808 : BitVec 32) : Fin 2 → Nat :=
  let c31 : Index := 31#32
  let arg1 : BitVec 32 := BitVec.ofNat 32 (i 1).val
  let c4_i32_807 : BitVec 32 := 4#32
  let v1496 : BitVec 32 := Scalar.muli arg1 c4_i32_807
  let v1497 : BitVec 32 := Scalar.addi v1496 c0_i32_808
  let v1498 : Index := Scalar.indexCast v1497
  ![31, v1498.toNat]
def k0_off193 (i : grid0.Coords) (c0_i32_834 : BitVec 32) : Fin 2 → Nat :=
  let c32 : Index := 32#32
  let arg1 : BitVec 32 := BitVec.ofNat 32 (i 1).val
  let c4_i32_833 : BitVec 32 := 4#32
  let v1544 : BitVec 32 := Scalar.muli arg1 c4_i32_833
  let v1545 : BitVec 32 := Scalar.addi v1544 c0_i32_834
  let v1546 : Index := Scalar.indexCast v1545
  ![32, v1546.toNat]
def k0_off194 (i : grid0.Coords) (c0_i32_860 : BitVec 32) : Fin 2 → Nat :=
  let c33 : Index := 33#32
  let arg1 : BitVec 32 := BitVec.ofNat 32 (i 1).val
  let c4_i32_859 : BitVec 32 := 4#32
  let v1592 : BitVec 32 := Scalar.muli arg1 c4_i32_859
  let v1593 : BitVec 32 := Scalar.addi v1592 c0_i32_860
  let v1594 : Index := Scalar.indexCast v1593
  ![33, v1594.toNat]
def k0_off195 (i : grid0.Coords) (c0_i32_886 : BitVec 32) : Fin 2 → Nat :=
  let c34 : Index := 34#32
  let arg1 : BitVec 32 := BitVec.ofNat 32 (i 1).val
  let c4_i32_885 : BitVec 32 := 4#32
  let v1640 : BitVec 32 := Scalar.muli arg1 c4_i32_885
  let v1641 : BitVec 32 := Scalar.addi v1640 c0_i32_886
  let v1642 : Index := Scalar.indexCast v1641
  ![34, v1642.toNat]
def k0_off196 (i : grid0.Coords) (c0_i32_912 : BitVec 32) : Fin 2 → Nat :=
  let c35 : Index := 35#32
  let arg1 : BitVec 32 := BitVec.ofNat 32 (i 1).val
  let c4_i32_911 : BitVec 32 := 4#32
  let v1688 : BitVec 32 := Scalar.muli arg1 c4_i32_911
  let v1689 : BitVec 32 := Scalar.addi v1688 c0_i32_912
  let v1690 : Index := Scalar.indexCast v1689
  ![35, v1690.toNat]
def k0_off197 (i : grid0.Coords) (c0_i32_938 : BitVec 32) : Fin 2 → Nat :=
  let c36 : Index := 36#32
  let arg1 : BitVec 32 := BitVec.ofNat 32 (i 1).val
  let c4_i32_937 : BitVec 32 := 4#32
  let v1736 : BitVec 32 := Scalar.muli arg1 c4_i32_937
  let v1737 : BitVec 32 := Scalar.addi v1736 c0_i32_938
  let v1738 : Index := Scalar.indexCast v1737
  ![36, v1738.toNat]
def k0_off198 (i : grid0.Coords) (c0_i32_964 : BitVec 32) : Fin 2 → Nat :=
  let c37 : Index := 37#32
  let arg1 : BitVec 32 := BitVec.ofNat 32 (i 1).val
  let c4_i32_963 : BitVec 32 := 4#32
  let v1784 : BitVec 32 := Scalar.muli arg1 c4_i32_963
  let v1785 : BitVec 32 := Scalar.addi v1784 c0_i32_964
  let v1786 : Index := Scalar.indexCast v1785
  ![37, v1786.toNat]
def k0_off199 (i : grid0.Coords) (c0_i32_990 : BitVec 32) : Fin 2 → Nat :=
  let c38 : Index := 38#32
  let arg1 : BitVec 32 := BitVec.ofNat 32 (i 1).val
  let c4_i32_989 : BitVec 32 := 4#32
  let v1832 : BitVec 32 := Scalar.muli arg1 c4_i32_989
  let v1833 : BitVec 32 := Scalar.addi v1832 c0_i32_990
  let v1834 : Index := Scalar.indexCast v1833
  ![38, v1834.toNat]
def k0_off200 (i : grid0.Coords) (c0_i32_1016 : BitVec 32) : Fin 2 → Nat :=
  let c39 : Index := 39#32
  let arg1 : BitVec 32 := BitVec.ofNat 32 (i 1).val
  let c4_i32_1015 : BitVec 32 := 4#32
  let v1880 : BitVec 32 := Scalar.muli arg1 c4_i32_1015
  let v1881 : BitVec 32 := Scalar.addi v1880 c0_i32_1016
  let v1882 : Index := Scalar.indexCast v1881
  ![39, v1882.toNat]
def k0_off201 (i : grid0.Coords) (c0_i32_1042 : BitVec 32) : Fin 2 → Nat :=
  let c40 : Index := 40#32
  let arg1 : BitVec 32 := BitVec.ofNat 32 (i 1).val
  let c4_i32_1041 : BitVec 32 := 4#32
  let v1928 : BitVec 32 := Scalar.muli arg1 c4_i32_1041
  let v1929 : BitVec 32 := Scalar.addi v1928 c0_i32_1042
  let v1930 : Index := Scalar.indexCast v1929
  ![40, v1930.toNat]
def k0_off202 (i : grid0.Coords) (c0_i32_1068 : BitVec 32) : Fin 2 → Nat :=
  let c41 : Index := 41#32
  let arg1 : BitVec 32 := BitVec.ofNat 32 (i 1).val
  let c4_i32_1067 : BitVec 32 := 4#32
  let v1976 : BitVec 32 := Scalar.muli arg1 c4_i32_1067
  let v1977 : BitVec 32 := Scalar.addi v1976 c0_i32_1068
  let v1978 : Index := Scalar.indexCast v1977
  ![41, v1978.toNat]
def k0_off203 (i : grid0.Coords) (c0_i32_1094 : BitVec 32) : Fin 2 → Nat :=
  let c42 : Index := 42#32
  let arg1 : BitVec 32 := BitVec.ofNat 32 (i 1).val
  let c4_i32_1093 : BitVec 32 := 4#32
  let v2024 : BitVec 32 := Scalar.muli arg1 c4_i32_1093
  let v2025 : BitVec 32 := Scalar.addi v2024 c0_i32_1094
  let v2026 : Index := Scalar.indexCast v2025
  ![42, v2026.toNat]
def k0_off204 (i : grid0.Coords) (c0_i32_1120 : BitVec 32) : Fin 2 → Nat :=
  let c43 : Index := 43#32
  let arg1 : BitVec 32 := BitVec.ofNat 32 (i 1).val
  let c4_i32_1119 : BitVec 32 := 4#32
  let v2072 : BitVec 32 := Scalar.muli arg1 c4_i32_1119
  let v2073 : BitVec 32 := Scalar.addi v2072 c0_i32_1120
  let v2074 : Index := Scalar.indexCast v2073
  ![43, v2074.toNat]
def k0_off205 (i : grid0.Coords) (c0_i32_1146 : BitVec 32) : Fin 2 → Nat :=
  let c44 : Index := 44#32
  let arg1 : BitVec 32 := BitVec.ofNat 32 (i 1).val
  let c4_i32_1145 : BitVec 32 := 4#32
  let v2120 : BitVec 32 := Scalar.muli arg1 c4_i32_1145
  let v2121 : BitVec 32 := Scalar.addi v2120 c0_i32_1146
  let v2122 : Index := Scalar.indexCast v2121
  ![44, v2122.toNat]
def k0_off206 (i : grid0.Coords) (c0_i32_1172 : BitVec 32) : Fin 2 → Nat :=
  let c45 : Index := 45#32
  let arg1 : BitVec 32 := BitVec.ofNat 32 (i 1).val
  let c4_i32_1171 : BitVec 32 := 4#32
  let v2168 : BitVec 32 := Scalar.muli arg1 c4_i32_1171
  let v2169 : BitVec 32 := Scalar.addi v2168 c0_i32_1172
  let v2170 : Index := Scalar.indexCast v2169
  ![45, v2170.toNat]
def k0_off207 (i : grid0.Coords) (c0_i32_1198 : BitVec 32) : Fin 2 → Nat :=
  let c46 : Index := 46#32
  let arg1 : BitVec 32 := BitVec.ofNat 32 (i 1).val
  let c4_i32_1197 : BitVec 32 := 4#32
  let v2216 : BitVec 32 := Scalar.muli arg1 c4_i32_1197
  let v2217 : BitVec 32 := Scalar.addi v2216 c0_i32_1198
  let v2218 : Index := Scalar.indexCast v2217
  ![46, v2218.toNat]
def k0_off208 (i : grid0.Coords) (c0_i32_1224 : BitVec 32) : Fin 2 → Nat :=
  let c47 : Index := 47#32
  let arg1 : BitVec 32 := BitVec.ofNat 32 (i 1).val
  let c4_i32_1223 : BitVec 32 := 4#32
  let v2264 : BitVec 32 := Scalar.muli arg1 c4_i32_1223
  let v2265 : BitVec 32 := Scalar.addi v2264 c0_i32_1224
  let v2266 : Index := Scalar.indexCast v2265
  ![47, v2266.toNat]
def k0_off209 (i : grid0.Coords) (c0_i32_1250 : BitVec 32) : Fin 2 → Nat :=
  let c48 : Index := 48#32
  let arg1 : BitVec 32 := BitVec.ofNat 32 (i 1).val
  let c4_i32_1249 : BitVec 32 := 4#32
  let v2312 : BitVec 32 := Scalar.muli arg1 c4_i32_1249
  let v2313 : BitVec 32 := Scalar.addi v2312 c0_i32_1250
  let v2314 : Index := Scalar.indexCast v2313
  ![48, v2314.toNat]
def k0_off210 (i : grid0.Coords) (c0_i32_1276 : BitVec 32) : Fin 2 → Nat :=
  let c49 : Index := 49#32
  let arg1 : BitVec 32 := BitVec.ofNat 32 (i 1).val
  let c4_i32_1275 : BitVec 32 := 4#32
  let v2360 : BitVec 32 := Scalar.muli arg1 c4_i32_1275
  let v2361 : BitVec 32 := Scalar.addi v2360 c0_i32_1276
  let v2362 : Index := Scalar.indexCast v2361
  ![49, v2362.toNat]
def k0_off211 (i : grid0.Coords) (c0_i32_1302 : BitVec 32) : Fin 2 → Nat :=
  let c50 : Index := 50#32
  let arg1 : BitVec 32 := BitVec.ofNat 32 (i 1).val
  let c4_i32_1301 : BitVec 32 := 4#32
  let v2408 : BitVec 32 := Scalar.muli arg1 c4_i32_1301
  let v2409 : BitVec 32 := Scalar.addi v2408 c0_i32_1302
  let v2410 : Index := Scalar.indexCast v2409
  ![50, v2410.toNat]
def k0_off212 (i : grid0.Coords) (c0_i32_1328 : BitVec 32) : Fin 2 → Nat :=
  let c51 : Index := 51#32
  let arg1 : BitVec 32 := BitVec.ofNat 32 (i 1).val
  let c4_i32_1327 : BitVec 32 := 4#32
  let v2456 : BitVec 32 := Scalar.muli arg1 c4_i32_1327
  let v2457 : BitVec 32 := Scalar.addi v2456 c0_i32_1328
  let v2458 : Index := Scalar.indexCast v2457
  ![51, v2458.toNat]
def k0_off213 (i : grid0.Coords) (c0_i32_1354 : BitVec 32) : Fin 2 → Nat :=
  let c52 : Index := 52#32
  let arg1 : BitVec 32 := BitVec.ofNat 32 (i 1).val
  let c4_i32_1353 : BitVec 32 := 4#32
  let v2504 : BitVec 32 := Scalar.muli arg1 c4_i32_1353
  let v2505 : BitVec 32 := Scalar.addi v2504 c0_i32_1354
  let v2506 : Index := Scalar.indexCast v2505
  ![52, v2506.toNat]
def k0_off214 (i : grid0.Coords) (c0_i32_1380 : BitVec 32) : Fin 2 → Nat :=
  let c53 : Index := 53#32
  let arg1 : BitVec 32 := BitVec.ofNat 32 (i 1).val
  let c4_i32_1379 : BitVec 32 := 4#32
  let v2552 : BitVec 32 := Scalar.muli arg1 c4_i32_1379
  let v2553 : BitVec 32 := Scalar.addi v2552 c0_i32_1380
  let v2554 : Index := Scalar.indexCast v2553
  ![53, v2554.toNat]
def k0_off215 (i : grid0.Coords) (c0_i32_1406 : BitVec 32) : Fin 2 → Nat :=
  let c54 : Index := 54#32
  let arg1 : BitVec 32 := BitVec.ofNat 32 (i 1).val
  let c4_i32_1405 : BitVec 32 := 4#32
  let v2600 : BitVec 32 := Scalar.muli arg1 c4_i32_1405
  let v2601 : BitVec 32 := Scalar.addi v2600 c0_i32_1406
  let v2602 : Index := Scalar.indexCast v2601
  ![54, v2602.toNat]
def k0_off216 (i : grid0.Coords) (c0_i32_1432 : BitVec 32) : Fin 2 → Nat :=
  let c55 : Index := 55#32
  let arg1 : BitVec 32 := BitVec.ofNat 32 (i 1).val
  let c4_i32_1431 : BitVec 32 := 4#32
  let v2648 : BitVec 32 := Scalar.muli arg1 c4_i32_1431
  let v2649 : BitVec 32 := Scalar.addi v2648 c0_i32_1432
  let v2650 : Index := Scalar.indexCast v2649
  ![55, v2650.toNat]
def k0_off217 (i : grid0.Coords) (c0_i32_1458 : BitVec 32) : Fin 2 → Nat :=
  let c56 : Index := 56#32
  let arg1 : BitVec 32 := BitVec.ofNat 32 (i 1).val
  let c4_i32_1457 : BitVec 32 := 4#32
  let v2696 : BitVec 32 := Scalar.muli arg1 c4_i32_1457
  let v2697 : BitVec 32 := Scalar.addi v2696 c0_i32_1458
  let v2698 : Index := Scalar.indexCast v2697
  ![56, v2698.toNat]
def k0_off218 (i : grid0.Coords) (c0_i32_1484 : BitVec 32) : Fin 2 → Nat :=
  let c57 : Index := 57#32
  let arg1 : BitVec 32 := BitVec.ofNat 32 (i 1).val
  let c4_i32_1483 : BitVec 32 := 4#32
  let v2744 : BitVec 32 := Scalar.muli arg1 c4_i32_1483
  let v2745 : BitVec 32 := Scalar.addi v2744 c0_i32_1484
  let v2746 : Index := Scalar.indexCast v2745
  ![57, v2746.toNat]
def k0_off219 (i : grid0.Coords) (c0_i32_1510 : BitVec 32) : Fin 2 → Nat :=
  let c58 : Index := 58#32
  let arg1 : BitVec 32 := BitVec.ofNat 32 (i 1).val
  let c4_i32_1509 : BitVec 32 := 4#32
  let v2792 : BitVec 32 := Scalar.muli arg1 c4_i32_1509
  let v2793 : BitVec 32 := Scalar.addi v2792 c0_i32_1510
  let v2794 : Index := Scalar.indexCast v2793
  ![58, v2794.toNat]
def k0_off220 (i : grid0.Coords) (c0_i32_1536 : BitVec 32) : Fin 2 → Nat :=
  let c59 : Index := 59#32
  let arg1 : BitVec 32 := BitVec.ofNat 32 (i 1).val
  let c4_i32_1535 : BitVec 32 := 4#32
  let v2840 : BitVec 32 := Scalar.muli arg1 c4_i32_1535
  let v2841 : BitVec 32 := Scalar.addi v2840 c0_i32_1536
  let v2842 : Index := Scalar.indexCast v2841
  ![59, v2842.toNat]
def k0_off221 (i : grid0.Coords) (c0_i32_1562 : BitVec 32) : Fin 2 → Nat :=
  let c60 : Index := 60#32
  let arg1 : BitVec 32 := BitVec.ofNat 32 (i 1).val
  let c4_i32_1561 : BitVec 32 := 4#32
  let v2888 : BitVec 32 := Scalar.muli arg1 c4_i32_1561
  let v2889 : BitVec 32 := Scalar.addi v2888 c0_i32_1562
  let v2890 : Index := Scalar.indexCast v2889
  ![60, v2890.toNat]
def k0_off222 (i : grid0.Coords) (c0_i32_1588 : BitVec 32) : Fin 2 → Nat :=
  let c61 : Index := 61#32
  let arg1 : BitVec 32 := BitVec.ofNat 32 (i 1).val
  let c4_i32_1587 : BitVec 32 := 4#32
  let v2936 : BitVec 32 := Scalar.muli arg1 c4_i32_1587
  let v2937 : BitVec 32 := Scalar.addi v2936 c0_i32_1588
  let v2938 : Index := Scalar.indexCast v2937
  ![61, v2938.toNat]
def k0_off223 (i : grid0.Coords) (c0_i32_1614 : BitVec 32) : Fin 2 → Nat :=
  let c62 : Index := 62#32
  let arg1 : BitVec 32 := BitVec.ofNat 32 (i 1).val
  let c4_i32_1613 : BitVec 32 := 4#32
  let v2984 : BitVec 32 := Scalar.muli arg1 c4_i32_1613
  let v2985 : BitVec 32 := Scalar.addi v2984 c0_i32_1614
  let v2986 : Index := Scalar.indexCast v2985
  ![62, v2986.toNat]
def k0_off224 (i : grid0.Coords) (c0_i32_1640 : BitVec 32) : Fin 2 → Nat :=
  let c63 : Index := 63#32
  let arg1 : BitVec 32 := BitVec.ofNat 32 (i 1).val
  let c4_i32_1639 : BitVec 32 := 4#32
  let v3032 : BitVec 32 := Scalar.muli arg1 c4_i32_1639
  let v3033 : BitVec 32 := Scalar.addi v3032 c0_i32_1640
  let v3034 : Index := Scalar.indexCast v3033
  ![63, v3034.toNat]
def k0_off225 (i : grid0.Coords) (c0_i32_1666 : BitVec 32) : Fin 2 → Nat :=
  let c64 : Index := 64#32
  let arg1 : BitVec 32 := BitVec.ofNat 32 (i 1).val
  let c4_i32_1665 : BitVec 32 := 4#32
  let v3080 : BitVec 32 := Scalar.muli arg1 c4_i32_1665
  let v3081 : BitVec 32 := Scalar.addi v3080 c0_i32_1666
  let v3082 : Index := Scalar.indexCast v3081
  ![64, v3082.toNat]
def k0_off226 (i : grid0.Coords) (c0_i32_1692 : BitVec 32) : Fin 2 → Nat :=
  let c65 : Index := 65#32
  let arg1 : BitVec 32 := BitVec.ofNat 32 (i 1).val
  let c4_i32_1691 : BitVec 32 := 4#32
  let v3128 : BitVec 32 := Scalar.muli arg1 c4_i32_1691
  let v3129 : BitVec 32 := Scalar.addi v3128 c0_i32_1692
  let v3130 : Index := Scalar.indexCast v3129
  ![65, v3130.toNat]
def k0_off227 (i : grid0.Coords) (c0_i32_1718 : BitVec 32) : Fin 2 → Nat :=
  let c66 : Index := 66#32
  let arg1 : BitVec 32 := BitVec.ofNat 32 (i 1).val
  let c4_i32_1717 : BitVec 32 := 4#32
  let v3176 : BitVec 32 := Scalar.muli arg1 c4_i32_1717
  let v3177 : BitVec 32 := Scalar.addi v3176 c0_i32_1718
  let v3178 : Index := Scalar.indexCast v3177
  ![66, v3178.toNat]
def k0_off228 (i : grid0.Coords) (c0_i32_1744 : BitVec 32) : Fin 2 → Nat :=
  let c67 : Index := 67#32
  let arg1 : BitVec 32 := BitVec.ofNat 32 (i 1).val
  let c4_i32_1743 : BitVec 32 := 4#32
  let v3224 : BitVec 32 := Scalar.muli arg1 c4_i32_1743
  let v3225 : BitVec 32 := Scalar.addi v3224 c0_i32_1744
  let v3226 : Index := Scalar.indexCast v3225
  ![67, v3226.toNat]
def k0_off229 (i : grid0.Coords) (c0_i32_1770 : BitVec 32) : Fin 2 → Nat :=
  let c68 : Index := 68#32
  let arg1 : BitVec 32 := BitVec.ofNat 32 (i 1).val
  let c4_i32_1769 : BitVec 32 := 4#32
  let v3272 : BitVec 32 := Scalar.muli arg1 c4_i32_1769
  let v3273 : BitVec 32 := Scalar.addi v3272 c0_i32_1770
  let v3274 : Index := Scalar.indexCast v3273
  ![68, v3274.toNat]
def k0_off230 (i : grid0.Coords) (c0_i32_1796 : BitVec 32) : Fin 2 → Nat :=
  let c69 : Index := 69#32
  let arg1 : BitVec 32 := BitVec.ofNat 32 (i 1).val
  let c4_i32_1795 : BitVec 32 := 4#32
  let v3320 : BitVec 32 := Scalar.muli arg1 c4_i32_1795
  let v3321 : BitVec 32 := Scalar.addi v3320 c0_i32_1796
  let v3322 : Index := Scalar.indexCast v3321
  ![69, v3322.toNat]
def k0_off231 (i : grid0.Coords) (c0_i32_1822 : BitVec 32) : Fin 2 → Nat :=
  let c70 : Index := 70#32
  let arg1 : BitVec 32 := BitVec.ofNat 32 (i 1).val
  let c4_i32_1821 : BitVec 32 := 4#32
  let v3368 : BitVec 32 := Scalar.muli arg1 c4_i32_1821
  let v3369 : BitVec 32 := Scalar.addi v3368 c0_i32_1822
  let v3370 : Index := Scalar.indexCast v3369
  ![70, v3370.toNat]
def k0_off232 (i : grid0.Coords) (c0_i32_1848 : BitVec 32) : Fin 2 → Nat :=
  let c71 : Index := 71#32
  let arg1 : BitVec 32 := BitVec.ofNat 32 (i 1).val
  let c4_i32_1847 : BitVec 32 := 4#32
  let v3416 : BitVec 32 := Scalar.muli arg1 c4_i32_1847
  let v3417 : BitVec 32 := Scalar.addi v3416 c0_i32_1848
  let v3418 : Index := Scalar.indexCast v3417
  ![71, v3418.toNat]
def k0_off233 (i : grid0.Coords) (c0_i32_1874 : BitVec 32) : Fin 2 → Nat :=
  let c72 : Index := 72#32
  let arg1 : BitVec 32 := BitVec.ofNat 32 (i 1).val
  let c4_i32_1873 : BitVec 32 := 4#32
  let v3464 : BitVec 32 := Scalar.muli arg1 c4_i32_1873
  let v3465 : BitVec 32 := Scalar.addi v3464 c0_i32_1874
  let v3466 : Index := Scalar.indexCast v3465
  ![72, v3466.toNat]
def k0_off234 (i : grid0.Coords) (c0_i32_1900 : BitVec 32) : Fin 2 → Nat :=
  let c73 : Index := 73#32
  let arg1 : BitVec 32 := BitVec.ofNat 32 (i 1).val
  let c4_i32_1899 : BitVec 32 := 4#32
  let v3512 : BitVec 32 := Scalar.muli arg1 c4_i32_1899
  let v3513 : BitVec 32 := Scalar.addi v3512 c0_i32_1900
  let v3514 : Index := Scalar.indexCast v3513
  ![73, v3514.toNat]
def k0_off235 (i : grid0.Coords) (c0_i32_1926 : BitVec 32) : Fin 2 → Nat :=
  let c74 : Index := 74#32
  let arg1 : BitVec 32 := BitVec.ofNat 32 (i 1).val
  let c4_i32_1925 : BitVec 32 := 4#32
  let v3560 : BitVec 32 := Scalar.muli arg1 c4_i32_1925
  let v3561 : BitVec 32 := Scalar.addi v3560 c0_i32_1926
  let v3562 : Index := Scalar.indexCast v3561
  ![74, v3562.toNat]
def k0_off236 (i : grid0.Coords) (c0_i32_1952 : BitVec 32) : Fin 2 → Nat :=
  let c75 : Index := 75#32
  let arg1 : BitVec 32 := BitVec.ofNat 32 (i 1).val
  let c4_i32_1951 : BitVec 32 := 4#32
  let v3608 : BitVec 32 := Scalar.muli arg1 c4_i32_1951
  let v3609 : BitVec 32 := Scalar.addi v3608 c0_i32_1952
  let v3610 : Index := Scalar.indexCast v3609
  ![75, v3610.toNat]
def k0_off237 (i : grid0.Coords) (c0_i32_1978 : BitVec 32) : Fin 2 → Nat :=
  let c76 : Index := 76#32
  let arg1 : BitVec 32 := BitVec.ofNat 32 (i 1).val
  let c4_i32_1977 : BitVec 32 := 4#32
  let v3656 : BitVec 32 := Scalar.muli arg1 c4_i32_1977
  let v3657 : BitVec 32 := Scalar.addi v3656 c0_i32_1978
  let v3658 : Index := Scalar.indexCast v3657
  ![76, v3658.toNat]
def k0_off238 (i : grid0.Coords) (c0_i32_2004 : BitVec 32) : Fin 2 → Nat :=
  let c77 : Index := 77#32
  let arg1 : BitVec 32 := BitVec.ofNat 32 (i 1).val
  let c4_i32_2003 : BitVec 32 := 4#32
  let v3704 : BitVec 32 := Scalar.muli arg1 c4_i32_2003
  let v3705 : BitVec 32 := Scalar.addi v3704 c0_i32_2004
  let v3706 : Index := Scalar.indexCast v3705
  ![77, v3706.toNat]
def k0_off239 (i : grid0.Coords) (c0_i32_2030 : BitVec 32) : Fin 2 → Nat :=
  let c78 : Index := 78#32
  let arg1 : BitVec 32 := BitVec.ofNat 32 (i 1).val
  let c4_i32_2029 : BitVec 32 := 4#32
  let v3752 : BitVec 32 := Scalar.muli arg1 c4_i32_2029
  let v3753 : BitVec 32 := Scalar.addi v3752 c0_i32_2030
  let v3754 : Index := Scalar.indexCast v3753
  ![78, v3754.toNat]
def k0_off240 (i : grid0.Coords) (c0_i32_2056 : BitVec 32) : Fin 2 → Nat :=
  let c79 : Index := 79#32
  let arg1 : BitVec 32 := BitVec.ofNat 32 (i 1).val
  let c4_i32_2055 : BitVec 32 := 4#32
  let v3800 : BitVec 32 := Scalar.muli arg1 c4_i32_2055
  let v3801 : BitVec 32 := Scalar.addi v3800 c0_i32_2056
  let v3802 : Index := Scalar.indexCast v3801
  ![79, v3802.toNat]
def k0_mult2 (i : grid0.Coords) : BitVec 32 :=
  let arg1 : BitVec 32 := BitVec.ofNat 32 (i 1).val
  let c512_i32 : BitVec 32 := 512#32
  let v3851 : BitVec 32 := Scalar.muli arg1 c512_i32
  v3851
def k0_off241 (i : grid0.Coords) : Fin 2 → Nat :=
  let c0_2085 : Index := 0#32
  let arg1 : BitVec 32 := BitVec.ofNat 32 (i 1).val
  let c512_i32 : BitVec 32 := 512#32
  let v3851 : BitVec 32 := Scalar.muli arg1 c512_i32
  let v3852 : BitVec 32 := v3851
  let v3853 : Index := Scalar.indexCast v3852
  ![0, v3853.toNat]
def k0_cond3 (i : grid0.Coords) : BitVec 1 :=
  let arg1 : BitVec 32 := BitVec.ofNat 32 (i 1).val
  let c9_i32 : BitVec 32 := 9#32
  let v3859 : BitVec 1 := Scalar.cmpi .eq arg1 c9_i32
  let v3860 : BitVec 32 := Scalar.extui v3859
  let c0_i32_2088 : BitVec 32 := 0#32
  let v3861 : BitVec 1 := Scalar.cmpi .ne v3860 c0_i32_2088
  v3861

def k0_off242 (i : grid0.Coords) : Fin 1 → Nat :=
  let arg0 : BitVec 32 := BitVec.ofNat 32 (i 0).val
  let v3886 : Index := Scalar.indexCast arg0
  ![v3886.toNat]
@[reducible] def k0_t2_loop : Scf.Loop 32 :=
  let c0_i32_2107 : BitVec 32 := 0#32
  let c8_i32 : BitVec 32 := 8#32
  let v3888 : BitVec 32 := Scalar.addi c0_i32_2107 c8_i32
  let c1_i32_2108 : BitVec 32 := 1#32
  ⟨c0_i32_2107, v3888, c1_i32_2108⟩
def k0_mult3 (k0_t2 : Fin k0_t2_loop.trips) : BitVec 32 :=
  let c0_i32_2107 : BitVec 32 := 0#32
  let c1_i32_2108 : BitVec 32 := 1#32
  let arg18 : BitVec 32 := Scf.iv c0_i32_2107 c1_i32_2108 k0_t2
  let c32_i32 : BitVec 32 := 32#32
  let v4177 : BitVec 32 := Scalar.muli arg18 c32_i32
  v4177
def k0_off243 (k0_t2 : Fin k0_t2_loop.trips) : Fin 2 → Nat :=
  let c0_i32_2107 : BitVec 32 := 0#32
  let c1_i32_2108 : BitVec 32 := 1#32
  let arg18 : BitVec 32 := Scf.iv c0_i32_2107 c1_i32_2108 k0_t2
  let c32_i32 : BitVec 32 := 32#32
  let v4177 : BitVec 32 := Scalar.muli arg18 c32_i32
  let v4178 : BitVec 32 := v4177
  let v4180 : Index := Scalar.indexCast v4178
  let c0_2374 : Index := 0#32
  ![v4180.toNat, 0]
def k0_off244 (k0_t2 : Fin k0_t2_loop.trips) : Fin 2 → Nat :=
  let c0_i32_2107 : BitVec 32 := 0#32
  let c1_i32_2108 : BitVec 32 := 1#32
  let arg18 : BitVec 32 := Scf.iv c0_i32_2107 c1_i32_2108 k0_t2
  let c32_i32 : BitVec 32 := 32#32
  let v4177 : BitVec 32 := Scalar.muli arg18 c32_i32
  let v4178 : BitVec 32 := v4177
  let v4184 : Index := Scalar.indexCast v4178
  let c128_2375 : Index := 128#32
  ![v4184.toNat, 128]
def k0_off245 (k0_t2 : Fin k0_t2_loop.trips) : Fin 2 → Nat :=
  let c0_i32_2107 : BitVec 32 := 0#32
  let c1_i32_2108 : BitVec 32 := 1#32
  let arg18 : BitVec 32 := Scf.iv c0_i32_2107 c1_i32_2108 k0_t2
  let c32_i32 : BitVec 32 := 32#32
  let v4177 : BitVec 32 := Scalar.muli arg18 c32_i32
  let v4178 : BitVec 32 := v4177
  let v4188 : Index := Scalar.indexCast v4178
  let c256_2376 : Index := 256#32
  ![v4188.toNat, 256]
def k0_off246 (k0_t2 : Fin k0_t2_loop.trips) : Fin 2 → Nat :=
  let c0_i32_2107 : BitVec 32 := 0#32
  let c1_i32_2108 : BitVec 32 := 1#32
  let arg18 : BitVec 32 := Scf.iv c0_i32_2107 c1_i32_2108 k0_t2
  let c32_i32 : BitVec 32 := 32#32
  let v4177 : BitVec 32 := Scalar.muli arg18 c32_i32
  let v4178 : BitVec 32 := v4177
  let v4192 : Index := Scalar.indexCast v4178
  let c384_2377 : Index := 384#32
  ![v4192.toNat, 384]
def k0_off247 (k0_t2 : Fin k0_t2_loop.trips) : Fin 2 → Nat :=
  let c0_i32_2107 : BitVec 32 := 0#32
  let c1_i32_2108 : BitVec 32 := 1#32
  let arg18 : BitVec 32 := Scf.iv c0_i32_2107 c1_i32_2108 k0_t2
  let c32_i32 : BitVec 32 := 32#32
  let v4177 : BitVec 32 := Scalar.muli arg18 c32_i32
  let v4178 : BitVec 32 := v4177
  let v4196 : Index := Scalar.indexCast v4178
  let c512_2378 : Index := 512#32
  ![v4196.toNat, 512]
def k0_off248 (k0_t2 : Fin k0_t2_loop.trips) : Fin 2 → Nat :=
  let c0_i32_2107 : BitVec 32 := 0#32
  let c1_i32_2108 : BitVec 32 := 1#32
  let arg18 : BitVec 32 := Scf.iv c0_i32_2107 c1_i32_2108 k0_t2
  let c32_i32 : BitVec 32 := 32#32
  let v4177 : BitVec 32 := Scalar.muli arg18 c32_i32
  let v4178 : BitVec 32 := v4177
  let v4200 : Index := Scalar.indexCast v4178
  let c640_2379 : Index := 640#32
  ![v4200.toNat, 640]
def k0_off249 (k0_t2 : Fin k0_t2_loop.trips) : Fin 2 → Nat :=
  let c0_i32_2107 : BitVec 32 := 0#32
  let c1_i32_2108 : BitVec 32 := 1#32
  let arg18 : BitVec 32 := Scf.iv c0_i32_2107 c1_i32_2108 k0_t2
  let c32_i32 : BitVec 32 := 32#32
  let v4177 : BitVec 32 := Scalar.muli arg18 c32_i32
  let v4178 : BitVec 32 := v4177
  let v4204 : Index := Scalar.indexCast v4178
  let c768_2380 : Index := 768#32
  ![v4204.toNat, 768]
def k0_off250 (k0_t2 : Fin k0_t2_loop.trips) : Fin 2 → Nat :=
  let c0_i32_2107 : BitVec 32 := 0#32
  let c1_i32_2108 : BitVec 32 := 1#32
  let arg18 : BitVec 32 := Scf.iv c0_i32_2107 c1_i32_2108 k0_t2
  let c32_i32 : BitVec 32 := 32#32
  let v4177 : BitVec 32 := Scalar.muli arg18 c32_i32
  let v4178 : BitVec 32 := v4177
  let v4208 : Index := Scalar.indexCast v4178
  let c896_2381 : Index := 896#32
  ![v4208.toNat, 896]
def k0_off251 (k0_t2 : Fin k0_t2_loop.trips) : Fin 2 → Nat :=
  let c0_i32_2107 : BitVec 32 := 0#32
  let c1_i32_2108 : BitVec 32 := 1#32
  let arg18 : BitVec 32 := Scf.iv c0_i32_2107 c1_i32_2108 k0_t2
  let c32_i32 : BitVec 32 := 32#32
  let v4177 : BitVec 32 := Scalar.muli arg18 c32_i32
  let v4178 : BitVec 32 := v4177
  let v4212 : Index := Scalar.indexCast v4178
  let c1024_2382 : Index := 1024#32
  ![v4212.toNat, 1024]
def k0_off252 (k0_t2 : Fin k0_t2_loop.trips) : Fin 2 → Nat :=
  let c0_i32_2107 : BitVec 32 := 0#32
  let c1_i32_2108 : BitVec 32 := 1#32
  let arg18 : BitVec 32 := Scf.iv c0_i32_2107 c1_i32_2108 k0_t2
  let c32_i32 : BitVec 32 := 32#32
  let v4177 : BitVec 32 := Scalar.muli arg18 c32_i32
  let v4178 : BitVec 32 := v4177
  let v4216 : Index := Scalar.indexCast v4178
  let c1152_2383 : Index := 1152#32
  ![v4216.toNat, 1152]
def k0_off253 (k0_t2 : Fin k0_t2_loop.trips) : Fin 2 → Nat :=
  let c0_i32_2107 : BitVec 32 := 0#32
  let c1_i32_2108 : BitVec 32 := 1#32
  let arg18 : BitVec 32 := Scf.iv c0_i32_2107 c1_i32_2108 k0_t2
  let c32_i32 : BitVec 32 := 32#32
  let v4177 : BitVec 32 := Scalar.muli arg18 c32_i32
  let v4178 : BitVec 32 := v4177
  let v4220 : Index := Scalar.indexCast v4178
  let c1280_2384 : Index := 1280#32
  ![v4220.toNat, 1280]
def k0_off254 (k0_t2 : Fin k0_t2_loop.trips) : Fin 2 → Nat :=
  let c0_i32_2107 : BitVec 32 := 0#32
  let c1_i32_2108 : BitVec 32 := 1#32
  let arg18 : BitVec 32 := Scf.iv c0_i32_2107 c1_i32_2108 k0_t2
  let c32_i32 : BitVec 32 := 32#32
  let v4177 : BitVec 32 := Scalar.muli arg18 c32_i32
  let v4178 : BitVec 32 := v4177
  let v4224 : Index := Scalar.indexCast v4178
  let c1408_2385 : Index := 1408#32
  ![v4224.toNat, 1408]
def k0_off255 (k0_t2 : Fin k0_t2_loop.trips) : Fin 2 → Nat :=
  let c0_i32_2107 : BitVec 32 := 0#32
  let c1_i32_2108 : BitVec 32 := 1#32
  let arg18 : BitVec 32 := Scf.iv c0_i32_2107 c1_i32_2108 k0_t2
  let c32_i32 : BitVec 32 := 32#32
  let v4177 : BitVec 32 := Scalar.muli arg18 c32_i32
  let v4178 : BitVec 32 := v4177
  let v4228 : Index := Scalar.indexCast v4178
  let c1536_2386 : Index := 1536#32
  ![v4228.toNat, 1536]
def k0_off256 (k0_t2 : Fin k0_t2_loop.trips) : Fin 2 → Nat :=
  let c0_i32_2107 : BitVec 32 := 0#32
  let c1_i32_2108 : BitVec 32 := 1#32
  let arg18 : BitVec 32 := Scf.iv c0_i32_2107 c1_i32_2108 k0_t2
  let c32_i32 : BitVec 32 := 32#32
  let v4177 : BitVec 32 := Scalar.muli arg18 c32_i32
  let v4178 : BitVec 32 := v4177
  let v4232 : Index := Scalar.indexCast v4178
  let c1664_2387 : Index := 1664#32
  ![v4232.toNat, 1664]
def k0_off257 (k0_t2 : Fin k0_t2_loop.trips) : Fin 2 → Nat :=
  let c0_i32_2107 : BitVec 32 := 0#32
  let c1_i32_2108 : BitVec 32 := 1#32
  let arg18 : BitVec 32 := Scf.iv c0_i32_2107 c1_i32_2108 k0_t2
  let c32_i32 : BitVec 32 := 32#32
  let v4177 : BitVec 32 := Scalar.muli arg18 c32_i32
  let v4178 : BitVec 32 := v4177
  let v4236 : Index := Scalar.indexCast v4178
  let c1792_2388 : Index := 1792#32
  ![v4236.toNat, 1792]
def k0_off258 (k0_t2 : Fin k0_t2_loop.trips) : Fin 2 → Nat :=
  let c0_i32_2107 : BitVec 32 := 0#32
  let c1_i32_2108 : BitVec 32 := 1#32
  let arg18 : BitVec 32 := Scf.iv c0_i32_2107 c1_i32_2108 k0_t2
  let c32_i32 : BitVec 32 := 32#32
  let v4177 : BitVec 32 := Scalar.muli arg18 c32_i32
  let v4178 : BitVec 32 := v4177
  let v4240 : Index := Scalar.indexCast v4178
  let c1920_2389 : Index := 1920#32
  ![v4240.toNat, 1920]
def k0_off259 (k0_t2 : Fin k0_t2_loop.trips) : Fin 2 → Nat :=
  let c0_i32_2107 : BitVec 32 := 0#32
  let c1_i32_2108 : BitVec 32 := 1#32
  let arg18 : BitVec 32 := Scf.iv c0_i32_2107 c1_i32_2108 k0_t2
  let c32_i32 : BitVec 32 := 32#32
  let v4177 : BitVec 32 := Scalar.muli arg18 c32_i32
  let v4178 : BitVec 32 := v4177
  let v4244 : Index := Scalar.indexCast v4178
  let c2048_2390 : Index := 2048#32
  ![v4244.toNat, 2048]
def k0_off260 (k0_t2 : Fin k0_t2_loop.trips) : Fin 2 → Nat :=
  let c0_i32_2107 : BitVec 32 := 0#32
  let c1_i32_2108 : BitVec 32 := 1#32
  let arg18 : BitVec 32 := Scf.iv c0_i32_2107 c1_i32_2108 k0_t2
  let c32_i32 : BitVec 32 := 32#32
  let v4177 : BitVec 32 := Scalar.muli arg18 c32_i32
  let v4178 : BitVec 32 := v4177
  let v4248 : Index := Scalar.indexCast v4178
  let c2176_2391 : Index := 2176#32
  ![v4248.toNat, 2176]
def k0_off261 (k0_t2 : Fin k0_t2_loop.trips) : Fin 2 → Nat :=
  let c0_i32_2107 : BitVec 32 := 0#32
  let c1_i32_2108 : BitVec 32 := 1#32
  let arg18 : BitVec 32 := Scf.iv c0_i32_2107 c1_i32_2108 k0_t2
  let c32_i32 : BitVec 32 := 32#32
  let v4177 : BitVec 32 := Scalar.muli arg18 c32_i32
  let v4178 : BitVec 32 := v4177
  let v4252 : Index := Scalar.indexCast v4178
  let c2304_2392 : Index := 2304#32
  ![v4252.toNat, 2304]
def k0_off262 (k0_t2 : Fin k0_t2_loop.trips) : Fin 2 → Nat :=
  let c0_i32_2107 : BitVec 32 := 0#32
  let c1_i32_2108 : BitVec 32 := 1#32
  let arg18 : BitVec 32 := Scf.iv c0_i32_2107 c1_i32_2108 k0_t2
  let c32_i32 : BitVec 32 := 32#32
  let v4177 : BitVec 32 := Scalar.muli arg18 c32_i32
  let v4178 : BitVec 32 := v4177
  let v4256 : Index := Scalar.indexCast v4178
  let c2432_2393 : Index := 2432#32
  ![v4256.toNat, 2432]
def k0_off263 (k0_t2 : Fin k0_t2_loop.trips) : Fin 2 → Nat :=
  let c0_i32_2107 : BitVec 32 := 0#32
  let c1_i32_2108 : BitVec 32 := 1#32
  let arg18 : BitVec 32 := Scf.iv c0_i32_2107 c1_i32_2108 k0_t2
  let c32_i32 : BitVec 32 := 32#32
  let v4177 : BitVec 32 := Scalar.muli arg18 c32_i32
  let v4178 : BitVec 32 := v4177
  let v4260 : Index := Scalar.indexCast v4178
  let c2560_2394 : Index := 2560#32
  ![v4260.toNat, 2560]
def k0_off264 (k0_t2 : Fin k0_t2_loop.trips) : Fin 2 → Nat :=
  let c0_i32_2107 : BitVec 32 := 0#32
  let c1_i32_2108 : BitVec 32 := 1#32
  let arg18 : BitVec 32 := Scf.iv c0_i32_2107 c1_i32_2108 k0_t2
  let c32_i32 : BitVec 32 := 32#32
  let v4177 : BitVec 32 := Scalar.muli arg18 c32_i32
  let v4178 : BitVec 32 := v4177
  let v4264 : Index := Scalar.indexCast v4178
  let c2688_2395 : Index := 2688#32
  ![v4264.toNat, 2688]
def k0_off265 (k0_t2 : Fin k0_t2_loop.trips) : Fin 2 → Nat :=
  let c0_i32_2107 : BitVec 32 := 0#32
  let c1_i32_2108 : BitVec 32 := 1#32
  let arg18 : BitVec 32 := Scf.iv c0_i32_2107 c1_i32_2108 k0_t2
  let c32_i32 : BitVec 32 := 32#32
  let v4177 : BitVec 32 := Scalar.muli arg18 c32_i32
  let v4178 : BitVec 32 := v4177
  let v4268 : Index := Scalar.indexCast v4178
  let c2816_2396 : Index := 2816#32
  ![v4268.toNat, 2816]
def k0_off266 (k0_t2 : Fin k0_t2_loop.trips) : Fin 2 → Nat :=
  let c0_i32_2107 : BitVec 32 := 0#32
  let c1_i32_2108 : BitVec 32 := 1#32
  let arg18 : BitVec 32 := Scf.iv c0_i32_2107 c1_i32_2108 k0_t2
  let c32_i32 : BitVec 32 := 32#32
  let v4177 : BitVec 32 := Scalar.muli arg18 c32_i32
  let v4178 : BitVec 32 := v4177
  let v4272 : Index := Scalar.indexCast v4178
  let c2944_2397 : Index := 2944#32
  ![v4272.toNat, 2944]
def k0_off267 (k0_t2 : Fin k0_t2_loop.trips) : Fin 2 → Nat :=
  let c0_i32_2107 : BitVec 32 := 0#32
  let c1_i32_2108 : BitVec 32 := 1#32
  let arg18 : BitVec 32 := Scf.iv c0_i32_2107 c1_i32_2108 k0_t2
  let c32_i32 : BitVec 32 := 32#32
  let v4177 : BitVec 32 := Scalar.muli arg18 c32_i32
  let v4178 : BitVec 32 := v4177
  let v4276 : Index := Scalar.indexCast v4178
  let c3072_2398 : Index := 3072#32
  ![v4276.toNat, 3072]
def k0_off268 (k0_t2 : Fin k0_t2_loop.trips) : Fin 2 → Nat :=
  let c0_i32_2107 : BitVec 32 := 0#32
  let c1_i32_2108 : BitVec 32 := 1#32
  let arg18 : BitVec 32 := Scf.iv c0_i32_2107 c1_i32_2108 k0_t2
  let c32_i32 : BitVec 32 := 32#32
  let v4177 : BitVec 32 := Scalar.muli arg18 c32_i32
  let v4178 : BitVec 32 := v4177
  let v4280 : Index := Scalar.indexCast v4178
  let c3200_2399 : Index := 3200#32
  ![v4280.toNat, 3200]
def k0_off269 (k0_t2 : Fin k0_t2_loop.trips) : Fin 2 → Nat :=
  let c0_i32_2107 : BitVec 32 := 0#32
  let c1_i32_2108 : BitVec 32 := 1#32
  let arg18 : BitVec 32 := Scf.iv c0_i32_2107 c1_i32_2108 k0_t2
  let c32_i32 : BitVec 32 := 32#32
  let v4177 : BitVec 32 := Scalar.muli arg18 c32_i32
  let v4178 : BitVec 32 := v4177
  let v4284 : Index := Scalar.indexCast v4178
  let c3328_2400 : Index := 3328#32
  ![v4284.toNat, 3328]
def k0_off270 (k0_t2 : Fin k0_t2_loop.trips) : Fin 2 → Nat :=
  let c0_i32_2107 : BitVec 32 := 0#32
  let c1_i32_2108 : BitVec 32 := 1#32
  let arg18 : BitVec 32 := Scf.iv c0_i32_2107 c1_i32_2108 k0_t2
  let c32_i32 : BitVec 32 := 32#32
  let v4177 : BitVec 32 := Scalar.muli arg18 c32_i32
  let v4178 : BitVec 32 := v4177
  let v4288 : Index := Scalar.indexCast v4178
  let c3456_2401 : Index := 3456#32
  ![v4288.toNat, 3456]
def k0_off271 (k0_t2 : Fin k0_t2_loop.trips) : Fin 2 → Nat :=
  let c0_i32_2107 : BitVec 32 := 0#32
  let c1_i32_2108 : BitVec 32 := 1#32
  let arg18 : BitVec 32 := Scf.iv c0_i32_2107 c1_i32_2108 k0_t2
  let c32_i32 : BitVec 32 := 32#32
  let v4177 : BitVec 32 := Scalar.muli arg18 c32_i32
  let v4178 : BitVec 32 := v4177
  let v4292 : Index := Scalar.indexCast v4178
  let c3584_2402 : Index := 3584#32
  ![v4292.toNat, 3584]
def k0_off272 (k0_t2 : Fin k0_t2_loop.trips) : Fin 2 → Nat :=
  let c0_i32_2107 : BitVec 32 := 0#32
  let c1_i32_2108 : BitVec 32 := 1#32
  let arg18 : BitVec 32 := Scf.iv c0_i32_2107 c1_i32_2108 k0_t2
  let c32_i32 : BitVec 32 := 32#32
  let v4177 : BitVec 32 := Scalar.muli arg18 c32_i32
  let v4178 : BitVec 32 := v4177
  let v4296 : Index := Scalar.indexCast v4178
  let c3712_2403 : Index := 3712#32
  ![v4296.toNat, 3712]
def k0_off273 (k0_t2 : Fin k0_t2_loop.trips) : Fin 2 → Nat :=
  let c0_i32_2107 : BitVec 32 := 0#32
  let c1_i32_2108 : BitVec 32 := 1#32
  let arg18 : BitVec 32 := Scf.iv c0_i32_2107 c1_i32_2108 k0_t2
  let c32_i32 : BitVec 32 := 32#32
  let v4177 : BitVec 32 := Scalar.muli arg18 c32_i32
  let v4178 : BitVec 32 := v4177
  let v4300 : Index := Scalar.indexCast v4178
  let c3840_2404 : Index := 3840#32
  ![v4300.toNat, 3840]
def k0_off274 (k0_t2 : Fin k0_t2_loop.trips) : Fin 2 → Nat :=
  let c0_i32_2107 : BitVec 32 := 0#32
  let c1_i32_2108 : BitVec 32 := 1#32
  let arg18 : BitVec 32 := Scf.iv c0_i32_2107 c1_i32_2108 k0_t2
  let c32_i32 : BitVec 32 := 32#32
  let v4177 : BitVec 32 := Scalar.muli arg18 c32_i32
  let v4178 : BitVec 32 := v4177
  let v4304 : Index := Scalar.indexCast v4178
  let c3968_2405 : Index := 3968#32
  ![v4304.toNat, 3968]
def k0_off275 (k0_t2 : Fin k0_t2_loop.trips) : Fin 2 → Nat :=
  let c0_i32_2107 : BitVec 32 := 0#32
  let c1_i32_2108 : BitVec 32 := 1#32
  let arg18 : BitVec 32 := Scf.iv c0_i32_2107 c1_i32_2108 k0_t2
  let c32_i32 : BitVec 32 := 32#32
  let v4177 : BitVec 32 := Scalar.muli arg18 c32_i32
  let v4178 : BitVec 32 := v4177
  let v4308 : Index := Scalar.indexCast v4178
  let c4096_2406 : Index := 4096#32
  ![v4308.toNat, 4096]
def k0_off276 (k0_t2 : Fin k0_t2_loop.trips) : Fin 2 → Nat :=
  let c0_i32_2107 : BitVec 32 := 0#32
  let c1_i32_2108 : BitVec 32 := 1#32
  let arg18 : BitVec 32 := Scf.iv c0_i32_2107 c1_i32_2108 k0_t2
  let c32_i32 : BitVec 32 := 32#32
  let v4177 : BitVec 32 := Scalar.muli arg18 c32_i32
  let v4178 : BitVec 32 := v4177
  let v4312 : Index := Scalar.indexCast v4178
  let c4224_2407 : Index := 4224#32
  ![v4312.toNat, 4224]
def k0_off277 (k0_t2 : Fin k0_t2_loop.trips) : Fin 2 → Nat :=
  let c0_i32_2107 : BitVec 32 := 0#32
  let c1_i32_2108 : BitVec 32 := 1#32
  let arg18 : BitVec 32 := Scf.iv c0_i32_2107 c1_i32_2108 k0_t2
  let c32_i32 : BitVec 32 := 32#32
  let v4177 : BitVec 32 := Scalar.muli arg18 c32_i32
  let v4178 : BitVec 32 := v4177
  let v4316 : Index := Scalar.indexCast v4178
  let c4352_2408 : Index := 4352#32
  ![v4316.toNat, 4352]
def k0_off278 (k0_t2 : Fin k0_t2_loop.trips) : Fin 2 → Nat :=
  let c0_i32_2107 : BitVec 32 := 0#32
  let c1_i32_2108 : BitVec 32 := 1#32
  let arg18 : BitVec 32 := Scf.iv c0_i32_2107 c1_i32_2108 k0_t2
  let c32_i32 : BitVec 32 := 32#32
  let v4177 : BitVec 32 := Scalar.muli arg18 c32_i32
  let v4178 : BitVec 32 := v4177
  let v4320 : Index := Scalar.indexCast v4178
  let c4480_2409 : Index := 4480#32
  ![v4320.toNat, 4480]
def k0_off279 (k0_t2 : Fin k0_t2_loop.trips) : Fin 2 → Nat :=
  let c0_i32_2107 : BitVec 32 := 0#32
  let c1_i32_2108 : BitVec 32 := 1#32
  let arg18 : BitVec 32 := Scf.iv c0_i32_2107 c1_i32_2108 k0_t2
  let c32_i32 : BitVec 32 := 32#32
  let v4177 : BitVec 32 := Scalar.muli arg18 c32_i32
  let v4178 : BitVec 32 := v4177
  let v4324 : Index := Scalar.indexCast v4178
  let c4608_2410 : Index := 4608#32
  ![v4324.toNat, 4608]
def k0_off280 (k0_t2 : Fin k0_t2_loop.trips) : Fin 2 → Nat :=
  let c0_i32_2107 : BitVec 32 := 0#32
  let c1_i32_2108 : BitVec 32 := 1#32
  let arg18 : BitVec 32 := Scf.iv c0_i32_2107 c1_i32_2108 k0_t2
  let c32_i32 : BitVec 32 := 32#32
  let v4177 : BitVec 32 := Scalar.muli arg18 c32_i32
  let v4178 : BitVec 32 := v4177
  let v4328 : Index := Scalar.indexCast v4178
  let c4736_2411 : Index := 4736#32
  ![v4328.toNat, 4736]
def k0_off281 (k0_t2 : Fin k0_t2_loop.trips) : Fin 2 → Nat :=
  let c0_i32_2107 : BitVec 32 := 0#32
  let c1_i32_2108 : BitVec 32 := 1#32
  let arg18 : BitVec 32 := Scf.iv c0_i32_2107 c1_i32_2108 k0_t2
  let c32_i32 : BitVec 32 := 32#32
  let v4177 : BitVec 32 := Scalar.muli arg18 c32_i32
  let v4178 : BitVec 32 := v4177
  let v4332 : Index := Scalar.indexCast v4178
  let c4864_2412 : Index := 4864#32
  ![v4332.toNat, 4864]
def k0_off282 (k0_t2 : Fin k0_t2_loop.trips) : Fin 2 → Nat :=
  let c0_i32_2107 : BitVec 32 := 0#32
  let c1_i32_2108 : BitVec 32 := 1#32
  let arg18 : BitVec 32 := Scf.iv c0_i32_2107 c1_i32_2108 k0_t2
  let c32_i32 : BitVec 32 := 32#32
  let v4177 : BitVec 32 := Scalar.muli arg18 c32_i32
  let v4178 : BitVec 32 := v4177
  let v4336 : Index := Scalar.indexCast v4178
  let c4992_2413 : Index := 4992#32
  ![v4336.toNat, 4992]
def k0_off283 (k0_t2 : Fin k0_t2_loop.trips) : Fin 3 → Nat :=
  let c0_2471 : Index := 0#32
  let c16_i32_2470 : BitVec 32 := 16#32
  let c0_i32_2107 : BitVec 32 := 0#32
  let c1_i32_2108 : BitVec 32 := 1#32
  let arg18 : BitVec 32 := Scf.iv c0_i32_2107 c1_i32_2108 k0_t2
  let c32_i32 : BitVec 32 := 32#32
  let v4177 : BitVec 32 := Scalar.muli arg18 c32_i32
  let v4178 : BitVec 32 := v4177
  let v4496 : BitVec 32 := Scalar.addi c16_i32_2470 v4178
  let v4497 : Index := Scalar.indexCast v4496
  let c0_2472 : Index := 0#32
  ![0, v4497.toNat, 0]
def k0_off284 (k0_t2 : Fin k0_t2_loop.trips) : Fin 3 → Nat :=
  let c1_2532 : Index := 1#32
  let c16_i32_2531 : BitVec 32 := 16#32
  let c0_i32_2107 : BitVec 32 := 0#32
  let c1_i32_2108 : BitVec 32 := 1#32
  let arg18 : BitVec 32 := Scf.iv c0_i32_2107 c1_i32_2108 k0_t2
  let c32_i32 : BitVec 32 := 32#32
  let v4177 : BitVec 32 := Scalar.muli arg18 c32_i32
  let v4178 : BitVec 32 := v4177
  let v4651 : BitVec 32 := Scalar.addi c16_i32_2531 v4178
  let v4652 : Index := Scalar.indexCast v4651
  let c0_2533 : Index := 0#32
  ![1, v4652.toNat, 0]
def k0_off285 (k0_t2 : Fin k0_t2_loop.trips) : Fin 3 → Nat :=
  let c2_2593 : Index := 2#32
  let c16_i32_2592 : BitVec 32 := 16#32
  let c0_i32_2107 : BitVec 32 := 0#32
  let c1_i32_2108 : BitVec 32 := 1#32
  let arg18 : BitVec 32 := Scf.iv c0_i32_2107 c1_i32_2108 k0_t2
  let c32_i32 : BitVec 32 := 32#32
  let v4177 : BitVec 32 := Scalar.muli arg18 c32_i32
  let v4178 : BitVec 32 := v4177
  let v4806 : BitVec 32 := Scalar.addi c16_i32_2592 v4178
  let v4807 : Index := Scalar.indexCast v4806
  let c0_2594 : Index := 0#32
  ![2, v4807.toNat, 0]
def k0_off286 (k0_t2 : Fin k0_t2_loop.trips) : Fin 3 → Nat :=
  let c3_2654 : Index := 3#32
  let c16_i32_2653 : BitVec 32 := 16#32
  let c0_i32_2107 : BitVec 32 := 0#32
  let c1_i32_2108 : BitVec 32 := 1#32
  let arg18 : BitVec 32 := Scf.iv c0_i32_2107 c1_i32_2108 k0_t2
  let c32_i32 : BitVec 32 := 32#32
  let v4177 : BitVec 32 := Scalar.muli arg18 c32_i32
  let v4178 : BitVec 32 := v4177
  let v4961 : BitVec 32 := Scalar.addi c16_i32_2653 v4178
  let v4962 : Index := Scalar.indexCast v4961
  let c0_2655 : Index := 0#32
  ![3, v4962.toNat, 0]
def k0_off287 (k0_t2 : Fin k0_t2_loop.trips) : Fin 3 → Nat :=
  let c4_2715 : Index := 4#32
  let c16_i32_2714 : BitVec 32 := 16#32
  let c0_i32_2107 : BitVec 32 := 0#32
  let c1_i32_2108 : BitVec 32 := 1#32
  let arg18 : BitVec 32 := Scf.iv c0_i32_2107 c1_i32_2108 k0_t2
  let c32_i32 : BitVec 32 := 32#32
  let v4177 : BitVec 32 := Scalar.muli arg18 c32_i32
  let v4178 : BitVec 32 := v4177
  let v5116 : BitVec 32 := Scalar.addi c16_i32_2714 v4178
  let v5117 : Index := Scalar.indexCast v5116
  let c0_2716 : Index := 0#32
  ![4, v5117.toNat, 0]
def k0_off288 (k0_t2 : Fin k0_t2_loop.trips) : Fin 3 → Nat :=
  let c5_2776 : Index := 5#32
  let c16_i32_2775 : BitVec 32 := 16#32
  let c0_i32_2107 : BitVec 32 := 0#32
  let c1_i32_2108 : BitVec 32 := 1#32
  let arg18 : BitVec 32 := Scf.iv c0_i32_2107 c1_i32_2108 k0_t2
  let c32_i32 : BitVec 32 := 32#32
  let v4177 : BitVec 32 := Scalar.muli arg18 c32_i32
  let v4178 : BitVec 32 := v4177
  let v5271 : BitVec 32 := Scalar.addi c16_i32_2775 v4178
  let v5272 : Index := Scalar.indexCast v5271
  let c0_2777 : Index := 0#32
  ![5, v5272.toNat, 0]
def k0_off289 (k0_t2 : Fin k0_t2_loop.trips) : Fin 3 → Nat :=
  let c6_2837 : Index := 6#32
  let c16_i32_2836 : BitVec 32 := 16#32
  let c0_i32_2107 : BitVec 32 := 0#32
  let c1_i32_2108 : BitVec 32 := 1#32
  let arg18 : BitVec 32 := Scf.iv c0_i32_2107 c1_i32_2108 k0_t2
  let c32_i32 : BitVec 32 := 32#32
  let v4177 : BitVec 32 := Scalar.muli arg18 c32_i32
  let v4178 : BitVec 32 := v4177
  let v5426 : BitVec 32 := Scalar.addi c16_i32_2836 v4178
  let v5427 : Index := Scalar.indexCast v5426
  let c0_2838 : Index := 0#32
  ![6, v5427.toNat, 0]
def k0_off290 (k0_t2 : Fin k0_t2_loop.trips) : Fin 3 → Nat :=
  let c7_2897 : Index := 7#32
  let c16_i32_2896 : BitVec 32 := 16#32
  let c0_i32_2107 : BitVec 32 := 0#32
  let c1_i32_2108 : BitVec 32 := 1#32
  let arg18 : BitVec 32 := Scf.iv c0_i32_2107 c1_i32_2108 k0_t2
  let c32_i32 : BitVec 32 := 32#32
  let v4177 : BitVec 32 := Scalar.muli arg18 c32_i32
  let v4178 : BitVec 32 := v4177
  let v5581 : BitVec 32 := Scalar.addi c16_i32_2896 v4178
  let v5582 : Index := Scalar.indexCast v5581
  let c0_2898 : Index := 0#32
  ![7, v5582.toNat, 0]
def k0_off291 (k0_t2 : Fin k0_t2_loop.trips) : Fin 3 → Nat :=
  let c8_2957 : Index := 8#32
  let c16_i32_2956 : BitVec 32 := 16#32
  let c0_i32_2107 : BitVec 32 := 0#32
  let c1_i32_2108 : BitVec 32 := 1#32
  let arg18 : BitVec 32 := Scf.iv c0_i32_2107 c1_i32_2108 k0_t2
  let c32_i32 : BitVec 32 := 32#32
  let v4177 : BitVec 32 := Scalar.muli arg18 c32_i32
  let v4178 : BitVec 32 := v4177
  let v5736 : BitVec 32 := Scalar.addi c16_i32_2956 v4178
  let v5737 : Index := Scalar.indexCast v5736
  let c0_2958 : Index := 0#32
  ![8, v5737.toNat, 0]
def k0_off292 (k0_t2 : Fin k0_t2_loop.trips) : Fin 3 → Nat :=
  let c9_3018 : Index := 9#32
  let c16_i32_3017 : BitVec 32 := 16#32
  let c0_i32_2107 : BitVec 32 := 0#32
  let c1_i32_2108 : BitVec 32 := 1#32
  let arg18 : BitVec 32 := Scf.iv c0_i32_2107 c1_i32_2108 k0_t2
  let c32_i32 : BitVec 32 := 32#32
  let v4177 : BitVec 32 := Scalar.muli arg18 c32_i32
  let v4178 : BitVec 32 := v4177
  let v5891 : BitVec 32 := Scalar.addi c16_i32_3017 v4178
  let v5892 : Index := Scalar.indexCast v5891
  let c0_3019 : Index := 0#32
  ![9, v5892.toNat, 0]
def k0_off293 (k0_t2 : Fin k0_t2_loop.trips) : Fin 3 → Nat :=
  let c10_3079 : Index := 10#32
  let c16_i32_3078 : BitVec 32 := 16#32
  let c0_i32_2107 : BitVec 32 := 0#32
  let c1_i32_2108 : BitVec 32 := 1#32
  let arg18 : BitVec 32 := Scf.iv c0_i32_2107 c1_i32_2108 k0_t2
  let c32_i32 : BitVec 32 := 32#32
  let v4177 : BitVec 32 := Scalar.muli arg18 c32_i32
  let v4178 : BitVec 32 := v4177
  let v6046 : BitVec 32 := Scalar.addi c16_i32_3078 v4178
  let v6047 : Index := Scalar.indexCast v6046
  let c0_3080 : Index := 0#32
  ![10, v6047.toNat, 0]
def k0_off294 (k0_t2 : Fin k0_t2_loop.trips) : Fin 3 → Nat :=
  let c11_3139 : Index := 11#32
  let c16_i32_3138 : BitVec 32 := 16#32
  let c0_i32_2107 : BitVec 32 := 0#32
  let c1_i32_2108 : BitVec 32 := 1#32
  let arg18 : BitVec 32 := Scf.iv c0_i32_2107 c1_i32_2108 k0_t2
  let c32_i32 : BitVec 32 := 32#32
  let v4177 : BitVec 32 := Scalar.muli arg18 c32_i32
  let v4178 : BitVec 32 := v4177
  let v6201 : BitVec 32 := Scalar.addi c16_i32_3138 v4178
  let v6202 : Index := Scalar.indexCast v6201
  let c0_3140 : Index := 0#32
  ![11, v6202.toNat, 0]
def k0_off295 (k0_t2 : Fin k0_t2_loop.trips) : Fin 3 → Nat :=
  let c12_3199 : Index := 12#32
  let c16_i32_3198 : BitVec 32 := 16#32
  let c0_i32_2107 : BitVec 32 := 0#32
  let c1_i32_2108 : BitVec 32 := 1#32
  let arg18 : BitVec 32 := Scf.iv c0_i32_2107 c1_i32_2108 k0_t2
  let c32_i32 : BitVec 32 := 32#32
  let v4177 : BitVec 32 := Scalar.muli arg18 c32_i32
  let v4178 : BitVec 32 := v4177
  let v6356 : BitVec 32 := Scalar.addi c16_i32_3198 v4178
  let v6357 : Index := Scalar.indexCast v6356
  let c0_3200 : Index := 0#32
  ![12, v6357.toNat, 0]
def k0_off296 (k0_t2 : Fin k0_t2_loop.trips) : Fin 3 → Nat :=
  let c13_3259 : Index := 13#32
  let c16_i32_3258 : BitVec 32 := 16#32
  let c0_i32_2107 : BitVec 32 := 0#32
  let c1_i32_2108 : BitVec 32 := 1#32
  let arg18 : BitVec 32 := Scf.iv c0_i32_2107 c1_i32_2108 k0_t2
  let c32_i32 : BitVec 32 := 32#32
  let v4177 : BitVec 32 := Scalar.muli arg18 c32_i32
  let v4178 : BitVec 32 := v4177
  let v6511 : BitVec 32 := Scalar.addi c16_i32_3258 v4178
  let v6512 : Index := Scalar.indexCast v6511
  let c0_3260 : Index := 0#32
  ![13, v6512.toNat, 0]
def k0_off297 (k0_t2 : Fin k0_t2_loop.trips) : Fin 3 → Nat :=
  let c14_3319 : Index := 14#32
  let c16_i32_3318 : BitVec 32 := 16#32
  let c0_i32_2107 : BitVec 32 := 0#32
  let c1_i32_2108 : BitVec 32 := 1#32
  let arg18 : BitVec 32 := Scf.iv c0_i32_2107 c1_i32_2108 k0_t2
  let c32_i32 : BitVec 32 := 32#32
  let v4177 : BitVec 32 := Scalar.muli arg18 c32_i32
  let v4178 : BitVec 32 := v4177
  let v6666 : BitVec 32 := Scalar.addi c16_i32_3318 v4178
  let v6667 : Index := Scalar.indexCast v6666
  let c0_3320 : Index := 0#32
  ![14, v6667.toNat, 0]
def k0_off298 (k0_t2 : Fin k0_t2_loop.trips) : Fin 3 → Nat :=
  let c15_3379 : Index := 15#32
  let c16_i32_3378 : BitVec 32 := 16#32
  let c0_i32_2107 : BitVec 32 := 0#32
  let c1_i32_2108 : BitVec 32 := 1#32
  let arg18 : BitVec 32 := Scf.iv c0_i32_2107 c1_i32_2108 k0_t2
  let c32_i32 : BitVec 32 := 32#32
  let v4177 : BitVec 32 := Scalar.muli arg18 c32_i32
  let v4178 : BitVec 32 := v4177
  let v6821 : BitVec 32 := Scalar.addi c16_i32_3378 v4178
  let v6822 : Index := Scalar.indexCast v6821
  let c0_3380 : Index := 0#32
  ![15, v6822.toNat, 0]
def k0_off299 (k0_t2 : Fin k0_t2_loop.trips) : Fin 3 → Nat :=
  let c16_3440 : Index := 16#32
  let c16_i32_3439 : BitVec 32 := 16#32
  let c0_i32_2107 : BitVec 32 := 0#32
  let c1_i32_2108 : BitVec 32 := 1#32
  let arg18 : BitVec 32 := Scf.iv c0_i32_2107 c1_i32_2108 k0_t2
  let c32_i32 : BitVec 32 := 32#32
  let v4177 : BitVec 32 := Scalar.muli arg18 c32_i32
  let v4178 : BitVec 32 := v4177
  let v6976 : BitVec 32 := Scalar.addi c16_i32_3439 v4178
  let v6977 : Index := Scalar.indexCast v6976
  let c0_3441 : Index := 0#32
  ![16, v6977.toNat, 0]
def k0_off300 (k0_t2 : Fin k0_t2_loop.trips) : Fin 3 → Nat :=
  let c17_3501 : Index := 17#32
  let c16_i32_3500 : BitVec 32 := 16#32
  let c0_i32_2107 : BitVec 32 := 0#32
  let c1_i32_2108 : BitVec 32 := 1#32
  let arg18 : BitVec 32 := Scf.iv c0_i32_2107 c1_i32_2108 k0_t2
  let c32_i32 : BitVec 32 := 32#32
  let v4177 : BitVec 32 := Scalar.muli arg18 c32_i32
  let v4178 : BitVec 32 := v4177
  let v7131 : BitVec 32 := Scalar.addi c16_i32_3500 v4178
  let v7132 : Index := Scalar.indexCast v7131
  let c0_3502 : Index := 0#32
  ![17, v7132.toNat, 0]
def k0_off301 (k0_t2 : Fin k0_t2_loop.trips) : Fin 3 → Nat :=
  let c18_3561 : Index := 18#32
  let c16_i32_3560 : BitVec 32 := 16#32
  let c0_i32_2107 : BitVec 32 := 0#32
  let c1_i32_2108 : BitVec 32 := 1#32
  let arg18 : BitVec 32 := Scf.iv c0_i32_2107 c1_i32_2108 k0_t2
  let c32_i32 : BitVec 32 := 32#32
  let v4177 : BitVec 32 := Scalar.muli arg18 c32_i32
  let v4178 : BitVec 32 := v4177
  let v7286 : BitVec 32 := Scalar.addi c16_i32_3560 v4178
  let v7287 : Index := Scalar.indexCast v7286
  let c0_3562 : Index := 0#32
  ![18, v7287.toNat, 0]
def k0_off302 (k0_t2 : Fin k0_t2_loop.trips) : Fin 3 → Nat :=
  let c19_3621 : Index := 19#32
  let c16_i32_3620 : BitVec 32 := 16#32
  let c0_i32_2107 : BitVec 32 := 0#32
  let c1_i32_2108 : BitVec 32 := 1#32
  let arg18 : BitVec 32 := Scf.iv c0_i32_2107 c1_i32_2108 k0_t2
  let c32_i32 : BitVec 32 := 32#32
  let v4177 : BitVec 32 := Scalar.muli arg18 c32_i32
  let v4178 : BitVec 32 := v4177
  let v7441 : BitVec 32 := Scalar.addi c16_i32_3620 v4178
  let v7442 : Index := Scalar.indexCast v7441
  let c0_3622 : Index := 0#32
  ![19, v7442.toNat, 0]
def k0_off303 (k0_t2 : Fin k0_t2_loop.trips) : Fin 3 → Nat :=
  let c20_3681 : Index := 20#32
  let c16_i32_3680 : BitVec 32 := 16#32
  let c0_i32_2107 : BitVec 32 := 0#32
  let c1_i32_2108 : BitVec 32 := 1#32
  let arg18 : BitVec 32 := Scf.iv c0_i32_2107 c1_i32_2108 k0_t2
  let c32_i32 : BitVec 32 := 32#32
  let v4177 : BitVec 32 := Scalar.muli arg18 c32_i32
  let v4178 : BitVec 32 := v4177
  let v7596 : BitVec 32 := Scalar.addi c16_i32_3680 v4178
  let v7597 : Index := Scalar.indexCast v7596
  let c0_3682 : Index := 0#32
  ![20, v7597.toNat, 0]
def k0_off304 (k0_t2 : Fin k0_t2_loop.trips) : Fin 3 → Nat :=
  let c21_3741 : Index := 21#32
  let c16_i32_3740 : BitVec 32 := 16#32
  let c0_i32_2107 : BitVec 32 := 0#32
  let c1_i32_2108 : BitVec 32 := 1#32
  let arg18 : BitVec 32 := Scf.iv c0_i32_2107 c1_i32_2108 k0_t2
  let c32_i32 : BitVec 32 := 32#32
  let v4177 : BitVec 32 := Scalar.muli arg18 c32_i32
  let v4178 : BitVec 32 := v4177
  let v7751 : BitVec 32 := Scalar.addi c16_i32_3740 v4178
  let v7752 : Index := Scalar.indexCast v7751
  let c0_3742 : Index := 0#32
  ![21, v7752.toNat, 0]
def k0_off305 (k0_t2 : Fin k0_t2_loop.trips) : Fin 3 → Nat :=
  let c22_3801 : Index := 22#32
  let c16_i32_3800 : BitVec 32 := 16#32
  let c0_i32_2107 : BitVec 32 := 0#32
  let c1_i32_2108 : BitVec 32 := 1#32
  let arg18 : BitVec 32 := Scf.iv c0_i32_2107 c1_i32_2108 k0_t2
  let c32_i32 : BitVec 32 := 32#32
  let v4177 : BitVec 32 := Scalar.muli arg18 c32_i32
  let v4178 : BitVec 32 := v4177
  let v7906 : BitVec 32 := Scalar.addi c16_i32_3800 v4178
  let v7907 : Index := Scalar.indexCast v7906
  let c0_3802 : Index := 0#32
  ![22, v7907.toNat, 0]
def k0_off306 (k0_t2 : Fin k0_t2_loop.trips) : Fin 3 → Nat :=
  let c23_3861 : Index := 23#32
  let c16_i32_3860 : BitVec 32 := 16#32
  let c0_i32_2107 : BitVec 32 := 0#32
  let c1_i32_2108 : BitVec 32 := 1#32
  let arg18 : BitVec 32 := Scf.iv c0_i32_2107 c1_i32_2108 k0_t2
  let c32_i32 : BitVec 32 := 32#32
  let v4177 : BitVec 32 := Scalar.muli arg18 c32_i32
  let v4178 : BitVec 32 := v4177
  let v8061 : BitVec 32 := Scalar.addi c16_i32_3860 v4178
  let v8062 : Index := Scalar.indexCast v8061
  let c0_3862 : Index := 0#32
  ![23, v8062.toNat, 0]
def k0_off307 (k0_t2 : Fin k0_t2_loop.trips) : Fin 3 → Nat :=
  let c24_3922 : Index := 24#32
  let c16_i32_3921 : BitVec 32 := 16#32
  let c0_i32_2107 : BitVec 32 := 0#32
  let c1_i32_2108 : BitVec 32 := 1#32
  let arg18 : BitVec 32 := Scf.iv c0_i32_2107 c1_i32_2108 k0_t2
  let c32_i32 : BitVec 32 := 32#32
  let v4177 : BitVec 32 := Scalar.muli arg18 c32_i32
  let v4178 : BitVec 32 := v4177
  let v8216 : BitVec 32 := Scalar.addi c16_i32_3921 v4178
  let v8217 : Index := Scalar.indexCast v8216
  let c0_3923 : Index := 0#32
  ![24, v8217.toNat, 0]
def k0_off308 (k0_t2 : Fin k0_t2_loop.trips) : Fin 3 → Nat :=
  let c25_3982 : Index := 25#32
  let c16_i32_3981 : BitVec 32 := 16#32
  let c0_i32_2107 : BitVec 32 := 0#32
  let c1_i32_2108 : BitVec 32 := 1#32
  let arg18 : BitVec 32 := Scf.iv c0_i32_2107 c1_i32_2108 k0_t2
  let c32_i32 : BitVec 32 := 32#32
  let v4177 : BitVec 32 := Scalar.muli arg18 c32_i32
  let v4178 : BitVec 32 := v4177
  let v8371 : BitVec 32 := Scalar.addi c16_i32_3981 v4178
  let v8372 : Index := Scalar.indexCast v8371
  let c0_3983 : Index := 0#32
  ![25, v8372.toNat, 0]
def k0_off309 (k0_t2 : Fin k0_t2_loop.trips) : Fin 3 → Nat :=
  let c26_4042 : Index := 26#32
  let c16_i32_4041 : BitVec 32 := 16#32
  let c0_i32_2107 : BitVec 32 := 0#32
  let c1_i32_2108 : BitVec 32 := 1#32
  let arg18 : BitVec 32 := Scf.iv c0_i32_2107 c1_i32_2108 k0_t2
  let c32_i32 : BitVec 32 := 32#32
  let v4177 : BitVec 32 := Scalar.muli arg18 c32_i32
  let v4178 : BitVec 32 := v4177
  let v8526 : BitVec 32 := Scalar.addi c16_i32_4041 v4178
  let v8527 : Index := Scalar.indexCast v8526
  let c0_4043 : Index := 0#32
  ![26, v8527.toNat, 0]
def k0_off310 (k0_t2 : Fin k0_t2_loop.trips) : Fin 3 → Nat :=
  let c27_4102 : Index := 27#32
  let c16_i32_4101 : BitVec 32 := 16#32
  let c0_i32_2107 : BitVec 32 := 0#32
  let c1_i32_2108 : BitVec 32 := 1#32
  let arg18 : BitVec 32 := Scf.iv c0_i32_2107 c1_i32_2108 k0_t2
  let c32_i32 : BitVec 32 := 32#32
  let v4177 : BitVec 32 := Scalar.muli arg18 c32_i32
  let v4178 : BitVec 32 := v4177
  let v8681 : BitVec 32 := Scalar.addi c16_i32_4101 v4178
  let v8682 : Index := Scalar.indexCast v8681
  let c0_4103 : Index := 0#32
  ![27, v8682.toNat, 0]
def k0_off311 (k0_t2 : Fin k0_t2_loop.trips) : Fin 3 → Nat :=
  let c28_4162 : Index := 28#32
  let c16_i32_4161 : BitVec 32 := 16#32
  let c0_i32_2107 : BitVec 32 := 0#32
  let c1_i32_2108 : BitVec 32 := 1#32
  let arg18 : BitVec 32 := Scf.iv c0_i32_2107 c1_i32_2108 k0_t2
  let c32_i32 : BitVec 32 := 32#32
  let v4177 : BitVec 32 := Scalar.muli arg18 c32_i32
  let v4178 : BitVec 32 := v4177
  let v8836 : BitVec 32 := Scalar.addi c16_i32_4161 v4178
  let v8837 : Index := Scalar.indexCast v8836
  let c0_4163 : Index := 0#32
  ![28, v8837.toNat, 0]
def k0_off312 (k0_t2 : Fin k0_t2_loop.trips) : Fin 3 → Nat :=
  let c29_4222 : Index := 29#32
  let c16_i32_4221 : BitVec 32 := 16#32
  let c0_i32_2107 : BitVec 32 := 0#32
  let c1_i32_2108 : BitVec 32 := 1#32
  let arg18 : BitVec 32 := Scf.iv c0_i32_2107 c1_i32_2108 k0_t2
  let c32_i32 : BitVec 32 := 32#32
  let v4177 : BitVec 32 := Scalar.muli arg18 c32_i32
  let v4178 : BitVec 32 := v4177
  let v8991 : BitVec 32 := Scalar.addi c16_i32_4221 v4178
  let v8992 : Index := Scalar.indexCast v8991
  let c0_4223 : Index := 0#32
  ![29, v8992.toNat, 0]
def k0_off313 (k0_t2 : Fin k0_t2_loop.trips) : Fin 3 → Nat :=
  let c30_4282 : Index := 30#32
  let c16_i32_4281 : BitVec 32 := 16#32
  let c0_i32_2107 : BitVec 32 := 0#32
  let c1_i32_2108 : BitVec 32 := 1#32
  let arg18 : BitVec 32 := Scf.iv c0_i32_2107 c1_i32_2108 k0_t2
  let c32_i32 : BitVec 32 := 32#32
  let v4177 : BitVec 32 := Scalar.muli arg18 c32_i32
  let v4178 : BitVec 32 := v4177
  let v9146 : BitVec 32 := Scalar.addi c16_i32_4281 v4178
  let v9147 : Index := Scalar.indexCast v9146
  let c0_4283 : Index := 0#32
  ![30, v9147.toNat, 0]
def k0_off314 (k0_t2 : Fin k0_t2_loop.trips) : Fin 3 → Nat :=
  let c31_4342 : Index := 31#32
  let c16_i32_4341 : BitVec 32 := 16#32
  let c0_i32_2107 : BitVec 32 := 0#32
  let c1_i32_2108 : BitVec 32 := 1#32
  let arg18 : BitVec 32 := Scf.iv c0_i32_2107 c1_i32_2108 k0_t2
  let c32_i32 : BitVec 32 := 32#32
  let v4177 : BitVec 32 := Scalar.muli arg18 c32_i32
  let v4178 : BitVec 32 := v4177
  let v9301 : BitVec 32 := Scalar.addi c16_i32_4341 v4178
  let v9302 : Index := Scalar.indexCast v9301
  let c0_4343 : Index := 0#32
  ![31, v9302.toNat, 0]
def k0_off315 (k0_t2 : Fin k0_t2_loop.trips) : Fin 3 → Nat :=
  let c32_4402 : Index := 32#32
  let c16_i32_4401 : BitVec 32 := 16#32
  let c0_i32_2107 : BitVec 32 := 0#32
  let c1_i32_2108 : BitVec 32 := 1#32
  let arg18 : BitVec 32 := Scf.iv c0_i32_2107 c1_i32_2108 k0_t2
  let c32_i32 : BitVec 32 := 32#32
  let v4177 : BitVec 32 := Scalar.muli arg18 c32_i32
  let v4178 : BitVec 32 := v4177
  let v9456 : BitVec 32 := Scalar.addi c16_i32_4401 v4178
  let v9457 : Index := Scalar.indexCast v9456
  let c0_4403 : Index := 0#32
  ![32, v9457.toNat, 0]
def k0_off316 (k0_t2 : Fin k0_t2_loop.trips) : Fin 3 → Nat :=
  let c33_4463 : Index := 33#32
  let c16_i32_4462 : BitVec 32 := 16#32
  let c0_i32_2107 : BitVec 32 := 0#32
  let c1_i32_2108 : BitVec 32 := 1#32
  let arg18 : BitVec 32 := Scf.iv c0_i32_2107 c1_i32_2108 k0_t2
  let c32_i32 : BitVec 32 := 32#32
  let v4177 : BitVec 32 := Scalar.muli arg18 c32_i32
  let v4178 : BitVec 32 := v4177
  let v9611 : BitVec 32 := Scalar.addi c16_i32_4462 v4178
  let v9612 : Index := Scalar.indexCast v9611
  let c0_4464 : Index := 0#32
  ![33, v9612.toNat, 0]
def k0_off317 (k0_t2 : Fin k0_t2_loop.trips) : Fin 3 → Nat :=
  let c34_4523 : Index := 34#32
  let c16_i32_4522 : BitVec 32 := 16#32
  let c0_i32_2107 : BitVec 32 := 0#32
  let c1_i32_2108 : BitVec 32 := 1#32
  let arg18 : BitVec 32 := Scf.iv c0_i32_2107 c1_i32_2108 k0_t2
  let c32_i32 : BitVec 32 := 32#32
  let v4177 : BitVec 32 := Scalar.muli arg18 c32_i32
  let v4178 : BitVec 32 := v4177
  let v9766 : BitVec 32 := Scalar.addi c16_i32_4522 v4178
  let v9767 : Index := Scalar.indexCast v9766
  let c0_4524 : Index := 0#32
  ![34, v9767.toNat, 0]
def k0_off318 (k0_t2 : Fin k0_t2_loop.trips) : Fin 3 → Nat :=
  let c35_4583 : Index := 35#32
  let c16_i32_4582 : BitVec 32 := 16#32
  let c0_i32_2107 : BitVec 32 := 0#32
  let c1_i32_2108 : BitVec 32 := 1#32
  let arg18 : BitVec 32 := Scf.iv c0_i32_2107 c1_i32_2108 k0_t2
  let c32_i32 : BitVec 32 := 32#32
  let v4177 : BitVec 32 := Scalar.muli arg18 c32_i32
  let v4178 : BitVec 32 := v4177
  let v9921 : BitVec 32 := Scalar.addi c16_i32_4582 v4178
  let v9922 : Index := Scalar.indexCast v9921
  let c0_4584 : Index := 0#32
  ![35, v9922.toNat, 0]
def k0_off319 (k0_t2 : Fin k0_t2_loop.trips) : Fin 3 → Nat :=
  let c36_4643 : Index := 36#32
  let c16_i32_4642 : BitVec 32 := 16#32
  let c0_i32_2107 : BitVec 32 := 0#32
  let c1_i32_2108 : BitVec 32 := 1#32
  let arg18 : BitVec 32 := Scf.iv c0_i32_2107 c1_i32_2108 k0_t2
  let c32_i32 : BitVec 32 := 32#32
  let v4177 : BitVec 32 := Scalar.muli arg18 c32_i32
  let v4178 : BitVec 32 := v4177
  let v10076 : BitVec 32 := Scalar.addi c16_i32_4642 v4178
  let v10077 : Index := Scalar.indexCast v10076
  let c0_4644 : Index := 0#32
  ![36, v10077.toNat, 0]
def k0_off320 (k0_t2 : Fin k0_t2_loop.trips) : Fin 3 → Nat :=
  let c37_4703 : Index := 37#32
  let c16_i32_4702 : BitVec 32 := 16#32
  let c0_i32_2107 : BitVec 32 := 0#32
  let c1_i32_2108 : BitVec 32 := 1#32
  let arg18 : BitVec 32 := Scf.iv c0_i32_2107 c1_i32_2108 k0_t2
  let c32_i32 : BitVec 32 := 32#32
  let v4177 : BitVec 32 := Scalar.muli arg18 c32_i32
  let v4178 : BitVec 32 := v4177
  let v10231 : BitVec 32 := Scalar.addi c16_i32_4702 v4178
  let v10232 : Index := Scalar.indexCast v10231
  let c0_4704 : Index := 0#32
  ![37, v10232.toNat, 0]
def k0_off321 (k0_t2 : Fin k0_t2_loop.trips) : Fin 3 → Nat :=
  let c38_4763 : Index := 38#32
  let c16_i32_4762 : BitVec 32 := 16#32
  let c0_i32_2107 : BitVec 32 := 0#32
  let c1_i32_2108 : BitVec 32 := 1#32
  let arg18 : BitVec 32 := Scf.iv c0_i32_2107 c1_i32_2108 k0_t2
  let c32_i32 : BitVec 32 := 32#32
  let v4177 : BitVec 32 := Scalar.muli arg18 c32_i32
  let v4178 : BitVec 32 := v4177
  let v10386 : BitVec 32 := Scalar.addi c16_i32_4762 v4178
  let v10387 : Index := Scalar.indexCast v10386
  let c0_4764 : Index := 0#32
  ![38, v10387.toNat, 0]
def k0_off322 (k0_t2 : Fin k0_t2_loop.trips) : Fin 3 → Nat :=
  let c39_4823 : Index := 39#32
  let c16_i32_4822 : BitVec 32 := 16#32
  let c0_i32_2107 : BitVec 32 := 0#32
  let c1_i32_2108 : BitVec 32 := 1#32
  let arg18 : BitVec 32 := Scf.iv c0_i32_2107 c1_i32_2108 k0_t2
  let c32_i32 : BitVec 32 := 32#32
  let v4177 : BitVec 32 := Scalar.muli arg18 c32_i32
  let v4178 : BitVec 32 := v4177
  let v10541 : BitVec 32 := Scalar.addi c16_i32_4822 v4178
  let v10542 : Index := Scalar.indexCast v10541
  let c0_4824 : Index := 0#32
  ![39, v10542.toNat, 0]
def k0_off323 (k0_t2 : Fin k0_t2_loop.trips) : Fin 2 → Nat :=
  let c0_i32_2107 : BitVec 32 := 0#32
  let c1_i32_2108 : BitVec 32 := 1#32
  let arg18 : BitVec 32 := Scf.iv c0_i32_2107 c1_i32_2108 k0_t2
  let c32_i32 : BitVec 32 := 32#32
  let v4177 : BitVec 32 := Scalar.muli arg18 c32_i32
  let v4178 : BitVec 32 := v4177
  let v10550 : Index := Scalar.indexCast v4178
  let c0_4825 : Index := 0#32
  ![v10550.toNat, 0]
def k0_off324 (k0_t2 : Fin k0_t2_loop.trips) : Fin 2 → Nat :=
  let c0_i32_2107 : BitVec 32 := 0#32
  let c1_i32_2108 : BitVec 32 := 1#32
  let arg18 : BitVec 32 := Scf.iv c0_i32_2107 c1_i32_2108 k0_t2
  let c32_i32 : BitVec 32 := 32#32
  let v4177 : BitVec 32 := Scalar.muli arg18 c32_i32
  let v4178 : BitVec 32 := v4177
  let v10552 : Index := Scalar.indexCast v4178
  let c0_4826 : Index := 0#32
  ![v10552.toNat, 0]
def k0_off325 (k0_t2 : Fin k0_t2_loop.trips) : Fin 3 → Nat :=
  let c40_4828 : Index := 40#32
  let c16_i32_4827 : BitVec 32 := 16#32
  let c0_i32_2107 : BitVec 32 := 0#32
  let c1_i32_2108 : BitVec 32 := 1#32
  let arg18 : BitVec 32 := Scf.iv c0_i32_2107 c1_i32_2108 k0_t2
  let c32_i32 : BitVec 32 := 32#32
  let v4177 : BitVec 32 := Scalar.muli arg18 c32_i32
  let v4178 : BitVec 32 := v4177
  let v10557 : BitVec 32 := Scalar.addi c16_i32_4827 v4178
  let v10558 : Index := Scalar.indexCast v10557
  let c0_4829 : Index := 0#32
  ![40, v10558.toNat, 0]
@[reducible] def k0_t3_loop (i : grid0.Coords) (v3863 : BitVec 32) (v3867 : BitVec 32) (v3871 : BitVec 32) (v3875 : BitVec 32) (v3879 : BitVec 32) (v3883 : BitVec 32) (v3887 : BitVec 32) : Scf.Loop 32 :=
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let v4153 : BitVec 32 := Scalar.addi v3885 v3887
  let c15_i32 : BitVec 32 := 15#32
  let v4154 : BitVec 32 := Scalar.addi v4153 c15_i32
  let c0_i32_2363 : BitVec 32 := 0#32
  let v4156 : BitVec 1 := Scalar.cmpi .sgt v4154 c0_i32_2363
  let v4157 : BitVec 32 := Scalar.extui v4156
  let c0_i32_2364 : BitVec 32 := 0#32
  let v4158 : BitVec 1 := Scalar.cmpi .slt v4154 c0_i32_2364
  let v4159 : BitVec 32 := Scalar.extui v4158
  let v4160 : BitVec 32 := Scalar.subi v4157 v4159
  let c16_i32_2362 : BitVec 32 := 16#32
  let c0_i32_2365 : BitVec 32 := 0#32
  let v4161 : BitVec 1 := Scalar.cmpi .sgt c16_i32_2362 c0_i32_2365
  let v4162 : BitVec 32 := Scalar.extui v4161
  let c0_i32_2366 : BitVec 32 := 0#32
  let v4163 : BitVec 1 := Scalar.cmpi .slt c16_i32_2362 c0_i32_2366
  let v4164 : BitVec 32 := Scalar.extui v4163
  let v4165 : BitVec 32 := Scalar.subi v4162 v4164
  let v4166 : BitVec 1 := Scalar.cmpi .ne v4160 v4165
  let v4167 : BitVec 32 := Scalar.remsi v4154 c16_i32_2362
  let c0_i32_2367 : BitVec 32 := 0#32
  let v4168 : BitVec 1 := Scalar.cmpi .ne v4167 c0_i32_2367
  let v4169 : BitVec 1 := Scalar.andi v4166 v4168
  let v4155 : BitVec 32 := Scalar.divsi v4154 c16_i32_2362
  let c1_i32_2368 : BitVec 32 := 1#32
  let v4170 : BitVec 32 := Scalar.subi v4155 c1_i32_2368
  let v4171 : BitVec 32 := Scalar.select v4169 v4170 v4155
  let v4172 : BitVec 32 := Scalar.subi v4171 v4152
  let c1_i32_2370 : BitVec 32 := 1#32
  let v4174 : BitVec 32 := Scalar.divsi v4172 c1_i32_2370
  let v4175 : BitVec 32 := Scalar.muli v4174 c1_i32_2370
  let v4176 : BitVec 32 := Scalar.addi v4152 v4175
  let c1_i32_2371 : BitVec 32 := 1#32
  ⟨v4152, v4176, c1_i32_2371⟩

def k0_mult4 (i : grid0.Coords) (v3863 : BitVec 32) (v3867 : BitVec 32) (v3871 : BitVec 32) (v3875 : BitVec 32) (v3879 : BitVec 32) (v3883 : BitVec 32) (v3887 : BitVec 32) (k0_t3 : Fin (k0_t3_loop i v3863 v3867 v3871 v3875 v3879 v3883 v3887).trips) : BitVec 32 :=
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let c1_i32_2371 : BitVec 32 := 1#32
  let arg18 : BitVec 32 := Scf.iv v4152 c1_i32_2371 k0_t3
  let c16_i32_2373 : BitVec 32 := 16#32
  let v4177 : BitVec 32 := Scalar.muli arg18 c16_i32_2373
  v4177
def k0_off326 (i : grid0.Coords) (v3863 : BitVec 32) (v3867 : BitVec 32) (v3871 : BitVec 32) (v3875 : BitVec 32) (v3879 : BitVec 32) (v3883 : BitVec 32) (v3887 : BitVec 32) (k0_t3 : Fin (k0_t3_loop i v3863 v3867 v3871 v3875 v3879 v3883 v3887).trips) : Fin 2 → Nat :=
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let c1_i32_2371 : BitVec 32 := 1#32
  let arg18 : BitVec 32 := Scf.iv v4152 c1_i32_2371 k0_t3
  let c16_i32_2373 : BitVec 32 := 16#32
  let v4177 : BitVec 32 := Scalar.muli arg18 c16_i32_2373
  let v4178 : BitVec 32 := v4177
  let v4190 : Index := Scalar.indexCast v4178
  let c0_2375 : Index := 0#32
  ![v4190.toNat, 0]
def k0_off327 (i : grid0.Coords) (v3863 : BitVec 32) (v3867 : BitVec 32) (v3871 : BitVec 32) (v3875 : BitVec 32) (v3879 : BitVec 32) (v3883 : BitVec 32) (v3887 : BitVec 32) (k0_t3 : Fin (k0_t3_loop i v3863 v3867 v3871 v3875 v3879 v3883 v3887).trips) : Fin 3 → Nat :=
  let c0_2376 : Index := 0#32
  let c16_i32_2374 : BitVec 32 := 16#32
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let c1_i32_2371 : BitVec 32 := 1#32
  let arg18 : BitVec 32 := Scf.iv v4152 c1_i32_2371 k0_t3
  let c16_i32_2373 : BitVec 32 := 16#32
  let v4177 : BitVec 32 := Scalar.muli arg18 c16_i32_2373
  let v4178 : BitVec 32 := v4177
  let v4179 : BitVec 32 := Scalar.addi c16_i32_2374 v4178
  let v4180 : BitVec 32 := Scalar.subi v4179 v3885
  let v4194 : Index := Scalar.indexCast v4180
  let c0_2377 : Index := 0#32
  ![0, v4194.toNat, 0]
def k0_off328 (i : grid0.Coords) (v3863 : BitVec 32) (v3867 : BitVec 32) (v3871 : BitVec 32) (v3875 : BitVec 32) (v3879 : BitVec 32) (v3883 : BitVec 32) (v3887 : BitVec 32) (k0_t3 : Fin (k0_t3_loop i v3863 v3867 v3871 v3875 v3879 v3883 v3887).trips) : Fin 2 → Nat :=
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let c1_i32_2371 : BitVec 32 := 1#32
  let arg18 : BitVec 32 := Scf.iv v4152 c1_i32_2371 k0_t3
  let c16_i32_2373 : BitVec 32 := 16#32
  let v4177 : BitVec 32 := Scalar.muli arg18 c16_i32_2373
  let v4178 : BitVec 32 := v4177
  let v4201 : Index := Scalar.indexCast v4178
  let c128_2379 : Index := 128#32
  ![v4201.toNat, 128]
def k0_off329 (i : grid0.Coords) (v3863 : BitVec 32) (v3867 : BitVec 32) (v3871 : BitVec 32) (v3875 : BitVec 32) (v3879 : BitVec 32) (v3883 : BitVec 32) (v3887 : BitVec 32) (k0_t3 : Fin (k0_t3_loop i v3863 v3867 v3871 v3875 v3879 v3883 v3887).trips) : Fin 3 → Nat :=
  let c1_2380 : Index := 1#32
  let c16_i32_2374 : BitVec 32 := 16#32
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let c1_i32_2371 : BitVec 32 := 1#32
  let arg18 : BitVec 32 := Scf.iv v4152 c1_i32_2371 k0_t3
  let c16_i32_2373 : BitVec 32 := 16#32
  let v4177 : BitVec 32 := Scalar.muli arg18 c16_i32_2373
  let v4178 : BitVec 32 := v4177
  let v4179 : BitVec 32 := Scalar.addi c16_i32_2374 v4178
  let v4180 : BitVec 32 := Scalar.subi v4179 v3885
  let v4205 : Index := Scalar.indexCast v4180
  let c0_2381 : Index := 0#32
  ![1, v4205.toNat, 0]
def k0_off330 (i : grid0.Coords) (v3863 : BitVec 32) (v3867 : BitVec 32) (v3871 : BitVec 32) (v3875 : BitVec 32) (v3879 : BitVec 32) (v3883 : BitVec 32) (v3887 : BitVec 32) (k0_t3 : Fin (k0_t3_loop i v3863 v3867 v3871 v3875 v3879 v3883 v3887).trips) : Fin 2 → Nat :=
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let c1_i32_2371 : BitVec 32 := 1#32
  let arg18 : BitVec 32 := Scf.iv v4152 c1_i32_2371 k0_t3
  let c16_i32_2373 : BitVec 32 := 16#32
  let v4177 : BitVec 32 := Scalar.muli arg18 c16_i32_2373
  let v4178 : BitVec 32 := v4177
  let v4212 : Index := Scalar.indexCast v4178
  let c256_2383 : Index := 256#32
  ![v4212.toNat, 256]
def k0_off331 (i : grid0.Coords) (v3863 : BitVec 32) (v3867 : BitVec 32) (v3871 : BitVec 32) (v3875 : BitVec 32) (v3879 : BitVec 32) (v3883 : BitVec 32) (v3887 : BitVec 32) (k0_t3 : Fin (k0_t3_loop i v3863 v3867 v3871 v3875 v3879 v3883 v3887).trips) : Fin 3 → Nat :=
  let c2_2384 : Index := 2#32
  let c16_i32_2374 : BitVec 32 := 16#32
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let c1_i32_2371 : BitVec 32 := 1#32
  let arg18 : BitVec 32 := Scf.iv v4152 c1_i32_2371 k0_t3
  let c16_i32_2373 : BitVec 32 := 16#32
  let v4177 : BitVec 32 := Scalar.muli arg18 c16_i32_2373
  let v4178 : BitVec 32 := v4177
  let v4179 : BitVec 32 := Scalar.addi c16_i32_2374 v4178
  let v4180 : BitVec 32 := Scalar.subi v4179 v3885
  let v4216 : Index := Scalar.indexCast v4180
  let c0_2385 : Index := 0#32
  ![2, v4216.toNat, 0]
def k0_off332 (i : grid0.Coords) (v3863 : BitVec 32) (v3867 : BitVec 32) (v3871 : BitVec 32) (v3875 : BitVec 32) (v3879 : BitVec 32) (v3883 : BitVec 32) (v3887 : BitVec 32) (k0_t3 : Fin (k0_t3_loop i v3863 v3867 v3871 v3875 v3879 v3883 v3887).trips) : Fin 2 → Nat :=
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let c1_i32_2371 : BitVec 32 := 1#32
  let arg18 : BitVec 32 := Scf.iv v4152 c1_i32_2371 k0_t3
  let c16_i32_2373 : BitVec 32 := 16#32
  let v4177 : BitVec 32 := Scalar.muli arg18 c16_i32_2373
  let v4178 : BitVec 32 := v4177
  let v4223 : Index := Scalar.indexCast v4178
  let c384_2387 : Index := 384#32
  ![v4223.toNat, 384]
def k0_off333 (i : grid0.Coords) (v3863 : BitVec 32) (v3867 : BitVec 32) (v3871 : BitVec 32) (v3875 : BitVec 32) (v3879 : BitVec 32) (v3883 : BitVec 32) (v3887 : BitVec 32) (k0_t3 : Fin (k0_t3_loop i v3863 v3867 v3871 v3875 v3879 v3883 v3887).trips) : Fin 3 → Nat :=
  let c3_2388 : Index := 3#32
  let c16_i32_2374 : BitVec 32 := 16#32
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let c1_i32_2371 : BitVec 32 := 1#32
  let arg18 : BitVec 32 := Scf.iv v4152 c1_i32_2371 k0_t3
  let c16_i32_2373 : BitVec 32 := 16#32
  let v4177 : BitVec 32 := Scalar.muli arg18 c16_i32_2373
  let v4178 : BitVec 32 := v4177
  let v4179 : BitVec 32 := Scalar.addi c16_i32_2374 v4178
  let v4180 : BitVec 32 := Scalar.subi v4179 v3885
  let v4227 : Index := Scalar.indexCast v4180
  let c0_2389 : Index := 0#32
  ![3, v4227.toNat, 0]
def k0_off334 (i : grid0.Coords) (v3863 : BitVec 32) (v3867 : BitVec 32) (v3871 : BitVec 32) (v3875 : BitVec 32) (v3879 : BitVec 32) (v3883 : BitVec 32) (v3887 : BitVec 32) (k0_t3 : Fin (k0_t3_loop i v3863 v3867 v3871 v3875 v3879 v3883 v3887).trips) : Fin 2 → Nat :=
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let c1_i32_2371 : BitVec 32 := 1#32
  let arg18 : BitVec 32 := Scf.iv v4152 c1_i32_2371 k0_t3
  let c16_i32_2373 : BitVec 32 := 16#32
  let v4177 : BitVec 32 := Scalar.muli arg18 c16_i32_2373
  let v4178 : BitVec 32 := v4177
  let v4234 : Index := Scalar.indexCast v4178
  let c512_2391 : Index := 512#32
  ![v4234.toNat, 512]
def k0_off335 (i : grid0.Coords) (v3863 : BitVec 32) (v3867 : BitVec 32) (v3871 : BitVec 32) (v3875 : BitVec 32) (v3879 : BitVec 32) (v3883 : BitVec 32) (v3887 : BitVec 32) (k0_t3 : Fin (k0_t3_loop i v3863 v3867 v3871 v3875 v3879 v3883 v3887).trips) : Fin 3 → Nat :=
  let c4_2392 : Index := 4#32
  let c16_i32_2374 : BitVec 32 := 16#32
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let c1_i32_2371 : BitVec 32 := 1#32
  let arg18 : BitVec 32 := Scf.iv v4152 c1_i32_2371 k0_t3
  let c16_i32_2373 : BitVec 32 := 16#32
  let v4177 : BitVec 32 := Scalar.muli arg18 c16_i32_2373
  let v4178 : BitVec 32 := v4177
  let v4179 : BitVec 32 := Scalar.addi c16_i32_2374 v4178
  let v4180 : BitVec 32 := Scalar.subi v4179 v3885
  let v4238 : Index := Scalar.indexCast v4180
  let c0_2393 : Index := 0#32
  ![4, v4238.toNat, 0]
def k0_off336 (i : grid0.Coords) (v3863 : BitVec 32) (v3867 : BitVec 32) (v3871 : BitVec 32) (v3875 : BitVec 32) (v3879 : BitVec 32) (v3883 : BitVec 32) (v3887 : BitVec 32) (k0_t3 : Fin (k0_t3_loop i v3863 v3867 v3871 v3875 v3879 v3883 v3887).trips) : Fin 2 → Nat :=
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let c1_i32_2371 : BitVec 32 := 1#32
  let arg18 : BitVec 32 := Scf.iv v4152 c1_i32_2371 k0_t3
  let c16_i32_2373 : BitVec 32 := 16#32
  let v4177 : BitVec 32 := Scalar.muli arg18 c16_i32_2373
  let v4178 : BitVec 32 := v4177
  let v4245 : Index := Scalar.indexCast v4178
  let c640_2395 : Index := 640#32
  ![v4245.toNat, 640]
def k0_off337 (i : grid0.Coords) (v3863 : BitVec 32) (v3867 : BitVec 32) (v3871 : BitVec 32) (v3875 : BitVec 32) (v3879 : BitVec 32) (v3883 : BitVec 32) (v3887 : BitVec 32) (k0_t3 : Fin (k0_t3_loop i v3863 v3867 v3871 v3875 v3879 v3883 v3887).trips) : Fin 3 → Nat :=
  let c5_2396 : Index := 5#32
  let c16_i32_2374 : BitVec 32 := 16#32
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let c1_i32_2371 : BitVec 32 := 1#32
  let arg18 : BitVec 32 := Scf.iv v4152 c1_i32_2371 k0_t3
  let c16_i32_2373 : BitVec 32 := 16#32
  let v4177 : BitVec 32 := Scalar.muli arg18 c16_i32_2373
  let v4178 : BitVec 32 := v4177
  let v4179 : BitVec 32 := Scalar.addi c16_i32_2374 v4178
  let v4180 : BitVec 32 := Scalar.subi v4179 v3885
  let v4249 : Index := Scalar.indexCast v4180
  let c0_2397 : Index := 0#32
  ![5, v4249.toNat, 0]
def k0_off338 (i : grid0.Coords) (v3863 : BitVec 32) (v3867 : BitVec 32) (v3871 : BitVec 32) (v3875 : BitVec 32) (v3879 : BitVec 32) (v3883 : BitVec 32) (v3887 : BitVec 32) (k0_t3 : Fin (k0_t3_loop i v3863 v3867 v3871 v3875 v3879 v3883 v3887).trips) : Fin 2 → Nat :=
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let c1_i32_2371 : BitVec 32 := 1#32
  let arg18 : BitVec 32 := Scf.iv v4152 c1_i32_2371 k0_t3
  let c16_i32_2373 : BitVec 32 := 16#32
  let v4177 : BitVec 32 := Scalar.muli arg18 c16_i32_2373
  let v4178 : BitVec 32 := v4177
  let v4256 : Index := Scalar.indexCast v4178
  let c768_2399 : Index := 768#32
  ![v4256.toNat, 768]
def k0_off339 (i : grid0.Coords) (v3863 : BitVec 32) (v3867 : BitVec 32) (v3871 : BitVec 32) (v3875 : BitVec 32) (v3879 : BitVec 32) (v3883 : BitVec 32) (v3887 : BitVec 32) (k0_t3 : Fin (k0_t3_loop i v3863 v3867 v3871 v3875 v3879 v3883 v3887).trips) : Fin 3 → Nat :=
  let c6_2400 : Index := 6#32
  let c16_i32_2374 : BitVec 32 := 16#32
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let c1_i32_2371 : BitVec 32 := 1#32
  let arg18 : BitVec 32 := Scf.iv v4152 c1_i32_2371 k0_t3
  let c16_i32_2373 : BitVec 32 := 16#32
  let v4177 : BitVec 32 := Scalar.muli arg18 c16_i32_2373
  let v4178 : BitVec 32 := v4177
  let v4179 : BitVec 32 := Scalar.addi c16_i32_2374 v4178
  let v4180 : BitVec 32 := Scalar.subi v4179 v3885
  let v4260 : Index := Scalar.indexCast v4180
  let c0_2401 : Index := 0#32
  ![6, v4260.toNat, 0]
def k0_off340 (i : grid0.Coords) (v3863 : BitVec 32) (v3867 : BitVec 32) (v3871 : BitVec 32) (v3875 : BitVec 32) (v3879 : BitVec 32) (v3883 : BitVec 32) (v3887 : BitVec 32) (k0_t3 : Fin (k0_t3_loop i v3863 v3867 v3871 v3875 v3879 v3883 v3887).trips) : Fin 2 → Nat :=
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let c1_i32_2371 : BitVec 32 := 1#32
  let arg18 : BitVec 32 := Scf.iv v4152 c1_i32_2371 k0_t3
  let c16_i32_2373 : BitVec 32 := 16#32
  let v4177 : BitVec 32 := Scalar.muli arg18 c16_i32_2373
  let v4178 : BitVec 32 := v4177
  let v4267 : Index := Scalar.indexCast v4178
  let c896_2403 : Index := 896#32
  ![v4267.toNat, 896]
def k0_off341 (i : grid0.Coords) (v3863 : BitVec 32) (v3867 : BitVec 32) (v3871 : BitVec 32) (v3875 : BitVec 32) (v3879 : BitVec 32) (v3883 : BitVec 32) (v3887 : BitVec 32) (k0_t3 : Fin (k0_t3_loop i v3863 v3867 v3871 v3875 v3879 v3883 v3887).trips) : Fin 3 → Nat :=
  let c7_2404 : Index := 7#32
  let c16_i32_2374 : BitVec 32 := 16#32
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let c1_i32_2371 : BitVec 32 := 1#32
  let arg18 : BitVec 32 := Scf.iv v4152 c1_i32_2371 k0_t3
  let c16_i32_2373 : BitVec 32 := 16#32
  let v4177 : BitVec 32 := Scalar.muli arg18 c16_i32_2373
  let v4178 : BitVec 32 := v4177
  let v4179 : BitVec 32 := Scalar.addi c16_i32_2374 v4178
  let v4180 : BitVec 32 := Scalar.subi v4179 v3885
  let v4271 : Index := Scalar.indexCast v4180
  let c0_2405 : Index := 0#32
  ![7, v4271.toNat, 0]
def k0_off342 (i : grid0.Coords) (v3863 : BitVec 32) (v3867 : BitVec 32) (v3871 : BitVec 32) (v3875 : BitVec 32) (v3879 : BitVec 32) (v3883 : BitVec 32) (v3887 : BitVec 32) (k0_t3 : Fin (k0_t3_loop i v3863 v3867 v3871 v3875 v3879 v3883 v3887).trips) : Fin 2 → Nat :=
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let c1_i32_2371 : BitVec 32 := 1#32
  let arg18 : BitVec 32 := Scf.iv v4152 c1_i32_2371 k0_t3
  let c16_i32_2373 : BitVec 32 := 16#32
  let v4177 : BitVec 32 := Scalar.muli arg18 c16_i32_2373
  let v4178 : BitVec 32 := v4177
  let v4278 : Index := Scalar.indexCast v4178
  let c1024_2407 : Index := 1024#32
  ![v4278.toNat, 1024]
def k0_off343 (i : grid0.Coords) (v3863 : BitVec 32) (v3867 : BitVec 32) (v3871 : BitVec 32) (v3875 : BitVec 32) (v3879 : BitVec 32) (v3883 : BitVec 32) (v3887 : BitVec 32) (k0_t3 : Fin (k0_t3_loop i v3863 v3867 v3871 v3875 v3879 v3883 v3887).trips) : Fin 3 → Nat :=
  let c8_2408 : Index := 8#32
  let c16_i32_2374 : BitVec 32 := 16#32
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let c1_i32_2371 : BitVec 32 := 1#32
  let arg18 : BitVec 32 := Scf.iv v4152 c1_i32_2371 k0_t3
  let c16_i32_2373 : BitVec 32 := 16#32
  let v4177 : BitVec 32 := Scalar.muli arg18 c16_i32_2373
  let v4178 : BitVec 32 := v4177
  let v4179 : BitVec 32 := Scalar.addi c16_i32_2374 v4178
  let v4180 : BitVec 32 := Scalar.subi v4179 v3885
  let v4282 : Index := Scalar.indexCast v4180
  let c0_2409 : Index := 0#32
  ![8, v4282.toNat, 0]
def k0_off344 (i : grid0.Coords) (v3863 : BitVec 32) (v3867 : BitVec 32) (v3871 : BitVec 32) (v3875 : BitVec 32) (v3879 : BitVec 32) (v3883 : BitVec 32) (v3887 : BitVec 32) (k0_t3 : Fin (k0_t3_loop i v3863 v3867 v3871 v3875 v3879 v3883 v3887).trips) : Fin 2 → Nat :=
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let c1_i32_2371 : BitVec 32 := 1#32
  let arg18 : BitVec 32 := Scf.iv v4152 c1_i32_2371 k0_t3
  let c16_i32_2373 : BitVec 32 := 16#32
  let v4177 : BitVec 32 := Scalar.muli arg18 c16_i32_2373
  let v4178 : BitVec 32 := v4177
  let v4289 : Index := Scalar.indexCast v4178
  let c1152_2411 : Index := 1152#32
  ![v4289.toNat, 1152]
def k0_off345 (i : grid0.Coords) (v3863 : BitVec 32) (v3867 : BitVec 32) (v3871 : BitVec 32) (v3875 : BitVec 32) (v3879 : BitVec 32) (v3883 : BitVec 32) (v3887 : BitVec 32) (k0_t3 : Fin (k0_t3_loop i v3863 v3867 v3871 v3875 v3879 v3883 v3887).trips) : Fin 3 → Nat :=
  let c9_2412 : Index := 9#32
  let c16_i32_2374 : BitVec 32 := 16#32
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let c1_i32_2371 : BitVec 32 := 1#32
  let arg18 : BitVec 32 := Scf.iv v4152 c1_i32_2371 k0_t3
  let c16_i32_2373 : BitVec 32 := 16#32
  let v4177 : BitVec 32 := Scalar.muli arg18 c16_i32_2373
  let v4178 : BitVec 32 := v4177
  let v4179 : BitVec 32 := Scalar.addi c16_i32_2374 v4178
  let v4180 : BitVec 32 := Scalar.subi v4179 v3885
  let v4293 : Index := Scalar.indexCast v4180
  let c0_2413 : Index := 0#32
  ![9, v4293.toNat, 0]
def k0_off346 (i : grid0.Coords) (v3863 : BitVec 32) (v3867 : BitVec 32) (v3871 : BitVec 32) (v3875 : BitVec 32) (v3879 : BitVec 32) (v3883 : BitVec 32) (v3887 : BitVec 32) (k0_t3 : Fin (k0_t3_loop i v3863 v3867 v3871 v3875 v3879 v3883 v3887).trips) : Fin 2 → Nat :=
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let c1_i32_2371 : BitVec 32 := 1#32
  let arg18 : BitVec 32 := Scf.iv v4152 c1_i32_2371 k0_t3
  let c16_i32_2373 : BitVec 32 := 16#32
  let v4177 : BitVec 32 := Scalar.muli arg18 c16_i32_2373
  let v4178 : BitVec 32 := v4177
  let v4300 : Index := Scalar.indexCast v4178
  let c1280_2415 : Index := 1280#32
  ![v4300.toNat, 1280]
def k0_off347 (i : grid0.Coords) (v3863 : BitVec 32) (v3867 : BitVec 32) (v3871 : BitVec 32) (v3875 : BitVec 32) (v3879 : BitVec 32) (v3883 : BitVec 32) (v3887 : BitVec 32) (k0_t3 : Fin (k0_t3_loop i v3863 v3867 v3871 v3875 v3879 v3883 v3887).trips) : Fin 3 → Nat :=
  let c10_2416 : Index := 10#32
  let c16_i32_2374 : BitVec 32 := 16#32
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let c1_i32_2371 : BitVec 32 := 1#32
  let arg18 : BitVec 32 := Scf.iv v4152 c1_i32_2371 k0_t3
  let c16_i32_2373 : BitVec 32 := 16#32
  let v4177 : BitVec 32 := Scalar.muli arg18 c16_i32_2373
  let v4178 : BitVec 32 := v4177
  let v4179 : BitVec 32 := Scalar.addi c16_i32_2374 v4178
  let v4180 : BitVec 32 := Scalar.subi v4179 v3885
  let v4304 : Index := Scalar.indexCast v4180
  let c0_2417 : Index := 0#32
  ![10, v4304.toNat, 0]
def k0_off348 (i : grid0.Coords) (v3863 : BitVec 32) (v3867 : BitVec 32) (v3871 : BitVec 32) (v3875 : BitVec 32) (v3879 : BitVec 32) (v3883 : BitVec 32) (v3887 : BitVec 32) (k0_t3 : Fin (k0_t3_loop i v3863 v3867 v3871 v3875 v3879 v3883 v3887).trips) : Fin 2 → Nat :=
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let c1_i32_2371 : BitVec 32 := 1#32
  let arg18 : BitVec 32 := Scf.iv v4152 c1_i32_2371 k0_t3
  let c16_i32_2373 : BitVec 32 := 16#32
  let v4177 : BitVec 32 := Scalar.muli arg18 c16_i32_2373
  let v4178 : BitVec 32 := v4177
  let v4311 : Index := Scalar.indexCast v4178
  let c1408_2419 : Index := 1408#32
  ![v4311.toNat, 1408]
def k0_off349 (i : grid0.Coords) (v3863 : BitVec 32) (v3867 : BitVec 32) (v3871 : BitVec 32) (v3875 : BitVec 32) (v3879 : BitVec 32) (v3883 : BitVec 32) (v3887 : BitVec 32) (k0_t3 : Fin (k0_t3_loop i v3863 v3867 v3871 v3875 v3879 v3883 v3887).trips) : Fin 3 → Nat :=
  let c11_2420 : Index := 11#32
  let c16_i32_2374 : BitVec 32 := 16#32
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let c1_i32_2371 : BitVec 32 := 1#32
  let arg18 : BitVec 32 := Scf.iv v4152 c1_i32_2371 k0_t3
  let c16_i32_2373 : BitVec 32 := 16#32
  let v4177 : BitVec 32 := Scalar.muli arg18 c16_i32_2373
  let v4178 : BitVec 32 := v4177
  let v4179 : BitVec 32 := Scalar.addi c16_i32_2374 v4178
  let v4180 : BitVec 32 := Scalar.subi v4179 v3885
  let v4315 : Index := Scalar.indexCast v4180
  let c0_2421 : Index := 0#32
  ![11, v4315.toNat, 0]
def k0_off350 (i : grid0.Coords) (v3863 : BitVec 32) (v3867 : BitVec 32) (v3871 : BitVec 32) (v3875 : BitVec 32) (v3879 : BitVec 32) (v3883 : BitVec 32) (v3887 : BitVec 32) (k0_t3 : Fin (k0_t3_loop i v3863 v3867 v3871 v3875 v3879 v3883 v3887).trips) : Fin 2 → Nat :=
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let c1_i32_2371 : BitVec 32 := 1#32
  let arg18 : BitVec 32 := Scf.iv v4152 c1_i32_2371 k0_t3
  let c16_i32_2373 : BitVec 32 := 16#32
  let v4177 : BitVec 32 := Scalar.muli arg18 c16_i32_2373
  let v4178 : BitVec 32 := v4177
  let v4322 : Index := Scalar.indexCast v4178
  let c1536_2423 : Index := 1536#32
  ![v4322.toNat, 1536]
def k0_off351 (i : grid0.Coords) (v3863 : BitVec 32) (v3867 : BitVec 32) (v3871 : BitVec 32) (v3875 : BitVec 32) (v3879 : BitVec 32) (v3883 : BitVec 32) (v3887 : BitVec 32) (k0_t3 : Fin (k0_t3_loop i v3863 v3867 v3871 v3875 v3879 v3883 v3887).trips) : Fin 3 → Nat :=
  let c12_2424 : Index := 12#32
  let c16_i32_2374 : BitVec 32 := 16#32
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let c1_i32_2371 : BitVec 32 := 1#32
  let arg18 : BitVec 32 := Scf.iv v4152 c1_i32_2371 k0_t3
  let c16_i32_2373 : BitVec 32 := 16#32
  let v4177 : BitVec 32 := Scalar.muli arg18 c16_i32_2373
  let v4178 : BitVec 32 := v4177
  let v4179 : BitVec 32 := Scalar.addi c16_i32_2374 v4178
  let v4180 : BitVec 32 := Scalar.subi v4179 v3885
  let v4326 : Index := Scalar.indexCast v4180
  let c0_2425 : Index := 0#32
  ![12, v4326.toNat, 0]
def k0_off352 (i : grid0.Coords) (v3863 : BitVec 32) (v3867 : BitVec 32) (v3871 : BitVec 32) (v3875 : BitVec 32) (v3879 : BitVec 32) (v3883 : BitVec 32) (v3887 : BitVec 32) (k0_t3 : Fin (k0_t3_loop i v3863 v3867 v3871 v3875 v3879 v3883 v3887).trips) : Fin 2 → Nat :=
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let c1_i32_2371 : BitVec 32 := 1#32
  let arg18 : BitVec 32 := Scf.iv v4152 c1_i32_2371 k0_t3
  let c16_i32_2373 : BitVec 32 := 16#32
  let v4177 : BitVec 32 := Scalar.muli arg18 c16_i32_2373
  let v4178 : BitVec 32 := v4177
  let v4333 : Index := Scalar.indexCast v4178
  let c1664_2427 : Index := 1664#32
  ![v4333.toNat, 1664]
def k0_off353 (i : grid0.Coords) (v3863 : BitVec 32) (v3867 : BitVec 32) (v3871 : BitVec 32) (v3875 : BitVec 32) (v3879 : BitVec 32) (v3883 : BitVec 32) (v3887 : BitVec 32) (k0_t3 : Fin (k0_t3_loop i v3863 v3867 v3871 v3875 v3879 v3883 v3887).trips) : Fin 3 → Nat :=
  let c13_2428 : Index := 13#32
  let c16_i32_2374 : BitVec 32 := 16#32
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let c1_i32_2371 : BitVec 32 := 1#32
  let arg18 : BitVec 32 := Scf.iv v4152 c1_i32_2371 k0_t3
  let c16_i32_2373 : BitVec 32 := 16#32
  let v4177 : BitVec 32 := Scalar.muli arg18 c16_i32_2373
  let v4178 : BitVec 32 := v4177
  let v4179 : BitVec 32 := Scalar.addi c16_i32_2374 v4178
  let v4180 : BitVec 32 := Scalar.subi v4179 v3885
  let v4337 : Index := Scalar.indexCast v4180
  let c0_2429 : Index := 0#32
  ![13, v4337.toNat, 0]
def k0_off354 (i : grid0.Coords) (v3863 : BitVec 32) (v3867 : BitVec 32) (v3871 : BitVec 32) (v3875 : BitVec 32) (v3879 : BitVec 32) (v3883 : BitVec 32) (v3887 : BitVec 32) (k0_t3 : Fin (k0_t3_loop i v3863 v3867 v3871 v3875 v3879 v3883 v3887).trips) : Fin 2 → Nat :=
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let c1_i32_2371 : BitVec 32 := 1#32
  let arg18 : BitVec 32 := Scf.iv v4152 c1_i32_2371 k0_t3
  let c16_i32_2373 : BitVec 32 := 16#32
  let v4177 : BitVec 32 := Scalar.muli arg18 c16_i32_2373
  let v4178 : BitVec 32 := v4177
  let v4344 : Index := Scalar.indexCast v4178
  let c1792_2431 : Index := 1792#32
  ![v4344.toNat, 1792]
def k0_off355 (i : grid0.Coords) (v3863 : BitVec 32) (v3867 : BitVec 32) (v3871 : BitVec 32) (v3875 : BitVec 32) (v3879 : BitVec 32) (v3883 : BitVec 32) (v3887 : BitVec 32) (k0_t3 : Fin (k0_t3_loop i v3863 v3867 v3871 v3875 v3879 v3883 v3887).trips) : Fin 3 → Nat :=
  let c14_2432 : Index := 14#32
  let c16_i32_2374 : BitVec 32 := 16#32
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let c1_i32_2371 : BitVec 32 := 1#32
  let arg18 : BitVec 32 := Scf.iv v4152 c1_i32_2371 k0_t3
  let c16_i32_2373 : BitVec 32 := 16#32
  let v4177 : BitVec 32 := Scalar.muli arg18 c16_i32_2373
  let v4178 : BitVec 32 := v4177
  let v4179 : BitVec 32 := Scalar.addi c16_i32_2374 v4178
  let v4180 : BitVec 32 := Scalar.subi v4179 v3885
  let v4348 : Index := Scalar.indexCast v4180
  let c0_2433 : Index := 0#32
  ![14, v4348.toNat, 0]
def k0_off356 (i : grid0.Coords) (v3863 : BitVec 32) (v3867 : BitVec 32) (v3871 : BitVec 32) (v3875 : BitVec 32) (v3879 : BitVec 32) (v3883 : BitVec 32) (v3887 : BitVec 32) (k0_t3 : Fin (k0_t3_loop i v3863 v3867 v3871 v3875 v3879 v3883 v3887).trips) : Fin 2 → Nat :=
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let c1_i32_2371 : BitVec 32 := 1#32
  let arg18 : BitVec 32 := Scf.iv v4152 c1_i32_2371 k0_t3
  let c16_i32_2373 : BitVec 32 := 16#32
  let v4177 : BitVec 32 := Scalar.muli arg18 c16_i32_2373
  let v4178 : BitVec 32 := v4177
  let v4355 : Index := Scalar.indexCast v4178
  let c1920_2435 : Index := 1920#32
  ![v4355.toNat, 1920]
def k0_off357 (i : grid0.Coords) (v3863 : BitVec 32) (v3867 : BitVec 32) (v3871 : BitVec 32) (v3875 : BitVec 32) (v3879 : BitVec 32) (v3883 : BitVec 32) (v3887 : BitVec 32) (k0_t3 : Fin (k0_t3_loop i v3863 v3867 v3871 v3875 v3879 v3883 v3887).trips) : Fin 3 → Nat :=
  let c15_2436 : Index := 15#32
  let c16_i32_2374 : BitVec 32 := 16#32
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let c1_i32_2371 : BitVec 32 := 1#32
  let arg18 : BitVec 32 := Scf.iv v4152 c1_i32_2371 k0_t3
  let c16_i32_2373 : BitVec 32 := 16#32
  let v4177 : BitVec 32 := Scalar.muli arg18 c16_i32_2373
  let v4178 : BitVec 32 := v4177
  let v4179 : BitVec 32 := Scalar.addi c16_i32_2374 v4178
  let v4180 : BitVec 32 := Scalar.subi v4179 v3885
  let v4359 : Index := Scalar.indexCast v4180
  let c0_2437 : Index := 0#32
  ![15, v4359.toNat, 0]
def k0_off358 (i : grid0.Coords) (v3863 : BitVec 32) (v3867 : BitVec 32) (v3871 : BitVec 32) (v3875 : BitVec 32) (v3879 : BitVec 32) (v3883 : BitVec 32) (v3887 : BitVec 32) (k0_t3 : Fin (k0_t3_loop i v3863 v3867 v3871 v3875 v3879 v3883 v3887).trips) : Fin 2 → Nat :=
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let c1_i32_2371 : BitVec 32 := 1#32
  let arg18 : BitVec 32 := Scf.iv v4152 c1_i32_2371 k0_t3
  let c16_i32_2373 : BitVec 32 := 16#32
  let v4177 : BitVec 32 := Scalar.muli arg18 c16_i32_2373
  let v4178 : BitVec 32 := v4177
  let v4366 : Index := Scalar.indexCast v4178
  let c2048_2439 : Index := 2048#32
  ![v4366.toNat, 2048]
def k0_off359 (i : grid0.Coords) (v3863 : BitVec 32) (v3867 : BitVec 32) (v3871 : BitVec 32) (v3875 : BitVec 32) (v3879 : BitVec 32) (v3883 : BitVec 32) (v3887 : BitVec 32) (k0_t3 : Fin (k0_t3_loop i v3863 v3867 v3871 v3875 v3879 v3883 v3887).trips) : Fin 3 → Nat :=
  let c16_2440 : Index := 16#32
  let c16_i32_2374 : BitVec 32 := 16#32
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let c1_i32_2371 : BitVec 32 := 1#32
  let arg18 : BitVec 32 := Scf.iv v4152 c1_i32_2371 k0_t3
  let c16_i32_2373 : BitVec 32 := 16#32
  let v4177 : BitVec 32 := Scalar.muli arg18 c16_i32_2373
  let v4178 : BitVec 32 := v4177
  let v4179 : BitVec 32 := Scalar.addi c16_i32_2374 v4178
  let v4180 : BitVec 32 := Scalar.subi v4179 v3885
  let v4370 : Index := Scalar.indexCast v4180
  let c0_2441 : Index := 0#32
  ![16, v4370.toNat, 0]
def k0_off360 (i : grid0.Coords) (v3863 : BitVec 32) (v3867 : BitVec 32) (v3871 : BitVec 32) (v3875 : BitVec 32) (v3879 : BitVec 32) (v3883 : BitVec 32) (v3887 : BitVec 32) (k0_t3 : Fin (k0_t3_loop i v3863 v3867 v3871 v3875 v3879 v3883 v3887).trips) : Fin 2 → Nat :=
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let c1_i32_2371 : BitVec 32 := 1#32
  let arg18 : BitVec 32 := Scf.iv v4152 c1_i32_2371 k0_t3
  let c16_i32_2373 : BitVec 32 := 16#32
  let v4177 : BitVec 32 := Scalar.muli arg18 c16_i32_2373
  let v4178 : BitVec 32 := v4177
  let v4377 : Index := Scalar.indexCast v4178
  let c2176_2443 : Index := 2176#32
  ![v4377.toNat, 2176]
def k0_off361 (i : grid0.Coords) (v3863 : BitVec 32) (v3867 : BitVec 32) (v3871 : BitVec 32) (v3875 : BitVec 32) (v3879 : BitVec 32) (v3883 : BitVec 32) (v3887 : BitVec 32) (k0_t3 : Fin (k0_t3_loop i v3863 v3867 v3871 v3875 v3879 v3883 v3887).trips) : Fin 3 → Nat :=
  let c17_2444 : Index := 17#32
  let c16_i32_2374 : BitVec 32 := 16#32
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let c1_i32_2371 : BitVec 32 := 1#32
  let arg18 : BitVec 32 := Scf.iv v4152 c1_i32_2371 k0_t3
  let c16_i32_2373 : BitVec 32 := 16#32
  let v4177 : BitVec 32 := Scalar.muli arg18 c16_i32_2373
  let v4178 : BitVec 32 := v4177
  let v4179 : BitVec 32 := Scalar.addi c16_i32_2374 v4178
  let v4180 : BitVec 32 := Scalar.subi v4179 v3885
  let v4381 : Index := Scalar.indexCast v4180
  let c0_2445 : Index := 0#32
  ![17, v4381.toNat, 0]
def k0_off362 (i : grid0.Coords) (v3863 : BitVec 32) (v3867 : BitVec 32) (v3871 : BitVec 32) (v3875 : BitVec 32) (v3879 : BitVec 32) (v3883 : BitVec 32) (v3887 : BitVec 32) (k0_t3 : Fin (k0_t3_loop i v3863 v3867 v3871 v3875 v3879 v3883 v3887).trips) : Fin 2 → Nat :=
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let c1_i32_2371 : BitVec 32 := 1#32
  let arg18 : BitVec 32 := Scf.iv v4152 c1_i32_2371 k0_t3
  let c16_i32_2373 : BitVec 32 := 16#32
  let v4177 : BitVec 32 := Scalar.muli arg18 c16_i32_2373
  let v4178 : BitVec 32 := v4177
  let v4388 : Index := Scalar.indexCast v4178
  let c2304_2447 : Index := 2304#32
  ![v4388.toNat, 2304]
def k0_off363 (i : grid0.Coords) (v3863 : BitVec 32) (v3867 : BitVec 32) (v3871 : BitVec 32) (v3875 : BitVec 32) (v3879 : BitVec 32) (v3883 : BitVec 32) (v3887 : BitVec 32) (k0_t3 : Fin (k0_t3_loop i v3863 v3867 v3871 v3875 v3879 v3883 v3887).trips) : Fin 3 → Nat :=
  let c18_2448 : Index := 18#32
  let c16_i32_2374 : BitVec 32 := 16#32
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let c1_i32_2371 : BitVec 32 := 1#32
  let arg18 : BitVec 32 := Scf.iv v4152 c1_i32_2371 k0_t3
  let c16_i32_2373 : BitVec 32 := 16#32
  let v4177 : BitVec 32 := Scalar.muli arg18 c16_i32_2373
  let v4178 : BitVec 32 := v4177
  let v4179 : BitVec 32 := Scalar.addi c16_i32_2374 v4178
  let v4180 : BitVec 32 := Scalar.subi v4179 v3885
  let v4392 : Index := Scalar.indexCast v4180
  let c0_2449 : Index := 0#32
  ![18, v4392.toNat, 0]
def k0_off364 (i : grid0.Coords) (v3863 : BitVec 32) (v3867 : BitVec 32) (v3871 : BitVec 32) (v3875 : BitVec 32) (v3879 : BitVec 32) (v3883 : BitVec 32) (v3887 : BitVec 32) (k0_t3 : Fin (k0_t3_loop i v3863 v3867 v3871 v3875 v3879 v3883 v3887).trips) : Fin 2 → Nat :=
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let c1_i32_2371 : BitVec 32 := 1#32
  let arg18 : BitVec 32 := Scf.iv v4152 c1_i32_2371 k0_t3
  let c16_i32_2373 : BitVec 32 := 16#32
  let v4177 : BitVec 32 := Scalar.muli arg18 c16_i32_2373
  let v4178 : BitVec 32 := v4177
  let v4399 : Index := Scalar.indexCast v4178
  let c2432_2451 : Index := 2432#32
  ![v4399.toNat, 2432]
def k0_off365 (i : grid0.Coords) (v3863 : BitVec 32) (v3867 : BitVec 32) (v3871 : BitVec 32) (v3875 : BitVec 32) (v3879 : BitVec 32) (v3883 : BitVec 32) (v3887 : BitVec 32) (k0_t3 : Fin (k0_t3_loop i v3863 v3867 v3871 v3875 v3879 v3883 v3887).trips) : Fin 3 → Nat :=
  let c19_2452 : Index := 19#32
  let c16_i32_2374 : BitVec 32 := 16#32
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let c1_i32_2371 : BitVec 32 := 1#32
  let arg18 : BitVec 32 := Scf.iv v4152 c1_i32_2371 k0_t3
  let c16_i32_2373 : BitVec 32 := 16#32
  let v4177 : BitVec 32 := Scalar.muli arg18 c16_i32_2373
  let v4178 : BitVec 32 := v4177
  let v4179 : BitVec 32 := Scalar.addi c16_i32_2374 v4178
  let v4180 : BitVec 32 := Scalar.subi v4179 v3885
  let v4403 : Index := Scalar.indexCast v4180
  let c0_2453 : Index := 0#32
  ![19, v4403.toNat, 0]
def k0_off366 (i : grid0.Coords) (v3863 : BitVec 32) (v3867 : BitVec 32) (v3871 : BitVec 32) (v3875 : BitVec 32) (v3879 : BitVec 32) (v3883 : BitVec 32) (v3887 : BitVec 32) (k0_t3 : Fin (k0_t3_loop i v3863 v3867 v3871 v3875 v3879 v3883 v3887).trips) : Fin 2 → Nat :=
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let c1_i32_2371 : BitVec 32 := 1#32
  let arg18 : BitVec 32 := Scf.iv v4152 c1_i32_2371 k0_t3
  let c16_i32_2373 : BitVec 32 := 16#32
  let v4177 : BitVec 32 := Scalar.muli arg18 c16_i32_2373
  let v4178 : BitVec 32 := v4177
  let v4410 : Index := Scalar.indexCast v4178
  let c2560_2455 : Index := 2560#32
  ![v4410.toNat, 2560]
def k0_off367 (i : grid0.Coords) (v3863 : BitVec 32) (v3867 : BitVec 32) (v3871 : BitVec 32) (v3875 : BitVec 32) (v3879 : BitVec 32) (v3883 : BitVec 32) (v3887 : BitVec 32) (k0_t3 : Fin (k0_t3_loop i v3863 v3867 v3871 v3875 v3879 v3883 v3887).trips) : Fin 3 → Nat :=
  let c20_2456 : Index := 20#32
  let c16_i32_2374 : BitVec 32 := 16#32
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let c1_i32_2371 : BitVec 32 := 1#32
  let arg18 : BitVec 32 := Scf.iv v4152 c1_i32_2371 k0_t3
  let c16_i32_2373 : BitVec 32 := 16#32
  let v4177 : BitVec 32 := Scalar.muli arg18 c16_i32_2373
  let v4178 : BitVec 32 := v4177
  let v4179 : BitVec 32 := Scalar.addi c16_i32_2374 v4178
  let v4180 : BitVec 32 := Scalar.subi v4179 v3885
  let v4414 : Index := Scalar.indexCast v4180
  let c0_2457 : Index := 0#32
  ![20, v4414.toNat, 0]
def k0_off368 (i : grid0.Coords) (v3863 : BitVec 32) (v3867 : BitVec 32) (v3871 : BitVec 32) (v3875 : BitVec 32) (v3879 : BitVec 32) (v3883 : BitVec 32) (v3887 : BitVec 32) (k0_t3 : Fin (k0_t3_loop i v3863 v3867 v3871 v3875 v3879 v3883 v3887).trips) : Fin 2 → Nat :=
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let c1_i32_2371 : BitVec 32 := 1#32
  let arg18 : BitVec 32 := Scf.iv v4152 c1_i32_2371 k0_t3
  let c16_i32_2373 : BitVec 32 := 16#32
  let v4177 : BitVec 32 := Scalar.muli arg18 c16_i32_2373
  let v4178 : BitVec 32 := v4177
  let v4421 : Index := Scalar.indexCast v4178
  let c2688_2459 : Index := 2688#32
  ![v4421.toNat, 2688]
def k0_off369 (i : grid0.Coords) (v3863 : BitVec 32) (v3867 : BitVec 32) (v3871 : BitVec 32) (v3875 : BitVec 32) (v3879 : BitVec 32) (v3883 : BitVec 32) (v3887 : BitVec 32) (k0_t3 : Fin (k0_t3_loop i v3863 v3867 v3871 v3875 v3879 v3883 v3887).trips) : Fin 3 → Nat :=
  let c21_2460 : Index := 21#32
  let c16_i32_2374 : BitVec 32 := 16#32
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let c1_i32_2371 : BitVec 32 := 1#32
  let arg18 : BitVec 32 := Scf.iv v4152 c1_i32_2371 k0_t3
  let c16_i32_2373 : BitVec 32 := 16#32
  let v4177 : BitVec 32 := Scalar.muli arg18 c16_i32_2373
  let v4178 : BitVec 32 := v4177
  let v4179 : BitVec 32 := Scalar.addi c16_i32_2374 v4178
  let v4180 : BitVec 32 := Scalar.subi v4179 v3885
  let v4425 : Index := Scalar.indexCast v4180
  let c0_2461 : Index := 0#32
  ![21, v4425.toNat, 0]
def k0_off370 (i : grid0.Coords) (v3863 : BitVec 32) (v3867 : BitVec 32) (v3871 : BitVec 32) (v3875 : BitVec 32) (v3879 : BitVec 32) (v3883 : BitVec 32) (v3887 : BitVec 32) (k0_t3 : Fin (k0_t3_loop i v3863 v3867 v3871 v3875 v3879 v3883 v3887).trips) : Fin 2 → Nat :=
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let c1_i32_2371 : BitVec 32 := 1#32
  let arg18 : BitVec 32 := Scf.iv v4152 c1_i32_2371 k0_t3
  let c16_i32_2373 : BitVec 32 := 16#32
  let v4177 : BitVec 32 := Scalar.muli arg18 c16_i32_2373
  let v4178 : BitVec 32 := v4177
  let v4432 : Index := Scalar.indexCast v4178
  let c2816_2463 : Index := 2816#32
  ![v4432.toNat, 2816]
def k0_off371 (i : grid0.Coords) (v3863 : BitVec 32) (v3867 : BitVec 32) (v3871 : BitVec 32) (v3875 : BitVec 32) (v3879 : BitVec 32) (v3883 : BitVec 32) (v3887 : BitVec 32) (k0_t3 : Fin (k0_t3_loop i v3863 v3867 v3871 v3875 v3879 v3883 v3887).trips) : Fin 3 → Nat :=
  let c22_2464 : Index := 22#32
  let c16_i32_2374 : BitVec 32 := 16#32
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let c1_i32_2371 : BitVec 32 := 1#32
  let arg18 : BitVec 32 := Scf.iv v4152 c1_i32_2371 k0_t3
  let c16_i32_2373 : BitVec 32 := 16#32
  let v4177 : BitVec 32 := Scalar.muli arg18 c16_i32_2373
  let v4178 : BitVec 32 := v4177
  let v4179 : BitVec 32 := Scalar.addi c16_i32_2374 v4178
  let v4180 : BitVec 32 := Scalar.subi v4179 v3885
  let v4436 : Index := Scalar.indexCast v4180
  let c0_2465 : Index := 0#32
  ![22, v4436.toNat, 0]
def k0_off372 (i : grid0.Coords) (v3863 : BitVec 32) (v3867 : BitVec 32) (v3871 : BitVec 32) (v3875 : BitVec 32) (v3879 : BitVec 32) (v3883 : BitVec 32) (v3887 : BitVec 32) (k0_t3 : Fin (k0_t3_loop i v3863 v3867 v3871 v3875 v3879 v3883 v3887).trips) : Fin 2 → Nat :=
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let c1_i32_2371 : BitVec 32 := 1#32
  let arg18 : BitVec 32 := Scf.iv v4152 c1_i32_2371 k0_t3
  let c16_i32_2373 : BitVec 32 := 16#32
  let v4177 : BitVec 32 := Scalar.muli arg18 c16_i32_2373
  let v4178 : BitVec 32 := v4177
  let v4443 : Index := Scalar.indexCast v4178
  let c2944_2467 : Index := 2944#32
  ![v4443.toNat, 2944]
def k0_off373 (i : grid0.Coords) (v3863 : BitVec 32) (v3867 : BitVec 32) (v3871 : BitVec 32) (v3875 : BitVec 32) (v3879 : BitVec 32) (v3883 : BitVec 32) (v3887 : BitVec 32) (k0_t3 : Fin (k0_t3_loop i v3863 v3867 v3871 v3875 v3879 v3883 v3887).trips) : Fin 3 → Nat :=
  let c23_2468 : Index := 23#32
  let c16_i32_2374 : BitVec 32 := 16#32
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let c1_i32_2371 : BitVec 32 := 1#32
  let arg18 : BitVec 32 := Scf.iv v4152 c1_i32_2371 k0_t3
  let c16_i32_2373 : BitVec 32 := 16#32
  let v4177 : BitVec 32 := Scalar.muli arg18 c16_i32_2373
  let v4178 : BitVec 32 := v4177
  let v4179 : BitVec 32 := Scalar.addi c16_i32_2374 v4178
  let v4180 : BitVec 32 := Scalar.subi v4179 v3885
  let v4447 : Index := Scalar.indexCast v4180
  let c0_2469 : Index := 0#32
  ![23, v4447.toNat, 0]
def k0_off374 (i : grid0.Coords) (v3863 : BitVec 32) (v3867 : BitVec 32) (v3871 : BitVec 32) (v3875 : BitVec 32) (v3879 : BitVec 32) (v3883 : BitVec 32) (v3887 : BitVec 32) (k0_t3 : Fin (k0_t3_loop i v3863 v3867 v3871 v3875 v3879 v3883 v3887).trips) : Fin 2 → Nat :=
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let c1_i32_2371 : BitVec 32 := 1#32
  let arg18 : BitVec 32 := Scf.iv v4152 c1_i32_2371 k0_t3
  let c16_i32_2373 : BitVec 32 := 16#32
  let v4177 : BitVec 32 := Scalar.muli arg18 c16_i32_2373
  let v4178 : BitVec 32 := v4177
  let v4454 : Index := Scalar.indexCast v4178
  let c3072_2471 : Index := 3072#32
  ![v4454.toNat, 3072]
def k0_off375 (i : grid0.Coords) (v3863 : BitVec 32) (v3867 : BitVec 32) (v3871 : BitVec 32) (v3875 : BitVec 32) (v3879 : BitVec 32) (v3883 : BitVec 32) (v3887 : BitVec 32) (k0_t3 : Fin (k0_t3_loop i v3863 v3867 v3871 v3875 v3879 v3883 v3887).trips) : Fin 3 → Nat :=
  let c24_2472 : Index := 24#32
  let c16_i32_2374 : BitVec 32 := 16#32
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let c1_i32_2371 : BitVec 32 := 1#32
  let arg18 : BitVec 32 := Scf.iv v4152 c1_i32_2371 k0_t3
  let c16_i32_2373 : BitVec 32 := 16#32
  let v4177 : BitVec 32 := Scalar.muli arg18 c16_i32_2373
  let v4178 : BitVec 32 := v4177
  let v4179 : BitVec 32 := Scalar.addi c16_i32_2374 v4178
  let v4180 : BitVec 32 := Scalar.subi v4179 v3885
  let v4458 : Index := Scalar.indexCast v4180
  let c0_2473 : Index := 0#32
  ![24, v4458.toNat, 0]
def k0_off376 (i : grid0.Coords) (v3863 : BitVec 32) (v3867 : BitVec 32) (v3871 : BitVec 32) (v3875 : BitVec 32) (v3879 : BitVec 32) (v3883 : BitVec 32) (v3887 : BitVec 32) (k0_t3 : Fin (k0_t3_loop i v3863 v3867 v3871 v3875 v3879 v3883 v3887).trips) : Fin 2 → Nat :=
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let c1_i32_2371 : BitVec 32 := 1#32
  let arg18 : BitVec 32 := Scf.iv v4152 c1_i32_2371 k0_t3
  let c16_i32_2373 : BitVec 32 := 16#32
  let v4177 : BitVec 32 := Scalar.muli arg18 c16_i32_2373
  let v4178 : BitVec 32 := v4177
  let v4465 : Index := Scalar.indexCast v4178
  let c3200_2475 : Index := 3200#32
  ![v4465.toNat, 3200]
def k0_off377 (i : grid0.Coords) (v3863 : BitVec 32) (v3867 : BitVec 32) (v3871 : BitVec 32) (v3875 : BitVec 32) (v3879 : BitVec 32) (v3883 : BitVec 32) (v3887 : BitVec 32) (k0_t3 : Fin (k0_t3_loop i v3863 v3867 v3871 v3875 v3879 v3883 v3887).trips) : Fin 3 → Nat :=
  let c25_2476 : Index := 25#32
  let c16_i32_2374 : BitVec 32 := 16#32
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let c1_i32_2371 : BitVec 32 := 1#32
  let arg18 : BitVec 32 := Scf.iv v4152 c1_i32_2371 k0_t3
  let c16_i32_2373 : BitVec 32 := 16#32
  let v4177 : BitVec 32 := Scalar.muli arg18 c16_i32_2373
  let v4178 : BitVec 32 := v4177
  let v4179 : BitVec 32 := Scalar.addi c16_i32_2374 v4178
  let v4180 : BitVec 32 := Scalar.subi v4179 v3885
  let v4469 : Index := Scalar.indexCast v4180
  let c0_2477 : Index := 0#32
  ![25, v4469.toNat, 0]
def k0_off378 (i : grid0.Coords) (v3863 : BitVec 32) (v3867 : BitVec 32) (v3871 : BitVec 32) (v3875 : BitVec 32) (v3879 : BitVec 32) (v3883 : BitVec 32) (v3887 : BitVec 32) (k0_t3 : Fin (k0_t3_loop i v3863 v3867 v3871 v3875 v3879 v3883 v3887).trips) : Fin 2 → Nat :=
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let c1_i32_2371 : BitVec 32 := 1#32
  let arg18 : BitVec 32 := Scf.iv v4152 c1_i32_2371 k0_t3
  let c16_i32_2373 : BitVec 32 := 16#32
  let v4177 : BitVec 32 := Scalar.muli arg18 c16_i32_2373
  let v4178 : BitVec 32 := v4177
  let v4476 : Index := Scalar.indexCast v4178
  let c3328_2479 : Index := 3328#32
  ![v4476.toNat, 3328]
def k0_off379 (i : grid0.Coords) (v3863 : BitVec 32) (v3867 : BitVec 32) (v3871 : BitVec 32) (v3875 : BitVec 32) (v3879 : BitVec 32) (v3883 : BitVec 32) (v3887 : BitVec 32) (k0_t3 : Fin (k0_t3_loop i v3863 v3867 v3871 v3875 v3879 v3883 v3887).trips) : Fin 3 → Nat :=
  let c26_2480 : Index := 26#32
  let c16_i32_2374 : BitVec 32 := 16#32
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let c1_i32_2371 : BitVec 32 := 1#32
  let arg18 : BitVec 32 := Scf.iv v4152 c1_i32_2371 k0_t3
  let c16_i32_2373 : BitVec 32 := 16#32
  let v4177 : BitVec 32 := Scalar.muli arg18 c16_i32_2373
  let v4178 : BitVec 32 := v4177
  let v4179 : BitVec 32 := Scalar.addi c16_i32_2374 v4178
  let v4180 : BitVec 32 := Scalar.subi v4179 v3885
  let v4480 : Index := Scalar.indexCast v4180
  let c0_2481 : Index := 0#32
  ![26, v4480.toNat, 0]
def k0_off380 (i : grid0.Coords) (v3863 : BitVec 32) (v3867 : BitVec 32) (v3871 : BitVec 32) (v3875 : BitVec 32) (v3879 : BitVec 32) (v3883 : BitVec 32) (v3887 : BitVec 32) (k0_t3 : Fin (k0_t3_loop i v3863 v3867 v3871 v3875 v3879 v3883 v3887).trips) : Fin 2 → Nat :=
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let c1_i32_2371 : BitVec 32 := 1#32
  let arg18 : BitVec 32 := Scf.iv v4152 c1_i32_2371 k0_t3
  let c16_i32_2373 : BitVec 32 := 16#32
  let v4177 : BitVec 32 := Scalar.muli arg18 c16_i32_2373
  let v4178 : BitVec 32 := v4177
  let v4487 : Index := Scalar.indexCast v4178
  let c3456_2483 : Index := 3456#32
  ![v4487.toNat, 3456]
def k0_off381 (i : grid0.Coords) (v3863 : BitVec 32) (v3867 : BitVec 32) (v3871 : BitVec 32) (v3875 : BitVec 32) (v3879 : BitVec 32) (v3883 : BitVec 32) (v3887 : BitVec 32) (k0_t3 : Fin (k0_t3_loop i v3863 v3867 v3871 v3875 v3879 v3883 v3887).trips) : Fin 3 → Nat :=
  let c27_2484 : Index := 27#32
  let c16_i32_2374 : BitVec 32 := 16#32
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let c1_i32_2371 : BitVec 32 := 1#32
  let arg18 : BitVec 32 := Scf.iv v4152 c1_i32_2371 k0_t3
  let c16_i32_2373 : BitVec 32 := 16#32
  let v4177 : BitVec 32 := Scalar.muli arg18 c16_i32_2373
  let v4178 : BitVec 32 := v4177
  let v4179 : BitVec 32 := Scalar.addi c16_i32_2374 v4178
  let v4180 : BitVec 32 := Scalar.subi v4179 v3885
  let v4491 : Index := Scalar.indexCast v4180
  let c0_2485 : Index := 0#32
  ![27, v4491.toNat, 0]
def k0_off382 (i : grid0.Coords) (v3863 : BitVec 32) (v3867 : BitVec 32) (v3871 : BitVec 32) (v3875 : BitVec 32) (v3879 : BitVec 32) (v3883 : BitVec 32) (v3887 : BitVec 32) (k0_t3 : Fin (k0_t3_loop i v3863 v3867 v3871 v3875 v3879 v3883 v3887).trips) : Fin 2 → Nat :=
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let c1_i32_2371 : BitVec 32 := 1#32
  let arg18 : BitVec 32 := Scf.iv v4152 c1_i32_2371 k0_t3
  let c16_i32_2373 : BitVec 32 := 16#32
  let v4177 : BitVec 32 := Scalar.muli arg18 c16_i32_2373
  let v4178 : BitVec 32 := v4177
  let v4498 : Index := Scalar.indexCast v4178
  let c3584_2487 : Index := 3584#32
  ![v4498.toNat, 3584]
def k0_off383 (i : grid0.Coords) (v3863 : BitVec 32) (v3867 : BitVec 32) (v3871 : BitVec 32) (v3875 : BitVec 32) (v3879 : BitVec 32) (v3883 : BitVec 32) (v3887 : BitVec 32) (k0_t3 : Fin (k0_t3_loop i v3863 v3867 v3871 v3875 v3879 v3883 v3887).trips) : Fin 3 → Nat :=
  let c28_2488 : Index := 28#32
  let c16_i32_2374 : BitVec 32 := 16#32
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let c1_i32_2371 : BitVec 32 := 1#32
  let arg18 : BitVec 32 := Scf.iv v4152 c1_i32_2371 k0_t3
  let c16_i32_2373 : BitVec 32 := 16#32
  let v4177 : BitVec 32 := Scalar.muli arg18 c16_i32_2373
  let v4178 : BitVec 32 := v4177
  let v4179 : BitVec 32 := Scalar.addi c16_i32_2374 v4178
  let v4180 : BitVec 32 := Scalar.subi v4179 v3885
  let v4502 : Index := Scalar.indexCast v4180
  let c0_2489 : Index := 0#32
  ![28, v4502.toNat, 0]
def k0_off384 (i : grid0.Coords) (v3863 : BitVec 32) (v3867 : BitVec 32) (v3871 : BitVec 32) (v3875 : BitVec 32) (v3879 : BitVec 32) (v3883 : BitVec 32) (v3887 : BitVec 32) (k0_t3 : Fin (k0_t3_loop i v3863 v3867 v3871 v3875 v3879 v3883 v3887).trips) : Fin 2 → Nat :=
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let c1_i32_2371 : BitVec 32 := 1#32
  let arg18 : BitVec 32 := Scf.iv v4152 c1_i32_2371 k0_t3
  let c16_i32_2373 : BitVec 32 := 16#32
  let v4177 : BitVec 32 := Scalar.muli arg18 c16_i32_2373
  let v4178 : BitVec 32 := v4177
  let v4509 : Index := Scalar.indexCast v4178
  let c3712_2491 : Index := 3712#32
  ![v4509.toNat, 3712]
def k0_off385 (i : grid0.Coords) (v3863 : BitVec 32) (v3867 : BitVec 32) (v3871 : BitVec 32) (v3875 : BitVec 32) (v3879 : BitVec 32) (v3883 : BitVec 32) (v3887 : BitVec 32) (k0_t3 : Fin (k0_t3_loop i v3863 v3867 v3871 v3875 v3879 v3883 v3887).trips) : Fin 3 → Nat :=
  let c29_2492 : Index := 29#32
  let c16_i32_2374 : BitVec 32 := 16#32
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let c1_i32_2371 : BitVec 32 := 1#32
  let arg18 : BitVec 32 := Scf.iv v4152 c1_i32_2371 k0_t3
  let c16_i32_2373 : BitVec 32 := 16#32
  let v4177 : BitVec 32 := Scalar.muli arg18 c16_i32_2373
  let v4178 : BitVec 32 := v4177
  let v4179 : BitVec 32 := Scalar.addi c16_i32_2374 v4178
  let v4180 : BitVec 32 := Scalar.subi v4179 v3885
  let v4513 : Index := Scalar.indexCast v4180
  let c0_2493 : Index := 0#32
  ![29, v4513.toNat, 0]
def k0_off386 (i : grid0.Coords) (v3863 : BitVec 32) (v3867 : BitVec 32) (v3871 : BitVec 32) (v3875 : BitVec 32) (v3879 : BitVec 32) (v3883 : BitVec 32) (v3887 : BitVec 32) (k0_t3 : Fin (k0_t3_loop i v3863 v3867 v3871 v3875 v3879 v3883 v3887).trips) : Fin 2 → Nat :=
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let c1_i32_2371 : BitVec 32 := 1#32
  let arg18 : BitVec 32 := Scf.iv v4152 c1_i32_2371 k0_t3
  let c16_i32_2373 : BitVec 32 := 16#32
  let v4177 : BitVec 32 := Scalar.muli arg18 c16_i32_2373
  let v4178 : BitVec 32 := v4177
  let v4520 : Index := Scalar.indexCast v4178
  let c3840_2495 : Index := 3840#32
  ![v4520.toNat, 3840]
def k0_off387 (i : grid0.Coords) (v3863 : BitVec 32) (v3867 : BitVec 32) (v3871 : BitVec 32) (v3875 : BitVec 32) (v3879 : BitVec 32) (v3883 : BitVec 32) (v3887 : BitVec 32) (k0_t3 : Fin (k0_t3_loop i v3863 v3867 v3871 v3875 v3879 v3883 v3887).trips) : Fin 3 → Nat :=
  let c30_2496 : Index := 30#32
  let c16_i32_2374 : BitVec 32 := 16#32
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let c1_i32_2371 : BitVec 32 := 1#32
  let arg18 : BitVec 32 := Scf.iv v4152 c1_i32_2371 k0_t3
  let c16_i32_2373 : BitVec 32 := 16#32
  let v4177 : BitVec 32 := Scalar.muli arg18 c16_i32_2373
  let v4178 : BitVec 32 := v4177
  let v4179 : BitVec 32 := Scalar.addi c16_i32_2374 v4178
  let v4180 : BitVec 32 := Scalar.subi v4179 v3885
  let v4524 : Index := Scalar.indexCast v4180
  let c0_2497 : Index := 0#32
  ![30, v4524.toNat, 0]
def k0_off388 (i : grid0.Coords) (v3863 : BitVec 32) (v3867 : BitVec 32) (v3871 : BitVec 32) (v3875 : BitVec 32) (v3879 : BitVec 32) (v3883 : BitVec 32) (v3887 : BitVec 32) (k0_t3 : Fin (k0_t3_loop i v3863 v3867 v3871 v3875 v3879 v3883 v3887).trips) : Fin 2 → Nat :=
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let c1_i32_2371 : BitVec 32 := 1#32
  let arg18 : BitVec 32 := Scf.iv v4152 c1_i32_2371 k0_t3
  let c16_i32_2373 : BitVec 32 := 16#32
  let v4177 : BitVec 32 := Scalar.muli arg18 c16_i32_2373
  let v4178 : BitVec 32 := v4177
  let v4531 : Index := Scalar.indexCast v4178
  let c3968_2499 : Index := 3968#32
  ![v4531.toNat, 3968]
def k0_off389 (i : grid0.Coords) (v3863 : BitVec 32) (v3867 : BitVec 32) (v3871 : BitVec 32) (v3875 : BitVec 32) (v3879 : BitVec 32) (v3883 : BitVec 32) (v3887 : BitVec 32) (k0_t3 : Fin (k0_t3_loop i v3863 v3867 v3871 v3875 v3879 v3883 v3887).trips) : Fin 3 → Nat :=
  let c31_2500 : Index := 31#32
  let c16_i32_2374 : BitVec 32 := 16#32
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let c1_i32_2371 : BitVec 32 := 1#32
  let arg18 : BitVec 32 := Scf.iv v4152 c1_i32_2371 k0_t3
  let c16_i32_2373 : BitVec 32 := 16#32
  let v4177 : BitVec 32 := Scalar.muli arg18 c16_i32_2373
  let v4178 : BitVec 32 := v4177
  let v4179 : BitVec 32 := Scalar.addi c16_i32_2374 v4178
  let v4180 : BitVec 32 := Scalar.subi v4179 v3885
  let v4535 : Index := Scalar.indexCast v4180
  let c0_2501 : Index := 0#32
  ![31, v4535.toNat, 0]
def k0_off390 (i : grid0.Coords) (v3863 : BitVec 32) (v3867 : BitVec 32) (v3871 : BitVec 32) (v3875 : BitVec 32) (v3879 : BitVec 32) (v3883 : BitVec 32) (v3887 : BitVec 32) (k0_t3 : Fin (k0_t3_loop i v3863 v3867 v3871 v3875 v3879 v3883 v3887).trips) : Fin 2 → Nat :=
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let c1_i32_2371 : BitVec 32 := 1#32
  let arg18 : BitVec 32 := Scf.iv v4152 c1_i32_2371 k0_t3
  let c16_i32_2373 : BitVec 32 := 16#32
  let v4177 : BitVec 32 := Scalar.muli arg18 c16_i32_2373
  let v4178 : BitVec 32 := v4177
  let v4542 : Index := Scalar.indexCast v4178
  let c4096_2503 : Index := 4096#32
  ![v4542.toNat, 4096]
def k0_off391 (i : grid0.Coords) (v3863 : BitVec 32) (v3867 : BitVec 32) (v3871 : BitVec 32) (v3875 : BitVec 32) (v3879 : BitVec 32) (v3883 : BitVec 32) (v3887 : BitVec 32) (k0_t3 : Fin (k0_t3_loop i v3863 v3867 v3871 v3875 v3879 v3883 v3887).trips) : Fin 3 → Nat :=
  let c32_2504 : Index := 32#32
  let c16_i32_2374 : BitVec 32 := 16#32
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let c1_i32_2371 : BitVec 32 := 1#32
  let arg18 : BitVec 32 := Scf.iv v4152 c1_i32_2371 k0_t3
  let c16_i32_2373 : BitVec 32 := 16#32
  let v4177 : BitVec 32 := Scalar.muli arg18 c16_i32_2373
  let v4178 : BitVec 32 := v4177
  let v4179 : BitVec 32 := Scalar.addi c16_i32_2374 v4178
  let v4180 : BitVec 32 := Scalar.subi v4179 v3885
  let v4546 : Index := Scalar.indexCast v4180
  let c0_2505 : Index := 0#32
  ![32, v4546.toNat, 0]
def k0_off392 (i : grid0.Coords) (v3863 : BitVec 32) (v3867 : BitVec 32) (v3871 : BitVec 32) (v3875 : BitVec 32) (v3879 : BitVec 32) (v3883 : BitVec 32) (v3887 : BitVec 32) (k0_t3 : Fin (k0_t3_loop i v3863 v3867 v3871 v3875 v3879 v3883 v3887).trips) : Fin 2 → Nat :=
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let c1_i32_2371 : BitVec 32 := 1#32
  let arg18 : BitVec 32 := Scf.iv v4152 c1_i32_2371 k0_t3
  let c16_i32_2373 : BitVec 32 := 16#32
  let v4177 : BitVec 32 := Scalar.muli arg18 c16_i32_2373
  let v4178 : BitVec 32 := v4177
  let v4553 : Index := Scalar.indexCast v4178
  let c4224_2507 : Index := 4224#32
  ![v4553.toNat, 4224]
def k0_off393 (i : grid0.Coords) (v3863 : BitVec 32) (v3867 : BitVec 32) (v3871 : BitVec 32) (v3875 : BitVec 32) (v3879 : BitVec 32) (v3883 : BitVec 32) (v3887 : BitVec 32) (k0_t3 : Fin (k0_t3_loop i v3863 v3867 v3871 v3875 v3879 v3883 v3887).trips) : Fin 3 → Nat :=
  let c33_2508 : Index := 33#32
  let c16_i32_2374 : BitVec 32 := 16#32
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let c1_i32_2371 : BitVec 32 := 1#32
  let arg18 : BitVec 32 := Scf.iv v4152 c1_i32_2371 k0_t3
  let c16_i32_2373 : BitVec 32 := 16#32
  let v4177 : BitVec 32 := Scalar.muli arg18 c16_i32_2373
  let v4178 : BitVec 32 := v4177
  let v4179 : BitVec 32 := Scalar.addi c16_i32_2374 v4178
  let v4180 : BitVec 32 := Scalar.subi v4179 v3885
  let v4557 : Index := Scalar.indexCast v4180
  let c0_2509 : Index := 0#32
  ![33, v4557.toNat, 0]
def k0_off394 (i : grid0.Coords) (v3863 : BitVec 32) (v3867 : BitVec 32) (v3871 : BitVec 32) (v3875 : BitVec 32) (v3879 : BitVec 32) (v3883 : BitVec 32) (v3887 : BitVec 32) (k0_t3 : Fin (k0_t3_loop i v3863 v3867 v3871 v3875 v3879 v3883 v3887).trips) : Fin 2 → Nat :=
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let c1_i32_2371 : BitVec 32 := 1#32
  let arg18 : BitVec 32 := Scf.iv v4152 c1_i32_2371 k0_t3
  let c16_i32_2373 : BitVec 32 := 16#32
  let v4177 : BitVec 32 := Scalar.muli arg18 c16_i32_2373
  let v4178 : BitVec 32 := v4177
  let v4564 : Index := Scalar.indexCast v4178
  let c4352_2511 : Index := 4352#32
  ![v4564.toNat, 4352]
def k0_off395 (i : grid0.Coords) (v3863 : BitVec 32) (v3867 : BitVec 32) (v3871 : BitVec 32) (v3875 : BitVec 32) (v3879 : BitVec 32) (v3883 : BitVec 32) (v3887 : BitVec 32) (k0_t3 : Fin (k0_t3_loop i v3863 v3867 v3871 v3875 v3879 v3883 v3887).trips) : Fin 3 → Nat :=
  let c34_2512 : Index := 34#32
  let c16_i32_2374 : BitVec 32 := 16#32
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let c1_i32_2371 : BitVec 32 := 1#32
  let arg18 : BitVec 32 := Scf.iv v4152 c1_i32_2371 k0_t3
  let c16_i32_2373 : BitVec 32 := 16#32
  let v4177 : BitVec 32 := Scalar.muli arg18 c16_i32_2373
  let v4178 : BitVec 32 := v4177
  let v4179 : BitVec 32 := Scalar.addi c16_i32_2374 v4178
  let v4180 : BitVec 32 := Scalar.subi v4179 v3885
  let v4568 : Index := Scalar.indexCast v4180
  let c0_2513 : Index := 0#32
  ![34, v4568.toNat, 0]
def k0_off396 (i : grid0.Coords) (v3863 : BitVec 32) (v3867 : BitVec 32) (v3871 : BitVec 32) (v3875 : BitVec 32) (v3879 : BitVec 32) (v3883 : BitVec 32) (v3887 : BitVec 32) (k0_t3 : Fin (k0_t3_loop i v3863 v3867 v3871 v3875 v3879 v3883 v3887).trips) : Fin 2 → Nat :=
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let c1_i32_2371 : BitVec 32 := 1#32
  let arg18 : BitVec 32 := Scf.iv v4152 c1_i32_2371 k0_t3
  let c16_i32_2373 : BitVec 32 := 16#32
  let v4177 : BitVec 32 := Scalar.muli arg18 c16_i32_2373
  let v4178 : BitVec 32 := v4177
  let v4575 : Index := Scalar.indexCast v4178
  let c4480_2515 : Index := 4480#32
  ![v4575.toNat, 4480]
def k0_off397 (i : grid0.Coords) (v3863 : BitVec 32) (v3867 : BitVec 32) (v3871 : BitVec 32) (v3875 : BitVec 32) (v3879 : BitVec 32) (v3883 : BitVec 32) (v3887 : BitVec 32) (k0_t3 : Fin (k0_t3_loop i v3863 v3867 v3871 v3875 v3879 v3883 v3887).trips) : Fin 3 → Nat :=
  let c35_2516 : Index := 35#32
  let c16_i32_2374 : BitVec 32 := 16#32
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let c1_i32_2371 : BitVec 32 := 1#32
  let arg18 : BitVec 32 := Scf.iv v4152 c1_i32_2371 k0_t3
  let c16_i32_2373 : BitVec 32 := 16#32
  let v4177 : BitVec 32 := Scalar.muli arg18 c16_i32_2373
  let v4178 : BitVec 32 := v4177
  let v4179 : BitVec 32 := Scalar.addi c16_i32_2374 v4178
  let v4180 : BitVec 32 := Scalar.subi v4179 v3885
  let v4579 : Index := Scalar.indexCast v4180
  let c0_2517 : Index := 0#32
  ![35, v4579.toNat, 0]
def k0_off398 (i : grid0.Coords) (v3863 : BitVec 32) (v3867 : BitVec 32) (v3871 : BitVec 32) (v3875 : BitVec 32) (v3879 : BitVec 32) (v3883 : BitVec 32) (v3887 : BitVec 32) (k0_t3 : Fin (k0_t3_loop i v3863 v3867 v3871 v3875 v3879 v3883 v3887).trips) : Fin 2 → Nat :=
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let c1_i32_2371 : BitVec 32 := 1#32
  let arg18 : BitVec 32 := Scf.iv v4152 c1_i32_2371 k0_t3
  let c16_i32_2373 : BitVec 32 := 16#32
  let v4177 : BitVec 32 := Scalar.muli arg18 c16_i32_2373
  let v4178 : BitVec 32 := v4177
  let v4586 : Index := Scalar.indexCast v4178
  let c4608_2519 : Index := 4608#32
  ![v4586.toNat, 4608]
def k0_off399 (i : grid0.Coords) (v3863 : BitVec 32) (v3867 : BitVec 32) (v3871 : BitVec 32) (v3875 : BitVec 32) (v3879 : BitVec 32) (v3883 : BitVec 32) (v3887 : BitVec 32) (k0_t3 : Fin (k0_t3_loop i v3863 v3867 v3871 v3875 v3879 v3883 v3887).trips) : Fin 3 → Nat :=
  let c36_2520 : Index := 36#32
  let c16_i32_2374 : BitVec 32 := 16#32
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let c1_i32_2371 : BitVec 32 := 1#32
  let arg18 : BitVec 32 := Scf.iv v4152 c1_i32_2371 k0_t3
  let c16_i32_2373 : BitVec 32 := 16#32
  let v4177 : BitVec 32 := Scalar.muli arg18 c16_i32_2373
  let v4178 : BitVec 32 := v4177
  let v4179 : BitVec 32 := Scalar.addi c16_i32_2374 v4178
  let v4180 : BitVec 32 := Scalar.subi v4179 v3885
  let v4590 : Index := Scalar.indexCast v4180
  let c0_2521 : Index := 0#32
  ![36, v4590.toNat, 0]
def k0_off400 (i : grid0.Coords) (v3863 : BitVec 32) (v3867 : BitVec 32) (v3871 : BitVec 32) (v3875 : BitVec 32) (v3879 : BitVec 32) (v3883 : BitVec 32) (v3887 : BitVec 32) (k0_t3 : Fin (k0_t3_loop i v3863 v3867 v3871 v3875 v3879 v3883 v3887).trips) : Fin 2 → Nat :=
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let c1_i32_2371 : BitVec 32 := 1#32
  let arg18 : BitVec 32 := Scf.iv v4152 c1_i32_2371 k0_t3
  let c16_i32_2373 : BitVec 32 := 16#32
  let v4177 : BitVec 32 := Scalar.muli arg18 c16_i32_2373
  let v4178 : BitVec 32 := v4177
  let v4597 : Index := Scalar.indexCast v4178
  let c4736_2523 : Index := 4736#32
  ![v4597.toNat, 4736]
def k0_off401 (i : grid0.Coords) (v3863 : BitVec 32) (v3867 : BitVec 32) (v3871 : BitVec 32) (v3875 : BitVec 32) (v3879 : BitVec 32) (v3883 : BitVec 32) (v3887 : BitVec 32) (k0_t3 : Fin (k0_t3_loop i v3863 v3867 v3871 v3875 v3879 v3883 v3887).trips) : Fin 3 → Nat :=
  let c37_2524 : Index := 37#32
  let c16_i32_2374 : BitVec 32 := 16#32
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let c1_i32_2371 : BitVec 32 := 1#32
  let arg18 : BitVec 32 := Scf.iv v4152 c1_i32_2371 k0_t3
  let c16_i32_2373 : BitVec 32 := 16#32
  let v4177 : BitVec 32 := Scalar.muli arg18 c16_i32_2373
  let v4178 : BitVec 32 := v4177
  let v4179 : BitVec 32 := Scalar.addi c16_i32_2374 v4178
  let v4180 : BitVec 32 := Scalar.subi v4179 v3885
  let v4601 : Index := Scalar.indexCast v4180
  let c0_2525 : Index := 0#32
  ![37, v4601.toNat, 0]
def k0_off402 (i : grid0.Coords) (v3863 : BitVec 32) (v3867 : BitVec 32) (v3871 : BitVec 32) (v3875 : BitVec 32) (v3879 : BitVec 32) (v3883 : BitVec 32) (v3887 : BitVec 32) (k0_t3 : Fin (k0_t3_loop i v3863 v3867 v3871 v3875 v3879 v3883 v3887).trips) : Fin 2 → Nat :=
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let c1_i32_2371 : BitVec 32 := 1#32
  let arg18 : BitVec 32 := Scf.iv v4152 c1_i32_2371 k0_t3
  let c16_i32_2373 : BitVec 32 := 16#32
  let v4177 : BitVec 32 := Scalar.muli arg18 c16_i32_2373
  let v4178 : BitVec 32 := v4177
  let v4608 : Index := Scalar.indexCast v4178
  let c4864_2527 : Index := 4864#32
  ![v4608.toNat, 4864]
def k0_off403 (i : grid0.Coords) (v3863 : BitVec 32) (v3867 : BitVec 32) (v3871 : BitVec 32) (v3875 : BitVec 32) (v3879 : BitVec 32) (v3883 : BitVec 32) (v3887 : BitVec 32) (k0_t3 : Fin (k0_t3_loop i v3863 v3867 v3871 v3875 v3879 v3883 v3887).trips) : Fin 3 → Nat :=
  let c38_2528 : Index := 38#32
  let c16_i32_2374 : BitVec 32 := 16#32
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let c1_i32_2371 : BitVec 32 := 1#32
  let arg18 : BitVec 32 := Scf.iv v4152 c1_i32_2371 k0_t3
  let c16_i32_2373 : BitVec 32 := 16#32
  let v4177 : BitVec 32 := Scalar.muli arg18 c16_i32_2373
  let v4178 : BitVec 32 := v4177
  let v4179 : BitVec 32 := Scalar.addi c16_i32_2374 v4178
  let v4180 : BitVec 32 := Scalar.subi v4179 v3885
  let v4612 : Index := Scalar.indexCast v4180
  let c0_2529 : Index := 0#32
  ![38, v4612.toNat, 0]
def k0_off404 (i : grid0.Coords) (v3863 : BitVec 32) (v3867 : BitVec 32) (v3871 : BitVec 32) (v3875 : BitVec 32) (v3879 : BitVec 32) (v3883 : BitVec 32) (v3887 : BitVec 32) (k0_t3 : Fin (k0_t3_loop i v3863 v3867 v3871 v3875 v3879 v3883 v3887).trips) : Fin 2 → Nat :=
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let c1_i32_2371 : BitVec 32 := 1#32
  let arg18 : BitVec 32 := Scf.iv v4152 c1_i32_2371 k0_t3
  let c16_i32_2373 : BitVec 32 := 16#32
  let v4177 : BitVec 32 := Scalar.muli arg18 c16_i32_2373
  let v4178 : BitVec 32 := v4177
  let v4619 : Index := Scalar.indexCast v4178
  let c4992_2531 : Index := 4992#32
  ![v4619.toNat, 4992]
def k0_off405 (i : grid0.Coords) (v3863 : BitVec 32) (v3867 : BitVec 32) (v3871 : BitVec 32) (v3875 : BitVec 32) (v3879 : BitVec 32) (v3883 : BitVec 32) (v3887 : BitVec 32) (k0_t3 : Fin (k0_t3_loop i v3863 v3867 v3871 v3875 v3879 v3883 v3887).trips) : Fin 3 → Nat :=
  let c39_2532 : Index := 39#32
  let c16_i32_2374 : BitVec 32 := 16#32
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let c1_i32_2371 : BitVec 32 := 1#32
  let arg18 : BitVec 32 := Scf.iv v4152 c1_i32_2371 k0_t3
  let c16_i32_2373 : BitVec 32 := 16#32
  let v4177 : BitVec 32 := Scalar.muli arg18 c16_i32_2373
  let v4178 : BitVec 32 := v4177
  let v4179 : BitVec 32 := Scalar.addi c16_i32_2374 v4178
  let v4180 : BitVec 32 := Scalar.subi v4179 v3885
  let v4623 : Index := Scalar.indexCast v4180
  let c0_2533 : Index := 0#32
  ![39, v4623.toNat, 0]
def k0_off406 (i : grid0.Coords) (v3863 : BitVec 32) (v3867 : BitVec 32) (v3871 : BitVec 32) (v3875 : BitVec 32) (v3879 : BitVec 32) (v3883 : BitVec 32) (v3887 : BitVec 32) (k0_t3 : Fin (k0_t3_loop i v3863 v3867 v3871 v3875 v3879 v3883 v3887).trips) : Fin 3 → Nat :=
  let c40_2535 : Index := 40#32
  let c16_i32_2374 : BitVec 32 := 16#32
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let c1_i32_2371 : BitVec 32 := 1#32
  let arg18 : BitVec 32 := Scf.iv v4152 c1_i32_2371 k0_t3
  let c16_i32_2373 : BitVec 32 := 16#32
  let v4177 : BitVec 32 := Scalar.muli arg18 c16_i32_2373
  let v4178 : BitVec 32 := v4177
  let v4179 : BitVec 32 := Scalar.addi c16_i32_2374 v4178
  let v4180 : BitVec 32 := Scalar.subi v4179 v3885
  let v4630 : Index := Scalar.indexCast v4180
  let c0_2536 : Index := 0#32
  ![40, v4630.toNat, 0]
def k0_off407 (i : grid0.Coords) (v3863 : BitVec 32) (v3867 : BitVec 32) (v3871 : BitVec 32) (v3875 : BitVec 32) (v3879 : BitVec 32) (v3883 : BitVec 32) (v3887 : BitVec 32) (k0_t3 : Fin (k0_t3_loop i v3863 v3867 v3871 v3875 v3879 v3883 v3887).trips) : Fin 2 → Nat :=
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let c1_i32_2371 : BitVec 32 := 1#32
  let arg18 : BitVec 32 := Scf.iv v4152 c1_i32_2371 k0_t3
  let c16_i32_2373 : BitVec 32 := 16#32
  let v4177 : BitVec 32 := Scalar.muli arg18 c16_i32_2373
  let v4178 : BitVec 32 := v4177
  let v4633 : Index := Scalar.indexCast v4178
  let c0_2537 : Index := 0#32
  ![v4633.toNat, 0]
@[reducible] def k0_t4_loop (i : grid0.Coords) (v3863 : BitVec 32) (v3867 : BitVec 32) (v3871 : BitVec 32) (v3875 : BitVec 32) (v3879 : BitVec 32) (v3883 : BitVec 32) (v3887 : BitVec 32) : Scf.Loop 32 :=
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let v4153 : BitVec 32 := Scalar.addi v3885 v3887
  let c15_i32 : BitVec 32 := 15#32
  let v4154 : BitVec 32 := Scalar.addi v4153 c15_i32
  let c0_i32_2363 : BitVec 32 := 0#32
  let v4156 : BitVec 1 := Scalar.cmpi .sgt v4154 c0_i32_2363
  let v4157 : BitVec 32 := Scalar.extui v4156
  let c0_i32_2364 : BitVec 32 := 0#32
  let v4158 : BitVec 1 := Scalar.cmpi .slt v4154 c0_i32_2364
  let v4159 : BitVec 32 := Scalar.extui v4158
  let v4160 : BitVec 32 := Scalar.subi v4157 v4159
  let c16_i32_2362 : BitVec 32 := 16#32
  let c0_i32_2365 : BitVec 32 := 0#32
  let v4161 : BitVec 1 := Scalar.cmpi .sgt c16_i32_2362 c0_i32_2365
  let v4162 : BitVec 32 := Scalar.extui v4161
  let c0_i32_2366 : BitVec 32 := 0#32
  let v4163 : BitVec 1 := Scalar.cmpi .slt c16_i32_2362 c0_i32_2366
  let v4164 : BitVec 32 := Scalar.extui v4163
  let v4165 : BitVec 32 := Scalar.subi v4162 v4164
  let v4166 : BitVec 1 := Scalar.cmpi .ne v4160 v4165
  let v4167 : BitVec 32 := Scalar.remsi v4154 c16_i32_2362
  let c0_i32_2367 : BitVec 32 := 0#32
  let v4168 : BitVec 1 := Scalar.cmpi .ne v4167 c0_i32_2367
  let v4169 : BitVec 1 := Scalar.andi v4166 v4168
  let v4155 : BitVec 32 := Scalar.divsi v4154 c16_i32_2362
  let c1_i32_2368 : BitVec 32 := 1#32
  let v4170 : BitVec 32 := Scalar.subi v4155 c1_i32_2368
  let v4171 : BitVec 32 := Scalar.select v4169 v4170 v4155
  let v4172 : BitVec 32 := Scalar.subi v4171 v4152
  let c1_i32_2370 : BitVec 32 := 1#32
  let v4174 : BitVec 32 := Scalar.divsi v4172 c1_i32_2370
  let v4175 : BitVec 32 := Scalar.muli v4174 c1_i32_2370
  let v4176 : BitVec 32 := Scalar.addi v4152 v4175
  let v4173 : BitVec 32 := Scalar.addi v4152 v4172
  let c1_i32_2372 : BitVec 32 := 1#32
  ⟨v4176, v4173, c1_i32_2372⟩
def k0_mult5 (i : grid0.Coords) (v3863 : BitVec 32) (v3867 : BitVec 32) (v3871 : BitVec 32) (v3875 : BitVec 32) (v3879 : BitVec 32) (v3883 : BitVec 32) (v3887 : BitVec 32) (k0_t4 : Fin (k0_t4_loop i v3863 v3867 v3871 v3875 v3879 v3883 v3887).trips) : BitVec 32 :=
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let v4153 : BitVec 32 := Scalar.addi v3885 v3887
  let c15_i32 : BitVec 32 := 15#32
  let v4154 : BitVec 32 := Scalar.addi v4153 c15_i32
  let c0_i32_2363 : BitVec 32 := 0#32
  let v4156 : BitVec 1 := Scalar.cmpi .sgt v4154 c0_i32_2363
  let v4157 : BitVec 32 := Scalar.extui v4156
  let c0_i32_2364 : BitVec 32 := 0#32
  let v4158 : BitVec 1 := Scalar.cmpi .slt v4154 c0_i32_2364
  let v4159 : BitVec 32 := Scalar.extui v4158
  let v4160 : BitVec 32 := Scalar.subi v4157 v4159
  let c16_i32_2362 : BitVec 32 := 16#32
  let c0_i32_2365 : BitVec 32 := 0#32
  let v4161 : BitVec 1 := Scalar.cmpi .sgt c16_i32_2362 c0_i32_2365
  let v4162 : BitVec 32 := Scalar.extui v4161
  let c0_i32_2366 : BitVec 32 := 0#32
  let v4163 : BitVec 1 := Scalar.cmpi .slt c16_i32_2362 c0_i32_2366
  let v4164 : BitVec 32 := Scalar.extui v4163
  let v4165 : BitVec 32 := Scalar.subi v4162 v4164
  let v4166 : BitVec 1 := Scalar.cmpi .ne v4160 v4165
  let v4167 : BitVec 32 := Scalar.remsi v4154 c16_i32_2362
  let c0_i32_2367 : BitVec 32 := 0#32
  let v4168 : BitVec 1 := Scalar.cmpi .ne v4167 c0_i32_2367
  let v4169 : BitVec 1 := Scalar.andi v4166 v4168
  let v4155 : BitVec 32 := Scalar.divsi v4154 c16_i32_2362
  let c1_i32_2368 : BitVec 32 := 1#32
  let v4170 : BitVec 32 := Scalar.subi v4155 c1_i32_2368
  let v4171 : BitVec 32 := Scalar.select v4169 v4170 v4155
  let v4172 : BitVec 32 := Scalar.subi v4171 v4152
  let c1_i32_2370 : BitVec 32 := 1#32
  let v4174 : BitVec 32 := Scalar.divsi v4172 c1_i32_2370
  let v4175 : BitVec 32 := Scalar.muli v4174 c1_i32_2370
  let v4176 : BitVec 32 := Scalar.addi v4152 v4175
  let c1_i32_2372 : BitVec 32 := 1#32
  let arg18 : BitVec 32 := Scf.iv v4176 c1_i32_2372 k0_t4
  let c16_i32_2373 : BitVec 32 := 16#32
  let v4177 : BitVec 32 := Scalar.muli arg18 c16_i32_2373
  v4177
def k0_off408 (i : grid0.Coords) (v3863 : BitVec 32) (v3867 : BitVec 32) (v3871 : BitVec 32) (v3875 : BitVec 32) (v3879 : BitVec 32) (v3883 : BitVec 32) (v3887 : BitVec 32) (k0_t4 : Fin (k0_t4_loop i v3863 v3867 v3871 v3875 v3879 v3883 v3887).trips) : Fin 2 → Nat :=
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let v4153 : BitVec 32 := Scalar.addi v3885 v3887
  let c15_i32 : BitVec 32 := 15#32
  let v4154 : BitVec 32 := Scalar.addi v4153 c15_i32
  let c0_i32_2363 : BitVec 32 := 0#32
  let v4156 : BitVec 1 := Scalar.cmpi .sgt v4154 c0_i32_2363
  let v4157 : BitVec 32 := Scalar.extui v4156
  let c0_i32_2364 : BitVec 32 := 0#32
  let v4158 : BitVec 1 := Scalar.cmpi .slt v4154 c0_i32_2364
  let v4159 : BitVec 32 := Scalar.extui v4158
  let v4160 : BitVec 32 := Scalar.subi v4157 v4159
  let c16_i32_2362 : BitVec 32 := 16#32
  let c0_i32_2365 : BitVec 32 := 0#32
  let v4161 : BitVec 1 := Scalar.cmpi .sgt c16_i32_2362 c0_i32_2365
  let v4162 : BitVec 32 := Scalar.extui v4161
  let c0_i32_2366 : BitVec 32 := 0#32
  let v4163 : BitVec 1 := Scalar.cmpi .slt c16_i32_2362 c0_i32_2366
  let v4164 : BitVec 32 := Scalar.extui v4163
  let v4165 : BitVec 32 := Scalar.subi v4162 v4164
  let v4166 : BitVec 1 := Scalar.cmpi .ne v4160 v4165
  let v4167 : BitVec 32 := Scalar.remsi v4154 c16_i32_2362
  let c0_i32_2367 : BitVec 32 := 0#32
  let v4168 : BitVec 1 := Scalar.cmpi .ne v4167 c0_i32_2367
  let v4169 : BitVec 1 := Scalar.andi v4166 v4168
  let v4155 : BitVec 32 := Scalar.divsi v4154 c16_i32_2362
  let c1_i32_2368 : BitVec 32 := 1#32
  let v4170 : BitVec 32 := Scalar.subi v4155 c1_i32_2368
  let v4171 : BitVec 32 := Scalar.select v4169 v4170 v4155
  let v4172 : BitVec 32 := Scalar.subi v4171 v4152
  let c1_i32_2370 : BitVec 32 := 1#32
  let v4174 : BitVec 32 := Scalar.divsi v4172 c1_i32_2370
  let v4175 : BitVec 32 := Scalar.muli v4174 c1_i32_2370
  let v4176 : BitVec 32 := Scalar.addi v4152 v4175
  let c1_i32_2372 : BitVec 32 := 1#32
  let arg18 : BitVec 32 := Scf.iv v4176 c1_i32_2372 k0_t4
  let c16_i32_2373 : BitVec 32 := 16#32
  let v4177 : BitVec 32 := Scalar.muli arg18 c16_i32_2373
  let v4178 : BitVec 32 := v4177
  let v4190 : Index := Scalar.indexCast v4178
  let c0_2375 : Index := 0#32
  ![v4190.toNat, 0]
def k0_off409 (i : grid0.Coords) (v3863 : BitVec 32) (v3867 : BitVec 32) (v3871 : BitVec 32) (v3875 : BitVec 32) (v3879 : BitVec 32) (v3883 : BitVec 32) (v3887 : BitVec 32) (k0_t4 : Fin (k0_t4_loop i v3863 v3867 v3871 v3875 v3879 v3883 v3887).trips) : Fin 3 → Nat :=
  let c0_2376 : Index := 0#32
  let c16_i32_2374 : BitVec 32 := 16#32
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let v4153 : BitVec 32 := Scalar.addi v3885 v3887
  let c15_i32 : BitVec 32 := 15#32
  let v4154 : BitVec 32 := Scalar.addi v4153 c15_i32
  let c0_i32_2363 : BitVec 32 := 0#32
  let v4156 : BitVec 1 := Scalar.cmpi .sgt v4154 c0_i32_2363
  let v4157 : BitVec 32 := Scalar.extui v4156
  let c0_i32_2364 : BitVec 32 := 0#32
  let v4158 : BitVec 1 := Scalar.cmpi .slt v4154 c0_i32_2364
  let v4159 : BitVec 32 := Scalar.extui v4158
  let v4160 : BitVec 32 := Scalar.subi v4157 v4159
  let c16_i32_2362 : BitVec 32 := 16#32
  let c0_i32_2365 : BitVec 32 := 0#32
  let v4161 : BitVec 1 := Scalar.cmpi .sgt c16_i32_2362 c0_i32_2365
  let v4162 : BitVec 32 := Scalar.extui v4161
  let c0_i32_2366 : BitVec 32 := 0#32
  let v4163 : BitVec 1 := Scalar.cmpi .slt c16_i32_2362 c0_i32_2366
  let v4164 : BitVec 32 := Scalar.extui v4163
  let v4165 : BitVec 32 := Scalar.subi v4162 v4164
  let v4166 : BitVec 1 := Scalar.cmpi .ne v4160 v4165
  let v4167 : BitVec 32 := Scalar.remsi v4154 c16_i32_2362
  let c0_i32_2367 : BitVec 32 := 0#32
  let v4168 : BitVec 1 := Scalar.cmpi .ne v4167 c0_i32_2367
  let v4169 : BitVec 1 := Scalar.andi v4166 v4168
  let v4155 : BitVec 32 := Scalar.divsi v4154 c16_i32_2362
  let c1_i32_2368 : BitVec 32 := 1#32
  let v4170 : BitVec 32 := Scalar.subi v4155 c1_i32_2368
  let v4171 : BitVec 32 := Scalar.select v4169 v4170 v4155
  let v4172 : BitVec 32 := Scalar.subi v4171 v4152
  let c1_i32_2370 : BitVec 32 := 1#32
  let v4174 : BitVec 32 := Scalar.divsi v4172 c1_i32_2370
  let v4175 : BitVec 32 := Scalar.muli v4174 c1_i32_2370
  let v4176 : BitVec 32 := Scalar.addi v4152 v4175
  let c1_i32_2372 : BitVec 32 := 1#32
  let arg18 : BitVec 32 := Scf.iv v4176 c1_i32_2372 k0_t4
  let c16_i32_2373 : BitVec 32 := 16#32
  let v4177 : BitVec 32 := Scalar.muli arg18 c16_i32_2373
  let v4178 : BitVec 32 := v4177
  let v4179 : BitVec 32 := Scalar.addi c16_i32_2374 v4178
  let v4180 : BitVec 32 := Scalar.subi v4179 v3885
  let v4194 : Index := Scalar.indexCast v4180
  let c0_2377 : Index := 0#32
  ![0, v4194.toNat, 0]
def k0_off410 (i : grid0.Coords) (v3863 : BitVec 32) (v3867 : BitVec 32) (v3871 : BitVec 32) (v3875 : BitVec 32) (v3879 : BitVec 32) (v3883 : BitVec 32) (v3887 : BitVec 32) (k0_t4 : Fin (k0_t4_loop i v3863 v3867 v3871 v3875 v3879 v3883 v3887).trips) : Fin 2 → Nat :=
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let v4153 : BitVec 32 := Scalar.addi v3885 v3887
  let c15_i32 : BitVec 32 := 15#32
  let v4154 : BitVec 32 := Scalar.addi v4153 c15_i32
  let c0_i32_2363 : BitVec 32 := 0#32
  let v4156 : BitVec 1 := Scalar.cmpi .sgt v4154 c0_i32_2363
  let v4157 : BitVec 32 := Scalar.extui v4156
  let c0_i32_2364 : BitVec 32 := 0#32
  let v4158 : BitVec 1 := Scalar.cmpi .slt v4154 c0_i32_2364
  let v4159 : BitVec 32 := Scalar.extui v4158
  let v4160 : BitVec 32 := Scalar.subi v4157 v4159
  let c16_i32_2362 : BitVec 32 := 16#32
  let c0_i32_2365 : BitVec 32 := 0#32
  let v4161 : BitVec 1 := Scalar.cmpi .sgt c16_i32_2362 c0_i32_2365
  let v4162 : BitVec 32 := Scalar.extui v4161
  let c0_i32_2366 : BitVec 32 := 0#32
  let v4163 : BitVec 1 := Scalar.cmpi .slt c16_i32_2362 c0_i32_2366
  let v4164 : BitVec 32 := Scalar.extui v4163
  let v4165 : BitVec 32 := Scalar.subi v4162 v4164
  let v4166 : BitVec 1 := Scalar.cmpi .ne v4160 v4165
  let v4167 : BitVec 32 := Scalar.remsi v4154 c16_i32_2362
  let c0_i32_2367 : BitVec 32 := 0#32
  let v4168 : BitVec 1 := Scalar.cmpi .ne v4167 c0_i32_2367
  let v4169 : BitVec 1 := Scalar.andi v4166 v4168
  let v4155 : BitVec 32 := Scalar.divsi v4154 c16_i32_2362
  let c1_i32_2368 : BitVec 32 := 1#32
  let v4170 : BitVec 32 := Scalar.subi v4155 c1_i32_2368
  let v4171 : BitVec 32 := Scalar.select v4169 v4170 v4155
  let v4172 : BitVec 32 := Scalar.subi v4171 v4152
  let c1_i32_2370 : BitVec 32 := 1#32
  let v4174 : BitVec 32 := Scalar.divsi v4172 c1_i32_2370
  let v4175 : BitVec 32 := Scalar.muli v4174 c1_i32_2370
  let v4176 : BitVec 32 := Scalar.addi v4152 v4175
  let c1_i32_2372 : BitVec 32 := 1#32
  let arg18 : BitVec 32 := Scf.iv v4176 c1_i32_2372 k0_t4
  let c16_i32_2373 : BitVec 32 := 16#32
  let v4177 : BitVec 32 := Scalar.muli arg18 c16_i32_2373
  let v4178 : BitVec 32 := v4177
  let v4201 : Index := Scalar.indexCast v4178
  let c128_2379 : Index := 128#32
  ![v4201.toNat, 128]
def k0_off411 (i : grid0.Coords) (v3863 : BitVec 32) (v3867 : BitVec 32) (v3871 : BitVec 32) (v3875 : BitVec 32) (v3879 : BitVec 32) (v3883 : BitVec 32) (v3887 : BitVec 32) (k0_t4 : Fin (k0_t4_loop i v3863 v3867 v3871 v3875 v3879 v3883 v3887).trips) : Fin 3 → Nat :=
  let c1_2380 : Index := 1#32
  let c16_i32_2374 : BitVec 32 := 16#32
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let v4153 : BitVec 32 := Scalar.addi v3885 v3887
  let c15_i32 : BitVec 32 := 15#32
  let v4154 : BitVec 32 := Scalar.addi v4153 c15_i32
  let c0_i32_2363 : BitVec 32 := 0#32
  let v4156 : BitVec 1 := Scalar.cmpi .sgt v4154 c0_i32_2363
  let v4157 : BitVec 32 := Scalar.extui v4156
  let c0_i32_2364 : BitVec 32 := 0#32
  let v4158 : BitVec 1 := Scalar.cmpi .slt v4154 c0_i32_2364
  let v4159 : BitVec 32 := Scalar.extui v4158
  let v4160 : BitVec 32 := Scalar.subi v4157 v4159
  let c16_i32_2362 : BitVec 32 := 16#32
  let c0_i32_2365 : BitVec 32 := 0#32
  let v4161 : BitVec 1 := Scalar.cmpi .sgt c16_i32_2362 c0_i32_2365
  let v4162 : BitVec 32 := Scalar.extui v4161
  let c0_i32_2366 : BitVec 32 := 0#32
  let v4163 : BitVec 1 := Scalar.cmpi .slt c16_i32_2362 c0_i32_2366
  let v4164 : BitVec 32 := Scalar.extui v4163
  let v4165 : BitVec 32 := Scalar.subi v4162 v4164
  let v4166 : BitVec 1 := Scalar.cmpi .ne v4160 v4165
  let v4167 : BitVec 32 := Scalar.remsi v4154 c16_i32_2362
  let c0_i32_2367 : BitVec 32 := 0#32
  let v4168 : BitVec 1 := Scalar.cmpi .ne v4167 c0_i32_2367
  let v4169 : BitVec 1 := Scalar.andi v4166 v4168
  let v4155 : BitVec 32 := Scalar.divsi v4154 c16_i32_2362
  let c1_i32_2368 : BitVec 32 := 1#32
  let v4170 : BitVec 32 := Scalar.subi v4155 c1_i32_2368
  let v4171 : BitVec 32 := Scalar.select v4169 v4170 v4155
  let v4172 : BitVec 32 := Scalar.subi v4171 v4152
  let c1_i32_2370 : BitVec 32 := 1#32
  let v4174 : BitVec 32 := Scalar.divsi v4172 c1_i32_2370
  let v4175 : BitVec 32 := Scalar.muli v4174 c1_i32_2370
  let v4176 : BitVec 32 := Scalar.addi v4152 v4175
  let c1_i32_2372 : BitVec 32 := 1#32
  let arg18 : BitVec 32 := Scf.iv v4176 c1_i32_2372 k0_t4
  let c16_i32_2373 : BitVec 32 := 16#32
  let v4177 : BitVec 32 := Scalar.muli arg18 c16_i32_2373
  let v4178 : BitVec 32 := v4177
  let v4179 : BitVec 32 := Scalar.addi c16_i32_2374 v4178
  let v4180 : BitVec 32 := Scalar.subi v4179 v3885
  let v4205 : Index := Scalar.indexCast v4180
  let c0_2381 : Index := 0#32
  ![1, v4205.toNat, 0]
def k0_off412 (i : grid0.Coords) (v3863 : BitVec 32) (v3867 : BitVec 32) (v3871 : BitVec 32) (v3875 : BitVec 32) (v3879 : BitVec 32) (v3883 : BitVec 32) (v3887 : BitVec 32) (k0_t4 : Fin (k0_t4_loop i v3863 v3867 v3871 v3875 v3879 v3883 v3887).trips) : Fin 2 → Nat :=
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let v4153 : BitVec 32 := Scalar.addi v3885 v3887
  let c15_i32 : BitVec 32 := 15#32
  let v4154 : BitVec 32 := Scalar.addi v4153 c15_i32
  let c0_i32_2363 : BitVec 32 := 0#32
  let v4156 : BitVec 1 := Scalar.cmpi .sgt v4154 c0_i32_2363
  let v4157 : BitVec 32 := Scalar.extui v4156
  let c0_i32_2364 : BitVec 32 := 0#32
  let v4158 : BitVec 1 := Scalar.cmpi .slt v4154 c0_i32_2364
  let v4159 : BitVec 32 := Scalar.extui v4158
  let v4160 : BitVec 32 := Scalar.subi v4157 v4159
  let c16_i32_2362 : BitVec 32 := 16#32
  let c0_i32_2365 : BitVec 32 := 0#32
  let v4161 : BitVec 1 := Scalar.cmpi .sgt c16_i32_2362 c0_i32_2365
  let v4162 : BitVec 32 := Scalar.extui v4161
  let c0_i32_2366 : BitVec 32 := 0#32
  let v4163 : BitVec 1 := Scalar.cmpi .slt c16_i32_2362 c0_i32_2366
  let v4164 : BitVec 32 := Scalar.extui v4163
  let v4165 : BitVec 32 := Scalar.subi v4162 v4164
  let v4166 : BitVec 1 := Scalar.cmpi .ne v4160 v4165
  let v4167 : BitVec 32 := Scalar.remsi v4154 c16_i32_2362
  let c0_i32_2367 : BitVec 32 := 0#32
  let v4168 : BitVec 1 := Scalar.cmpi .ne v4167 c0_i32_2367
  let v4169 : BitVec 1 := Scalar.andi v4166 v4168
  let v4155 : BitVec 32 := Scalar.divsi v4154 c16_i32_2362
  let c1_i32_2368 : BitVec 32 := 1#32
  let v4170 : BitVec 32 := Scalar.subi v4155 c1_i32_2368
  let v4171 : BitVec 32 := Scalar.select v4169 v4170 v4155
  let v4172 : BitVec 32 := Scalar.subi v4171 v4152
  let c1_i32_2370 : BitVec 32 := 1#32
  let v4174 : BitVec 32 := Scalar.divsi v4172 c1_i32_2370
  let v4175 : BitVec 32 := Scalar.muli v4174 c1_i32_2370
  let v4176 : BitVec 32 := Scalar.addi v4152 v4175
  let c1_i32_2372 : BitVec 32 := 1#32
  let arg18 : BitVec 32 := Scf.iv v4176 c1_i32_2372 k0_t4
  let c16_i32_2373 : BitVec 32 := 16#32
  let v4177 : BitVec 32 := Scalar.muli arg18 c16_i32_2373
  let v4178 : BitVec 32 := v4177
  let v4212 : Index := Scalar.indexCast v4178
  let c256_2383 : Index := 256#32
  ![v4212.toNat, 256]
def k0_off413 (i : grid0.Coords) (v3863 : BitVec 32) (v3867 : BitVec 32) (v3871 : BitVec 32) (v3875 : BitVec 32) (v3879 : BitVec 32) (v3883 : BitVec 32) (v3887 : BitVec 32) (k0_t4 : Fin (k0_t4_loop i v3863 v3867 v3871 v3875 v3879 v3883 v3887).trips) : Fin 3 → Nat :=
  let c2_2384 : Index := 2#32
  let c16_i32_2374 : BitVec 32 := 16#32
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let v4153 : BitVec 32 := Scalar.addi v3885 v3887
  let c15_i32 : BitVec 32 := 15#32
  let v4154 : BitVec 32 := Scalar.addi v4153 c15_i32
  let c0_i32_2363 : BitVec 32 := 0#32
  let v4156 : BitVec 1 := Scalar.cmpi .sgt v4154 c0_i32_2363
  let v4157 : BitVec 32 := Scalar.extui v4156
  let c0_i32_2364 : BitVec 32 := 0#32
  let v4158 : BitVec 1 := Scalar.cmpi .slt v4154 c0_i32_2364
  let v4159 : BitVec 32 := Scalar.extui v4158
  let v4160 : BitVec 32 := Scalar.subi v4157 v4159
  let c16_i32_2362 : BitVec 32 := 16#32
  let c0_i32_2365 : BitVec 32 := 0#32
  let v4161 : BitVec 1 := Scalar.cmpi .sgt c16_i32_2362 c0_i32_2365
  let v4162 : BitVec 32 := Scalar.extui v4161
  let c0_i32_2366 : BitVec 32 := 0#32
  let v4163 : BitVec 1 := Scalar.cmpi .slt c16_i32_2362 c0_i32_2366
  let v4164 : BitVec 32 := Scalar.extui v4163
  let v4165 : BitVec 32 := Scalar.subi v4162 v4164
  let v4166 : BitVec 1 := Scalar.cmpi .ne v4160 v4165
  let v4167 : BitVec 32 := Scalar.remsi v4154 c16_i32_2362
  let c0_i32_2367 : BitVec 32 := 0#32
  let v4168 : BitVec 1 := Scalar.cmpi .ne v4167 c0_i32_2367
  let v4169 : BitVec 1 := Scalar.andi v4166 v4168
  let v4155 : BitVec 32 := Scalar.divsi v4154 c16_i32_2362
  let c1_i32_2368 : BitVec 32 := 1#32
  let v4170 : BitVec 32 := Scalar.subi v4155 c1_i32_2368
  let v4171 : BitVec 32 := Scalar.select v4169 v4170 v4155
  let v4172 : BitVec 32 := Scalar.subi v4171 v4152
  let c1_i32_2370 : BitVec 32 := 1#32
  let v4174 : BitVec 32 := Scalar.divsi v4172 c1_i32_2370
  let v4175 : BitVec 32 := Scalar.muli v4174 c1_i32_2370
  let v4176 : BitVec 32 := Scalar.addi v4152 v4175
  let c1_i32_2372 : BitVec 32 := 1#32
  let arg18 : BitVec 32 := Scf.iv v4176 c1_i32_2372 k0_t4
  let c16_i32_2373 : BitVec 32 := 16#32
  let v4177 : BitVec 32 := Scalar.muli arg18 c16_i32_2373
  let v4178 : BitVec 32 := v4177
  let v4179 : BitVec 32 := Scalar.addi c16_i32_2374 v4178
  let v4180 : BitVec 32 := Scalar.subi v4179 v3885
  let v4216 : Index := Scalar.indexCast v4180
  let c0_2385 : Index := 0#32
  ![2, v4216.toNat, 0]
def k0_off414 (i : grid0.Coords) (v3863 : BitVec 32) (v3867 : BitVec 32) (v3871 : BitVec 32) (v3875 : BitVec 32) (v3879 : BitVec 32) (v3883 : BitVec 32) (v3887 : BitVec 32) (k0_t4 : Fin (k0_t4_loop i v3863 v3867 v3871 v3875 v3879 v3883 v3887).trips) : Fin 2 → Nat :=
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let v4153 : BitVec 32 := Scalar.addi v3885 v3887
  let c15_i32 : BitVec 32 := 15#32
  let v4154 : BitVec 32 := Scalar.addi v4153 c15_i32
  let c0_i32_2363 : BitVec 32 := 0#32
  let v4156 : BitVec 1 := Scalar.cmpi .sgt v4154 c0_i32_2363
  let v4157 : BitVec 32 := Scalar.extui v4156
  let c0_i32_2364 : BitVec 32 := 0#32
  let v4158 : BitVec 1 := Scalar.cmpi .slt v4154 c0_i32_2364
  let v4159 : BitVec 32 := Scalar.extui v4158
  let v4160 : BitVec 32 := Scalar.subi v4157 v4159
  let c16_i32_2362 : BitVec 32 := 16#32
  let c0_i32_2365 : BitVec 32 := 0#32
  let v4161 : BitVec 1 := Scalar.cmpi .sgt c16_i32_2362 c0_i32_2365
  let v4162 : BitVec 32 := Scalar.extui v4161
  let c0_i32_2366 : BitVec 32 := 0#32
  let v4163 : BitVec 1 := Scalar.cmpi .slt c16_i32_2362 c0_i32_2366
  let v4164 : BitVec 32 := Scalar.extui v4163
  let v4165 : BitVec 32 := Scalar.subi v4162 v4164
  let v4166 : BitVec 1 := Scalar.cmpi .ne v4160 v4165
  let v4167 : BitVec 32 := Scalar.remsi v4154 c16_i32_2362
  let c0_i32_2367 : BitVec 32 := 0#32
  let v4168 : BitVec 1 := Scalar.cmpi .ne v4167 c0_i32_2367
  let v4169 : BitVec 1 := Scalar.andi v4166 v4168
  let v4155 : BitVec 32 := Scalar.divsi v4154 c16_i32_2362
  let c1_i32_2368 : BitVec 32 := 1#32
  let v4170 : BitVec 32 := Scalar.subi v4155 c1_i32_2368
  let v4171 : BitVec 32 := Scalar.select v4169 v4170 v4155
  let v4172 : BitVec 32 := Scalar.subi v4171 v4152
  let c1_i32_2370 : BitVec 32 := 1#32
  let v4174 : BitVec 32 := Scalar.divsi v4172 c1_i32_2370
  let v4175 : BitVec 32 := Scalar.muli v4174 c1_i32_2370
  let v4176 : BitVec 32 := Scalar.addi v4152 v4175
  let c1_i32_2372 : BitVec 32 := 1#32
  let arg18 : BitVec 32 := Scf.iv v4176 c1_i32_2372 k0_t4
  let c16_i32_2373 : BitVec 32 := 16#32
  let v4177 : BitVec 32 := Scalar.muli arg18 c16_i32_2373
  let v4178 : BitVec 32 := v4177
  let v4223 : Index := Scalar.indexCast v4178
  let c384_2387 : Index := 384#32
  ![v4223.toNat, 384]
def k0_off415 (i : grid0.Coords) (v3863 : BitVec 32) (v3867 : BitVec 32) (v3871 : BitVec 32) (v3875 : BitVec 32) (v3879 : BitVec 32) (v3883 : BitVec 32) (v3887 : BitVec 32) (k0_t4 : Fin (k0_t4_loop i v3863 v3867 v3871 v3875 v3879 v3883 v3887).trips) : Fin 3 → Nat :=
  let c3_2388 : Index := 3#32
  let c16_i32_2374 : BitVec 32 := 16#32
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let v4153 : BitVec 32 := Scalar.addi v3885 v3887
  let c15_i32 : BitVec 32 := 15#32
  let v4154 : BitVec 32 := Scalar.addi v4153 c15_i32
  let c0_i32_2363 : BitVec 32 := 0#32
  let v4156 : BitVec 1 := Scalar.cmpi .sgt v4154 c0_i32_2363
  let v4157 : BitVec 32 := Scalar.extui v4156
  let c0_i32_2364 : BitVec 32 := 0#32
  let v4158 : BitVec 1 := Scalar.cmpi .slt v4154 c0_i32_2364
  let v4159 : BitVec 32 := Scalar.extui v4158
  let v4160 : BitVec 32 := Scalar.subi v4157 v4159
  let c16_i32_2362 : BitVec 32 := 16#32
  let c0_i32_2365 : BitVec 32 := 0#32
  let v4161 : BitVec 1 := Scalar.cmpi .sgt c16_i32_2362 c0_i32_2365
  let v4162 : BitVec 32 := Scalar.extui v4161
  let c0_i32_2366 : BitVec 32 := 0#32
  let v4163 : BitVec 1 := Scalar.cmpi .slt c16_i32_2362 c0_i32_2366
  let v4164 : BitVec 32 := Scalar.extui v4163
  let v4165 : BitVec 32 := Scalar.subi v4162 v4164
  let v4166 : BitVec 1 := Scalar.cmpi .ne v4160 v4165
  let v4167 : BitVec 32 := Scalar.remsi v4154 c16_i32_2362
  let c0_i32_2367 : BitVec 32 := 0#32
  let v4168 : BitVec 1 := Scalar.cmpi .ne v4167 c0_i32_2367
  let v4169 : BitVec 1 := Scalar.andi v4166 v4168
  let v4155 : BitVec 32 := Scalar.divsi v4154 c16_i32_2362
  let c1_i32_2368 : BitVec 32 := 1#32
  let v4170 : BitVec 32 := Scalar.subi v4155 c1_i32_2368
  let v4171 : BitVec 32 := Scalar.select v4169 v4170 v4155
  let v4172 : BitVec 32 := Scalar.subi v4171 v4152
  let c1_i32_2370 : BitVec 32 := 1#32
  let v4174 : BitVec 32 := Scalar.divsi v4172 c1_i32_2370
  let v4175 : BitVec 32 := Scalar.muli v4174 c1_i32_2370
  let v4176 : BitVec 32 := Scalar.addi v4152 v4175
  let c1_i32_2372 : BitVec 32 := 1#32
  let arg18 : BitVec 32 := Scf.iv v4176 c1_i32_2372 k0_t4
  let c16_i32_2373 : BitVec 32 := 16#32
  let v4177 : BitVec 32 := Scalar.muli arg18 c16_i32_2373
  let v4178 : BitVec 32 := v4177
  let v4179 : BitVec 32 := Scalar.addi c16_i32_2374 v4178
  let v4180 : BitVec 32 := Scalar.subi v4179 v3885
  let v4227 : Index := Scalar.indexCast v4180
  let c0_2389 : Index := 0#32
  ![3, v4227.toNat, 0]
def k0_off416 (i : grid0.Coords) (v3863 : BitVec 32) (v3867 : BitVec 32) (v3871 : BitVec 32) (v3875 : BitVec 32) (v3879 : BitVec 32) (v3883 : BitVec 32) (v3887 : BitVec 32) (k0_t4 : Fin (k0_t4_loop i v3863 v3867 v3871 v3875 v3879 v3883 v3887).trips) : Fin 2 → Nat :=
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let v4153 : BitVec 32 := Scalar.addi v3885 v3887
  let c15_i32 : BitVec 32 := 15#32
  let v4154 : BitVec 32 := Scalar.addi v4153 c15_i32
  let c0_i32_2363 : BitVec 32 := 0#32
  let v4156 : BitVec 1 := Scalar.cmpi .sgt v4154 c0_i32_2363
  let v4157 : BitVec 32 := Scalar.extui v4156
  let c0_i32_2364 : BitVec 32 := 0#32
  let v4158 : BitVec 1 := Scalar.cmpi .slt v4154 c0_i32_2364
  let v4159 : BitVec 32 := Scalar.extui v4158
  let v4160 : BitVec 32 := Scalar.subi v4157 v4159
  let c16_i32_2362 : BitVec 32 := 16#32
  let c0_i32_2365 : BitVec 32 := 0#32
  let v4161 : BitVec 1 := Scalar.cmpi .sgt c16_i32_2362 c0_i32_2365
  let v4162 : BitVec 32 := Scalar.extui v4161
  let c0_i32_2366 : BitVec 32 := 0#32
  let v4163 : BitVec 1 := Scalar.cmpi .slt c16_i32_2362 c0_i32_2366
  let v4164 : BitVec 32 := Scalar.extui v4163
  let v4165 : BitVec 32 := Scalar.subi v4162 v4164
  let v4166 : BitVec 1 := Scalar.cmpi .ne v4160 v4165
  let v4167 : BitVec 32 := Scalar.remsi v4154 c16_i32_2362
  let c0_i32_2367 : BitVec 32 := 0#32
  let v4168 : BitVec 1 := Scalar.cmpi .ne v4167 c0_i32_2367
  let v4169 : BitVec 1 := Scalar.andi v4166 v4168
  let v4155 : BitVec 32 := Scalar.divsi v4154 c16_i32_2362
  let c1_i32_2368 : BitVec 32 := 1#32
  let v4170 : BitVec 32 := Scalar.subi v4155 c1_i32_2368
  let v4171 : BitVec 32 := Scalar.select v4169 v4170 v4155
  let v4172 : BitVec 32 := Scalar.subi v4171 v4152
  let c1_i32_2370 : BitVec 32 := 1#32
  let v4174 : BitVec 32 := Scalar.divsi v4172 c1_i32_2370
  let v4175 : BitVec 32 := Scalar.muli v4174 c1_i32_2370
  let v4176 : BitVec 32 := Scalar.addi v4152 v4175
  let c1_i32_2372 : BitVec 32 := 1#32
  let arg18 : BitVec 32 := Scf.iv v4176 c1_i32_2372 k0_t4
  let c16_i32_2373 : BitVec 32 := 16#32
  let v4177 : BitVec 32 := Scalar.muli arg18 c16_i32_2373
  let v4178 : BitVec 32 := v4177
  let v4234 : Index := Scalar.indexCast v4178
  let c512_2391 : Index := 512#32
  ![v4234.toNat, 512]
def k0_off417 (i : grid0.Coords) (v3863 : BitVec 32) (v3867 : BitVec 32) (v3871 : BitVec 32) (v3875 : BitVec 32) (v3879 : BitVec 32) (v3883 : BitVec 32) (v3887 : BitVec 32) (k0_t4 : Fin (k0_t4_loop i v3863 v3867 v3871 v3875 v3879 v3883 v3887).trips) : Fin 3 → Nat :=
  let c4_2392 : Index := 4#32
  let c16_i32_2374 : BitVec 32 := 16#32
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let v4153 : BitVec 32 := Scalar.addi v3885 v3887
  let c15_i32 : BitVec 32 := 15#32
  let v4154 : BitVec 32 := Scalar.addi v4153 c15_i32
  let c0_i32_2363 : BitVec 32 := 0#32
  let v4156 : BitVec 1 := Scalar.cmpi .sgt v4154 c0_i32_2363
  let v4157 : BitVec 32 := Scalar.extui v4156
  let c0_i32_2364 : BitVec 32 := 0#32
  let v4158 : BitVec 1 := Scalar.cmpi .slt v4154 c0_i32_2364
  let v4159 : BitVec 32 := Scalar.extui v4158
  let v4160 : BitVec 32 := Scalar.subi v4157 v4159
  let c16_i32_2362 : BitVec 32 := 16#32
  let c0_i32_2365 : BitVec 32 := 0#32
  let v4161 : BitVec 1 := Scalar.cmpi .sgt c16_i32_2362 c0_i32_2365
  let v4162 : BitVec 32 := Scalar.extui v4161
  let c0_i32_2366 : BitVec 32 := 0#32
  let v4163 : BitVec 1 := Scalar.cmpi .slt c16_i32_2362 c0_i32_2366
  let v4164 : BitVec 32 := Scalar.extui v4163
  let v4165 : BitVec 32 := Scalar.subi v4162 v4164
  let v4166 : BitVec 1 := Scalar.cmpi .ne v4160 v4165
  let v4167 : BitVec 32 := Scalar.remsi v4154 c16_i32_2362
  let c0_i32_2367 : BitVec 32 := 0#32
  let v4168 : BitVec 1 := Scalar.cmpi .ne v4167 c0_i32_2367
  let v4169 : BitVec 1 := Scalar.andi v4166 v4168
  let v4155 : BitVec 32 := Scalar.divsi v4154 c16_i32_2362
  let c1_i32_2368 : BitVec 32 := 1#32
  let v4170 : BitVec 32 := Scalar.subi v4155 c1_i32_2368
  let v4171 : BitVec 32 := Scalar.select v4169 v4170 v4155
  let v4172 : BitVec 32 := Scalar.subi v4171 v4152
  let c1_i32_2370 : BitVec 32 := 1#32
  let v4174 : BitVec 32 := Scalar.divsi v4172 c1_i32_2370
  let v4175 : BitVec 32 := Scalar.muli v4174 c1_i32_2370
  let v4176 : BitVec 32 := Scalar.addi v4152 v4175
  let c1_i32_2372 : BitVec 32 := 1#32
  let arg18 : BitVec 32 := Scf.iv v4176 c1_i32_2372 k0_t4
  let c16_i32_2373 : BitVec 32 := 16#32
  let v4177 : BitVec 32 := Scalar.muli arg18 c16_i32_2373
  let v4178 : BitVec 32 := v4177
  let v4179 : BitVec 32 := Scalar.addi c16_i32_2374 v4178
  let v4180 : BitVec 32 := Scalar.subi v4179 v3885
  let v4238 : Index := Scalar.indexCast v4180
  let c0_2393 : Index := 0#32
  ![4, v4238.toNat, 0]
def k0_off418 (i : grid0.Coords) (v3863 : BitVec 32) (v3867 : BitVec 32) (v3871 : BitVec 32) (v3875 : BitVec 32) (v3879 : BitVec 32) (v3883 : BitVec 32) (v3887 : BitVec 32) (k0_t4 : Fin (k0_t4_loop i v3863 v3867 v3871 v3875 v3879 v3883 v3887).trips) : Fin 2 → Nat :=
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let v4153 : BitVec 32 := Scalar.addi v3885 v3887
  let c15_i32 : BitVec 32 := 15#32
  let v4154 : BitVec 32 := Scalar.addi v4153 c15_i32
  let c0_i32_2363 : BitVec 32 := 0#32
  let v4156 : BitVec 1 := Scalar.cmpi .sgt v4154 c0_i32_2363
  let v4157 : BitVec 32 := Scalar.extui v4156
  let c0_i32_2364 : BitVec 32 := 0#32
  let v4158 : BitVec 1 := Scalar.cmpi .slt v4154 c0_i32_2364
  let v4159 : BitVec 32 := Scalar.extui v4158
  let v4160 : BitVec 32 := Scalar.subi v4157 v4159
  let c16_i32_2362 : BitVec 32 := 16#32
  let c0_i32_2365 : BitVec 32 := 0#32
  let v4161 : BitVec 1 := Scalar.cmpi .sgt c16_i32_2362 c0_i32_2365
  let v4162 : BitVec 32 := Scalar.extui v4161
  let c0_i32_2366 : BitVec 32 := 0#32
  let v4163 : BitVec 1 := Scalar.cmpi .slt c16_i32_2362 c0_i32_2366
  let v4164 : BitVec 32 := Scalar.extui v4163
  let v4165 : BitVec 32 := Scalar.subi v4162 v4164
  let v4166 : BitVec 1 := Scalar.cmpi .ne v4160 v4165
  let v4167 : BitVec 32 := Scalar.remsi v4154 c16_i32_2362
  let c0_i32_2367 : BitVec 32 := 0#32
  let v4168 : BitVec 1 := Scalar.cmpi .ne v4167 c0_i32_2367
  let v4169 : BitVec 1 := Scalar.andi v4166 v4168
  let v4155 : BitVec 32 := Scalar.divsi v4154 c16_i32_2362
  let c1_i32_2368 : BitVec 32 := 1#32
  let v4170 : BitVec 32 := Scalar.subi v4155 c1_i32_2368
  let v4171 : BitVec 32 := Scalar.select v4169 v4170 v4155
  let v4172 : BitVec 32 := Scalar.subi v4171 v4152
  let c1_i32_2370 : BitVec 32 := 1#32
  let v4174 : BitVec 32 := Scalar.divsi v4172 c1_i32_2370
  let v4175 : BitVec 32 := Scalar.muli v4174 c1_i32_2370
  let v4176 : BitVec 32 := Scalar.addi v4152 v4175
  let c1_i32_2372 : BitVec 32 := 1#32
  let arg18 : BitVec 32 := Scf.iv v4176 c1_i32_2372 k0_t4
  let c16_i32_2373 : BitVec 32 := 16#32
  let v4177 : BitVec 32 := Scalar.muli arg18 c16_i32_2373
  let v4178 : BitVec 32 := v4177
  let v4245 : Index := Scalar.indexCast v4178
  let c640_2395 : Index := 640#32
  ![v4245.toNat, 640]
def k0_off419 (i : grid0.Coords) (v3863 : BitVec 32) (v3867 : BitVec 32) (v3871 : BitVec 32) (v3875 : BitVec 32) (v3879 : BitVec 32) (v3883 : BitVec 32) (v3887 : BitVec 32) (k0_t4 : Fin (k0_t4_loop i v3863 v3867 v3871 v3875 v3879 v3883 v3887).trips) : Fin 3 → Nat :=
  let c5_2396 : Index := 5#32
  let c16_i32_2374 : BitVec 32 := 16#32
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let v4153 : BitVec 32 := Scalar.addi v3885 v3887
  let c15_i32 : BitVec 32 := 15#32
  let v4154 : BitVec 32 := Scalar.addi v4153 c15_i32
  let c0_i32_2363 : BitVec 32 := 0#32
  let v4156 : BitVec 1 := Scalar.cmpi .sgt v4154 c0_i32_2363
  let v4157 : BitVec 32 := Scalar.extui v4156
  let c0_i32_2364 : BitVec 32 := 0#32
  let v4158 : BitVec 1 := Scalar.cmpi .slt v4154 c0_i32_2364
  let v4159 : BitVec 32 := Scalar.extui v4158
  let v4160 : BitVec 32 := Scalar.subi v4157 v4159
  let c16_i32_2362 : BitVec 32 := 16#32
  let c0_i32_2365 : BitVec 32 := 0#32
  let v4161 : BitVec 1 := Scalar.cmpi .sgt c16_i32_2362 c0_i32_2365
  let v4162 : BitVec 32 := Scalar.extui v4161
  let c0_i32_2366 : BitVec 32 := 0#32
  let v4163 : BitVec 1 := Scalar.cmpi .slt c16_i32_2362 c0_i32_2366
  let v4164 : BitVec 32 := Scalar.extui v4163
  let v4165 : BitVec 32 := Scalar.subi v4162 v4164
  let v4166 : BitVec 1 := Scalar.cmpi .ne v4160 v4165
  let v4167 : BitVec 32 := Scalar.remsi v4154 c16_i32_2362
  let c0_i32_2367 : BitVec 32 := 0#32
  let v4168 : BitVec 1 := Scalar.cmpi .ne v4167 c0_i32_2367
  let v4169 : BitVec 1 := Scalar.andi v4166 v4168
  let v4155 : BitVec 32 := Scalar.divsi v4154 c16_i32_2362
  let c1_i32_2368 : BitVec 32 := 1#32
  let v4170 : BitVec 32 := Scalar.subi v4155 c1_i32_2368
  let v4171 : BitVec 32 := Scalar.select v4169 v4170 v4155
  let v4172 : BitVec 32 := Scalar.subi v4171 v4152
  let c1_i32_2370 : BitVec 32 := 1#32
  let v4174 : BitVec 32 := Scalar.divsi v4172 c1_i32_2370
  let v4175 : BitVec 32 := Scalar.muli v4174 c1_i32_2370
  let v4176 : BitVec 32 := Scalar.addi v4152 v4175
  let c1_i32_2372 : BitVec 32 := 1#32
  let arg18 : BitVec 32 := Scf.iv v4176 c1_i32_2372 k0_t4
  let c16_i32_2373 : BitVec 32 := 16#32
  let v4177 : BitVec 32 := Scalar.muli arg18 c16_i32_2373
  let v4178 : BitVec 32 := v4177
  let v4179 : BitVec 32 := Scalar.addi c16_i32_2374 v4178
  let v4180 : BitVec 32 := Scalar.subi v4179 v3885
  let v4249 : Index := Scalar.indexCast v4180
  let c0_2397 : Index := 0#32
  ![5, v4249.toNat, 0]
def k0_off420 (i : grid0.Coords) (v3863 : BitVec 32) (v3867 : BitVec 32) (v3871 : BitVec 32) (v3875 : BitVec 32) (v3879 : BitVec 32) (v3883 : BitVec 32) (v3887 : BitVec 32) (k0_t4 : Fin (k0_t4_loop i v3863 v3867 v3871 v3875 v3879 v3883 v3887).trips) : Fin 2 → Nat :=
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let v4153 : BitVec 32 := Scalar.addi v3885 v3887
  let c15_i32 : BitVec 32 := 15#32
  let v4154 : BitVec 32 := Scalar.addi v4153 c15_i32
  let c0_i32_2363 : BitVec 32 := 0#32
  let v4156 : BitVec 1 := Scalar.cmpi .sgt v4154 c0_i32_2363
  let v4157 : BitVec 32 := Scalar.extui v4156
  let c0_i32_2364 : BitVec 32 := 0#32
  let v4158 : BitVec 1 := Scalar.cmpi .slt v4154 c0_i32_2364
  let v4159 : BitVec 32 := Scalar.extui v4158
  let v4160 : BitVec 32 := Scalar.subi v4157 v4159
  let c16_i32_2362 : BitVec 32 := 16#32
  let c0_i32_2365 : BitVec 32 := 0#32
  let v4161 : BitVec 1 := Scalar.cmpi .sgt c16_i32_2362 c0_i32_2365
  let v4162 : BitVec 32 := Scalar.extui v4161
  let c0_i32_2366 : BitVec 32 := 0#32
  let v4163 : BitVec 1 := Scalar.cmpi .slt c16_i32_2362 c0_i32_2366
  let v4164 : BitVec 32 := Scalar.extui v4163
  let v4165 : BitVec 32 := Scalar.subi v4162 v4164
  let v4166 : BitVec 1 := Scalar.cmpi .ne v4160 v4165
  let v4167 : BitVec 32 := Scalar.remsi v4154 c16_i32_2362
  let c0_i32_2367 : BitVec 32 := 0#32
  let v4168 : BitVec 1 := Scalar.cmpi .ne v4167 c0_i32_2367
  let v4169 : BitVec 1 := Scalar.andi v4166 v4168
  let v4155 : BitVec 32 := Scalar.divsi v4154 c16_i32_2362
  let c1_i32_2368 : BitVec 32 := 1#32
  let v4170 : BitVec 32 := Scalar.subi v4155 c1_i32_2368
  let v4171 : BitVec 32 := Scalar.select v4169 v4170 v4155
  let v4172 : BitVec 32 := Scalar.subi v4171 v4152
  let c1_i32_2370 : BitVec 32 := 1#32
  let v4174 : BitVec 32 := Scalar.divsi v4172 c1_i32_2370
  let v4175 : BitVec 32 := Scalar.muli v4174 c1_i32_2370
  let v4176 : BitVec 32 := Scalar.addi v4152 v4175
  let c1_i32_2372 : BitVec 32 := 1#32
  let arg18 : BitVec 32 := Scf.iv v4176 c1_i32_2372 k0_t4
  let c16_i32_2373 : BitVec 32 := 16#32
  let v4177 : BitVec 32 := Scalar.muli arg18 c16_i32_2373
  let v4178 : BitVec 32 := v4177
  let v4256 : Index := Scalar.indexCast v4178
  let c768_2399 : Index := 768#32
  ![v4256.toNat, 768]
def k0_off421 (i : grid0.Coords) (v3863 : BitVec 32) (v3867 : BitVec 32) (v3871 : BitVec 32) (v3875 : BitVec 32) (v3879 : BitVec 32) (v3883 : BitVec 32) (v3887 : BitVec 32) (k0_t4 : Fin (k0_t4_loop i v3863 v3867 v3871 v3875 v3879 v3883 v3887).trips) : Fin 3 → Nat :=
  let c6_2400 : Index := 6#32
  let c16_i32_2374 : BitVec 32 := 16#32
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let v4153 : BitVec 32 := Scalar.addi v3885 v3887
  let c15_i32 : BitVec 32 := 15#32
  let v4154 : BitVec 32 := Scalar.addi v4153 c15_i32
  let c0_i32_2363 : BitVec 32 := 0#32
  let v4156 : BitVec 1 := Scalar.cmpi .sgt v4154 c0_i32_2363
  let v4157 : BitVec 32 := Scalar.extui v4156
  let c0_i32_2364 : BitVec 32 := 0#32
  let v4158 : BitVec 1 := Scalar.cmpi .slt v4154 c0_i32_2364
  let v4159 : BitVec 32 := Scalar.extui v4158
  let v4160 : BitVec 32 := Scalar.subi v4157 v4159
  let c16_i32_2362 : BitVec 32 := 16#32
  let c0_i32_2365 : BitVec 32 := 0#32
  let v4161 : BitVec 1 := Scalar.cmpi .sgt c16_i32_2362 c0_i32_2365
  let v4162 : BitVec 32 := Scalar.extui v4161
  let c0_i32_2366 : BitVec 32 := 0#32
  let v4163 : BitVec 1 := Scalar.cmpi .slt c16_i32_2362 c0_i32_2366
  let v4164 : BitVec 32 := Scalar.extui v4163
  let v4165 : BitVec 32 := Scalar.subi v4162 v4164
  let v4166 : BitVec 1 := Scalar.cmpi .ne v4160 v4165
  let v4167 : BitVec 32 := Scalar.remsi v4154 c16_i32_2362
  let c0_i32_2367 : BitVec 32 := 0#32
  let v4168 : BitVec 1 := Scalar.cmpi .ne v4167 c0_i32_2367
  let v4169 : BitVec 1 := Scalar.andi v4166 v4168
  let v4155 : BitVec 32 := Scalar.divsi v4154 c16_i32_2362
  let c1_i32_2368 : BitVec 32 := 1#32
  let v4170 : BitVec 32 := Scalar.subi v4155 c1_i32_2368
  let v4171 : BitVec 32 := Scalar.select v4169 v4170 v4155
  let v4172 : BitVec 32 := Scalar.subi v4171 v4152
  let c1_i32_2370 : BitVec 32 := 1#32
  let v4174 : BitVec 32 := Scalar.divsi v4172 c1_i32_2370
  let v4175 : BitVec 32 := Scalar.muli v4174 c1_i32_2370
  let v4176 : BitVec 32 := Scalar.addi v4152 v4175
  let c1_i32_2372 : BitVec 32 := 1#32
  let arg18 : BitVec 32 := Scf.iv v4176 c1_i32_2372 k0_t4
  let c16_i32_2373 : BitVec 32 := 16#32
  let v4177 : BitVec 32 := Scalar.muli arg18 c16_i32_2373
  let v4178 : BitVec 32 := v4177
  let v4179 : BitVec 32 := Scalar.addi c16_i32_2374 v4178
  let v4180 : BitVec 32 := Scalar.subi v4179 v3885
  let v4260 : Index := Scalar.indexCast v4180
  let c0_2401 : Index := 0#32
  ![6, v4260.toNat, 0]
def k0_off422 (i : grid0.Coords) (v3863 : BitVec 32) (v3867 : BitVec 32) (v3871 : BitVec 32) (v3875 : BitVec 32) (v3879 : BitVec 32) (v3883 : BitVec 32) (v3887 : BitVec 32) (k0_t4 : Fin (k0_t4_loop i v3863 v3867 v3871 v3875 v3879 v3883 v3887).trips) : Fin 2 → Nat :=
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let v4153 : BitVec 32 := Scalar.addi v3885 v3887
  let c15_i32 : BitVec 32 := 15#32
  let v4154 : BitVec 32 := Scalar.addi v4153 c15_i32
  let c0_i32_2363 : BitVec 32 := 0#32
  let v4156 : BitVec 1 := Scalar.cmpi .sgt v4154 c0_i32_2363
  let v4157 : BitVec 32 := Scalar.extui v4156
  let c0_i32_2364 : BitVec 32 := 0#32
  let v4158 : BitVec 1 := Scalar.cmpi .slt v4154 c0_i32_2364
  let v4159 : BitVec 32 := Scalar.extui v4158
  let v4160 : BitVec 32 := Scalar.subi v4157 v4159
  let c16_i32_2362 : BitVec 32 := 16#32
  let c0_i32_2365 : BitVec 32 := 0#32
  let v4161 : BitVec 1 := Scalar.cmpi .sgt c16_i32_2362 c0_i32_2365
  let v4162 : BitVec 32 := Scalar.extui v4161
  let c0_i32_2366 : BitVec 32 := 0#32
  let v4163 : BitVec 1 := Scalar.cmpi .slt c16_i32_2362 c0_i32_2366
  let v4164 : BitVec 32 := Scalar.extui v4163
  let v4165 : BitVec 32 := Scalar.subi v4162 v4164
  let v4166 : BitVec 1 := Scalar.cmpi .ne v4160 v4165
  let v4167 : BitVec 32 := Scalar.remsi v4154 c16_i32_2362
  let c0_i32_2367 : BitVec 32 := 0#32
  let v4168 : BitVec 1 := Scalar.cmpi .ne v4167 c0_i32_2367
  let v4169 : BitVec 1 := Scalar.andi v4166 v4168
  let v4155 : BitVec 32 := Scalar.divsi v4154 c16_i32_2362
  let c1_i32_2368 : BitVec 32 := 1#32
  let v4170 : BitVec 32 := Scalar.subi v4155 c1_i32_2368
  let v4171 : BitVec 32 := Scalar.select v4169 v4170 v4155
  let v4172 : BitVec 32 := Scalar.subi v4171 v4152
  let c1_i32_2370 : BitVec 32 := 1#32
  let v4174 : BitVec 32 := Scalar.divsi v4172 c1_i32_2370
  let v4175 : BitVec 32 := Scalar.muli v4174 c1_i32_2370
  let v4176 : BitVec 32 := Scalar.addi v4152 v4175
  let c1_i32_2372 : BitVec 32 := 1#32
  let arg18 : BitVec 32 := Scf.iv v4176 c1_i32_2372 k0_t4
  let c16_i32_2373 : BitVec 32 := 16#32
  let v4177 : BitVec 32 := Scalar.muli arg18 c16_i32_2373
  let v4178 : BitVec 32 := v4177
  let v4267 : Index := Scalar.indexCast v4178
  let c896_2403 : Index := 896#32
  ![v4267.toNat, 896]
def k0_off423 (i : grid0.Coords) (v3863 : BitVec 32) (v3867 : BitVec 32) (v3871 : BitVec 32) (v3875 : BitVec 32) (v3879 : BitVec 32) (v3883 : BitVec 32) (v3887 : BitVec 32) (k0_t4 : Fin (k0_t4_loop i v3863 v3867 v3871 v3875 v3879 v3883 v3887).trips) : Fin 3 → Nat :=
  let c7_2404 : Index := 7#32
  let c16_i32_2374 : BitVec 32 := 16#32
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let v4153 : BitVec 32 := Scalar.addi v3885 v3887
  let c15_i32 : BitVec 32 := 15#32
  let v4154 : BitVec 32 := Scalar.addi v4153 c15_i32
  let c0_i32_2363 : BitVec 32 := 0#32
  let v4156 : BitVec 1 := Scalar.cmpi .sgt v4154 c0_i32_2363
  let v4157 : BitVec 32 := Scalar.extui v4156
  let c0_i32_2364 : BitVec 32 := 0#32
  let v4158 : BitVec 1 := Scalar.cmpi .slt v4154 c0_i32_2364
  let v4159 : BitVec 32 := Scalar.extui v4158
  let v4160 : BitVec 32 := Scalar.subi v4157 v4159
  let c16_i32_2362 : BitVec 32 := 16#32
  let c0_i32_2365 : BitVec 32 := 0#32
  let v4161 : BitVec 1 := Scalar.cmpi .sgt c16_i32_2362 c0_i32_2365
  let v4162 : BitVec 32 := Scalar.extui v4161
  let c0_i32_2366 : BitVec 32 := 0#32
  let v4163 : BitVec 1 := Scalar.cmpi .slt c16_i32_2362 c0_i32_2366
  let v4164 : BitVec 32 := Scalar.extui v4163
  let v4165 : BitVec 32 := Scalar.subi v4162 v4164
  let v4166 : BitVec 1 := Scalar.cmpi .ne v4160 v4165
  let v4167 : BitVec 32 := Scalar.remsi v4154 c16_i32_2362
  let c0_i32_2367 : BitVec 32 := 0#32
  let v4168 : BitVec 1 := Scalar.cmpi .ne v4167 c0_i32_2367
  let v4169 : BitVec 1 := Scalar.andi v4166 v4168
  let v4155 : BitVec 32 := Scalar.divsi v4154 c16_i32_2362
  let c1_i32_2368 : BitVec 32 := 1#32
  let v4170 : BitVec 32 := Scalar.subi v4155 c1_i32_2368
  let v4171 : BitVec 32 := Scalar.select v4169 v4170 v4155
  let v4172 : BitVec 32 := Scalar.subi v4171 v4152
  let c1_i32_2370 : BitVec 32 := 1#32
  let v4174 : BitVec 32 := Scalar.divsi v4172 c1_i32_2370
  let v4175 : BitVec 32 := Scalar.muli v4174 c1_i32_2370
  let v4176 : BitVec 32 := Scalar.addi v4152 v4175
  let c1_i32_2372 : BitVec 32 := 1#32
  let arg18 : BitVec 32 := Scf.iv v4176 c1_i32_2372 k0_t4
  let c16_i32_2373 : BitVec 32 := 16#32
  let v4177 : BitVec 32 := Scalar.muli arg18 c16_i32_2373
  let v4178 : BitVec 32 := v4177
  let v4179 : BitVec 32 := Scalar.addi c16_i32_2374 v4178
  let v4180 : BitVec 32 := Scalar.subi v4179 v3885
  let v4271 : Index := Scalar.indexCast v4180
  let c0_2405 : Index := 0#32
  ![7, v4271.toNat, 0]
def k0_off424 (i : grid0.Coords) (v3863 : BitVec 32) (v3867 : BitVec 32) (v3871 : BitVec 32) (v3875 : BitVec 32) (v3879 : BitVec 32) (v3883 : BitVec 32) (v3887 : BitVec 32) (k0_t4 : Fin (k0_t4_loop i v3863 v3867 v3871 v3875 v3879 v3883 v3887).trips) : Fin 2 → Nat :=
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let v4153 : BitVec 32 := Scalar.addi v3885 v3887
  let c15_i32 : BitVec 32 := 15#32
  let v4154 : BitVec 32 := Scalar.addi v4153 c15_i32
  let c0_i32_2363 : BitVec 32 := 0#32
  let v4156 : BitVec 1 := Scalar.cmpi .sgt v4154 c0_i32_2363
  let v4157 : BitVec 32 := Scalar.extui v4156
  let c0_i32_2364 : BitVec 32 := 0#32
  let v4158 : BitVec 1 := Scalar.cmpi .slt v4154 c0_i32_2364
  let v4159 : BitVec 32 := Scalar.extui v4158
  let v4160 : BitVec 32 := Scalar.subi v4157 v4159
  let c16_i32_2362 : BitVec 32 := 16#32
  let c0_i32_2365 : BitVec 32 := 0#32
  let v4161 : BitVec 1 := Scalar.cmpi .sgt c16_i32_2362 c0_i32_2365
  let v4162 : BitVec 32 := Scalar.extui v4161
  let c0_i32_2366 : BitVec 32 := 0#32
  let v4163 : BitVec 1 := Scalar.cmpi .slt c16_i32_2362 c0_i32_2366
  let v4164 : BitVec 32 := Scalar.extui v4163
  let v4165 : BitVec 32 := Scalar.subi v4162 v4164
  let v4166 : BitVec 1 := Scalar.cmpi .ne v4160 v4165
  let v4167 : BitVec 32 := Scalar.remsi v4154 c16_i32_2362
  let c0_i32_2367 : BitVec 32 := 0#32
  let v4168 : BitVec 1 := Scalar.cmpi .ne v4167 c0_i32_2367
  let v4169 : BitVec 1 := Scalar.andi v4166 v4168
  let v4155 : BitVec 32 := Scalar.divsi v4154 c16_i32_2362
  let c1_i32_2368 : BitVec 32 := 1#32
  let v4170 : BitVec 32 := Scalar.subi v4155 c1_i32_2368
  let v4171 : BitVec 32 := Scalar.select v4169 v4170 v4155
  let v4172 : BitVec 32 := Scalar.subi v4171 v4152
  let c1_i32_2370 : BitVec 32 := 1#32
  let v4174 : BitVec 32 := Scalar.divsi v4172 c1_i32_2370
  let v4175 : BitVec 32 := Scalar.muli v4174 c1_i32_2370
  let v4176 : BitVec 32 := Scalar.addi v4152 v4175
  let c1_i32_2372 : BitVec 32 := 1#32
  let arg18 : BitVec 32 := Scf.iv v4176 c1_i32_2372 k0_t4
  let c16_i32_2373 : BitVec 32 := 16#32
  let v4177 : BitVec 32 := Scalar.muli arg18 c16_i32_2373
  let v4178 : BitVec 32 := v4177
  let v4278 : Index := Scalar.indexCast v4178
  let c1024_2407 : Index := 1024#32
  ![v4278.toNat, 1024]
def k0_off425 (i : grid0.Coords) (v3863 : BitVec 32) (v3867 : BitVec 32) (v3871 : BitVec 32) (v3875 : BitVec 32) (v3879 : BitVec 32) (v3883 : BitVec 32) (v3887 : BitVec 32) (k0_t4 : Fin (k0_t4_loop i v3863 v3867 v3871 v3875 v3879 v3883 v3887).trips) : Fin 3 → Nat :=
  let c8_2408 : Index := 8#32
  let c16_i32_2374 : BitVec 32 := 16#32
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let v4153 : BitVec 32 := Scalar.addi v3885 v3887
  let c15_i32 : BitVec 32 := 15#32
  let v4154 : BitVec 32 := Scalar.addi v4153 c15_i32
  let c0_i32_2363 : BitVec 32 := 0#32
  let v4156 : BitVec 1 := Scalar.cmpi .sgt v4154 c0_i32_2363
  let v4157 : BitVec 32 := Scalar.extui v4156
  let c0_i32_2364 : BitVec 32 := 0#32
  let v4158 : BitVec 1 := Scalar.cmpi .slt v4154 c0_i32_2364
  let v4159 : BitVec 32 := Scalar.extui v4158
  let v4160 : BitVec 32 := Scalar.subi v4157 v4159
  let c16_i32_2362 : BitVec 32 := 16#32
  let c0_i32_2365 : BitVec 32 := 0#32
  let v4161 : BitVec 1 := Scalar.cmpi .sgt c16_i32_2362 c0_i32_2365
  let v4162 : BitVec 32 := Scalar.extui v4161
  let c0_i32_2366 : BitVec 32 := 0#32
  let v4163 : BitVec 1 := Scalar.cmpi .slt c16_i32_2362 c0_i32_2366
  let v4164 : BitVec 32 := Scalar.extui v4163
  let v4165 : BitVec 32 := Scalar.subi v4162 v4164
  let v4166 : BitVec 1 := Scalar.cmpi .ne v4160 v4165
  let v4167 : BitVec 32 := Scalar.remsi v4154 c16_i32_2362
  let c0_i32_2367 : BitVec 32 := 0#32
  let v4168 : BitVec 1 := Scalar.cmpi .ne v4167 c0_i32_2367
  let v4169 : BitVec 1 := Scalar.andi v4166 v4168
  let v4155 : BitVec 32 := Scalar.divsi v4154 c16_i32_2362
  let c1_i32_2368 : BitVec 32 := 1#32
  let v4170 : BitVec 32 := Scalar.subi v4155 c1_i32_2368
  let v4171 : BitVec 32 := Scalar.select v4169 v4170 v4155
  let v4172 : BitVec 32 := Scalar.subi v4171 v4152
  let c1_i32_2370 : BitVec 32 := 1#32
  let v4174 : BitVec 32 := Scalar.divsi v4172 c1_i32_2370
  let v4175 : BitVec 32 := Scalar.muli v4174 c1_i32_2370
  let v4176 : BitVec 32 := Scalar.addi v4152 v4175
  let c1_i32_2372 : BitVec 32 := 1#32
  let arg18 : BitVec 32 := Scf.iv v4176 c1_i32_2372 k0_t4
  let c16_i32_2373 : BitVec 32 := 16#32
  let v4177 : BitVec 32 := Scalar.muli arg18 c16_i32_2373
  let v4178 : BitVec 32 := v4177
  let v4179 : BitVec 32 := Scalar.addi c16_i32_2374 v4178
  let v4180 : BitVec 32 := Scalar.subi v4179 v3885
  let v4282 : Index := Scalar.indexCast v4180
  let c0_2409 : Index := 0#32
  ![8, v4282.toNat, 0]
def k0_off426 (i : grid0.Coords) (v3863 : BitVec 32) (v3867 : BitVec 32) (v3871 : BitVec 32) (v3875 : BitVec 32) (v3879 : BitVec 32) (v3883 : BitVec 32) (v3887 : BitVec 32) (k0_t4 : Fin (k0_t4_loop i v3863 v3867 v3871 v3875 v3879 v3883 v3887).trips) : Fin 2 → Nat :=
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let v4153 : BitVec 32 := Scalar.addi v3885 v3887
  let c15_i32 : BitVec 32 := 15#32
  let v4154 : BitVec 32 := Scalar.addi v4153 c15_i32
  let c0_i32_2363 : BitVec 32 := 0#32
  let v4156 : BitVec 1 := Scalar.cmpi .sgt v4154 c0_i32_2363
  let v4157 : BitVec 32 := Scalar.extui v4156
  let c0_i32_2364 : BitVec 32 := 0#32
  let v4158 : BitVec 1 := Scalar.cmpi .slt v4154 c0_i32_2364
  let v4159 : BitVec 32 := Scalar.extui v4158
  let v4160 : BitVec 32 := Scalar.subi v4157 v4159
  let c16_i32_2362 : BitVec 32 := 16#32
  let c0_i32_2365 : BitVec 32 := 0#32
  let v4161 : BitVec 1 := Scalar.cmpi .sgt c16_i32_2362 c0_i32_2365
  let v4162 : BitVec 32 := Scalar.extui v4161
  let c0_i32_2366 : BitVec 32 := 0#32
  let v4163 : BitVec 1 := Scalar.cmpi .slt c16_i32_2362 c0_i32_2366
  let v4164 : BitVec 32 := Scalar.extui v4163
  let v4165 : BitVec 32 := Scalar.subi v4162 v4164
  let v4166 : BitVec 1 := Scalar.cmpi .ne v4160 v4165
  let v4167 : BitVec 32 := Scalar.remsi v4154 c16_i32_2362
  let c0_i32_2367 : BitVec 32 := 0#32
  let v4168 : BitVec 1 := Scalar.cmpi .ne v4167 c0_i32_2367
  let v4169 : BitVec 1 := Scalar.andi v4166 v4168
  let v4155 : BitVec 32 := Scalar.divsi v4154 c16_i32_2362
  let c1_i32_2368 : BitVec 32 := 1#32
  let v4170 : BitVec 32 := Scalar.subi v4155 c1_i32_2368
  let v4171 : BitVec 32 := Scalar.select v4169 v4170 v4155
  let v4172 : BitVec 32 := Scalar.subi v4171 v4152
  let c1_i32_2370 : BitVec 32 := 1#32
  let v4174 : BitVec 32 := Scalar.divsi v4172 c1_i32_2370
  let v4175 : BitVec 32 := Scalar.muli v4174 c1_i32_2370
  let v4176 : BitVec 32 := Scalar.addi v4152 v4175
  let c1_i32_2372 : BitVec 32 := 1#32
  let arg18 : BitVec 32 := Scf.iv v4176 c1_i32_2372 k0_t4
  let c16_i32_2373 : BitVec 32 := 16#32
  let v4177 : BitVec 32 := Scalar.muli arg18 c16_i32_2373
  let v4178 : BitVec 32 := v4177
  let v4289 : Index := Scalar.indexCast v4178
  let c1152_2411 : Index := 1152#32
  ![v4289.toNat, 1152]
def k0_off427 (i : grid0.Coords) (v3863 : BitVec 32) (v3867 : BitVec 32) (v3871 : BitVec 32) (v3875 : BitVec 32) (v3879 : BitVec 32) (v3883 : BitVec 32) (v3887 : BitVec 32) (k0_t4 : Fin (k0_t4_loop i v3863 v3867 v3871 v3875 v3879 v3883 v3887).trips) : Fin 3 → Nat :=
  let c9_2412 : Index := 9#32
  let c16_i32_2374 : BitVec 32 := 16#32
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let v4153 : BitVec 32 := Scalar.addi v3885 v3887
  let c15_i32 : BitVec 32 := 15#32
  let v4154 : BitVec 32 := Scalar.addi v4153 c15_i32
  let c0_i32_2363 : BitVec 32 := 0#32
  let v4156 : BitVec 1 := Scalar.cmpi .sgt v4154 c0_i32_2363
  let v4157 : BitVec 32 := Scalar.extui v4156
  let c0_i32_2364 : BitVec 32 := 0#32
  let v4158 : BitVec 1 := Scalar.cmpi .slt v4154 c0_i32_2364
  let v4159 : BitVec 32 := Scalar.extui v4158
  let v4160 : BitVec 32 := Scalar.subi v4157 v4159
  let c16_i32_2362 : BitVec 32 := 16#32
  let c0_i32_2365 : BitVec 32 := 0#32
  let v4161 : BitVec 1 := Scalar.cmpi .sgt c16_i32_2362 c0_i32_2365
  let v4162 : BitVec 32 := Scalar.extui v4161
  let c0_i32_2366 : BitVec 32 := 0#32
  let v4163 : BitVec 1 := Scalar.cmpi .slt c16_i32_2362 c0_i32_2366
  let v4164 : BitVec 32 := Scalar.extui v4163
  let v4165 : BitVec 32 := Scalar.subi v4162 v4164
  let v4166 : BitVec 1 := Scalar.cmpi .ne v4160 v4165
  let v4167 : BitVec 32 := Scalar.remsi v4154 c16_i32_2362
  let c0_i32_2367 : BitVec 32 := 0#32
  let v4168 : BitVec 1 := Scalar.cmpi .ne v4167 c0_i32_2367
  let v4169 : BitVec 1 := Scalar.andi v4166 v4168
  let v4155 : BitVec 32 := Scalar.divsi v4154 c16_i32_2362
  let c1_i32_2368 : BitVec 32 := 1#32
  let v4170 : BitVec 32 := Scalar.subi v4155 c1_i32_2368
  let v4171 : BitVec 32 := Scalar.select v4169 v4170 v4155
  let v4172 : BitVec 32 := Scalar.subi v4171 v4152
  let c1_i32_2370 : BitVec 32 := 1#32
  let v4174 : BitVec 32 := Scalar.divsi v4172 c1_i32_2370
  let v4175 : BitVec 32 := Scalar.muli v4174 c1_i32_2370
  let v4176 : BitVec 32 := Scalar.addi v4152 v4175
  let c1_i32_2372 : BitVec 32 := 1#32
  let arg18 : BitVec 32 := Scf.iv v4176 c1_i32_2372 k0_t4
  let c16_i32_2373 : BitVec 32 := 16#32
  let v4177 : BitVec 32 := Scalar.muli arg18 c16_i32_2373
  let v4178 : BitVec 32 := v4177
  let v4179 : BitVec 32 := Scalar.addi c16_i32_2374 v4178
  let v4180 : BitVec 32 := Scalar.subi v4179 v3885
  let v4293 : Index := Scalar.indexCast v4180
  let c0_2413 : Index := 0#32
  ![9, v4293.toNat, 0]
def k0_off428 (i : grid0.Coords) (v3863 : BitVec 32) (v3867 : BitVec 32) (v3871 : BitVec 32) (v3875 : BitVec 32) (v3879 : BitVec 32) (v3883 : BitVec 32) (v3887 : BitVec 32) (k0_t4 : Fin (k0_t4_loop i v3863 v3867 v3871 v3875 v3879 v3883 v3887).trips) : Fin 2 → Nat :=
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let v4153 : BitVec 32 := Scalar.addi v3885 v3887
  let c15_i32 : BitVec 32 := 15#32
  let v4154 : BitVec 32 := Scalar.addi v4153 c15_i32
  let c0_i32_2363 : BitVec 32 := 0#32
  let v4156 : BitVec 1 := Scalar.cmpi .sgt v4154 c0_i32_2363
  let v4157 : BitVec 32 := Scalar.extui v4156
  let c0_i32_2364 : BitVec 32 := 0#32
  let v4158 : BitVec 1 := Scalar.cmpi .slt v4154 c0_i32_2364
  let v4159 : BitVec 32 := Scalar.extui v4158
  let v4160 : BitVec 32 := Scalar.subi v4157 v4159
  let c16_i32_2362 : BitVec 32 := 16#32
  let c0_i32_2365 : BitVec 32 := 0#32
  let v4161 : BitVec 1 := Scalar.cmpi .sgt c16_i32_2362 c0_i32_2365
  let v4162 : BitVec 32 := Scalar.extui v4161
  let c0_i32_2366 : BitVec 32 := 0#32
  let v4163 : BitVec 1 := Scalar.cmpi .slt c16_i32_2362 c0_i32_2366
  let v4164 : BitVec 32 := Scalar.extui v4163
  let v4165 : BitVec 32 := Scalar.subi v4162 v4164
  let v4166 : BitVec 1 := Scalar.cmpi .ne v4160 v4165
  let v4167 : BitVec 32 := Scalar.remsi v4154 c16_i32_2362
  let c0_i32_2367 : BitVec 32 := 0#32
  let v4168 : BitVec 1 := Scalar.cmpi .ne v4167 c0_i32_2367
  let v4169 : BitVec 1 := Scalar.andi v4166 v4168
  let v4155 : BitVec 32 := Scalar.divsi v4154 c16_i32_2362
  let c1_i32_2368 : BitVec 32 := 1#32
  let v4170 : BitVec 32 := Scalar.subi v4155 c1_i32_2368
  let v4171 : BitVec 32 := Scalar.select v4169 v4170 v4155
  let v4172 : BitVec 32 := Scalar.subi v4171 v4152
  let c1_i32_2370 : BitVec 32 := 1#32
  let v4174 : BitVec 32 := Scalar.divsi v4172 c1_i32_2370
  let v4175 : BitVec 32 := Scalar.muli v4174 c1_i32_2370
  let v4176 : BitVec 32 := Scalar.addi v4152 v4175
  let c1_i32_2372 : BitVec 32 := 1#32
  let arg18 : BitVec 32 := Scf.iv v4176 c1_i32_2372 k0_t4
  let c16_i32_2373 : BitVec 32 := 16#32
  let v4177 : BitVec 32 := Scalar.muli arg18 c16_i32_2373
  let v4178 : BitVec 32 := v4177
  let v4300 : Index := Scalar.indexCast v4178
  let c1280_2415 : Index := 1280#32
  ![v4300.toNat, 1280]
def k0_off429 (i : grid0.Coords) (v3863 : BitVec 32) (v3867 : BitVec 32) (v3871 : BitVec 32) (v3875 : BitVec 32) (v3879 : BitVec 32) (v3883 : BitVec 32) (v3887 : BitVec 32) (k0_t4 : Fin (k0_t4_loop i v3863 v3867 v3871 v3875 v3879 v3883 v3887).trips) : Fin 3 → Nat :=
  let c10_2416 : Index := 10#32
  let c16_i32_2374 : BitVec 32 := 16#32
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let v4153 : BitVec 32 := Scalar.addi v3885 v3887
  let c15_i32 : BitVec 32 := 15#32
  let v4154 : BitVec 32 := Scalar.addi v4153 c15_i32
  let c0_i32_2363 : BitVec 32 := 0#32
  let v4156 : BitVec 1 := Scalar.cmpi .sgt v4154 c0_i32_2363
  let v4157 : BitVec 32 := Scalar.extui v4156
  let c0_i32_2364 : BitVec 32 := 0#32
  let v4158 : BitVec 1 := Scalar.cmpi .slt v4154 c0_i32_2364
  let v4159 : BitVec 32 := Scalar.extui v4158
  let v4160 : BitVec 32 := Scalar.subi v4157 v4159
  let c16_i32_2362 : BitVec 32 := 16#32
  let c0_i32_2365 : BitVec 32 := 0#32
  let v4161 : BitVec 1 := Scalar.cmpi .sgt c16_i32_2362 c0_i32_2365
  let v4162 : BitVec 32 := Scalar.extui v4161
  let c0_i32_2366 : BitVec 32 := 0#32
  let v4163 : BitVec 1 := Scalar.cmpi .slt c16_i32_2362 c0_i32_2366
  let v4164 : BitVec 32 := Scalar.extui v4163
  let v4165 : BitVec 32 := Scalar.subi v4162 v4164
  let v4166 : BitVec 1 := Scalar.cmpi .ne v4160 v4165
  let v4167 : BitVec 32 := Scalar.remsi v4154 c16_i32_2362
  let c0_i32_2367 : BitVec 32 := 0#32
  let v4168 : BitVec 1 := Scalar.cmpi .ne v4167 c0_i32_2367
  let v4169 : BitVec 1 := Scalar.andi v4166 v4168
  let v4155 : BitVec 32 := Scalar.divsi v4154 c16_i32_2362
  let c1_i32_2368 : BitVec 32 := 1#32
  let v4170 : BitVec 32 := Scalar.subi v4155 c1_i32_2368
  let v4171 : BitVec 32 := Scalar.select v4169 v4170 v4155
  let v4172 : BitVec 32 := Scalar.subi v4171 v4152
  let c1_i32_2370 : BitVec 32 := 1#32
  let v4174 : BitVec 32 := Scalar.divsi v4172 c1_i32_2370
  let v4175 : BitVec 32 := Scalar.muli v4174 c1_i32_2370
  let v4176 : BitVec 32 := Scalar.addi v4152 v4175
  let c1_i32_2372 : BitVec 32 := 1#32
  let arg18 : BitVec 32 := Scf.iv v4176 c1_i32_2372 k0_t4
  let c16_i32_2373 : BitVec 32 := 16#32
  let v4177 : BitVec 32 := Scalar.muli arg18 c16_i32_2373
  let v4178 : BitVec 32 := v4177
  let v4179 : BitVec 32 := Scalar.addi c16_i32_2374 v4178
  let v4180 : BitVec 32 := Scalar.subi v4179 v3885
  let v4304 : Index := Scalar.indexCast v4180
  let c0_2417 : Index := 0#32
  ![10, v4304.toNat, 0]
def k0_off430 (i : grid0.Coords) (v3863 : BitVec 32) (v3867 : BitVec 32) (v3871 : BitVec 32) (v3875 : BitVec 32) (v3879 : BitVec 32) (v3883 : BitVec 32) (v3887 : BitVec 32) (k0_t4 : Fin (k0_t4_loop i v3863 v3867 v3871 v3875 v3879 v3883 v3887).trips) : Fin 2 → Nat :=
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let v4153 : BitVec 32 := Scalar.addi v3885 v3887
  let c15_i32 : BitVec 32 := 15#32
  let v4154 : BitVec 32 := Scalar.addi v4153 c15_i32
  let c0_i32_2363 : BitVec 32 := 0#32
  let v4156 : BitVec 1 := Scalar.cmpi .sgt v4154 c0_i32_2363
  let v4157 : BitVec 32 := Scalar.extui v4156
  let c0_i32_2364 : BitVec 32 := 0#32
  let v4158 : BitVec 1 := Scalar.cmpi .slt v4154 c0_i32_2364
  let v4159 : BitVec 32 := Scalar.extui v4158
  let v4160 : BitVec 32 := Scalar.subi v4157 v4159
  let c16_i32_2362 : BitVec 32 := 16#32
  let c0_i32_2365 : BitVec 32 := 0#32
  let v4161 : BitVec 1 := Scalar.cmpi .sgt c16_i32_2362 c0_i32_2365
  let v4162 : BitVec 32 := Scalar.extui v4161
  let c0_i32_2366 : BitVec 32 := 0#32
  let v4163 : BitVec 1 := Scalar.cmpi .slt c16_i32_2362 c0_i32_2366
  let v4164 : BitVec 32 := Scalar.extui v4163
  let v4165 : BitVec 32 := Scalar.subi v4162 v4164
  let v4166 : BitVec 1 := Scalar.cmpi .ne v4160 v4165
  let v4167 : BitVec 32 := Scalar.remsi v4154 c16_i32_2362
  let c0_i32_2367 : BitVec 32 := 0#32
  let v4168 : BitVec 1 := Scalar.cmpi .ne v4167 c0_i32_2367
  let v4169 : BitVec 1 := Scalar.andi v4166 v4168
  let v4155 : BitVec 32 := Scalar.divsi v4154 c16_i32_2362
  let c1_i32_2368 : BitVec 32 := 1#32
  let v4170 : BitVec 32 := Scalar.subi v4155 c1_i32_2368
  let v4171 : BitVec 32 := Scalar.select v4169 v4170 v4155
  let v4172 : BitVec 32 := Scalar.subi v4171 v4152
  let c1_i32_2370 : BitVec 32 := 1#32
  let v4174 : BitVec 32 := Scalar.divsi v4172 c1_i32_2370
  let v4175 : BitVec 32 := Scalar.muli v4174 c1_i32_2370
  let v4176 : BitVec 32 := Scalar.addi v4152 v4175
  let c1_i32_2372 : BitVec 32 := 1#32
  let arg18 : BitVec 32 := Scf.iv v4176 c1_i32_2372 k0_t4
  let c16_i32_2373 : BitVec 32 := 16#32
  let v4177 : BitVec 32 := Scalar.muli arg18 c16_i32_2373
  let v4178 : BitVec 32 := v4177
  let v4311 : Index := Scalar.indexCast v4178
  let c1408_2419 : Index := 1408#32
  ![v4311.toNat, 1408]
def k0_off431 (i : grid0.Coords) (v3863 : BitVec 32) (v3867 : BitVec 32) (v3871 : BitVec 32) (v3875 : BitVec 32) (v3879 : BitVec 32) (v3883 : BitVec 32) (v3887 : BitVec 32) (k0_t4 : Fin (k0_t4_loop i v3863 v3867 v3871 v3875 v3879 v3883 v3887).trips) : Fin 3 → Nat :=
  let c11_2420 : Index := 11#32
  let c16_i32_2374 : BitVec 32 := 16#32
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let v4153 : BitVec 32 := Scalar.addi v3885 v3887
  let c15_i32 : BitVec 32 := 15#32
  let v4154 : BitVec 32 := Scalar.addi v4153 c15_i32
  let c0_i32_2363 : BitVec 32 := 0#32
  let v4156 : BitVec 1 := Scalar.cmpi .sgt v4154 c0_i32_2363
  let v4157 : BitVec 32 := Scalar.extui v4156
  let c0_i32_2364 : BitVec 32 := 0#32
  let v4158 : BitVec 1 := Scalar.cmpi .slt v4154 c0_i32_2364
  let v4159 : BitVec 32 := Scalar.extui v4158
  let v4160 : BitVec 32 := Scalar.subi v4157 v4159
  let c16_i32_2362 : BitVec 32 := 16#32
  let c0_i32_2365 : BitVec 32 := 0#32
  let v4161 : BitVec 1 := Scalar.cmpi .sgt c16_i32_2362 c0_i32_2365
  let v4162 : BitVec 32 := Scalar.extui v4161
  let c0_i32_2366 : BitVec 32 := 0#32
  let v4163 : BitVec 1 := Scalar.cmpi .slt c16_i32_2362 c0_i32_2366
  let v4164 : BitVec 32 := Scalar.extui v4163
  let v4165 : BitVec 32 := Scalar.subi v4162 v4164
  let v4166 : BitVec 1 := Scalar.cmpi .ne v4160 v4165
  let v4167 : BitVec 32 := Scalar.remsi v4154 c16_i32_2362
  let c0_i32_2367 : BitVec 32 := 0#32
  let v4168 : BitVec 1 := Scalar.cmpi .ne v4167 c0_i32_2367
  let v4169 : BitVec 1 := Scalar.andi v4166 v4168
  let v4155 : BitVec 32 := Scalar.divsi v4154 c16_i32_2362
  let c1_i32_2368 : BitVec 32 := 1#32
  let v4170 : BitVec 32 := Scalar.subi v4155 c1_i32_2368
  let v4171 : BitVec 32 := Scalar.select v4169 v4170 v4155
  let v4172 : BitVec 32 := Scalar.subi v4171 v4152
  let c1_i32_2370 : BitVec 32 := 1#32
  let v4174 : BitVec 32 := Scalar.divsi v4172 c1_i32_2370
  let v4175 : BitVec 32 := Scalar.muli v4174 c1_i32_2370
  let v4176 : BitVec 32 := Scalar.addi v4152 v4175
  let c1_i32_2372 : BitVec 32 := 1#32
  let arg18 : BitVec 32 := Scf.iv v4176 c1_i32_2372 k0_t4
  let c16_i32_2373 : BitVec 32 := 16#32
  let v4177 : BitVec 32 := Scalar.muli arg18 c16_i32_2373
  let v4178 : BitVec 32 := v4177
  let v4179 : BitVec 32 := Scalar.addi c16_i32_2374 v4178
  let v4180 : BitVec 32 := Scalar.subi v4179 v3885
  let v4315 : Index := Scalar.indexCast v4180
  let c0_2421 : Index := 0#32
  ![11, v4315.toNat, 0]
def k0_off432 (i : grid0.Coords) (v3863 : BitVec 32) (v3867 : BitVec 32) (v3871 : BitVec 32) (v3875 : BitVec 32) (v3879 : BitVec 32) (v3883 : BitVec 32) (v3887 : BitVec 32) (k0_t4 : Fin (k0_t4_loop i v3863 v3867 v3871 v3875 v3879 v3883 v3887).trips) : Fin 2 → Nat :=
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let v4153 : BitVec 32 := Scalar.addi v3885 v3887
  let c15_i32 : BitVec 32 := 15#32
  let v4154 : BitVec 32 := Scalar.addi v4153 c15_i32
  let c0_i32_2363 : BitVec 32 := 0#32
  let v4156 : BitVec 1 := Scalar.cmpi .sgt v4154 c0_i32_2363
  let v4157 : BitVec 32 := Scalar.extui v4156
  let c0_i32_2364 : BitVec 32 := 0#32
  let v4158 : BitVec 1 := Scalar.cmpi .slt v4154 c0_i32_2364
  let v4159 : BitVec 32 := Scalar.extui v4158
  let v4160 : BitVec 32 := Scalar.subi v4157 v4159
  let c16_i32_2362 : BitVec 32 := 16#32
  let c0_i32_2365 : BitVec 32 := 0#32
  let v4161 : BitVec 1 := Scalar.cmpi .sgt c16_i32_2362 c0_i32_2365
  let v4162 : BitVec 32 := Scalar.extui v4161
  let c0_i32_2366 : BitVec 32 := 0#32
  let v4163 : BitVec 1 := Scalar.cmpi .slt c16_i32_2362 c0_i32_2366
  let v4164 : BitVec 32 := Scalar.extui v4163
  let v4165 : BitVec 32 := Scalar.subi v4162 v4164
  let v4166 : BitVec 1 := Scalar.cmpi .ne v4160 v4165
  let v4167 : BitVec 32 := Scalar.remsi v4154 c16_i32_2362
  let c0_i32_2367 : BitVec 32 := 0#32
  let v4168 : BitVec 1 := Scalar.cmpi .ne v4167 c0_i32_2367
  let v4169 : BitVec 1 := Scalar.andi v4166 v4168
  let v4155 : BitVec 32 := Scalar.divsi v4154 c16_i32_2362
  let c1_i32_2368 : BitVec 32 := 1#32
  let v4170 : BitVec 32 := Scalar.subi v4155 c1_i32_2368
  let v4171 : BitVec 32 := Scalar.select v4169 v4170 v4155
  let v4172 : BitVec 32 := Scalar.subi v4171 v4152
  let c1_i32_2370 : BitVec 32 := 1#32
  let v4174 : BitVec 32 := Scalar.divsi v4172 c1_i32_2370
  let v4175 : BitVec 32 := Scalar.muli v4174 c1_i32_2370
  let v4176 : BitVec 32 := Scalar.addi v4152 v4175
  let c1_i32_2372 : BitVec 32 := 1#32
  let arg18 : BitVec 32 := Scf.iv v4176 c1_i32_2372 k0_t4
  let c16_i32_2373 : BitVec 32 := 16#32
  let v4177 : BitVec 32 := Scalar.muli arg18 c16_i32_2373
  let v4178 : BitVec 32 := v4177
  let v4322 : Index := Scalar.indexCast v4178
  let c1536_2423 : Index := 1536#32
  ![v4322.toNat, 1536]
def k0_off433 (i : grid0.Coords) (v3863 : BitVec 32) (v3867 : BitVec 32) (v3871 : BitVec 32) (v3875 : BitVec 32) (v3879 : BitVec 32) (v3883 : BitVec 32) (v3887 : BitVec 32) (k0_t4 : Fin (k0_t4_loop i v3863 v3867 v3871 v3875 v3879 v3883 v3887).trips) : Fin 3 → Nat :=
  let c12_2424 : Index := 12#32
  let c16_i32_2374 : BitVec 32 := 16#32
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let v4153 : BitVec 32 := Scalar.addi v3885 v3887
  let c15_i32 : BitVec 32 := 15#32
  let v4154 : BitVec 32 := Scalar.addi v4153 c15_i32
  let c0_i32_2363 : BitVec 32 := 0#32
  let v4156 : BitVec 1 := Scalar.cmpi .sgt v4154 c0_i32_2363
  let v4157 : BitVec 32 := Scalar.extui v4156
  let c0_i32_2364 : BitVec 32 := 0#32
  let v4158 : BitVec 1 := Scalar.cmpi .slt v4154 c0_i32_2364
  let v4159 : BitVec 32 := Scalar.extui v4158
  let v4160 : BitVec 32 := Scalar.subi v4157 v4159
  let c16_i32_2362 : BitVec 32 := 16#32
  let c0_i32_2365 : BitVec 32 := 0#32
  let v4161 : BitVec 1 := Scalar.cmpi .sgt c16_i32_2362 c0_i32_2365
  let v4162 : BitVec 32 := Scalar.extui v4161
  let c0_i32_2366 : BitVec 32 := 0#32
  let v4163 : BitVec 1 := Scalar.cmpi .slt c16_i32_2362 c0_i32_2366
  let v4164 : BitVec 32 := Scalar.extui v4163
  let v4165 : BitVec 32 := Scalar.subi v4162 v4164
  let v4166 : BitVec 1 := Scalar.cmpi .ne v4160 v4165
  let v4167 : BitVec 32 := Scalar.remsi v4154 c16_i32_2362
  let c0_i32_2367 : BitVec 32 := 0#32
  let v4168 : BitVec 1 := Scalar.cmpi .ne v4167 c0_i32_2367
  let v4169 : BitVec 1 := Scalar.andi v4166 v4168
  let v4155 : BitVec 32 := Scalar.divsi v4154 c16_i32_2362
  let c1_i32_2368 : BitVec 32 := 1#32
  let v4170 : BitVec 32 := Scalar.subi v4155 c1_i32_2368
  let v4171 : BitVec 32 := Scalar.select v4169 v4170 v4155
  let v4172 : BitVec 32 := Scalar.subi v4171 v4152
  let c1_i32_2370 : BitVec 32 := 1#32
  let v4174 : BitVec 32 := Scalar.divsi v4172 c1_i32_2370
  let v4175 : BitVec 32 := Scalar.muli v4174 c1_i32_2370
  let v4176 : BitVec 32 := Scalar.addi v4152 v4175
  let c1_i32_2372 : BitVec 32 := 1#32
  let arg18 : BitVec 32 := Scf.iv v4176 c1_i32_2372 k0_t4
  let c16_i32_2373 : BitVec 32 := 16#32
  let v4177 : BitVec 32 := Scalar.muli arg18 c16_i32_2373
  let v4178 : BitVec 32 := v4177
  let v4179 : BitVec 32 := Scalar.addi c16_i32_2374 v4178
  let v4180 : BitVec 32 := Scalar.subi v4179 v3885
  let v4326 : Index := Scalar.indexCast v4180
  let c0_2425 : Index := 0#32
  ![12, v4326.toNat, 0]
def k0_off434 (i : grid0.Coords) (v3863 : BitVec 32) (v3867 : BitVec 32) (v3871 : BitVec 32) (v3875 : BitVec 32) (v3879 : BitVec 32) (v3883 : BitVec 32) (v3887 : BitVec 32) (k0_t4 : Fin (k0_t4_loop i v3863 v3867 v3871 v3875 v3879 v3883 v3887).trips) : Fin 2 → Nat :=
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let v4153 : BitVec 32 := Scalar.addi v3885 v3887
  let c15_i32 : BitVec 32 := 15#32
  let v4154 : BitVec 32 := Scalar.addi v4153 c15_i32
  let c0_i32_2363 : BitVec 32 := 0#32
  let v4156 : BitVec 1 := Scalar.cmpi .sgt v4154 c0_i32_2363
  let v4157 : BitVec 32 := Scalar.extui v4156
  let c0_i32_2364 : BitVec 32 := 0#32
  let v4158 : BitVec 1 := Scalar.cmpi .slt v4154 c0_i32_2364
  let v4159 : BitVec 32 := Scalar.extui v4158
  let v4160 : BitVec 32 := Scalar.subi v4157 v4159
  let c16_i32_2362 : BitVec 32 := 16#32
  let c0_i32_2365 : BitVec 32 := 0#32
  let v4161 : BitVec 1 := Scalar.cmpi .sgt c16_i32_2362 c0_i32_2365
  let v4162 : BitVec 32 := Scalar.extui v4161
  let c0_i32_2366 : BitVec 32 := 0#32
  let v4163 : BitVec 1 := Scalar.cmpi .slt c16_i32_2362 c0_i32_2366
  let v4164 : BitVec 32 := Scalar.extui v4163
  let v4165 : BitVec 32 := Scalar.subi v4162 v4164
  let v4166 : BitVec 1 := Scalar.cmpi .ne v4160 v4165
  let v4167 : BitVec 32 := Scalar.remsi v4154 c16_i32_2362
  let c0_i32_2367 : BitVec 32 := 0#32
  let v4168 : BitVec 1 := Scalar.cmpi .ne v4167 c0_i32_2367
  let v4169 : BitVec 1 := Scalar.andi v4166 v4168
  let v4155 : BitVec 32 := Scalar.divsi v4154 c16_i32_2362
  let c1_i32_2368 : BitVec 32 := 1#32
  let v4170 : BitVec 32 := Scalar.subi v4155 c1_i32_2368
  let v4171 : BitVec 32 := Scalar.select v4169 v4170 v4155
  let v4172 : BitVec 32 := Scalar.subi v4171 v4152
  let c1_i32_2370 : BitVec 32 := 1#32
  let v4174 : BitVec 32 := Scalar.divsi v4172 c1_i32_2370
  let v4175 : BitVec 32 := Scalar.muli v4174 c1_i32_2370
  let v4176 : BitVec 32 := Scalar.addi v4152 v4175
  let c1_i32_2372 : BitVec 32 := 1#32
  let arg18 : BitVec 32 := Scf.iv v4176 c1_i32_2372 k0_t4
  let c16_i32_2373 : BitVec 32 := 16#32
  let v4177 : BitVec 32 := Scalar.muli arg18 c16_i32_2373
  let v4178 : BitVec 32 := v4177
  let v4333 : Index := Scalar.indexCast v4178
  let c1664_2427 : Index := 1664#32
  ![v4333.toNat, 1664]
def k0_off435 (i : grid0.Coords) (v3863 : BitVec 32) (v3867 : BitVec 32) (v3871 : BitVec 32) (v3875 : BitVec 32) (v3879 : BitVec 32) (v3883 : BitVec 32) (v3887 : BitVec 32) (k0_t4 : Fin (k0_t4_loop i v3863 v3867 v3871 v3875 v3879 v3883 v3887).trips) : Fin 3 → Nat :=
  let c13_2428 : Index := 13#32
  let c16_i32_2374 : BitVec 32 := 16#32
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let v4153 : BitVec 32 := Scalar.addi v3885 v3887
  let c15_i32 : BitVec 32 := 15#32
  let v4154 : BitVec 32 := Scalar.addi v4153 c15_i32
  let c0_i32_2363 : BitVec 32 := 0#32
  let v4156 : BitVec 1 := Scalar.cmpi .sgt v4154 c0_i32_2363
  let v4157 : BitVec 32 := Scalar.extui v4156
  let c0_i32_2364 : BitVec 32 := 0#32
  let v4158 : BitVec 1 := Scalar.cmpi .slt v4154 c0_i32_2364
  let v4159 : BitVec 32 := Scalar.extui v4158
  let v4160 : BitVec 32 := Scalar.subi v4157 v4159
  let c16_i32_2362 : BitVec 32 := 16#32
  let c0_i32_2365 : BitVec 32 := 0#32
  let v4161 : BitVec 1 := Scalar.cmpi .sgt c16_i32_2362 c0_i32_2365
  let v4162 : BitVec 32 := Scalar.extui v4161
  let c0_i32_2366 : BitVec 32 := 0#32
  let v4163 : BitVec 1 := Scalar.cmpi .slt c16_i32_2362 c0_i32_2366
  let v4164 : BitVec 32 := Scalar.extui v4163
  let v4165 : BitVec 32 := Scalar.subi v4162 v4164
  let v4166 : BitVec 1 := Scalar.cmpi .ne v4160 v4165
  let v4167 : BitVec 32 := Scalar.remsi v4154 c16_i32_2362
  let c0_i32_2367 : BitVec 32 := 0#32
  let v4168 : BitVec 1 := Scalar.cmpi .ne v4167 c0_i32_2367
  let v4169 : BitVec 1 := Scalar.andi v4166 v4168
  let v4155 : BitVec 32 := Scalar.divsi v4154 c16_i32_2362
  let c1_i32_2368 : BitVec 32 := 1#32
  let v4170 : BitVec 32 := Scalar.subi v4155 c1_i32_2368
  let v4171 : BitVec 32 := Scalar.select v4169 v4170 v4155
  let v4172 : BitVec 32 := Scalar.subi v4171 v4152
  let c1_i32_2370 : BitVec 32 := 1#32
  let v4174 : BitVec 32 := Scalar.divsi v4172 c1_i32_2370
  let v4175 : BitVec 32 := Scalar.muli v4174 c1_i32_2370
  let v4176 : BitVec 32 := Scalar.addi v4152 v4175
  let c1_i32_2372 : BitVec 32 := 1#32
  let arg18 : BitVec 32 := Scf.iv v4176 c1_i32_2372 k0_t4
  let c16_i32_2373 : BitVec 32 := 16#32
  let v4177 : BitVec 32 := Scalar.muli arg18 c16_i32_2373
  let v4178 : BitVec 32 := v4177
  let v4179 : BitVec 32 := Scalar.addi c16_i32_2374 v4178
  let v4180 : BitVec 32 := Scalar.subi v4179 v3885
  let v4337 : Index := Scalar.indexCast v4180
  let c0_2429 : Index := 0#32
  ![13, v4337.toNat, 0]
def k0_off436 (i : grid0.Coords) (v3863 : BitVec 32) (v3867 : BitVec 32) (v3871 : BitVec 32) (v3875 : BitVec 32) (v3879 : BitVec 32) (v3883 : BitVec 32) (v3887 : BitVec 32) (k0_t4 : Fin (k0_t4_loop i v3863 v3867 v3871 v3875 v3879 v3883 v3887).trips) : Fin 2 → Nat :=
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let v4153 : BitVec 32 := Scalar.addi v3885 v3887
  let c15_i32 : BitVec 32 := 15#32
  let v4154 : BitVec 32 := Scalar.addi v4153 c15_i32
  let c0_i32_2363 : BitVec 32 := 0#32
  let v4156 : BitVec 1 := Scalar.cmpi .sgt v4154 c0_i32_2363
  let v4157 : BitVec 32 := Scalar.extui v4156
  let c0_i32_2364 : BitVec 32 := 0#32
  let v4158 : BitVec 1 := Scalar.cmpi .slt v4154 c0_i32_2364
  let v4159 : BitVec 32 := Scalar.extui v4158
  let v4160 : BitVec 32 := Scalar.subi v4157 v4159
  let c16_i32_2362 : BitVec 32 := 16#32
  let c0_i32_2365 : BitVec 32 := 0#32
  let v4161 : BitVec 1 := Scalar.cmpi .sgt c16_i32_2362 c0_i32_2365
  let v4162 : BitVec 32 := Scalar.extui v4161
  let c0_i32_2366 : BitVec 32 := 0#32
  let v4163 : BitVec 1 := Scalar.cmpi .slt c16_i32_2362 c0_i32_2366
  let v4164 : BitVec 32 := Scalar.extui v4163
  let v4165 : BitVec 32 := Scalar.subi v4162 v4164
  let v4166 : BitVec 1 := Scalar.cmpi .ne v4160 v4165
  let v4167 : BitVec 32 := Scalar.remsi v4154 c16_i32_2362
  let c0_i32_2367 : BitVec 32 := 0#32
  let v4168 : BitVec 1 := Scalar.cmpi .ne v4167 c0_i32_2367
  let v4169 : BitVec 1 := Scalar.andi v4166 v4168
  let v4155 : BitVec 32 := Scalar.divsi v4154 c16_i32_2362
  let c1_i32_2368 : BitVec 32 := 1#32
  let v4170 : BitVec 32 := Scalar.subi v4155 c1_i32_2368
  let v4171 : BitVec 32 := Scalar.select v4169 v4170 v4155
  let v4172 : BitVec 32 := Scalar.subi v4171 v4152
  let c1_i32_2370 : BitVec 32 := 1#32
  let v4174 : BitVec 32 := Scalar.divsi v4172 c1_i32_2370
  let v4175 : BitVec 32 := Scalar.muli v4174 c1_i32_2370
  let v4176 : BitVec 32 := Scalar.addi v4152 v4175
  let c1_i32_2372 : BitVec 32 := 1#32
  let arg18 : BitVec 32 := Scf.iv v4176 c1_i32_2372 k0_t4
  let c16_i32_2373 : BitVec 32 := 16#32
  let v4177 : BitVec 32 := Scalar.muli arg18 c16_i32_2373
  let v4178 : BitVec 32 := v4177
  let v4344 : Index := Scalar.indexCast v4178
  let c1792_2431 : Index := 1792#32
  ![v4344.toNat, 1792]
def k0_off437 (i : grid0.Coords) (v3863 : BitVec 32) (v3867 : BitVec 32) (v3871 : BitVec 32) (v3875 : BitVec 32) (v3879 : BitVec 32) (v3883 : BitVec 32) (v3887 : BitVec 32) (k0_t4 : Fin (k0_t4_loop i v3863 v3867 v3871 v3875 v3879 v3883 v3887).trips) : Fin 3 → Nat :=
  let c14_2432 : Index := 14#32
  let c16_i32_2374 : BitVec 32 := 16#32
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let v4153 : BitVec 32 := Scalar.addi v3885 v3887
  let c15_i32 : BitVec 32 := 15#32
  let v4154 : BitVec 32 := Scalar.addi v4153 c15_i32
  let c0_i32_2363 : BitVec 32 := 0#32
  let v4156 : BitVec 1 := Scalar.cmpi .sgt v4154 c0_i32_2363
  let v4157 : BitVec 32 := Scalar.extui v4156
  let c0_i32_2364 : BitVec 32 := 0#32
  let v4158 : BitVec 1 := Scalar.cmpi .slt v4154 c0_i32_2364
  let v4159 : BitVec 32 := Scalar.extui v4158
  let v4160 : BitVec 32 := Scalar.subi v4157 v4159
  let c16_i32_2362 : BitVec 32 := 16#32
  let c0_i32_2365 : BitVec 32 := 0#32
  let v4161 : BitVec 1 := Scalar.cmpi .sgt c16_i32_2362 c0_i32_2365
  let v4162 : BitVec 32 := Scalar.extui v4161
  let c0_i32_2366 : BitVec 32 := 0#32
  let v4163 : BitVec 1 := Scalar.cmpi .slt c16_i32_2362 c0_i32_2366
  let v4164 : BitVec 32 := Scalar.extui v4163
  let v4165 : BitVec 32 := Scalar.subi v4162 v4164
  let v4166 : BitVec 1 := Scalar.cmpi .ne v4160 v4165
  let v4167 : BitVec 32 := Scalar.remsi v4154 c16_i32_2362
  let c0_i32_2367 : BitVec 32 := 0#32
  let v4168 : BitVec 1 := Scalar.cmpi .ne v4167 c0_i32_2367
  let v4169 : BitVec 1 := Scalar.andi v4166 v4168
  let v4155 : BitVec 32 := Scalar.divsi v4154 c16_i32_2362
  let c1_i32_2368 : BitVec 32 := 1#32
  let v4170 : BitVec 32 := Scalar.subi v4155 c1_i32_2368
  let v4171 : BitVec 32 := Scalar.select v4169 v4170 v4155
  let v4172 : BitVec 32 := Scalar.subi v4171 v4152
  let c1_i32_2370 : BitVec 32 := 1#32
  let v4174 : BitVec 32 := Scalar.divsi v4172 c1_i32_2370
  let v4175 : BitVec 32 := Scalar.muli v4174 c1_i32_2370
  let v4176 : BitVec 32 := Scalar.addi v4152 v4175
  let c1_i32_2372 : BitVec 32 := 1#32
  let arg18 : BitVec 32 := Scf.iv v4176 c1_i32_2372 k0_t4
  let c16_i32_2373 : BitVec 32 := 16#32
  let v4177 : BitVec 32 := Scalar.muli arg18 c16_i32_2373
  let v4178 : BitVec 32 := v4177
  let v4179 : BitVec 32 := Scalar.addi c16_i32_2374 v4178
  let v4180 : BitVec 32 := Scalar.subi v4179 v3885
  let v4348 : Index := Scalar.indexCast v4180
  let c0_2433 : Index := 0#32
  ![14, v4348.toNat, 0]
def k0_off438 (i : grid0.Coords) (v3863 : BitVec 32) (v3867 : BitVec 32) (v3871 : BitVec 32) (v3875 : BitVec 32) (v3879 : BitVec 32) (v3883 : BitVec 32) (v3887 : BitVec 32) (k0_t4 : Fin (k0_t4_loop i v3863 v3867 v3871 v3875 v3879 v3883 v3887).trips) : Fin 2 → Nat :=
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let v4153 : BitVec 32 := Scalar.addi v3885 v3887
  let c15_i32 : BitVec 32 := 15#32
  let v4154 : BitVec 32 := Scalar.addi v4153 c15_i32
  let c0_i32_2363 : BitVec 32 := 0#32
  let v4156 : BitVec 1 := Scalar.cmpi .sgt v4154 c0_i32_2363
  let v4157 : BitVec 32 := Scalar.extui v4156
  let c0_i32_2364 : BitVec 32 := 0#32
  let v4158 : BitVec 1 := Scalar.cmpi .slt v4154 c0_i32_2364
  let v4159 : BitVec 32 := Scalar.extui v4158
  let v4160 : BitVec 32 := Scalar.subi v4157 v4159
  let c16_i32_2362 : BitVec 32 := 16#32
  let c0_i32_2365 : BitVec 32 := 0#32
  let v4161 : BitVec 1 := Scalar.cmpi .sgt c16_i32_2362 c0_i32_2365
  let v4162 : BitVec 32 := Scalar.extui v4161
  let c0_i32_2366 : BitVec 32 := 0#32
  let v4163 : BitVec 1 := Scalar.cmpi .slt c16_i32_2362 c0_i32_2366
  let v4164 : BitVec 32 := Scalar.extui v4163
  let v4165 : BitVec 32 := Scalar.subi v4162 v4164
  let v4166 : BitVec 1 := Scalar.cmpi .ne v4160 v4165
  let v4167 : BitVec 32 := Scalar.remsi v4154 c16_i32_2362
  let c0_i32_2367 : BitVec 32 := 0#32
  let v4168 : BitVec 1 := Scalar.cmpi .ne v4167 c0_i32_2367
  let v4169 : BitVec 1 := Scalar.andi v4166 v4168
  let v4155 : BitVec 32 := Scalar.divsi v4154 c16_i32_2362
  let c1_i32_2368 : BitVec 32 := 1#32
  let v4170 : BitVec 32 := Scalar.subi v4155 c1_i32_2368
  let v4171 : BitVec 32 := Scalar.select v4169 v4170 v4155
  let v4172 : BitVec 32 := Scalar.subi v4171 v4152
  let c1_i32_2370 : BitVec 32 := 1#32
  let v4174 : BitVec 32 := Scalar.divsi v4172 c1_i32_2370
  let v4175 : BitVec 32 := Scalar.muli v4174 c1_i32_2370
  let v4176 : BitVec 32 := Scalar.addi v4152 v4175
  let c1_i32_2372 : BitVec 32 := 1#32
  let arg18 : BitVec 32 := Scf.iv v4176 c1_i32_2372 k0_t4
  let c16_i32_2373 : BitVec 32 := 16#32
  let v4177 : BitVec 32 := Scalar.muli arg18 c16_i32_2373
  let v4178 : BitVec 32 := v4177
  let v4355 : Index := Scalar.indexCast v4178
  let c1920_2435 : Index := 1920#32
  ![v4355.toNat, 1920]
def k0_off439 (i : grid0.Coords) (v3863 : BitVec 32) (v3867 : BitVec 32) (v3871 : BitVec 32) (v3875 : BitVec 32) (v3879 : BitVec 32) (v3883 : BitVec 32) (v3887 : BitVec 32) (k0_t4 : Fin (k0_t4_loop i v3863 v3867 v3871 v3875 v3879 v3883 v3887).trips) : Fin 3 → Nat :=
  let c15_2436 : Index := 15#32
  let c16_i32_2374 : BitVec 32 := 16#32
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let v4153 : BitVec 32 := Scalar.addi v3885 v3887
  let c15_i32 : BitVec 32 := 15#32
  let v4154 : BitVec 32 := Scalar.addi v4153 c15_i32
  let c0_i32_2363 : BitVec 32 := 0#32
  let v4156 : BitVec 1 := Scalar.cmpi .sgt v4154 c0_i32_2363
  let v4157 : BitVec 32 := Scalar.extui v4156
  let c0_i32_2364 : BitVec 32 := 0#32
  let v4158 : BitVec 1 := Scalar.cmpi .slt v4154 c0_i32_2364
  let v4159 : BitVec 32 := Scalar.extui v4158
  let v4160 : BitVec 32 := Scalar.subi v4157 v4159
  let c16_i32_2362 : BitVec 32 := 16#32
  let c0_i32_2365 : BitVec 32 := 0#32
  let v4161 : BitVec 1 := Scalar.cmpi .sgt c16_i32_2362 c0_i32_2365
  let v4162 : BitVec 32 := Scalar.extui v4161
  let c0_i32_2366 : BitVec 32 := 0#32
  let v4163 : BitVec 1 := Scalar.cmpi .slt c16_i32_2362 c0_i32_2366
  let v4164 : BitVec 32 := Scalar.extui v4163
  let v4165 : BitVec 32 := Scalar.subi v4162 v4164
  let v4166 : BitVec 1 := Scalar.cmpi .ne v4160 v4165
  let v4167 : BitVec 32 := Scalar.remsi v4154 c16_i32_2362
  let c0_i32_2367 : BitVec 32 := 0#32
  let v4168 : BitVec 1 := Scalar.cmpi .ne v4167 c0_i32_2367
  let v4169 : BitVec 1 := Scalar.andi v4166 v4168
  let v4155 : BitVec 32 := Scalar.divsi v4154 c16_i32_2362
  let c1_i32_2368 : BitVec 32 := 1#32
  let v4170 : BitVec 32 := Scalar.subi v4155 c1_i32_2368
  let v4171 : BitVec 32 := Scalar.select v4169 v4170 v4155
  let v4172 : BitVec 32 := Scalar.subi v4171 v4152
  let c1_i32_2370 : BitVec 32 := 1#32
  let v4174 : BitVec 32 := Scalar.divsi v4172 c1_i32_2370
  let v4175 : BitVec 32 := Scalar.muli v4174 c1_i32_2370
  let v4176 : BitVec 32 := Scalar.addi v4152 v4175
  let c1_i32_2372 : BitVec 32 := 1#32
  let arg18 : BitVec 32 := Scf.iv v4176 c1_i32_2372 k0_t4
  let c16_i32_2373 : BitVec 32 := 16#32
  let v4177 : BitVec 32 := Scalar.muli arg18 c16_i32_2373
  let v4178 : BitVec 32 := v4177
  let v4179 : BitVec 32 := Scalar.addi c16_i32_2374 v4178
  let v4180 : BitVec 32 := Scalar.subi v4179 v3885
  let v4359 : Index := Scalar.indexCast v4180
  let c0_2437 : Index := 0#32
  ![15, v4359.toNat, 0]
def k0_off440 (i : grid0.Coords) (v3863 : BitVec 32) (v3867 : BitVec 32) (v3871 : BitVec 32) (v3875 : BitVec 32) (v3879 : BitVec 32) (v3883 : BitVec 32) (v3887 : BitVec 32) (k0_t4 : Fin (k0_t4_loop i v3863 v3867 v3871 v3875 v3879 v3883 v3887).trips) : Fin 2 → Nat :=
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let v4153 : BitVec 32 := Scalar.addi v3885 v3887
  let c15_i32 : BitVec 32 := 15#32
  let v4154 : BitVec 32 := Scalar.addi v4153 c15_i32
  let c0_i32_2363 : BitVec 32 := 0#32
  let v4156 : BitVec 1 := Scalar.cmpi .sgt v4154 c0_i32_2363
  let v4157 : BitVec 32 := Scalar.extui v4156
  let c0_i32_2364 : BitVec 32 := 0#32
  let v4158 : BitVec 1 := Scalar.cmpi .slt v4154 c0_i32_2364
  let v4159 : BitVec 32 := Scalar.extui v4158
  let v4160 : BitVec 32 := Scalar.subi v4157 v4159
  let c16_i32_2362 : BitVec 32 := 16#32
  let c0_i32_2365 : BitVec 32 := 0#32
  let v4161 : BitVec 1 := Scalar.cmpi .sgt c16_i32_2362 c0_i32_2365
  let v4162 : BitVec 32 := Scalar.extui v4161
  let c0_i32_2366 : BitVec 32 := 0#32
  let v4163 : BitVec 1 := Scalar.cmpi .slt c16_i32_2362 c0_i32_2366
  let v4164 : BitVec 32 := Scalar.extui v4163
  let v4165 : BitVec 32 := Scalar.subi v4162 v4164
  let v4166 : BitVec 1 := Scalar.cmpi .ne v4160 v4165
  let v4167 : BitVec 32 := Scalar.remsi v4154 c16_i32_2362
  let c0_i32_2367 : BitVec 32 := 0#32
  let v4168 : BitVec 1 := Scalar.cmpi .ne v4167 c0_i32_2367
  let v4169 : BitVec 1 := Scalar.andi v4166 v4168
  let v4155 : BitVec 32 := Scalar.divsi v4154 c16_i32_2362
  let c1_i32_2368 : BitVec 32 := 1#32
  let v4170 : BitVec 32 := Scalar.subi v4155 c1_i32_2368
  let v4171 : BitVec 32 := Scalar.select v4169 v4170 v4155
  let v4172 : BitVec 32 := Scalar.subi v4171 v4152
  let c1_i32_2370 : BitVec 32 := 1#32
  let v4174 : BitVec 32 := Scalar.divsi v4172 c1_i32_2370
  let v4175 : BitVec 32 := Scalar.muli v4174 c1_i32_2370
  let v4176 : BitVec 32 := Scalar.addi v4152 v4175
  let c1_i32_2372 : BitVec 32 := 1#32
  let arg18 : BitVec 32 := Scf.iv v4176 c1_i32_2372 k0_t4
  let c16_i32_2373 : BitVec 32 := 16#32
  let v4177 : BitVec 32 := Scalar.muli arg18 c16_i32_2373
  let v4178 : BitVec 32 := v4177
  let v4366 : Index := Scalar.indexCast v4178
  let c2048_2439 : Index := 2048#32
  ![v4366.toNat, 2048]
def k0_off441 (i : grid0.Coords) (v3863 : BitVec 32) (v3867 : BitVec 32) (v3871 : BitVec 32) (v3875 : BitVec 32) (v3879 : BitVec 32) (v3883 : BitVec 32) (v3887 : BitVec 32) (k0_t4 : Fin (k0_t4_loop i v3863 v3867 v3871 v3875 v3879 v3883 v3887).trips) : Fin 3 → Nat :=
  let c16_2440 : Index := 16#32
  let c16_i32_2374 : BitVec 32 := 16#32
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let v4153 : BitVec 32 := Scalar.addi v3885 v3887
  let c15_i32 : BitVec 32 := 15#32
  let v4154 : BitVec 32 := Scalar.addi v4153 c15_i32
  let c0_i32_2363 : BitVec 32 := 0#32
  let v4156 : BitVec 1 := Scalar.cmpi .sgt v4154 c0_i32_2363
  let v4157 : BitVec 32 := Scalar.extui v4156
  let c0_i32_2364 : BitVec 32 := 0#32
  let v4158 : BitVec 1 := Scalar.cmpi .slt v4154 c0_i32_2364
  let v4159 : BitVec 32 := Scalar.extui v4158
  let v4160 : BitVec 32 := Scalar.subi v4157 v4159
  let c16_i32_2362 : BitVec 32 := 16#32
  let c0_i32_2365 : BitVec 32 := 0#32
  let v4161 : BitVec 1 := Scalar.cmpi .sgt c16_i32_2362 c0_i32_2365
  let v4162 : BitVec 32 := Scalar.extui v4161
  let c0_i32_2366 : BitVec 32 := 0#32
  let v4163 : BitVec 1 := Scalar.cmpi .slt c16_i32_2362 c0_i32_2366
  let v4164 : BitVec 32 := Scalar.extui v4163
  let v4165 : BitVec 32 := Scalar.subi v4162 v4164
  let v4166 : BitVec 1 := Scalar.cmpi .ne v4160 v4165
  let v4167 : BitVec 32 := Scalar.remsi v4154 c16_i32_2362
  let c0_i32_2367 : BitVec 32 := 0#32
  let v4168 : BitVec 1 := Scalar.cmpi .ne v4167 c0_i32_2367
  let v4169 : BitVec 1 := Scalar.andi v4166 v4168
  let v4155 : BitVec 32 := Scalar.divsi v4154 c16_i32_2362
  let c1_i32_2368 : BitVec 32 := 1#32
  let v4170 : BitVec 32 := Scalar.subi v4155 c1_i32_2368
  let v4171 : BitVec 32 := Scalar.select v4169 v4170 v4155
  let v4172 : BitVec 32 := Scalar.subi v4171 v4152
  let c1_i32_2370 : BitVec 32 := 1#32
  let v4174 : BitVec 32 := Scalar.divsi v4172 c1_i32_2370
  let v4175 : BitVec 32 := Scalar.muli v4174 c1_i32_2370
  let v4176 : BitVec 32 := Scalar.addi v4152 v4175
  let c1_i32_2372 : BitVec 32 := 1#32
  let arg18 : BitVec 32 := Scf.iv v4176 c1_i32_2372 k0_t4
  let c16_i32_2373 : BitVec 32 := 16#32
  let v4177 : BitVec 32 := Scalar.muli arg18 c16_i32_2373
  let v4178 : BitVec 32 := v4177
  let v4179 : BitVec 32 := Scalar.addi c16_i32_2374 v4178
  let v4180 : BitVec 32 := Scalar.subi v4179 v3885
  let v4370 : Index := Scalar.indexCast v4180
  let c0_2441 : Index := 0#32
  ![16, v4370.toNat, 0]
def k0_off442 (i : grid0.Coords) (v3863 : BitVec 32) (v3867 : BitVec 32) (v3871 : BitVec 32) (v3875 : BitVec 32) (v3879 : BitVec 32) (v3883 : BitVec 32) (v3887 : BitVec 32) (k0_t4 : Fin (k0_t4_loop i v3863 v3867 v3871 v3875 v3879 v3883 v3887).trips) : Fin 2 → Nat :=
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let v4153 : BitVec 32 := Scalar.addi v3885 v3887
  let c15_i32 : BitVec 32 := 15#32
  let v4154 : BitVec 32 := Scalar.addi v4153 c15_i32
  let c0_i32_2363 : BitVec 32 := 0#32
  let v4156 : BitVec 1 := Scalar.cmpi .sgt v4154 c0_i32_2363
  let v4157 : BitVec 32 := Scalar.extui v4156
  let c0_i32_2364 : BitVec 32 := 0#32
  let v4158 : BitVec 1 := Scalar.cmpi .slt v4154 c0_i32_2364
  let v4159 : BitVec 32 := Scalar.extui v4158
  let v4160 : BitVec 32 := Scalar.subi v4157 v4159
  let c16_i32_2362 : BitVec 32 := 16#32
  let c0_i32_2365 : BitVec 32 := 0#32
  let v4161 : BitVec 1 := Scalar.cmpi .sgt c16_i32_2362 c0_i32_2365
  let v4162 : BitVec 32 := Scalar.extui v4161
  let c0_i32_2366 : BitVec 32 := 0#32
  let v4163 : BitVec 1 := Scalar.cmpi .slt c16_i32_2362 c0_i32_2366
  let v4164 : BitVec 32 := Scalar.extui v4163
  let v4165 : BitVec 32 := Scalar.subi v4162 v4164
  let v4166 : BitVec 1 := Scalar.cmpi .ne v4160 v4165
  let v4167 : BitVec 32 := Scalar.remsi v4154 c16_i32_2362
  let c0_i32_2367 : BitVec 32 := 0#32
  let v4168 : BitVec 1 := Scalar.cmpi .ne v4167 c0_i32_2367
  let v4169 : BitVec 1 := Scalar.andi v4166 v4168
  let v4155 : BitVec 32 := Scalar.divsi v4154 c16_i32_2362
  let c1_i32_2368 : BitVec 32 := 1#32
  let v4170 : BitVec 32 := Scalar.subi v4155 c1_i32_2368
  let v4171 : BitVec 32 := Scalar.select v4169 v4170 v4155
  let v4172 : BitVec 32 := Scalar.subi v4171 v4152
  let c1_i32_2370 : BitVec 32 := 1#32
  let v4174 : BitVec 32 := Scalar.divsi v4172 c1_i32_2370
  let v4175 : BitVec 32 := Scalar.muli v4174 c1_i32_2370
  let v4176 : BitVec 32 := Scalar.addi v4152 v4175
  let c1_i32_2372 : BitVec 32 := 1#32
  let arg18 : BitVec 32 := Scf.iv v4176 c1_i32_2372 k0_t4
  let c16_i32_2373 : BitVec 32 := 16#32
  let v4177 : BitVec 32 := Scalar.muli arg18 c16_i32_2373
  let v4178 : BitVec 32 := v4177
  let v4377 : Index := Scalar.indexCast v4178
  let c2176_2443 : Index := 2176#32
  ![v4377.toNat, 2176]
def k0_off443 (i : grid0.Coords) (v3863 : BitVec 32) (v3867 : BitVec 32) (v3871 : BitVec 32) (v3875 : BitVec 32) (v3879 : BitVec 32) (v3883 : BitVec 32) (v3887 : BitVec 32) (k0_t4 : Fin (k0_t4_loop i v3863 v3867 v3871 v3875 v3879 v3883 v3887).trips) : Fin 3 → Nat :=
  let c17_2444 : Index := 17#32
  let c16_i32_2374 : BitVec 32 := 16#32
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let v4153 : BitVec 32 := Scalar.addi v3885 v3887
  let c15_i32 : BitVec 32 := 15#32
  let v4154 : BitVec 32 := Scalar.addi v4153 c15_i32
  let c0_i32_2363 : BitVec 32 := 0#32
  let v4156 : BitVec 1 := Scalar.cmpi .sgt v4154 c0_i32_2363
  let v4157 : BitVec 32 := Scalar.extui v4156
  let c0_i32_2364 : BitVec 32 := 0#32
  let v4158 : BitVec 1 := Scalar.cmpi .slt v4154 c0_i32_2364
  let v4159 : BitVec 32 := Scalar.extui v4158
  let v4160 : BitVec 32 := Scalar.subi v4157 v4159
  let c16_i32_2362 : BitVec 32 := 16#32
  let c0_i32_2365 : BitVec 32 := 0#32
  let v4161 : BitVec 1 := Scalar.cmpi .sgt c16_i32_2362 c0_i32_2365
  let v4162 : BitVec 32 := Scalar.extui v4161
  let c0_i32_2366 : BitVec 32 := 0#32
  let v4163 : BitVec 1 := Scalar.cmpi .slt c16_i32_2362 c0_i32_2366
  let v4164 : BitVec 32 := Scalar.extui v4163
  let v4165 : BitVec 32 := Scalar.subi v4162 v4164
  let v4166 : BitVec 1 := Scalar.cmpi .ne v4160 v4165
  let v4167 : BitVec 32 := Scalar.remsi v4154 c16_i32_2362
  let c0_i32_2367 : BitVec 32 := 0#32
  let v4168 : BitVec 1 := Scalar.cmpi .ne v4167 c0_i32_2367
  let v4169 : BitVec 1 := Scalar.andi v4166 v4168
  let v4155 : BitVec 32 := Scalar.divsi v4154 c16_i32_2362
  let c1_i32_2368 : BitVec 32 := 1#32
  let v4170 : BitVec 32 := Scalar.subi v4155 c1_i32_2368
  let v4171 : BitVec 32 := Scalar.select v4169 v4170 v4155
  let v4172 : BitVec 32 := Scalar.subi v4171 v4152
  let c1_i32_2370 : BitVec 32 := 1#32
  let v4174 : BitVec 32 := Scalar.divsi v4172 c1_i32_2370
  let v4175 : BitVec 32 := Scalar.muli v4174 c1_i32_2370
  let v4176 : BitVec 32 := Scalar.addi v4152 v4175
  let c1_i32_2372 : BitVec 32 := 1#32
  let arg18 : BitVec 32 := Scf.iv v4176 c1_i32_2372 k0_t4
  let c16_i32_2373 : BitVec 32 := 16#32
  let v4177 : BitVec 32 := Scalar.muli arg18 c16_i32_2373
  let v4178 : BitVec 32 := v4177
  let v4179 : BitVec 32 := Scalar.addi c16_i32_2374 v4178
  let v4180 : BitVec 32 := Scalar.subi v4179 v3885
  let v4381 : Index := Scalar.indexCast v4180
  let c0_2445 : Index := 0#32
  ![17, v4381.toNat, 0]
def k0_off444 (i : grid0.Coords) (v3863 : BitVec 32) (v3867 : BitVec 32) (v3871 : BitVec 32) (v3875 : BitVec 32) (v3879 : BitVec 32) (v3883 : BitVec 32) (v3887 : BitVec 32) (k0_t4 : Fin (k0_t4_loop i v3863 v3867 v3871 v3875 v3879 v3883 v3887).trips) : Fin 2 → Nat :=
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let v4153 : BitVec 32 := Scalar.addi v3885 v3887
  let c15_i32 : BitVec 32 := 15#32
  let v4154 : BitVec 32 := Scalar.addi v4153 c15_i32
  let c0_i32_2363 : BitVec 32 := 0#32
  let v4156 : BitVec 1 := Scalar.cmpi .sgt v4154 c0_i32_2363
  let v4157 : BitVec 32 := Scalar.extui v4156
  let c0_i32_2364 : BitVec 32 := 0#32
  let v4158 : BitVec 1 := Scalar.cmpi .slt v4154 c0_i32_2364
  let v4159 : BitVec 32 := Scalar.extui v4158
  let v4160 : BitVec 32 := Scalar.subi v4157 v4159
  let c16_i32_2362 : BitVec 32 := 16#32
  let c0_i32_2365 : BitVec 32 := 0#32
  let v4161 : BitVec 1 := Scalar.cmpi .sgt c16_i32_2362 c0_i32_2365
  let v4162 : BitVec 32 := Scalar.extui v4161
  let c0_i32_2366 : BitVec 32 := 0#32
  let v4163 : BitVec 1 := Scalar.cmpi .slt c16_i32_2362 c0_i32_2366
  let v4164 : BitVec 32 := Scalar.extui v4163
  let v4165 : BitVec 32 := Scalar.subi v4162 v4164
  let v4166 : BitVec 1 := Scalar.cmpi .ne v4160 v4165
  let v4167 : BitVec 32 := Scalar.remsi v4154 c16_i32_2362
  let c0_i32_2367 : BitVec 32 := 0#32
  let v4168 : BitVec 1 := Scalar.cmpi .ne v4167 c0_i32_2367
  let v4169 : BitVec 1 := Scalar.andi v4166 v4168
  let v4155 : BitVec 32 := Scalar.divsi v4154 c16_i32_2362
  let c1_i32_2368 : BitVec 32 := 1#32
  let v4170 : BitVec 32 := Scalar.subi v4155 c1_i32_2368
  let v4171 : BitVec 32 := Scalar.select v4169 v4170 v4155
  let v4172 : BitVec 32 := Scalar.subi v4171 v4152
  let c1_i32_2370 : BitVec 32 := 1#32
  let v4174 : BitVec 32 := Scalar.divsi v4172 c1_i32_2370
  let v4175 : BitVec 32 := Scalar.muli v4174 c1_i32_2370
  let v4176 : BitVec 32 := Scalar.addi v4152 v4175
  let c1_i32_2372 : BitVec 32 := 1#32
  let arg18 : BitVec 32 := Scf.iv v4176 c1_i32_2372 k0_t4
  let c16_i32_2373 : BitVec 32 := 16#32
  let v4177 : BitVec 32 := Scalar.muli arg18 c16_i32_2373
  let v4178 : BitVec 32 := v4177
  let v4388 : Index := Scalar.indexCast v4178
  let c2304_2447 : Index := 2304#32
  ![v4388.toNat, 2304]
def k0_off445 (i : grid0.Coords) (v3863 : BitVec 32) (v3867 : BitVec 32) (v3871 : BitVec 32) (v3875 : BitVec 32) (v3879 : BitVec 32) (v3883 : BitVec 32) (v3887 : BitVec 32) (k0_t4 : Fin (k0_t4_loop i v3863 v3867 v3871 v3875 v3879 v3883 v3887).trips) : Fin 3 → Nat :=
  let c18_2448 : Index := 18#32
  let c16_i32_2374 : BitVec 32 := 16#32
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let v4153 : BitVec 32 := Scalar.addi v3885 v3887
  let c15_i32 : BitVec 32 := 15#32
  let v4154 : BitVec 32 := Scalar.addi v4153 c15_i32
  let c0_i32_2363 : BitVec 32 := 0#32
  let v4156 : BitVec 1 := Scalar.cmpi .sgt v4154 c0_i32_2363
  let v4157 : BitVec 32 := Scalar.extui v4156
  let c0_i32_2364 : BitVec 32 := 0#32
  let v4158 : BitVec 1 := Scalar.cmpi .slt v4154 c0_i32_2364
  let v4159 : BitVec 32 := Scalar.extui v4158
  let v4160 : BitVec 32 := Scalar.subi v4157 v4159
  let c16_i32_2362 : BitVec 32 := 16#32
  let c0_i32_2365 : BitVec 32 := 0#32
  let v4161 : BitVec 1 := Scalar.cmpi .sgt c16_i32_2362 c0_i32_2365
  let v4162 : BitVec 32 := Scalar.extui v4161
  let c0_i32_2366 : BitVec 32 := 0#32
  let v4163 : BitVec 1 := Scalar.cmpi .slt c16_i32_2362 c0_i32_2366
  let v4164 : BitVec 32 := Scalar.extui v4163
  let v4165 : BitVec 32 := Scalar.subi v4162 v4164
  let v4166 : BitVec 1 := Scalar.cmpi .ne v4160 v4165
  let v4167 : BitVec 32 := Scalar.remsi v4154 c16_i32_2362
  let c0_i32_2367 : BitVec 32 := 0#32
  let v4168 : BitVec 1 := Scalar.cmpi .ne v4167 c0_i32_2367
  let v4169 : BitVec 1 := Scalar.andi v4166 v4168
  let v4155 : BitVec 32 := Scalar.divsi v4154 c16_i32_2362
  let c1_i32_2368 : BitVec 32 := 1#32
  let v4170 : BitVec 32 := Scalar.subi v4155 c1_i32_2368
  let v4171 : BitVec 32 := Scalar.select v4169 v4170 v4155
  let v4172 : BitVec 32 := Scalar.subi v4171 v4152
  let c1_i32_2370 : BitVec 32 := 1#32
  let v4174 : BitVec 32 := Scalar.divsi v4172 c1_i32_2370
  let v4175 : BitVec 32 := Scalar.muli v4174 c1_i32_2370
  let v4176 : BitVec 32 := Scalar.addi v4152 v4175
  let c1_i32_2372 : BitVec 32 := 1#32
  let arg18 : BitVec 32 := Scf.iv v4176 c1_i32_2372 k0_t4
  let c16_i32_2373 : BitVec 32 := 16#32
  let v4177 : BitVec 32 := Scalar.muli arg18 c16_i32_2373
  let v4178 : BitVec 32 := v4177
  let v4179 : BitVec 32 := Scalar.addi c16_i32_2374 v4178
  let v4180 : BitVec 32 := Scalar.subi v4179 v3885
  let v4392 : Index := Scalar.indexCast v4180
  let c0_2449 : Index := 0#32
  ![18, v4392.toNat, 0]
def k0_off446 (i : grid0.Coords) (v3863 : BitVec 32) (v3867 : BitVec 32) (v3871 : BitVec 32) (v3875 : BitVec 32) (v3879 : BitVec 32) (v3883 : BitVec 32) (v3887 : BitVec 32) (k0_t4 : Fin (k0_t4_loop i v3863 v3867 v3871 v3875 v3879 v3883 v3887).trips) : Fin 2 → Nat :=
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let v4153 : BitVec 32 := Scalar.addi v3885 v3887
  let c15_i32 : BitVec 32 := 15#32
  let v4154 : BitVec 32 := Scalar.addi v4153 c15_i32
  let c0_i32_2363 : BitVec 32 := 0#32
  let v4156 : BitVec 1 := Scalar.cmpi .sgt v4154 c0_i32_2363
  let v4157 : BitVec 32 := Scalar.extui v4156
  let c0_i32_2364 : BitVec 32 := 0#32
  let v4158 : BitVec 1 := Scalar.cmpi .slt v4154 c0_i32_2364
  let v4159 : BitVec 32 := Scalar.extui v4158
  let v4160 : BitVec 32 := Scalar.subi v4157 v4159
  let c16_i32_2362 : BitVec 32 := 16#32
  let c0_i32_2365 : BitVec 32 := 0#32
  let v4161 : BitVec 1 := Scalar.cmpi .sgt c16_i32_2362 c0_i32_2365
  let v4162 : BitVec 32 := Scalar.extui v4161
  let c0_i32_2366 : BitVec 32 := 0#32
  let v4163 : BitVec 1 := Scalar.cmpi .slt c16_i32_2362 c0_i32_2366
  let v4164 : BitVec 32 := Scalar.extui v4163
  let v4165 : BitVec 32 := Scalar.subi v4162 v4164
  let v4166 : BitVec 1 := Scalar.cmpi .ne v4160 v4165
  let v4167 : BitVec 32 := Scalar.remsi v4154 c16_i32_2362
  let c0_i32_2367 : BitVec 32 := 0#32
  let v4168 : BitVec 1 := Scalar.cmpi .ne v4167 c0_i32_2367
  let v4169 : BitVec 1 := Scalar.andi v4166 v4168
  let v4155 : BitVec 32 := Scalar.divsi v4154 c16_i32_2362
  let c1_i32_2368 : BitVec 32 := 1#32
  let v4170 : BitVec 32 := Scalar.subi v4155 c1_i32_2368
  let v4171 : BitVec 32 := Scalar.select v4169 v4170 v4155
  let v4172 : BitVec 32 := Scalar.subi v4171 v4152
  let c1_i32_2370 : BitVec 32 := 1#32
  let v4174 : BitVec 32 := Scalar.divsi v4172 c1_i32_2370
  let v4175 : BitVec 32 := Scalar.muli v4174 c1_i32_2370
  let v4176 : BitVec 32 := Scalar.addi v4152 v4175
  let c1_i32_2372 : BitVec 32 := 1#32
  let arg18 : BitVec 32 := Scf.iv v4176 c1_i32_2372 k0_t4
  let c16_i32_2373 : BitVec 32 := 16#32
  let v4177 : BitVec 32 := Scalar.muli arg18 c16_i32_2373
  let v4178 : BitVec 32 := v4177
  let v4399 : Index := Scalar.indexCast v4178
  let c2432_2451 : Index := 2432#32
  ![v4399.toNat, 2432]
def k0_off447 (i : grid0.Coords) (v3863 : BitVec 32) (v3867 : BitVec 32) (v3871 : BitVec 32) (v3875 : BitVec 32) (v3879 : BitVec 32) (v3883 : BitVec 32) (v3887 : BitVec 32) (k0_t4 : Fin (k0_t4_loop i v3863 v3867 v3871 v3875 v3879 v3883 v3887).trips) : Fin 3 → Nat :=
  let c19_2452 : Index := 19#32
  let c16_i32_2374 : BitVec 32 := 16#32
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let v4153 : BitVec 32 := Scalar.addi v3885 v3887
  let c15_i32 : BitVec 32 := 15#32
  let v4154 : BitVec 32 := Scalar.addi v4153 c15_i32
  let c0_i32_2363 : BitVec 32 := 0#32
  let v4156 : BitVec 1 := Scalar.cmpi .sgt v4154 c0_i32_2363
  let v4157 : BitVec 32 := Scalar.extui v4156
  let c0_i32_2364 : BitVec 32 := 0#32
  let v4158 : BitVec 1 := Scalar.cmpi .slt v4154 c0_i32_2364
  let v4159 : BitVec 32 := Scalar.extui v4158
  let v4160 : BitVec 32 := Scalar.subi v4157 v4159
  let c16_i32_2362 : BitVec 32 := 16#32
  let c0_i32_2365 : BitVec 32 := 0#32
  let v4161 : BitVec 1 := Scalar.cmpi .sgt c16_i32_2362 c0_i32_2365
  let v4162 : BitVec 32 := Scalar.extui v4161
  let c0_i32_2366 : BitVec 32 := 0#32
  let v4163 : BitVec 1 := Scalar.cmpi .slt c16_i32_2362 c0_i32_2366
  let v4164 : BitVec 32 := Scalar.extui v4163
  let v4165 : BitVec 32 := Scalar.subi v4162 v4164
  let v4166 : BitVec 1 := Scalar.cmpi .ne v4160 v4165
  let v4167 : BitVec 32 := Scalar.remsi v4154 c16_i32_2362
  let c0_i32_2367 : BitVec 32 := 0#32
  let v4168 : BitVec 1 := Scalar.cmpi .ne v4167 c0_i32_2367
  let v4169 : BitVec 1 := Scalar.andi v4166 v4168
  let v4155 : BitVec 32 := Scalar.divsi v4154 c16_i32_2362
  let c1_i32_2368 : BitVec 32 := 1#32
  let v4170 : BitVec 32 := Scalar.subi v4155 c1_i32_2368
  let v4171 : BitVec 32 := Scalar.select v4169 v4170 v4155
  let v4172 : BitVec 32 := Scalar.subi v4171 v4152
  let c1_i32_2370 : BitVec 32 := 1#32
  let v4174 : BitVec 32 := Scalar.divsi v4172 c1_i32_2370
  let v4175 : BitVec 32 := Scalar.muli v4174 c1_i32_2370
  let v4176 : BitVec 32 := Scalar.addi v4152 v4175
  let c1_i32_2372 : BitVec 32 := 1#32
  let arg18 : BitVec 32 := Scf.iv v4176 c1_i32_2372 k0_t4
  let c16_i32_2373 : BitVec 32 := 16#32
  let v4177 : BitVec 32 := Scalar.muli arg18 c16_i32_2373
  let v4178 : BitVec 32 := v4177
  let v4179 : BitVec 32 := Scalar.addi c16_i32_2374 v4178
  let v4180 : BitVec 32 := Scalar.subi v4179 v3885
  let v4403 : Index := Scalar.indexCast v4180
  let c0_2453 : Index := 0#32
  ![19, v4403.toNat, 0]
def k0_off448 (i : grid0.Coords) (v3863 : BitVec 32) (v3867 : BitVec 32) (v3871 : BitVec 32) (v3875 : BitVec 32) (v3879 : BitVec 32) (v3883 : BitVec 32) (v3887 : BitVec 32) (k0_t4 : Fin (k0_t4_loop i v3863 v3867 v3871 v3875 v3879 v3883 v3887).trips) : Fin 2 → Nat :=
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let v4153 : BitVec 32 := Scalar.addi v3885 v3887
  let c15_i32 : BitVec 32 := 15#32
  let v4154 : BitVec 32 := Scalar.addi v4153 c15_i32
  let c0_i32_2363 : BitVec 32 := 0#32
  let v4156 : BitVec 1 := Scalar.cmpi .sgt v4154 c0_i32_2363
  let v4157 : BitVec 32 := Scalar.extui v4156
  let c0_i32_2364 : BitVec 32 := 0#32
  let v4158 : BitVec 1 := Scalar.cmpi .slt v4154 c0_i32_2364
  let v4159 : BitVec 32 := Scalar.extui v4158
  let v4160 : BitVec 32 := Scalar.subi v4157 v4159
  let c16_i32_2362 : BitVec 32 := 16#32
  let c0_i32_2365 : BitVec 32 := 0#32
  let v4161 : BitVec 1 := Scalar.cmpi .sgt c16_i32_2362 c0_i32_2365
  let v4162 : BitVec 32 := Scalar.extui v4161
  let c0_i32_2366 : BitVec 32 := 0#32
  let v4163 : BitVec 1 := Scalar.cmpi .slt c16_i32_2362 c0_i32_2366
  let v4164 : BitVec 32 := Scalar.extui v4163
  let v4165 : BitVec 32 := Scalar.subi v4162 v4164
  let v4166 : BitVec 1 := Scalar.cmpi .ne v4160 v4165
  let v4167 : BitVec 32 := Scalar.remsi v4154 c16_i32_2362
  let c0_i32_2367 : BitVec 32 := 0#32
  let v4168 : BitVec 1 := Scalar.cmpi .ne v4167 c0_i32_2367
  let v4169 : BitVec 1 := Scalar.andi v4166 v4168
  let v4155 : BitVec 32 := Scalar.divsi v4154 c16_i32_2362
  let c1_i32_2368 : BitVec 32 := 1#32
  let v4170 : BitVec 32 := Scalar.subi v4155 c1_i32_2368
  let v4171 : BitVec 32 := Scalar.select v4169 v4170 v4155
  let v4172 : BitVec 32 := Scalar.subi v4171 v4152
  let c1_i32_2370 : BitVec 32 := 1#32
  let v4174 : BitVec 32 := Scalar.divsi v4172 c1_i32_2370
  let v4175 : BitVec 32 := Scalar.muli v4174 c1_i32_2370
  let v4176 : BitVec 32 := Scalar.addi v4152 v4175
  let c1_i32_2372 : BitVec 32 := 1#32
  let arg18 : BitVec 32 := Scf.iv v4176 c1_i32_2372 k0_t4
  let c16_i32_2373 : BitVec 32 := 16#32
  let v4177 : BitVec 32 := Scalar.muli arg18 c16_i32_2373
  let v4178 : BitVec 32 := v4177
  let v4410 : Index := Scalar.indexCast v4178
  let c2560_2455 : Index := 2560#32
  ![v4410.toNat, 2560]
def k0_off449 (i : grid0.Coords) (v3863 : BitVec 32) (v3867 : BitVec 32) (v3871 : BitVec 32) (v3875 : BitVec 32) (v3879 : BitVec 32) (v3883 : BitVec 32) (v3887 : BitVec 32) (k0_t4 : Fin (k0_t4_loop i v3863 v3867 v3871 v3875 v3879 v3883 v3887).trips) : Fin 3 → Nat :=
  let c20_2456 : Index := 20#32
  let c16_i32_2374 : BitVec 32 := 16#32
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let v4153 : BitVec 32 := Scalar.addi v3885 v3887
  let c15_i32 : BitVec 32 := 15#32
  let v4154 : BitVec 32 := Scalar.addi v4153 c15_i32
  let c0_i32_2363 : BitVec 32 := 0#32
  let v4156 : BitVec 1 := Scalar.cmpi .sgt v4154 c0_i32_2363
  let v4157 : BitVec 32 := Scalar.extui v4156
  let c0_i32_2364 : BitVec 32 := 0#32
  let v4158 : BitVec 1 := Scalar.cmpi .slt v4154 c0_i32_2364
  let v4159 : BitVec 32 := Scalar.extui v4158
  let v4160 : BitVec 32 := Scalar.subi v4157 v4159
  let c16_i32_2362 : BitVec 32 := 16#32
  let c0_i32_2365 : BitVec 32 := 0#32
  let v4161 : BitVec 1 := Scalar.cmpi .sgt c16_i32_2362 c0_i32_2365
  let v4162 : BitVec 32 := Scalar.extui v4161
  let c0_i32_2366 : BitVec 32 := 0#32
  let v4163 : BitVec 1 := Scalar.cmpi .slt c16_i32_2362 c0_i32_2366
  let v4164 : BitVec 32 := Scalar.extui v4163
  let v4165 : BitVec 32 := Scalar.subi v4162 v4164
  let v4166 : BitVec 1 := Scalar.cmpi .ne v4160 v4165
  let v4167 : BitVec 32 := Scalar.remsi v4154 c16_i32_2362
  let c0_i32_2367 : BitVec 32 := 0#32
  let v4168 : BitVec 1 := Scalar.cmpi .ne v4167 c0_i32_2367
  let v4169 : BitVec 1 := Scalar.andi v4166 v4168
  let v4155 : BitVec 32 := Scalar.divsi v4154 c16_i32_2362
  let c1_i32_2368 : BitVec 32 := 1#32
  let v4170 : BitVec 32 := Scalar.subi v4155 c1_i32_2368
  let v4171 : BitVec 32 := Scalar.select v4169 v4170 v4155
  let v4172 : BitVec 32 := Scalar.subi v4171 v4152
  let c1_i32_2370 : BitVec 32 := 1#32
  let v4174 : BitVec 32 := Scalar.divsi v4172 c1_i32_2370
  let v4175 : BitVec 32 := Scalar.muli v4174 c1_i32_2370
  let v4176 : BitVec 32 := Scalar.addi v4152 v4175
  let c1_i32_2372 : BitVec 32 := 1#32
  let arg18 : BitVec 32 := Scf.iv v4176 c1_i32_2372 k0_t4
  let c16_i32_2373 : BitVec 32 := 16#32
  let v4177 : BitVec 32 := Scalar.muli arg18 c16_i32_2373
  let v4178 : BitVec 32 := v4177
  let v4179 : BitVec 32 := Scalar.addi c16_i32_2374 v4178
  let v4180 : BitVec 32 := Scalar.subi v4179 v3885
  let v4414 : Index := Scalar.indexCast v4180
  let c0_2457 : Index := 0#32
  ![20, v4414.toNat, 0]
def k0_off450 (i : grid0.Coords) (v3863 : BitVec 32) (v3867 : BitVec 32) (v3871 : BitVec 32) (v3875 : BitVec 32) (v3879 : BitVec 32) (v3883 : BitVec 32) (v3887 : BitVec 32) (k0_t4 : Fin (k0_t4_loop i v3863 v3867 v3871 v3875 v3879 v3883 v3887).trips) : Fin 2 → Nat :=
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let v4153 : BitVec 32 := Scalar.addi v3885 v3887
  let c15_i32 : BitVec 32 := 15#32
  let v4154 : BitVec 32 := Scalar.addi v4153 c15_i32
  let c0_i32_2363 : BitVec 32 := 0#32
  let v4156 : BitVec 1 := Scalar.cmpi .sgt v4154 c0_i32_2363
  let v4157 : BitVec 32 := Scalar.extui v4156
  let c0_i32_2364 : BitVec 32 := 0#32
  let v4158 : BitVec 1 := Scalar.cmpi .slt v4154 c0_i32_2364
  let v4159 : BitVec 32 := Scalar.extui v4158
  let v4160 : BitVec 32 := Scalar.subi v4157 v4159
  let c16_i32_2362 : BitVec 32 := 16#32
  let c0_i32_2365 : BitVec 32 := 0#32
  let v4161 : BitVec 1 := Scalar.cmpi .sgt c16_i32_2362 c0_i32_2365
  let v4162 : BitVec 32 := Scalar.extui v4161
  let c0_i32_2366 : BitVec 32 := 0#32
  let v4163 : BitVec 1 := Scalar.cmpi .slt c16_i32_2362 c0_i32_2366
  let v4164 : BitVec 32 := Scalar.extui v4163
  let v4165 : BitVec 32 := Scalar.subi v4162 v4164
  let v4166 : BitVec 1 := Scalar.cmpi .ne v4160 v4165
  let v4167 : BitVec 32 := Scalar.remsi v4154 c16_i32_2362
  let c0_i32_2367 : BitVec 32 := 0#32
  let v4168 : BitVec 1 := Scalar.cmpi .ne v4167 c0_i32_2367
  let v4169 : BitVec 1 := Scalar.andi v4166 v4168
  let v4155 : BitVec 32 := Scalar.divsi v4154 c16_i32_2362
  let c1_i32_2368 : BitVec 32 := 1#32
  let v4170 : BitVec 32 := Scalar.subi v4155 c1_i32_2368
  let v4171 : BitVec 32 := Scalar.select v4169 v4170 v4155
  let v4172 : BitVec 32 := Scalar.subi v4171 v4152
  let c1_i32_2370 : BitVec 32 := 1#32
  let v4174 : BitVec 32 := Scalar.divsi v4172 c1_i32_2370
  let v4175 : BitVec 32 := Scalar.muli v4174 c1_i32_2370
  let v4176 : BitVec 32 := Scalar.addi v4152 v4175
  let c1_i32_2372 : BitVec 32 := 1#32
  let arg18 : BitVec 32 := Scf.iv v4176 c1_i32_2372 k0_t4
  let c16_i32_2373 : BitVec 32 := 16#32
  let v4177 : BitVec 32 := Scalar.muli arg18 c16_i32_2373
  let v4178 : BitVec 32 := v4177
  let v4421 : Index := Scalar.indexCast v4178
  let c2688_2459 : Index := 2688#32
  ![v4421.toNat, 2688]
def k0_off451 (i : grid0.Coords) (v3863 : BitVec 32) (v3867 : BitVec 32) (v3871 : BitVec 32) (v3875 : BitVec 32) (v3879 : BitVec 32) (v3883 : BitVec 32) (v3887 : BitVec 32) (k0_t4 : Fin (k0_t4_loop i v3863 v3867 v3871 v3875 v3879 v3883 v3887).trips) : Fin 3 → Nat :=
  let c21_2460 : Index := 21#32
  let c16_i32_2374 : BitVec 32 := 16#32
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let v4153 : BitVec 32 := Scalar.addi v3885 v3887
  let c15_i32 : BitVec 32 := 15#32
  let v4154 : BitVec 32 := Scalar.addi v4153 c15_i32
  let c0_i32_2363 : BitVec 32 := 0#32
  let v4156 : BitVec 1 := Scalar.cmpi .sgt v4154 c0_i32_2363
  let v4157 : BitVec 32 := Scalar.extui v4156
  let c0_i32_2364 : BitVec 32 := 0#32
  let v4158 : BitVec 1 := Scalar.cmpi .slt v4154 c0_i32_2364
  let v4159 : BitVec 32 := Scalar.extui v4158
  let v4160 : BitVec 32 := Scalar.subi v4157 v4159
  let c16_i32_2362 : BitVec 32 := 16#32
  let c0_i32_2365 : BitVec 32 := 0#32
  let v4161 : BitVec 1 := Scalar.cmpi .sgt c16_i32_2362 c0_i32_2365
  let v4162 : BitVec 32 := Scalar.extui v4161
  let c0_i32_2366 : BitVec 32 := 0#32
  let v4163 : BitVec 1 := Scalar.cmpi .slt c16_i32_2362 c0_i32_2366
  let v4164 : BitVec 32 := Scalar.extui v4163
  let v4165 : BitVec 32 := Scalar.subi v4162 v4164
  let v4166 : BitVec 1 := Scalar.cmpi .ne v4160 v4165
  let v4167 : BitVec 32 := Scalar.remsi v4154 c16_i32_2362
  let c0_i32_2367 : BitVec 32 := 0#32
  let v4168 : BitVec 1 := Scalar.cmpi .ne v4167 c0_i32_2367
  let v4169 : BitVec 1 := Scalar.andi v4166 v4168
  let v4155 : BitVec 32 := Scalar.divsi v4154 c16_i32_2362
  let c1_i32_2368 : BitVec 32 := 1#32
  let v4170 : BitVec 32 := Scalar.subi v4155 c1_i32_2368
  let v4171 : BitVec 32 := Scalar.select v4169 v4170 v4155
  let v4172 : BitVec 32 := Scalar.subi v4171 v4152
  let c1_i32_2370 : BitVec 32 := 1#32
  let v4174 : BitVec 32 := Scalar.divsi v4172 c1_i32_2370
  let v4175 : BitVec 32 := Scalar.muli v4174 c1_i32_2370
  let v4176 : BitVec 32 := Scalar.addi v4152 v4175
  let c1_i32_2372 : BitVec 32 := 1#32
  let arg18 : BitVec 32 := Scf.iv v4176 c1_i32_2372 k0_t4
  let c16_i32_2373 : BitVec 32 := 16#32
  let v4177 : BitVec 32 := Scalar.muli arg18 c16_i32_2373
  let v4178 : BitVec 32 := v4177
  let v4179 : BitVec 32 := Scalar.addi c16_i32_2374 v4178
  let v4180 : BitVec 32 := Scalar.subi v4179 v3885
  let v4425 : Index := Scalar.indexCast v4180
  let c0_2461 : Index := 0#32
  ![21, v4425.toNat, 0]
def k0_off452 (i : grid0.Coords) (v3863 : BitVec 32) (v3867 : BitVec 32) (v3871 : BitVec 32) (v3875 : BitVec 32) (v3879 : BitVec 32) (v3883 : BitVec 32) (v3887 : BitVec 32) (k0_t4 : Fin (k0_t4_loop i v3863 v3867 v3871 v3875 v3879 v3883 v3887).trips) : Fin 2 → Nat :=
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let v4153 : BitVec 32 := Scalar.addi v3885 v3887
  let c15_i32 : BitVec 32 := 15#32
  let v4154 : BitVec 32 := Scalar.addi v4153 c15_i32
  let c0_i32_2363 : BitVec 32 := 0#32
  let v4156 : BitVec 1 := Scalar.cmpi .sgt v4154 c0_i32_2363
  let v4157 : BitVec 32 := Scalar.extui v4156
  let c0_i32_2364 : BitVec 32 := 0#32
  let v4158 : BitVec 1 := Scalar.cmpi .slt v4154 c0_i32_2364
  let v4159 : BitVec 32 := Scalar.extui v4158
  let v4160 : BitVec 32 := Scalar.subi v4157 v4159
  let c16_i32_2362 : BitVec 32 := 16#32
  let c0_i32_2365 : BitVec 32 := 0#32
  let v4161 : BitVec 1 := Scalar.cmpi .sgt c16_i32_2362 c0_i32_2365
  let v4162 : BitVec 32 := Scalar.extui v4161
  let c0_i32_2366 : BitVec 32 := 0#32
  let v4163 : BitVec 1 := Scalar.cmpi .slt c16_i32_2362 c0_i32_2366
  let v4164 : BitVec 32 := Scalar.extui v4163
  let v4165 : BitVec 32 := Scalar.subi v4162 v4164
  let v4166 : BitVec 1 := Scalar.cmpi .ne v4160 v4165
  let v4167 : BitVec 32 := Scalar.remsi v4154 c16_i32_2362
  let c0_i32_2367 : BitVec 32 := 0#32
  let v4168 : BitVec 1 := Scalar.cmpi .ne v4167 c0_i32_2367
  let v4169 : BitVec 1 := Scalar.andi v4166 v4168
  let v4155 : BitVec 32 := Scalar.divsi v4154 c16_i32_2362
  let c1_i32_2368 : BitVec 32 := 1#32
  let v4170 : BitVec 32 := Scalar.subi v4155 c1_i32_2368
  let v4171 : BitVec 32 := Scalar.select v4169 v4170 v4155
  let v4172 : BitVec 32 := Scalar.subi v4171 v4152
  let c1_i32_2370 : BitVec 32 := 1#32
  let v4174 : BitVec 32 := Scalar.divsi v4172 c1_i32_2370
  let v4175 : BitVec 32 := Scalar.muli v4174 c1_i32_2370
  let v4176 : BitVec 32 := Scalar.addi v4152 v4175
  let c1_i32_2372 : BitVec 32 := 1#32
  let arg18 : BitVec 32 := Scf.iv v4176 c1_i32_2372 k0_t4
  let c16_i32_2373 : BitVec 32 := 16#32
  let v4177 : BitVec 32 := Scalar.muli arg18 c16_i32_2373
  let v4178 : BitVec 32 := v4177
  let v4432 : Index := Scalar.indexCast v4178
  let c2816_2463 : Index := 2816#32
  ![v4432.toNat, 2816]
def k0_off453 (i : grid0.Coords) (v3863 : BitVec 32) (v3867 : BitVec 32) (v3871 : BitVec 32) (v3875 : BitVec 32) (v3879 : BitVec 32) (v3883 : BitVec 32) (v3887 : BitVec 32) (k0_t4 : Fin (k0_t4_loop i v3863 v3867 v3871 v3875 v3879 v3883 v3887).trips) : Fin 3 → Nat :=
  let c22_2464 : Index := 22#32
  let c16_i32_2374 : BitVec 32 := 16#32
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let v4153 : BitVec 32 := Scalar.addi v3885 v3887
  let c15_i32 : BitVec 32 := 15#32
  let v4154 : BitVec 32 := Scalar.addi v4153 c15_i32
  let c0_i32_2363 : BitVec 32 := 0#32
  let v4156 : BitVec 1 := Scalar.cmpi .sgt v4154 c0_i32_2363
  let v4157 : BitVec 32 := Scalar.extui v4156
  let c0_i32_2364 : BitVec 32 := 0#32
  let v4158 : BitVec 1 := Scalar.cmpi .slt v4154 c0_i32_2364
  let v4159 : BitVec 32 := Scalar.extui v4158
  let v4160 : BitVec 32 := Scalar.subi v4157 v4159
  let c16_i32_2362 : BitVec 32 := 16#32
  let c0_i32_2365 : BitVec 32 := 0#32
  let v4161 : BitVec 1 := Scalar.cmpi .sgt c16_i32_2362 c0_i32_2365
  let v4162 : BitVec 32 := Scalar.extui v4161
  let c0_i32_2366 : BitVec 32 := 0#32
  let v4163 : BitVec 1 := Scalar.cmpi .slt c16_i32_2362 c0_i32_2366
  let v4164 : BitVec 32 := Scalar.extui v4163
  let v4165 : BitVec 32 := Scalar.subi v4162 v4164
  let v4166 : BitVec 1 := Scalar.cmpi .ne v4160 v4165
  let v4167 : BitVec 32 := Scalar.remsi v4154 c16_i32_2362
  let c0_i32_2367 : BitVec 32 := 0#32
  let v4168 : BitVec 1 := Scalar.cmpi .ne v4167 c0_i32_2367
  let v4169 : BitVec 1 := Scalar.andi v4166 v4168
  let v4155 : BitVec 32 := Scalar.divsi v4154 c16_i32_2362
  let c1_i32_2368 : BitVec 32 := 1#32
  let v4170 : BitVec 32 := Scalar.subi v4155 c1_i32_2368
  let v4171 : BitVec 32 := Scalar.select v4169 v4170 v4155
  let v4172 : BitVec 32 := Scalar.subi v4171 v4152
  let c1_i32_2370 : BitVec 32 := 1#32
  let v4174 : BitVec 32 := Scalar.divsi v4172 c1_i32_2370
  let v4175 : BitVec 32 := Scalar.muli v4174 c1_i32_2370
  let v4176 : BitVec 32 := Scalar.addi v4152 v4175
  let c1_i32_2372 : BitVec 32 := 1#32
  let arg18 : BitVec 32 := Scf.iv v4176 c1_i32_2372 k0_t4
  let c16_i32_2373 : BitVec 32 := 16#32
  let v4177 : BitVec 32 := Scalar.muli arg18 c16_i32_2373
  let v4178 : BitVec 32 := v4177
  let v4179 : BitVec 32 := Scalar.addi c16_i32_2374 v4178
  let v4180 : BitVec 32 := Scalar.subi v4179 v3885
  let v4436 : Index := Scalar.indexCast v4180
  let c0_2465 : Index := 0#32
  ![22, v4436.toNat, 0]
def k0_off454 (i : grid0.Coords) (v3863 : BitVec 32) (v3867 : BitVec 32) (v3871 : BitVec 32) (v3875 : BitVec 32) (v3879 : BitVec 32) (v3883 : BitVec 32) (v3887 : BitVec 32) (k0_t4 : Fin (k0_t4_loop i v3863 v3867 v3871 v3875 v3879 v3883 v3887).trips) : Fin 2 → Nat :=
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let v4153 : BitVec 32 := Scalar.addi v3885 v3887
  let c15_i32 : BitVec 32 := 15#32
  let v4154 : BitVec 32 := Scalar.addi v4153 c15_i32
  let c0_i32_2363 : BitVec 32 := 0#32
  let v4156 : BitVec 1 := Scalar.cmpi .sgt v4154 c0_i32_2363
  let v4157 : BitVec 32 := Scalar.extui v4156
  let c0_i32_2364 : BitVec 32 := 0#32
  let v4158 : BitVec 1 := Scalar.cmpi .slt v4154 c0_i32_2364
  let v4159 : BitVec 32 := Scalar.extui v4158
  let v4160 : BitVec 32 := Scalar.subi v4157 v4159
  let c16_i32_2362 : BitVec 32 := 16#32
  let c0_i32_2365 : BitVec 32 := 0#32
  let v4161 : BitVec 1 := Scalar.cmpi .sgt c16_i32_2362 c0_i32_2365
  let v4162 : BitVec 32 := Scalar.extui v4161
  let c0_i32_2366 : BitVec 32 := 0#32
  let v4163 : BitVec 1 := Scalar.cmpi .slt c16_i32_2362 c0_i32_2366
  let v4164 : BitVec 32 := Scalar.extui v4163
  let v4165 : BitVec 32 := Scalar.subi v4162 v4164
  let v4166 : BitVec 1 := Scalar.cmpi .ne v4160 v4165
  let v4167 : BitVec 32 := Scalar.remsi v4154 c16_i32_2362
  let c0_i32_2367 : BitVec 32 := 0#32
  let v4168 : BitVec 1 := Scalar.cmpi .ne v4167 c0_i32_2367
  let v4169 : BitVec 1 := Scalar.andi v4166 v4168
  let v4155 : BitVec 32 := Scalar.divsi v4154 c16_i32_2362
  let c1_i32_2368 : BitVec 32 := 1#32
  let v4170 : BitVec 32 := Scalar.subi v4155 c1_i32_2368
  let v4171 : BitVec 32 := Scalar.select v4169 v4170 v4155
  let v4172 : BitVec 32 := Scalar.subi v4171 v4152
  let c1_i32_2370 : BitVec 32 := 1#32
  let v4174 : BitVec 32 := Scalar.divsi v4172 c1_i32_2370
  let v4175 : BitVec 32 := Scalar.muli v4174 c1_i32_2370
  let v4176 : BitVec 32 := Scalar.addi v4152 v4175
  let c1_i32_2372 : BitVec 32 := 1#32
  let arg18 : BitVec 32 := Scf.iv v4176 c1_i32_2372 k0_t4
  let c16_i32_2373 : BitVec 32 := 16#32
  let v4177 : BitVec 32 := Scalar.muli arg18 c16_i32_2373
  let v4178 : BitVec 32 := v4177
  let v4443 : Index := Scalar.indexCast v4178
  let c2944_2467 : Index := 2944#32
  ![v4443.toNat, 2944]
def k0_off455 (i : grid0.Coords) (v3863 : BitVec 32) (v3867 : BitVec 32) (v3871 : BitVec 32) (v3875 : BitVec 32) (v3879 : BitVec 32) (v3883 : BitVec 32) (v3887 : BitVec 32) (k0_t4 : Fin (k0_t4_loop i v3863 v3867 v3871 v3875 v3879 v3883 v3887).trips) : Fin 3 → Nat :=
  let c23_2468 : Index := 23#32
  let c16_i32_2374 : BitVec 32 := 16#32
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let v4153 : BitVec 32 := Scalar.addi v3885 v3887
  let c15_i32 : BitVec 32 := 15#32
  let v4154 : BitVec 32 := Scalar.addi v4153 c15_i32
  let c0_i32_2363 : BitVec 32 := 0#32
  let v4156 : BitVec 1 := Scalar.cmpi .sgt v4154 c0_i32_2363
  let v4157 : BitVec 32 := Scalar.extui v4156
  let c0_i32_2364 : BitVec 32 := 0#32
  let v4158 : BitVec 1 := Scalar.cmpi .slt v4154 c0_i32_2364
  let v4159 : BitVec 32 := Scalar.extui v4158
  let v4160 : BitVec 32 := Scalar.subi v4157 v4159
  let c16_i32_2362 : BitVec 32 := 16#32
  let c0_i32_2365 : BitVec 32 := 0#32
  let v4161 : BitVec 1 := Scalar.cmpi .sgt c16_i32_2362 c0_i32_2365
  let v4162 : BitVec 32 := Scalar.extui v4161
  let c0_i32_2366 : BitVec 32 := 0#32
  let v4163 : BitVec 1 := Scalar.cmpi .slt c16_i32_2362 c0_i32_2366
  let v4164 : BitVec 32 := Scalar.extui v4163
  let v4165 : BitVec 32 := Scalar.subi v4162 v4164
  let v4166 : BitVec 1 := Scalar.cmpi .ne v4160 v4165
  let v4167 : BitVec 32 := Scalar.remsi v4154 c16_i32_2362
  let c0_i32_2367 : BitVec 32 := 0#32
  let v4168 : BitVec 1 := Scalar.cmpi .ne v4167 c0_i32_2367
  let v4169 : BitVec 1 := Scalar.andi v4166 v4168
  let v4155 : BitVec 32 := Scalar.divsi v4154 c16_i32_2362
  let c1_i32_2368 : BitVec 32 := 1#32
  let v4170 : BitVec 32 := Scalar.subi v4155 c1_i32_2368
  let v4171 : BitVec 32 := Scalar.select v4169 v4170 v4155
  let v4172 : BitVec 32 := Scalar.subi v4171 v4152
  let c1_i32_2370 : BitVec 32 := 1#32
  let v4174 : BitVec 32 := Scalar.divsi v4172 c1_i32_2370
  let v4175 : BitVec 32 := Scalar.muli v4174 c1_i32_2370
  let v4176 : BitVec 32 := Scalar.addi v4152 v4175
  let c1_i32_2372 : BitVec 32 := 1#32
  let arg18 : BitVec 32 := Scf.iv v4176 c1_i32_2372 k0_t4
  let c16_i32_2373 : BitVec 32 := 16#32
  let v4177 : BitVec 32 := Scalar.muli arg18 c16_i32_2373
  let v4178 : BitVec 32 := v4177
  let v4179 : BitVec 32 := Scalar.addi c16_i32_2374 v4178
  let v4180 : BitVec 32 := Scalar.subi v4179 v3885
  let v4447 : Index := Scalar.indexCast v4180
  let c0_2469 : Index := 0#32
  ![23, v4447.toNat, 0]
def k0_off456 (i : grid0.Coords) (v3863 : BitVec 32) (v3867 : BitVec 32) (v3871 : BitVec 32) (v3875 : BitVec 32) (v3879 : BitVec 32) (v3883 : BitVec 32) (v3887 : BitVec 32) (k0_t4 : Fin (k0_t4_loop i v3863 v3867 v3871 v3875 v3879 v3883 v3887).trips) : Fin 2 → Nat :=
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let v4153 : BitVec 32 := Scalar.addi v3885 v3887
  let c15_i32 : BitVec 32 := 15#32
  let v4154 : BitVec 32 := Scalar.addi v4153 c15_i32
  let c0_i32_2363 : BitVec 32 := 0#32
  let v4156 : BitVec 1 := Scalar.cmpi .sgt v4154 c0_i32_2363
  let v4157 : BitVec 32 := Scalar.extui v4156
  let c0_i32_2364 : BitVec 32 := 0#32
  let v4158 : BitVec 1 := Scalar.cmpi .slt v4154 c0_i32_2364
  let v4159 : BitVec 32 := Scalar.extui v4158
  let v4160 : BitVec 32 := Scalar.subi v4157 v4159
  let c16_i32_2362 : BitVec 32 := 16#32
  let c0_i32_2365 : BitVec 32 := 0#32
  let v4161 : BitVec 1 := Scalar.cmpi .sgt c16_i32_2362 c0_i32_2365
  let v4162 : BitVec 32 := Scalar.extui v4161
  let c0_i32_2366 : BitVec 32 := 0#32
  let v4163 : BitVec 1 := Scalar.cmpi .slt c16_i32_2362 c0_i32_2366
  let v4164 : BitVec 32 := Scalar.extui v4163
  let v4165 : BitVec 32 := Scalar.subi v4162 v4164
  let v4166 : BitVec 1 := Scalar.cmpi .ne v4160 v4165
  let v4167 : BitVec 32 := Scalar.remsi v4154 c16_i32_2362
  let c0_i32_2367 : BitVec 32 := 0#32
  let v4168 : BitVec 1 := Scalar.cmpi .ne v4167 c0_i32_2367
  let v4169 : BitVec 1 := Scalar.andi v4166 v4168
  let v4155 : BitVec 32 := Scalar.divsi v4154 c16_i32_2362
  let c1_i32_2368 : BitVec 32 := 1#32
  let v4170 : BitVec 32 := Scalar.subi v4155 c1_i32_2368
  let v4171 : BitVec 32 := Scalar.select v4169 v4170 v4155
  let v4172 : BitVec 32 := Scalar.subi v4171 v4152
  let c1_i32_2370 : BitVec 32 := 1#32
  let v4174 : BitVec 32 := Scalar.divsi v4172 c1_i32_2370
  let v4175 : BitVec 32 := Scalar.muli v4174 c1_i32_2370
  let v4176 : BitVec 32 := Scalar.addi v4152 v4175
  let c1_i32_2372 : BitVec 32 := 1#32
  let arg18 : BitVec 32 := Scf.iv v4176 c1_i32_2372 k0_t4
  let c16_i32_2373 : BitVec 32 := 16#32
  let v4177 : BitVec 32 := Scalar.muli arg18 c16_i32_2373
  let v4178 : BitVec 32 := v4177
  let v4454 : Index := Scalar.indexCast v4178
  let c3072_2471 : Index := 3072#32
  ![v4454.toNat, 3072]
def k0_off457 (i : grid0.Coords) (v3863 : BitVec 32) (v3867 : BitVec 32) (v3871 : BitVec 32) (v3875 : BitVec 32) (v3879 : BitVec 32) (v3883 : BitVec 32) (v3887 : BitVec 32) (k0_t4 : Fin (k0_t4_loop i v3863 v3867 v3871 v3875 v3879 v3883 v3887).trips) : Fin 3 → Nat :=
  let c24_2472 : Index := 24#32
  let c16_i32_2374 : BitVec 32 := 16#32
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let v4153 : BitVec 32 := Scalar.addi v3885 v3887
  let c15_i32 : BitVec 32 := 15#32
  let v4154 : BitVec 32 := Scalar.addi v4153 c15_i32
  let c0_i32_2363 : BitVec 32 := 0#32
  let v4156 : BitVec 1 := Scalar.cmpi .sgt v4154 c0_i32_2363
  let v4157 : BitVec 32 := Scalar.extui v4156
  let c0_i32_2364 : BitVec 32 := 0#32
  let v4158 : BitVec 1 := Scalar.cmpi .slt v4154 c0_i32_2364
  let v4159 : BitVec 32 := Scalar.extui v4158
  let v4160 : BitVec 32 := Scalar.subi v4157 v4159
  let c16_i32_2362 : BitVec 32 := 16#32
  let c0_i32_2365 : BitVec 32 := 0#32
  let v4161 : BitVec 1 := Scalar.cmpi .sgt c16_i32_2362 c0_i32_2365
  let v4162 : BitVec 32 := Scalar.extui v4161
  let c0_i32_2366 : BitVec 32 := 0#32
  let v4163 : BitVec 1 := Scalar.cmpi .slt c16_i32_2362 c0_i32_2366
  let v4164 : BitVec 32 := Scalar.extui v4163
  let v4165 : BitVec 32 := Scalar.subi v4162 v4164
  let v4166 : BitVec 1 := Scalar.cmpi .ne v4160 v4165
  let v4167 : BitVec 32 := Scalar.remsi v4154 c16_i32_2362
  let c0_i32_2367 : BitVec 32 := 0#32
  let v4168 : BitVec 1 := Scalar.cmpi .ne v4167 c0_i32_2367
  let v4169 : BitVec 1 := Scalar.andi v4166 v4168
  let v4155 : BitVec 32 := Scalar.divsi v4154 c16_i32_2362
  let c1_i32_2368 : BitVec 32 := 1#32
  let v4170 : BitVec 32 := Scalar.subi v4155 c1_i32_2368
  let v4171 : BitVec 32 := Scalar.select v4169 v4170 v4155
  let v4172 : BitVec 32 := Scalar.subi v4171 v4152
  let c1_i32_2370 : BitVec 32 := 1#32
  let v4174 : BitVec 32 := Scalar.divsi v4172 c1_i32_2370
  let v4175 : BitVec 32 := Scalar.muli v4174 c1_i32_2370
  let v4176 : BitVec 32 := Scalar.addi v4152 v4175
  let c1_i32_2372 : BitVec 32 := 1#32
  let arg18 : BitVec 32 := Scf.iv v4176 c1_i32_2372 k0_t4
  let c16_i32_2373 : BitVec 32 := 16#32
  let v4177 : BitVec 32 := Scalar.muli arg18 c16_i32_2373
  let v4178 : BitVec 32 := v4177
  let v4179 : BitVec 32 := Scalar.addi c16_i32_2374 v4178
  let v4180 : BitVec 32 := Scalar.subi v4179 v3885
  let v4458 : Index := Scalar.indexCast v4180
  let c0_2473 : Index := 0#32
  ![24, v4458.toNat, 0]
def k0_off458 (i : grid0.Coords) (v3863 : BitVec 32) (v3867 : BitVec 32) (v3871 : BitVec 32) (v3875 : BitVec 32) (v3879 : BitVec 32) (v3883 : BitVec 32) (v3887 : BitVec 32) (k0_t4 : Fin (k0_t4_loop i v3863 v3867 v3871 v3875 v3879 v3883 v3887).trips) : Fin 2 → Nat :=
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let v4153 : BitVec 32 := Scalar.addi v3885 v3887
  let c15_i32 : BitVec 32 := 15#32
  let v4154 : BitVec 32 := Scalar.addi v4153 c15_i32
  let c0_i32_2363 : BitVec 32 := 0#32
  let v4156 : BitVec 1 := Scalar.cmpi .sgt v4154 c0_i32_2363
  let v4157 : BitVec 32 := Scalar.extui v4156
  let c0_i32_2364 : BitVec 32 := 0#32
  let v4158 : BitVec 1 := Scalar.cmpi .slt v4154 c0_i32_2364
  let v4159 : BitVec 32 := Scalar.extui v4158
  let v4160 : BitVec 32 := Scalar.subi v4157 v4159
  let c16_i32_2362 : BitVec 32 := 16#32
  let c0_i32_2365 : BitVec 32 := 0#32
  let v4161 : BitVec 1 := Scalar.cmpi .sgt c16_i32_2362 c0_i32_2365
  let v4162 : BitVec 32 := Scalar.extui v4161
  let c0_i32_2366 : BitVec 32 := 0#32
  let v4163 : BitVec 1 := Scalar.cmpi .slt c16_i32_2362 c0_i32_2366
  let v4164 : BitVec 32 := Scalar.extui v4163
  let v4165 : BitVec 32 := Scalar.subi v4162 v4164
  let v4166 : BitVec 1 := Scalar.cmpi .ne v4160 v4165
  let v4167 : BitVec 32 := Scalar.remsi v4154 c16_i32_2362
  let c0_i32_2367 : BitVec 32 := 0#32
  let v4168 : BitVec 1 := Scalar.cmpi .ne v4167 c0_i32_2367
  let v4169 : BitVec 1 := Scalar.andi v4166 v4168
  let v4155 : BitVec 32 := Scalar.divsi v4154 c16_i32_2362
  let c1_i32_2368 : BitVec 32 := 1#32
  let v4170 : BitVec 32 := Scalar.subi v4155 c1_i32_2368
  let v4171 : BitVec 32 := Scalar.select v4169 v4170 v4155
  let v4172 : BitVec 32 := Scalar.subi v4171 v4152
  let c1_i32_2370 : BitVec 32 := 1#32
  let v4174 : BitVec 32 := Scalar.divsi v4172 c1_i32_2370
  let v4175 : BitVec 32 := Scalar.muli v4174 c1_i32_2370
  let v4176 : BitVec 32 := Scalar.addi v4152 v4175
  let c1_i32_2372 : BitVec 32 := 1#32
  let arg18 : BitVec 32 := Scf.iv v4176 c1_i32_2372 k0_t4
  let c16_i32_2373 : BitVec 32 := 16#32
  let v4177 : BitVec 32 := Scalar.muli arg18 c16_i32_2373
  let v4178 : BitVec 32 := v4177
  let v4465 : Index := Scalar.indexCast v4178
  let c3200_2475 : Index := 3200#32
  ![v4465.toNat, 3200]
def k0_off459 (i : grid0.Coords) (v3863 : BitVec 32) (v3867 : BitVec 32) (v3871 : BitVec 32) (v3875 : BitVec 32) (v3879 : BitVec 32) (v3883 : BitVec 32) (v3887 : BitVec 32) (k0_t4 : Fin (k0_t4_loop i v3863 v3867 v3871 v3875 v3879 v3883 v3887).trips) : Fin 3 → Nat :=
  let c25_2476 : Index := 25#32
  let c16_i32_2374 : BitVec 32 := 16#32
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let v4153 : BitVec 32 := Scalar.addi v3885 v3887
  let c15_i32 : BitVec 32 := 15#32
  let v4154 : BitVec 32 := Scalar.addi v4153 c15_i32
  let c0_i32_2363 : BitVec 32 := 0#32
  let v4156 : BitVec 1 := Scalar.cmpi .sgt v4154 c0_i32_2363
  let v4157 : BitVec 32 := Scalar.extui v4156
  let c0_i32_2364 : BitVec 32 := 0#32
  let v4158 : BitVec 1 := Scalar.cmpi .slt v4154 c0_i32_2364
  let v4159 : BitVec 32 := Scalar.extui v4158
  let v4160 : BitVec 32 := Scalar.subi v4157 v4159
  let c16_i32_2362 : BitVec 32 := 16#32
  let c0_i32_2365 : BitVec 32 := 0#32
  let v4161 : BitVec 1 := Scalar.cmpi .sgt c16_i32_2362 c0_i32_2365
  let v4162 : BitVec 32 := Scalar.extui v4161
  let c0_i32_2366 : BitVec 32 := 0#32
  let v4163 : BitVec 1 := Scalar.cmpi .slt c16_i32_2362 c0_i32_2366
  let v4164 : BitVec 32 := Scalar.extui v4163
  let v4165 : BitVec 32 := Scalar.subi v4162 v4164
  let v4166 : BitVec 1 := Scalar.cmpi .ne v4160 v4165
  let v4167 : BitVec 32 := Scalar.remsi v4154 c16_i32_2362
  let c0_i32_2367 : BitVec 32 := 0#32
  let v4168 : BitVec 1 := Scalar.cmpi .ne v4167 c0_i32_2367
  let v4169 : BitVec 1 := Scalar.andi v4166 v4168
  let v4155 : BitVec 32 := Scalar.divsi v4154 c16_i32_2362
  let c1_i32_2368 : BitVec 32 := 1#32
  let v4170 : BitVec 32 := Scalar.subi v4155 c1_i32_2368
  let v4171 : BitVec 32 := Scalar.select v4169 v4170 v4155
  let v4172 : BitVec 32 := Scalar.subi v4171 v4152
  let c1_i32_2370 : BitVec 32 := 1#32
  let v4174 : BitVec 32 := Scalar.divsi v4172 c1_i32_2370
  let v4175 : BitVec 32 := Scalar.muli v4174 c1_i32_2370
  let v4176 : BitVec 32 := Scalar.addi v4152 v4175
  let c1_i32_2372 : BitVec 32 := 1#32
  let arg18 : BitVec 32 := Scf.iv v4176 c1_i32_2372 k0_t4
  let c16_i32_2373 : BitVec 32 := 16#32
  let v4177 : BitVec 32 := Scalar.muli arg18 c16_i32_2373
  let v4178 : BitVec 32 := v4177
  let v4179 : BitVec 32 := Scalar.addi c16_i32_2374 v4178
  let v4180 : BitVec 32 := Scalar.subi v4179 v3885
  let v4469 : Index := Scalar.indexCast v4180
  let c0_2477 : Index := 0#32
  ![25, v4469.toNat, 0]
def k0_off460 (i : grid0.Coords) (v3863 : BitVec 32) (v3867 : BitVec 32) (v3871 : BitVec 32) (v3875 : BitVec 32) (v3879 : BitVec 32) (v3883 : BitVec 32) (v3887 : BitVec 32) (k0_t4 : Fin (k0_t4_loop i v3863 v3867 v3871 v3875 v3879 v3883 v3887).trips) : Fin 2 → Nat :=
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let v4153 : BitVec 32 := Scalar.addi v3885 v3887
  let c15_i32 : BitVec 32 := 15#32
  let v4154 : BitVec 32 := Scalar.addi v4153 c15_i32
  let c0_i32_2363 : BitVec 32 := 0#32
  let v4156 : BitVec 1 := Scalar.cmpi .sgt v4154 c0_i32_2363
  let v4157 : BitVec 32 := Scalar.extui v4156
  let c0_i32_2364 : BitVec 32 := 0#32
  let v4158 : BitVec 1 := Scalar.cmpi .slt v4154 c0_i32_2364
  let v4159 : BitVec 32 := Scalar.extui v4158
  let v4160 : BitVec 32 := Scalar.subi v4157 v4159
  let c16_i32_2362 : BitVec 32 := 16#32
  let c0_i32_2365 : BitVec 32 := 0#32
  let v4161 : BitVec 1 := Scalar.cmpi .sgt c16_i32_2362 c0_i32_2365
  let v4162 : BitVec 32 := Scalar.extui v4161
  let c0_i32_2366 : BitVec 32 := 0#32
  let v4163 : BitVec 1 := Scalar.cmpi .slt c16_i32_2362 c0_i32_2366
  let v4164 : BitVec 32 := Scalar.extui v4163
  let v4165 : BitVec 32 := Scalar.subi v4162 v4164
  let v4166 : BitVec 1 := Scalar.cmpi .ne v4160 v4165
  let v4167 : BitVec 32 := Scalar.remsi v4154 c16_i32_2362
  let c0_i32_2367 : BitVec 32 := 0#32
  let v4168 : BitVec 1 := Scalar.cmpi .ne v4167 c0_i32_2367
  let v4169 : BitVec 1 := Scalar.andi v4166 v4168
  let v4155 : BitVec 32 := Scalar.divsi v4154 c16_i32_2362
  let c1_i32_2368 : BitVec 32 := 1#32
  let v4170 : BitVec 32 := Scalar.subi v4155 c1_i32_2368
  let v4171 : BitVec 32 := Scalar.select v4169 v4170 v4155
  let v4172 : BitVec 32 := Scalar.subi v4171 v4152
  let c1_i32_2370 : BitVec 32 := 1#32
  let v4174 : BitVec 32 := Scalar.divsi v4172 c1_i32_2370
  let v4175 : BitVec 32 := Scalar.muli v4174 c1_i32_2370
  let v4176 : BitVec 32 := Scalar.addi v4152 v4175
  let c1_i32_2372 : BitVec 32 := 1#32
  let arg18 : BitVec 32 := Scf.iv v4176 c1_i32_2372 k0_t4
  let c16_i32_2373 : BitVec 32 := 16#32
  let v4177 : BitVec 32 := Scalar.muli arg18 c16_i32_2373
  let v4178 : BitVec 32 := v4177
  let v4476 : Index := Scalar.indexCast v4178
  let c3328_2479 : Index := 3328#32
  ![v4476.toNat, 3328]
def k0_off461 (i : grid0.Coords) (v3863 : BitVec 32) (v3867 : BitVec 32) (v3871 : BitVec 32) (v3875 : BitVec 32) (v3879 : BitVec 32) (v3883 : BitVec 32) (v3887 : BitVec 32) (k0_t4 : Fin (k0_t4_loop i v3863 v3867 v3871 v3875 v3879 v3883 v3887).trips) : Fin 3 → Nat :=
  let c26_2480 : Index := 26#32
  let c16_i32_2374 : BitVec 32 := 16#32
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let v4153 : BitVec 32 := Scalar.addi v3885 v3887
  let c15_i32 : BitVec 32 := 15#32
  let v4154 : BitVec 32 := Scalar.addi v4153 c15_i32
  let c0_i32_2363 : BitVec 32 := 0#32
  let v4156 : BitVec 1 := Scalar.cmpi .sgt v4154 c0_i32_2363
  let v4157 : BitVec 32 := Scalar.extui v4156
  let c0_i32_2364 : BitVec 32 := 0#32
  let v4158 : BitVec 1 := Scalar.cmpi .slt v4154 c0_i32_2364
  let v4159 : BitVec 32 := Scalar.extui v4158
  let v4160 : BitVec 32 := Scalar.subi v4157 v4159
  let c16_i32_2362 : BitVec 32 := 16#32
  let c0_i32_2365 : BitVec 32 := 0#32
  let v4161 : BitVec 1 := Scalar.cmpi .sgt c16_i32_2362 c0_i32_2365
  let v4162 : BitVec 32 := Scalar.extui v4161
  let c0_i32_2366 : BitVec 32 := 0#32
  let v4163 : BitVec 1 := Scalar.cmpi .slt c16_i32_2362 c0_i32_2366
  let v4164 : BitVec 32 := Scalar.extui v4163
  let v4165 : BitVec 32 := Scalar.subi v4162 v4164
  let v4166 : BitVec 1 := Scalar.cmpi .ne v4160 v4165
  let v4167 : BitVec 32 := Scalar.remsi v4154 c16_i32_2362
  let c0_i32_2367 : BitVec 32 := 0#32
  let v4168 : BitVec 1 := Scalar.cmpi .ne v4167 c0_i32_2367
  let v4169 : BitVec 1 := Scalar.andi v4166 v4168
  let v4155 : BitVec 32 := Scalar.divsi v4154 c16_i32_2362
  let c1_i32_2368 : BitVec 32 := 1#32
  let v4170 : BitVec 32 := Scalar.subi v4155 c1_i32_2368
  let v4171 : BitVec 32 := Scalar.select v4169 v4170 v4155
  let v4172 : BitVec 32 := Scalar.subi v4171 v4152
  let c1_i32_2370 : BitVec 32 := 1#32
  let v4174 : BitVec 32 := Scalar.divsi v4172 c1_i32_2370
  let v4175 : BitVec 32 := Scalar.muli v4174 c1_i32_2370
  let v4176 : BitVec 32 := Scalar.addi v4152 v4175
  let c1_i32_2372 : BitVec 32 := 1#32
  let arg18 : BitVec 32 := Scf.iv v4176 c1_i32_2372 k0_t4
  let c16_i32_2373 : BitVec 32 := 16#32
  let v4177 : BitVec 32 := Scalar.muli arg18 c16_i32_2373
  let v4178 : BitVec 32 := v4177
  let v4179 : BitVec 32 := Scalar.addi c16_i32_2374 v4178
  let v4180 : BitVec 32 := Scalar.subi v4179 v3885
  let v4480 : Index := Scalar.indexCast v4180
  let c0_2481 : Index := 0#32
  ![26, v4480.toNat, 0]
def k0_off462 (i : grid0.Coords) (v3863 : BitVec 32) (v3867 : BitVec 32) (v3871 : BitVec 32) (v3875 : BitVec 32) (v3879 : BitVec 32) (v3883 : BitVec 32) (v3887 : BitVec 32) (k0_t4 : Fin (k0_t4_loop i v3863 v3867 v3871 v3875 v3879 v3883 v3887).trips) : Fin 2 → Nat :=
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let v4153 : BitVec 32 := Scalar.addi v3885 v3887
  let c15_i32 : BitVec 32 := 15#32
  let v4154 : BitVec 32 := Scalar.addi v4153 c15_i32
  let c0_i32_2363 : BitVec 32 := 0#32
  let v4156 : BitVec 1 := Scalar.cmpi .sgt v4154 c0_i32_2363
  let v4157 : BitVec 32 := Scalar.extui v4156
  let c0_i32_2364 : BitVec 32 := 0#32
  let v4158 : BitVec 1 := Scalar.cmpi .slt v4154 c0_i32_2364
  let v4159 : BitVec 32 := Scalar.extui v4158
  let v4160 : BitVec 32 := Scalar.subi v4157 v4159
  let c16_i32_2362 : BitVec 32 := 16#32
  let c0_i32_2365 : BitVec 32 := 0#32
  let v4161 : BitVec 1 := Scalar.cmpi .sgt c16_i32_2362 c0_i32_2365
  let v4162 : BitVec 32 := Scalar.extui v4161
  let c0_i32_2366 : BitVec 32 := 0#32
  let v4163 : BitVec 1 := Scalar.cmpi .slt c16_i32_2362 c0_i32_2366
  let v4164 : BitVec 32 := Scalar.extui v4163
  let v4165 : BitVec 32 := Scalar.subi v4162 v4164
  let v4166 : BitVec 1 := Scalar.cmpi .ne v4160 v4165
  let v4167 : BitVec 32 := Scalar.remsi v4154 c16_i32_2362
  let c0_i32_2367 : BitVec 32 := 0#32
  let v4168 : BitVec 1 := Scalar.cmpi .ne v4167 c0_i32_2367
  let v4169 : BitVec 1 := Scalar.andi v4166 v4168
  let v4155 : BitVec 32 := Scalar.divsi v4154 c16_i32_2362
  let c1_i32_2368 : BitVec 32 := 1#32
  let v4170 : BitVec 32 := Scalar.subi v4155 c1_i32_2368
  let v4171 : BitVec 32 := Scalar.select v4169 v4170 v4155
  let v4172 : BitVec 32 := Scalar.subi v4171 v4152
  let c1_i32_2370 : BitVec 32 := 1#32
  let v4174 : BitVec 32 := Scalar.divsi v4172 c1_i32_2370
  let v4175 : BitVec 32 := Scalar.muli v4174 c1_i32_2370
  let v4176 : BitVec 32 := Scalar.addi v4152 v4175
  let c1_i32_2372 : BitVec 32 := 1#32
  let arg18 : BitVec 32 := Scf.iv v4176 c1_i32_2372 k0_t4
  let c16_i32_2373 : BitVec 32 := 16#32
  let v4177 : BitVec 32 := Scalar.muli arg18 c16_i32_2373
  let v4178 : BitVec 32 := v4177
  let v4487 : Index := Scalar.indexCast v4178
  let c3456_2483 : Index := 3456#32
  ![v4487.toNat, 3456]
def k0_off463 (i : grid0.Coords) (v3863 : BitVec 32) (v3867 : BitVec 32) (v3871 : BitVec 32) (v3875 : BitVec 32) (v3879 : BitVec 32) (v3883 : BitVec 32) (v3887 : BitVec 32) (k0_t4 : Fin (k0_t4_loop i v3863 v3867 v3871 v3875 v3879 v3883 v3887).trips) : Fin 3 → Nat :=
  let c27_2484 : Index := 27#32
  let c16_i32_2374 : BitVec 32 := 16#32
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let v4153 : BitVec 32 := Scalar.addi v3885 v3887
  let c15_i32 : BitVec 32 := 15#32
  let v4154 : BitVec 32 := Scalar.addi v4153 c15_i32
  let c0_i32_2363 : BitVec 32 := 0#32
  let v4156 : BitVec 1 := Scalar.cmpi .sgt v4154 c0_i32_2363
  let v4157 : BitVec 32 := Scalar.extui v4156
  let c0_i32_2364 : BitVec 32 := 0#32
  let v4158 : BitVec 1 := Scalar.cmpi .slt v4154 c0_i32_2364
  let v4159 : BitVec 32 := Scalar.extui v4158
  let v4160 : BitVec 32 := Scalar.subi v4157 v4159
  let c16_i32_2362 : BitVec 32 := 16#32
  let c0_i32_2365 : BitVec 32 := 0#32
  let v4161 : BitVec 1 := Scalar.cmpi .sgt c16_i32_2362 c0_i32_2365
  let v4162 : BitVec 32 := Scalar.extui v4161
  let c0_i32_2366 : BitVec 32 := 0#32
  let v4163 : BitVec 1 := Scalar.cmpi .slt c16_i32_2362 c0_i32_2366
  let v4164 : BitVec 32 := Scalar.extui v4163
  let v4165 : BitVec 32 := Scalar.subi v4162 v4164
  let v4166 : BitVec 1 := Scalar.cmpi .ne v4160 v4165
  let v4167 : BitVec 32 := Scalar.remsi v4154 c16_i32_2362
  let c0_i32_2367 : BitVec 32 := 0#32
  let v4168 : BitVec 1 := Scalar.cmpi .ne v4167 c0_i32_2367
  let v4169 : BitVec 1 := Scalar.andi v4166 v4168
  let v4155 : BitVec 32 := Scalar.divsi v4154 c16_i32_2362
  let c1_i32_2368 : BitVec 32 := 1#32
  let v4170 : BitVec 32 := Scalar.subi v4155 c1_i32_2368
  let v4171 : BitVec 32 := Scalar.select v4169 v4170 v4155
  let v4172 : BitVec 32 := Scalar.subi v4171 v4152
  let c1_i32_2370 : BitVec 32 := 1#32
  let v4174 : BitVec 32 := Scalar.divsi v4172 c1_i32_2370
  let v4175 : BitVec 32 := Scalar.muli v4174 c1_i32_2370
  let v4176 : BitVec 32 := Scalar.addi v4152 v4175
  let c1_i32_2372 : BitVec 32 := 1#32
  let arg18 : BitVec 32 := Scf.iv v4176 c1_i32_2372 k0_t4
  let c16_i32_2373 : BitVec 32 := 16#32
  let v4177 : BitVec 32 := Scalar.muli arg18 c16_i32_2373
  let v4178 : BitVec 32 := v4177
  let v4179 : BitVec 32 := Scalar.addi c16_i32_2374 v4178
  let v4180 : BitVec 32 := Scalar.subi v4179 v3885
  let v4491 : Index := Scalar.indexCast v4180
  let c0_2485 : Index := 0#32
  ![27, v4491.toNat, 0]
def k0_off464 (i : grid0.Coords) (v3863 : BitVec 32) (v3867 : BitVec 32) (v3871 : BitVec 32) (v3875 : BitVec 32) (v3879 : BitVec 32) (v3883 : BitVec 32) (v3887 : BitVec 32) (k0_t4 : Fin (k0_t4_loop i v3863 v3867 v3871 v3875 v3879 v3883 v3887).trips) : Fin 2 → Nat :=
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let v4153 : BitVec 32 := Scalar.addi v3885 v3887
  let c15_i32 : BitVec 32 := 15#32
  let v4154 : BitVec 32 := Scalar.addi v4153 c15_i32
  let c0_i32_2363 : BitVec 32 := 0#32
  let v4156 : BitVec 1 := Scalar.cmpi .sgt v4154 c0_i32_2363
  let v4157 : BitVec 32 := Scalar.extui v4156
  let c0_i32_2364 : BitVec 32 := 0#32
  let v4158 : BitVec 1 := Scalar.cmpi .slt v4154 c0_i32_2364
  let v4159 : BitVec 32 := Scalar.extui v4158
  let v4160 : BitVec 32 := Scalar.subi v4157 v4159
  let c16_i32_2362 : BitVec 32 := 16#32
  let c0_i32_2365 : BitVec 32 := 0#32
  let v4161 : BitVec 1 := Scalar.cmpi .sgt c16_i32_2362 c0_i32_2365
  let v4162 : BitVec 32 := Scalar.extui v4161
  let c0_i32_2366 : BitVec 32 := 0#32
  let v4163 : BitVec 1 := Scalar.cmpi .slt c16_i32_2362 c0_i32_2366
  let v4164 : BitVec 32 := Scalar.extui v4163
  let v4165 : BitVec 32 := Scalar.subi v4162 v4164
  let v4166 : BitVec 1 := Scalar.cmpi .ne v4160 v4165
  let v4167 : BitVec 32 := Scalar.remsi v4154 c16_i32_2362
  let c0_i32_2367 : BitVec 32 := 0#32
  let v4168 : BitVec 1 := Scalar.cmpi .ne v4167 c0_i32_2367
  let v4169 : BitVec 1 := Scalar.andi v4166 v4168
  let v4155 : BitVec 32 := Scalar.divsi v4154 c16_i32_2362
  let c1_i32_2368 : BitVec 32 := 1#32
  let v4170 : BitVec 32 := Scalar.subi v4155 c1_i32_2368
  let v4171 : BitVec 32 := Scalar.select v4169 v4170 v4155
  let v4172 : BitVec 32 := Scalar.subi v4171 v4152
  let c1_i32_2370 : BitVec 32 := 1#32
  let v4174 : BitVec 32 := Scalar.divsi v4172 c1_i32_2370
  let v4175 : BitVec 32 := Scalar.muli v4174 c1_i32_2370
  let v4176 : BitVec 32 := Scalar.addi v4152 v4175
  let c1_i32_2372 : BitVec 32 := 1#32
  let arg18 : BitVec 32 := Scf.iv v4176 c1_i32_2372 k0_t4
  let c16_i32_2373 : BitVec 32 := 16#32
  let v4177 : BitVec 32 := Scalar.muli arg18 c16_i32_2373
  let v4178 : BitVec 32 := v4177
  let v4498 : Index := Scalar.indexCast v4178
  let c3584_2487 : Index := 3584#32
  ![v4498.toNat, 3584]
def k0_off465 (i : grid0.Coords) (v3863 : BitVec 32) (v3867 : BitVec 32) (v3871 : BitVec 32) (v3875 : BitVec 32) (v3879 : BitVec 32) (v3883 : BitVec 32) (v3887 : BitVec 32) (k0_t4 : Fin (k0_t4_loop i v3863 v3867 v3871 v3875 v3879 v3883 v3887).trips) : Fin 3 → Nat :=
  let c28_2488 : Index := 28#32
  let c16_i32_2374 : BitVec 32 := 16#32
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let v4153 : BitVec 32 := Scalar.addi v3885 v3887
  let c15_i32 : BitVec 32 := 15#32
  let v4154 : BitVec 32 := Scalar.addi v4153 c15_i32
  let c0_i32_2363 : BitVec 32 := 0#32
  let v4156 : BitVec 1 := Scalar.cmpi .sgt v4154 c0_i32_2363
  let v4157 : BitVec 32 := Scalar.extui v4156
  let c0_i32_2364 : BitVec 32 := 0#32
  let v4158 : BitVec 1 := Scalar.cmpi .slt v4154 c0_i32_2364
  let v4159 : BitVec 32 := Scalar.extui v4158
  let v4160 : BitVec 32 := Scalar.subi v4157 v4159
  let c16_i32_2362 : BitVec 32 := 16#32
  let c0_i32_2365 : BitVec 32 := 0#32
  let v4161 : BitVec 1 := Scalar.cmpi .sgt c16_i32_2362 c0_i32_2365
  let v4162 : BitVec 32 := Scalar.extui v4161
  let c0_i32_2366 : BitVec 32 := 0#32
  let v4163 : BitVec 1 := Scalar.cmpi .slt c16_i32_2362 c0_i32_2366
  let v4164 : BitVec 32 := Scalar.extui v4163
  let v4165 : BitVec 32 := Scalar.subi v4162 v4164
  let v4166 : BitVec 1 := Scalar.cmpi .ne v4160 v4165
  let v4167 : BitVec 32 := Scalar.remsi v4154 c16_i32_2362
  let c0_i32_2367 : BitVec 32 := 0#32
  let v4168 : BitVec 1 := Scalar.cmpi .ne v4167 c0_i32_2367
  let v4169 : BitVec 1 := Scalar.andi v4166 v4168
  let v4155 : BitVec 32 := Scalar.divsi v4154 c16_i32_2362
  let c1_i32_2368 : BitVec 32 := 1#32
  let v4170 : BitVec 32 := Scalar.subi v4155 c1_i32_2368
  let v4171 : BitVec 32 := Scalar.select v4169 v4170 v4155
  let v4172 : BitVec 32 := Scalar.subi v4171 v4152
  let c1_i32_2370 : BitVec 32 := 1#32
  let v4174 : BitVec 32 := Scalar.divsi v4172 c1_i32_2370
  let v4175 : BitVec 32 := Scalar.muli v4174 c1_i32_2370
  let v4176 : BitVec 32 := Scalar.addi v4152 v4175
  let c1_i32_2372 : BitVec 32 := 1#32
  let arg18 : BitVec 32 := Scf.iv v4176 c1_i32_2372 k0_t4
  let c16_i32_2373 : BitVec 32 := 16#32
  let v4177 : BitVec 32 := Scalar.muli arg18 c16_i32_2373
  let v4178 : BitVec 32 := v4177
  let v4179 : BitVec 32 := Scalar.addi c16_i32_2374 v4178
  let v4180 : BitVec 32 := Scalar.subi v4179 v3885
  let v4502 : Index := Scalar.indexCast v4180
  let c0_2489 : Index := 0#32
  ![28, v4502.toNat, 0]
def k0_off466 (i : grid0.Coords) (v3863 : BitVec 32) (v3867 : BitVec 32) (v3871 : BitVec 32) (v3875 : BitVec 32) (v3879 : BitVec 32) (v3883 : BitVec 32) (v3887 : BitVec 32) (k0_t4 : Fin (k0_t4_loop i v3863 v3867 v3871 v3875 v3879 v3883 v3887).trips) : Fin 2 → Nat :=
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let v4153 : BitVec 32 := Scalar.addi v3885 v3887
  let c15_i32 : BitVec 32 := 15#32
  let v4154 : BitVec 32 := Scalar.addi v4153 c15_i32
  let c0_i32_2363 : BitVec 32 := 0#32
  let v4156 : BitVec 1 := Scalar.cmpi .sgt v4154 c0_i32_2363
  let v4157 : BitVec 32 := Scalar.extui v4156
  let c0_i32_2364 : BitVec 32 := 0#32
  let v4158 : BitVec 1 := Scalar.cmpi .slt v4154 c0_i32_2364
  let v4159 : BitVec 32 := Scalar.extui v4158
  let v4160 : BitVec 32 := Scalar.subi v4157 v4159
  let c16_i32_2362 : BitVec 32 := 16#32
  let c0_i32_2365 : BitVec 32 := 0#32
  let v4161 : BitVec 1 := Scalar.cmpi .sgt c16_i32_2362 c0_i32_2365
  let v4162 : BitVec 32 := Scalar.extui v4161
  let c0_i32_2366 : BitVec 32 := 0#32
  let v4163 : BitVec 1 := Scalar.cmpi .slt c16_i32_2362 c0_i32_2366
  let v4164 : BitVec 32 := Scalar.extui v4163
  let v4165 : BitVec 32 := Scalar.subi v4162 v4164
  let v4166 : BitVec 1 := Scalar.cmpi .ne v4160 v4165
  let v4167 : BitVec 32 := Scalar.remsi v4154 c16_i32_2362
  let c0_i32_2367 : BitVec 32 := 0#32
  let v4168 : BitVec 1 := Scalar.cmpi .ne v4167 c0_i32_2367
  let v4169 : BitVec 1 := Scalar.andi v4166 v4168
  let v4155 : BitVec 32 := Scalar.divsi v4154 c16_i32_2362
  let c1_i32_2368 : BitVec 32 := 1#32
  let v4170 : BitVec 32 := Scalar.subi v4155 c1_i32_2368
  let v4171 : BitVec 32 := Scalar.select v4169 v4170 v4155
  let v4172 : BitVec 32 := Scalar.subi v4171 v4152
  let c1_i32_2370 : BitVec 32 := 1#32
  let v4174 : BitVec 32 := Scalar.divsi v4172 c1_i32_2370
  let v4175 : BitVec 32 := Scalar.muli v4174 c1_i32_2370
  let v4176 : BitVec 32 := Scalar.addi v4152 v4175
  let c1_i32_2372 : BitVec 32 := 1#32
  let arg18 : BitVec 32 := Scf.iv v4176 c1_i32_2372 k0_t4
  let c16_i32_2373 : BitVec 32 := 16#32
  let v4177 : BitVec 32 := Scalar.muli arg18 c16_i32_2373
  let v4178 : BitVec 32 := v4177
  let v4509 : Index := Scalar.indexCast v4178
  let c3712_2491 : Index := 3712#32
  ![v4509.toNat, 3712]
def k0_off467 (i : grid0.Coords) (v3863 : BitVec 32) (v3867 : BitVec 32) (v3871 : BitVec 32) (v3875 : BitVec 32) (v3879 : BitVec 32) (v3883 : BitVec 32) (v3887 : BitVec 32) (k0_t4 : Fin (k0_t4_loop i v3863 v3867 v3871 v3875 v3879 v3883 v3887).trips) : Fin 3 → Nat :=
  let c29_2492 : Index := 29#32
  let c16_i32_2374 : BitVec 32 := 16#32
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let v4153 : BitVec 32 := Scalar.addi v3885 v3887
  let c15_i32 : BitVec 32 := 15#32
  let v4154 : BitVec 32 := Scalar.addi v4153 c15_i32
  let c0_i32_2363 : BitVec 32 := 0#32
  let v4156 : BitVec 1 := Scalar.cmpi .sgt v4154 c0_i32_2363
  let v4157 : BitVec 32 := Scalar.extui v4156
  let c0_i32_2364 : BitVec 32 := 0#32
  let v4158 : BitVec 1 := Scalar.cmpi .slt v4154 c0_i32_2364
  let v4159 : BitVec 32 := Scalar.extui v4158
  let v4160 : BitVec 32 := Scalar.subi v4157 v4159
  let c16_i32_2362 : BitVec 32 := 16#32
  let c0_i32_2365 : BitVec 32 := 0#32
  let v4161 : BitVec 1 := Scalar.cmpi .sgt c16_i32_2362 c0_i32_2365
  let v4162 : BitVec 32 := Scalar.extui v4161
  let c0_i32_2366 : BitVec 32 := 0#32
  let v4163 : BitVec 1 := Scalar.cmpi .slt c16_i32_2362 c0_i32_2366
  let v4164 : BitVec 32 := Scalar.extui v4163
  let v4165 : BitVec 32 := Scalar.subi v4162 v4164
  let v4166 : BitVec 1 := Scalar.cmpi .ne v4160 v4165
  let v4167 : BitVec 32 := Scalar.remsi v4154 c16_i32_2362
  let c0_i32_2367 : BitVec 32 := 0#32
  let v4168 : BitVec 1 := Scalar.cmpi .ne v4167 c0_i32_2367
  let v4169 : BitVec 1 := Scalar.andi v4166 v4168
  let v4155 : BitVec 32 := Scalar.divsi v4154 c16_i32_2362
  let c1_i32_2368 : BitVec 32 := 1#32
  let v4170 : BitVec 32 := Scalar.subi v4155 c1_i32_2368
  let v4171 : BitVec 32 := Scalar.select v4169 v4170 v4155
  let v4172 : BitVec 32 := Scalar.subi v4171 v4152
  let c1_i32_2370 : BitVec 32 := 1#32
  let v4174 : BitVec 32 := Scalar.divsi v4172 c1_i32_2370
  let v4175 : BitVec 32 := Scalar.muli v4174 c1_i32_2370
  let v4176 : BitVec 32 := Scalar.addi v4152 v4175
  let c1_i32_2372 : BitVec 32 := 1#32
  let arg18 : BitVec 32 := Scf.iv v4176 c1_i32_2372 k0_t4
  let c16_i32_2373 : BitVec 32 := 16#32
  let v4177 : BitVec 32 := Scalar.muli arg18 c16_i32_2373
  let v4178 : BitVec 32 := v4177
  let v4179 : BitVec 32 := Scalar.addi c16_i32_2374 v4178
  let v4180 : BitVec 32 := Scalar.subi v4179 v3885
  let v4513 : Index := Scalar.indexCast v4180
  let c0_2493 : Index := 0#32
  ![29, v4513.toNat, 0]
def k0_off468 (i : grid0.Coords) (v3863 : BitVec 32) (v3867 : BitVec 32) (v3871 : BitVec 32) (v3875 : BitVec 32) (v3879 : BitVec 32) (v3883 : BitVec 32) (v3887 : BitVec 32) (k0_t4 : Fin (k0_t4_loop i v3863 v3867 v3871 v3875 v3879 v3883 v3887).trips) : Fin 2 → Nat :=
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let v4153 : BitVec 32 := Scalar.addi v3885 v3887
  let c15_i32 : BitVec 32 := 15#32
  let v4154 : BitVec 32 := Scalar.addi v4153 c15_i32
  let c0_i32_2363 : BitVec 32 := 0#32
  let v4156 : BitVec 1 := Scalar.cmpi .sgt v4154 c0_i32_2363
  let v4157 : BitVec 32 := Scalar.extui v4156
  let c0_i32_2364 : BitVec 32 := 0#32
  let v4158 : BitVec 1 := Scalar.cmpi .slt v4154 c0_i32_2364
  let v4159 : BitVec 32 := Scalar.extui v4158
  let v4160 : BitVec 32 := Scalar.subi v4157 v4159
  let c16_i32_2362 : BitVec 32 := 16#32
  let c0_i32_2365 : BitVec 32 := 0#32
  let v4161 : BitVec 1 := Scalar.cmpi .sgt c16_i32_2362 c0_i32_2365
  let v4162 : BitVec 32 := Scalar.extui v4161
  let c0_i32_2366 : BitVec 32 := 0#32
  let v4163 : BitVec 1 := Scalar.cmpi .slt c16_i32_2362 c0_i32_2366
  let v4164 : BitVec 32 := Scalar.extui v4163
  let v4165 : BitVec 32 := Scalar.subi v4162 v4164
  let v4166 : BitVec 1 := Scalar.cmpi .ne v4160 v4165
  let v4167 : BitVec 32 := Scalar.remsi v4154 c16_i32_2362
  let c0_i32_2367 : BitVec 32 := 0#32
  let v4168 : BitVec 1 := Scalar.cmpi .ne v4167 c0_i32_2367
  let v4169 : BitVec 1 := Scalar.andi v4166 v4168
  let v4155 : BitVec 32 := Scalar.divsi v4154 c16_i32_2362
  let c1_i32_2368 : BitVec 32 := 1#32
  let v4170 : BitVec 32 := Scalar.subi v4155 c1_i32_2368
  let v4171 : BitVec 32 := Scalar.select v4169 v4170 v4155
  let v4172 : BitVec 32 := Scalar.subi v4171 v4152
  let c1_i32_2370 : BitVec 32 := 1#32
  let v4174 : BitVec 32 := Scalar.divsi v4172 c1_i32_2370
  let v4175 : BitVec 32 := Scalar.muli v4174 c1_i32_2370
  let v4176 : BitVec 32 := Scalar.addi v4152 v4175
  let c1_i32_2372 : BitVec 32 := 1#32
  let arg18 : BitVec 32 := Scf.iv v4176 c1_i32_2372 k0_t4
  let c16_i32_2373 : BitVec 32 := 16#32
  let v4177 : BitVec 32 := Scalar.muli arg18 c16_i32_2373
  let v4178 : BitVec 32 := v4177
  let v4520 : Index := Scalar.indexCast v4178
  let c3840_2495 : Index := 3840#32
  ![v4520.toNat, 3840]
def k0_off469 (i : grid0.Coords) (v3863 : BitVec 32) (v3867 : BitVec 32) (v3871 : BitVec 32) (v3875 : BitVec 32) (v3879 : BitVec 32) (v3883 : BitVec 32) (v3887 : BitVec 32) (k0_t4 : Fin (k0_t4_loop i v3863 v3867 v3871 v3875 v3879 v3883 v3887).trips) : Fin 3 → Nat :=
  let c30_2496 : Index := 30#32
  let c16_i32_2374 : BitVec 32 := 16#32
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let v4153 : BitVec 32 := Scalar.addi v3885 v3887
  let c15_i32 : BitVec 32 := 15#32
  let v4154 : BitVec 32 := Scalar.addi v4153 c15_i32
  let c0_i32_2363 : BitVec 32 := 0#32
  let v4156 : BitVec 1 := Scalar.cmpi .sgt v4154 c0_i32_2363
  let v4157 : BitVec 32 := Scalar.extui v4156
  let c0_i32_2364 : BitVec 32 := 0#32
  let v4158 : BitVec 1 := Scalar.cmpi .slt v4154 c0_i32_2364
  let v4159 : BitVec 32 := Scalar.extui v4158
  let v4160 : BitVec 32 := Scalar.subi v4157 v4159
  let c16_i32_2362 : BitVec 32 := 16#32
  let c0_i32_2365 : BitVec 32 := 0#32
  let v4161 : BitVec 1 := Scalar.cmpi .sgt c16_i32_2362 c0_i32_2365
  let v4162 : BitVec 32 := Scalar.extui v4161
  let c0_i32_2366 : BitVec 32 := 0#32
  let v4163 : BitVec 1 := Scalar.cmpi .slt c16_i32_2362 c0_i32_2366
  let v4164 : BitVec 32 := Scalar.extui v4163
  let v4165 : BitVec 32 := Scalar.subi v4162 v4164
  let v4166 : BitVec 1 := Scalar.cmpi .ne v4160 v4165
  let v4167 : BitVec 32 := Scalar.remsi v4154 c16_i32_2362
  let c0_i32_2367 : BitVec 32 := 0#32
  let v4168 : BitVec 1 := Scalar.cmpi .ne v4167 c0_i32_2367
  let v4169 : BitVec 1 := Scalar.andi v4166 v4168
  let v4155 : BitVec 32 := Scalar.divsi v4154 c16_i32_2362
  let c1_i32_2368 : BitVec 32 := 1#32
  let v4170 : BitVec 32 := Scalar.subi v4155 c1_i32_2368
  let v4171 : BitVec 32 := Scalar.select v4169 v4170 v4155
  let v4172 : BitVec 32 := Scalar.subi v4171 v4152
  let c1_i32_2370 : BitVec 32 := 1#32
  let v4174 : BitVec 32 := Scalar.divsi v4172 c1_i32_2370
  let v4175 : BitVec 32 := Scalar.muli v4174 c1_i32_2370
  let v4176 : BitVec 32 := Scalar.addi v4152 v4175
  let c1_i32_2372 : BitVec 32 := 1#32
  let arg18 : BitVec 32 := Scf.iv v4176 c1_i32_2372 k0_t4
  let c16_i32_2373 : BitVec 32 := 16#32
  let v4177 : BitVec 32 := Scalar.muli arg18 c16_i32_2373
  let v4178 : BitVec 32 := v4177
  let v4179 : BitVec 32 := Scalar.addi c16_i32_2374 v4178
  let v4180 : BitVec 32 := Scalar.subi v4179 v3885
  let v4524 : Index := Scalar.indexCast v4180
  let c0_2497 : Index := 0#32
  ![30, v4524.toNat, 0]
def k0_off470 (i : grid0.Coords) (v3863 : BitVec 32) (v3867 : BitVec 32) (v3871 : BitVec 32) (v3875 : BitVec 32) (v3879 : BitVec 32) (v3883 : BitVec 32) (v3887 : BitVec 32) (k0_t4 : Fin (k0_t4_loop i v3863 v3867 v3871 v3875 v3879 v3883 v3887).trips) : Fin 2 → Nat :=
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let v4153 : BitVec 32 := Scalar.addi v3885 v3887
  let c15_i32 : BitVec 32 := 15#32
  let v4154 : BitVec 32 := Scalar.addi v4153 c15_i32
  let c0_i32_2363 : BitVec 32 := 0#32
  let v4156 : BitVec 1 := Scalar.cmpi .sgt v4154 c0_i32_2363
  let v4157 : BitVec 32 := Scalar.extui v4156
  let c0_i32_2364 : BitVec 32 := 0#32
  let v4158 : BitVec 1 := Scalar.cmpi .slt v4154 c0_i32_2364
  let v4159 : BitVec 32 := Scalar.extui v4158
  let v4160 : BitVec 32 := Scalar.subi v4157 v4159
  let c16_i32_2362 : BitVec 32 := 16#32
  let c0_i32_2365 : BitVec 32 := 0#32
  let v4161 : BitVec 1 := Scalar.cmpi .sgt c16_i32_2362 c0_i32_2365
  let v4162 : BitVec 32 := Scalar.extui v4161
  let c0_i32_2366 : BitVec 32 := 0#32
  let v4163 : BitVec 1 := Scalar.cmpi .slt c16_i32_2362 c0_i32_2366
  let v4164 : BitVec 32 := Scalar.extui v4163
  let v4165 : BitVec 32 := Scalar.subi v4162 v4164
  let v4166 : BitVec 1 := Scalar.cmpi .ne v4160 v4165
  let v4167 : BitVec 32 := Scalar.remsi v4154 c16_i32_2362
  let c0_i32_2367 : BitVec 32 := 0#32
  let v4168 : BitVec 1 := Scalar.cmpi .ne v4167 c0_i32_2367
  let v4169 : BitVec 1 := Scalar.andi v4166 v4168
  let v4155 : BitVec 32 := Scalar.divsi v4154 c16_i32_2362
  let c1_i32_2368 : BitVec 32 := 1#32
  let v4170 : BitVec 32 := Scalar.subi v4155 c1_i32_2368
  let v4171 : BitVec 32 := Scalar.select v4169 v4170 v4155
  let v4172 : BitVec 32 := Scalar.subi v4171 v4152
  let c1_i32_2370 : BitVec 32 := 1#32
  let v4174 : BitVec 32 := Scalar.divsi v4172 c1_i32_2370
  let v4175 : BitVec 32 := Scalar.muli v4174 c1_i32_2370
  let v4176 : BitVec 32 := Scalar.addi v4152 v4175
  let c1_i32_2372 : BitVec 32 := 1#32
  let arg18 : BitVec 32 := Scf.iv v4176 c1_i32_2372 k0_t4
  let c16_i32_2373 : BitVec 32 := 16#32
  let v4177 : BitVec 32 := Scalar.muli arg18 c16_i32_2373
  let v4178 : BitVec 32 := v4177
  let v4531 : Index := Scalar.indexCast v4178
  let c3968_2499 : Index := 3968#32
  ![v4531.toNat, 3968]
def k0_off471 (i : grid0.Coords) (v3863 : BitVec 32) (v3867 : BitVec 32) (v3871 : BitVec 32) (v3875 : BitVec 32) (v3879 : BitVec 32) (v3883 : BitVec 32) (v3887 : BitVec 32) (k0_t4 : Fin (k0_t4_loop i v3863 v3867 v3871 v3875 v3879 v3883 v3887).trips) : Fin 3 → Nat :=
  let c31_2500 : Index := 31#32
  let c16_i32_2374 : BitVec 32 := 16#32
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let v4153 : BitVec 32 := Scalar.addi v3885 v3887
  let c15_i32 : BitVec 32 := 15#32
  let v4154 : BitVec 32 := Scalar.addi v4153 c15_i32
  let c0_i32_2363 : BitVec 32 := 0#32
  let v4156 : BitVec 1 := Scalar.cmpi .sgt v4154 c0_i32_2363
  let v4157 : BitVec 32 := Scalar.extui v4156
  let c0_i32_2364 : BitVec 32 := 0#32
  let v4158 : BitVec 1 := Scalar.cmpi .slt v4154 c0_i32_2364
  let v4159 : BitVec 32 := Scalar.extui v4158
  let v4160 : BitVec 32 := Scalar.subi v4157 v4159
  let c16_i32_2362 : BitVec 32 := 16#32
  let c0_i32_2365 : BitVec 32 := 0#32
  let v4161 : BitVec 1 := Scalar.cmpi .sgt c16_i32_2362 c0_i32_2365
  let v4162 : BitVec 32 := Scalar.extui v4161
  let c0_i32_2366 : BitVec 32 := 0#32
  let v4163 : BitVec 1 := Scalar.cmpi .slt c16_i32_2362 c0_i32_2366
  let v4164 : BitVec 32 := Scalar.extui v4163
  let v4165 : BitVec 32 := Scalar.subi v4162 v4164
  let v4166 : BitVec 1 := Scalar.cmpi .ne v4160 v4165
  let v4167 : BitVec 32 := Scalar.remsi v4154 c16_i32_2362
  let c0_i32_2367 : BitVec 32 := 0#32
  let v4168 : BitVec 1 := Scalar.cmpi .ne v4167 c0_i32_2367
  let v4169 : BitVec 1 := Scalar.andi v4166 v4168
  let v4155 : BitVec 32 := Scalar.divsi v4154 c16_i32_2362
  let c1_i32_2368 : BitVec 32 := 1#32
  let v4170 : BitVec 32 := Scalar.subi v4155 c1_i32_2368
  let v4171 : BitVec 32 := Scalar.select v4169 v4170 v4155
  let v4172 : BitVec 32 := Scalar.subi v4171 v4152
  let c1_i32_2370 : BitVec 32 := 1#32
  let v4174 : BitVec 32 := Scalar.divsi v4172 c1_i32_2370
  let v4175 : BitVec 32 := Scalar.muli v4174 c1_i32_2370
  let v4176 : BitVec 32 := Scalar.addi v4152 v4175
  let c1_i32_2372 : BitVec 32 := 1#32
  let arg18 : BitVec 32 := Scf.iv v4176 c1_i32_2372 k0_t4
  let c16_i32_2373 : BitVec 32 := 16#32
  let v4177 : BitVec 32 := Scalar.muli arg18 c16_i32_2373
  let v4178 : BitVec 32 := v4177
  let v4179 : BitVec 32 := Scalar.addi c16_i32_2374 v4178
  let v4180 : BitVec 32 := Scalar.subi v4179 v3885
  let v4535 : Index := Scalar.indexCast v4180
  let c0_2501 : Index := 0#32
  ![31, v4535.toNat, 0]
def k0_off472 (i : grid0.Coords) (v3863 : BitVec 32) (v3867 : BitVec 32) (v3871 : BitVec 32) (v3875 : BitVec 32) (v3879 : BitVec 32) (v3883 : BitVec 32) (v3887 : BitVec 32) (k0_t4 : Fin (k0_t4_loop i v3863 v3867 v3871 v3875 v3879 v3883 v3887).trips) : Fin 2 → Nat :=
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let v4153 : BitVec 32 := Scalar.addi v3885 v3887
  let c15_i32 : BitVec 32 := 15#32
  let v4154 : BitVec 32 := Scalar.addi v4153 c15_i32
  let c0_i32_2363 : BitVec 32 := 0#32
  let v4156 : BitVec 1 := Scalar.cmpi .sgt v4154 c0_i32_2363
  let v4157 : BitVec 32 := Scalar.extui v4156
  let c0_i32_2364 : BitVec 32 := 0#32
  let v4158 : BitVec 1 := Scalar.cmpi .slt v4154 c0_i32_2364
  let v4159 : BitVec 32 := Scalar.extui v4158
  let v4160 : BitVec 32 := Scalar.subi v4157 v4159
  let c16_i32_2362 : BitVec 32 := 16#32
  let c0_i32_2365 : BitVec 32 := 0#32
  let v4161 : BitVec 1 := Scalar.cmpi .sgt c16_i32_2362 c0_i32_2365
  let v4162 : BitVec 32 := Scalar.extui v4161
  let c0_i32_2366 : BitVec 32 := 0#32
  let v4163 : BitVec 1 := Scalar.cmpi .slt c16_i32_2362 c0_i32_2366
  let v4164 : BitVec 32 := Scalar.extui v4163
  let v4165 : BitVec 32 := Scalar.subi v4162 v4164
  let v4166 : BitVec 1 := Scalar.cmpi .ne v4160 v4165
  let v4167 : BitVec 32 := Scalar.remsi v4154 c16_i32_2362
  let c0_i32_2367 : BitVec 32 := 0#32
  let v4168 : BitVec 1 := Scalar.cmpi .ne v4167 c0_i32_2367
  let v4169 : BitVec 1 := Scalar.andi v4166 v4168
  let v4155 : BitVec 32 := Scalar.divsi v4154 c16_i32_2362
  let c1_i32_2368 : BitVec 32 := 1#32
  let v4170 : BitVec 32 := Scalar.subi v4155 c1_i32_2368
  let v4171 : BitVec 32 := Scalar.select v4169 v4170 v4155
  let v4172 : BitVec 32 := Scalar.subi v4171 v4152
  let c1_i32_2370 : BitVec 32 := 1#32
  let v4174 : BitVec 32 := Scalar.divsi v4172 c1_i32_2370
  let v4175 : BitVec 32 := Scalar.muli v4174 c1_i32_2370
  let v4176 : BitVec 32 := Scalar.addi v4152 v4175
  let c1_i32_2372 : BitVec 32 := 1#32
  let arg18 : BitVec 32 := Scf.iv v4176 c1_i32_2372 k0_t4
  let c16_i32_2373 : BitVec 32 := 16#32
  let v4177 : BitVec 32 := Scalar.muli arg18 c16_i32_2373
  let v4178 : BitVec 32 := v4177
  let v4542 : Index := Scalar.indexCast v4178
  let c4096_2503 : Index := 4096#32
  ![v4542.toNat, 4096]
def k0_off473 (i : grid0.Coords) (v3863 : BitVec 32) (v3867 : BitVec 32) (v3871 : BitVec 32) (v3875 : BitVec 32) (v3879 : BitVec 32) (v3883 : BitVec 32) (v3887 : BitVec 32) (k0_t4 : Fin (k0_t4_loop i v3863 v3867 v3871 v3875 v3879 v3883 v3887).trips) : Fin 3 → Nat :=
  let c32_2504 : Index := 32#32
  let c16_i32_2374 : BitVec 32 := 16#32
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let v4153 : BitVec 32 := Scalar.addi v3885 v3887
  let c15_i32 : BitVec 32 := 15#32
  let v4154 : BitVec 32 := Scalar.addi v4153 c15_i32
  let c0_i32_2363 : BitVec 32 := 0#32
  let v4156 : BitVec 1 := Scalar.cmpi .sgt v4154 c0_i32_2363
  let v4157 : BitVec 32 := Scalar.extui v4156
  let c0_i32_2364 : BitVec 32 := 0#32
  let v4158 : BitVec 1 := Scalar.cmpi .slt v4154 c0_i32_2364
  let v4159 : BitVec 32 := Scalar.extui v4158
  let v4160 : BitVec 32 := Scalar.subi v4157 v4159
  let c16_i32_2362 : BitVec 32 := 16#32
  let c0_i32_2365 : BitVec 32 := 0#32
  let v4161 : BitVec 1 := Scalar.cmpi .sgt c16_i32_2362 c0_i32_2365
  let v4162 : BitVec 32 := Scalar.extui v4161
  let c0_i32_2366 : BitVec 32 := 0#32
  let v4163 : BitVec 1 := Scalar.cmpi .slt c16_i32_2362 c0_i32_2366
  let v4164 : BitVec 32 := Scalar.extui v4163
  let v4165 : BitVec 32 := Scalar.subi v4162 v4164
  let v4166 : BitVec 1 := Scalar.cmpi .ne v4160 v4165
  let v4167 : BitVec 32 := Scalar.remsi v4154 c16_i32_2362
  let c0_i32_2367 : BitVec 32 := 0#32
  let v4168 : BitVec 1 := Scalar.cmpi .ne v4167 c0_i32_2367
  let v4169 : BitVec 1 := Scalar.andi v4166 v4168
  let v4155 : BitVec 32 := Scalar.divsi v4154 c16_i32_2362
  let c1_i32_2368 : BitVec 32 := 1#32
  let v4170 : BitVec 32 := Scalar.subi v4155 c1_i32_2368
  let v4171 : BitVec 32 := Scalar.select v4169 v4170 v4155
  let v4172 : BitVec 32 := Scalar.subi v4171 v4152
  let c1_i32_2370 : BitVec 32 := 1#32
  let v4174 : BitVec 32 := Scalar.divsi v4172 c1_i32_2370
  let v4175 : BitVec 32 := Scalar.muli v4174 c1_i32_2370
  let v4176 : BitVec 32 := Scalar.addi v4152 v4175
  let c1_i32_2372 : BitVec 32 := 1#32
  let arg18 : BitVec 32 := Scf.iv v4176 c1_i32_2372 k0_t4
  let c16_i32_2373 : BitVec 32 := 16#32
  let v4177 : BitVec 32 := Scalar.muli arg18 c16_i32_2373
  let v4178 : BitVec 32 := v4177
  let v4179 : BitVec 32 := Scalar.addi c16_i32_2374 v4178
  let v4180 : BitVec 32 := Scalar.subi v4179 v3885
  let v4546 : Index := Scalar.indexCast v4180
  let c0_2505 : Index := 0#32
  ![32, v4546.toNat, 0]
def k0_off474 (i : grid0.Coords) (v3863 : BitVec 32) (v3867 : BitVec 32) (v3871 : BitVec 32) (v3875 : BitVec 32) (v3879 : BitVec 32) (v3883 : BitVec 32) (v3887 : BitVec 32) (k0_t4 : Fin (k0_t4_loop i v3863 v3867 v3871 v3875 v3879 v3883 v3887).trips) : Fin 2 → Nat :=
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let v4153 : BitVec 32 := Scalar.addi v3885 v3887
  let c15_i32 : BitVec 32 := 15#32
  let v4154 : BitVec 32 := Scalar.addi v4153 c15_i32
  let c0_i32_2363 : BitVec 32 := 0#32
  let v4156 : BitVec 1 := Scalar.cmpi .sgt v4154 c0_i32_2363
  let v4157 : BitVec 32 := Scalar.extui v4156
  let c0_i32_2364 : BitVec 32 := 0#32
  let v4158 : BitVec 1 := Scalar.cmpi .slt v4154 c0_i32_2364
  let v4159 : BitVec 32 := Scalar.extui v4158
  let v4160 : BitVec 32 := Scalar.subi v4157 v4159
  let c16_i32_2362 : BitVec 32 := 16#32
  let c0_i32_2365 : BitVec 32 := 0#32
  let v4161 : BitVec 1 := Scalar.cmpi .sgt c16_i32_2362 c0_i32_2365
  let v4162 : BitVec 32 := Scalar.extui v4161
  let c0_i32_2366 : BitVec 32 := 0#32
  let v4163 : BitVec 1 := Scalar.cmpi .slt c16_i32_2362 c0_i32_2366
  let v4164 : BitVec 32 := Scalar.extui v4163
  let v4165 : BitVec 32 := Scalar.subi v4162 v4164
  let v4166 : BitVec 1 := Scalar.cmpi .ne v4160 v4165
  let v4167 : BitVec 32 := Scalar.remsi v4154 c16_i32_2362
  let c0_i32_2367 : BitVec 32 := 0#32
  let v4168 : BitVec 1 := Scalar.cmpi .ne v4167 c0_i32_2367
  let v4169 : BitVec 1 := Scalar.andi v4166 v4168
  let v4155 : BitVec 32 := Scalar.divsi v4154 c16_i32_2362
  let c1_i32_2368 : BitVec 32 := 1#32
  let v4170 : BitVec 32 := Scalar.subi v4155 c1_i32_2368
  let v4171 : BitVec 32 := Scalar.select v4169 v4170 v4155
  let v4172 : BitVec 32 := Scalar.subi v4171 v4152
  let c1_i32_2370 : BitVec 32 := 1#32
  let v4174 : BitVec 32 := Scalar.divsi v4172 c1_i32_2370
  let v4175 : BitVec 32 := Scalar.muli v4174 c1_i32_2370
  let v4176 : BitVec 32 := Scalar.addi v4152 v4175
  let c1_i32_2372 : BitVec 32 := 1#32
  let arg18 : BitVec 32 := Scf.iv v4176 c1_i32_2372 k0_t4
  let c16_i32_2373 : BitVec 32 := 16#32
  let v4177 : BitVec 32 := Scalar.muli arg18 c16_i32_2373
  let v4178 : BitVec 32 := v4177
  let v4553 : Index := Scalar.indexCast v4178
  let c4224_2507 : Index := 4224#32
  ![v4553.toNat, 4224]
def k0_off475 (i : grid0.Coords) (v3863 : BitVec 32) (v3867 : BitVec 32) (v3871 : BitVec 32) (v3875 : BitVec 32) (v3879 : BitVec 32) (v3883 : BitVec 32) (v3887 : BitVec 32) (k0_t4 : Fin (k0_t4_loop i v3863 v3867 v3871 v3875 v3879 v3883 v3887).trips) : Fin 3 → Nat :=
  let c33_2508 : Index := 33#32
  let c16_i32_2374 : BitVec 32 := 16#32
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let v4153 : BitVec 32 := Scalar.addi v3885 v3887
  let c15_i32 : BitVec 32 := 15#32
  let v4154 : BitVec 32 := Scalar.addi v4153 c15_i32
  let c0_i32_2363 : BitVec 32 := 0#32
  let v4156 : BitVec 1 := Scalar.cmpi .sgt v4154 c0_i32_2363
  let v4157 : BitVec 32 := Scalar.extui v4156
  let c0_i32_2364 : BitVec 32 := 0#32
  let v4158 : BitVec 1 := Scalar.cmpi .slt v4154 c0_i32_2364
  let v4159 : BitVec 32 := Scalar.extui v4158
  let v4160 : BitVec 32 := Scalar.subi v4157 v4159
  let c16_i32_2362 : BitVec 32 := 16#32
  let c0_i32_2365 : BitVec 32 := 0#32
  let v4161 : BitVec 1 := Scalar.cmpi .sgt c16_i32_2362 c0_i32_2365
  let v4162 : BitVec 32 := Scalar.extui v4161
  let c0_i32_2366 : BitVec 32 := 0#32
  let v4163 : BitVec 1 := Scalar.cmpi .slt c16_i32_2362 c0_i32_2366
  let v4164 : BitVec 32 := Scalar.extui v4163
  let v4165 : BitVec 32 := Scalar.subi v4162 v4164
  let v4166 : BitVec 1 := Scalar.cmpi .ne v4160 v4165
  let v4167 : BitVec 32 := Scalar.remsi v4154 c16_i32_2362
  let c0_i32_2367 : BitVec 32 := 0#32
  let v4168 : BitVec 1 := Scalar.cmpi .ne v4167 c0_i32_2367
  let v4169 : BitVec 1 := Scalar.andi v4166 v4168
  let v4155 : BitVec 32 := Scalar.divsi v4154 c16_i32_2362
  let c1_i32_2368 : BitVec 32 := 1#32
  let v4170 : BitVec 32 := Scalar.subi v4155 c1_i32_2368
  let v4171 : BitVec 32 := Scalar.select v4169 v4170 v4155
  let v4172 : BitVec 32 := Scalar.subi v4171 v4152
  let c1_i32_2370 : BitVec 32 := 1#32
  let v4174 : BitVec 32 := Scalar.divsi v4172 c1_i32_2370
  let v4175 : BitVec 32 := Scalar.muli v4174 c1_i32_2370
  let v4176 : BitVec 32 := Scalar.addi v4152 v4175
  let c1_i32_2372 : BitVec 32 := 1#32
  let arg18 : BitVec 32 := Scf.iv v4176 c1_i32_2372 k0_t4
  let c16_i32_2373 : BitVec 32 := 16#32
  let v4177 : BitVec 32 := Scalar.muli arg18 c16_i32_2373
  let v4178 : BitVec 32 := v4177
  let v4179 : BitVec 32 := Scalar.addi c16_i32_2374 v4178
  let v4180 : BitVec 32 := Scalar.subi v4179 v3885
  let v4557 : Index := Scalar.indexCast v4180
  let c0_2509 : Index := 0#32
  ![33, v4557.toNat, 0]
def k0_off476 (i : grid0.Coords) (v3863 : BitVec 32) (v3867 : BitVec 32) (v3871 : BitVec 32) (v3875 : BitVec 32) (v3879 : BitVec 32) (v3883 : BitVec 32) (v3887 : BitVec 32) (k0_t4 : Fin (k0_t4_loop i v3863 v3867 v3871 v3875 v3879 v3883 v3887).trips) : Fin 2 → Nat :=
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let v4153 : BitVec 32 := Scalar.addi v3885 v3887
  let c15_i32 : BitVec 32 := 15#32
  let v4154 : BitVec 32 := Scalar.addi v4153 c15_i32
  let c0_i32_2363 : BitVec 32 := 0#32
  let v4156 : BitVec 1 := Scalar.cmpi .sgt v4154 c0_i32_2363
  let v4157 : BitVec 32 := Scalar.extui v4156
  let c0_i32_2364 : BitVec 32 := 0#32
  let v4158 : BitVec 1 := Scalar.cmpi .slt v4154 c0_i32_2364
  let v4159 : BitVec 32 := Scalar.extui v4158
  let v4160 : BitVec 32 := Scalar.subi v4157 v4159
  let c16_i32_2362 : BitVec 32 := 16#32
  let c0_i32_2365 : BitVec 32 := 0#32
  let v4161 : BitVec 1 := Scalar.cmpi .sgt c16_i32_2362 c0_i32_2365
  let v4162 : BitVec 32 := Scalar.extui v4161
  let c0_i32_2366 : BitVec 32 := 0#32
  let v4163 : BitVec 1 := Scalar.cmpi .slt c16_i32_2362 c0_i32_2366
  let v4164 : BitVec 32 := Scalar.extui v4163
  let v4165 : BitVec 32 := Scalar.subi v4162 v4164
  let v4166 : BitVec 1 := Scalar.cmpi .ne v4160 v4165
  let v4167 : BitVec 32 := Scalar.remsi v4154 c16_i32_2362
  let c0_i32_2367 : BitVec 32 := 0#32
  let v4168 : BitVec 1 := Scalar.cmpi .ne v4167 c0_i32_2367
  let v4169 : BitVec 1 := Scalar.andi v4166 v4168
  let v4155 : BitVec 32 := Scalar.divsi v4154 c16_i32_2362
  let c1_i32_2368 : BitVec 32 := 1#32
  let v4170 : BitVec 32 := Scalar.subi v4155 c1_i32_2368
  let v4171 : BitVec 32 := Scalar.select v4169 v4170 v4155
  let v4172 : BitVec 32 := Scalar.subi v4171 v4152
  let c1_i32_2370 : BitVec 32 := 1#32
  let v4174 : BitVec 32 := Scalar.divsi v4172 c1_i32_2370
  let v4175 : BitVec 32 := Scalar.muli v4174 c1_i32_2370
  let v4176 : BitVec 32 := Scalar.addi v4152 v4175
  let c1_i32_2372 : BitVec 32 := 1#32
  let arg18 : BitVec 32 := Scf.iv v4176 c1_i32_2372 k0_t4
  let c16_i32_2373 : BitVec 32 := 16#32
  let v4177 : BitVec 32 := Scalar.muli arg18 c16_i32_2373
  let v4178 : BitVec 32 := v4177
  let v4564 : Index := Scalar.indexCast v4178
  let c4352_2511 : Index := 4352#32
  ![v4564.toNat, 4352]
def k0_off477 (i : grid0.Coords) (v3863 : BitVec 32) (v3867 : BitVec 32) (v3871 : BitVec 32) (v3875 : BitVec 32) (v3879 : BitVec 32) (v3883 : BitVec 32) (v3887 : BitVec 32) (k0_t4 : Fin (k0_t4_loop i v3863 v3867 v3871 v3875 v3879 v3883 v3887).trips) : Fin 3 → Nat :=
  let c34_2512 : Index := 34#32
  let c16_i32_2374 : BitVec 32 := 16#32
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let v4153 : BitVec 32 := Scalar.addi v3885 v3887
  let c15_i32 : BitVec 32 := 15#32
  let v4154 : BitVec 32 := Scalar.addi v4153 c15_i32
  let c0_i32_2363 : BitVec 32 := 0#32
  let v4156 : BitVec 1 := Scalar.cmpi .sgt v4154 c0_i32_2363
  let v4157 : BitVec 32 := Scalar.extui v4156
  let c0_i32_2364 : BitVec 32 := 0#32
  let v4158 : BitVec 1 := Scalar.cmpi .slt v4154 c0_i32_2364
  let v4159 : BitVec 32 := Scalar.extui v4158
  let v4160 : BitVec 32 := Scalar.subi v4157 v4159
  let c16_i32_2362 : BitVec 32 := 16#32
  let c0_i32_2365 : BitVec 32 := 0#32
  let v4161 : BitVec 1 := Scalar.cmpi .sgt c16_i32_2362 c0_i32_2365
  let v4162 : BitVec 32 := Scalar.extui v4161
  let c0_i32_2366 : BitVec 32 := 0#32
  let v4163 : BitVec 1 := Scalar.cmpi .slt c16_i32_2362 c0_i32_2366
  let v4164 : BitVec 32 := Scalar.extui v4163
  let v4165 : BitVec 32 := Scalar.subi v4162 v4164
  let v4166 : BitVec 1 := Scalar.cmpi .ne v4160 v4165
  let v4167 : BitVec 32 := Scalar.remsi v4154 c16_i32_2362
  let c0_i32_2367 : BitVec 32 := 0#32
  let v4168 : BitVec 1 := Scalar.cmpi .ne v4167 c0_i32_2367
  let v4169 : BitVec 1 := Scalar.andi v4166 v4168
  let v4155 : BitVec 32 := Scalar.divsi v4154 c16_i32_2362
  let c1_i32_2368 : BitVec 32 := 1#32
  let v4170 : BitVec 32 := Scalar.subi v4155 c1_i32_2368
  let v4171 : BitVec 32 := Scalar.select v4169 v4170 v4155
  let v4172 : BitVec 32 := Scalar.subi v4171 v4152
  let c1_i32_2370 : BitVec 32 := 1#32
  let v4174 : BitVec 32 := Scalar.divsi v4172 c1_i32_2370
  let v4175 : BitVec 32 := Scalar.muli v4174 c1_i32_2370
  let v4176 : BitVec 32 := Scalar.addi v4152 v4175
  let c1_i32_2372 : BitVec 32 := 1#32
  let arg18 : BitVec 32 := Scf.iv v4176 c1_i32_2372 k0_t4
  let c16_i32_2373 : BitVec 32 := 16#32
  let v4177 : BitVec 32 := Scalar.muli arg18 c16_i32_2373
  let v4178 : BitVec 32 := v4177
  let v4179 : BitVec 32 := Scalar.addi c16_i32_2374 v4178
  let v4180 : BitVec 32 := Scalar.subi v4179 v3885
  let v4568 : Index := Scalar.indexCast v4180
  let c0_2513 : Index := 0#32
  ![34, v4568.toNat, 0]
def k0_off478 (i : grid0.Coords) (v3863 : BitVec 32) (v3867 : BitVec 32) (v3871 : BitVec 32) (v3875 : BitVec 32) (v3879 : BitVec 32) (v3883 : BitVec 32) (v3887 : BitVec 32) (k0_t4 : Fin (k0_t4_loop i v3863 v3867 v3871 v3875 v3879 v3883 v3887).trips) : Fin 2 → Nat :=
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let v4153 : BitVec 32 := Scalar.addi v3885 v3887
  let c15_i32 : BitVec 32 := 15#32
  let v4154 : BitVec 32 := Scalar.addi v4153 c15_i32
  let c0_i32_2363 : BitVec 32 := 0#32
  let v4156 : BitVec 1 := Scalar.cmpi .sgt v4154 c0_i32_2363
  let v4157 : BitVec 32 := Scalar.extui v4156
  let c0_i32_2364 : BitVec 32 := 0#32
  let v4158 : BitVec 1 := Scalar.cmpi .slt v4154 c0_i32_2364
  let v4159 : BitVec 32 := Scalar.extui v4158
  let v4160 : BitVec 32 := Scalar.subi v4157 v4159
  let c16_i32_2362 : BitVec 32 := 16#32
  let c0_i32_2365 : BitVec 32 := 0#32
  let v4161 : BitVec 1 := Scalar.cmpi .sgt c16_i32_2362 c0_i32_2365
  let v4162 : BitVec 32 := Scalar.extui v4161
  let c0_i32_2366 : BitVec 32 := 0#32
  let v4163 : BitVec 1 := Scalar.cmpi .slt c16_i32_2362 c0_i32_2366
  let v4164 : BitVec 32 := Scalar.extui v4163
  let v4165 : BitVec 32 := Scalar.subi v4162 v4164
  let v4166 : BitVec 1 := Scalar.cmpi .ne v4160 v4165
  let v4167 : BitVec 32 := Scalar.remsi v4154 c16_i32_2362
  let c0_i32_2367 : BitVec 32 := 0#32
  let v4168 : BitVec 1 := Scalar.cmpi .ne v4167 c0_i32_2367
  let v4169 : BitVec 1 := Scalar.andi v4166 v4168
  let v4155 : BitVec 32 := Scalar.divsi v4154 c16_i32_2362
  let c1_i32_2368 : BitVec 32 := 1#32
  let v4170 : BitVec 32 := Scalar.subi v4155 c1_i32_2368
  let v4171 : BitVec 32 := Scalar.select v4169 v4170 v4155
  let v4172 : BitVec 32 := Scalar.subi v4171 v4152
  let c1_i32_2370 : BitVec 32 := 1#32
  let v4174 : BitVec 32 := Scalar.divsi v4172 c1_i32_2370
  let v4175 : BitVec 32 := Scalar.muli v4174 c1_i32_2370
  let v4176 : BitVec 32 := Scalar.addi v4152 v4175
  let c1_i32_2372 : BitVec 32 := 1#32
  let arg18 : BitVec 32 := Scf.iv v4176 c1_i32_2372 k0_t4
  let c16_i32_2373 : BitVec 32 := 16#32
  let v4177 : BitVec 32 := Scalar.muli arg18 c16_i32_2373
  let v4178 : BitVec 32 := v4177
  let v4575 : Index := Scalar.indexCast v4178
  let c4480_2515 : Index := 4480#32
  ![v4575.toNat, 4480]
def k0_off479 (i : grid0.Coords) (v3863 : BitVec 32) (v3867 : BitVec 32) (v3871 : BitVec 32) (v3875 : BitVec 32) (v3879 : BitVec 32) (v3883 : BitVec 32) (v3887 : BitVec 32) (k0_t4 : Fin (k0_t4_loop i v3863 v3867 v3871 v3875 v3879 v3883 v3887).trips) : Fin 3 → Nat :=
  let c35_2516 : Index := 35#32
  let c16_i32_2374 : BitVec 32 := 16#32
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let v4153 : BitVec 32 := Scalar.addi v3885 v3887
  let c15_i32 : BitVec 32 := 15#32
  let v4154 : BitVec 32 := Scalar.addi v4153 c15_i32
  let c0_i32_2363 : BitVec 32 := 0#32
  let v4156 : BitVec 1 := Scalar.cmpi .sgt v4154 c0_i32_2363
  let v4157 : BitVec 32 := Scalar.extui v4156
  let c0_i32_2364 : BitVec 32 := 0#32
  let v4158 : BitVec 1 := Scalar.cmpi .slt v4154 c0_i32_2364
  let v4159 : BitVec 32 := Scalar.extui v4158
  let v4160 : BitVec 32 := Scalar.subi v4157 v4159
  let c16_i32_2362 : BitVec 32 := 16#32
  let c0_i32_2365 : BitVec 32 := 0#32
  let v4161 : BitVec 1 := Scalar.cmpi .sgt c16_i32_2362 c0_i32_2365
  let v4162 : BitVec 32 := Scalar.extui v4161
  let c0_i32_2366 : BitVec 32 := 0#32
  let v4163 : BitVec 1 := Scalar.cmpi .slt c16_i32_2362 c0_i32_2366
  let v4164 : BitVec 32 := Scalar.extui v4163
  let v4165 : BitVec 32 := Scalar.subi v4162 v4164
  let v4166 : BitVec 1 := Scalar.cmpi .ne v4160 v4165
  let v4167 : BitVec 32 := Scalar.remsi v4154 c16_i32_2362
  let c0_i32_2367 : BitVec 32 := 0#32
  let v4168 : BitVec 1 := Scalar.cmpi .ne v4167 c0_i32_2367
  let v4169 : BitVec 1 := Scalar.andi v4166 v4168
  let v4155 : BitVec 32 := Scalar.divsi v4154 c16_i32_2362
  let c1_i32_2368 : BitVec 32 := 1#32
  let v4170 : BitVec 32 := Scalar.subi v4155 c1_i32_2368
  let v4171 : BitVec 32 := Scalar.select v4169 v4170 v4155
  let v4172 : BitVec 32 := Scalar.subi v4171 v4152
  let c1_i32_2370 : BitVec 32 := 1#32
  let v4174 : BitVec 32 := Scalar.divsi v4172 c1_i32_2370
  let v4175 : BitVec 32 := Scalar.muli v4174 c1_i32_2370
  let v4176 : BitVec 32 := Scalar.addi v4152 v4175
  let c1_i32_2372 : BitVec 32 := 1#32
  let arg18 : BitVec 32 := Scf.iv v4176 c1_i32_2372 k0_t4
  let c16_i32_2373 : BitVec 32 := 16#32
  let v4177 : BitVec 32 := Scalar.muli arg18 c16_i32_2373
  let v4178 : BitVec 32 := v4177
  let v4179 : BitVec 32 := Scalar.addi c16_i32_2374 v4178
  let v4180 : BitVec 32 := Scalar.subi v4179 v3885
  let v4579 : Index := Scalar.indexCast v4180
  let c0_2517 : Index := 0#32
  ![35, v4579.toNat, 0]
def k0_off480 (i : grid0.Coords) (v3863 : BitVec 32) (v3867 : BitVec 32) (v3871 : BitVec 32) (v3875 : BitVec 32) (v3879 : BitVec 32) (v3883 : BitVec 32) (v3887 : BitVec 32) (k0_t4 : Fin (k0_t4_loop i v3863 v3867 v3871 v3875 v3879 v3883 v3887).trips) : Fin 2 → Nat :=
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let v4153 : BitVec 32 := Scalar.addi v3885 v3887
  let c15_i32 : BitVec 32 := 15#32
  let v4154 : BitVec 32 := Scalar.addi v4153 c15_i32
  let c0_i32_2363 : BitVec 32 := 0#32
  let v4156 : BitVec 1 := Scalar.cmpi .sgt v4154 c0_i32_2363
  let v4157 : BitVec 32 := Scalar.extui v4156
  let c0_i32_2364 : BitVec 32 := 0#32
  let v4158 : BitVec 1 := Scalar.cmpi .slt v4154 c0_i32_2364
  let v4159 : BitVec 32 := Scalar.extui v4158
  let v4160 : BitVec 32 := Scalar.subi v4157 v4159
  let c16_i32_2362 : BitVec 32 := 16#32
  let c0_i32_2365 : BitVec 32 := 0#32
  let v4161 : BitVec 1 := Scalar.cmpi .sgt c16_i32_2362 c0_i32_2365
  let v4162 : BitVec 32 := Scalar.extui v4161
  let c0_i32_2366 : BitVec 32 := 0#32
  let v4163 : BitVec 1 := Scalar.cmpi .slt c16_i32_2362 c0_i32_2366
  let v4164 : BitVec 32 := Scalar.extui v4163
  let v4165 : BitVec 32 := Scalar.subi v4162 v4164
  let v4166 : BitVec 1 := Scalar.cmpi .ne v4160 v4165
  let v4167 : BitVec 32 := Scalar.remsi v4154 c16_i32_2362
  let c0_i32_2367 : BitVec 32 := 0#32
  let v4168 : BitVec 1 := Scalar.cmpi .ne v4167 c0_i32_2367
  let v4169 : BitVec 1 := Scalar.andi v4166 v4168
  let v4155 : BitVec 32 := Scalar.divsi v4154 c16_i32_2362
  let c1_i32_2368 : BitVec 32 := 1#32
  let v4170 : BitVec 32 := Scalar.subi v4155 c1_i32_2368
  let v4171 : BitVec 32 := Scalar.select v4169 v4170 v4155
  let v4172 : BitVec 32 := Scalar.subi v4171 v4152
  let c1_i32_2370 : BitVec 32 := 1#32
  let v4174 : BitVec 32 := Scalar.divsi v4172 c1_i32_2370
  let v4175 : BitVec 32 := Scalar.muli v4174 c1_i32_2370
  let v4176 : BitVec 32 := Scalar.addi v4152 v4175
  let c1_i32_2372 : BitVec 32 := 1#32
  let arg18 : BitVec 32 := Scf.iv v4176 c1_i32_2372 k0_t4
  let c16_i32_2373 : BitVec 32 := 16#32
  let v4177 : BitVec 32 := Scalar.muli arg18 c16_i32_2373
  let v4178 : BitVec 32 := v4177
  let v4586 : Index := Scalar.indexCast v4178
  let c4608_2519 : Index := 4608#32
  ![v4586.toNat, 4608]
def k0_off481 (i : grid0.Coords) (v3863 : BitVec 32) (v3867 : BitVec 32) (v3871 : BitVec 32) (v3875 : BitVec 32) (v3879 : BitVec 32) (v3883 : BitVec 32) (v3887 : BitVec 32) (k0_t4 : Fin (k0_t4_loop i v3863 v3867 v3871 v3875 v3879 v3883 v3887).trips) : Fin 3 → Nat :=
  let c36_2520 : Index := 36#32
  let c16_i32_2374 : BitVec 32 := 16#32
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let v4153 : BitVec 32 := Scalar.addi v3885 v3887
  let c15_i32 : BitVec 32 := 15#32
  let v4154 : BitVec 32 := Scalar.addi v4153 c15_i32
  let c0_i32_2363 : BitVec 32 := 0#32
  let v4156 : BitVec 1 := Scalar.cmpi .sgt v4154 c0_i32_2363
  let v4157 : BitVec 32 := Scalar.extui v4156
  let c0_i32_2364 : BitVec 32 := 0#32
  let v4158 : BitVec 1 := Scalar.cmpi .slt v4154 c0_i32_2364
  let v4159 : BitVec 32 := Scalar.extui v4158
  let v4160 : BitVec 32 := Scalar.subi v4157 v4159
  let c16_i32_2362 : BitVec 32 := 16#32
  let c0_i32_2365 : BitVec 32 := 0#32
  let v4161 : BitVec 1 := Scalar.cmpi .sgt c16_i32_2362 c0_i32_2365
  let v4162 : BitVec 32 := Scalar.extui v4161
  let c0_i32_2366 : BitVec 32 := 0#32
  let v4163 : BitVec 1 := Scalar.cmpi .slt c16_i32_2362 c0_i32_2366
  let v4164 : BitVec 32 := Scalar.extui v4163
  let v4165 : BitVec 32 := Scalar.subi v4162 v4164
  let v4166 : BitVec 1 := Scalar.cmpi .ne v4160 v4165
  let v4167 : BitVec 32 := Scalar.remsi v4154 c16_i32_2362
  let c0_i32_2367 : BitVec 32 := 0#32
  let v4168 : BitVec 1 := Scalar.cmpi .ne v4167 c0_i32_2367
  let v4169 : BitVec 1 := Scalar.andi v4166 v4168
  let v4155 : BitVec 32 := Scalar.divsi v4154 c16_i32_2362
  let c1_i32_2368 : BitVec 32 := 1#32
  let v4170 : BitVec 32 := Scalar.subi v4155 c1_i32_2368
  let v4171 : BitVec 32 := Scalar.select v4169 v4170 v4155
  let v4172 : BitVec 32 := Scalar.subi v4171 v4152
  let c1_i32_2370 : BitVec 32 := 1#32
  let v4174 : BitVec 32 := Scalar.divsi v4172 c1_i32_2370
  let v4175 : BitVec 32 := Scalar.muli v4174 c1_i32_2370
  let v4176 : BitVec 32 := Scalar.addi v4152 v4175
  let c1_i32_2372 : BitVec 32 := 1#32
  let arg18 : BitVec 32 := Scf.iv v4176 c1_i32_2372 k0_t4
  let c16_i32_2373 : BitVec 32 := 16#32
  let v4177 : BitVec 32 := Scalar.muli arg18 c16_i32_2373
  let v4178 : BitVec 32 := v4177
  let v4179 : BitVec 32 := Scalar.addi c16_i32_2374 v4178
  let v4180 : BitVec 32 := Scalar.subi v4179 v3885
  let v4590 : Index := Scalar.indexCast v4180
  let c0_2521 : Index := 0#32
  ![36, v4590.toNat, 0]
def k0_off482 (i : grid0.Coords) (v3863 : BitVec 32) (v3867 : BitVec 32) (v3871 : BitVec 32) (v3875 : BitVec 32) (v3879 : BitVec 32) (v3883 : BitVec 32) (v3887 : BitVec 32) (k0_t4 : Fin (k0_t4_loop i v3863 v3867 v3871 v3875 v3879 v3883 v3887).trips) : Fin 2 → Nat :=
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let v4153 : BitVec 32 := Scalar.addi v3885 v3887
  let c15_i32 : BitVec 32 := 15#32
  let v4154 : BitVec 32 := Scalar.addi v4153 c15_i32
  let c0_i32_2363 : BitVec 32 := 0#32
  let v4156 : BitVec 1 := Scalar.cmpi .sgt v4154 c0_i32_2363
  let v4157 : BitVec 32 := Scalar.extui v4156
  let c0_i32_2364 : BitVec 32 := 0#32
  let v4158 : BitVec 1 := Scalar.cmpi .slt v4154 c0_i32_2364
  let v4159 : BitVec 32 := Scalar.extui v4158
  let v4160 : BitVec 32 := Scalar.subi v4157 v4159
  let c16_i32_2362 : BitVec 32 := 16#32
  let c0_i32_2365 : BitVec 32 := 0#32
  let v4161 : BitVec 1 := Scalar.cmpi .sgt c16_i32_2362 c0_i32_2365
  let v4162 : BitVec 32 := Scalar.extui v4161
  let c0_i32_2366 : BitVec 32 := 0#32
  let v4163 : BitVec 1 := Scalar.cmpi .slt c16_i32_2362 c0_i32_2366
  let v4164 : BitVec 32 := Scalar.extui v4163
  let v4165 : BitVec 32 := Scalar.subi v4162 v4164
  let v4166 : BitVec 1 := Scalar.cmpi .ne v4160 v4165
  let v4167 : BitVec 32 := Scalar.remsi v4154 c16_i32_2362
  let c0_i32_2367 : BitVec 32 := 0#32
  let v4168 : BitVec 1 := Scalar.cmpi .ne v4167 c0_i32_2367
  let v4169 : BitVec 1 := Scalar.andi v4166 v4168
  let v4155 : BitVec 32 := Scalar.divsi v4154 c16_i32_2362
  let c1_i32_2368 : BitVec 32 := 1#32
  let v4170 : BitVec 32 := Scalar.subi v4155 c1_i32_2368
  let v4171 : BitVec 32 := Scalar.select v4169 v4170 v4155
  let v4172 : BitVec 32 := Scalar.subi v4171 v4152
  let c1_i32_2370 : BitVec 32 := 1#32
  let v4174 : BitVec 32 := Scalar.divsi v4172 c1_i32_2370
  let v4175 : BitVec 32 := Scalar.muli v4174 c1_i32_2370
  let v4176 : BitVec 32 := Scalar.addi v4152 v4175
  let c1_i32_2372 : BitVec 32 := 1#32
  let arg18 : BitVec 32 := Scf.iv v4176 c1_i32_2372 k0_t4
  let c16_i32_2373 : BitVec 32 := 16#32
  let v4177 : BitVec 32 := Scalar.muli arg18 c16_i32_2373
  let v4178 : BitVec 32 := v4177
  let v4597 : Index := Scalar.indexCast v4178
  let c4736_2523 : Index := 4736#32
  ![v4597.toNat, 4736]
def k0_off483 (i : grid0.Coords) (v3863 : BitVec 32) (v3867 : BitVec 32) (v3871 : BitVec 32) (v3875 : BitVec 32) (v3879 : BitVec 32) (v3883 : BitVec 32) (v3887 : BitVec 32) (k0_t4 : Fin (k0_t4_loop i v3863 v3867 v3871 v3875 v3879 v3883 v3887).trips) : Fin 3 → Nat :=
  let c37_2524 : Index := 37#32
  let c16_i32_2374 : BitVec 32 := 16#32
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let v4153 : BitVec 32 := Scalar.addi v3885 v3887
  let c15_i32 : BitVec 32 := 15#32
  let v4154 : BitVec 32 := Scalar.addi v4153 c15_i32
  let c0_i32_2363 : BitVec 32 := 0#32
  let v4156 : BitVec 1 := Scalar.cmpi .sgt v4154 c0_i32_2363
  let v4157 : BitVec 32 := Scalar.extui v4156
  let c0_i32_2364 : BitVec 32 := 0#32
  let v4158 : BitVec 1 := Scalar.cmpi .slt v4154 c0_i32_2364
  let v4159 : BitVec 32 := Scalar.extui v4158
  let v4160 : BitVec 32 := Scalar.subi v4157 v4159
  let c16_i32_2362 : BitVec 32 := 16#32
  let c0_i32_2365 : BitVec 32 := 0#32
  let v4161 : BitVec 1 := Scalar.cmpi .sgt c16_i32_2362 c0_i32_2365
  let v4162 : BitVec 32 := Scalar.extui v4161
  let c0_i32_2366 : BitVec 32 := 0#32
  let v4163 : BitVec 1 := Scalar.cmpi .slt c16_i32_2362 c0_i32_2366
  let v4164 : BitVec 32 := Scalar.extui v4163
  let v4165 : BitVec 32 := Scalar.subi v4162 v4164
  let v4166 : BitVec 1 := Scalar.cmpi .ne v4160 v4165
  let v4167 : BitVec 32 := Scalar.remsi v4154 c16_i32_2362
  let c0_i32_2367 : BitVec 32 := 0#32
  let v4168 : BitVec 1 := Scalar.cmpi .ne v4167 c0_i32_2367
  let v4169 : BitVec 1 := Scalar.andi v4166 v4168
  let v4155 : BitVec 32 := Scalar.divsi v4154 c16_i32_2362
  let c1_i32_2368 : BitVec 32 := 1#32
  let v4170 : BitVec 32 := Scalar.subi v4155 c1_i32_2368
  let v4171 : BitVec 32 := Scalar.select v4169 v4170 v4155
  let v4172 : BitVec 32 := Scalar.subi v4171 v4152
  let c1_i32_2370 : BitVec 32 := 1#32
  let v4174 : BitVec 32 := Scalar.divsi v4172 c1_i32_2370
  let v4175 : BitVec 32 := Scalar.muli v4174 c1_i32_2370
  let v4176 : BitVec 32 := Scalar.addi v4152 v4175
  let c1_i32_2372 : BitVec 32 := 1#32
  let arg18 : BitVec 32 := Scf.iv v4176 c1_i32_2372 k0_t4
  let c16_i32_2373 : BitVec 32 := 16#32
  let v4177 : BitVec 32 := Scalar.muli arg18 c16_i32_2373
  let v4178 : BitVec 32 := v4177
  let v4179 : BitVec 32 := Scalar.addi c16_i32_2374 v4178
  let v4180 : BitVec 32 := Scalar.subi v4179 v3885
  let v4601 : Index := Scalar.indexCast v4180
  let c0_2525 : Index := 0#32
  ![37, v4601.toNat, 0]
def k0_off484 (i : grid0.Coords) (v3863 : BitVec 32) (v3867 : BitVec 32) (v3871 : BitVec 32) (v3875 : BitVec 32) (v3879 : BitVec 32) (v3883 : BitVec 32) (v3887 : BitVec 32) (k0_t4 : Fin (k0_t4_loop i v3863 v3867 v3871 v3875 v3879 v3883 v3887).trips) : Fin 2 → Nat :=
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let v4153 : BitVec 32 := Scalar.addi v3885 v3887
  let c15_i32 : BitVec 32 := 15#32
  let v4154 : BitVec 32 := Scalar.addi v4153 c15_i32
  let c0_i32_2363 : BitVec 32 := 0#32
  let v4156 : BitVec 1 := Scalar.cmpi .sgt v4154 c0_i32_2363
  let v4157 : BitVec 32 := Scalar.extui v4156
  let c0_i32_2364 : BitVec 32 := 0#32
  let v4158 : BitVec 1 := Scalar.cmpi .slt v4154 c0_i32_2364
  let v4159 : BitVec 32 := Scalar.extui v4158
  let v4160 : BitVec 32 := Scalar.subi v4157 v4159
  let c16_i32_2362 : BitVec 32 := 16#32
  let c0_i32_2365 : BitVec 32 := 0#32
  let v4161 : BitVec 1 := Scalar.cmpi .sgt c16_i32_2362 c0_i32_2365
  let v4162 : BitVec 32 := Scalar.extui v4161
  let c0_i32_2366 : BitVec 32 := 0#32
  let v4163 : BitVec 1 := Scalar.cmpi .slt c16_i32_2362 c0_i32_2366
  let v4164 : BitVec 32 := Scalar.extui v4163
  let v4165 : BitVec 32 := Scalar.subi v4162 v4164
  let v4166 : BitVec 1 := Scalar.cmpi .ne v4160 v4165
  let v4167 : BitVec 32 := Scalar.remsi v4154 c16_i32_2362
  let c0_i32_2367 : BitVec 32 := 0#32
  let v4168 : BitVec 1 := Scalar.cmpi .ne v4167 c0_i32_2367
  let v4169 : BitVec 1 := Scalar.andi v4166 v4168
  let v4155 : BitVec 32 := Scalar.divsi v4154 c16_i32_2362
  let c1_i32_2368 : BitVec 32 := 1#32
  let v4170 : BitVec 32 := Scalar.subi v4155 c1_i32_2368
  let v4171 : BitVec 32 := Scalar.select v4169 v4170 v4155
  let v4172 : BitVec 32 := Scalar.subi v4171 v4152
  let c1_i32_2370 : BitVec 32 := 1#32
  let v4174 : BitVec 32 := Scalar.divsi v4172 c1_i32_2370
  let v4175 : BitVec 32 := Scalar.muli v4174 c1_i32_2370
  let v4176 : BitVec 32 := Scalar.addi v4152 v4175
  let c1_i32_2372 : BitVec 32 := 1#32
  let arg18 : BitVec 32 := Scf.iv v4176 c1_i32_2372 k0_t4
  let c16_i32_2373 : BitVec 32 := 16#32
  let v4177 : BitVec 32 := Scalar.muli arg18 c16_i32_2373
  let v4178 : BitVec 32 := v4177
  let v4608 : Index := Scalar.indexCast v4178
  let c4864_2527 : Index := 4864#32
  ![v4608.toNat, 4864]
def k0_off485 (i : grid0.Coords) (v3863 : BitVec 32) (v3867 : BitVec 32) (v3871 : BitVec 32) (v3875 : BitVec 32) (v3879 : BitVec 32) (v3883 : BitVec 32) (v3887 : BitVec 32) (k0_t4 : Fin (k0_t4_loop i v3863 v3867 v3871 v3875 v3879 v3883 v3887).trips) : Fin 3 → Nat :=
  let c38_2528 : Index := 38#32
  let c16_i32_2374 : BitVec 32 := 16#32
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let v4153 : BitVec 32 := Scalar.addi v3885 v3887
  let c15_i32 : BitVec 32 := 15#32
  let v4154 : BitVec 32 := Scalar.addi v4153 c15_i32
  let c0_i32_2363 : BitVec 32 := 0#32
  let v4156 : BitVec 1 := Scalar.cmpi .sgt v4154 c0_i32_2363
  let v4157 : BitVec 32 := Scalar.extui v4156
  let c0_i32_2364 : BitVec 32 := 0#32
  let v4158 : BitVec 1 := Scalar.cmpi .slt v4154 c0_i32_2364
  let v4159 : BitVec 32 := Scalar.extui v4158
  let v4160 : BitVec 32 := Scalar.subi v4157 v4159
  let c16_i32_2362 : BitVec 32 := 16#32
  let c0_i32_2365 : BitVec 32 := 0#32
  let v4161 : BitVec 1 := Scalar.cmpi .sgt c16_i32_2362 c0_i32_2365
  let v4162 : BitVec 32 := Scalar.extui v4161
  let c0_i32_2366 : BitVec 32 := 0#32
  let v4163 : BitVec 1 := Scalar.cmpi .slt c16_i32_2362 c0_i32_2366
  let v4164 : BitVec 32 := Scalar.extui v4163
  let v4165 : BitVec 32 := Scalar.subi v4162 v4164
  let v4166 : BitVec 1 := Scalar.cmpi .ne v4160 v4165
  let v4167 : BitVec 32 := Scalar.remsi v4154 c16_i32_2362
  let c0_i32_2367 : BitVec 32 := 0#32
  let v4168 : BitVec 1 := Scalar.cmpi .ne v4167 c0_i32_2367
  let v4169 : BitVec 1 := Scalar.andi v4166 v4168
  let v4155 : BitVec 32 := Scalar.divsi v4154 c16_i32_2362
  let c1_i32_2368 : BitVec 32 := 1#32
  let v4170 : BitVec 32 := Scalar.subi v4155 c1_i32_2368
  let v4171 : BitVec 32 := Scalar.select v4169 v4170 v4155
  let v4172 : BitVec 32 := Scalar.subi v4171 v4152
  let c1_i32_2370 : BitVec 32 := 1#32
  let v4174 : BitVec 32 := Scalar.divsi v4172 c1_i32_2370
  let v4175 : BitVec 32 := Scalar.muli v4174 c1_i32_2370
  let v4176 : BitVec 32 := Scalar.addi v4152 v4175
  let c1_i32_2372 : BitVec 32 := 1#32
  let arg18 : BitVec 32 := Scf.iv v4176 c1_i32_2372 k0_t4
  let c16_i32_2373 : BitVec 32 := 16#32
  let v4177 : BitVec 32 := Scalar.muli arg18 c16_i32_2373
  let v4178 : BitVec 32 := v4177
  let v4179 : BitVec 32 := Scalar.addi c16_i32_2374 v4178
  let v4180 : BitVec 32 := Scalar.subi v4179 v3885
  let v4612 : Index := Scalar.indexCast v4180
  let c0_2529 : Index := 0#32
  ![38, v4612.toNat, 0]
def k0_off486 (i : grid0.Coords) (v3863 : BitVec 32) (v3867 : BitVec 32) (v3871 : BitVec 32) (v3875 : BitVec 32) (v3879 : BitVec 32) (v3883 : BitVec 32) (v3887 : BitVec 32) (k0_t4 : Fin (k0_t4_loop i v3863 v3867 v3871 v3875 v3879 v3883 v3887).trips) : Fin 2 → Nat :=
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let v4153 : BitVec 32 := Scalar.addi v3885 v3887
  let c15_i32 : BitVec 32 := 15#32
  let v4154 : BitVec 32 := Scalar.addi v4153 c15_i32
  let c0_i32_2363 : BitVec 32 := 0#32
  let v4156 : BitVec 1 := Scalar.cmpi .sgt v4154 c0_i32_2363
  let v4157 : BitVec 32 := Scalar.extui v4156
  let c0_i32_2364 : BitVec 32 := 0#32
  let v4158 : BitVec 1 := Scalar.cmpi .slt v4154 c0_i32_2364
  let v4159 : BitVec 32 := Scalar.extui v4158
  let v4160 : BitVec 32 := Scalar.subi v4157 v4159
  let c16_i32_2362 : BitVec 32 := 16#32
  let c0_i32_2365 : BitVec 32 := 0#32
  let v4161 : BitVec 1 := Scalar.cmpi .sgt c16_i32_2362 c0_i32_2365
  let v4162 : BitVec 32 := Scalar.extui v4161
  let c0_i32_2366 : BitVec 32 := 0#32
  let v4163 : BitVec 1 := Scalar.cmpi .slt c16_i32_2362 c0_i32_2366
  let v4164 : BitVec 32 := Scalar.extui v4163
  let v4165 : BitVec 32 := Scalar.subi v4162 v4164
  let v4166 : BitVec 1 := Scalar.cmpi .ne v4160 v4165
  let v4167 : BitVec 32 := Scalar.remsi v4154 c16_i32_2362
  let c0_i32_2367 : BitVec 32 := 0#32
  let v4168 : BitVec 1 := Scalar.cmpi .ne v4167 c0_i32_2367
  let v4169 : BitVec 1 := Scalar.andi v4166 v4168
  let v4155 : BitVec 32 := Scalar.divsi v4154 c16_i32_2362
  let c1_i32_2368 : BitVec 32 := 1#32
  let v4170 : BitVec 32 := Scalar.subi v4155 c1_i32_2368
  let v4171 : BitVec 32 := Scalar.select v4169 v4170 v4155
  let v4172 : BitVec 32 := Scalar.subi v4171 v4152
  let c1_i32_2370 : BitVec 32 := 1#32
  let v4174 : BitVec 32 := Scalar.divsi v4172 c1_i32_2370
  let v4175 : BitVec 32 := Scalar.muli v4174 c1_i32_2370
  let v4176 : BitVec 32 := Scalar.addi v4152 v4175
  let c1_i32_2372 : BitVec 32 := 1#32
  let arg18 : BitVec 32 := Scf.iv v4176 c1_i32_2372 k0_t4
  let c16_i32_2373 : BitVec 32 := 16#32
  let v4177 : BitVec 32 := Scalar.muli arg18 c16_i32_2373
  let v4178 : BitVec 32 := v4177
  let v4619 : Index := Scalar.indexCast v4178
  let c4992_2531 : Index := 4992#32
  ![v4619.toNat, 4992]
def k0_off487 (i : grid0.Coords) (v3863 : BitVec 32) (v3867 : BitVec 32) (v3871 : BitVec 32) (v3875 : BitVec 32) (v3879 : BitVec 32) (v3883 : BitVec 32) (v3887 : BitVec 32) (k0_t4 : Fin (k0_t4_loop i v3863 v3867 v3871 v3875 v3879 v3883 v3887).trips) : Fin 3 → Nat :=
  let c39_2532 : Index := 39#32
  let c16_i32_2374 : BitVec 32 := 16#32
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let v4153 : BitVec 32 := Scalar.addi v3885 v3887
  let c15_i32 : BitVec 32 := 15#32
  let v4154 : BitVec 32 := Scalar.addi v4153 c15_i32
  let c0_i32_2363 : BitVec 32 := 0#32
  let v4156 : BitVec 1 := Scalar.cmpi .sgt v4154 c0_i32_2363
  let v4157 : BitVec 32 := Scalar.extui v4156
  let c0_i32_2364 : BitVec 32 := 0#32
  let v4158 : BitVec 1 := Scalar.cmpi .slt v4154 c0_i32_2364
  let v4159 : BitVec 32 := Scalar.extui v4158
  let v4160 : BitVec 32 := Scalar.subi v4157 v4159
  let c16_i32_2362 : BitVec 32 := 16#32
  let c0_i32_2365 : BitVec 32 := 0#32
  let v4161 : BitVec 1 := Scalar.cmpi .sgt c16_i32_2362 c0_i32_2365
  let v4162 : BitVec 32 := Scalar.extui v4161
  let c0_i32_2366 : BitVec 32 := 0#32
  let v4163 : BitVec 1 := Scalar.cmpi .slt c16_i32_2362 c0_i32_2366
  let v4164 : BitVec 32 := Scalar.extui v4163
  let v4165 : BitVec 32 := Scalar.subi v4162 v4164
  let v4166 : BitVec 1 := Scalar.cmpi .ne v4160 v4165
  let v4167 : BitVec 32 := Scalar.remsi v4154 c16_i32_2362
  let c0_i32_2367 : BitVec 32 := 0#32
  let v4168 : BitVec 1 := Scalar.cmpi .ne v4167 c0_i32_2367
  let v4169 : BitVec 1 := Scalar.andi v4166 v4168
  let v4155 : BitVec 32 := Scalar.divsi v4154 c16_i32_2362
  let c1_i32_2368 : BitVec 32 := 1#32
  let v4170 : BitVec 32 := Scalar.subi v4155 c1_i32_2368
  let v4171 : BitVec 32 := Scalar.select v4169 v4170 v4155
  let v4172 : BitVec 32 := Scalar.subi v4171 v4152
  let c1_i32_2370 : BitVec 32 := 1#32
  let v4174 : BitVec 32 := Scalar.divsi v4172 c1_i32_2370
  let v4175 : BitVec 32 := Scalar.muli v4174 c1_i32_2370
  let v4176 : BitVec 32 := Scalar.addi v4152 v4175
  let c1_i32_2372 : BitVec 32 := 1#32
  let arg18 : BitVec 32 := Scf.iv v4176 c1_i32_2372 k0_t4
  let c16_i32_2373 : BitVec 32 := 16#32
  let v4177 : BitVec 32 := Scalar.muli arg18 c16_i32_2373
  let v4178 : BitVec 32 := v4177
  let v4179 : BitVec 32 := Scalar.addi c16_i32_2374 v4178
  let v4180 : BitVec 32 := Scalar.subi v4179 v3885
  let v4623 : Index := Scalar.indexCast v4180
  let c0_2533 : Index := 0#32
  ![39, v4623.toNat, 0]
def k0_off488 (i : grid0.Coords) (v3863 : BitVec 32) (v3867 : BitVec 32) (v3871 : BitVec 32) (v3875 : BitVec 32) (v3879 : BitVec 32) (v3883 : BitVec 32) (v3887 : BitVec 32) (k0_t4 : Fin (k0_t4_loop i v3863 v3867 v3871 v3875 v3879 v3883 v3887).trips) : Fin 3 → Nat :=
  let c40_2535 : Index := 40#32
  let c16_i32_2374 : BitVec 32 := 16#32
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let v4153 : BitVec 32 := Scalar.addi v3885 v3887
  let c15_i32 : BitVec 32 := 15#32
  let v4154 : BitVec 32 := Scalar.addi v4153 c15_i32
  let c0_i32_2363 : BitVec 32 := 0#32
  let v4156 : BitVec 1 := Scalar.cmpi .sgt v4154 c0_i32_2363
  let v4157 : BitVec 32 := Scalar.extui v4156
  let c0_i32_2364 : BitVec 32 := 0#32
  let v4158 : BitVec 1 := Scalar.cmpi .slt v4154 c0_i32_2364
  let v4159 : BitVec 32 := Scalar.extui v4158
  let v4160 : BitVec 32 := Scalar.subi v4157 v4159
  let c16_i32_2362 : BitVec 32 := 16#32
  let c0_i32_2365 : BitVec 32 := 0#32
  let v4161 : BitVec 1 := Scalar.cmpi .sgt c16_i32_2362 c0_i32_2365
  let v4162 : BitVec 32 := Scalar.extui v4161
  let c0_i32_2366 : BitVec 32 := 0#32
  let v4163 : BitVec 1 := Scalar.cmpi .slt c16_i32_2362 c0_i32_2366
  let v4164 : BitVec 32 := Scalar.extui v4163
  let v4165 : BitVec 32 := Scalar.subi v4162 v4164
  let v4166 : BitVec 1 := Scalar.cmpi .ne v4160 v4165
  let v4167 : BitVec 32 := Scalar.remsi v4154 c16_i32_2362
  let c0_i32_2367 : BitVec 32 := 0#32
  let v4168 : BitVec 1 := Scalar.cmpi .ne v4167 c0_i32_2367
  let v4169 : BitVec 1 := Scalar.andi v4166 v4168
  let v4155 : BitVec 32 := Scalar.divsi v4154 c16_i32_2362
  let c1_i32_2368 : BitVec 32 := 1#32
  let v4170 : BitVec 32 := Scalar.subi v4155 c1_i32_2368
  let v4171 : BitVec 32 := Scalar.select v4169 v4170 v4155
  let v4172 : BitVec 32 := Scalar.subi v4171 v4152
  let c1_i32_2370 : BitVec 32 := 1#32
  let v4174 : BitVec 32 := Scalar.divsi v4172 c1_i32_2370
  let v4175 : BitVec 32 := Scalar.muli v4174 c1_i32_2370
  let v4176 : BitVec 32 := Scalar.addi v4152 v4175
  let c1_i32_2372 : BitVec 32 := 1#32
  let arg18 : BitVec 32 := Scf.iv v4176 c1_i32_2372 k0_t4
  let c16_i32_2373 : BitVec 32 := 16#32
  let v4177 : BitVec 32 := Scalar.muli arg18 c16_i32_2373
  let v4178 : BitVec 32 := v4177
  let v4179 : BitVec 32 := Scalar.addi c16_i32_2374 v4178
  let v4180 : BitVec 32 := Scalar.subi v4179 v3885
  let v4630 : Index := Scalar.indexCast v4180
  let c0_2536 : Index := 0#32
  ![40, v4630.toNat, 0]
def k0_off489 (i : grid0.Coords) (v3863 : BitVec 32) (v3867 : BitVec 32) (v3871 : BitVec 32) (v3875 : BitVec 32) (v3879 : BitVec 32) (v3883 : BitVec 32) (v3887 : BitVec 32) (k0_t4 : Fin (k0_t4_loop i v3863 v3867 v3871 v3875 v3879 v3883 v3887).trips) : Fin 2 → Nat :=
  let c0_i32_2092 : BitVec 32 := 0#32
  let arg0 : BitVec 32 := BitVec.ofNat 32 (i 0).val
  let c0_i32_2089 : BitVec 32 := 0#32
  let v3862 : BitVec 1 := Scalar.cmpi .sgt arg0 c0_i32_2089
  let c0_i32_2091 : BitVec 32 := 0#32
  let v3864 : BitVec 32 := Scalar.select v3862 v3863 c0_i32_2091
  let v3865 : BitVec 32 := Scalar.addi c0_i32_2092 v3864
  let c1_i32_2093 : BitVec 32 := 1#32
  let v3866 : BitVec 1 := Scalar.cmpi .sgt arg0 c1_i32_2093
  let c0_i32_2095 : BitVec 32 := 0#32
  let v3868 : BitVec 32 := Scalar.select v3866 v3867 c0_i32_2095
  let v3869 : BitVec 32 := Scalar.addi v3865 v3868
  let c2_i32_2096 : BitVec 32 := 2#32
  let v3870 : BitVec 1 := Scalar.cmpi .sgt arg0 c2_i32_2096
  let c0_i32_2098 : BitVec 32 := 0#32
  let v3872 : BitVec 32 := Scalar.select v3870 v3871 c0_i32_2098
  let v3873 : BitVec 32 := Scalar.addi v3869 v3872
  let c3_i32_2099 : BitVec 32 := 3#32
  let v3874 : BitVec 1 := Scalar.cmpi .sgt arg0 c3_i32_2099
  let c0_i32_2101 : BitVec 32 := 0#32
  let v3876 : BitVec 32 := Scalar.select v3874 v3875 c0_i32_2101
  let v3877 : BitVec 32 := Scalar.addi v3873 v3876
  let c4_i32_2102 : BitVec 32 := 4#32
  let v3878 : BitVec 1 := Scalar.cmpi .sgt arg0 c4_i32_2102
  let c0_i32_2104 : BitVec 32 := 0#32
  let v3880 : BitVec 32 := Scalar.select v3878 v3879 c0_i32_2104
  let v3881 : BitVec 32 := Scalar.addi v3877 v3880
  let c5_i32 : BitVec 32 := 5#32
  let v3882 : BitVec 1 := Scalar.cmpi .sgt arg0 c5_i32
  let c0_i32_2106 : BitVec 32 := 0#32
  let v3884 : BitVec 32 := Scalar.select v3882 v3883 c0_i32_2106
  let v3885 : BitVec 32 := Scalar.addi v3881 v3884
  let c0_i32_2356 : BitVec 32 := 0#32
  let v4137 : BitVec 1 := Scalar.cmpi .sgt v3885 c0_i32_2356
  let v4138 : BitVec 32 := Scalar.extui v4137
  let c0_i32_2357 : BitVec 32 := 0#32
  let v4139 : BitVec 1 := Scalar.cmpi .slt v3885 c0_i32_2357
  let v4140 : BitVec 32 := Scalar.extui v4139
  let v4141 : BitVec 32 := Scalar.subi v4138 v4140
  let c16_i32 : BitVec 32 := 16#32
  let c0_i32_2358 : BitVec 32 := 0#32
  let v4142 : BitVec 1 := Scalar.cmpi .sgt c16_i32 c0_i32_2358
  let v4143 : BitVec 32 := Scalar.extui v4142
  let c0_i32_2359 : BitVec 32 := 0#32
  let v4144 : BitVec 1 := Scalar.cmpi .slt c16_i32 c0_i32_2359
  let v4145 : BitVec 32 := Scalar.extui v4144
  let v4146 : BitVec 32 := Scalar.subi v4143 v4145
  let v4147 : BitVec 1 := Scalar.cmpi .ne v4141 v4146
  let v4148 : BitVec 32 := Scalar.remsi v3885 c16_i32
  let c0_i32_2360 : BitVec 32 := 0#32
  let v4149 : BitVec 1 := Scalar.cmpi .ne v4148 c0_i32_2360
  let v4150 : BitVec 1 := Scalar.andi v4147 v4149
  let v4136 : BitVec 32 := Scalar.divsi v3885 c16_i32
  let c1_i32_2361 : BitVec 32 := 1#32
  let v4151 : BitVec 32 := Scalar.subi v4136 c1_i32_2361
  let v4152 : BitVec 32 := Scalar.select v4150 v4151 v4136
  let v4153 : BitVec 32 := Scalar.addi v3885 v3887
  let c15_i32 : BitVec 32 := 15#32
  let v4154 : BitVec 32 := Scalar.addi v4153 c15_i32
  let c0_i32_2363 : BitVec 32 := 0#32
  let v4156 : BitVec 1 := Scalar.cmpi .sgt v4154 c0_i32_2363
  let v4157 : BitVec 32 := Scalar.extui v4156
  let c0_i32_2364 : BitVec 32 := 0#32
  let v4158 : BitVec 1 := Scalar.cmpi .slt v4154 c0_i32_2364
  let v4159 : BitVec 32 := Scalar.extui v4158
  let v4160 : BitVec 32 := Scalar.subi v4157 v4159
  let c16_i32_2362 : BitVec 32 := 16#32
  let c0_i32_2365 : BitVec 32 := 0#32
  let v4161 : BitVec 1 := Scalar.cmpi .sgt c16_i32_2362 c0_i32_2365
  let v4162 : BitVec 32 := Scalar.extui v4161
  let c0_i32_2366 : BitVec 32 := 0#32
  let v4163 : BitVec 1 := Scalar.cmpi .slt c16_i32_2362 c0_i32_2366
  let v4164 : BitVec 32 := Scalar.extui v4163
  let v4165 : BitVec 32 := Scalar.subi v4162 v4164
  let v4166 : BitVec 1 := Scalar.cmpi .ne v4160 v4165
  let v4167 : BitVec 32 := Scalar.remsi v4154 c16_i32_2362
  let c0_i32_2367 : BitVec 32 := 0#32
  let v4168 : BitVec 1 := Scalar.cmpi .ne v4167 c0_i32_2367
  let v4169 : BitVec 1 := Scalar.andi v4166 v4168
  let v4155 : BitVec 32 := Scalar.divsi v4154 c16_i32_2362
  let c1_i32_2368 : BitVec 32 := 1#32
  let v4170 : BitVec 32 := Scalar.subi v4155 c1_i32_2368
  let v4171 : BitVec 32 := Scalar.select v4169 v4170 v4155
  let v4172 : BitVec 32 := Scalar.subi v4171 v4152
  let c1_i32_2370 : BitVec 32 := 1#32
  let v4174 : BitVec 32 := Scalar.divsi v4172 c1_i32_2370
  let v4175 : BitVec 32 := Scalar.muli v4174 c1_i32_2370
  let v4176 : BitVec 32 := Scalar.addi v4152 v4175
  let c1_i32_2372 : BitVec 32 := 1#32
  let arg18 : BitVec 32 := Scf.iv v4176 c1_i32_2372 k0_t4
  let c16_i32_2373 : BitVec 32 := 16#32
  let v4177 : BitVec 32 := Scalar.muli arg18 c16_i32_2373
  let v4178 : BitVec 32 := v4177
  let v4633 : Index := Scalar.indexCast v4178
  let c0_2537 : Index := 0#32
  ![v4633.toNat, 0]

def k0_chk1_0 (i : grid0.Coords) (v3863 : BitVec 32) (v3867 : BitVec 32) (v3871 : BitVec 32) (v3875 : BitVec 32) (v3879 : BitVec 32) (v3883 : BitVec 32) (v3887 : BitVec 32) : Prop :=
  (∀ (k0_h3 : k0_cond3 i = 1#1), (k0_t3_loop i v3863 v3867 v3871 v3875 v3879 v3883 v3887).OK) ∧
  (∀ k0_t3 : Fin (k0_t3_loop i v3863 v3867 v3871 v3875 v3879 v3883 v3887).trips, ∀ (k0_h3 : k0_cond3 i = 1#1), 16 ∣ (k0_mult4 i v3863 v3867 v3871 v3875 v3879 v3883 v3887 k0_t3).toNat) ∧
  (∀ k0_t3 : Fin (k0_t3_loop i v3863 v3867 v3871 v3875 v3879 v3883 v3887).trips, ∀ (k0_h3 : k0_cond3 i = 1#1), ∀ a, (k0_off326 i v3863 v3867 v3871 v3875 v3879 v3883 v3887 k0_t3) a + S16x128.size a ≤ S880x5120.size a) ∧
  (∀ k0_t3 : Fin (k0_t3_loop i v3863 v3867 v3871 v3875 v3879 v3883 v3887).trips, ∀ (k0_h3 : k0_cond3 i = 1#1), ∀ a, (k0_off327 i v3863 v3867 v3871 v3875 v3879 v3883 v3887 k0_t3) a + S1x16x128.size a ≤ S41x288x128.size a) ∧
  (∀ k0_t3 : Fin (k0_t3_loop i v3863 v3867 v3871 v3875 v3879 v3883 v3887).trips, ∀ (k0_h3 : k0_cond3 i = 1#1), ∀ (hinb : ∀ a, (k0_off326 i v3863 v3867 v3871 v3875 v3879 v3883 v3887 k0_t3) a + S16x128.size a ≤ S880x5120.size a), (Rect.unit (s := S880x5120) (k0_off326 i v3863 v3867 v3871 v3875 v3879 v3883 v3887 k0_t3) S16x128.size hinb).PackedRows (EltTy.packing .bf16)) ∧
  (∀ k0_t3 : Fin (k0_t3_loop i v3863 v3867 v3871 v3875 v3879 v3883 v3887).trips, ∀ (k0_h3 : k0_cond3 i = 1#1), ∀ a, (k0_off328 i v3863 v3867 v3871 v3875 v3879 v3883 v3887 k0_t3) a + S16x128.size a ≤ S880x5120.size a) ∧
  (∀ k0_t3 : Fin (k0_t3_loop i v3863 v3867 v3871 v3875 v3879 v3883 v3887).trips, ∀ (k0_h3 : k0_cond3 i = 1#1), ∀ a, (k0_off329 i v3863 v3867 v3871 v3875 v3879 v3883 v3887 k0_t3) a + S1x16x128.size a ≤ S41x288x128.size a) ∧
  (∀ k0_t3 : Fin (k0_t3_loop i v3863 v3867 v3871 v3875 v3879 v3883 v3887).trips, ∀ (k0_h3 : k0_cond3 i = 1#1), ∀ (hinb : ∀ a, (k0_off328 i v3863 v3867 v3871 v3875 v3879 v3883 v3887 k0_t3) a + S16x128.size a ≤ S880x5120.size a), (Rect.unit (s := S880x5120) (k0_off328 i v3863 v3867 v3871 v3875 v3879 v3883 v3887 k0_t3) S16x128.size hinb).PackedRows (EltTy.packing .bf16)) ∧
  (∀ k0_t3 : Fin (k0_t3_loop i v3863 v3867 v3871 v3875 v3879 v3883 v3887).trips, ∀ (k0_h3 : k0_cond3 i = 1#1), ∀ a, (k0_off330 i v3863 v3867 v3871 v3875 v3879 v3883 v3887 k0_t3) a + S16x128.size a ≤ S880x5120.size a) ∧
  (∀ k0_t3 : Fin (k0_t3_loop i v3863 v3867 v3871 v3875 v3879 v3883 v3887).trips, ∀ (k0_h3 : k0_cond3 i = 1#1), ∀ a, (k0_off331 i v3863 v3867 v3871 v3875 v3879 v3883 v3887 k0_t3) a + S1x16x128.size a ≤ S41x288x128.size a) ∧
  (∀ k0_t3 : Fin (k0_t3_loop i v3863 v3867 v3871 v3875 v3879 v3883 v3887).trips, ∀ (k0_h3 : k0_cond3 i = 1#1), ∀ (hinb : ∀ a, (k0_off330 i v3863 v3867 v3871 v3875 v3879 v3883 v3887 k0_t3) a + S16x128.size a ≤ S880x5120.size a), (Rect.unit (s := S880x5120) (k0_off330 i v3863 v3867 v3871 v3875 v3879 v3883 v3887 k0_t3) S16x128.size hinb).PackedRows (EltTy.packing .bf16)) ∧
  (∀ k0_t3 : Fin (k0_t3_loop i v3863 v3867 v3871 v3875 v3879 v3883 v3887).trips, ∀ (k0_h3 : k0_cond3 i = 1#1), ∀ a, (k0_off332 i v3863 v3867 v3871 v3875 v3879 v3883 v3887 k0_t3) a + S16x128.size a ≤ S880x5120.size a) ∧
  (∀ k0_t3 : Fin (k0_t3_loop i v3863 v3867 v3871 v3875 v3879 v3883 v3887).trips, ∀ (k0_h3 : k0_cond3 i = 1#1), ∀ a, (k0_off333 i v3863 v3867 v3871 v3875 v3879 v3883 v3887 k0_t3) a + S1x16x128.size a ≤ S41x288x128.size a) ∧
  (∀ k0_t3 : Fin (k0_t3_loop i v3863 v3867 v3871 v3875 v3879 v3883 v3887).trips, ∀ (k0_h3 : k0_cond3 i = 1#1), ∀ (hinb : ∀ a, (k0_off332 i v3863 v3867 v3871 v3875 v3879 v3883 v3887 k0_t3) a + S16x128.size a ≤ S880x5120.size a), (Rect.unit (s := S880x5120) (k0_off332 i v3863 v3867 v3871 v3875 v3879 v3883 v3887 k0_t3) S16x128.size hinb).PackedRows (EltTy.packing .bf16)) ∧
  (∀ k0_t3 : Fin (k0_t3_loop i v3863 v3867 v3871 v3875 v3879 v3883 v3887).trips, ∀ (k0_h3 : k0_cond3 i = 1#1), ∀ a, (k0_off334 i v3863 v3867 v3871 v3875 v3879 v3883 v3887 k0_t3) a + S16x128.size a ≤ S880x5120.size a) ∧
  (∀ k0_t3 : Fin (k0_t3_loop i v3863 v3867 v3871 v3875 v3879 v3883 v3887).trips, ∀ (k0_h3 : k0_cond3 i = 1#1), ∀ a, (k0_off335 i v3863 v3867 v3871 v3875 v3879 v3883 v3887 k0_t3) a + S1x16x128.size a ≤ S41x288x128.size a) ∧
  (∀ k0_t3 : Fin (k0_t3_loop i v3863 v3867 v3871 v3875 v3879 v3883 v3887).trips, ∀ (k0_h3 : k0_cond3 i = 1#1), ∀ (hinb : ∀ a, (k0_off334 i v3863 v3867 v3871 v3875 v3879 v3883 v3887 k0_t3) a + S16x128.size a ≤ S880x5120.size a), (Rect.unit (s := S880x5120) (k0_off334 i v3863 v3867 v3871 v3875 v3879 v3883 v3887 k0_t3) S16x128.size hinb).PackedRows (EltTy.packing .bf16)) ∧
  (∀ k0_t3 : Fin (k0_t3_loop i v3863 v3867 v3871 v3875 v3879 v3883 v3887).trips, ∀ (k0_h3 : k0_cond3 i = 1#1), ∀ a, (k0_off336 i v3863 v3867 v3871 v3875 v3879 v3883 v3887 k0_t3) a + S16x128.size a ≤ S880x5120.size a) ∧
  (∀ k0_t3 : Fin (k0_t3_loop i v3863 v3867 v3871 v3875 v3879 v3883 v3887).trips, ∀ (k0_h3 : k0_cond3 i = 1#1), ∀ a, (k0_off337 i v3863 v3867 v3871 v3875 v3879 v3883 v3887 k0_t3) a + S1x16x128.size a ≤ S41x288x128.size a) ∧
  (∀ k0_t3 : Fin (k0_t3_loop i v3863 v3867 v3871 v3875 v3879 v3883 v3887).trips, ∀ (k0_h3 : k0_cond3 i = 1#1), ∀ (hinb : ∀ a, (k0_off336 i v3863 v3867 v3871 v3875 v3879 v3883 v3887 k0_t3) a + S16x128.size a ≤ S880x5120.size a), (Rect.unit (s := S880x5120) (k0_off336 i v3863 v3867 v3871 v3875 v3879 v3883 v3887 k0_t3) S16x128.size hinb).PackedRows (EltTy.packing .bf16)) ∧
  (∀ k0_t3 : Fin (k0_t3_loop i v3863 v3867 v3871 v3875 v3879 v3883 v3887).trips, ∀ (k0_h3 : k0_cond3 i = 1#1), ∀ a, (k0_off338 i v3863 v3867 v3871 v3875 v3879 v3883 v3887 k0_t3) a + S16x128.size a ≤ S880x5120.size a) ∧
  (∀ k0_t3 : Fin (k0_t3_loop i v3863 v3867 v3871 v3875 v3879 v3883 v3887).trips, ∀ (k0_h3 : k0_cond3 i = 1#1), ∀ a, (k0_off339 i v3863 v3867 v3871 v3875 v3879 v3883 v3887 k0_t3) a + S1x16x128.size a ≤ S41x288x128.size a) ∧
  (∀ k0_t3 : Fin (k0_t3_loop i v3863 v3867 v3871 v3875 v3879 v3883 v3887).trips, ∀ (k0_h3 : k0_cond3 i = 1#1), ∀ (hinb : ∀ a, (k0_off338 i v3863 v3867 v3871 v3875 v3879 v3883 v3887 k0_t3) a + S16x128.size a ≤ S880x5120.size a), (Rect.unit (s := S880x5120) (k0_off338 i v3863 v3867 v3871 v3875 v3879 v3883 v3887 k0_t3) S16x128.size hinb).PackedRows (EltTy.packing .bf16)) ∧
  (∀ k0_t3 : Fin (k0_t3_loop i v3863 v3867 v3871 v3875 v3879 v3883 v3887).trips, ∀ (k0_h3 : k0_cond3 i = 1#1), ∀ a, (k0_off340 i v3863 v3867 v3871 v3875 v3879 v3883 v3887 k0_t3) a + S16x128.size a ≤ S880x5120.size a) ∧
  (∀ k0_t3 : Fin (k0_t3_loop i v3863 v3867 v3871 v3875 v3879 v3883 v3887).trips, ∀ (k0_h3 : k0_cond3 i = 1#1), ∀ a, (k0_off341 i v3863 v3867 v3871 v3875 v3879 v3883 v3887 k0_t3) a + S1x16x128.size a ≤ S41x288x128.size a) ∧
  (∀ k0_t3 : Fin (k0_t3_loop i v3863 v3867 v3871 v3875 v3879 v3883 v3887).trips, ∀ (k0_h3 : k0_cond3 i = 1#1), ∀ (hinb : ∀ a, (k0_off340 i v3863 v3867 v3871 v3875 v3879 v3883 v3887 k0_t3) a + S16x128.size a ≤ S880x5120.size a), (Rect.unit (s := S880x5120) (k0_off340 i v3863 v3867 v3871 v3875 v3879 v3883 v3887 k0_t3) S16x128.size hinb).PackedRows (EltTy.packing .bf16)) ∧
  (∀ k0_t3 : Fin (k0_t3_loop i v3863 v3867 v3871 v3875 v3879 v3883 v3887).trips, ∀ (k0_h3 : k0_cond3 i = 1#1), ∀ a, (k0_off342 i v3863 v3867 v3871 v3875 v3879 v3883 v3887 k0_t3) a + S16x128.size a ≤ S880x5120.size a) ∧
  (∀ k0_t3 : Fin (k0_t3_loop i v3863 v3867 v3871 v3875 v3879 v3883 v3887).trips, ∀ (k0_h3 : k0_cond3 i = 1#1), ∀ a, (k0_off343 i v3863 v3867 v3871 v3875 v3879 v3883 v3887 k0_t3) a + S1x16x128.size a ≤ S41x288x128.size a) ∧
  (∀ k0_t3 : Fin (k0_t3_loop i v3863 v3867 v3871 v3875 v3879 v3883 v3887).trips, ∀ (k0_h3 : k0_cond3 i = 1#1), ∀ (hinb : ∀ a, (k0_off342 i v3863 v3867 v3871 v3875 v3879 v3883 v3887 k0_t3) a + S16x128.size a ≤ S880x5120.size a), (Rect.unit (s := S880x5120) (k0_off342 i v3863 v3867 v3871 v3875 v3879 v3883 v3887 k0_t3) S16x128.size hinb).PackedRows (EltTy.packing .bf16)) ∧
  (∀ k0_t3 : Fin (k0_t3_loop i v3863 v3867 v3871 v3875 v3879 v3883 v3887).trips, ∀ (k0_h3 : k0_cond3 i = 1#1), ∀ a, (k0_off344 i v3863 v3867 v3871 v3875 v3879 v3883 v3887 k0_t3) a + S16x128.size a ≤ S880x5120.size a) ∧
  (∀ k0_t3 : Fin (k0_t3_loop i v3863 v3867 v3871 v3875 v3879 v3883 v3887).trips, ∀ (k0_h3 : k0_cond3 i = 1#1), ∀ a, (k0_off345 i v3863 v3867 v3871 v3875 v3879 v3883 v3887 k0_t3) a + S1x16x128.size a ≤ S41x288x128.size a) ∧
  (∀ k0_t3 : Fin (k0_t3_loop i v3863 v3867 v3871 v3875 v3879 v3883 v3887).trips, ∀ (k0_h3 : k0_cond3 i = 1#1), ∀ (hinb : ∀ a, (k0_off344 i v3863 v3867 v3871 v3875 v3879 v3883 v3887 k0_t3) a + S16x128.size a ≤ S880x5120.size a), (Rect.unit (s := S880x5120) (k0_off344 i v3863 v3867 v3871 v3875 v3879 v3883 v3887 k0_t3) S16x128.size hinb).PackedRows (EltTy.packing .bf16))
def k0_chk1_1 (i : grid0.Coords) (v3863 : BitVec 32) (v3867 : BitVec 32) (v3871 : BitVec 32) (v3875 : BitVec 32) (v3879 : BitVec 32) (v3883 : BitVec 32) (v3887 : BitVec 32) : Prop :=
  (∀ k0_t3 : Fin (k0_t3_loop i v3863 v3867 v3871 v3875 v3879 v3883 v3887).trips, ∀ (k0_h3 : k0_cond3 i = 1#1), ∀ a, (k0_off346 i v3863 v3867 v3871 v3875 v3879 v3883 v3887 k0_t3) a + S16x128.size a ≤ S880x5120.size a) ∧
  (∀ k0_t3 : Fin (k0_t3_loop i v3863 v3867 v3871 v3875 v3879 v3883 v3887).trips, ∀ (k0_h3 : k0_cond3 i = 1#1), ∀ a, (k0_off347 i v3863 v3867 v3871 v3875 v3879 v3883 v3887 k0_t3) a + S1x16x128.size a ≤ S41x288x128.size a) ∧
  (∀ k0_t3 : Fin (k0_t3_loop i v3863 v3867 v3871 v3875 v3879 v3883 v3887).trips, ∀ (k0_h3 : k0_cond3 i = 1#1), ∀ (hinb : ∀ a, (k0_off346 i v3863 v3867 v3871 v3875 v3879 v3883 v3887 k0_t3) a + S16x128.size a ≤ S880x5120.size a), (Rect.unit (s := S880x5120) (k0_off346 i v3863 v3867 v3871 v3875 v3879 v3883 v3887 k0_t3) S16x128.size hinb).PackedRows (EltTy.packing .bf16)) ∧
  (∀ k0_t3 : Fin (k0_t3_loop i v3863 v3867 v3871 v3875 v3879 v3883 v3887).trips, ∀ (k0_h3 : k0_cond3 i = 1#1), ∀ a, (k0_off348 i v3863 v3867 v3871 v3875 v3879 v3883 v3887 k0_t3) a + S16x128.size a ≤ S880x5120.size a) ∧
  (∀ k0_t3 : Fin (k0_t3_loop i v3863 v3867 v3871 v3875 v3879 v3883 v3887).trips, ∀ (k0_h3 : k0_cond3 i = 1#1), ∀ a, (k0_off349 i v3863 v3867 v3871 v3875 v3879 v3883 v3887 k0_t3) a + S1x16x128.size a ≤ S41x288x128.size a) ∧
  (∀ k0_t3 : Fin (k0_t3_loop i v3863 v3867 v3871 v3875 v3879 v3883 v3887).trips, ∀ (k0_h3 : k0_cond3 i = 1#1), ∀ (hinb : ∀ a, (k0_off348 i v3863 v3867 v3871 v3875 v3879 v3883 v3887 k0_t3) a + S16x128.size a ≤ S880x5120.size a), (Rect.unit (s := S880x5120) (k0_off348 i v3863 v3867 v3871 v3875 v3879 v3883 v3887 k0_t3) S16x128.size hinb).PackedRows (EltTy.packing .bf16)) ∧
  (∀ k0_t3 : Fin (k0_t3_loop i v3863 v3867 v3871 v3875 v3879 v3883 v3887).trips, ∀ (k0_h3 : k0_cond3 i = 1#1), ∀ a, (k0_off350 i v3863 v3867 v3871 v3875 v3879 v3883 v3887 k0_t3) a + S16x128.size a ≤ S880x5120.size a) ∧
  (∀ k0_t3 : Fin (k0_t3_loop i v3863 v3867 v3871 v3875 v3879 v3883 v3887).trips, ∀ (k0_h3 : k0_cond3 i = 1#1), ∀ a, (k0_off351 i v3863 v3867 v3871 v3875 v3879 v3883 v3887 k0_t3) a + S1x16x128.size a ≤ S41x288x128.size a) ∧
  (∀ k0_t3 : Fin (k0_t3_loop i v3863 v3867 v3871 v3875 v3879 v3883 v3887).trips, ∀ (k0_h3 : k0_cond3 i = 1#1), ∀ (hinb : ∀ a, (k0_off350 i v3863 v3867 v3871 v3875 v3879 v3883 v3887 k0_t3) a + S16x128.size a ≤ S880x5120.size a), (Rect.unit (s := S880x5120) (k0_off350 i v3863 v3867 v3871 v3875 v3879 v3883 v3887 k0_t3) S16x128.size hinb).PackedRows (EltTy.packing .bf16)) ∧
  (∀ k0_t3 : Fin (k0_t3_loop i v3863 v3867 v3871 v3875 v3879 v3883 v3887).trips, ∀ (k0_h3 : k0_cond3 i = 1#1), ∀ a, (k0_off352 i v3863 v3867 v3871 v3875 v3879 v3883 v3887 k0_t3) a + S16x128.size a ≤ S880x5120.size a) ∧
  (∀ k0_t3 : Fin (k0_t3_loop i v3863 v3867 v3871 v3875 v3879 v3883 v3887).trips, ∀ (k0_h3 : k0_cond3 i = 1#1), ∀ a, (k0_off353 i v3863 v3867 v3871 v3875 v3879 v3883 v3887 k0_t3) a + S1x16x128.size a ≤ S41x288x128.size a) ∧
  (∀ k0_t3 : Fin (k0_t3_loop i v3863 v3867 v3871 v3875 v3879 v3883 v3887).trips, ∀ (k0_h3 : k0_cond3 i = 1#1), ∀ (hinb : ∀ a, (k0_off352 i v3863 v3867 v3871 v3875 v3879 v3883 v3887 k0_t3) a + S16x128.size a ≤ S880x5120.size a), (Rect.unit (s := S880x5120) (k0_off352 i v3863 v3867 v3871 v3875 v3879 v3883 v3887 k0_t3) S16x128.size hinb).PackedRows (EltTy.packing .bf16)) ∧
  (∀ k0_t3 : Fin (k0_t3_loop i v3863 v3867 v3871 v3875 v3879 v3883 v3887).trips, ∀ (k0_h3 : k0_cond3 i = 1#1), ∀ a, (k0_off354 i v3863 v3867 v3871 v3875 v3879 v3883 v3887 k0_t3) a + S16x128.size a ≤ S880x5120.size a) ∧
  (∀ k0_t3 : Fin (k0_t3_loop i v3863 v3867 v3871 v3875 v3879 v3883 v3887).trips, ∀ (k0_h3 : k0_cond3 i = 1#1), ∀ a, (k0_off355 i v3863 v3867 v3871 v3875 v3879 v3883 v3887 k0_t3) a + S1x16x128.size a ≤ S41x288x128.size a) ∧
  (∀ k0_t3 : Fin (k0_t3_loop i v3863 v3867 v3871 v3875 v3879 v3883 v3887).trips, ∀ (k0_h3 : k0_cond3 i = 1#1), ∀ (hinb : ∀ a, (k0_off354 i v3863 v3867 v3871 v3875 v3879 v3883 v3887 k0_t3) a + S16x128.size a ≤ S880x5120.size a), (Rect.unit (s := S880x5120) (k0_off354 i v3863 v3867 v3871 v3875 v3879 v3883 v3887 k0_t3) S16x128.size hinb).PackedRows (EltTy.packing .bf16)) ∧
  (∀ k0_t3 : Fin (k0_t3_loop i v3863 v3867 v3871 v3875 v3879 v3883 v3887).trips, ∀ (k0_h3 : k0_cond3 i = 1#1), ∀ a, (k0_off356 i v3863 v3867 v3871 v3875 v3879 v3883 v3887 k0_t3) a + S16x128.size a ≤ S880x5120.size a) ∧
  (∀ k0_t3 : Fin (k0_t3_loop i v3863 v3867 v3871 v3875 v3879 v3883 v3887).trips, ∀ (k0_h3 : k0_cond3 i = 1#1), ∀ a, (k0_off357 i v3863 v3867 v3871 v3875 v3879 v3883 v3887 k0_t3) a + S1x16x128.size a ≤ S41x288x128.size a) ∧
  (∀ k0_t3 : Fin (k0_t3_loop i v3863 v3867 v3871 v3875 v3879 v3883 v3887).trips, ∀ (k0_h3 : k0_cond3 i = 1#1), ∀ (hinb : ∀ a, (k0_off356 i v3863 v3867 v3871 v3875 v3879 v3883 v3887 k0_t3) a + S16x128.size a ≤ S880x5120.size a), (Rect.unit (s := S880x5120) (k0_off356 i v3863 v3867 v3871 v3875 v3879 v3883 v3887 k0_t3) S16x128.size hinb).PackedRows (EltTy.packing .bf16)) ∧
  (∀ k0_t3 : Fin (k0_t3_loop i v3863 v3867 v3871 v3875 v3879 v3883 v3887).trips, ∀ (k0_h3 : k0_cond3 i = 1#1), ∀ a, (k0_off358 i v3863 v3867 v3871 v3875 v3879 v3883 v3887 k0_t3) a + S16x128.size a ≤ S880x5120.size a) ∧
  (∀ k0_t3 : Fin (k0_t3_loop i v3863 v3867 v3871 v3875 v3879 v3883 v3887).trips, ∀ (k0_h3 : k0_cond3 i = 1#1), ∀ a, (k0_off359 i v3863 v3867 v3871 v3875 v3879 v3883 v3887 k0_t3) a + S1x16x128.size a ≤ S41x288x128.size a) ∧
  (∀ k0_t3 : Fin (k0_t3_loop i v3863 v3867 v3871 v3875 v3879 v3883 v3887).trips, ∀ (k0_h3 : k0_cond3 i = 1#1), ∀ (hinb : ∀ a, (k0_off358 i v3863 v3867 v3871 v3875 v3879 v3883 v3887 k0_t3) a + S16x128.size a ≤ S880x5120.size a), (Rect.unit (s := S880x5120) (k0_off358 i v3863 v3867 v3871 v3875 v3879 v3883 v3887 k0_t3) S16x128.size hinb).PackedRows (EltTy.packing .bf16)) ∧
  (∀ k0_t3 : Fin (k0_t3_loop i v3863 v3867 v3871 v3875 v3879 v3883 v3887).trips, ∀ (k0_h3 : k0_cond3 i = 1#1), ∀ a, (k0_off360 i v3863 v3867 v3871 v3875 v3879 v3883 v3887 k0_t3) a + S16x128.size a ≤ S880x5120.size a) ∧
  (∀ k0_t3 : Fin (k0_t3_loop i v3863 v3867 v3871 v3875 v3879 v3883 v3887).trips, ∀ (k0_h3 : k0_cond3 i = 1#1), ∀ a, (k0_off361 i v3863 v3867 v3871 v3875 v3879 v3883 v3887 k0_t3) a + S1x16x128.size a ≤ S41x288x128.size a) ∧
  (∀ k0_t3 : Fin (k0_t3_loop i v3863 v3867 v3871 v3875 v3879 v3883 v3887).trips, ∀ (k0_h3 : k0_cond3 i = 1#1), ∀ (hinb : ∀ a, (k0_off360 i v3863 v3867 v3871 v3875 v3879 v3883 v3887 k0_t3) a + S16x128.size a ≤ S880x5120.size a), (Rect.unit (s := S880x5120) (k0_off360 i v3863 v3867 v3871 v3875 v3879 v3883 v3887 k0_t3) S16x128.size hinb).PackedRows (EltTy.packing .bf16)) ∧
  (∀ k0_t3 : Fin (k0_t3_loop i v3863 v3867 v3871 v3875 v3879 v3883 v3887).trips, ∀ (k0_h3 : k0_cond3 i = 1#1), ∀ a, (k0_off362 i v3863 v3867 v3871 v3875 v3879 v3883 v3887 k0_t3) a + S16x128.size a ≤ S880x5120.size a) ∧
  (∀ k0_t3 : Fin (k0_t3_loop i v3863 v3867 v3871 v3875 v3879 v3883 v3887).trips, ∀ (k0_h3 : k0_cond3 i = 1#1), ∀ a, (k0_off363 i v3863 v3867 v3871 v3875 v3879 v3883 v3887 k0_t3) a + S1x16x128.size a ≤ S41x288x128.size a) ∧
  (∀ k0_t3 : Fin (k0_t3_loop i v3863 v3867 v3871 v3875 v3879 v3883 v3887).trips, ∀ (k0_h3 : k0_cond3 i = 1#1), ∀ (hinb : ∀ a, (k0_off362 i v3863 v3867 v3871 v3875 v3879 v3883 v3887 k0_t3) a + S16x128.size a ≤ S880x5120.size a), (Rect.unit (s := S880x5120) (k0_off362 i v3863 v3867 v3871 v3875 v3879 v3883 v3887 k0_t3) S16x128.size hinb).PackedRows (EltTy.packing .bf16)) ∧
  (∀ k0_t3 : Fin (k0_t3_loop i v3863 v3867 v3871 v3875 v3879 v3883 v3887).trips, ∀ (k0_h3 : k0_cond3 i = 1#1), ∀ a, (k0_off364 i v3863 v3867 v3871 v3875 v3879 v3883 v3887 k0_t3) a + S16x128.size a ≤ S880x5120.size a) ∧
  (∀ k0_t3 : Fin (k0_t3_loop i v3863 v3867 v3871 v3875 v3879 v3883 v3887).trips, ∀ (k0_h3 : k0_cond3 i = 1#1), ∀ a, (k0_off365 i v3863 v3867 v3871 v3875 v3879 v3883 v3887 k0_t3) a + S1x16x128.size a ≤ S41x288x128.size a) ∧
  (∀ k0_t3 : Fin (k0_t3_loop i v3863 v3867 v3871 v3875 v3879 v3883 v3887).trips, ∀ (k0_h3 : k0_cond3 i = 1#1), ∀ (hinb : ∀ a, (k0_off364 i v3863 v3867 v3871 v3875 v3879 v3883 v3887 k0_t3) a + S16x128.size a ≤ S880x5120.size a), (Rect.unit (s := S880x5120) (k0_off364 i v3863 v3867 v3871 v3875 v3879 v3883 v3887 k0_t3) S16x128.size hinb).PackedRows (EltTy.packing .bf16)) ∧
  (∀ k0_t3 : Fin (k0_t3_loop i v3863 v3867 v3871 v3875 v3879 v3883 v3887).trips, ∀ (k0_h3 : k0_cond3 i = 1#1), ∀ a, (k0_off366 i v3863 v3867 v3871 v3875 v3879 v3883 v3887 k0_t3) a + S16x128.size a ≤ S880x5120.size a) ∧
  (∀ k0_t3 : Fin (k0_t3_loop i v3863 v3867 v3871 v3875 v3879 v3883 v3887).trips, ∀ (k0_h3 : k0_cond3 i = 1#1), ∀ a, (k0_off367 i v3863 v3867 v3871 v3875 v3879 v3883 v3887 k0_t3) a + S1x16x128.size a ≤ S41x288x128.size a)
def k0_chk1_2 (i : grid0.Coords) (v3863 : BitVec 32) (v3867 : BitVec 32) (v3871 : BitVec 32) (v3875 : BitVec 32) (v3879 : BitVec 32) (v3883 : BitVec 32) (v3887 : BitVec 32) : Prop :=
  (∀ k0_t3 : Fin (k0_t3_loop i v3863 v3867 v3871 v3875 v3879 v3883 v3887).trips, ∀ (k0_h3 : k0_cond3 i = 1#1), ∀ (hinb : ∀ a, (k0_off366 i v3863 v3867 v3871 v3875 v3879 v3883 v3887 k0_t3) a + S16x128.size a ≤ S880x5120.size a), (Rect.unit (s := S880x5120) (k0_off366 i v3863 v3867 v3871 v3875 v3879 v3883 v3887 k0_t3) S16x128.size hinb).PackedRows (EltTy.packing .bf16)) ∧
  (∀ k0_t3 : Fin (k0_t3_loop i v3863 v3867 v3871 v3875 v3879 v3883 v3887).trips, ∀ (k0_h3 : k0_cond3 i = 1#1), ∀ a, (k0_off368 i v3863 v3867 v3871 v3875 v3879 v3883 v3887 k0_t3) a + S16x128.size a ≤ S880x5120.size a) ∧
  (∀ k0_t3 : Fin (k0_t3_loop i v3863 v3867 v3871 v3875 v3879 v3883 v3887).trips, ∀ (k0_h3 : k0_cond3 i = 1#1), ∀ a, (k0_off369 i v3863 v3867 v3871 v3875 v3879 v3883 v3887 k0_t3) a + S1x16x128.size a ≤ S41x288x128.size a) ∧
  (∀ k0_t3 : Fin (k0_t3_loop i v3863 v3867 v3871 v3875 v3879 v3883 v3887).trips, ∀ (k0_h3 : k0_cond3 i = 1#1), ∀ (hinb : ∀ a, (k0_off368 i v3863 v3867 v3871 v3875 v3879 v3883 v3887 k0_t3) a + S16x128.size a ≤ S880x5120.size a), (Rect.unit (s := S880x5120) (k0_off368 i v3863 v3867 v3871 v3875 v3879 v3883 v3887 k0_t3) S16x128.size hinb).PackedRows (EltTy.packing .bf16)) ∧
  (∀ k0_t3 : Fin (k0_t3_loop i v3863 v3867 v3871 v3875 v3879 v3883 v3887).trips, ∀ (k0_h3 : k0_cond3 i = 1#1), ∀ a, (k0_off370 i v3863 v3867 v3871 v3875 v3879 v3883 v3887 k0_t3) a + S16x128.size a ≤ S880x5120.size a) ∧
  (∀ k0_t3 : Fin (k0_t3_loop i v3863 v3867 v3871 v3875 v3879 v3883 v3887).trips, ∀ (k0_h3 : k0_cond3 i = 1#1), ∀ a, (k0_off371 i v3863 v3867 v3871 v3875 v3879 v3883 v3887 k0_t3) a + S1x16x128.size a ≤ S41x288x128.size a) ∧
  (∀ k0_t3 : Fin (k0_t3_loop i v3863 v3867 v3871 v3875 v3879 v3883 v3887).trips, ∀ (k0_h3 : k0_cond3 i = 1#1), ∀ (hinb : ∀ a, (k0_off370 i v3863 v3867 v3871 v3875 v3879 v3883 v3887 k0_t3) a + S16x128.size a ≤ S880x5120.size a), (Rect.unit (s := S880x5120) (k0_off370 i v3863 v3867 v3871 v3875 v3879 v3883 v3887 k0_t3) S16x128.size hinb).PackedRows (EltTy.packing .bf16)) ∧
  (∀ k0_t3 : Fin (k0_t3_loop i v3863 v3867 v3871 v3875 v3879 v3883 v3887).trips, ∀ (k0_h3 : k0_cond3 i = 1#1), ∀ a, (k0_off372 i v3863 v3867 v3871 v3875 v3879 v3883 v3887 k0_t3) a + S16x128.size a ≤ S880x5120.size a) ∧
  (∀ k0_t3 : Fin (k0_t3_loop i v3863 v3867 v3871 v3875 v3879 v3883 v3887).trips, ∀ (k0_h3 : k0_cond3 i = 1#1), ∀ a, (k0_off373 i v3863 v3867 v3871 v3875 v3879 v3883 v3887 k0_t3) a + S1x16x128.size a ≤ S41x288x128.size a) ∧
  (∀ k0_t3 : Fin (k0_t3_loop i v3863 v3867 v3871 v3875 v3879 v3883 v3887).trips, ∀ (k0_h3 : k0_cond3 i = 1#1), ∀ (hinb : ∀ a, (k0_off372 i v3863 v3867 v3871 v3875 v3879 v3883 v3887 k0_t3) a + S16x128.size a ≤ S880x5120.size a), (Rect.unit (s := S880x5120) (k0_off372 i v3863 v3867 v3871 v3875 v3879 v3883 v3887 k0_t3) S16x128.size hinb).PackedRows (EltTy.packing .bf16)) ∧
  (∀ k0_t3 : Fin (k0_t3_loop i v3863 v3867 v3871 v3875 v3879 v3883 v3887).trips, ∀ (k0_h3 : k0_cond3 i = 1#1), ∀ a, (k0_off374 i v3863 v3867 v3871 v3875 v3879 v3883 v3887 k0_t3) a + S16x128.size a ≤ S880x5120.size a) ∧
  (∀ k0_t3 : Fin (k0_t3_loop i v3863 v3867 v3871 v3875 v3879 v3883 v3887).trips, ∀ (k0_h3 : k0_cond3 i = 1#1), ∀ a, (k0_off375 i v3863 v3867 v3871 v3875 v3879 v3883 v3887 k0_t3) a + S1x16x128.size a ≤ S41x288x128.size a) ∧
  (∀ k0_t3 : Fin (k0_t3_loop i v3863 v3867 v3871 v3875 v3879 v3883 v3887).trips, ∀ (k0_h3 : k0_cond3 i = 1#1), ∀ (hinb : ∀ a, (k0_off374 i v3863 v3867 v3871 v3875 v3879 v3883 v3887 k0_t3) a + S16x128.size a ≤ S880x5120.size a), (Rect.unit (s := S880x5120) (k0_off374 i v3863 v3867 v3871 v3875 v3879 v3883 v3887 k0_t3) S16x128.size hinb).PackedRows (EltTy.packing .bf16)) ∧
  (∀ k0_t3 : Fin (k0_t3_loop i v3863 v3867 v3871 v3875 v3879 v3883 v3887).trips, ∀ (k0_h3 : k0_cond3 i = 1#1), ∀ a, (k0_off376 i v3863 v3867 v3871 v3875 v3879 v3883 v3887 k0_t3) a + S16x128.size a ≤ S880x5120.size a) ∧
  (∀ k0_t3 : Fin (k0_t3_loop i v3863 v3867 v3871 v3875 v3879 v3883 v3887).trips, ∀ (k0_h3 : k0_cond3 i = 1#1), ∀ a, (k0_off377 i v3863 v3867 v3871 v3875 v3879 v3883 v3887 k0_t3) a + S1x16x128.size a ≤ S41x288x128.size a) ∧
  (∀ k0_t3 : Fin (k0_t3_loop i v3863 v3867 v3871 v3875 v3879 v3883 v3887).trips, ∀ (k0_h3 : k0_cond3 i = 1#1), ∀ (hinb : ∀ a, (k0_off376 i v3863 v3867 v3871 v3875 v3879 v3883 v3887 k0_t3) a + S16x128.size a ≤ S880x5120.size a), (Rect.unit (s := S880x5120) (k0_off376 i v3863 v3867 v3871 v3875 v3879 v3883 v3887 k0_t3) S16x128.size hinb).PackedRows (EltTy.packing .bf16)) ∧
  (∀ k0_t3 : Fin (k0_t3_loop i v3863 v3867 v3871 v3875 v3879 v3883 v3887).trips, ∀ (k0_h3 : k0_cond3 i = 1#1), ∀ a, (k0_off378 i v3863 v3867 v3871 v3875 v3879 v3883 v3887 k0_t3) a + S16x128.size a ≤ S880x5120.size a) ∧
  (∀ k0_t3 : Fin (k0_t3_loop i v3863 v3867 v3871 v3875 v3879 v3883 v3887).trips, ∀ (k0_h3 : k0_cond3 i = 1#1), ∀ a, (k0_off379 i v3863 v3867 v3871 v3875 v3879 v3883 v3887 k0_t3) a + S1x16x128.size a ≤ S41x288x128.size a) ∧
  (∀ k0_t3 : Fin (k0_t3_loop i v3863 v3867 v3871 v3875 v3879 v3883 v3887).trips, ∀ (k0_h3 : k0_cond3 i = 1#1), ∀ (hinb : ∀ a, (k0_off378 i v3863 v3867 v3871 v3875 v3879 v3883 v3887 k0_t3) a + S16x128.size a ≤ S880x5120.size a), (Rect.unit (s := S880x5120) (k0_off378 i v3863 v3867 v3871 v3875 v3879 v3883 v3887 k0_t3) S16x128.size hinb).PackedRows (EltTy.packing .bf16)) ∧
  (∀ k0_t3 : Fin (k0_t3_loop i v3863 v3867 v3871 v3875 v3879 v3883 v3887).trips, ∀ (k0_h3 : k0_cond3 i = 1#1), ∀ a, (k0_off380 i v3863 v3867 v3871 v3875 v3879 v3883 v3887 k0_t3) a + S16x128.size a ≤ S880x5120.size a) ∧
  (∀ k0_t3 : Fin (k0_t3_loop i v3863 v3867 v3871 v3875 v3879 v3883 v3887).trips, ∀ (k0_h3 : k0_cond3 i = 1#1), ∀ a, (k0_off381 i v3863 v3867 v3871 v3875 v3879 v3883 v3887 k0_t3) a + S1x16x128.size a ≤ S41x288x128.size a) ∧
  (∀ k0_t3 : Fin (k0_t3_loop i v3863 v3867 v3871 v3875 v3879 v3883 v3887).trips, ∀ (k0_h3 : k0_cond3 i = 1#1), ∀ (hinb : ∀ a, (k0_off380 i v3863 v3867 v3871 v3875 v3879 v3883 v3887 k0_t3) a + S16x128.size a ≤ S880x5120.size a), (Rect.unit (s := S880x5120) (k0_off380 i v3863 v3867 v3871 v3875 v3879 v3883 v3887 k0_t3) S16x128.size hinb).PackedRows (EltTy.packing .bf16)) ∧
  (∀ k0_t3 : Fin (k0_t3_loop i v3863 v3867 v3871 v3875 v3879 v3883 v3887).trips, ∀ (k0_h3 : k0_cond3 i = 1#1), ∀ a, (k0_off382 i v3863 v3867 v3871 v3875 v3879 v3883 v3887 k0_t3) a + S16x128.size a ≤ S880x5120.size a) ∧
  (∀ k0_t3 : Fin (k0_t3_loop i v3863 v3867 v3871 v3875 v3879 v3883 v3887).trips, ∀ (k0_h3 : k0_cond3 i = 1#1), ∀ a, (k0_off383 i v3863 v3867 v3871 v3875 v3879 v3883 v3887 k0_t3) a + S1x16x128.size a ≤ S41x288x128.size a) ∧
  (∀ k0_t3 : Fin (k0_t3_loop i v3863 v3867 v3871 v3875 v3879 v3883 v3887).trips, ∀ (k0_h3 : k0_cond3 i = 1#1), ∀ (hinb : ∀ a, (k0_off382 i v3863 v3867 v3871 v3875 v3879 v3883 v3887 k0_t3) a + S16x128.size a ≤ S880x5120.size a), (Rect.unit (s := S880x5120) (k0_off382 i v3863 v3867 v3871 v3875 v3879 v3883 v3887 k0_t3) S16x128.size hinb).PackedRows (EltTy.packing .bf16)) ∧
  (∀ k0_t3 : Fin (k0_t3_loop i v3863 v3867 v3871 v3875 v3879 v3883 v3887).trips, ∀ (k0_h3 : k0_cond3 i = 1#1), ∀ a, (k0_off384 i v3863 v3867 v3871 v3875 v3879 v3883 v3887 k0_t3) a + S16x128.size a ≤ S880x5120.size a) ∧
  (∀ k0_t3 : Fin (k0_t3_loop i v3863 v3867 v3871 v3875 v3879 v3883 v3887).trips, ∀ (k0_h3 : k0_cond3 i = 1#1), ∀ a, (k0_off385 i v3863 v3867 v3871 v3875 v3879 v3883 v3887 k0_t3) a + S1x16x128.size a ≤ S41x288x128.size a) ∧
  (∀ k0_t3 : Fin (k0_t3_loop i v3863 v3867 v3871 v3875 v3879 v3883 v3887).trips, ∀ (k0_h3 : k0_cond3 i = 1#1), ∀ (hinb : ∀ a, (k0_off384 i v3863 v3867 v3871 v3875 v3879 v3883 v3887 k0_t3) a + S16x128.size a ≤ S880x5120.size a), (Rect.unit (s := S880x5120) (k0_off384 i v3863 v3867 v3871 v3875 v3879 v3883 v3887 k0_t3) S16x128.size hinb).PackedRows (EltTy.packing .bf16)) ∧
  (∀ k0_t3 : Fin (k0_t3_loop i v3863 v3867 v3871 v3875 v3879 v3883 v3887).trips, ∀ (k0_h3 : k0_cond3 i = 1#1), ∀ a, (k0_off386 i v3863 v3867 v3871 v3875 v3879 v3883 v3887 k0_t3) a + S16x128.size a ≤ S880x5120.size a) ∧
  (∀ k0_t3 : Fin (k0_t3_loop i v3863 v3867 v3871 v3875 v3879 v3883 v3887).trips, ∀ (k0_h3 : k0_cond3 i = 1#1), ∀ a, (k0_off387 i v3863 v3867 v3871 v3875 v3879 v3883 v3887 k0_t3) a + S1x16x128.size a ≤ S41x288x128.size a) ∧
  (∀ k0_t3 : Fin (k0_t3_loop i v3863 v3867 v3871 v3875 v3879 v3883 v3887).trips, ∀ (k0_h3 : k0_cond3 i = 1#1), ∀ (hinb : ∀ a, (k0_off386 i v3863 v3867 v3871 v3875 v3879 v3883 v3887 k0_t3) a + S16x128.size a ≤ S880x5120.size a), (Rect.unit (s := S880x5120) (k0_off386 i v3863 v3867 v3871 v3875 v3879 v3883 v3887 k0_t3) S16x128.size hinb).PackedRows (EltTy.packing .bf16)) ∧
  (∀ k0_t3 : Fin (k0_t3_loop i v3863 v3867 v3871 v3875 v3879 v3883 v3887).trips, ∀ (k0_h3 : k0_cond3 i = 1#1), ∀ a, (k0_off388 i v3863 v3867 v3871 v3875 v3879 v3883 v3887 k0_t3) a + S16x128.size a ≤ S880x5120.size a)
def k0_chk1_3 (i : grid0.Coords) (v3863 : BitVec 32) (v3867 : BitVec 32) (v3871 : BitVec 32) (v3875 : BitVec 32) (v3879 : BitVec 32) (v3883 : BitVec 32) (v3887 : BitVec 32) : Prop :=
  (∀ k0_t3 : Fin (k0_t3_loop i v3863 v3867 v3871 v3875 v3879 v3883 v3887).trips, ∀ (k0_h3 : k0_cond3 i = 1#1), ∀ a, (k0_off389 i v3863 v3867 v3871 v3875 v3879 v3883 v3887 k0_t3) a + S1x16x128.size a ≤ S41x288x128.size a) ∧
  (∀ k0_t3 : Fin (k0_t3_loop i v3863 v3867 v3871 v3875 v3879 v3883 v3887).trips, ∀ (k0_h3 : k0_cond3 i = 1#1), ∀ (hinb : ∀ a, (k0_off388 i v3863 v3867 v3871 v3875 v3879 v3883 v3887 k0_t3) a + S16x128.size a ≤ S880x5120.size a), (Rect.unit (s := S880x5120) (k0_off388 i v3863 v3867 v3871 v3875 v3879 v3883 v3887 k0_t3) S16x128.size hinb).PackedRows (EltTy.packing .bf16)) ∧
  (∀ k0_t3 : Fin (k0_t3_loop i v3863 v3867 v3871 v3875 v3879 v3883 v3887).trips, ∀ (k0_h3 : k0_cond3 i = 1#1), ∀ a, (k0_off390 i v3863 v3867 v3871 v3875 v3879 v3883 v3887 k0_t3) a + S16x128.size a ≤ S880x5120.size a) ∧
  (∀ k0_t3 : Fin (k0_t3_loop i v3863 v3867 v3871 v3875 v3879 v3883 v3887).trips, ∀ (k0_h3 : k0_cond3 i = 1#1), ∀ a, (k0_off391 i v3863 v3867 v3871 v3875 v3879 v3883 v3887 k0_t3) a + S1x16x128.size a ≤ S41x288x128.size a) ∧
  (∀ k0_t3 : Fin (k0_t3_loop i v3863 v3867 v3871 v3875 v3879 v3883 v3887).trips, ∀ (k0_h3 : k0_cond3 i = 1#1), ∀ (hinb : ∀ a, (k0_off390 i v3863 v3867 v3871 v3875 v3879 v3883 v3887 k0_t3) a + S16x128.size a ≤ S880x5120.size a), (Rect.unit (s := S880x5120) (k0_off390 i v3863 v3867 v3871 v3875 v3879 v3883 v3887 k0_t3) S16x128.size hinb).PackedRows (EltTy.packing .bf16)) ∧
  (∀ k0_t3 : Fin (k0_t3_loop i v3863 v3867 v3871 v3875 v3879 v3883 v3887).trips, ∀ (k0_h3 : k0_cond3 i = 1#1), ∀ a, (k0_off392 i v3863 v3867 v3871 v3875 v3879 v3883 v3887 k0_t3) a + S16x128.size a ≤ S880x5120.size a) ∧
  (∀ k0_t3 : Fin (k0_t3_loop i v3863 v3867 v3871 v3875 v3879 v3883 v3887).trips, ∀ (k0_h3 : k0_cond3 i = 1#1), ∀ a, (k0_off393 i v3863 v3867 v3871 v3875 v3879 v3883 v3887 k0_t3) a + S1x16x128.size a ≤ S41x288x128.size a) ∧
  (∀ k0_t3 : Fin (k0_t3_loop i v3863 v3867 v3871 v3875 v3879 v3883 v3887).trips, ∀ (k0_h3 : k0_cond3 i = 1#1), ∀ (hinb : ∀ a, (k0_off392 i v3863 v3867 v3871 v3875 v3879 v3883 v3887 k0_t3) a + S16x128.size a ≤ S880x5120.size a), (Rect.unit (s := S880x5120) (k0_off392 i v3863 v3867 v3871 v3875 v3879 v3883 v3887 k0_t3) S16x128.size hinb).PackedRows (EltTy.packing .bf16)) ∧
  (∀ k0_t3 : Fin (k0_t3_loop i v3863 v3867 v3871 v3875 v3879 v3883 v3887).trips, ∀ (k0_h3 : k0_cond3 i = 1#1), ∀ a, (k0_off394 i v3863 v3867 v3871 v3875 v3879 v3883 v3887 k0_t3) a + S16x128.size a ≤ S880x5120.size a) ∧
  (∀ k0_t3 : Fin (k0_t3_loop i v3863 v3867 v3871 v3875 v3879 v3883 v3887).trips, ∀ (k0_h3 : k0_cond3 i = 1#1), ∀ a, (k0_off395 i v3863 v3867 v3871 v3875 v3879 v3883 v3887 k0_t3) a + S1x16x128.size a ≤ S41x288x128.size a) ∧
  (∀ k0_t3 : Fin (k0_t3_loop i v3863 v3867 v3871 v3875 v3879 v3883 v3887).trips, ∀ (k0_h3 : k0_cond3 i = 1#1), ∀ (hinb : ∀ a, (k0_off394 i v3863 v3867 v3871 v3875 v3879 v3883 v3887 k0_t3) a + S16x128.size a ≤ S880x5120.size a), (Rect.unit (s := S880x5120) (k0_off394 i v3863 v3867 v3871 v3875 v3879 v3883 v3887 k0_t3) S16x128.size hinb).PackedRows (EltTy.packing .bf16)) ∧
  (∀ k0_t3 : Fin (k0_t3_loop i v3863 v3867 v3871 v3875 v3879 v3883 v3887).trips, ∀ (k0_h3 : k0_cond3 i = 1#1), ∀ a, (k0_off396 i v3863 v3867 v3871 v3875 v3879 v3883 v3887 k0_t3) a + S16x128.size a ≤ S880x5120.size a) ∧
  (∀ k0_t3 : Fin (k0_t3_loop i v3863 v3867 v3871 v3875 v3879 v3883 v3887).trips, ∀ (k0_h3 : k0_cond3 i = 1#1), ∀ a, (k0_off397 i v3863 v3867 v3871 v3875 v3879 v3883 v3887 k0_t3) a + S1x16x128.size a ≤ S41x288x128.size a) ∧
  (∀ k0_t3 : Fin (k0_t3_loop i v3863 v3867 v3871 v3875 v3879 v3883 v3887).trips, ∀ (k0_h3 : k0_cond3 i = 1#1), ∀ (hinb : ∀ a, (k0_off396 i v3863 v3867 v3871 v3875 v3879 v3883 v3887 k0_t3) a + S16x128.size a ≤ S880x5120.size a), (Rect.unit (s := S880x5120) (k0_off396 i v3863 v3867 v3871 v3875 v3879 v3883 v3887 k0_t3) S16x128.size hinb).PackedRows (EltTy.packing .bf16)) ∧
  (∀ k0_t3 : Fin (k0_t3_loop i v3863 v3867 v3871 v3875 v3879 v3883 v3887).trips, ∀ (k0_h3 : k0_cond3 i = 1#1), ∀ a, (k0_off398 i v3863 v3867 v3871 v3875 v3879 v3883 v3887 k0_t3) a + S16x128.size a ≤ S880x5120.size a) ∧
  (∀ k0_t3 : Fin (k0_t3_loop i v3863 v3867 v3871 v3875 v3879 v3883 v3887).trips, ∀ (k0_h3 : k0_cond3 i = 1#1), ∀ a, (k0_off399 i v3863 v3867 v3871 v3875 v3879 v3883 v3887 k0_t3) a + S1x16x128.size a ≤ S41x288x128.size a) ∧
  (∀ k0_t3 : Fin (k0_t3_loop i v3863 v3867 v3871 v3875 v3879 v3883 v3887).trips, ∀ (k0_h3 : k0_cond3 i = 1#1), ∀ (hinb : ∀ a, (k0_off398 i v3863 v3867 v3871 v3875 v3879 v3883 v3887 k0_t3) a + S16x128.size a ≤ S880x5120.size a), (Rect.unit (s := S880x5120) (k0_off398 i v3863 v3867 v3871 v3875 v3879 v3883 v3887 k0_t3) S16x128.size hinb).PackedRows (EltTy.packing .bf16)) ∧
  (∀ k0_t3 : Fin (k0_t3_loop i v3863 v3867 v3871 v3875 v3879 v3883 v3887).trips, ∀ (k0_h3 : k0_cond3 i = 1#1), ∀ a, (k0_off400 i v3863 v3867 v3871 v3875 v3879 v3883 v3887 k0_t3) a + S16x128.size a ≤ S880x5120.size a) ∧
  (∀ k0_t3 : Fin (k0_t3_loop i v3863 v3867 v3871 v3875 v3879 v3883 v3887).trips, ∀ (k0_h3 : k0_cond3 i = 1#1), ∀ a, (k0_off401 i v3863 v3867 v3871 v3875 v3879 v3883 v3887 k0_t3) a + S1x16x128.size a ≤ S41x288x128.size a) ∧
  (∀ k0_t3 : Fin (k0_t3_loop i v3863 v3867 v3871 v3875 v3879 v3883 v3887).trips, ∀ (k0_h3 : k0_cond3 i = 1#1), ∀ (hinb : ∀ a, (k0_off400 i v3863 v3867 v3871 v3875 v3879 v3883 v3887 k0_t3) a + S16x128.size a ≤ S880x5120.size a), (Rect.unit (s := S880x5120) (k0_off400 i v3863 v3867 v3871 v3875 v3879 v3883 v3887 k0_t3) S16x128.size hinb).PackedRows (EltTy.packing .bf16)) ∧
  (∀ k0_t3 : Fin (k0_t3_loop i v3863 v3867 v3871 v3875 v3879 v3883 v3887).trips, ∀ (k0_h3 : k0_cond3 i = 1#1), ∀ a, (k0_off402 i v3863 v3867 v3871 v3875 v3879 v3883 v3887 k0_t3) a + S16x128.size a ≤ S880x5120.size a) ∧
  (∀ k0_t3 : Fin (k0_t3_loop i v3863 v3867 v3871 v3875 v3879 v3883 v3887).trips, ∀ (k0_h3 : k0_cond3 i = 1#1), ∀ a, (k0_off403 i v3863 v3867 v3871 v3875 v3879 v3883 v3887 k0_t3) a + S1x16x128.size a ≤ S41x288x128.size a) ∧
  (∀ k0_t3 : Fin (k0_t3_loop i v3863 v3867 v3871 v3875 v3879 v3883 v3887).trips, ∀ (k0_h3 : k0_cond3 i = 1#1), ∀ (hinb : ∀ a, (k0_off402 i v3863 v3867 v3871 v3875 v3879 v3883 v3887 k0_t3) a + S16x128.size a ≤ S880x5120.size a), (Rect.unit (s := S880x5120) (k0_off402 i v3863 v3867 v3871 v3875 v3879 v3883 v3887 k0_t3) S16x128.size hinb).PackedRows (EltTy.packing .bf16)) ∧
  (∀ k0_t3 : Fin (k0_t3_loop i v3863 v3867 v3871 v3875 v3879 v3883 v3887).trips, ∀ (k0_h3 : k0_cond3 i = 1#1), ∀ a, (k0_off404 i v3863 v3867 v3871 v3875 v3879 v3883 v3887 k0_t3) a + S16x128.size a ≤ S880x5120.size a) ∧
  (∀ k0_t3 : Fin (k0_t3_loop i v3863 v3867 v3871 v3875 v3879 v3883 v3887).trips, ∀ (k0_h3 : k0_cond3 i = 1#1), ∀ a, (k0_off405 i v3863 v3867 v3871 v3875 v3879 v3883 v3887 k0_t3) a + S1x16x128.size a ≤ S41x288x128.size a) ∧
  (∀ k0_t3 : Fin (k0_t3_loop i v3863 v3867 v3871 v3875 v3879 v3883 v3887).trips, ∀ (k0_h3 : k0_cond3 i = 1#1), ∀ (hinb : ∀ a, (k0_off404 i v3863 v3867 v3871 v3875 v3879 v3883 v3887 k0_t3) a + S16x128.size a ≤ S880x5120.size a), (Rect.unit (s := S880x5120) (k0_off404 i v3863 v3867 v3871 v3875 v3879 v3883 v3887 k0_t3) S16x128.size hinb).PackedRows (EltTy.packing .bf16)) ∧
  (∀ k0_t3 : Fin (k0_t3_loop i v3863 v3867 v3871 v3875 v3879 v3883 v3887).trips, ∀ (k0_h3 : k0_cond3 i = 1#1), ∀ a, (k0_off406 i v3863 v3867 v3871 v3875 v3879 v3883 v3887 k0_t3) a + S1x16x128.size a ≤ S41x288x128.size a) ∧
  (∀ k0_t3 : Fin (k0_t3_loop i v3863 v3867 v3871 v3875 v3879 v3883 v3887).trips, ∀ (k0_h3 : k0_cond3 i = 1#1), ∀ a, (k0_off407 i v3863 v3867 v3871 v3875 v3879 v3883 v3887 k0_t3) a + S16x128.size a ≤ S880x128.size a) ∧
  (∀ (k0_h3 : k0_cond3 i = 1#1), (k0_t4_loop i v3863 v3867 v3871 v3875 v3879 v3883 v3887).OK) ∧
  (∀ k0_t4 : Fin (k0_t4_loop i v3863 v3867 v3871 v3875 v3879 v3883 v3887).trips, ∀ (k0_h3 : k0_cond3 i = 1#1), 16 ∣ (k0_mult5 i v3863 v3867 v3871 v3875 v3879 v3883 v3887 k0_t4).toNat) ∧
  (∀ k0_t4 : Fin (k0_t4_loop i v3863 v3867 v3871 v3875 v3879 v3883 v3887).trips, ∀ (k0_h3 : k0_cond3 i = 1#1), ∀ a, (k0_off408 i v3863 v3867 v3871 v3875 v3879 v3883 v3887 k0_t4) a + S16x128.size a ≤ S880x5120.size a) ∧
  (∀ k0_t4 : Fin (k0_t4_loop i v3863 v3867 v3871 v3875 v3879 v3883 v3887).trips, ∀ (k0_h3 : k0_cond3 i = 1#1), ∀ a, (k0_off409 i v3863 v3867 v3871 v3875 v3879 v3883 v3887 k0_t4) a + S1x16x128.size a ≤ S41x288x128.size a)
def k0_chk1_4 (i : grid0.Coords) (v3863 : BitVec 32) (v3867 : BitVec 32) (v3871 : BitVec 32) (v3875 : BitVec 32) (v3879 : BitVec 32) (v3883 : BitVec 32) (v3887 : BitVec 32) : Prop :=
  (∀ k0_t4 : Fin (k0_t4_loop i v3863 v3867 v3871 v3875 v3879 v3883 v3887).trips, ∀ (k0_h3 : k0_cond3 i = 1#1), ∀ (hinb : ∀ a, (k0_off408 i v3863 v3867 v3871 v3875 v3879 v3883 v3887 k0_t4) a + S16x128.size a ≤ S880x5120.size a), (Rect.unit (s := S880x5120) (k0_off408 i v3863 v3867 v3871 v3875 v3879 v3883 v3887 k0_t4) S16x128.size hinb).PackedRows (EltTy.packing .bf16)) ∧
  (∀ k0_t4 : Fin (k0_t4_loop i v3863 v3867 v3871 v3875 v3879 v3883 v3887).trips, ∀ (k0_h3 : k0_cond3 i = 1#1), ∀ a, (k0_off410 i v3863 v3867 v3871 v3875 v3879 v3883 v3887 k0_t4) a + S16x128.size a ≤ S880x5120.size a) ∧
  (∀ k0_t4 : Fin (k0_t4_loop i v3863 v3867 v3871 v3875 v3879 v3883 v3887).trips, ∀ (k0_h3 : k0_cond3 i = 1#1), ∀ a, (k0_off411 i v3863 v3867 v3871 v3875 v3879 v3883 v3887 k0_t4) a + S1x16x128.size a ≤ S41x288x128.size a) ∧
  (∀ k0_t4 : Fin (k0_t4_loop i v3863 v3867 v3871 v3875 v3879 v3883 v3887).trips, ∀ (k0_h3 : k0_cond3 i = 1#1), ∀ (hinb : ∀ a, (k0_off410 i v3863 v3867 v3871 v3875 v3879 v3883 v3887 k0_t4) a + S16x128.size a ≤ S880x5120.size a), (Rect.unit (s := S880x5120) (k0_off410 i v3863 v3867 v3871 v3875 v3879 v3883 v3887 k0_t4) S16x128.size hinb).PackedRows (EltTy.packing .bf16)) ∧
  (∀ k0_t4 : Fin (k0_t4_loop i v3863 v3867 v3871 v3875 v3879 v3883 v3887).trips, ∀ (k0_h3 : k0_cond3 i = 1#1), ∀ a, (k0_off412 i v3863 v3867 v3871 v3875 v3879 v3883 v3887 k0_t4) a + S16x128.size a ≤ S880x5120.size a) ∧
  (∀ k0_t4 : Fin (k0_t4_loop i v3863 v3867 v3871 v3875 v3879 v3883 v3887).trips, ∀ (k0_h3 : k0_cond3 i = 1#1), ∀ a, (k0_off413 i v3863 v3867 v3871 v3875 v3879 v3883 v3887 k0_t4) a + S1x16x128.size a ≤ S41x288x128.size a) ∧
  (∀ k0_t4 : Fin (k0_t4_loop i v3863 v3867 v3871 v3875 v3879 v3883 v3887).trips, ∀ (k0_h3 : k0_cond3 i = 1#1), ∀ (hinb : ∀ a, (k0_off412 i v3863 v3867 v3871 v3875 v3879 v3883 v3887 k0_t4) a + S16x128.size a ≤ S880x5120.size a), (Rect.unit (s := S880x5120) (k0_off412 i v3863 v3867 v3871 v3875 v3879 v3883 v3887 k0_t4) S16x128.size hinb).PackedRows (EltTy.packing .bf16)) ∧
  (∀ k0_t4 : Fin (k0_t4_loop i v3863 v3867 v3871 v3875 v3879 v3883 v3887).trips, ∀ (k0_h3 : k0_cond3 i = 1#1), ∀ a, (k0_off414 i v3863 v3867 v3871 v3875 v3879 v3883 v3887 k0_t4) a + S16x128.size a ≤ S880x5120.size a) ∧
  (∀ k0_t4 : Fin (k0_t4_loop i v3863 v3867 v3871 v3875 v3879 v3883 v3887).trips, ∀ (k0_h3 : k0_cond3 i = 1#1), ∀ a, (k0_off415 i v3863 v3867 v3871 v3875 v3879 v3883 v3887 k0_t4) a + S1x16x128.size a ≤ S41x288x128.size a) ∧
  (∀ k0_t4 : Fin (k0_t4_loop i v3863 v3867 v3871 v3875 v3879 v3883 v3887).trips, ∀ (k0_h3 : k0_cond3 i = 1#1), ∀ (hinb : ∀ a, (k0_off414 i v3863 v3867 v3871 v3875 v3879 v3883 v3887 k0_t4) a + S16x128.size a ≤ S880x5120.size a), (Rect.unit (s := S880x5120) (k0_off414 i v3863 v3867 v3871 v3875 v3879 v3883 v3887 k0_t4) S16x128.size hinb).PackedRows (EltTy.packing .bf16)) ∧
  (∀ k0_t4 : Fin (k0_t4_loop i v3863 v3867 v3871 v3875 v3879 v3883 v3887).trips, ∀ (k0_h3 : k0_cond3 i = 1#1), ∀ a, (k0_off416 i v3863 v3867 v3871 v3875 v3879 v3883 v3887 k0_t4) a + S16x128.size a ≤ S880x5120.size a) ∧
  (∀ k0_t4 : Fin (k0_t4_loop i v3863 v3867 v3871 v3875 v3879 v3883 v3887).trips, ∀ (k0_h3 : k0_cond3 i = 1#1), ∀ a, (k0_off417 i v3863 v3867 v3871 v3875 v3879 v3883 v3887 k0_t4) a + S1x16x128.size a ≤ S41x288x128.size a) ∧
  (∀ k0_t4 : Fin (k0_t4_loop i v3863 v3867 v3871 v3875 v3879 v3883 v3887).trips, ∀ (k0_h3 : k0_cond3 i = 1#1), ∀ (hinb : ∀ a, (k0_off416 i v3863 v3867 v3871 v3875 v3879 v3883 v3887 k0_t4) a + S16x128.size a ≤ S880x5120.size a), (Rect.unit (s := S880x5120) (k0_off416 i v3863 v3867 v3871 v3875 v3879 v3883 v3887 k0_t4) S16x128.size hinb).PackedRows (EltTy.packing .bf16)) ∧
  (∀ k0_t4 : Fin (k0_t4_loop i v3863 v3867 v3871 v3875 v3879 v3883 v3887).trips, ∀ (k0_h3 : k0_cond3 i = 1#1), ∀ a, (k0_off418 i v3863 v3867 v3871 v3875 v3879 v3883 v3887 k0_t4) a + S16x128.size a ≤ S880x5120.size a) ∧
  (∀ k0_t4 : Fin (k0_t4_loop i v3863 v3867 v3871 v3875 v3879 v3883 v3887).trips, ∀ (k0_h3 : k0_cond3 i = 1#1), ∀ a, (k0_off419 i v3863 v3867 v3871 v3875 v3879 v3883 v3887 k0_t4) a + S1x16x128.size a ≤ S41x288x128.size a) ∧
  (∀ k0_t4 : Fin (k0_t4_loop i v3863 v3867 v3871 v3875 v3879 v3883 v3887).trips, ∀ (k0_h3 : k0_cond3 i = 1#1), ∀ (hinb : ∀ a, (k0_off418 i v3863 v3867 v3871 v3875 v3879 v3883 v3887 k0_t4) a + S16x128.size a ≤ S880x5120.size a), (Rect.unit (s := S880x5120) (k0_off418 i v3863 v3867 v3871 v3875 v3879 v3883 v3887 k0_t4) S16x128.size hinb).PackedRows (EltTy.packing .bf16)) ∧
  (∀ k0_t4 : Fin (k0_t4_loop i v3863 v3867 v3871 v3875 v3879 v3883 v3887).trips, ∀ (k0_h3 : k0_cond3 i = 1#1), ∀ a, (k0_off420 i v3863 v3867 v3871 v3875 v3879 v3883 v3887 k0_t4) a + S16x128.size a ≤ S880x5120.size a) ∧
  (∀ k0_t4 : Fin (k0_t4_loop i v3863 v3867 v3871 v3875 v3879 v3883 v3887).trips, ∀ (k0_h3 : k0_cond3 i = 1#1), ∀ a, (k0_off421 i v3863 v3867 v3871 v3875 v3879 v3883 v3887 k0_t4) a + S1x16x128.size a ≤ S41x288x128.size a) ∧
  (∀ k0_t4 : Fin (k0_t4_loop i v3863 v3867 v3871 v3875 v3879 v3883 v3887).trips, ∀ (k0_h3 : k0_cond3 i = 1#1), ∀ (hinb : ∀ a, (k0_off420 i v3863 v3867 v3871 v3875 v3879 v3883 v3887 k0_t4) a + S16x128.size a ≤ S880x5120.size a), (Rect.unit (s := S880x5120) (k0_off420 i v3863 v3867 v3871 v3875 v3879 v3883 v3887 k0_t4) S16x128.size hinb).PackedRows (EltTy.packing .bf16)) ∧
  (∀ k0_t4 : Fin (k0_t4_loop i v3863 v3867 v3871 v3875 v3879 v3883 v3887).trips, ∀ (k0_h3 : k0_cond3 i = 1#1), ∀ a, (k0_off422 i v3863 v3867 v3871 v3875 v3879 v3883 v3887 k0_t4) a + S16x128.size a ≤ S880x5120.size a) ∧
  (∀ k0_t4 : Fin (k0_t4_loop i v3863 v3867 v3871 v3875 v3879 v3883 v3887).trips, ∀ (k0_h3 : k0_cond3 i = 1#1), ∀ a, (k0_off423 i v3863 v3867 v3871 v3875 v3879 v3883 v3887 k0_t4) a + S1x16x128.size a ≤ S41x288x128.size a) ∧
  (∀ k0_t4 : Fin (k0_t4_loop i v3863 v3867 v3871 v3875 v3879 v3883 v3887).trips, ∀ (k0_h3 : k0_cond3 i = 1#1), ∀ (hinb : ∀ a, (k0_off422 i v3863 v3867 v3871 v3875 v3879 v3883 v3887 k0_t4) a + S16x128.size a ≤ S880x5120.size a), (Rect.unit (s := S880x5120) (k0_off422 i v3863 v3867 v3871 v3875 v3879 v3883 v3887 k0_t4) S16x128.size hinb).PackedRows (EltTy.packing .bf16)) ∧
  (∀ k0_t4 : Fin (k0_t4_loop i v3863 v3867 v3871 v3875 v3879 v3883 v3887).trips, ∀ (k0_h3 : k0_cond3 i = 1#1), ∀ a, (k0_off424 i v3863 v3867 v3871 v3875 v3879 v3883 v3887 k0_t4) a + S16x128.size a ≤ S880x5120.size a) ∧
  (∀ k0_t4 : Fin (k0_t4_loop i v3863 v3867 v3871 v3875 v3879 v3883 v3887).trips, ∀ (k0_h3 : k0_cond3 i = 1#1), ∀ a, (k0_off425 i v3863 v3867 v3871 v3875 v3879 v3883 v3887 k0_t4) a + S1x16x128.size a ≤ S41x288x128.size a) ∧
  (∀ k0_t4 : Fin (k0_t4_loop i v3863 v3867 v3871 v3875 v3879 v3883 v3887).trips, ∀ (k0_h3 : k0_cond3 i = 1#1), ∀ (hinb : ∀ a, (k0_off424 i v3863 v3867 v3871 v3875 v3879 v3883 v3887 k0_t4) a + S16x128.size a ≤ S880x5120.size a), (Rect.unit (s := S880x5120) (k0_off424 i v3863 v3867 v3871 v3875 v3879 v3883 v3887 k0_t4) S16x128.size hinb).PackedRows (EltTy.packing .bf16)) ∧
  (∀ k0_t4 : Fin (k0_t4_loop i v3863 v3867 v3871 v3875 v3879 v3883 v3887).trips, ∀ (k0_h3 : k0_cond3 i = 1#1), ∀ a, (k0_off426 i v3863 v3867 v3871 v3875 v3879 v3883 v3887 k0_t4) a + S16x128.size a ≤ S880x5120.size a) ∧
  (∀ k0_t4 : Fin (k0_t4_loop i v3863 v3867 v3871 v3875 v3879 v3883 v3887).trips, ∀ (k0_h3 : k0_cond3 i = 1#1), ∀ a, (k0_off427 i v3863 v3867 v3871 v3875 v3879 v3883 v3887 k0_t4) a + S1x16x128.size a ≤ S41x288x128.size a) ∧
  (∀ k0_t4 : Fin (k0_t4_loop i v3863 v3867 v3871 v3875 v3879 v3883 v3887).trips, ∀ (k0_h3 : k0_cond3 i = 1#1), ∀ (hinb : ∀ a, (k0_off426 i v3863 v3867 v3871 v3875 v3879 v3883 v3887 k0_t4) a + S16x128.size a ≤ S880x5120.size a), (Rect.unit (s := S880x5120) (k0_off426 i v3863 v3867 v3871 v3875 v3879 v3883 v3887 k0_t4) S16x128.size hinb).PackedRows (EltTy.packing .bf16)) ∧
  (∀ k0_t4 : Fin (k0_t4_loop i v3863 v3867 v3871 v3875 v3879 v3883 v3887).trips, ∀ (k0_h3 : k0_cond3 i = 1#1), ∀ a, (k0_off428 i v3863 v3867 v3871 v3875 v3879 v3883 v3887 k0_t4) a + S16x128.size a ≤ S880x5120.size a) ∧
  (∀ k0_t4 : Fin (k0_t4_loop i v3863 v3867 v3871 v3875 v3879 v3883 v3887).trips, ∀ (k0_h3 : k0_cond3 i = 1#1), ∀ a, (k0_off429 i v3863 v3867 v3871 v3875 v3879 v3883 v3887 k0_t4) a + S1x16x128.size a ≤ S41x288x128.size a) ∧
  (∀ k0_t4 : Fin (k0_t4_loop i v3863 v3867 v3871 v3875 v3879 v3883 v3887).trips, ∀ (k0_h3 : k0_cond3 i = 1#1), ∀ (hinb : ∀ a, (k0_off428 i v3863 v3867 v3871 v3875 v3879 v3883 v3887 k0_t4) a + S16x128.size a ≤ S880x5120.size a), (Rect.unit (s := S880x5120) (k0_off428 i v3863 v3867 v3871 v3875 v3879 v3883 v3887 k0_t4) S16x128.size hinb).PackedRows (EltTy.packing .bf16)) ∧
  (∀ k0_t4 : Fin (k0_t4_loop i v3863 v3867 v3871 v3875 v3879 v3883 v3887).trips, ∀ (k0_h3 : k0_cond3 i = 1#1), ∀ a, (k0_off430 i v3863 v3867 v3871 v3875 v3879 v3883 v3887 k0_t4) a + S16x128.size a ≤ S880x5120.size a)
def k0_chk1_5 (i : grid0.Coords) (v3863 : BitVec 32) (v3867 : BitVec 32) (v3871 : BitVec 32) (v3875 : BitVec 32) (v3879 : BitVec 32) (v3883 : BitVec 32) (v3887 : BitVec 32) : Prop :=
  (∀ k0_t4 : Fin (k0_t4_loop i v3863 v3867 v3871 v3875 v3879 v3883 v3887).trips, ∀ (k0_h3 : k0_cond3 i = 1#1), ∀ a, (k0_off431 i v3863 v3867 v3871 v3875 v3879 v3883 v3887 k0_t4) a + S1x16x128.size a ≤ S41x288x128.size a) ∧
  (∀ k0_t4 : Fin (k0_t4_loop i v3863 v3867 v3871 v3875 v3879 v3883 v3887).trips, ∀ (k0_h3 : k0_cond3 i = 1#1), ∀ (hinb : ∀ a, (k0_off430 i v3863 v3867 v3871 v3875 v3879 v3883 v3887 k0_t4) a + S16x128.size a ≤ S880x5120.size a), (Rect.unit (s := S880x5120) (k0_off430 i v3863 v3867 v3871 v3875 v3879 v3883 v3887 k0_t4) S16x128.size hinb).PackedRows (EltTy.packing .bf16)) ∧
  (∀ k0_t4 : Fin (k0_t4_loop i v3863 v3867 v3871 v3875 v3879 v3883 v3887).trips, ∀ (k0_h3 : k0_cond3 i = 1#1), ∀ a, (k0_off432 i v3863 v3867 v3871 v3875 v3879 v3883 v3887 k0_t4) a + S16x128.size a ≤ S880x5120.size a) ∧
  (∀ k0_t4 : Fin (k0_t4_loop i v3863 v3867 v3871 v3875 v3879 v3883 v3887).trips, ∀ (k0_h3 : k0_cond3 i = 1#1), ∀ a, (k0_off433 i v3863 v3867 v3871 v3875 v3879 v3883 v3887 k0_t4) a + S1x16x128.size a ≤ S41x288x128.size a) ∧
  (∀ k0_t4 : Fin (k0_t4_loop i v3863 v3867 v3871 v3875 v3879 v3883 v3887).trips, ∀ (k0_h3 : k0_cond3 i = 1#1), ∀ (hinb : ∀ a, (k0_off432 i v3863 v3867 v3871 v3875 v3879 v3883 v3887 k0_t4) a + S16x128.size a ≤ S880x5120.size a), (Rect.unit (s := S880x5120) (k0_off432 i v3863 v3867 v3871 v3875 v3879 v3883 v3887 k0_t4) S16x128.size hinb).PackedRows (EltTy.packing .bf16)) ∧
  (∀ k0_t4 : Fin (k0_t4_loop i v3863 v3867 v3871 v3875 v3879 v3883 v3887).trips, ∀ (k0_h3 : k0_cond3 i = 1#1), ∀ a, (k0_off434 i v3863 v3867 v3871 v3875 v3879 v3883 v3887 k0_t4) a + S16x128.size a ≤ S880x5120.size a) ∧
  (∀ k0_t4 : Fin (k0_t4_loop i v3863 v3867 v3871 v3875 v3879 v3883 v3887).trips, ∀ (k0_h3 : k0_cond3 i = 1#1), ∀ a, (k0_off435 i v3863 v3867 v3871 v3875 v3879 v3883 v3887 k0_t4) a + S1x16x128.size a ≤ S41x288x128.size a) ∧
  (∀ k0_t4 : Fin (k0_t4_loop i v3863 v3867 v3871 v3875 v3879 v3883 v3887).trips, ∀ (k0_h3 : k0_cond3 i = 1#1), ∀ (hinb : ∀ a, (k0_off434 i v3863 v3867 v3871 v3875 v3879 v3883 v3887 k0_t4) a + S16x128.size a ≤ S880x5120.size a), (Rect.unit (s := S880x5120) (k0_off434 i v3863 v3867 v3871 v3875 v3879 v3883 v3887 k0_t4) S16x128.size hinb).PackedRows (EltTy.packing .bf16)) ∧
  (∀ k0_t4 : Fin (k0_t4_loop i v3863 v3867 v3871 v3875 v3879 v3883 v3887).trips, ∀ (k0_h3 : k0_cond3 i = 1#1), ∀ a, (k0_off436 i v3863 v3867 v3871 v3875 v3879 v3883 v3887 k0_t4) a + S16x128.size a ≤ S880x5120.size a) ∧
  (∀ k0_t4 : Fin (k0_t4_loop i v3863 v3867 v3871 v3875 v3879 v3883 v3887).trips, ∀ (k0_h3 : k0_cond3 i = 1#1), ∀ a, (k0_off437 i v3863 v3867 v3871 v3875 v3879 v3883 v3887 k0_t4) a + S1x16x128.size a ≤ S41x288x128.size a) ∧
  (∀ k0_t4 : Fin (k0_t4_loop i v3863 v3867 v3871 v3875 v3879 v3883 v3887).trips, ∀ (k0_h3 : k0_cond3 i = 1#1), ∀ (hinb : ∀ a, (k0_off436 i v3863 v3867 v3871 v3875 v3879 v3883 v3887 k0_t4) a + S16x128.size a ≤ S880x5120.size a), (Rect.unit (s := S880x5120) (k0_off436 i v3863 v3867 v3871 v3875 v3879 v3883 v3887 k0_t4) S16x128.size hinb).PackedRows (EltTy.packing .bf16)) ∧
  (∀ k0_t4 : Fin (k0_t4_loop i v3863 v3867 v3871 v3875 v3879 v3883 v3887).trips, ∀ (k0_h3 : k0_cond3 i = 1#1), ∀ a, (k0_off438 i v3863 v3867 v3871 v3875 v3879 v3883 v3887 k0_t4) a + S16x128.size a ≤ S880x5120.size a) ∧
  (∀ k0_t4 : Fin (k0_t4_loop i v3863 v3867 v3871 v3875 v3879 v3883 v3887).trips, ∀ (k0_h3 : k0_cond3 i = 1#1), ∀ a, (k0_off439 i v3863 v3867 v3871 v3875 v3879 v3883 v3887 k0_t4) a + S1x16x128.size a ≤ S41x288x128.size a) ∧
  (∀ k0_t4 : Fin (k0_t4_loop i v3863 v3867 v3871 v3875 v3879 v3883 v3887).trips, ∀ (k0_h3 : k0_cond3 i = 1#1), ∀ (hinb : ∀ a, (k0_off438 i v3863 v3867 v3871 v3875 v3879 v3883 v3887 k0_t4) a + S16x128.size a ≤ S880x5120.size a), (Rect.unit (s := S880x5120) (k0_off438 i v3863 v3867 v3871 v3875 v3879 v3883 v3887 k0_t4) S16x128.size hinb).PackedRows (EltTy.packing .bf16)) ∧
  (∀ k0_t4 : Fin (k0_t4_loop i v3863 v3867 v3871 v3875 v3879 v3883 v3887).trips, ∀ (k0_h3 : k0_cond3 i = 1#1), ∀ a, (k0_off440 i v3863 v3867 v3871 v3875 v3879 v3883 v3887 k0_t4) a + S16x128.size a ≤ S880x5120.size a) ∧
  (∀ k0_t4 : Fin (k0_t4_loop i v3863 v3867 v3871 v3875 v3879 v3883 v3887).trips, ∀ (k0_h3 : k0_cond3 i = 1#1), ∀ a, (k0_off441 i v3863 v3867 v3871 v3875 v3879 v3883 v3887 k0_t4) a + S1x16x128.size a ≤ S41x288x128.size a) ∧
  (∀ k0_t4 : Fin (k0_t4_loop i v3863 v3867 v3871 v3875 v3879 v3883 v3887).trips, ∀ (k0_h3 : k0_cond3 i = 1#1), ∀ (hinb : ∀ a, (k0_off440 i v3863 v3867 v3871 v3875 v3879 v3883 v3887 k0_t4) a + S16x128.size a ≤ S880x5120.size a), (Rect.unit (s := S880x5120) (k0_off440 i v3863 v3867 v3871 v3875 v3879 v3883 v3887 k0_t4) S16x128.size hinb).PackedRows (EltTy.packing .bf16)) ∧
  (∀ k0_t4 : Fin (k0_t4_loop i v3863 v3867 v3871 v3875 v3879 v3883 v3887).trips, ∀ (k0_h3 : k0_cond3 i = 1#1), ∀ a, (k0_off442 i v3863 v3867 v3871 v3875 v3879 v3883 v3887 k0_t4) a + S16x128.size a ≤ S880x5120.size a) ∧
  (∀ k0_t4 : Fin (k0_t4_loop i v3863 v3867 v3871 v3875 v3879 v3883 v3887).trips, ∀ (k0_h3 : k0_cond3 i = 1#1), ∀ a, (k0_off443 i v3863 v3867 v3871 v3875 v3879 v3883 v3887 k0_t4) a + S1x16x128.size a ≤ S41x288x128.size a) ∧
  (∀ k0_t4 : Fin (k0_t4_loop i v3863 v3867 v3871 v3875 v3879 v3883 v3887).trips, ∀ (k0_h3 : k0_cond3 i = 1#1), ∀ (hinb : ∀ a, (k0_off442 i v3863 v3867 v3871 v3875 v3879 v3883 v3887 k0_t4) a + S16x128.size a ≤ S880x5120.size a), (Rect.unit (s := S880x5120) (k0_off442 i v3863 v3867 v3871 v3875 v3879 v3883 v3887 k0_t4) S16x128.size hinb).PackedRows (EltTy.packing .bf16)) ∧
  (∀ k0_t4 : Fin (k0_t4_loop i v3863 v3867 v3871 v3875 v3879 v3883 v3887).trips, ∀ (k0_h3 : k0_cond3 i = 1#1), ∀ a, (k0_off444 i v3863 v3867 v3871 v3875 v3879 v3883 v3887 k0_t4) a + S16x128.size a ≤ S880x5120.size a) ∧
  (∀ k0_t4 : Fin (k0_t4_loop i v3863 v3867 v3871 v3875 v3879 v3883 v3887).trips, ∀ (k0_h3 : k0_cond3 i = 1#1), ∀ a, (k0_off445 i v3863 v3867 v3871 v3875 v3879 v3883 v3887 k0_t4) a + S1x16x128.size a ≤ S41x288x128.size a) ∧
  (∀ k0_t4 : Fin (k0_t4_loop i v3863 v3867 v3871 v3875 v3879 v3883 v3887).trips, ∀ (k0_h3 : k0_cond3 i = 1#1), ∀ (hinb : ∀ a, (k0_off444 i v3863 v3867 v3871 v3875 v3879 v3883 v3887 k0_t4) a + S16x128.size a ≤ S880x5120.size a), (Rect.unit (s := S880x5120) (k0_off444 i v3863 v3867 v3871 v3875 v3879 v3883 v3887 k0_t4) S16x128.size hinb).PackedRows (EltTy.packing .bf16)) ∧
  (∀ k0_t4 : Fin (k0_t4_loop i v3863 v3867 v3871 v3875 v3879 v3883 v3887).trips, ∀ (k0_h3 : k0_cond3 i = 1#1), ∀ a, (k0_off446 i v3863 v3867 v3871 v3875 v3879 v3883 v3887 k0_t4) a + S16x128.size a ≤ S880x5120.size a) ∧
  (∀ k0_t4 : Fin (k0_t4_loop i v3863 v3867 v3871 v3875 v3879 v3883 v3887).trips, ∀ (k0_h3 : k0_cond3 i = 1#1), ∀ a, (k0_off447 i v3863 v3867 v3871 v3875 v3879 v3883 v3887 k0_t4) a + S1x16x128.size a ≤ S41x288x128.size a) ∧
  (∀ k0_t4 : Fin (k0_t4_loop i v3863 v3867 v3871 v3875 v3879 v3883 v3887).trips, ∀ (k0_h3 : k0_cond3 i = 1#1), ∀ (hinb : ∀ a, (k0_off446 i v3863 v3867 v3871 v3875 v3879 v3883 v3887 k0_t4) a + S16x128.size a ≤ S880x5120.size a), (Rect.unit (s := S880x5120) (k0_off446 i v3863 v3867 v3871 v3875 v3879 v3883 v3887 k0_t4) S16x128.size hinb).PackedRows (EltTy.packing .bf16)) ∧
  (∀ k0_t4 : Fin (k0_t4_loop i v3863 v3867 v3871 v3875 v3879 v3883 v3887).trips, ∀ (k0_h3 : k0_cond3 i = 1#1), ∀ a, (k0_off448 i v3863 v3867 v3871 v3875 v3879 v3883 v3887 k0_t4) a + S16x128.size a ≤ S880x5120.size a) ∧
  (∀ k0_t4 : Fin (k0_t4_loop i v3863 v3867 v3871 v3875 v3879 v3883 v3887).trips, ∀ (k0_h3 : k0_cond3 i = 1#1), ∀ a, (k0_off449 i v3863 v3867 v3871 v3875 v3879 v3883 v3887 k0_t4) a + S1x16x128.size a ≤ S41x288x128.size a) ∧
  (∀ k0_t4 : Fin (k0_t4_loop i v3863 v3867 v3871 v3875 v3879 v3883 v3887).trips, ∀ (k0_h3 : k0_cond3 i = 1#1), ∀ (hinb : ∀ a, (k0_off448 i v3863 v3867 v3871 v3875 v3879 v3883 v3887 k0_t4) a + S16x128.size a ≤ S880x5120.size a), (Rect.unit (s := S880x5120) (k0_off448 i v3863 v3867 v3871 v3875 v3879 v3883 v3887 k0_t4) S16x128.size hinb).PackedRows (EltTy.packing .bf16)) ∧
  (∀ k0_t4 : Fin (k0_t4_loop i v3863 v3867 v3871 v3875 v3879 v3883 v3887).trips, ∀ (k0_h3 : k0_cond3 i = 1#1), ∀ a, (k0_off450 i v3863 v3867 v3871 v3875 v3879 v3883 v3887 k0_t4) a + S16x128.size a ≤ S880x5120.size a) ∧
  (∀ k0_t4 : Fin (k0_t4_loop i v3863 v3867 v3871 v3875 v3879 v3883 v3887).trips, ∀ (k0_h3 : k0_cond3 i = 1#1), ∀ a, (k0_off451 i v3863 v3867 v3871 v3875 v3879 v3883 v3887 k0_t4) a + S1x16x128.size a ≤ S41x288x128.size a) ∧
  (∀ k0_t4 : Fin (k0_t4_loop i v3863 v3867 v3871 v3875 v3879 v3883 v3887).trips, ∀ (k0_h3 : k0_cond3 i = 1#1), ∀ (hinb : ∀ a, (k0_off450 i v3863 v3867 v3871 v3875 v3879 v3883 v3887 k0_t4) a + S16x128.size a ≤ S880x5120.size a), (Rect.unit (s := S880x5120) (k0_off450 i v3863 v3867 v3871 v3875 v3879 v3883 v3887 k0_t4) S16x128.size hinb).PackedRows (EltTy.packing .bf16))
def k0_chk1_6 (i : grid0.Coords) (v3863 : BitVec 32) (v3867 : BitVec 32) (v3871 : BitVec 32) (v3875 : BitVec 32) (v3879 : BitVec 32) (v3883 : BitVec 32) (v3887 : BitVec 32) : Prop :=
  (∀ k0_t4 : Fin (k0_t4_loop i v3863 v3867 v3871 v3875 v3879 v3883 v3887).trips, ∀ (k0_h3 : k0_cond3 i = 1#1), ∀ a, (k0_off452 i v3863 v3867 v3871 v3875 v3879 v3883 v3887 k0_t4) a + S16x128.size a ≤ S880x5120.size a) ∧
  (∀ k0_t4 : Fin (k0_t4_loop i v3863 v3867 v3871 v3875 v3879 v3883 v3887).trips, ∀ (k0_h3 : k0_cond3 i = 1#1), ∀ a, (k0_off453 i v3863 v3867 v3871 v3875 v3879 v3883 v3887 k0_t4) a + S1x16x128.size a ≤ S41x288x128.size a) ∧
  (∀ k0_t4 : Fin (k0_t4_loop i v3863 v3867 v3871 v3875 v3879 v3883 v3887).trips, ∀ (k0_h3 : k0_cond3 i = 1#1), ∀ (hinb : ∀ a, (k0_off452 i v3863 v3867 v3871 v3875 v3879 v3883 v3887 k0_t4) a + S16x128.size a ≤ S880x5120.size a), (Rect.unit (s := S880x5120) (k0_off452 i v3863 v3867 v3871 v3875 v3879 v3883 v3887 k0_t4) S16x128.size hinb).PackedRows (EltTy.packing .bf16)) ∧
  (∀ k0_t4 : Fin (k0_t4_loop i v3863 v3867 v3871 v3875 v3879 v3883 v3887).trips, ∀ (k0_h3 : k0_cond3 i = 1#1), ∀ a, (k0_off454 i v3863 v3867 v3871 v3875 v3879 v3883 v3887 k0_t4) a + S16x128.size a ≤ S880x5120.size a) ∧
  (∀ k0_t4 : Fin (k0_t4_loop i v3863 v3867 v3871 v3875 v3879 v3883 v3887).trips, ∀ (k0_h3 : k0_cond3 i = 1#1), ∀ a, (k0_off455 i v3863 v3867 v3871 v3875 v3879 v3883 v3887 k0_t4) a + S1x16x128.size a ≤ S41x288x128.size a) ∧
  (∀ k0_t4 : Fin (k0_t4_loop i v3863 v3867 v3871 v3875 v3879 v3883 v3887).trips, ∀ (k0_h3 : k0_cond3 i = 1#1), ∀ (hinb : ∀ a, (k0_off454 i v3863 v3867 v3871 v3875 v3879 v3883 v3887 k0_t4) a + S16x128.size a ≤ S880x5120.size a), (Rect.unit (s := S880x5120) (k0_off454 i v3863 v3867 v3871 v3875 v3879 v3883 v3887 k0_t4) S16x128.size hinb).PackedRows (EltTy.packing .bf16)) ∧
  (∀ k0_t4 : Fin (k0_t4_loop i v3863 v3867 v3871 v3875 v3879 v3883 v3887).trips, ∀ (k0_h3 : k0_cond3 i = 1#1), ∀ a, (k0_off456 i v3863 v3867 v3871 v3875 v3879 v3883 v3887 k0_t4) a + S16x128.size a ≤ S880x5120.size a) ∧
  (∀ k0_t4 : Fin (k0_t4_loop i v3863 v3867 v3871 v3875 v3879 v3883 v3887).trips, ∀ (k0_h3 : k0_cond3 i = 1#1), ∀ a, (k0_off457 i v3863 v3867 v3871 v3875 v3879 v3883 v3887 k0_t4) a + S1x16x128.size a ≤ S41x288x128.size a) ∧
  (∀ k0_t4 : Fin (k0_t4_loop i v3863 v3867 v3871 v3875 v3879 v3883 v3887).trips, ∀ (k0_h3 : k0_cond3 i = 1#1), ∀ (hinb : ∀ a, (k0_off456 i v3863 v3867 v3871 v3875 v3879 v3883 v3887 k0_t4) a + S16x128.size a ≤ S880x5120.size a), (Rect.unit (s := S880x5120) (k0_off456 i v3863 v3867 v3871 v3875 v3879 v3883 v3887 k0_t4) S16x128.size hinb).PackedRows (EltTy.packing .bf16)) ∧
  (∀ k0_t4 : Fin (k0_t4_loop i v3863 v3867 v3871 v3875 v3879 v3883 v3887).trips, ∀ (k0_h3 : k0_cond3 i = 1#1), ∀ a, (k0_off458 i v3863 v3867 v3871 v3875 v3879 v3883 v3887 k0_t4) a + S16x128.size a ≤ S880x5120.size a) ∧
  (∀ k0_t4 : Fin (k0_t4_loop i v3863 v3867 v3871 v3875 v3879 v3883 v3887).trips, ∀ (k0_h3 : k0_cond3 i = 1#1), ∀ a, (k0_off459 i v3863 v3867 v3871 v3875 v3879 v3883 v3887 k0_t4) a + S1x16x128.size a ≤ S41x288x128.size a) ∧
  (∀ k0_t4 : Fin (k0_t4_loop i v3863 v3867 v3871 v3875 v3879 v3883 v3887).trips, ∀ (k0_h3 : k0_cond3 i = 1#1), ∀ (hinb : ∀ a, (k0_off458 i v3863 v3867 v3871 v3875 v3879 v3883 v3887 k0_t4) a + S16x128.size a ≤ S880x5120.size a), (Rect.unit (s := S880x5120) (k0_off458 i v3863 v3867 v3871 v3875 v3879 v3883 v3887 k0_t4) S16x128.size hinb).PackedRows (EltTy.packing .bf16)) ∧
  (∀ k0_t4 : Fin (k0_t4_loop i v3863 v3867 v3871 v3875 v3879 v3883 v3887).trips, ∀ (k0_h3 : k0_cond3 i = 1#1), ∀ a, (k0_off460 i v3863 v3867 v3871 v3875 v3879 v3883 v3887 k0_t4) a + S16x128.size a ≤ S880x5120.size a) ∧
  (∀ k0_t4 : Fin (k0_t4_loop i v3863 v3867 v3871 v3875 v3879 v3883 v3887).trips, ∀ (k0_h3 : k0_cond3 i = 1#1), ∀ a, (k0_off461 i v3863 v3867 v3871 v3875 v3879 v3883 v3887 k0_t4) a + S1x16x128.size a ≤ S41x288x128.size a) ∧
  (∀ k0_t4 : Fin (k0_t4_loop i v3863 v3867 v3871 v3875 v3879 v3883 v3887).trips, ∀ (k0_h3 : k0_cond3 i = 1#1), ∀ (hinb : ∀ a, (k0_off460 i v3863 v3867 v3871 v3875 v3879 v3883 v3887 k0_t4) a + S16x128.size a ≤ S880x5120.size a), (Rect.unit (s := S880x5120) (k0_off460 i v3863 v3867 v3871 v3875 v3879 v3883 v3887 k0_t4) S16x128.size hinb).PackedRows (EltTy.packing .bf16)) ∧
  (∀ k0_t4 : Fin (k0_t4_loop i v3863 v3867 v3871 v3875 v3879 v3883 v3887).trips, ∀ (k0_h3 : k0_cond3 i = 1#1), ∀ a, (k0_off462 i v3863 v3867 v3871 v3875 v3879 v3883 v3887 k0_t4) a + S16x128.size a ≤ S880x5120.size a) ∧
  (∀ k0_t4 : Fin (k0_t4_loop i v3863 v3867 v3871 v3875 v3879 v3883 v3887).trips, ∀ (k0_h3 : k0_cond3 i = 1#1), ∀ a, (k0_off463 i v3863 v3867 v3871 v3875 v3879 v3883 v3887 k0_t4) a + S1x16x128.size a ≤ S41x288x128.size a) ∧
  (∀ k0_t4 : Fin (k0_t4_loop i v3863 v3867 v3871 v3875 v3879 v3883 v3887).trips, ∀ (k0_h3 : k0_cond3 i = 1#1), ∀ (hinb : ∀ a, (k0_off462 i v3863 v3867 v3871 v3875 v3879 v3883 v3887 k0_t4) a + S16x128.size a ≤ S880x5120.size a), (Rect.unit (s := S880x5120) (k0_off462 i v3863 v3867 v3871 v3875 v3879 v3883 v3887 k0_t4) S16x128.size hinb).PackedRows (EltTy.packing .bf16)) ∧
  (∀ k0_t4 : Fin (k0_t4_loop i v3863 v3867 v3871 v3875 v3879 v3883 v3887).trips, ∀ (k0_h3 : k0_cond3 i = 1#1), ∀ a, (k0_off464 i v3863 v3867 v3871 v3875 v3879 v3883 v3887 k0_t4) a + S16x128.size a ≤ S880x5120.size a) ∧
  (∀ k0_t4 : Fin (k0_t4_loop i v3863 v3867 v3871 v3875 v3879 v3883 v3887).trips, ∀ (k0_h3 : k0_cond3 i = 1#1), ∀ a, (k0_off465 i v3863 v3867 v3871 v3875 v3879 v3883 v3887 k0_t4) a + S1x16x128.size a ≤ S41x288x128.size a) ∧
  (∀ k0_t4 : Fin (k0_t4_loop i v3863 v3867 v3871 v3875 v3879 v3883 v3887).trips, ∀ (k0_h3 : k0_cond3 i = 1#1), ∀ (hinb : ∀ a, (k0_off464 i v3863 v3867 v3871 v3875 v3879 v3883 v3887 k0_t4) a + S16x128.size a ≤ S880x5120.size a), (Rect.unit (s := S880x5120) (k0_off464 i v3863 v3867 v3871 v3875 v3879 v3883 v3887 k0_t4) S16x128.size hinb).PackedRows (EltTy.packing .bf16)) ∧
  (∀ k0_t4 : Fin (k0_t4_loop i v3863 v3867 v3871 v3875 v3879 v3883 v3887).trips, ∀ (k0_h3 : k0_cond3 i = 1#1), ∀ a, (k0_off466 i v3863 v3867 v3871 v3875 v3879 v3883 v3887 k0_t4) a + S16x128.size a ≤ S880x5120.size a) ∧
  (∀ k0_t4 : Fin (k0_t4_loop i v3863 v3867 v3871 v3875 v3879 v3883 v3887).trips, ∀ (k0_h3 : k0_cond3 i = 1#1), ∀ a, (k0_off467 i v3863 v3867 v3871 v3875 v3879 v3883 v3887 k0_t4) a + S1x16x128.size a ≤ S41x288x128.size a) ∧
  (∀ k0_t4 : Fin (k0_t4_loop i v3863 v3867 v3871 v3875 v3879 v3883 v3887).trips, ∀ (k0_h3 : k0_cond3 i = 1#1), ∀ (hinb : ∀ a, (k0_off466 i v3863 v3867 v3871 v3875 v3879 v3883 v3887 k0_t4) a + S16x128.size a ≤ S880x5120.size a), (Rect.unit (s := S880x5120) (k0_off466 i v3863 v3867 v3871 v3875 v3879 v3883 v3887 k0_t4) S16x128.size hinb).PackedRows (EltTy.packing .bf16)) ∧
  (∀ k0_t4 : Fin (k0_t4_loop i v3863 v3867 v3871 v3875 v3879 v3883 v3887).trips, ∀ (k0_h3 : k0_cond3 i = 1#1), ∀ a, (k0_off468 i v3863 v3867 v3871 v3875 v3879 v3883 v3887 k0_t4) a + S16x128.size a ≤ S880x5120.size a) ∧
  (∀ k0_t4 : Fin (k0_t4_loop i v3863 v3867 v3871 v3875 v3879 v3883 v3887).trips, ∀ (k0_h3 : k0_cond3 i = 1#1), ∀ a, (k0_off469 i v3863 v3867 v3871 v3875 v3879 v3883 v3887 k0_t4) a + S1x16x128.size a ≤ S41x288x128.size a) ∧
  (∀ k0_t4 : Fin (k0_t4_loop i v3863 v3867 v3871 v3875 v3879 v3883 v3887).trips, ∀ (k0_h3 : k0_cond3 i = 1#1), ∀ (hinb : ∀ a, (k0_off468 i v3863 v3867 v3871 v3875 v3879 v3883 v3887 k0_t4) a + S16x128.size a ≤ S880x5120.size a), (Rect.unit (s := S880x5120) (k0_off468 i v3863 v3867 v3871 v3875 v3879 v3883 v3887 k0_t4) S16x128.size hinb).PackedRows (EltTy.packing .bf16)) ∧
  (∀ k0_t4 : Fin (k0_t4_loop i v3863 v3867 v3871 v3875 v3879 v3883 v3887).trips, ∀ (k0_h3 : k0_cond3 i = 1#1), ∀ a, (k0_off470 i v3863 v3867 v3871 v3875 v3879 v3883 v3887 k0_t4) a + S16x128.size a ≤ S880x5120.size a) ∧
  (∀ k0_t4 : Fin (k0_t4_loop i v3863 v3867 v3871 v3875 v3879 v3883 v3887).trips, ∀ (k0_h3 : k0_cond3 i = 1#1), ∀ a, (k0_off471 i v3863 v3867 v3871 v3875 v3879 v3883 v3887 k0_t4) a + S1x16x128.size a ≤ S41x288x128.size a) ∧
  (∀ k0_t4 : Fin (k0_t4_loop i v3863 v3867 v3871 v3875 v3879 v3883 v3887).trips, ∀ (k0_h3 : k0_cond3 i = 1#1), ∀ (hinb : ∀ a, (k0_off470 i v3863 v3867 v3871 v3875 v3879 v3883 v3887 k0_t4) a + S16x128.size a ≤ S880x5120.size a), (Rect.unit (s := S880x5120) (k0_off470 i v3863 v3867 v3871 v3875 v3879 v3883 v3887 k0_t4) S16x128.size hinb).PackedRows (EltTy.packing .bf16)) ∧
  (∀ k0_t4 : Fin (k0_t4_loop i v3863 v3867 v3871 v3875 v3879 v3883 v3887).trips, ∀ (k0_h3 : k0_cond3 i = 1#1), ∀ a, (k0_off472 i v3863 v3867 v3871 v3875 v3879 v3883 v3887 k0_t4) a + S16x128.size a ≤ S880x5120.size a) ∧
  (∀ k0_t4 : Fin (k0_t4_loop i v3863 v3867 v3871 v3875 v3879 v3883 v3887).trips, ∀ (k0_h3 : k0_cond3 i = 1#1), ∀ a, (k0_off473 i v3863 v3867 v3871 v3875 v3879 v3883 v3887 k0_t4) a + S1x16x128.size a ≤ S41x288x128.size a)
def k0_chk1_7 (i : grid0.Coords) (v3863 : BitVec 32) (v3867 : BitVec 32) (v3871 : BitVec 32) (v3875 : BitVec 32) (v3879 : BitVec 32) (v3883 : BitVec 32) (v3887 : BitVec 32) : Prop :=
  (∀ k0_t4 : Fin (k0_t4_loop i v3863 v3867 v3871 v3875 v3879 v3883 v3887).trips, ∀ (k0_h3 : k0_cond3 i = 1#1), ∀ (hinb : ∀ a, (k0_off472 i v3863 v3867 v3871 v3875 v3879 v3883 v3887 k0_t4) a + S16x128.size a ≤ S880x5120.size a), (Rect.unit (s := S880x5120) (k0_off472 i v3863 v3867 v3871 v3875 v3879 v3883 v3887 k0_t4) S16x128.size hinb).PackedRows (EltTy.packing .bf16)) ∧
  (∀ k0_t4 : Fin (k0_t4_loop i v3863 v3867 v3871 v3875 v3879 v3883 v3887).trips, ∀ (k0_h3 : k0_cond3 i = 1#1), ∀ a, (k0_off474 i v3863 v3867 v3871 v3875 v3879 v3883 v3887 k0_t4) a + S16x128.size a ≤ S880x5120.size a) ∧
  (∀ k0_t4 : Fin (k0_t4_loop i v3863 v3867 v3871 v3875 v3879 v3883 v3887).trips, ∀ (k0_h3 : k0_cond3 i = 1#1), ∀ a, (k0_off475 i v3863 v3867 v3871 v3875 v3879 v3883 v3887 k0_t4) a + S1x16x128.size a ≤ S41x288x128.size a) ∧
  (∀ k0_t4 : Fin (k0_t4_loop i v3863 v3867 v3871 v3875 v3879 v3883 v3887).trips, ∀ (k0_h3 : k0_cond3 i = 1#1), ∀ (hinb : ∀ a, (k0_off474 i v3863 v3867 v3871 v3875 v3879 v3883 v3887 k0_t4) a + S16x128.size a ≤ S880x5120.size a), (Rect.unit (s := S880x5120) (k0_off474 i v3863 v3867 v3871 v3875 v3879 v3883 v3887 k0_t4) S16x128.size hinb).PackedRows (EltTy.packing .bf16)) ∧
  (∀ k0_t4 : Fin (k0_t4_loop i v3863 v3867 v3871 v3875 v3879 v3883 v3887).trips, ∀ (k0_h3 : k0_cond3 i = 1#1), ∀ a, (k0_off476 i v3863 v3867 v3871 v3875 v3879 v3883 v3887 k0_t4) a + S16x128.size a ≤ S880x5120.size a) ∧
  (∀ k0_t4 : Fin (k0_t4_loop i v3863 v3867 v3871 v3875 v3879 v3883 v3887).trips, ∀ (k0_h3 : k0_cond3 i = 1#1), ∀ a, (k0_off477 i v3863 v3867 v3871 v3875 v3879 v3883 v3887 k0_t4) a + S1x16x128.size a ≤ S41x288x128.size a) ∧
  (∀ k0_t4 : Fin (k0_t4_loop i v3863 v3867 v3871 v3875 v3879 v3883 v3887).trips, ∀ (k0_h3 : k0_cond3 i = 1#1), ∀ (hinb : ∀ a, (k0_off476 i v3863 v3867 v3871 v3875 v3879 v3883 v3887 k0_t4) a + S16x128.size a ≤ S880x5120.size a), (Rect.unit (s := S880x5120) (k0_off476 i v3863 v3867 v3871 v3875 v3879 v3883 v3887 k0_t4) S16x128.size hinb).PackedRows (EltTy.packing .bf16)) ∧
  (∀ k0_t4 : Fin (k0_t4_loop i v3863 v3867 v3871 v3875 v3879 v3883 v3887).trips, ∀ (k0_h3 : k0_cond3 i = 1#1), ∀ a, (k0_off478 i v3863 v3867 v3871 v3875 v3879 v3883 v3887 k0_t4) a + S16x128.size a ≤ S880x5120.size a) ∧
  (∀ k0_t4 : Fin (k0_t4_loop i v3863 v3867 v3871 v3875 v3879 v3883 v3887).trips, ∀ (k0_h3 : k0_cond3 i = 1#1), ∀ a, (k0_off479 i v3863 v3867 v3871 v3875 v3879 v3883 v3887 k0_t4) a + S1x16x128.size a ≤ S41x288x128.size a) ∧
  (∀ k0_t4 : Fin (k0_t4_loop i v3863 v3867 v3871 v3875 v3879 v3883 v3887).trips, ∀ (k0_h3 : k0_cond3 i = 1#1), ∀ (hinb : ∀ a, (k0_off478 i v3863 v3867 v3871 v3875 v3879 v3883 v3887 k0_t4) a + S16x128.size a ≤ S880x5120.size a), (Rect.unit (s := S880x5120) (k0_off478 i v3863 v3867 v3871 v3875 v3879 v3883 v3887 k0_t4) S16x128.size hinb).PackedRows (EltTy.packing .bf16)) ∧
  (∀ k0_t4 : Fin (k0_t4_loop i v3863 v3867 v3871 v3875 v3879 v3883 v3887).trips, ∀ (k0_h3 : k0_cond3 i = 1#1), ∀ a, (k0_off480 i v3863 v3867 v3871 v3875 v3879 v3883 v3887 k0_t4) a + S16x128.size a ≤ S880x5120.size a) ∧
  (∀ k0_t4 : Fin (k0_t4_loop i v3863 v3867 v3871 v3875 v3879 v3883 v3887).trips, ∀ (k0_h3 : k0_cond3 i = 1#1), ∀ a, (k0_off481 i v3863 v3867 v3871 v3875 v3879 v3883 v3887 k0_t4) a + S1x16x128.size a ≤ S41x288x128.size a) ∧
  (∀ k0_t4 : Fin (k0_t4_loop i v3863 v3867 v3871 v3875 v3879 v3883 v3887).trips, ∀ (k0_h3 : k0_cond3 i = 1#1), ∀ (hinb : ∀ a, (k0_off480 i v3863 v3867 v3871 v3875 v3879 v3883 v3887 k0_t4) a + S16x128.size a ≤ S880x5120.size a), (Rect.unit (s := S880x5120) (k0_off480 i v3863 v3867 v3871 v3875 v3879 v3883 v3887 k0_t4) S16x128.size hinb).PackedRows (EltTy.packing .bf16)) ∧
  (∀ k0_t4 : Fin (k0_t4_loop i v3863 v3867 v3871 v3875 v3879 v3883 v3887).trips, ∀ (k0_h3 : k0_cond3 i = 1#1), ∀ a, (k0_off482 i v3863 v3867 v3871 v3875 v3879 v3883 v3887 k0_t4) a + S16x128.size a ≤ S880x5120.size a) ∧
  (∀ k0_t4 : Fin (k0_t4_loop i v3863 v3867 v3871 v3875 v3879 v3883 v3887).trips, ∀ (k0_h3 : k0_cond3 i = 1#1), ∀ a, (k0_off483 i v3863 v3867 v3871 v3875 v3879 v3883 v3887 k0_t4) a + S1x16x128.size a ≤ S41x288x128.size a) ∧
  (∀ k0_t4 : Fin (k0_t4_loop i v3863 v3867 v3871 v3875 v3879 v3883 v3887).trips, ∀ (k0_h3 : k0_cond3 i = 1#1), ∀ (hinb : ∀ a, (k0_off482 i v3863 v3867 v3871 v3875 v3879 v3883 v3887 k0_t4) a + S16x128.size a ≤ S880x5120.size a), (Rect.unit (s := S880x5120) (k0_off482 i v3863 v3867 v3871 v3875 v3879 v3883 v3887 k0_t4) S16x128.size hinb).PackedRows (EltTy.packing .bf16)) ∧
  (∀ k0_t4 : Fin (k0_t4_loop i v3863 v3867 v3871 v3875 v3879 v3883 v3887).trips, ∀ (k0_h3 : k0_cond3 i = 1#1), ∀ a, (k0_off484 i v3863 v3867 v3871 v3875 v3879 v3883 v3887 k0_t4) a + S16x128.size a ≤ S880x5120.size a) ∧
  (∀ k0_t4 : Fin (k0_t4_loop i v3863 v3867 v3871 v3875 v3879 v3883 v3887).trips, ∀ (k0_h3 : k0_cond3 i = 1#1), ∀ a, (k0_off485 i v3863 v3867 v3871 v3875 v3879 v3883 v3887 k0_t4) a + S1x16x128.size a ≤ S41x288x128.size a) ∧
  (∀ k0_t4 : Fin (k0_t4_loop i v3863 v3867 v3871 v3875 v3879 v3883 v3887).trips, ∀ (k0_h3 : k0_cond3 i = 1#1), ∀ (hinb : ∀ a, (k0_off484 i v3863 v3867 v3871 v3875 v3879 v3883 v3887 k0_t4) a + S16x128.size a ≤ S880x5120.size a), (Rect.unit (s := S880x5120) (k0_off484 i v3863 v3867 v3871 v3875 v3879 v3883 v3887 k0_t4) S16x128.size hinb).PackedRows (EltTy.packing .bf16)) ∧
  (∀ k0_t4 : Fin (k0_t4_loop i v3863 v3867 v3871 v3875 v3879 v3883 v3887).trips, ∀ (k0_h3 : k0_cond3 i = 1#1), ∀ a, (k0_off486 i v3863 v3867 v3871 v3875 v3879 v3883 v3887 k0_t4) a + S16x128.size a ≤ S880x5120.size a) ∧
  (∀ k0_t4 : Fin (k0_t4_loop i v3863 v3867 v3871 v3875 v3879 v3883 v3887).trips, ∀ (k0_h3 : k0_cond3 i = 1#1), ∀ a, (k0_off487 i v3863 v3867 v3871 v3875 v3879 v3883 v3887 k0_t4) a + S1x16x128.size a ≤ S41x288x128.size a) ∧
  (∀ k0_t4 : Fin (k0_t4_loop i v3863 v3867 v3871 v3875 v3879 v3883 v3887).trips, ∀ (k0_h3 : k0_cond3 i = 1#1), ∀ (hinb : ∀ a, (k0_off486 i v3863 v3867 v3871 v3875 v3879 v3883 v3887 k0_t4) a + S16x128.size a ≤ S880x5120.size a), (Rect.unit (s := S880x5120) (k0_off486 i v3863 v3867 v3871 v3875 v3879 v3883 v3887 k0_t4) S16x128.size hinb).PackedRows (EltTy.packing .bf16)) ∧
  (∀ k0_t4 : Fin (k0_t4_loop i v3863 v3867 v3871 v3875 v3879 v3883 v3887).trips, ∀ (k0_h3 : k0_cond3 i = 1#1), ∀ a, (k0_off488 i v3863 v3867 v3871 v3875 v3879 v3883 v3887 k0_t4) a + S1x16x128.size a ≤ S41x288x128.size a) ∧
  (∀ k0_t4 : Fin (k0_t4_loop i v3863 v3867 v3871 v3875 v3879 v3883 v3887).trips, ∀ (k0_h3 : k0_cond3 i = 1#1), ∀ a, (k0_off489 i v3863 v3867 v3871 v3875 v3879 v3883 v3887 k0_t4) a + S16x128.size a ≤ S880x128.size a)
def k0_chk1 (i : grid0.Coords) (v3863 : BitVec 32) (v3867 : BitVec 32) (v3871 : BitVec 32) (v3875 : BitVec 32) (v3879 : BitVec 32) (v3883 : BitVec 32) (v3887 : BitVec 32) : Prop :=
  k0_chk1_0 i v3863 v3867 v3871 v3875 v3879 v3883 v3887 ∧
  k0_chk1_1 i v3863 v3867 v3871 v3875 v3879 v3883 v3887 ∧
  k0_chk1_2 i v3863 v3867 v3871 v3875 v3879 v3883 v3887 ∧
  k0_chk1_3 i v3863 v3867 v3871 v3875 v3879 v3883 v3887 ∧
  k0_chk1_4 i v3863 v3867 v3871 v3875 v3879 v3883 v3887 ∧
  k0_chk1_5 i v3863 v3867 v3871 v3875 v3879 v3883 v3887 ∧
  k0_chk1_6 i v3863 v3867 v3871 v3875 v3879 v3883 v3887 ∧
  k0_chk1_7 i v3863 v3867 v3871 v3875 v3879 v3883 v3887
theorem k0_t3_ok : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887), ∀ (k0_h3 : k0_cond3 i = 1#1), (k0_t3_loop i v3863 v3867 v3871 v3875 v3879 v3883 v3887).OK := fun i v3863 v3867 v3871 v3875 v3879 v3883 v3887 k0_hw1 k0_h3 => k0_hw1.1.1 k0_h3
theorem k0_mult4_dvd : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), 16 ∣ (k0_mult4 i v3863 v3867 v3871 v3875 v3879 v3883 v3887 k0_t3).toNat := fun i v3863 v3867 v3871 v3875 v3879 v3883 v3887 k0_hw1 k0_t3 k0_h3 => k0_hw1.1.2.1 k0_t3 k0_h3
theorem k0_off326_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), ∀ a, (k0_off326 i v3863 v3867 v3871 v3875 v3879 v3883 v3887 k0_t3) a + S16x128.size a ≤ S880x5120.size a := fun i v3863 v3867 v3871 v3875 v3879 v3883 v3887 k0_hw1 k0_t3 k0_h3 => k0_hw1.1.2.2.1 k0_t3 k0_h3
theorem k0_off327_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), ∀ a, (k0_off327 i v3863 v3867 v3871 v3875 v3879 v3883 v3887 k0_t3) a + S1x16x128.size a ≤ S41x288x128.size a := fun i v3863 v3867 v3871 v3875 v3879 v3883 v3887 k0_hw1 k0_t3 k0_h3 => k0_hw1.1.2.2.2.1 k0_t3 k0_h3
theorem k0_off326_packedbf16 : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), (Rect.unit (s := S880x5120) (k0_off326 i v3863 v3867 v3871 v3875 v3879 v3883 v3887 k0_t3) S16x128.size (k0_off326_inb i v3863 v3867 v3871 v3875 v3879 v3883 v3887 k0_hw1 k0_t3 k0_h3)).PackedRows (EltTy.packing .bf16) := fun i v3863 v3867 v3871 v3875 v3879 v3883 v3887 k0_hw1 k0_t3 k0_h3 => k0_hw1.1.2.2.2.2.1 k0_t3 k0_h3 (k0_off326_inb i v3863 v3867 v3871 v3875 v3879 v3883 v3887 k0_hw1 k0_t3 k0_h3)
theorem k0_off328_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), ∀ a, (k0_off328 i v3863 v3867 v3871 v3875 v3879 v3883 v3887 k0_t3) a + S16x128.size a ≤ S880x5120.size a := fun i v3863 v3867 v3871 v3875 v3879 v3883 v3887 k0_hw1 k0_t3 k0_h3 => k0_hw1.1.2.2.2.2.2.1 k0_t3 k0_h3
theorem k0_off329_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), ∀ a, (k0_off329 i v3863 v3867 v3871 v3875 v3879 v3883 v3887 k0_t3) a + S1x16x128.size a ≤ S41x288x128.size a := fun i v3863 v3867 v3871 v3875 v3879 v3883 v3887 k0_hw1 k0_t3 k0_h3 => k0_hw1.1.2.2.2.2.2.2.1 k0_t3 k0_h3
theorem k0_off328_packedbf16 : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), (Rect.unit (s := S880x5120) (k0_off328 i v3863 v3867 v3871 v3875 v3879 v3883 v3887 k0_t3) S16x128.size (k0_off328_inb i v3863 v3867 v3871 v3875 v3879 v3883 v3887 k0_hw1 k0_t3 k0_h3)).PackedRows (EltTy.packing .bf16) := fun i v3863 v3867 v3871 v3875 v3879 v3883 v3887 k0_hw1 k0_t3 k0_h3 => k0_hw1.1.2.2.2.2.2.2.2.1 k0_t3 k0_h3 (k0_off328_inb i v3863 v3867 v3871 v3875 v3879 v3883 v3887 k0_hw1 k0_t3 k0_h3)
theorem k0_off330_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), ∀ a, (k0_off330 i v3863 v3867 v3871 v3875 v3879 v3883 v3887 k0_t3) a + S16x128.size a ≤ S880x5120.size a := fun i v3863 v3867 v3871 v3875 v3879 v3883 v3887 k0_hw1 k0_t3 k0_h3 => k0_hw1.1.2.2.2.2.2.2.2.2.1 k0_t3 k0_h3
theorem k0_off331_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), ∀ a, (k0_off331 i v3863 v3867 v3871 v3875 v3879 v3883 v3887 k0_t3) a + S1x16x128.size a ≤ S41x288x128.size a := fun i v3863 v3867 v3871 v3875 v3879 v3883 v3887 k0_hw1 k0_t3 k0_h3 => k0_hw1.1.2.2.2.2.2.2.2.2.2.1 k0_t3 k0_h3
theorem k0_off330_packedbf16 : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), (Rect.unit (s := S880x5120) (k0_off330 i v3863 v3867 v3871 v3875 v3879 v3883 v3887 k0_t3) S16x128.size (k0_off330_inb i v3863 v3867 v3871 v3875 v3879 v3883 v3887 k0_hw1 k0_t3 k0_h3)).PackedRows (EltTy.packing .bf16) := fun i v3863 v3867 v3871 v3875 v3879 v3883 v3887 k0_hw1 k0_t3 k0_h3 => k0_hw1.1.2.2.2.2.2.2.2.2.2.2.1 k0_t3 k0_h3 (k0_off330_inb i v3863 v3867 v3871 v3875 v3879 v3883 v3887 k0_hw1 k0_t3 k0_h3)
theorem k0_off332_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), ∀ a, (k0_off332 i v3863 v3867 v3871 v3875 v3879 v3883 v3887 k0_t3) a + S16x128.size a ≤ S880x5120.size a := fun i v3863 v3867 v3871 v3875 v3879 v3883 v3887 k0_hw1 k0_t3 k0_h3 => k0_hw1.1.2.2.2.2.2.2.2.2.2.2.2.1 k0_t3 k0_h3
theorem k0_off333_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), ∀ a, (k0_off333 i v3863 v3867 v3871 v3875 v3879 v3883 v3887 k0_t3) a + S1x16x128.size a ≤ S41x288x128.size a := fun i v3863 v3867 v3871 v3875 v3879 v3883 v3887 k0_hw1 k0_t3 k0_h3 => k0_hw1.1.2.2.2.2.2.2.2.2.2.2.2.2.1 k0_t3 k0_h3
theorem k0_off332_packedbf16 : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), (Rect.unit (s := S880x5120) (k0_off332 i v3863 v3867 v3871 v3875 v3879 v3883 v3887 k0_t3) S16x128.size (k0_off332_inb i v3863 v3867 v3871 v3875 v3879 v3883 v3887 k0_hw1 k0_t3 k0_h3)).PackedRows (EltTy.packing .bf16) := fun i v3863 v3867 v3871 v3875 v3879 v3883 v3887 k0_hw1 k0_t3 k0_h3 => k0_hw1.1.2.2.2.2.2.2.2.2.2.2.2.2.2.1 k0_t3 k0_h3 (k0_off332_inb i v3863 v3867 v3871 v3875 v3879 v3883 v3887 k0_hw1 k0_t3 k0_h3)
theorem k0_off334_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), ∀ a, (k0_off334 i v3863 v3867 v3871 v3875 v3879 v3883 v3887 k0_t3) a + S16x128.size a ≤ S880x5120.size a := fun i v3863 v3867 v3871 v3875 v3879 v3883 v3887 k0_hw1 k0_t3 k0_h3 => k0_hw1.1.2.2.2.2.2.2.2.2.2.2.2.2.2.2.1 k0_t3 k0_h3
theorem k0_off335_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), ∀ a, (k0_off335 i v3863 v3867 v3871 v3875 v3879 v3883 v3887 k0_t3) a + S1x16x128.size a ≤ S41x288x128.size a := fun i v3863 v3867 v3871 v3875 v3879 v3883 v3887 k0_hw1 k0_t3 k0_h3 => k0_hw1.1.2.2.2.2.2.2.2.2.2.2.2.2.2.2.2.1 k0_t3 k0_h3
theorem k0_off334_packedbf16 : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), (Rect.unit (s := S880x5120) (k0_off334 i v3863 v3867 v3871 v3875 v3879 v3883 v3887 k0_t3) S16x128.size (k0_off334_inb i v3863 v3867 v3871 v3875 v3879 v3883 v3887 k0_hw1 k0_t3 k0_h3)).PackedRows (EltTy.packing .bf16) := fun i v3863 v3867 v3871 v3875 v3879 v3883 v3887 k0_hw1 k0_t3 k0_h3 => k0_hw1.1.2.2.2.2.2.2.2.2.2.2.2.2.2.2.2.2.1 k0_t3 k0_h3 (k0_off334_inb i v3863 v3867 v3871 v3875 v3879 v3883 v3887 k0_hw1 k0_t3 k0_h3)
theorem k0_off336_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), ∀ a, (k0_off336 i v3863 v3867 v3871 v3875 v3879 v3883 v3887 k0_t3) a + S16x128.size a ≤ S880x5120.size a := fun i v3863 v3867 v3871 v3875 v3879 v3883 v3887 k0_hw1 k0_t3 k0_h3 => k0_hw1.1.2.2.2.2.2.2.2.2.2.2.2.2.2.2.2.2.2.1 k0_t3 k0_h3
theorem k0_off337_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), ∀ a, (k0_off337 i v3863 v3867 v3871 v3875 v3879 v3883 v3887 k0_t3) a + S1x16x128.size a ≤ S41x288x128.size a := fun i v3863 v3867 v3871 v3875 v3879 v3883 v3887 k0_hw1 k0_t3 k0_h3 => k0_hw1.1.2.2.2.2.2.2.2.2.2.2.2.2.2.2.2.2.2.2.1 k0_t3 k0_h3
theorem k0_off336_packedbf16 : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), (Rect.unit (s := S880x5120) (k0_off336 i v3863 v3867 v3871 v3875 v3879 v3883 v3887 k0_t3) S16x128.size (k0_off336_inb i v3863 v3867 v3871 v3875 v3879 v3883 v3887 k0_hw1 k0_t3 k0_h3)).PackedRows (EltTy.packing .bf16) := fun i v3863 v3867 v3871 v3875 v3879 v3883 v3887 k0_hw1 k0_t3 k0_h3 => k0_hw1.1.2.2.2.2.2.2.2.2.2.2.2.2.2.2.2.2.2.2.2.1 k0_t3 k0_h3 (k0_off336_inb i v3863 v3867 v3871 v3875 v3879 v3883 v3887 k0_hw1 k0_t3 k0_h3)
theorem k0_off338_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), ∀ a, (k0_off338 i v3863 v3867 v3871 v3875 v3879 v3883 v3887 k0_t3) a + S16x128.size a ≤ S880x5120.size a := fun i v3863 v3867 v3871 v3875 v3879 v3883 v3887 k0_hw1 k0_t3 k0_h3 => k0_hw1.1.2.2.2.2.2.2.2.2.2.2.2.2.2.2.2.2.2.2.2.2.1 k0_t3 k0_h3
theorem k0_off339_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), ∀ a, (k0_off339 i v3863 v3867 v3871 v3875 v3879 v3883 v3887 k0_t3) a + S1x16x128.size a ≤ S41x288x128.size a := fun i v3863 v3867 v3871 v3875 v3879 v3883 v3887 k0_hw1 k0_t3 k0_h3 => k0_hw1.1.2.2.2.2.2.2.2.2.2.2.2.2.2.2.2.2.2.2.2.2.2.1 k0_t3 k0_h3
theorem k0_off338_packedbf16 : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), (Rect.unit (s := S880x5120) (k0_off338 i v3863 v3867 v3871 v3875 v3879 v3883 v3887 k0_t3) S16x128.size (k0_off338_inb i v3863 v3867 v3871 v3875 v3879 v3883 v3887 k0_hw1 k0_t3 k0_h3)).PackedRows (EltTy.packing .bf16) := fun i v3863 v3867 v3871 v3875 v3879 v3883 v3887 k0_hw1 k0_t3 k0_h3 => k0_hw1.1.2.2.2.2.2.2.2.2.2.2.2.2.2.2.2.2.2.2.2.2.2.2.1 k0_t3 k0_h3 (k0_off338_inb i v3863 v3867 v3871 v3875 v3879 v3883 v3887 k0_hw1 k0_t3 k0_h3)
theorem k0_off340_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), ∀ a, (k0_off340 i v3863 v3867 v3871 v3875 v3879 v3883 v3887 k0_t3) a + S16x128.size a ≤ S880x5120.size a := fun i v3863 v3867 v3871 v3875 v3879 v3883 v3887 k0_hw1 k0_t3 k0_h3 => k0_hw1.1.2.2.2.2.2.2.2.2.2.2.2.2.2.2.2.2.2.2.2.2.2.2.2.1 k0_t3 k0_h3
theorem k0_off341_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), ∀ a, (k0_off341 i v3863 v3867 v3871 v3875 v3879 v3883 v3887 k0_t3) a + S1x16x128.size a ≤ S41x288x128.size a := fun i v3863 v3867 v3871 v3875 v3879 v3883 v3887 k0_hw1 k0_t3 k0_h3 => k0_hw1.1.2.2.2.2.2.2.2.2.2.2.2.2.2.2.2.2.2.2.2.2.2.2.2.2.1 k0_t3 k0_h3
theorem k0_off340_packedbf16 : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), (Rect.unit (s := S880x5120) (k0_off340 i v3863 v3867 v3871 v3875 v3879 v3883 v3887 k0_t3) S16x128.size (k0_off340_inb i v3863 v3867 v3871 v3875 v3879 v3883 v3887 k0_hw1 k0_t3 k0_h3)).PackedRows (EltTy.packing .bf16) := fun i v3863 v3867 v3871 v3875 v3879 v3883 v3887 k0_hw1 k0_t3 k0_h3 => k0_hw1.1.2.2.2.2.2.2.2.2.2.2.2.2.2.2.2.2.2.2.2.2.2.2.2.2.2.1 k0_t3 k0_h3 (k0_off340_inb i v3863 v3867 v3871 v3875 v3879 v3883 v3887 k0_hw1 k0_t3 k0_h3)
theorem k0_off342_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), ∀ a, (k0_off342 i v3863 v3867 v3871 v3875 v3879 v3883 v3887 k0_t3) a + S16x128.size a ≤ S880x5120.size a := fun i v3863 v3867 v3871 v3875 v3879 v3883 v3887 k0_hw1 k0_t3 k0_h3 => k0_hw1.1.2.2.2.2.2.2.2.2.2.2.2.2.2.2.2.2.2.2.2.2.2.2.2.2.2.2.1 k0_t3 k0_h3
theorem k0_off343_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), ∀ a, (k0_off343 i v3863 v3867 v3871 v3875 v3879 v3883 v3887 k0_t3) a + S1x16x128.size a ≤ S41x288x128.size a := fun i v3863 v3867 v3871 v3875 v3879 v3883 v3887 k0_hw1 k0_t3 k0_h3 => k0_hw1.1.2.2.2.2.2.2.2.2.2.2.2.2.2.2.2.2.2.2.2.2.2.2.2.2.2.2.2.1 k0_t3 k0_h3
theorem k0_off342_packedbf16 : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), (Rect.unit (s := S880x5120) (k0_off342 i v3863 v3867 v3871 v3875 v3879 v3883 v3887 k0_t3) S16x128.size (k0_off342_inb i v3863 v3867 v3871 v3875 v3879 v3883 v3887 k0_hw1 k0_t3 k0_h3)).PackedRows (EltTy.packing .bf16) := fun i v3863 v3867 v3871 v3875 v3879 v3883 v3887 k0_hw1 k0_t3 k0_h3 => k0_hw1.1.2.2.2.2.2.2.2.2.2.2.2.2.2.2.2.2.2.2.2.2.2.2.2.2.2.2.2.2.1 k0_t3 k0_h3 (k0_off342_inb i v3863 v3867 v3871 v3875 v3879 v3883 v3887 k0_hw1 k0_t3 k0_h3)
theorem k0_off344_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), ∀ a, (k0_off344 i v3863 v3867 v3871 v3875 v3879 v3883 v3887 k0_t3) a + S16x128.size a ≤ S880x5120.size a := fun i v3863 v3867 v3871 v3875 v3879 v3883 v3887 k0_hw1 k0_t3 k0_h3 => k0_hw1.1.2.2.2.2.2.2.2.2.2.2.2.2.2.2.2.2.2.2.2.2.2.2.2.2.2.2.2.2.2.1 k0_t3 k0_h3
theorem k0_off345_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), ∀ a, (k0_off345 i v3863 v3867 v3871 v3875 v3879 v3883 v3887 k0_t3) a + S1x16x128.size a ≤ S41x288x128.size a := fun i v3863 v3867 v3871 v3875 v3879 v3883 v3887 k0_hw1 k0_t3 k0_h3 => k0_hw1.1.2.2.2.2.2.2.2.2.2.2.2.2.2.2.2.2.2.2.2.2.2.2.2.2.2.2.2.2.2.2.1 k0_t3 k0_h3
theorem k0_off344_packedbf16 : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), (Rect.unit (s := S880x5120) (k0_off344 i v3863 v3867 v3871 v3875 v3879 v3883 v3887 k0_t3) S16x128.size (k0_off344_inb i v3863 v3867 v3871 v3875 v3879 v3883 v3887 k0_hw1 k0_t3 k0_h3)).PackedRows (EltTy.packing .bf16) := fun i v3863 v3867 v3871 v3875 v3879 v3883 v3887 k0_hw1 k0_t3 k0_h3 => k0_hw1.1.2.2.2.2.2.2.2.2.2.2.2.2.2.2.2.2.2.2.2.2.2.2.2.2.2.2.2.2.2.2.2 k0_t3 k0_h3 (k0_off344_inb i v3863 v3867 v3871 v3875 v3879 v3883 v3887 k0_hw1 k0_t3 k0_h3)
theorem k0_off346_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), ∀ a, (k0_off346 i v3863 v3867 v3871 v3875 v3879 v3883 v3887 k0_t3) a + S16x128.size a ≤ S880x5120.size a := fun i v3863 v3867 v3871 v3875 v3879 v3883 v3887 k0_hw1 k0_t3 k0_h3 => k0_hw1.2.1.1 k0_t3 k0_h3
theorem k0_off347_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), ∀ a, (k0_off347 i v3863 v3867 v3871 v3875 v3879 v3883 v3887 k0_t3) a + S1x16x128.size a ≤ S41x288x128.size a := fun i v3863 v3867 v3871 v3875 v3879 v3883 v3887 k0_hw1 k0_t3 k0_h3 => k0_hw1.2.1.2.1 k0_t3 k0_h3
theorem k0_off346_packedbf16 : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), (Rect.unit (s := S880x5120) (k0_off346 i v3863 v3867 v3871 v3875 v3879 v3883 v3887 k0_t3) S16x128.size (k0_off346_inb i v3863 v3867 v3871 v3875 v3879 v3883 v3887 k0_hw1 k0_t3 k0_h3)).PackedRows (EltTy.packing .bf16) := fun i v3863 v3867 v3871 v3875 v3879 v3883 v3887 k0_hw1 k0_t3 k0_h3 => k0_hw1.2.1.2.2.1 k0_t3 k0_h3 (k0_off346_inb i v3863 v3867 v3871 v3875 v3879 v3883 v3887 k0_hw1 k0_t3 k0_h3)
theorem k0_off348_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), ∀ a, (k0_off348 i v3863 v3867 v3871 v3875 v3879 v3883 v3887 k0_t3) a + S16x128.size a ≤ S880x5120.size a := fun i v3863 v3867 v3871 v3875 v3879 v3883 v3887 k0_hw1 k0_t3 k0_h3 => k0_hw1.2.1.2.2.2.1 k0_t3 k0_h3
theorem k0_off349_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), ∀ a, (k0_off349 i v3863 v3867 v3871 v3875 v3879 v3883 v3887 k0_t3) a + S1x16x128.size a ≤ S41x288x128.size a := fun i v3863 v3867 v3871 v3875 v3879 v3883 v3887 k0_hw1 k0_t3 k0_h3 => k0_hw1.2.1.2.2.2.2.1 k0_t3 k0_h3
theorem k0_off348_packedbf16 : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), (Rect.unit (s := S880x5120) (k0_off348 i v3863 v3867 v3871 v3875 v3879 v3883 v3887 k0_t3) S16x128.size (k0_off348_inb i v3863 v3867 v3871 v3875 v3879 v3883 v3887 k0_hw1 k0_t3 k0_h3)).PackedRows (EltTy.packing .bf16) := fun i v3863 v3867 v3871 v3875 v3879 v3883 v3887 k0_hw1 k0_t3 k0_h3 => k0_hw1.2.1.2.2.2.2.2.1 k0_t3 k0_h3 (k0_off348_inb i v3863 v3867 v3871 v3875 v3879 v3883 v3887 k0_hw1 k0_t3 k0_h3)
theorem k0_off350_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), ∀ a, (k0_off350 i v3863 v3867 v3871 v3875 v3879 v3883 v3887 k0_t3) a + S16x128.size a ≤ S880x5120.size a := fun i v3863 v3867 v3871 v3875 v3879 v3883 v3887 k0_hw1 k0_t3 k0_h3 => k0_hw1.2.1.2.2.2.2.2.2.1 k0_t3 k0_h3
theorem k0_off351_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), ∀ a, (k0_off351 i v3863 v3867 v3871 v3875 v3879 v3883 v3887 k0_t3) a + S1x16x128.size a ≤ S41x288x128.size a := fun i v3863 v3867 v3871 v3875 v3879 v3883 v3887 k0_hw1 k0_t3 k0_h3 => k0_hw1.2.1.2.2.2.2.2.2.2.1 k0_t3 k0_h3
theorem k0_off350_packedbf16 : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), (Rect.unit (s := S880x5120) (k0_off350 i v3863 v3867 v3871 v3875 v3879 v3883 v3887 k0_t3) S16x128.size (k0_off350_inb i v3863 v3867 v3871 v3875 v3879 v3883 v3887 k0_hw1 k0_t3 k0_h3)).PackedRows (EltTy.packing .bf16) := fun i v3863 v3867 v3871 v3875 v3879 v3883 v3887 k0_hw1 k0_t3 k0_h3 => k0_hw1.2.1.2.2.2.2.2.2.2.2.1 k0_t3 k0_h3 (k0_off350_inb i v3863 v3867 v3871 v3875 v3879 v3883 v3887 k0_hw1 k0_t3 k0_h3)
theorem k0_off352_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), ∀ a, (k0_off352 i v3863 v3867 v3871 v3875 v3879 v3883 v3887 k0_t3) a + S16x128.size a ≤ S880x5120.size a := fun i v3863 v3867 v3871 v3875 v3879 v3883 v3887 k0_hw1 k0_t3 k0_h3 => k0_hw1.2.1.2.2.2.2.2.2.2.2.2.1 k0_t3 k0_h3
theorem k0_off353_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), ∀ a, (k0_off353 i v3863 v3867 v3871 v3875 v3879 v3883 v3887 k0_t3) a + S1x16x128.size a ≤ S41x288x128.size a := fun i v3863 v3867 v3871 v3875 v3879 v3883 v3887 k0_hw1 k0_t3 k0_h3 => k0_hw1.2.1.2.2.2.2.2.2.2.2.2.2.1 k0_t3 k0_h3
theorem k0_off352_packedbf16 : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), (Rect.unit (s := S880x5120) (k0_off352 i v3863 v3867 v3871 v3875 v3879 v3883 v3887 k0_t3) S16x128.size (k0_off352_inb i v3863 v3867 v3871 v3875 v3879 v3883 v3887 k0_hw1 k0_t3 k0_h3)).PackedRows (EltTy.packing .bf16) := fun i v3863 v3867 v3871 v3875 v3879 v3883 v3887 k0_hw1 k0_t3 k0_h3 => k0_hw1.2.1.2.2.2.2.2.2.2.2.2.2.2.1 k0_t3 k0_h3 (k0_off352_inb i v3863 v3867 v3871 v3875 v3879 v3883 v3887 k0_hw1 k0_t3 k0_h3)
theorem k0_off354_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), ∀ a, (k0_off354 i v3863 v3867 v3871 v3875 v3879 v3883 v3887 k0_t3) a + S16x128.size a ≤ S880x5120.size a := fun i v3863 v3867 v3871 v3875 v3879 v3883 v3887 k0_hw1 k0_t3 k0_h3 => k0_hw1.2.1.2.2.2.2.2.2.2.2.2.2.2.2.1 k0_t3 k0_h3
theorem k0_off355_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), ∀ a, (k0_off355 i v3863 v3867 v3871 v3875 v3879 v3883 v3887 k0_t3) a + S1x16x128.size a ≤ S41x288x128.size a := fun i v3863 v3867 v3871 v3875 v3879 v3883 v3887 k0_hw1 k0_t3 k0_h3 => k0_hw1.2.1.2.2.2.2.2.2.2.2.2.2.2.2.2.1 k0_t3 k0_h3
theorem k0_off354_packedbf16 : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), (Rect.unit (s := S880x5120) (k0_off354 i v3863 v3867 v3871 v3875 v3879 v3883 v3887 k0_t3) S16x128.size (k0_off354_inb i v3863 v3867 v3871 v3875 v3879 v3883 v3887 k0_hw1 k0_t3 k0_h3)).PackedRows (EltTy.packing .bf16) := fun i v3863 v3867 v3871 v3875 v3879 v3883 v3887 k0_hw1 k0_t3 k0_h3 => k0_hw1.2.1.2.2.2.2.2.2.2.2.2.2.2.2.2.2.1 k0_t3 k0_h3 (k0_off354_inb i v3863 v3867 v3871 v3875 v3879 v3883 v3887 k0_hw1 k0_t3 k0_h3)
theorem k0_off356_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), ∀ a, (k0_off356 i v3863 v3867 v3871 v3875 v3879 v3883 v3887 k0_t3) a + S16x128.size a ≤ S880x5120.size a := fun i v3863 v3867 v3871 v3875 v3879 v3883 v3887 k0_hw1 k0_t3 k0_h3 => k0_hw1.2.1.2.2.2.2.2.2.2.2.2.2.2.2.2.2.2.1 k0_t3 k0_h3
theorem k0_off357_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), ∀ a, (k0_off357 i v3863 v3867 v3871 v3875 v3879 v3883 v3887 k0_t3) a + S1x16x128.size a ≤ S41x288x128.size a := fun i v3863 v3867 v3871 v3875 v3879 v3883 v3887 k0_hw1 k0_t3 k0_h3 => k0_hw1.2.1.2.2.2.2.2.2.2.2.2.2.2.2.2.2.2.2.1 k0_t3 k0_h3
theorem k0_off356_packedbf16 : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), (Rect.unit (s := S880x5120) (k0_off356 i v3863 v3867 v3871 v3875 v3879 v3883 v3887 k0_t3) S16x128.size (k0_off356_inb i v3863 v3867 v3871 v3875 v3879 v3883 v3887 k0_hw1 k0_t3 k0_h3)).PackedRows (EltTy.packing .bf16) := fun i v3863 v3867 v3871 v3875 v3879 v3883 v3887 k0_hw1 k0_t3 k0_h3 => k0_hw1.2.1.2.2.2.2.2.2.2.2.2.2.2.2.2.2.2.2.2.1 k0_t3 k0_h3 (k0_off356_inb i v3863 v3867 v3871 v3875 v3879 v3883 v3887 k0_hw1 k0_t3 k0_h3)
theorem k0_off358_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), ∀ a, (k0_off358 i v3863 v3867 v3871 v3875 v3879 v3883 v3887 k0_t3) a + S16x128.size a ≤ S880x5120.size a := fun i v3863 v3867 v3871 v3875 v3879 v3883 v3887 k0_hw1 k0_t3 k0_h3 => k0_hw1.2.1.2.2.2.2.2.2.2.2.2.2.2.2.2.2.2.2.2.2.1 k0_t3 k0_h3
theorem k0_off359_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), ∀ a, (k0_off359 i v3863 v3867 v3871 v3875 v3879 v3883 v3887 k0_t3) a + S1x16x128.size a ≤ S41x288x128.size a := fun i v3863 v3867 v3871 v3875 v3879 v3883 v3887 k0_hw1 k0_t3 k0_h3 => k0_hw1.2.1.2.2.2.2.2.2.2.2.2.2.2.2.2.2.2.2.2.2.2.1 k0_t3 k0_h3
theorem k0_off358_packedbf16 : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), (Rect.unit (s := S880x5120) (k0_off358 i v3863 v3867 v3871 v3875 v3879 v3883 v3887 k0_t3) S16x128.size (k0_off358_inb i v3863 v3867 v3871 v3875 v3879 v3883 v3887 k0_hw1 k0_t3 k0_h3)).PackedRows (EltTy.packing .bf16) := fun i v3863 v3867 v3871 v3875 v3879 v3883 v3887 k0_hw1 k0_t3 k0_h3 => k0_hw1.2.1.2.2.2.2.2.2.2.2.2.2.2.2.2.2.2.2.2.2.2.2.1 k0_t3 k0_h3 (k0_off358_inb i v3863 v3867 v3871 v3875 v3879 v3883 v3887 k0_hw1 k0_t3 k0_h3)
theorem k0_off360_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), ∀ a, (k0_off360 i v3863 v3867 v3871 v3875 v3879 v3883 v3887 k0_t3) a + S16x128.size a ≤ S880x5120.size a := fun i v3863 v3867 v3871 v3875 v3879 v3883 v3887 k0_hw1 k0_t3 k0_h3 => k0_hw1.2.1.2.2.2.2.2.2.2.2.2.2.2.2.2.2.2.2.2.2.2.2.2.1 k0_t3 k0_h3
theorem k0_off361_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), ∀ a, (k0_off361 i v3863 v3867 v3871 v3875 v3879 v3883 v3887 k0_t3) a + S1x16x128.size a ≤ S41x288x128.size a := fun i v3863 v3867 v3871 v3875 v3879 v3883 v3887 k0_hw1 k0_t3 k0_h3 => k0_hw1.2.1.2.2.2.2.2.2.2.2.2.2.2.2.2.2.2.2.2.2.2.2.2.2.1 k0_t3 k0_h3
theorem k0_off360_packedbf16 : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), (Rect.unit (s := S880x5120) (k0_off360 i v3863 v3867 v3871 v3875 v3879 v3883 v3887 k0_t3) S16x128.size (k0_off360_inb i v3863 v3867 v3871 v3875 v3879 v3883 v3887 k0_hw1 k0_t3 k0_h3)).PackedRows (EltTy.packing .bf16) := fun i v3863 v3867 v3871 v3875 v3879 v3883 v3887 k0_hw1 k0_t3 k0_h3 => k0_hw1.2.1.2.2.2.2.2.2.2.2.2.2.2.2.2.2.2.2.2.2.2.2.2.2.2.1 k0_t3 k0_h3 (k0_off360_inb i v3863 v3867 v3871 v3875 v3879 v3883 v3887 k0_hw1 k0_t3 k0_h3)
theorem k0_off362_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), ∀ a, (k0_off362 i v3863 v3867 v3871 v3875 v3879 v3883 v3887 k0_t3) a + S16x128.size a ≤ S880x5120.size a := fun i v3863 v3867 v3871 v3875 v3879 v3883 v3887 k0_hw1 k0_t3 k0_h3 => k0_hw1.2.1.2.2.2.2.2.2.2.2.2.2.2.2.2.2.2.2.2.2.2.2.2.2.2.2.1 k0_t3 k0_h3
theorem k0_off363_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), ∀ a, (k0_off363 i v3863 v3867 v3871 v3875 v3879 v3883 v3887 k0_t3) a + S1x16x128.size a ≤ S41x288x128.size a := fun i v3863 v3867 v3871 v3875 v3879 v3883 v3887 k0_hw1 k0_t3 k0_h3 => k0_hw1.2.1.2.2.2.2.2.2.2.2.2.2.2.2.2.2.2.2.2.2.2.2.2.2.2.2.2.1 k0_t3 k0_h3
theorem k0_off362_packedbf16 : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), (Rect.unit (s := S880x5120) (k0_off362 i v3863 v3867 v3871 v3875 v3879 v3883 v3887 k0_t3) S16x128.size (k0_off362_inb i v3863 v3867 v3871 v3875 v3879 v3883 v3887 k0_hw1 k0_t3 k0_h3)).PackedRows (EltTy.packing .bf16) := fun i v3863 v3867 v3871 v3875 v3879 v3883 v3887 k0_hw1 k0_t3 k0_h3 => k0_hw1.2.1.2.2.2.2.2.2.2.2.2.2.2.2.2.2.2.2.2.2.2.2.2.2.2.2.2.2.1 k0_t3 k0_h3 (k0_off362_inb i v3863 v3867 v3871 v3875 v3879 v3883 v3887 k0_hw1 k0_t3 k0_h3)
theorem k0_off364_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), ∀ a, (k0_off364 i v3863 v3867 v3871 v3875 v3879 v3883 v3887 k0_t3) a + S16x128.size a ≤ S880x5120.size a := fun i v3863 v3867 v3871 v3875 v3879 v3883 v3887 k0_hw1 k0_t3 k0_h3 => k0_hw1.2.1.2.2.2.2.2.2.2.2.2.2.2.2.2.2.2.2.2.2.2.2.2.2.2.2.2.2.2.1 k0_t3 k0_h3
theorem k0_off365_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), ∀ a, (k0_off365 i v3863 v3867 v3871 v3875 v3879 v3883 v3887 k0_t3) a + S1x16x128.size a ≤ S41x288x128.size a := fun i v3863 v3867 v3871 v3875 v3879 v3883 v3887 k0_hw1 k0_t3 k0_h3 => k0_hw1.2.1.2.2.2.2.2.2.2.2.2.2.2.2.2.2.2.2.2.2.2.2.2.2.2.2.2.2.2.2.1 k0_t3 k0_h3
theorem k0_off364_packedbf16 : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), (Rect.unit (s := S880x5120) (k0_off364 i v3863 v3867 v3871 v3875 v3879 v3883 v3887 k0_t3) S16x128.size (k0_off364_inb i v3863 v3867 v3871 v3875 v3879 v3883 v3887 k0_hw1 k0_t3 k0_h3)).PackedRows (EltTy.packing .bf16) := fun i v3863 v3867 v3871 v3875 v3879 v3883 v3887 k0_hw1 k0_t3 k0_h3 => k0_hw1.2.1.2.2.2.2.2.2.2.2.2.2.2.2.2.2.2.2.2.2.2.2.2.2.2.2.2.2.2.2.2.1 k0_t3 k0_h3 (k0_off364_inb i v3863 v3867 v3871 v3875 v3879 v3883 v3887 k0_hw1 k0_t3 k0_h3)
theorem k0_off366_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), ∀ a, (k0_off366 i v3863 v3867 v3871 v3875 v3879 v3883 v3887 k0_t3) a + S16x128.size a ≤ S880x5120.size a := fun i v3863 v3867 v3871 v3875 v3879 v3883 v3887 k0_hw1 k0_t3 k0_h3 => k0_hw1.2.1.2.2.2.2.2.2.2.2.2.2.2.2.2.2.2.2.2.2.2.2.2.2.2.2.2.2.2.2.2.2.1 k0_t3 k0_h3
theorem k0_off367_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), ∀ a, (k0_off367 i v3863 v3867 v3871 v3875 v3879 v3883 v3887 k0_t3) a + S1x16x128.size a ≤ S41x288x128.size a := fun i v3863 v3867 v3871 v3875 v3879 v3883 v3887 k0_hw1 k0_t3 k0_h3 => k0_hw1.2.1.2.2.2.2.2.2.2.2.2.2.2.2.2.2.2.2.2.2.2.2.2.2.2.2.2.2.2.2.2.2.2 k0_t3 k0_h3
theorem k0_off366_packedbf16 : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), (Rect.unit (s := S880x5120) (k0_off366 i v3863 v3867 v3871 v3875 v3879 v3883 v3887 k0_t3) S16x128.size (k0_off366_inb i v3863 v3867 v3871 v3875 v3879 v3883 v3887 k0_hw1 k0_t3 k0_h3)).PackedRows (EltTy.packing .bf16) := fun i v3863 v3867 v3871 v3875 v3879 v3883 v3887 k0_hw1 k0_t3 k0_h3 => k0_hw1.2.2.1.1 k0_t3 k0_h3 (k0_off366_inb i v3863 v3867 v3871 v3875 v3879 v3883 v3887 k0_hw1 k0_t3 k0_h3)
theorem k0_off368_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), ∀ a, (k0_off368 i v3863 v3867 v3871 v3875 v3879 v3883 v3887 k0_t3) a + S16x128.size a ≤ S880x5120.size a := fun i v3863 v3867 v3871 v3875 v3879 v3883 v3887 k0_hw1 k0_t3 k0_h3 => k0_hw1.2.2.1.2.1 k0_t3 k0_h3
theorem k0_off369_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), ∀ a, (k0_off369 i v3863 v3867 v3871 v3875 v3879 v3883 v3887 k0_t3) a + S1x16x128.size a ≤ S41x288x128.size a := fun i v3863 v3867 v3871 v3875 v3879 v3883 v3887 k0_hw1 k0_t3 k0_h3 => k0_hw1.2.2.1.2.2.1 k0_t3 k0_h3
theorem k0_off368_packedbf16 : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), (Rect.unit (s := S880x5120) (k0_off368 i v3863 v3867 v3871 v3875 v3879 v3883 v3887 k0_t3) S16x128.size (k0_off368_inb i v3863 v3867 v3871 v3875 v3879 v3883 v3887 k0_hw1 k0_t3 k0_h3)).PackedRows (EltTy.packing .bf16) := fun i v3863 v3867 v3871 v3875 v3879 v3883 v3887 k0_hw1 k0_t3 k0_h3 => k0_hw1.2.2.1.2.2.2.1 k0_t3 k0_h3 (k0_off368_inb i v3863 v3867 v3871 v3875 v3879 v3883 v3887 k0_hw1 k0_t3 k0_h3)
theorem k0_off370_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), ∀ a, (k0_off370 i v3863 v3867 v3871 v3875 v3879 v3883 v3887 k0_t3) a + S16x128.size a ≤ S880x5120.size a := fun i v3863 v3867 v3871 v3875 v3879 v3883 v3887 k0_hw1 k0_t3 k0_h3 => k0_hw1.2.2.1.2.2.2.2.1 k0_t3 k0_h3
theorem k0_off371_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), ∀ a, (k0_off371 i v3863 v3867 v3871 v3875 v3879 v3883 v3887 k0_t3) a + S1x16x128.size a ≤ S41x288x128.size a := fun i v3863 v3867 v3871 v3875 v3879 v3883 v3887 k0_hw1 k0_t3 k0_h3 => k0_hw1.2.2.1.2.2.2.2.2.1 k0_t3 k0_h3
theorem k0_off370_packedbf16 : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), (Rect.unit (s := S880x5120) (k0_off370 i v3863 v3867 v3871 v3875 v3879 v3883 v3887 k0_t3) S16x128.size (k0_off370_inb i v3863 v3867 v3871 v3875 v3879 v3883 v3887 k0_hw1 k0_t3 k0_h3)).PackedRows (EltTy.packing .bf16) := fun i v3863 v3867 v3871 v3875 v3879 v3883 v3887 k0_hw1 k0_t3 k0_h3 => k0_hw1.2.2.1.2.2.2.2.2.2.1 k0_t3 k0_h3 (k0_off370_inb i v3863 v3867 v3871 v3875 v3879 v3883 v3887 k0_hw1 k0_t3 k0_h3)
theorem k0_off372_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), ∀ a, (k0_off372 i v3863 v3867 v3871 v3875 v3879 v3883 v3887 k0_t3) a + S16x128.size a ≤ S880x5120.size a := fun i v3863 v3867 v3871 v3875 v3879 v3883 v3887 k0_hw1 k0_t3 k0_h3 => k0_hw1.2.2.1.2.2.2.2.2.2.2.1 k0_t3 k0_h3
theorem k0_off373_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), ∀ a, (k0_off373 i v3863 v3867 v3871 v3875 v3879 v3883 v3887 k0_t3) a + S1x16x128.size a ≤ S41x288x128.size a := fun i v3863 v3867 v3871 v3875 v3879 v3883 v3887 k0_hw1 k0_t3 k0_h3 => k0_hw1.2.2.1.2.2.2.2.2.2.2.2.1 k0_t3 k0_h3
theorem k0_off372_packedbf16 : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), (Rect.unit (s := S880x5120) (k0_off372 i v3863 v3867 v3871 v3875 v3879 v3883 v3887 k0_t3) S16x128.size (k0_off372_inb i v3863 v3867 v3871 v3875 v3879 v3883 v3887 k0_hw1 k0_t3 k0_h3)).PackedRows (EltTy.packing .bf16) := fun i v3863 v3867 v3871 v3875 v3879 v3883 v3887 k0_hw1 k0_t3 k0_h3 => k0_hw1.2.2.1.2.2.2.2.2.2.2.2.2.1 k0_t3 k0_h3 (k0_off372_inb i v3863 v3867 v3871 v3875 v3879 v3883 v3887 k0_hw1 k0_t3 k0_h3)
theorem k0_off374_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), ∀ a, (k0_off374 i v3863 v3867 v3871 v3875 v3879 v3883 v3887 k0_t3) a + S16x128.size a ≤ S880x5120.size a := fun i v3863 v3867 v3871 v3875 v3879 v3883 v3887 k0_hw1 k0_t3 k0_h3 => k0_hw1.2.2.1.2.2.2.2.2.2.2.2.2.2.1 k0_t3 k0_h3
theorem k0_off375_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), ∀ a, (k0_off375 i v3863 v3867 v3871 v3875 v3879 v3883 v3887 k0_t3) a + S1x16x128.size a ≤ S41x288x128.size a := fun i v3863 v3867 v3871 v3875 v3879 v3883 v3887 k0_hw1 k0_t3 k0_h3 => k0_hw1.2.2.1.2.2.2.2.2.2.2.2.2.2.2.1 k0_t3 k0_h3
theorem k0_off374_packedbf16 : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), (Rect.unit (s := S880x5120) (k0_off374 i v3863 v3867 v3871 v3875 v3879 v3883 v3887 k0_t3) S16x128.size (k0_off374_inb i v3863 v3867 v3871 v3875 v3879 v3883 v3887 k0_hw1 k0_t3 k0_h3)).PackedRows (EltTy.packing .bf16) := fun i v3863 v3867 v3871 v3875 v3879 v3883 v3887 k0_hw1 k0_t3 k0_h3 => k0_hw1.2.2.1.2.2.2.2.2.2.2.2.2.2.2.2.1 k0_t3 k0_h3 (k0_off374_inb i v3863 v3867 v3871 v3875 v3879 v3883 v3887 k0_hw1 k0_t3 k0_h3)
theorem k0_off376_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), ∀ a, (k0_off376 i v3863 v3867 v3871 v3875 v3879 v3883 v3887 k0_t3) a + S16x128.size a ≤ S880x5120.size a := fun i v3863 v3867 v3871 v3875 v3879 v3883 v3887 k0_hw1 k0_t3 k0_h3 => k0_hw1.2.2.1.2.2.2.2.2.2.2.2.2.2.2.2.2.1 k0_t3 k0_h3
theorem k0_off377_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), ∀ a, (k0_off377 i v3863 v3867 v3871 v3875 v3879 v3883 v3887 k0_t3) a + S1x16x128.size a ≤ S41x288x128.size a := fun i v3863 v3867 v3871 v3875 v3879 v3883 v3887 k0_hw1 k0_t3 k0_h3 => k0_hw1.2.2.1.2.2.2.2.2.2.2.2.2.2.2.2.2.2.1 k0_t3 k0_h3
theorem k0_off376_packedbf16 : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), (Rect.unit (s := S880x5120) (k0_off376 i v3863 v3867 v3871 v3875 v3879 v3883 v3887 k0_t3) S16x128.size (k0_off376_inb i v3863 v3867 v3871 v3875 v3879 v3883 v3887 k0_hw1 k0_t3 k0_h3)).PackedRows (EltTy.packing .bf16) := fun i v3863 v3867 v3871 v3875 v3879 v3883 v3887 k0_hw1 k0_t3 k0_h3 => k0_hw1.2.2.1.2.2.2.2.2.2.2.2.2.2.2.2.2.2.2.1 k0_t3 k0_h3 (k0_off376_inb i v3863 v3867 v3871 v3875 v3879 v3883 v3887 k0_hw1 k0_t3 k0_h3)
theorem k0_off378_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), ∀ a, (k0_off378 i v3863 v3867 v3871 v3875 v3879 v3883 v3887 k0_t3) a + S16x128.size a ≤ S880x5120.size a := fun i v3863 v3867 v3871 v3875 v3879 v3883 v3887 k0_hw1 k0_t3 k0_h3 => k0_hw1.2.2.1.2.2.2.2.2.2.2.2.2.2.2.2.2.2.2.2.1 k0_t3 k0_h3
theorem k0_off379_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), ∀ a, (k0_off379 i v3863 v3867 v3871 v3875 v3879 v3883 v3887 k0_t3) a + S1x16x128.size a ≤ S41x288x128.size a := fun i v3863 v3867 v3871 v3875 v3879 v3883 v3887 k0_hw1 k0_t3 k0_h3 => k0_hw1.2.2.1.2.2.2.2.2.2.2.2.2.2.2.2.2.2.2.2.2.1 k0_t3 k0_h3
theorem k0_off378_packedbf16 : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), (Rect.unit (s := S880x5120) (k0_off378 i v3863 v3867 v3871 v3875 v3879 v3883 v3887 k0_t3) S16x128.size (k0_off378_inb i v3863 v3867 v3871 v3875 v3879 v3883 v3887 k0_hw1 k0_t3 k0_h3)).PackedRows (EltTy.packing .bf16) := fun i v3863 v3867 v3871 v3875 v3879 v3883 v3887 k0_hw1 k0_t3 k0_h3 => k0_hw1.2.2.1.2.2.2.2.2.2.2.2.2.2.2.2.2.2.2.2.2.2.1 k0_t3 k0_h3 (k0_off378_inb i v3863 v3867 v3871 v3875 v3879 v3883 v3887 k0_hw1 k0_t3 k0_h3)
theorem k0_off380_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), ∀ a, (k0_off380 i v3863 v3867 v3871 v3875 v3879 v3883 v3887 k0_t3) a + S16x128.size a ≤ S880x5120.size a := fun i v3863 v3867 v3871 v3875 v3879 v3883 v3887 k0_hw1 k0_t3 k0_h3 => k0_hw1.2.2.1.2.2.2.2.2.2.2.2.2.2.2.2.2.2.2.2.2.2.2.1 k0_t3 k0_h3
theorem k0_off381_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), ∀ a, (k0_off381 i v3863 v3867 v3871 v3875 v3879 v3883 v3887 k0_t3) a + S1x16x128.size a ≤ S41x288x128.size a := fun i v3863 v3867 v3871 v3875 v3879 v3883 v3887 k0_hw1 k0_t3 k0_h3 => k0_hw1.2.2.1.2.2.2.2.2.2.2.2.2.2.2.2.2.2.2.2.2.2.2.2.1 k0_t3 k0_h3
theorem k0_off380_packedbf16 : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), (Rect.unit (s := S880x5120) (k0_off380 i v3863 v3867 v3871 v3875 v3879 v3883 v3887 k0_t3) S16x128.size (k0_off380_inb i v3863 v3867 v3871 v3875 v3879 v3883 v3887 k0_hw1 k0_t3 k0_h3)).PackedRows (EltTy.packing .bf16) := fun i v3863 v3867 v3871 v3875 v3879 v3883 v3887 k0_hw1 k0_t3 k0_h3 => k0_hw1.2.2.1.2.2.2.2.2.2.2.2.2.2.2.2.2.2.2.2.2.2.2.2.2.1 k0_t3 k0_h3 (k0_off380_inb i v3863 v3867 v3871 v3875 v3879 v3883 v3887 k0_hw1 k0_t3 k0_h3)
theorem k0_off382_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), ∀ a, (k0_off382 i v3863 v3867 v3871 v3875 v3879 v3883 v3887 k0_t3) a + S16x128.size a ≤ S880x5120.size a := fun i v3863 v3867 v3871 v3875 v3879 v3883 v3887 k0_hw1 k0_t3 k0_h3 => k0_hw1.2.2.1.2.2.2.2.2.2.2.2.2.2.2.2.2.2.2.2.2.2.2.2.2.2.1 k0_t3 k0_h3
theorem k0_off383_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), ∀ a, (k0_off383 i v3863 v3867 v3871 v3875 v3879 v3883 v3887 k0_t3) a + S1x16x128.size a ≤ S41x288x128.size a := fun i v3863 v3867 v3871 v3875 v3879 v3883 v3887 k0_hw1 k0_t3 k0_h3 => k0_hw1.2.2.1.2.2.2.2.2.2.2.2.2.2.2.2.2.2.2.2.2.2.2.2.2.2.2.1 k0_t3 k0_h3
theorem k0_off382_packedbf16 : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), (Rect.unit (s := S880x5120) (k0_off382 i v3863 v3867 v3871 v3875 v3879 v3883 v3887 k0_t3) S16x128.size (k0_off382_inb i v3863 v3867 v3871 v3875 v3879 v3883 v3887 k0_hw1 k0_t3 k0_h3)).PackedRows (EltTy.packing .bf16) := fun i v3863 v3867 v3871 v3875 v3879 v3883 v3887 k0_hw1 k0_t3 k0_h3 => k0_hw1.2.2.1.2.2.2.2.2.2.2.2.2.2.2.2.2.2.2.2.2.2.2.2.2.2.2.2.1 k0_t3 k0_h3 (k0_off382_inb i v3863 v3867 v3871 v3875 v3879 v3883 v3887 k0_hw1 k0_t3 k0_h3)
theorem k0_off384_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), ∀ a, (k0_off384 i v3863 v3867 v3871 v3875 v3879 v3883 v3887 k0_t3) a + S16x128.size a ≤ S880x5120.size a := fun i v3863 v3867 v3871 v3875 v3879 v3883 v3887 k0_hw1 k0_t3 k0_h3 => k0_hw1.2.2.1.2.2.2.2.2.2.2.2.2.2.2.2.2.2.2.2.2.2.2.2.2.2.2.2.2.1 k0_t3 k0_h3
theorem k0_off385_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), ∀ a, (k0_off385 i v3863 v3867 v3871 v3875 v3879 v3883 v3887 k0_t3) a + S1x16x128.size a ≤ S41x288x128.size a := fun i v3863 v3867 v3871 v3875 v3879 v3883 v3887 k0_hw1 k0_t3 k0_h3 => k0_hw1.2.2.1.2.2.2.2.2.2.2.2.2.2.2.2.2.2.2.2.2.2.2.2.2.2.2.2.2.2.1 k0_t3 k0_h3
theorem k0_off384_packedbf16 : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), (Rect.unit (s := S880x5120) (k0_off384 i v3863 v3867 v3871 v3875 v3879 v3883 v3887 k0_t3) S16x128.size (k0_off384_inb i v3863 v3867 v3871 v3875 v3879 v3883 v3887 k0_hw1 k0_t3 k0_h3)).PackedRows (EltTy.packing .bf16) := fun i v3863 v3867 v3871 v3875 v3879 v3883 v3887 k0_hw1 k0_t3 k0_h3 => k0_hw1.2.2.1.2.2.2.2.2.2.2.2.2.2.2.2.2.2.2.2.2.2.2.2.2.2.2.2.2.2.2.1 k0_t3 k0_h3 (k0_off384_inb i v3863 v3867 v3871 v3875 v3879 v3883 v3887 k0_hw1 k0_t3 k0_h3)
theorem k0_off386_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), ∀ a, (k0_off386 i v3863 v3867 v3871 v3875 v3879 v3883 v3887 k0_t3) a + S16x128.size a ≤ S880x5120.size a := fun i v3863 v3867 v3871 v3875 v3879 v3883 v3887 k0_hw1 k0_t3 k0_h3 => k0_hw1.2.2.1.2.2.2.2.2.2.2.2.2.2.2.2.2.2.2.2.2.2.2.2.2.2.2.2.2.2.2.2.1 k0_t3 k0_h3
theorem k0_off387_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), ∀ a, (k0_off387 i v3863 v3867 v3871 v3875 v3879 v3883 v3887 k0_t3) a + S1x16x128.size a ≤ S41x288x128.size a := fun i v3863 v3867 v3871 v3875 v3879 v3883 v3887 k0_hw1 k0_t3 k0_h3 => k0_hw1.2.2.1.2.2.2.2.2.2.2.2.2.2.2.2.2.2.2.2.2.2.2.2.2.2.2.2.2.2.2.2.2.1 k0_t3 k0_h3
theorem k0_off386_packedbf16 : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), (Rect.unit (s := S880x5120) (k0_off386 i v3863 v3867 v3871 v3875 v3879 v3883 v3887 k0_t3) S16x128.size (k0_off386_inb i v3863 v3867 v3871 v3875 v3879 v3883 v3887 k0_hw1 k0_t3 k0_h3)).PackedRows (EltTy.packing .bf16) := fun i v3863 v3867 v3871 v3875 v3879 v3883 v3887 k0_hw1 k0_t3 k0_h3 => k0_hw1.2.2.1.2.2.2.2.2.2.2.2.2.2.2.2.2.2.2.2.2.2.2.2.2.2.2.2.2.2.2.2.2.2.1 k0_t3 k0_h3 (k0_off386_inb i v3863 v3867 v3871 v3875 v3879 v3883 v3887 k0_hw1 k0_t3 k0_h3)
theorem k0_off388_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), ∀ a, (k0_off388 i v3863 v3867 v3871 v3875 v3879 v3883 v3887 k0_t3) a + S16x128.size a ≤ S880x5120.size a := fun i v3863 v3867 v3871 v3875 v3879 v3883 v3887 k0_hw1 k0_t3 k0_h3 => k0_hw1.2.2.1.2.2.2.2.2.2.2.2.2.2.2.2.2.2.2.2.2.2.2.2.2.2.2.2.2.2.2.2.2.2.2 k0_t3 k0_h3
theorem k0_off389_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), ∀ a, (k0_off389 i v3863 v3867 v3871 v3875 v3879 v3883 v3887 k0_t3) a + S1x16x128.size a ≤ S41x288x128.size a := fun i v3863 v3867 v3871 v3875 v3879 v3883 v3887 k0_hw1 k0_t3 k0_h3 => k0_hw1.2.2.2.1.1 k0_t3 k0_h3
theorem k0_off388_packedbf16 : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), (Rect.unit (s := S880x5120) (k0_off388 i v3863 v3867 v3871 v3875 v3879 v3883 v3887 k0_t3) S16x128.size (k0_off388_inb i v3863 v3867 v3871 v3875 v3879 v3883 v3887 k0_hw1 k0_t3 k0_h3)).PackedRows (EltTy.packing .bf16) := fun i v3863 v3867 v3871 v3875 v3879 v3883 v3887 k0_hw1 k0_t3 k0_h3 => k0_hw1.2.2.2.1.2.1 k0_t3 k0_h3 (k0_off388_inb i v3863 v3867 v3871 v3875 v3879 v3883 v3887 k0_hw1 k0_t3 k0_h3)
theorem k0_off390_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), ∀ a, (k0_off390 i v3863 v3867 v3871 v3875 v3879 v3883 v3887 k0_t3) a + S16x128.size a ≤ S880x5120.size a := fun i v3863 v3867 v3871 v3875 v3879 v3883 v3887 k0_hw1 k0_t3 k0_h3 => k0_hw1.2.2.2.1.2.2.1 k0_t3 k0_h3
theorem k0_off391_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), ∀ a, (k0_off391 i v3863 v3867 v3871 v3875 v3879 v3883 v3887 k0_t3) a + S1x16x128.size a ≤ S41x288x128.size a := fun i v3863 v3867 v3871 v3875 v3879 v3883 v3887 k0_hw1 k0_t3 k0_h3 => k0_hw1.2.2.2.1.2.2.2.1 k0_t3 k0_h3
theorem k0_off390_packedbf16 : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), (Rect.unit (s := S880x5120) (k0_off390 i v3863 v3867 v3871 v3875 v3879 v3883 v3887 k0_t3) S16x128.size (k0_off390_inb i v3863 v3867 v3871 v3875 v3879 v3883 v3887 k0_hw1 k0_t3 k0_h3)).PackedRows (EltTy.packing .bf16) := fun i v3863 v3867 v3871 v3875 v3879 v3883 v3887 k0_hw1 k0_t3 k0_h3 => k0_hw1.2.2.2.1.2.2.2.2.1 k0_t3 k0_h3 (k0_off390_inb i v3863 v3867 v3871 v3875 v3879 v3883 v3887 k0_hw1 k0_t3 k0_h3)
theorem k0_off392_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), ∀ a, (k0_off392 i v3863 v3867 v3871 v3875 v3879 v3883 v3887 k0_t3) a + S16x128.size a ≤ S880x5120.size a := fun i v3863 v3867 v3871 v3875 v3879 v3883 v3887 k0_hw1 k0_t3 k0_h3 => k0_hw1.2.2.2.1.2.2.2.2.2.1 k0_t3 k0_h3
theorem k0_off393_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), ∀ a, (k0_off393 i v3863 v3867 v3871 v3875 v3879 v3883 v3887 k0_t3) a + S1x16x128.size a ≤ S41x288x128.size a := fun i v3863 v3867 v3871 v3875 v3879 v3883 v3887 k0_hw1 k0_t3 k0_h3 => k0_hw1.2.2.2.1.2.2.2.2.2.2.1 k0_t3 k0_h3
theorem k0_off392_packedbf16 : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), (Rect.unit (s := S880x5120) (k0_off392 i v3863 v3867 v3871 v3875 v3879 v3883 v3887 k0_t3) S16x128.size (k0_off392_inb i v3863 v3867 v3871 v3875 v3879 v3883 v3887 k0_hw1 k0_t3 k0_h3)).PackedRows (EltTy.packing .bf16) := fun i v3863 v3867 v3871 v3875 v3879 v3883 v3887 k0_hw1 k0_t3 k0_h3 => k0_hw1.2.2.2.1.2.2.2.2.2.2.2.1 k0_t3 k0_h3 (k0_off392_inb i v3863 v3867 v3871 v3875 v3879 v3883 v3887 k0_hw1 k0_t3 k0_h3)
theorem k0_off394_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), ∀ a, (k0_off394 i v3863 v3867 v3871 v3875 v3879 v3883 v3887 k0_t3) a + S16x128.size a ≤ S880x5120.size a := fun i v3863 v3867 v3871 v3875 v3879 v3883 v3887 k0_hw1 k0_t3 k0_h3 => k0_hw1.2.2.2.1.2.2.2.2.2.2.2.2.1 k0_t3 k0_h3
theorem k0_off395_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), ∀ a, (k0_off395 i v3863 v3867 v3871 v3875 v3879 v3883 v3887 k0_t3) a + S1x16x128.size a ≤ S41x288x128.size a := fun i v3863 v3867 v3871 v3875 v3879 v3883 v3887 k0_hw1 k0_t3 k0_h3 => k0_hw1.2.2.2.1.2.2.2.2.2.2.2.2.2.1 k0_t3 k0_h3
theorem k0_off394_packedbf16 : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), (Rect.unit (s := S880x5120) (k0_off394 i v3863 v3867 v3871 v3875 v3879 v3883 v3887 k0_t3) S16x128.size (k0_off394_inb i v3863 v3867 v3871 v3875 v3879 v3883 v3887 k0_hw1 k0_t3 k0_h3)).PackedRows (EltTy.packing .bf16) := fun i v3863 v3867 v3871 v3875 v3879 v3883 v3887 k0_hw1 k0_t3 k0_h3 => k0_hw1.2.2.2.1.2.2.2.2.2.2.2.2.2.2.1 k0_t3 k0_h3 (k0_off394_inb i v3863 v3867 v3871 v3875 v3879 v3883 v3887 k0_hw1 k0_t3 k0_h3)
theorem k0_off396_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), ∀ a, (k0_off396 i v3863 v3867 v3871 v3875 v3879 v3883 v3887 k0_t3) a + S16x128.size a ≤ S880x5120.size a := fun i v3863 v3867 v3871 v3875 v3879 v3883 v3887 k0_hw1 k0_t3 k0_h3 => k0_hw1.2.2.2.1.2.2.2.2.2.2.2.2.2.2.2.1 k0_t3 k0_h3
theorem k0_off397_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), ∀ a, (k0_off397 i v3863 v3867 v3871 v3875 v3879 v3883 v3887 k0_t3) a + S1x16x128.size a ≤ S41x288x128.size a := fun i v3863 v3867 v3871 v3875 v3879 v3883 v3887 k0_hw1 k0_t3 k0_h3 => k0_hw1.2.2.2.1.2.2.2.2.2.2.2.2.2.2.2.2.1 k0_t3 k0_h3
theorem k0_off396_packedbf16 : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), (Rect.unit (s := S880x5120) (k0_off396 i v3863 v3867 v3871 v3875 v3879 v3883 v3887 k0_t3) S16x128.size (k0_off396_inb i v3863 v3867 v3871 v3875 v3879 v3883 v3887 k0_hw1 k0_t3 k0_h3)).PackedRows (EltTy.packing .bf16) := fun i v3863 v3867 v3871 v3875 v3879 v3883 v3887 k0_hw1 k0_t3 k0_h3 => k0_hw1.2.2.2.1.2.2.2.2.2.2.2.2.2.2.2.2.2.1 k0_t3 k0_h3 (k0_off396_inb i v3863 v3867 v3871 v3875 v3879 v3883 v3887 k0_hw1 k0_t3 k0_h3)
theorem k0_off398_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), ∀ a, (k0_off398 i v3863 v3867 v3871 v3875 v3879 v3883 v3887 k0_t3) a + S16x128.size a ≤ S880x5120.size a := fun i v3863 v3867 v3871 v3875 v3879 v3883 v3887 k0_hw1 k0_t3 k0_h3 => k0_hw1.2.2.2.1.2.2.2.2.2.2.2.2.2.2.2.2.2.2.1 k0_t3 k0_h3
theorem k0_off399_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), ∀ a, (k0_off399 i v3863 v3867 v3871 v3875 v3879 v3883 v3887 k0_t3) a + S1x16x128.size a ≤ S41x288x128.size a := fun i v3863 v3867 v3871 v3875 v3879 v3883 v3887 k0_hw1 k0_t3 k0_h3 => k0_hw1.2.2.2.1.2.2.2.2.2.2.2.2.2.2.2.2.2.2.2.1 k0_t3 k0_h3
theorem k0_off398_packedbf16 : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), (Rect.unit (s := S880x5120) (k0_off398 i v3863 v3867 v3871 v3875 v3879 v3883 v3887 k0_t3) S16x128.size (k0_off398_inb i v3863 v3867 v3871 v3875 v3879 v3883 v3887 k0_hw1 k0_t3 k0_h3)).PackedRows (EltTy.packing .bf16) := fun i v3863 v3867 v3871 v3875 v3879 v3883 v3887 k0_hw1 k0_t3 k0_h3 => k0_hw1.2.2.2.1.2.2.2.2.2.2.2.2.2.2.2.2.2.2.2.2.1 k0_t3 k0_h3 (k0_off398_inb i v3863 v3867 v3871 v3875 v3879 v3883 v3887 k0_hw1 k0_t3 k0_h3)
theorem k0_off400_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), ∀ a, (k0_off400 i v3863 v3867 v3871 v3875 v3879 v3883 v3887 k0_t3) a + S16x128.size a ≤ S880x5120.size a := fun i v3863 v3867 v3871 v3875 v3879 v3883 v3887 k0_hw1 k0_t3 k0_h3 => k0_hw1.2.2.2.1.2.2.2.2.2.2.2.2.2.2.2.2.2.2.2.2.2.1 k0_t3 k0_h3
theorem k0_off401_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), ∀ a, (k0_off401 i v3863 v3867 v3871 v3875 v3879 v3883 v3887 k0_t3) a + S1x16x128.size a ≤ S41x288x128.size a := fun i v3863 v3867 v3871 v3875 v3879 v3883 v3887 k0_hw1 k0_t3 k0_h3 => k0_hw1.2.2.2.1.2.2.2.2.2.2.2.2.2.2.2.2.2.2.2.2.2.2.1 k0_t3 k0_h3
theorem k0_off400_packedbf16 : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), (Rect.unit (s := S880x5120) (k0_off400 i v3863 v3867 v3871 v3875 v3879 v3883 v3887 k0_t3) S16x128.size (k0_off400_inb i v3863 v3867 v3871 v3875 v3879 v3883 v3887 k0_hw1 k0_t3 k0_h3)).PackedRows (EltTy.packing .bf16) := fun i v3863 v3867 v3871 v3875 v3879 v3883 v3887 k0_hw1 k0_t3 k0_h3 => k0_hw1.2.2.2.1.2.2.2.2.2.2.2.2.2.2.2.2.2.2.2.2.2.2.2.1 k0_t3 k0_h3 (k0_off400_inb i v3863 v3867 v3871 v3875 v3879 v3883 v3887 k0_hw1 k0_t3 k0_h3)
theorem k0_off402_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), ∀ a, (k0_off402 i v3863 v3867 v3871 v3875 v3879 v3883 v3887 k0_t3) a + S16x128.size a ≤ S880x5120.size a := fun i v3863 v3867 v3871 v3875 v3879 v3883 v3887 k0_hw1 k0_t3 k0_h3 => k0_hw1.2.2.2.1.2.2.2.2.2.2.2.2.2.2.2.2.2.2.2.2.2.2.2.2.1 k0_t3 k0_h3
theorem k0_off403_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), ∀ a, (k0_off403 i v3863 v3867 v3871 v3875 v3879 v3883 v3887 k0_t3) a + S1x16x128.size a ≤ S41x288x128.size a := fun i v3863 v3867 v3871 v3875 v3879 v3883 v3887 k0_hw1 k0_t3 k0_h3 => k0_hw1.2.2.2.1.2.2.2.2.2.2.2.2.2.2.2.2.2.2.2.2.2.2.2.2.2.1 k0_t3 k0_h3
theorem k0_off402_packedbf16 : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), (Rect.unit (s := S880x5120) (k0_off402 i v3863 v3867 v3871 v3875 v3879 v3883 v3887 k0_t3) S16x128.size (k0_off402_inb i v3863 v3867 v3871 v3875 v3879 v3883 v3887 k0_hw1 k0_t3 k0_h3)).PackedRows (EltTy.packing .bf16) := fun i v3863 v3867 v3871 v3875 v3879 v3883 v3887 k0_hw1 k0_t3 k0_h3 => k0_hw1.2.2.2.1.2.2.2.2.2.2.2.2.2.2.2.2.2.2.2.2.2.2.2.2.2.2.1 k0_t3 k0_h3 (k0_off402_inb i v3863 v3867 v3871 v3875 v3879 v3883 v3887 k0_hw1 k0_t3 k0_h3)
theorem k0_off404_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), ∀ a, (k0_off404 i v3863 v3867 v3871 v3875 v3879 v3883 v3887 k0_t3) a + S16x128.size a ≤ S880x5120.size a := fun i v3863 v3867 v3871 v3875 v3879 v3883 v3887 k0_hw1 k0_t3 k0_h3 => k0_hw1.2.2.2.1.2.2.2.2.2.2.2.2.2.2.2.2.2.2.2.2.2.2.2.2.2.2.2.1 k0_t3 k0_h3
theorem k0_off405_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), ∀ a, (k0_off405 i v3863 v3867 v3871 v3875 v3879 v3883 v3887 k0_t3) a + S1x16x128.size a ≤ S41x288x128.size a := fun i v3863 v3867 v3871 v3875 v3879 v3883 v3887 k0_hw1 k0_t3 k0_h3 => k0_hw1.2.2.2.1.2.2.2.2.2.2.2.2.2.2.2.2.2.2.2.2.2.2.2.2.2.2.2.2.1 k0_t3 k0_h3
theorem k0_off404_packedbf16 : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), (Rect.unit (s := S880x5120) (k0_off404 i v3863 v3867 v3871 v3875 v3879 v3883 v3887 k0_t3) S16x128.size (k0_off404_inb i v3863 v3867 v3871 v3875 v3879 v3883 v3887 k0_hw1 k0_t3 k0_h3)).PackedRows (EltTy.packing .bf16) := fun i v3863 v3867 v3871 v3875 v3879 v3883 v3887 k0_hw1 k0_t3 k0_h3 => k0_hw1.2.2.2.1.2.2.2.2.2.2.2.2.2.2.2.2.2.2.2.2.2.2.2.2.2.2.2.2.2.1 k0_t3 k0_h3 (k0_off404_inb i v3863 v3867 v3871 v3875 v3879 v3883 v3887 k0_hw1 k0_t3 k0_h3)
theorem k0_off406_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), ∀ a, (k0_off406 i v3863 v3867 v3871 v3875 v3879 v3883 v3887 k0_t3) a + S1x16x128.size a ≤ S41x288x128.size a := fun i v3863 v3867 v3871 v3875 v3879 v3883 v3887 k0_hw1 k0_t3 k0_h3 => k0_hw1.2.2.2.1.2.2.2.2.2.2.2.2.2.2.2.2.2.2.2.2.2.2.2.2.2.2.2.2.2.2.1 k0_t3 k0_h3
theorem k0_off407_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t3 : Fin (k0_t3_loop i v3863 v3867 v3871 v3875 v3879 v3883 v3887).trips), ∀ (k0_h3 : k0_cond3 i = 1#1), ∀ a, (k0_off407 i v3863 v3867 v3871 v3875 v3879 v3883 v3887 k0_t3) a + S16x128.size a ≤ S880x128.size a := fun i v3863 v3867 v3871 v3875 v3879 v3883 v3887 k0_hw1 k0_t3 k0_h3 => k0_hw1.2.2.2.1.2.2.2.2.2.2.2.2.2.2.2.2.2.2.2.2.2.2.2.2.2.2.2.2.2.2.2.1 k0_t3 k0_h3
theorem k0_t4_ok : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887), ∀ (k0_h3 : k0_cond3 i = 1#1), (k0_t4_loop i v3863 v3867 v3871 v3875 v3879 v3883 v3887).OK := fun i v3863 v3867 v3871 v3875 v3879 v3883 v3887 k0_hw1 k0_h3 => k0_hw1.2.2.2.1.2.2.2.2.2.2.2.2.2.2.2.2.2.2.2.2.2.2.2.2.2.2.2.2.2.2.2.2.1 k0_h3
theorem k0_mult5_dvd : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), 16 ∣ (k0_mult5 i v3863 v3867 v3871 v3875 v3879 v3883 v3887 k0_t4).toNat := fun i v3863 v3867 v3871 v3875 v3879 v3883 v3887 k0_hw1 k0_t4 k0_h3 => k0_hw1.2.2.2.1.2.2.2.2.2.2.2.2.2.2.2.2.2.2.2.2.2.2.2.2.2.2.2.2.2.2.2.2.2.1 k0_t4 k0_h3
theorem k0_off408_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), ∀ a, (k0_off408 i v3863 v3867 v3871 v3875 v3879 v3883 v3887 k0_t4) a + S16x128.size a ≤ S880x5120.size a := fun i v3863 v3867 v3871 v3875 v3879 v3883 v3887 k0_hw1 k0_t4 k0_h3 => k0_hw1.2.2.2.1.2.2.2.2.2.2.2.2.2.2.2.2.2.2.2.2.2.2.2.2.2.2.2.2.2.2.2.2.2.2.1 k0_t4 k0_h3
theorem k0_off409_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), ∀ a, (k0_off409 i v3863 v3867 v3871 v3875 v3879 v3883 v3887 k0_t4) a + S1x16x128.size a ≤ S41x288x128.size a := fun i v3863 v3867 v3871 v3875 v3879 v3883 v3887 k0_hw1 k0_t4 k0_h3 => k0_hw1.2.2.2.1.2.2.2.2.2.2.2.2.2.2.2.2.2.2.2.2.2.2.2.2.2.2.2.2.2.2.2.2.2.2.2 k0_t4 k0_h3
theorem k0_off408_packedbf16 : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), (Rect.unit (s := S880x5120) (k0_off408 i v3863 v3867 v3871 v3875 v3879 v3883 v3887 k0_t4) S16x128.size (k0_off408_inb i v3863 v3867 v3871 v3875 v3879 v3883 v3887 k0_hw1 k0_t4 k0_h3)).PackedRows (EltTy.packing .bf16) := fun i v3863 v3867 v3871 v3875 v3879 v3883 v3887 k0_hw1 k0_t4 k0_h3 => k0_hw1.2.2.2.2.1.1 k0_t4 k0_h3 (k0_off408_inb i v3863 v3867 v3871 v3875 v3879 v3883 v3887 k0_hw1 k0_t4 k0_h3)
theorem k0_off410_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), ∀ a, (k0_off410 i v3863 v3867 v3871 v3875 v3879 v3883 v3887 k0_t4) a + S16x128.size a ≤ S880x5120.size a := fun i v3863 v3867 v3871 v3875 v3879 v3883 v3887 k0_hw1 k0_t4 k0_h3 => k0_hw1.2.2.2.2.1.2.1 k0_t4 k0_h3
theorem k0_off411_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), ∀ a, (k0_off411 i v3863 v3867 v3871 v3875 v3879 v3883 v3887 k0_t4) a + S1x16x128.size a ≤ S41x288x128.size a := fun i v3863 v3867 v3871 v3875 v3879 v3883 v3887 k0_hw1 k0_t4 k0_h3 => k0_hw1.2.2.2.2.1.2.2.1 k0_t4 k0_h3
theorem k0_off410_packedbf16 : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), (Rect.unit (s := S880x5120) (k0_off410 i v3863 v3867 v3871 v3875 v3879 v3883 v3887 k0_t4) S16x128.size (k0_off410_inb i v3863 v3867 v3871 v3875 v3879 v3883 v3887 k0_hw1 k0_t4 k0_h3)).PackedRows (EltTy.packing .bf16) := fun i v3863 v3867 v3871 v3875 v3879 v3883 v3887 k0_hw1 k0_t4 k0_h3 => k0_hw1.2.2.2.2.1.2.2.2.1 k0_t4 k0_h3 (k0_off410_inb i v3863 v3867 v3871 v3875 v3879 v3883 v3887 k0_hw1 k0_t4 k0_h3)
theorem k0_off412_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), ∀ a, (k0_off412 i v3863 v3867 v3871 v3875 v3879 v3883 v3887 k0_t4) a + S16x128.size a ≤ S880x5120.size a := fun i v3863 v3867 v3871 v3875 v3879 v3883 v3887 k0_hw1 k0_t4 k0_h3 => k0_hw1.2.2.2.2.1.2.2.2.2.1 k0_t4 k0_h3
theorem k0_off413_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), ∀ a, (k0_off413 i v3863 v3867 v3871 v3875 v3879 v3883 v3887 k0_t4) a + S1x16x128.size a ≤ S41x288x128.size a := fun i v3863 v3867 v3871 v3875 v3879 v3883 v3887 k0_hw1 k0_t4 k0_h3 => k0_hw1.2.2.2.2.1.2.2.2.2.2.1 k0_t4 k0_h3
theorem k0_off412_packedbf16 : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), (Rect.unit (s := S880x5120) (k0_off412 i v3863 v3867 v3871 v3875 v3879 v3883 v3887 k0_t4) S16x128.size (k0_off412_inb i v3863 v3867 v3871 v3875 v3879 v3883 v3887 k0_hw1 k0_t4 k0_h3)).PackedRows (EltTy.packing .bf16) := fun i v3863 v3867 v3871 v3875 v3879 v3883 v3887 k0_hw1 k0_t4 k0_h3 => k0_hw1.2.2.2.2.1.2.2.2.2.2.2.1 k0_t4 k0_h3 (k0_off412_inb i v3863 v3867 v3871 v3875 v3879 v3883 v3887 k0_hw1 k0_t4 k0_h3)
theorem k0_off414_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), ∀ a, (k0_off414 i v3863 v3867 v3871 v3875 v3879 v3883 v3887 k0_t4) a + S16x128.size a ≤ S880x5120.size a := fun i v3863 v3867 v3871 v3875 v3879 v3883 v3887 k0_hw1 k0_t4 k0_h3 => k0_hw1.2.2.2.2.1.2.2.2.2.2.2.2.1 k0_t4 k0_h3
theorem k0_off415_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), ∀ a, (k0_off415 i v3863 v3867 v3871 v3875 v3879 v3883 v3887 k0_t4) a + S1x16x128.size a ≤ S41x288x128.size a := fun i v3863 v3867 v3871 v3875 v3879 v3883 v3887 k0_hw1 k0_t4 k0_h3 => k0_hw1.2.2.2.2.1.2.2.2.2.2.2.2.2.1 k0_t4 k0_h3
theorem k0_off414_packedbf16 : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), (Rect.unit (s := S880x5120) (k0_off414 i v3863 v3867 v3871 v3875 v3879 v3883 v3887 k0_t4) S16x128.size (k0_off414_inb i v3863 v3867 v3871 v3875 v3879 v3883 v3887 k0_hw1 k0_t4 k0_h3)).PackedRows (EltTy.packing .bf16) := fun i v3863 v3867 v3871 v3875 v3879 v3883 v3887 k0_hw1 k0_t4 k0_h3 => k0_hw1.2.2.2.2.1.2.2.2.2.2.2.2.2.2.1 k0_t4 k0_h3 (k0_off414_inb i v3863 v3867 v3871 v3875 v3879 v3883 v3887 k0_hw1 k0_t4 k0_h3)
theorem k0_off416_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), ∀ a, (k0_off416 i v3863 v3867 v3871 v3875 v3879 v3883 v3887 k0_t4) a + S16x128.size a ≤ S880x5120.size a := fun i v3863 v3867 v3871 v3875 v3879 v3883 v3887 k0_hw1 k0_t4 k0_h3 => k0_hw1.2.2.2.2.1.2.2.2.2.2.2.2.2.2.2.1 k0_t4 k0_h3
theorem k0_off417_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), ∀ a, (k0_off417 i v3863 v3867 v3871 v3875 v3879 v3883 v3887 k0_t4) a + S1x16x128.size a ≤ S41x288x128.size a := fun i v3863 v3867 v3871 v3875 v3879 v3883 v3887 k0_hw1 k0_t4 k0_h3 => k0_hw1.2.2.2.2.1.2.2.2.2.2.2.2.2.2.2.2.1 k0_t4 k0_h3
theorem k0_off416_packedbf16 : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), (Rect.unit (s := S880x5120) (k0_off416 i v3863 v3867 v3871 v3875 v3879 v3883 v3887 k0_t4) S16x128.size (k0_off416_inb i v3863 v3867 v3871 v3875 v3879 v3883 v3887 k0_hw1 k0_t4 k0_h3)).PackedRows (EltTy.packing .bf16) := fun i v3863 v3867 v3871 v3875 v3879 v3883 v3887 k0_hw1 k0_t4 k0_h3 => k0_hw1.2.2.2.2.1.2.2.2.2.2.2.2.2.2.2.2.2.1 k0_t4 k0_h3 (k0_off416_inb i v3863 v3867 v3871 v3875 v3879 v3883 v3887 k0_hw1 k0_t4 k0_h3)
theorem k0_off418_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), ∀ a, (k0_off418 i v3863 v3867 v3871 v3875 v3879 v3883 v3887 k0_t4) a + S16x128.size a ≤ S880x5120.size a := fun i v3863 v3867 v3871 v3875 v3879 v3883 v3887 k0_hw1 k0_t4 k0_h3 => k0_hw1.2.2.2.2.1.2.2.2.2.2.2.2.2.2.2.2.2.2.1 k0_t4 k0_h3
theorem k0_off419_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), ∀ a, (k0_off419 i v3863 v3867 v3871 v3875 v3879 v3883 v3887 k0_t4) a + S1x16x128.size a ≤ S41x288x128.size a := fun i v3863 v3867 v3871 v3875 v3879 v3883 v3887 k0_hw1 k0_t4 k0_h3 => k0_hw1.2.2.2.2.1.2.2.2.2.2.2.2.2.2.2.2.2.2.2.1 k0_t4 k0_h3
theorem k0_off418_packedbf16 : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), (Rect.unit (s := S880x5120) (k0_off418 i v3863 v3867 v3871 v3875 v3879 v3883 v3887 k0_t4) S16x128.size (k0_off418_inb i v3863 v3867 v3871 v3875 v3879 v3883 v3887 k0_hw1 k0_t4 k0_h3)).PackedRows (EltTy.packing .bf16) := fun i v3863 v3867 v3871 v3875 v3879 v3883 v3887 k0_hw1 k0_t4 k0_h3 => k0_hw1.2.2.2.2.1.2.2.2.2.2.2.2.2.2.2.2.2.2.2.2.1 k0_t4 k0_h3 (k0_off418_inb i v3863 v3867 v3871 v3875 v3879 v3883 v3887 k0_hw1 k0_t4 k0_h3)
theorem k0_off420_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), ∀ a, (k0_off420 i v3863 v3867 v3871 v3875 v3879 v3883 v3887 k0_t4) a + S16x128.size a ≤ S880x5120.size a := fun i v3863 v3867 v3871 v3875 v3879 v3883 v3887 k0_hw1 k0_t4 k0_h3 => k0_hw1.2.2.2.2.1.2.2.2.2.2.2.2.2.2.2.2.2.2.2.2.2.1 k0_t4 k0_h3
theorem k0_off421_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), ∀ a, (k0_off421 i v3863 v3867 v3871 v3875 v3879 v3883 v3887 k0_t4) a + S1x16x128.size a ≤ S41x288x128.size a := fun i v3863 v3867 v3871 v3875 v3879 v3883 v3887 k0_hw1 k0_t4 k0_h3 => k0_hw1.2.2.2.2.1.2.2.2.2.2.2.2.2.2.2.2.2.2.2.2.2.2.1 k0_t4 k0_h3
theorem k0_off420_packedbf16 : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), (Rect.unit (s := S880x5120) (k0_off420 i v3863 v3867 v3871 v3875 v3879 v3883 v3887 k0_t4) S16x128.size (k0_off420_inb i v3863 v3867 v3871 v3875 v3879 v3883 v3887 k0_hw1 k0_t4 k0_h3)).PackedRows (EltTy.packing .bf16) := fun i v3863 v3867 v3871 v3875 v3879 v3883 v3887 k0_hw1 k0_t4 k0_h3 => k0_hw1.2.2.2.2.1.2.2.2.2.2.2.2.2.2.2.2.2.2.2.2.2.2.2.1 k0_t4 k0_h3 (k0_off420_inb i v3863 v3867 v3871 v3875 v3879 v3883 v3887 k0_hw1 k0_t4 k0_h3)
theorem k0_off422_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), ∀ a, (k0_off422 i v3863 v3867 v3871 v3875 v3879 v3883 v3887 k0_t4) a + S16x128.size a ≤ S880x5120.size a := fun i v3863 v3867 v3871 v3875 v3879 v3883 v3887 k0_hw1 k0_t4 k0_h3 => k0_hw1.2.2.2.2.1.2.2.2.2.2.2.2.2.2.2.2.2.2.2.2.2.2.2.2.1 k0_t4 k0_h3
theorem k0_off423_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), ∀ a, (k0_off423 i v3863 v3867 v3871 v3875 v3879 v3883 v3887 k0_t4) a + S1x16x128.size a ≤ S41x288x128.size a := fun i v3863 v3867 v3871 v3875 v3879 v3883 v3887 k0_hw1 k0_t4 k0_h3 => k0_hw1.2.2.2.2.1.2.2.2.2.2.2.2.2.2.2.2.2.2.2.2.2.2.2.2.2.1 k0_t4 k0_h3
theorem k0_off422_packedbf16 : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), (Rect.unit (s := S880x5120) (k0_off422 i v3863 v3867 v3871 v3875 v3879 v3883 v3887 k0_t4) S16x128.size (k0_off422_inb i v3863 v3867 v3871 v3875 v3879 v3883 v3887 k0_hw1 k0_t4 k0_h3)).PackedRows (EltTy.packing .bf16) := fun i v3863 v3867 v3871 v3875 v3879 v3883 v3887 k0_hw1 k0_t4 k0_h3 => k0_hw1.2.2.2.2.1.2.2.2.2.2.2.2.2.2.2.2.2.2.2.2.2.2.2.2.2.2.1 k0_t4 k0_h3 (k0_off422_inb i v3863 v3867 v3871 v3875 v3879 v3883 v3887 k0_hw1 k0_t4 k0_h3)
theorem k0_off424_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), ∀ a, (k0_off424 i v3863 v3867 v3871 v3875 v3879 v3883 v3887 k0_t4) a + S16x128.size a ≤ S880x5120.size a := fun i v3863 v3867 v3871 v3875 v3879 v3883 v3887 k0_hw1 k0_t4 k0_h3 => k0_hw1.2.2.2.2.1.2.2.2.2.2.2.2.2.2.2.2.2.2.2.2.2.2.2.2.2.2.2.1 k0_t4 k0_h3
theorem k0_off425_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), ∀ a, (k0_off425 i v3863 v3867 v3871 v3875 v3879 v3883 v3887 k0_t4) a + S1x16x128.size a ≤ S41x288x128.size a := fun i v3863 v3867 v3871 v3875 v3879 v3883 v3887 k0_hw1 k0_t4 k0_h3 => k0_hw1.2.2.2.2.1.2.2.2.2.2.2.2.2.2.2.2.2.2.2.2.2.2.2.2.2.2.2.2.1 k0_t4 k0_h3
theorem k0_off424_packedbf16 : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), (Rect.unit (s := S880x5120) (k0_off424 i v3863 v3867 v3871 v3875 v3879 v3883 v3887 k0_t4) S16x128.size (k0_off424_inb i v3863 v3867 v3871 v3875 v3879 v3883 v3887 k0_hw1 k0_t4 k0_h3)).PackedRows (EltTy.packing .bf16) := fun i v3863 v3867 v3871 v3875 v3879 v3883 v3887 k0_hw1 k0_t4 k0_h3 => k0_hw1.2.2.2.2.1.2.2.2.2.2.2.2.2.2.2.2.2.2.2.2.2.2.2.2.2.2.2.2.2.1 k0_t4 k0_h3 (k0_off424_inb i v3863 v3867 v3871 v3875 v3879 v3883 v3887 k0_hw1 k0_t4 k0_h3)
theorem k0_off426_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), ∀ a, (k0_off426 i v3863 v3867 v3871 v3875 v3879 v3883 v3887 k0_t4) a + S16x128.size a ≤ S880x5120.size a := fun i v3863 v3867 v3871 v3875 v3879 v3883 v3887 k0_hw1 k0_t4 k0_h3 => k0_hw1.2.2.2.2.1.2.2.2.2.2.2.2.2.2.2.2.2.2.2.2.2.2.2.2.2.2.2.2.2.2.1 k0_t4 k0_h3
theorem k0_off427_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), ∀ a, (k0_off427 i v3863 v3867 v3871 v3875 v3879 v3883 v3887 k0_t4) a + S1x16x128.size a ≤ S41x288x128.size a := fun i v3863 v3867 v3871 v3875 v3879 v3883 v3887 k0_hw1 k0_t4 k0_h3 => k0_hw1.2.2.2.2.1.2.2.2.2.2.2.2.2.2.2.2.2.2.2.2.2.2.2.2.2.2.2.2.2.2.2.1 k0_t4 k0_h3
theorem k0_off426_packedbf16 : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), (Rect.unit (s := S880x5120) (k0_off426 i v3863 v3867 v3871 v3875 v3879 v3883 v3887 k0_t4) S16x128.size (k0_off426_inb i v3863 v3867 v3871 v3875 v3879 v3883 v3887 k0_hw1 k0_t4 k0_h3)).PackedRows (EltTy.packing .bf16) := fun i v3863 v3867 v3871 v3875 v3879 v3883 v3887 k0_hw1 k0_t4 k0_h3 => k0_hw1.2.2.2.2.1.2.2.2.2.2.2.2.2.2.2.2.2.2.2.2.2.2.2.2.2.2.2.2.2.2.2.2.1 k0_t4 k0_h3 (k0_off426_inb i v3863 v3867 v3871 v3875 v3879 v3883 v3887 k0_hw1 k0_t4 k0_h3)
theorem k0_off428_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), ∀ a, (k0_off428 i v3863 v3867 v3871 v3875 v3879 v3883 v3887 k0_t4) a + S16x128.size a ≤ S880x5120.size a := fun i v3863 v3867 v3871 v3875 v3879 v3883 v3887 k0_hw1 k0_t4 k0_h3 => k0_hw1.2.2.2.2.1.2.2.2.2.2.2.2.2.2.2.2.2.2.2.2.2.2.2.2.2.2.2.2.2.2.2.2.2.1 k0_t4 k0_h3
theorem k0_off429_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), ∀ a, (k0_off429 i v3863 v3867 v3871 v3875 v3879 v3883 v3887 k0_t4) a + S1x16x128.size a ≤ S41x288x128.size a := fun i v3863 v3867 v3871 v3875 v3879 v3883 v3887 k0_hw1 k0_t4 k0_h3 => k0_hw1.2.2.2.2.1.2.2.2.2.2.2.2.2.2.2.2.2.2.2.2.2.2.2.2.2.2.2.2.2.2.2.2.2.2.1 k0_t4 k0_h3
theorem k0_off428_packedbf16 : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), (Rect.unit (s := S880x5120) (k0_off428 i v3863 v3867 v3871 v3875 v3879 v3883 v3887 k0_t4) S16x128.size (k0_off428_inb i v3863 v3867 v3871 v3875 v3879 v3883 v3887 k0_hw1 k0_t4 k0_h3)).PackedRows (EltTy.packing .bf16) := fun i v3863 v3867 v3871 v3875 v3879 v3883 v3887 k0_hw1 k0_t4 k0_h3 => k0_hw1.2.2.2.2.1.2.2.2.2.2.2.2.2.2.2.2.2.2.2.2.2.2.2.2.2.2.2.2.2.2.2.2.2.2.2.1 k0_t4 k0_h3 (k0_off428_inb i v3863 v3867 v3871 v3875 v3879 v3883 v3887 k0_hw1 k0_t4 k0_h3)
theorem k0_off430_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), ∀ a, (k0_off430 i v3863 v3867 v3871 v3875 v3879 v3883 v3887 k0_t4) a + S16x128.size a ≤ S880x5120.size a := fun i v3863 v3867 v3871 v3875 v3879 v3883 v3887 k0_hw1 k0_t4 k0_h3 => k0_hw1.2.2.2.2.1.2.2.2.2.2.2.2.2.2.2.2.2.2.2.2.2.2.2.2.2.2.2.2.2.2.2.2.2.2.2.2 k0_t4 k0_h3
theorem k0_off431_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), ∀ a, (k0_off431 i v3863 v3867 v3871 v3875 v3879 v3883 v3887 k0_t4) a + S1x16x128.size a ≤ S41x288x128.size a := fun i v3863 v3867 v3871 v3875 v3879 v3883 v3887 k0_hw1 k0_t4 k0_h3 => k0_hw1.2.2.2.2.2.1.1 k0_t4 k0_h3
theorem k0_off430_packedbf16 : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), (Rect.unit (s := S880x5120) (k0_off430 i v3863 v3867 v3871 v3875 v3879 v3883 v3887 k0_t4) S16x128.size (k0_off430_inb i v3863 v3867 v3871 v3875 v3879 v3883 v3887 k0_hw1 k0_t4 k0_h3)).PackedRows (EltTy.packing .bf16) := fun i v3863 v3867 v3871 v3875 v3879 v3883 v3887 k0_hw1 k0_t4 k0_h3 => k0_hw1.2.2.2.2.2.1.2.1 k0_t4 k0_h3 (k0_off430_inb i v3863 v3867 v3871 v3875 v3879 v3883 v3887 k0_hw1 k0_t4 k0_h3)
theorem k0_off432_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), ∀ a, (k0_off432 i v3863 v3867 v3871 v3875 v3879 v3883 v3887 k0_t4) a + S16x128.size a ≤ S880x5120.size a := fun i v3863 v3867 v3871 v3875 v3879 v3883 v3887 k0_hw1 k0_t4 k0_h3 => k0_hw1.2.2.2.2.2.1.2.2.1 k0_t4 k0_h3
theorem k0_off433_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), ∀ a, (k0_off433 i v3863 v3867 v3871 v3875 v3879 v3883 v3887 k0_t4) a + S1x16x128.size a ≤ S41x288x128.size a := fun i v3863 v3867 v3871 v3875 v3879 v3883 v3887 k0_hw1 k0_t4 k0_h3 => k0_hw1.2.2.2.2.2.1.2.2.2.1 k0_t4 k0_h3
theorem k0_off432_packedbf16 : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), (Rect.unit (s := S880x5120) (k0_off432 i v3863 v3867 v3871 v3875 v3879 v3883 v3887 k0_t4) S16x128.size (k0_off432_inb i v3863 v3867 v3871 v3875 v3879 v3883 v3887 k0_hw1 k0_t4 k0_h3)).PackedRows (EltTy.packing .bf16) := fun i v3863 v3867 v3871 v3875 v3879 v3883 v3887 k0_hw1 k0_t4 k0_h3 => k0_hw1.2.2.2.2.2.1.2.2.2.2.1 k0_t4 k0_h3 (k0_off432_inb i v3863 v3867 v3871 v3875 v3879 v3883 v3887 k0_hw1 k0_t4 k0_h3)
theorem k0_off434_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), ∀ a, (k0_off434 i v3863 v3867 v3871 v3875 v3879 v3883 v3887 k0_t4) a + S16x128.size a ≤ S880x5120.size a := fun i v3863 v3867 v3871 v3875 v3879 v3883 v3887 k0_hw1 k0_t4 k0_h3 => k0_hw1.2.2.2.2.2.1.2.2.2.2.2.1 k0_t4 k0_h3
theorem k0_off435_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), ∀ a, (k0_off435 i v3863 v3867 v3871 v3875 v3879 v3883 v3887 k0_t4) a + S1x16x128.size a ≤ S41x288x128.size a := fun i v3863 v3867 v3871 v3875 v3879 v3883 v3887 k0_hw1 k0_t4 k0_h3 => k0_hw1.2.2.2.2.2.1.2.2.2.2.2.2.1 k0_t4 k0_h3
theorem k0_off434_packedbf16 : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), (Rect.unit (s := S880x5120) (k0_off434 i v3863 v3867 v3871 v3875 v3879 v3883 v3887 k0_t4) S16x128.size (k0_off434_inb i v3863 v3867 v3871 v3875 v3879 v3883 v3887 k0_hw1 k0_t4 k0_h3)).PackedRows (EltTy.packing .bf16) := fun i v3863 v3867 v3871 v3875 v3879 v3883 v3887 k0_hw1 k0_t4 k0_h3 => k0_hw1.2.2.2.2.2.1.2.2.2.2.2.2.2.1 k0_t4 k0_h3 (k0_off434_inb i v3863 v3867 v3871 v3875 v3879 v3883 v3887 k0_hw1 k0_t4 k0_h3)
theorem k0_off436_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), ∀ a, (k0_off436 i v3863 v3867 v3871 v3875 v3879 v3883 v3887 k0_t4) a + S16x128.size a ≤ S880x5120.size a := fun i v3863 v3867 v3871 v3875 v3879 v3883 v3887 k0_hw1 k0_t4 k0_h3 => k0_hw1.2.2.2.2.2.1.2.2.2.2.2.2.2.2.1 k0_t4 k0_h3
theorem k0_off437_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), ∀ a, (k0_off437 i v3863 v3867 v3871 v3875 v3879 v3883 v3887 k0_t4) a + S1x16x128.size a ≤ S41x288x128.size a := fun i v3863 v3867 v3871 v3875 v3879 v3883 v3887 k0_hw1 k0_t4 k0_h3 => k0_hw1.2.2.2.2.2.1.2.2.2.2.2.2.2.2.2.1 k0_t4 k0_h3
theorem k0_off436_packedbf16 : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), (Rect.unit (s := S880x5120) (k0_off436 i v3863 v3867 v3871 v3875 v3879 v3883 v3887 k0_t4) S16x128.size (k0_off436_inb i v3863 v3867 v3871 v3875 v3879 v3883 v3887 k0_hw1 k0_t4 k0_h3)).PackedRows (EltTy.packing .bf16) := fun i v3863 v3867 v3871 v3875 v3879 v3883 v3887 k0_hw1 k0_t4 k0_h3 => k0_hw1.2.2.2.2.2.1.2.2.2.2.2.2.2.2.2.2.1 k0_t4 k0_h3 (k0_off436_inb i v3863 v3867 v3871 v3875 v3879 v3883 v3887 k0_hw1 k0_t4 k0_h3)
theorem k0_off438_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), ∀ a, (k0_off438 i v3863 v3867 v3871 v3875 v3879 v3883 v3887 k0_t4) a + S16x128.size a ≤ S880x5120.size a := fun i v3863 v3867 v3871 v3875 v3879 v3883 v3887 k0_hw1 k0_t4 k0_h3 => k0_hw1.2.2.2.2.2.1.2.2.2.2.2.2.2.2.2.2.2.1 k0_t4 k0_h3
theorem k0_off439_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), ∀ a, (k0_off439 i v3863 v3867 v3871 v3875 v3879 v3883 v3887 k0_t4) a + S1x16x128.size a ≤ S41x288x128.size a := fun i v3863 v3867 v3871 v3875 v3879 v3883 v3887 k0_hw1 k0_t4 k0_h3 => k0_hw1.2.2.2.2.2.1.2.2.2.2.2.2.2.2.2.2.2.2.1 k0_t4 k0_h3
theorem k0_off438_packedbf16 : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), (Rect.unit (s := S880x5120) (k0_off438 i v3863 v3867 v3871 v3875 v3879 v3883 v3887 k0_t4) S16x128.size (k0_off438_inb i v3863 v3867 v3871 v3875 v3879 v3883 v3887 k0_hw1 k0_t4 k0_h3)).PackedRows (EltTy.packing .bf16) := fun i v3863 v3867 v3871 v3875 v3879 v3883 v3887 k0_hw1 k0_t4 k0_h3 => k0_hw1.2.2.2.2.2.1.2.2.2.2.2.2.2.2.2.2.2.2.2.1 k0_t4 k0_h3 (k0_off438_inb i v3863 v3867 v3871 v3875 v3879 v3883 v3887 k0_hw1 k0_t4 k0_h3)
theorem k0_off440_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), ∀ a, (k0_off440 i v3863 v3867 v3871 v3875 v3879 v3883 v3887 k0_t4) a + S16x128.size a ≤ S880x5120.size a := fun i v3863 v3867 v3871 v3875 v3879 v3883 v3887 k0_hw1 k0_t4 k0_h3 => k0_hw1.2.2.2.2.2.1.2.2.2.2.2.2.2.2.2.2.2.2.2.2.1 k0_t4 k0_h3
theorem k0_off441_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), ∀ a, (k0_off441 i v3863 v3867 v3871 v3875 v3879 v3883 v3887 k0_t4) a + S1x16x128.size a ≤ S41x288x128.size a := fun i v3863 v3867 v3871 v3875 v3879 v3883 v3887 k0_hw1 k0_t4 k0_h3 => k0_hw1.2.2.2.2.2.1.2.2.2.2.2.2.2.2.2.2.2.2.2.2.2.1 k0_t4 k0_h3
theorem k0_off440_packedbf16 : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), (Rect.unit (s := S880x5120) (k0_off440 i v3863 v3867 v3871 v3875 v3879 v3883 v3887 k0_t4) S16x128.size (k0_off440_inb i v3863 v3867 v3871 v3875 v3879 v3883 v3887 k0_hw1 k0_t4 k0_h3)).PackedRows (EltTy.packing .bf16) := fun i v3863 v3867 v3871 v3875 v3879 v3883 v3887 k0_hw1 k0_t4 k0_h3 => k0_hw1.2.2.2.2.2.1.2.2.2.2.2.2.2.2.2.2.2.2.2.2.2.2.1 k0_t4 k0_h3 (k0_off440_inb i v3863 v3867 v3871 v3875 v3879 v3883 v3887 k0_hw1 k0_t4 k0_h3)
theorem k0_off442_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), ∀ a, (k0_off442 i v3863 v3867 v3871 v3875 v3879 v3883 v3887 k0_t4) a + S16x128.size a ≤ S880x5120.size a := fun i v3863 v3867 v3871 v3875 v3879 v3883 v3887 k0_hw1 k0_t4 k0_h3 => k0_hw1.2.2.2.2.2.1.2.2.2.2.2.2.2.2.2.2.2.2.2.2.2.2.2.1 k0_t4 k0_h3
theorem k0_off443_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), ∀ a, (k0_off443 i v3863 v3867 v3871 v3875 v3879 v3883 v3887 k0_t4) a + S1x16x128.size a ≤ S41x288x128.size a := fun i v3863 v3867 v3871 v3875 v3879 v3883 v3887 k0_hw1 k0_t4 k0_h3 => k0_hw1.2.2.2.2.2.1.2.2.2.2.2.2.2.2.2.2.2.2.2.2.2.2.2.2.1 k0_t4 k0_h3
theorem k0_off442_packedbf16 : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), (Rect.unit (s := S880x5120) (k0_off442 i v3863 v3867 v3871 v3875 v3879 v3883 v3887 k0_t4) S16x128.size (k0_off442_inb i v3863 v3867 v3871 v3875 v3879 v3883 v3887 k0_hw1 k0_t4 k0_h3)).PackedRows (EltTy.packing .bf16) := fun i v3863 v3867 v3871 v3875 v3879 v3883 v3887 k0_hw1 k0_t4 k0_h3 => k0_hw1.2.2.2.2.2.1.2.2.2.2.2.2.2.2.2.2.2.2.2.2.2.2.2.2.2.1 k0_t4 k0_h3 (k0_off442_inb i v3863 v3867 v3871 v3875 v3879 v3883 v3887 k0_hw1 k0_t4 k0_h3)
theorem k0_off444_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), ∀ a, (k0_off444 i v3863 v3867 v3871 v3875 v3879 v3883 v3887 k0_t4) a + S16x128.size a ≤ S880x5120.size a := fun i v3863 v3867 v3871 v3875 v3879 v3883 v3887 k0_hw1 k0_t4 k0_h3 => k0_hw1.2.2.2.2.2.1.2.2.2.2.2.2.2.2.2.2.2.2.2.2.2.2.2.2.2.2.1 k0_t4 k0_h3
theorem k0_off445_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), ∀ a, (k0_off445 i v3863 v3867 v3871 v3875 v3879 v3883 v3887 k0_t4) a + S1x16x128.size a ≤ S41x288x128.size a := fun i v3863 v3867 v3871 v3875 v3879 v3883 v3887 k0_hw1 k0_t4 k0_h3 => k0_hw1.2.2.2.2.2.1.2.2.2.2.2.2.2.2.2.2.2.2.2.2.2.2.2.2.2.2.2.1 k0_t4 k0_h3
theorem k0_off444_packedbf16 : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), (Rect.unit (s := S880x5120) (k0_off444 i v3863 v3867 v3871 v3875 v3879 v3883 v3887 k0_t4) S16x128.size (k0_off444_inb i v3863 v3867 v3871 v3875 v3879 v3883 v3887 k0_hw1 k0_t4 k0_h3)).PackedRows (EltTy.packing .bf16) := fun i v3863 v3867 v3871 v3875 v3879 v3883 v3887 k0_hw1 k0_t4 k0_h3 => k0_hw1.2.2.2.2.2.1.2.2.2.2.2.2.2.2.2.2.2.2.2.2.2.2.2.2.2.2.2.2.1 k0_t4 k0_h3 (k0_off444_inb i v3863 v3867 v3871 v3875 v3879 v3883 v3887 k0_hw1 k0_t4 k0_h3)
theorem k0_off446_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), ∀ a, (k0_off446 i v3863 v3867 v3871 v3875 v3879 v3883 v3887 k0_t4) a + S16x128.size a ≤ S880x5120.size a := fun i v3863 v3867 v3871 v3875 v3879 v3883 v3887 k0_hw1 k0_t4 k0_h3 => k0_hw1.2.2.2.2.2.1.2.2.2.2.2.2.2.2.2.2.2.2.2.2.2.2.2.2.2.2.2.2.2.1 k0_t4 k0_h3
theorem k0_off447_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), ∀ a, (k0_off447 i v3863 v3867 v3871 v3875 v3879 v3883 v3887 k0_t4) a + S1x16x128.size a ≤ S41x288x128.size a := fun i v3863 v3867 v3871 v3875 v3879 v3883 v3887 k0_hw1 k0_t4 k0_h3 => k0_hw1.2.2.2.2.2.1.2.2.2.2.2.2.2.2.2.2.2.2.2.2.2.2.2.2.2.2.2.2.2.2.1 k0_t4 k0_h3
theorem k0_off446_packedbf16 : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), (Rect.unit (s := S880x5120) (k0_off446 i v3863 v3867 v3871 v3875 v3879 v3883 v3887 k0_t4) S16x128.size (k0_off446_inb i v3863 v3867 v3871 v3875 v3879 v3883 v3887 k0_hw1 k0_t4 k0_h3)).PackedRows (EltTy.packing .bf16) := fun i v3863 v3867 v3871 v3875 v3879 v3883 v3887 k0_hw1 k0_t4 k0_h3 => k0_hw1.2.2.2.2.2.1.2.2.2.2.2.2.2.2.2.2.2.2.2.2.2.2.2.2.2.2.2.2.2.2.2.1 k0_t4 k0_h3 (k0_off446_inb i v3863 v3867 v3871 v3875 v3879 v3883 v3887 k0_hw1 k0_t4 k0_h3)
theorem k0_off448_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), ∀ a, (k0_off448 i v3863 v3867 v3871 v3875 v3879 v3883 v3887 k0_t4) a + S16x128.size a ≤ S880x5120.size a := fun i v3863 v3867 v3871 v3875 v3879 v3883 v3887 k0_hw1 k0_t4 k0_h3 => k0_hw1.2.2.2.2.2.1.2.2.2.2.2.2.2.2.2.2.2.2.2.2.2.2.2.2.2.2.2.2.2.2.2.2.1 k0_t4 k0_h3
theorem k0_off449_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), ∀ a, (k0_off449 i v3863 v3867 v3871 v3875 v3879 v3883 v3887 k0_t4) a + S1x16x128.size a ≤ S41x288x128.size a := fun i v3863 v3867 v3871 v3875 v3879 v3883 v3887 k0_hw1 k0_t4 k0_h3 => k0_hw1.2.2.2.2.2.1.2.2.2.2.2.2.2.2.2.2.2.2.2.2.2.2.2.2.2.2.2.2.2.2.2.2.2.1 k0_t4 k0_h3
theorem k0_off448_packedbf16 : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), (Rect.unit (s := S880x5120) (k0_off448 i v3863 v3867 v3871 v3875 v3879 v3883 v3887 k0_t4) S16x128.size (k0_off448_inb i v3863 v3867 v3871 v3875 v3879 v3883 v3887 k0_hw1 k0_t4 k0_h3)).PackedRows (EltTy.packing .bf16) := fun i v3863 v3867 v3871 v3875 v3879 v3883 v3887 k0_hw1 k0_t4 k0_h3 => k0_hw1.2.2.2.2.2.1.2.2.2.2.2.2.2.2.2.2.2.2.2.2.2.2.2.2.2.2.2.2.2.2.2.2.2.2.1 k0_t4 k0_h3 (k0_off448_inb i v3863 v3867 v3871 v3875 v3879 v3883 v3887 k0_hw1 k0_t4 k0_h3)
theorem k0_off450_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), ∀ a, (k0_off450 i v3863 v3867 v3871 v3875 v3879 v3883 v3887 k0_t4) a + S16x128.size a ≤ S880x5120.size a := fun i v3863 v3867 v3871 v3875 v3879 v3883 v3887 k0_hw1 k0_t4 k0_h3 => k0_hw1.2.2.2.2.2.1.2.2.2.2.2.2.2.2.2.2.2.2.2.2.2.2.2.2.2.2.2.2.2.2.2.2.2.2.2.1 k0_t4 k0_h3
theorem k0_off451_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), ∀ a, (k0_off451 i v3863 v3867 v3871 v3875 v3879 v3883 v3887 k0_t4) a + S1x16x128.size a ≤ S41x288x128.size a := fun i v3863 v3867 v3871 v3875 v3879 v3883 v3887 k0_hw1 k0_t4 k0_h3 => k0_hw1.2.2.2.2.2.1.2.2.2.2.2.2.2.2.2.2.2.2.2.2.2.2.2.2.2.2.2.2.2.2.2.2.2.2.2.2.1 k0_t4 k0_h3
theorem k0_off450_packedbf16 : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), (Rect.unit (s := S880x5120) (k0_off450 i v3863 v3867 v3871 v3875 v3879 v3883 v3887 k0_t4) S16x128.size (k0_off450_inb i v3863 v3867 v3871 v3875 v3879 v3883 v3887 k0_hw1 k0_t4 k0_h3)).PackedRows (EltTy.packing .bf16) := fun i v3863 v3867 v3871 v3875 v3879 v3883 v3887 k0_hw1 k0_t4 k0_h3 => k0_hw1.2.2.2.2.2.1.2.2.2.2.2.2.2.2.2.2.2.2.2.2.2.2.2.2.2.2.2.2.2.2.2.2.2.2.2.2.2 k0_t4 k0_h3 (k0_off450_inb i v3863 v3867 v3871 v3875 v3879 v3883 v3887 k0_hw1 k0_t4 k0_h3)
theorem k0_off452_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), ∀ a, (k0_off452 i v3863 v3867 v3871 v3875 v3879 v3883 v3887 k0_t4) a + S16x128.size a ≤ S880x5120.size a := fun i v3863 v3867 v3871 v3875 v3879 v3883 v3887 k0_hw1 k0_t4 k0_h3 => k0_hw1.2.2.2.2.2.2.1.1 k0_t4 k0_h3
theorem k0_off453_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), ∀ a, (k0_off453 i v3863 v3867 v3871 v3875 v3879 v3883 v3887 k0_t4) a + S1x16x128.size a ≤ S41x288x128.size a := fun i v3863 v3867 v3871 v3875 v3879 v3883 v3887 k0_hw1 k0_t4 k0_h3 => k0_hw1.2.2.2.2.2.2.1.2.1 k0_t4 k0_h3
theorem k0_off452_packedbf16 : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), (Rect.unit (s := S880x5120) (k0_off452 i v3863 v3867 v3871 v3875 v3879 v3883 v3887 k0_t4) S16x128.size (k0_off452_inb i v3863 v3867 v3871 v3875 v3879 v3883 v3887 k0_hw1 k0_t4 k0_h3)).PackedRows (EltTy.packing .bf16) := fun i v3863 v3867 v3871 v3875 v3879 v3883 v3887 k0_hw1 k0_t4 k0_h3 => k0_hw1.2.2.2.2.2.2.1.2.2.1 k0_t4 k0_h3 (k0_off452_inb i v3863 v3867 v3871 v3875 v3879 v3883 v3887 k0_hw1 k0_t4 k0_h3)
theorem k0_off454_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), ∀ a, (k0_off454 i v3863 v3867 v3871 v3875 v3879 v3883 v3887 k0_t4) a + S16x128.size a ≤ S880x5120.size a := fun i v3863 v3867 v3871 v3875 v3879 v3883 v3887 k0_hw1 k0_t4 k0_h3 => k0_hw1.2.2.2.2.2.2.1.2.2.2.1 k0_t4 k0_h3
theorem k0_off455_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), ∀ a, (k0_off455 i v3863 v3867 v3871 v3875 v3879 v3883 v3887 k0_t4) a + S1x16x128.size a ≤ S41x288x128.size a := fun i v3863 v3867 v3871 v3875 v3879 v3883 v3887 k0_hw1 k0_t4 k0_h3 => k0_hw1.2.2.2.2.2.2.1.2.2.2.2.1 k0_t4 k0_h3
theorem k0_off454_packedbf16 : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), (Rect.unit (s := S880x5120) (k0_off454 i v3863 v3867 v3871 v3875 v3879 v3883 v3887 k0_t4) S16x128.size (k0_off454_inb i v3863 v3867 v3871 v3875 v3879 v3883 v3887 k0_hw1 k0_t4 k0_h3)).PackedRows (EltTy.packing .bf16) := fun i v3863 v3867 v3871 v3875 v3879 v3883 v3887 k0_hw1 k0_t4 k0_h3 => k0_hw1.2.2.2.2.2.2.1.2.2.2.2.2.1 k0_t4 k0_h3 (k0_off454_inb i v3863 v3867 v3871 v3875 v3879 v3883 v3887 k0_hw1 k0_t4 k0_h3)
theorem k0_off456_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), ∀ a, (k0_off456 i v3863 v3867 v3871 v3875 v3879 v3883 v3887 k0_t4) a + S16x128.size a ≤ S880x5120.size a := fun i v3863 v3867 v3871 v3875 v3879 v3883 v3887 k0_hw1 k0_t4 k0_h3 => k0_hw1.2.2.2.2.2.2.1.2.2.2.2.2.2.1 k0_t4 k0_h3
theorem k0_off457_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), ∀ a, (k0_off457 i v3863 v3867 v3871 v3875 v3879 v3883 v3887 k0_t4) a + S1x16x128.size a ≤ S41x288x128.size a := fun i v3863 v3867 v3871 v3875 v3879 v3883 v3887 k0_hw1 k0_t4 k0_h3 => k0_hw1.2.2.2.2.2.2.1.2.2.2.2.2.2.2.1 k0_t4 k0_h3
theorem k0_off456_packedbf16 : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), (Rect.unit (s := S880x5120) (k0_off456 i v3863 v3867 v3871 v3875 v3879 v3883 v3887 k0_t4) S16x128.size (k0_off456_inb i v3863 v3867 v3871 v3875 v3879 v3883 v3887 k0_hw1 k0_t4 k0_h3)).PackedRows (EltTy.packing .bf16) := fun i v3863 v3867 v3871 v3875 v3879 v3883 v3887 k0_hw1 k0_t4 k0_h3 => k0_hw1.2.2.2.2.2.2.1.2.2.2.2.2.2.2.2.1 k0_t4 k0_h3 (k0_off456_inb i v3863 v3867 v3871 v3875 v3879 v3883 v3887 k0_hw1 k0_t4 k0_h3)
theorem k0_off458_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), ∀ a, (k0_off458 i v3863 v3867 v3871 v3875 v3879 v3883 v3887 k0_t4) a + S16x128.size a ≤ S880x5120.size a := fun i v3863 v3867 v3871 v3875 v3879 v3883 v3887 k0_hw1 k0_t4 k0_h3 => k0_hw1.2.2.2.2.2.2.1.2.2.2.2.2.2.2.2.2.1 k0_t4 k0_h3
theorem k0_off459_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), ∀ a, (k0_off459 i v3863 v3867 v3871 v3875 v3879 v3883 v3887 k0_t4) a + S1x16x128.size a ≤ S41x288x128.size a := fun i v3863 v3867 v3871 v3875 v3879 v3883 v3887 k0_hw1 k0_t4 k0_h3 => k0_hw1.2.2.2.2.2.2.1.2.2.2.2.2.2.2.2.2.2.1 k0_t4 k0_h3
theorem k0_off458_packedbf16 : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), (Rect.unit (s := S880x5120) (k0_off458 i v3863 v3867 v3871 v3875 v3879 v3883 v3887 k0_t4) S16x128.size (k0_off458_inb i v3863 v3867 v3871 v3875 v3879 v3883 v3887 k0_hw1 k0_t4 k0_h3)).PackedRows (EltTy.packing .bf16) := fun i v3863 v3867 v3871 v3875 v3879 v3883 v3887 k0_hw1 k0_t4 k0_h3 => k0_hw1.2.2.2.2.2.2.1.2.2.2.2.2.2.2.2.2.2.2.1 k0_t4 k0_h3 (k0_off458_inb i v3863 v3867 v3871 v3875 v3879 v3883 v3887 k0_hw1 k0_t4 k0_h3)
theorem k0_off460_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), ∀ a, (k0_off460 i v3863 v3867 v3871 v3875 v3879 v3883 v3887 k0_t4) a + S16x128.size a ≤ S880x5120.size a := fun i v3863 v3867 v3871 v3875 v3879 v3883 v3887 k0_hw1 k0_t4 k0_h3 => k0_hw1.2.2.2.2.2.2.1.2.2.2.2.2.2.2.2.2.2.2.2.1 k0_t4 k0_h3
theorem k0_off461_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), ∀ a, (k0_off461 i v3863 v3867 v3871 v3875 v3879 v3883 v3887 k0_t4) a + S1x16x128.size a ≤ S41x288x128.size a := fun i v3863 v3867 v3871 v3875 v3879 v3883 v3887 k0_hw1 k0_t4 k0_h3 => k0_hw1.2.2.2.2.2.2.1.2.2.2.2.2.2.2.2.2.2.2.2.2.1 k0_t4 k0_h3
theorem k0_off460_packedbf16 : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), (Rect.unit (s := S880x5120) (k0_off460 i v3863 v3867 v3871 v3875 v3879 v3883 v3887 k0_t4) S16x128.size (k0_off460_inb i v3863 v3867 v3871 v3875 v3879 v3883 v3887 k0_hw1 k0_t4 k0_h3)).PackedRows (EltTy.packing .bf16) := fun i v3863 v3867 v3871 v3875 v3879 v3883 v3887 k0_hw1 k0_t4 k0_h3 => k0_hw1.2.2.2.2.2.2.1.2.2.2.2.2.2.2.2.2.2.2.2.2.2.1 k0_t4 k0_h3 (k0_off460_inb i v3863 v3867 v3871 v3875 v3879 v3883 v3887 k0_hw1 k0_t4 k0_h3)
theorem k0_off462_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), ∀ a, (k0_off462 i v3863 v3867 v3871 v3875 v3879 v3883 v3887 k0_t4) a + S16x128.size a ≤ S880x5120.size a := fun i v3863 v3867 v3871 v3875 v3879 v3883 v3887 k0_hw1 k0_t4 k0_h3 => k0_hw1.2.2.2.2.2.2.1.2.2.2.2.2.2.2.2.2.2.2.2.2.2.2.1 k0_t4 k0_h3
theorem k0_off463_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), ∀ a, (k0_off463 i v3863 v3867 v3871 v3875 v3879 v3883 v3887 k0_t4) a + S1x16x128.size a ≤ S41x288x128.size a := fun i v3863 v3867 v3871 v3875 v3879 v3883 v3887 k0_hw1 k0_t4 k0_h3 => k0_hw1.2.2.2.2.2.2.1.2.2.2.2.2.2.2.2.2.2.2.2.2.2.2.2.1 k0_t4 k0_h3
theorem k0_off462_packedbf16 : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), (Rect.unit (s := S880x5120) (k0_off462 i v3863 v3867 v3871 v3875 v3879 v3883 v3887 k0_t4) S16x128.size (k0_off462_inb i v3863 v3867 v3871 v3875 v3879 v3883 v3887 k0_hw1 k0_t4 k0_h3)).PackedRows (EltTy.packing .bf16) := fun i v3863 v3867 v3871 v3875 v3879 v3883 v3887 k0_hw1 k0_t4 k0_h3 => k0_hw1.2.2.2.2.2.2.1.2.2.2.2.2.2.2.2.2.2.2.2.2.2.2.2.2.1 k0_t4 k0_h3 (k0_off462_inb i v3863 v3867 v3871 v3875 v3879 v3883 v3887 k0_hw1 k0_t4 k0_h3)
theorem k0_off464_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), ∀ a, (k0_off464 i v3863 v3867 v3871 v3875 v3879 v3883 v3887 k0_t4) a + S16x128.size a ≤ S880x5120.size a := fun i v3863 v3867 v3871 v3875 v3879 v3883 v3887 k0_hw1 k0_t4 k0_h3 => k0_hw1.2.2.2.2.2.2.1.2.2.2.2.2.2.2.2.2.2.2.2.2.2.2.2.2.2.1 k0_t4 k0_h3
theorem k0_off465_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), ∀ a, (k0_off465 i v3863 v3867 v3871 v3875 v3879 v3883 v3887 k0_t4) a + S1x16x128.size a ≤ S41x288x128.size a := fun i v3863 v3867 v3871 v3875 v3879 v3883 v3887 k0_hw1 k0_t4 k0_h3 => k0_hw1.2.2.2.2.2.2.1.2.2.2.2.2.2.2.2.2.2.2.2.2.2.2.2.2.2.2.1 k0_t4 k0_h3
theorem k0_off464_packedbf16 : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), (Rect.unit (s := S880x5120) (k0_off464 i v3863 v3867 v3871 v3875 v3879 v3883 v3887 k0_t4) S16x128.size (k0_off464_inb i v3863 v3867 v3871 v3875 v3879 v3883 v3887 k0_hw1 k0_t4 k0_h3)).PackedRows (EltTy.packing .bf16) := fun i v3863 v3867 v3871 v3875 v3879 v3883 v3887 k0_hw1 k0_t4 k0_h3 => k0_hw1.2.2.2.2.2.2.1.2.2.2.2.2.2.2.2.2.2.2.2.2.2.2.2.2.2.2.2.1 k0_t4 k0_h3 (k0_off464_inb i v3863 v3867 v3871 v3875 v3879 v3883 v3887 k0_hw1 k0_t4 k0_h3)
theorem k0_off466_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), ∀ a, (k0_off466 i v3863 v3867 v3871 v3875 v3879 v3883 v3887 k0_t4) a + S16x128.size a ≤ S880x5120.size a := fun i v3863 v3867 v3871 v3875 v3879 v3883 v3887 k0_hw1 k0_t4 k0_h3 => k0_hw1.2.2.2.2.2.2.1.2.2.2.2.2.2.2.2.2.2.2.2.2.2.2.2.2.2.2.2.2.1 k0_t4 k0_h3
theorem k0_off467_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), ∀ a, (k0_off467 i v3863 v3867 v3871 v3875 v3879 v3883 v3887 k0_t4) a + S1x16x128.size a ≤ S41x288x128.size a := fun i v3863 v3867 v3871 v3875 v3879 v3883 v3887 k0_hw1 k0_t4 k0_h3 => k0_hw1.2.2.2.2.2.2.1.2.2.2.2.2.2.2.2.2.2.2.2.2.2.2.2.2.2.2.2.2.2.1 k0_t4 k0_h3
theorem k0_off466_packedbf16 : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), (Rect.unit (s := S880x5120) (k0_off466 i v3863 v3867 v3871 v3875 v3879 v3883 v3887 k0_t4) S16x128.size (k0_off466_inb i v3863 v3867 v3871 v3875 v3879 v3883 v3887 k0_hw1 k0_t4 k0_h3)).PackedRows (EltTy.packing .bf16) := fun i v3863 v3867 v3871 v3875 v3879 v3883 v3887 k0_hw1 k0_t4 k0_h3 => k0_hw1.2.2.2.2.2.2.1.2.2.2.2.2.2.2.2.2.2.2.2.2.2.2.2.2.2.2.2.2.2.2.1 k0_t4 k0_h3 (k0_off466_inb i v3863 v3867 v3871 v3875 v3879 v3883 v3887 k0_hw1 k0_t4 k0_h3)
theorem k0_off468_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), ∀ a, (k0_off468 i v3863 v3867 v3871 v3875 v3879 v3883 v3887 k0_t4) a + S16x128.size a ≤ S880x5120.size a := fun i v3863 v3867 v3871 v3875 v3879 v3883 v3887 k0_hw1 k0_t4 k0_h3 => k0_hw1.2.2.2.2.2.2.1.2.2.2.2.2.2.2.2.2.2.2.2.2.2.2.2.2.2.2.2.2.2.2.2.1 k0_t4 k0_h3
theorem k0_off469_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), ∀ a, (k0_off469 i v3863 v3867 v3871 v3875 v3879 v3883 v3887 k0_t4) a + S1x16x128.size a ≤ S41x288x128.size a := fun i v3863 v3867 v3871 v3875 v3879 v3883 v3887 k0_hw1 k0_t4 k0_h3 => k0_hw1.2.2.2.2.2.2.1.2.2.2.2.2.2.2.2.2.2.2.2.2.2.2.2.2.2.2.2.2.2.2.2.2.1 k0_t4 k0_h3
theorem k0_off468_packedbf16 : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), (Rect.unit (s := S880x5120) (k0_off468 i v3863 v3867 v3871 v3875 v3879 v3883 v3887 k0_t4) S16x128.size (k0_off468_inb i v3863 v3867 v3871 v3875 v3879 v3883 v3887 k0_hw1 k0_t4 k0_h3)).PackedRows (EltTy.packing .bf16) := fun i v3863 v3867 v3871 v3875 v3879 v3883 v3887 k0_hw1 k0_t4 k0_h3 => k0_hw1.2.2.2.2.2.2.1.2.2.2.2.2.2.2.2.2.2.2.2.2.2.2.2.2.2.2.2.2.2.2.2.2.2.1 k0_t4 k0_h3 (k0_off468_inb i v3863 v3867 v3871 v3875 v3879 v3883 v3887 k0_hw1 k0_t4 k0_h3)
theorem k0_off470_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), ∀ a, (k0_off470 i v3863 v3867 v3871 v3875 v3879 v3883 v3887 k0_t4) a + S16x128.size a ≤ S880x5120.size a := fun i v3863 v3867 v3871 v3875 v3879 v3883 v3887 k0_hw1 k0_t4 k0_h3 => k0_hw1.2.2.2.2.2.2.1.2.2.2.2.2.2.2.2.2.2.2.2.2.2.2.2.2.2.2.2.2.2.2.2.2.2.2.1 k0_t4 k0_h3
theorem k0_off471_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), ∀ a, (k0_off471 i v3863 v3867 v3871 v3875 v3879 v3883 v3887 k0_t4) a + S1x16x128.size a ≤ S41x288x128.size a := fun i v3863 v3867 v3871 v3875 v3879 v3883 v3887 k0_hw1 k0_t4 k0_h3 => k0_hw1.2.2.2.2.2.2.1.2.2.2.2.2.2.2.2.2.2.2.2.2.2.2.2.2.2.2.2.2.2.2.2.2.2.2.2.1 k0_t4 k0_h3
theorem k0_off470_packedbf16 : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), (Rect.unit (s := S880x5120) (k0_off470 i v3863 v3867 v3871 v3875 v3879 v3883 v3887 k0_t4) S16x128.size (k0_off470_inb i v3863 v3867 v3871 v3875 v3879 v3883 v3887 k0_hw1 k0_t4 k0_h3)).PackedRows (EltTy.packing .bf16) := fun i v3863 v3867 v3871 v3875 v3879 v3883 v3887 k0_hw1 k0_t4 k0_h3 => k0_hw1.2.2.2.2.2.2.1.2.2.2.2.2.2.2.2.2.2.2.2.2.2.2.2.2.2.2.2.2.2.2.2.2.2.2.2.2.1 k0_t4 k0_h3 (k0_off470_inb i v3863 v3867 v3871 v3875 v3879 v3883 v3887 k0_hw1 k0_t4 k0_h3)
theorem k0_off472_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), ∀ a, (k0_off472 i v3863 v3867 v3871 v3875 v3879 v3883 v3887 k0_t4) a + S16x128.size a ≤ S880x5120.size a := fun i v3863 v3867 v3871 v3875 v3879 v3883 v3887 k0_hw1 k0_t4 k0_h3 => k0_hw1.2.2.2.2.2.2.1.2.2.2.2.2.2.2.2.2.2.2.2.2.2.2.2.2.2.2.2.2.2.2.2.2.2.2.2.2.2.1 k0_t4 k0_h3
theorem k0_off473_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), ∀ a, (k0_off473 i v3863 v3867 v3871 v3875 v3879 v3883 v3887 k0_t4) a + S1x16x128.size a ≤ S41x288x128.size a := fun i v3863 v3867 v3871 v3875 v3879 v3883 v3887 k0_hw1 k0_t4 k0_h3 => k0_hw1.2.2.2.2.2.2.1.2.2.2.2.2.2.2.2.2.2.2.2.2.2.2.2.2.2.2.2.2.2.2.2.2.2.2.2.2.2.2 k0_t4 k0_h3
theorem k0_off472_packedbf16 : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), (Rect.unit (s := S880x5120) (k0_off472 i v3863 v3867 v3871 v3875 v3879 v3883 v3887 k0_t4) S16x128.size (k0_off472_inb i v3863 v3867 v3871 v3875 v3879 v3883 v3887 k0_hw1 k0_t4 k0_h3)).PackedRows (EltTy.packing .bf16) := fun i v3863 v3867 v3871 v3875 v3879 v3883 v3887 k0_hw1 k0_t4 k0_h3 => k0_hw1.2.2.2.2.2.2.2.1 k0_t4 k0_h3 (k0_off472_inb i v3863 v3867 v3871 v3875 v3879 v3883 v3887 k0_hw1 k0_t4 k0_h3)
theorem k0_off474_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), ∀ a, (k0_off474 i v3863 v3867 v3871 v3875 v3879 v3883 v3887 k0_t4) a + S16x128.size a ≤ S880x5120.size a := fun i v3863 v3867 v3871 v3875 v3879 v3883 v3887 k0_hw1 k0_t4 k0_h3 => k0_hw1.2.2.2.2.2.2.2.2.1 k0_t4 k0_h3
theorem k0_off475_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), ∀ a, (k0_off475 i v3863 v3867 v3871 v3875 v3879 v3883 v3887 k0_t4) a + S1x16x128.size a ≤ S41x288x128.size a := fun i v3863 v3867 v3871 v3875 v3879 v3883 v3887 k0_hw1 k0_t4 k0_h3 => k0_hw1.2.2.2.2.2.2.2.2.2.1 k0_t4 k0_h3
theorem k0_off474_packedbf16 : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), (Rect.unit (s := S880x5120) (k0_off474 i v3863 v3867 v3871 v3875 v3879 v3883 v3887 k0_t4) S16x128.size (k0_off474_inb i v3863 v3867 v3871 v3875 v3879 v3883 v3887 k0_hw1 k0_t4 k0_h3)).PackedRows (EltTy.packing .bf16) := fun i v3863 v3867 v3871 v3875 v3879 v3883 v3887 k0_hw1 k0_t4 k0_h3 => k0_hw1.2.2.2.2.2.2.2.2.2.2.1 k0_t4 k0_h3 (k0_off474_inb i v3863 v3867 v3871 v3875 v3879 v3883 v3887 k0_hw1 k0_t4 k0_h3)
theorem k0_off476_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), ∀ a, (k0_off476 i v3863 v3867 v3871 v3875 v3879 v3883 v3887 k0_t4) a + S16x128.size a ≤ S880x5120.size a := fun i v3863 v3867 v3871 v3875 v3879 v3883 v3887 k0_hw1 k0_t4 k0_h3 => k0_hw1.2.2.2.2.2.2.2.2.2.2.2.1 k0_t4 k0_h3
theorem k0_off477_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), ∀ a, (k0_off477 i v3863 v3867 v3871 v3875 v3879 v3883 v3887 k0_t4) a + S1x16x128.size a ≤ S41x288x128.size a := fun i v3863 v3867 v3871 v3875 v3879 v3883 v3887 k0_hw1 k0_t4 k0_h3 => k0_hw1.2.2.2.2.2.2.2.2.2.2.2.2.1 k0_t4 k0_h3
theorem k0_off476_packedbf16 : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), (Rect.unit (s := S880x5120) (k0_off476 i v3863 v3867 v3871 v3875 v3879 v3883 v3887 k0_t4) S16x128.size (k0_off476_inb i v3863 v3867 v3871 v3875 v3879 v3883 v3887 k0_hw1 k0_t4 k0_h3)).PackedRows (EltTy.packing .bf16) := fun i v3863 v3867 v3871 v3875 v3879 v3883 v3887 k0_hw1 k0_t4 k0_h3 => k0_hw1.2.2.2.2.2.2.2.2.2.2.2.2.2.1 k0_t4 k0_h3 (k0_off476_inb i v3863 v3867 v3871 v3875 v3879 v3883 v3887 k0_hw1 k0_t4 k0_h3)
theorem k0_off478_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), ∀ a, (k0_off478 i v3863 v3867 v3871 v3875 v3879 v3883 v3887 k0_t4) a + S16x128.size a ≤ S880x5120.size a := fun i v3863 v3867 v3871 v3875 v3879 v3883 v3887 k0_hw1 k0_t4 k0_h3 => k0_hw1.2.2.2.2.2.2.2.2.2.2.2.2.2.2.1 k0_t4 k0_h3
theorem k0_off479_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), ∀ a, (k0_off479 i v3863 v3867 v3871 v3875 v3879 v3883 v3887 k0_t4) a + S1x16x128.size a ≤ S41x288x128.size a := fun i v3863 v3867 v3871 v3875 v3879 v3883 v3887 k0_hw1 k0_t4 k0_h3 => k0_hw1.2.2.2.2.2.2.2.2.2.2.2.2.2.2.2.1 k0_t4 k0_h3
theorem k0_off478_packedbf16 : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), (Rect.unit (s := S880x5120) (k0_off478 i v3863 v3867 v3871 v3875 v3879 v3883 v3887 k0_t4) S16x128.size (k0_off478_inb i v3863 v3867 v3871 v3875 v3879 v3883 v3887 k0_hw1 k0_t4 k0_h3)).PackedRows (EltTy.packing .bf16) := fun i v3863 v3867 v3871 v3875 v3879 v3883 v3887 k0_hw1 k0_t4 k0_h3 => k0_hw1.2.2.2.2.2.2.2.2.2.2.2.2.2.2.2.2.1 k0_t4 k0_h3 (k0_off478_inb i v3863 v3867 v3871 v3875 v3879 v3883 v3887 k0_hw1 k0_t4 k0_h3)
theorem k0_off480_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), ∀ a, (k0_off480 i v3863 v3867 v3871 v3875 v3879 v3883 v3887 k0_t4) a + S16x128.size a ≤ S880x5120.size a := fun i v3863 v3867 v3871 v3875 v3879 v3883 v3887 k0_hw1 k0_t4 k0_h3 => k0_hw1.2.2.2.2.2.2.2.2.2.2.2.2.2.2.2.2.2.1 k0_t4 k0_h3
theorem k0_off481_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), ∀ a, (k0_off481 i v3863 v3867 v3871 v3875 v3879 v3883 v3887 k0_t4) a + S1x16x128.size a ≤ S41x288x128.size a := fun i v3863 v3867 v3871 v3875 v3879 v3883 v3887 k0_hw1 k0_t4 k0_h3 => k0_hw1.2.2.2.2.2.2.2.2.2.2.2.2.2.2.2.2.2.2.1 k0_t4 k0_h3
theorem k0_off480_packedbf16 : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), (Rect.unit (s := S880x5120) (k0_off480 i v3863 v3867 v3871 v3875 v3879 v3883 v3887 k0_t4) S16x128.size (k0_off480_inb i v3863 v3867 v3871 v3875 v3879 v3883 v3887 k0_hw1 k0_t4 k0_h3)).PackedRows (EltTy.packing .bf16) := fun i v3863 v3867 v3871 v3875 v3879 v3883 v3887 k0_hw1 k0_t4 k0_h3 => k0_hw1.2.2.2.2.2.2.2.2.2.2.2.2.2.2.2.2.2.2.2.1 k0_t4 k0_h3 (k0_off480_inb i v3863 v3867 v3871 v3875 v3879 v3883 v3887 k0_hw1 k0_t4 k0_h3)
theorem k0_off482_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), ∀ a, (k0_off482 i v3863 v3867 v3871 v3875 v3879 v3883 v3887 k0_t4) a + S16x128.size a ≤ S880x5120.size a := fun i v3863 v3867 v3871 v3875 v3879 v3883 v3887 k0_hw1 k0_t4 k0_h3 => k0_hw1.2.2.2.2.2.2.2.2.2.2.2.2.2.2.2.2.2.2.2.2.1 k0_t4 k0_h3
theorem k0_off483_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), ∀ a, (k0_off483 i v3863 v3867 v3871 v3875 v3879 v3883 v3887 k0_t4) a + S1x16x128.size a ≤ S41x288x128.size a := fun i v3863 v3867 v3871 v3875 v3879 v3883 v3887 k0_hw1 k0_t4 k0_h3 => k0_hw1.2.2.2.2.2.2.2.2.2.2.2.2.2.2.2.2.2.2.2.2.2.1 k0_t4 k0_h3
theorem k0_off482_packedbf16 : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), (Rect.unit (s := S880x5120) (k0_off482 i v3863 v3867 v3871 v3875 v3879 v3883 v3887 k0_t4) S16x128.size (k0_off482_inb i v3863 v3867 v3871 v3875 v3879 v3883 v3887 k0_hw1 k0_t4 k0_h3)).PackedRows (EltTy.packing .bf16) := fun i v3863 v3867 v3871 v3875 v3879 v3883 v3887 k0_hw1 k0_t4 k0_h3 => k0_hw1.2.2.2.2.2.2.2.2.2.2.2.2.2.2.2.2.2.2.2.2.2.2.1 k0_t4 k0_h3 (k0_off482_inb i v3863 v3867 v3871 v3875 v3879 v3883 v3887 k0_hw1 k0_t4 k0_h3)
theorem k0_off484_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), ∀ a, (k0_off484 i v3863 v3867 v3871 v3875 v3879 v3883 v3887 k0_t4) a + S16x128.size a ≤ S880x5120.size a := fun i v3863 v3867 v3871 v3875 v3879 v3883 v3887 k0_hw1 k0_t4 k0_h3 => k0_hw1.2.2.2.2.2.2.2.2.2.2.2.2.2.2.2.2.2.2.2.2.2.2.2.1 k0_t4 k0_h3
theorem k0_off485_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), ∀ a, (k0_off485 i v3863 v3867 v3871 v3875 v3879 v3883 v3887 k0_t4) a + S1x16x128.size a ≤ S41x288x128.size a := fun i v3863 v3867 v3871 v3875 v3879 v3883 v3887 k0_hw1 k0_t4 k0_h3 => k0_hw1.2.2.2.2.2.2.2.2.2.2.2.2.2.2.2.2.2.2.2.2.2.2.2.2.1 k0_t4 k0_h3
theorem k0_off484_packedbf16 : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), (Rect.unit (s := S880x5120) (k0_off484 i v3863 v3867 v3871 v3875 v3879 v3883 v3887 k0_t4) S16x128.size (k0_off484_inb i v3863 v3867 v3871 v3875 v3879 v3883 v3887 k0_hw1 k0_t4 k0_h3)).PackedRows (EltTy.packing .bf16) := fun i v3863 v3867 v3871 v3875 v3879 v3883 v3887 k0_hw1 k0_t4 k0_h3 => k0_hw1.2.2.2.2.2.2.2.2.2.2.2.2.2.2.2.2.2.2.2.2.2.2.2.2.2.1 k0_t4 k0_h3 (k0_off484_inb i v3863 v3867 v3871 v3875 v3879 v3883 v3887 k0_hw1 k0_t4 k0_h3)
theorem k0_off486_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), ∀ a, (k0_off486 i v3863 v3867 v3871 v3875 v3879 v3883 v3887 k0_t4) a + S16x128.size a ≤ S880x5120.size a := fun i v3863 v3867 v3871 v3875 v3879 v3883 v3887 k0_hw1 k0_t4 k0_h3 => k0_hw1.2.2.2.2.2.2.2.2.2.2.2.2.2.2.2.2.2.2.2.2.2.2.2.2.2.2.1 k0_t4 k0_h3
theorem k0_off487_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), ∀ a, (k0_off487 i v3863 v3867 v3871 v3875 v3879 v3883 v3887 k0_t4) a + S1x16x128.size a ≤ S41x288x128.size a := fun i v3863 v3867 v3871 v3875 v3879 v3883 v3887 k0_hw1 k0_t4 k0_h3 => k0_hw1.2.2.2.2.2.2.2.2.2.2.2.2.2.2.2.2.2.2.2.2.2.2.2.2.2.2.2.1 k0_t4 k0_h3
theorem k0_off486_packedbf16 : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), (Rect.unit (s := S880x5120) (k0_off486 i v3863 v3867 v3871 v3875 v3879 v3883 v3887 k0_t4) S16x128.size (k0_off486_inb i v3863 v3867 v3871 v3875 v3879 v3883 v3887 k0_hw1 k0_t4 k0_h3)).PackedRows (EltTy.packing .bf16) := fun i v3863 v3867 v3871 v3875 v3879 v3883 v3887 k0_hw1 k0_t4 k0_h3 => k0_hw1.2.2.2.2.2.2.2.2.2.2.2.2.2.2.2.2.2.2.2.2.2.2.2.2.2.2.2.2.1 k0_t4 k0_h3 (k0_off486_inb i v3863 v3867 v3871 v3875 v3879 v3883 v3887 k0_hw1 k0_t4 k0_h3)
theorem k0_off488_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), ∀ a, (k0_off488 i v3863 v3867 v3871 v3875 v3879 v3883 v3887 k0_t4) a + S1x16x128.size a ≤ S41x288x128.size a := fun i v3863 v3867 v3871 v3875 v3879 v3883 v3887 k0_hw1 k0_t4 k0_h3 => k0_hw1.2.2.2.2.2.2.2.2.2.2.2.2.2.2.2.2.2.2.2.2.2.2.2.2.2.2.2.2.2.1 k0_t4 k0_h3
theorem k0_off489_inb : ∀ (i : grid0.Coords) (v3863 : BitVec 32) (v3867 : BitVec 32) (v3871 : BitVec 32) (v3875 : BitVec 32) (v3879 : BitVec 32) (v3883 : BitVec 32) (v3887 : BitVec 32) (k0_hw1 : k0_chk1 i v3863 v3867 v3871 v3875 v3879 v3883 v3887) (k0_t4 : Fin (k0_t4_loop i v3863 v3867 v3871 v3875 v3879 v3883 v3887).trips), ∀ (k0_h3 : k0_cond3 i = 1#1), ∀ a, (k0_off489 i v3863 v3867 v3871 v3875 v3879 v3883 v3887 k0_t4) a + S16x128.size a ≤ S880x128.size a := fun i v3863 v3867 v3871 v3875 v3879 v3883 v3887 k0_hw1 k0_t4 k0_h3 => k0_hw1.2.2.2.2.2.2.2.2.2.2.2.2.2.2.2.2.2.2.2.2.2.2.2.2.2.2.2.2.2.2 k0_t4 k0_h3

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let arg0 : BitVec 32 := BitVec.ofNat 32 (i 0).val
  let c0_i32_2 : BitVec 32 := 0#32
  let v4 : BitVec 1 := Scalar.cmpi .eq arg0 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x10240 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x80 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S10240x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .smem S80x40 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x5120 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x1 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x5120 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S256x40 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S880x5120 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S880x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== ProjReferenceIdeal.lean ====
abbrev S6 : Shape := ⟨1, ![6]⟩
abbrev S1536x10240 : Shape := ⟨2, ![1536, 10240]⟩
abbrev S1536x80 : Shape := ⟨2, ![1536, 80]⟩
abbrev S10240x5120 : Shape := ⟨2, ![10240, 5120]⟩
abbrev S80x40 : Shape := ⟨2, ![80, 40]⟩
abbrev S1x5120 : Shape := ⟨2, ![1, 5120]⟩
abbrev S1536x1 : Shape := ⟨2, ![1536, 1]⟩
abbrev S1536x5120 : Shape := ⟨2, ![1536, 5120]⟩
abbrev S1536x80x128 : Shape := ⟨3, ![1536, 80, 128]⟩
abbrev S1536x80x1 : Shape := ⟨3, ![1536, 80, 1]⟩
abbrev S80x128x40x128 : Shape := ⟨4, ![80, 128, 40, 128]⟩
abbrev S80x1x40x1 : Shape := ⟨4, ![80, 1, 40, 1]⟩

abbrev nBuf : Space → Nat
  | .hbm => 8
  | .vmem => 5
  | .smem => 0
  | _ => 0

abbrev bufTy : (tb : Table) → Fin (tcTables nBuf tb) → BufTy
  | .hbm, ⟨0, _⟩ => ⟨S6, .i32⟩
  | .hbm, ⟨1, _⟩ => ⟨S1536x10240, .fp8e4m3⟩
  | .hbm, ⟨2, _⟩ => ⟨S1536x80, .f32⟩
  | .hbm, ⟨3, _⟩ => ⟨S10240x5120, .fp8e4m3⟩
  | .hbm, ⟨4, _⟩ => ⟨S80x40, .f32⟩
  | .hbm, ⟨5, _⟩ => ⟨S1x5120, .f32⟩
  | .hbm, ⟨6, _⟩ => ⟨S1536x1, .i32⟩
  | .hbm, ⟨7, _⟩ => ⟨S1536x5120, .bf16⟩
  | .local _ .vmem, ⟨0, _⟩ => ⟨S1536x10240, .fp8e4m3⟩
  | .local _ .vmem, ⟨1, _⟩ => ⟨S1536x80, .f32⟩
  | .local _ .vmem, ⟨2, _⟩ => ⟨S10240x5120, .fp8e4m3⟩
  | .local _ .vmem, ⟨3, _⟩ => ⟨S80x40, .f32⟩
  | .local _ .vmem, ⟨4, _⟩ => ⟨S1536x5120, .bf16⟩
  | _, _ => ⟨S6, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S1536x10240 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x80 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10240x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S80x40 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1536x5120 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Trip.lean ====
/- One trip of the loop over row blocks, and the loop. The 880 rows are taken 16 at a time; of a row the body keeps, for
   each of 128 lanes, a running maximum, a running sum of exponentials and the running logit of the target, and folds
   into them the five logits of the lane that the grid point's 640 columns hold. -/
module

public import proofs.«01_k».proof.Proof.Gen.KernelIdeal.Frame
public import Idealize.ShloMosaic.Lib.Pointwise
public import Idealize.ShloMosaic.Lib.WritesUnit

@[expose] public section

set_option maxRecDepth 16384

open Idealize.ShloMosaic Idealize.ShloMosaic.TcCoe

namespace Cert.KernelIdeal.Trip

open Cert.KernelIdeal Cert.KernelIdeal.Gen

/-- A load of a unit-stride rectangle of a rank-2 buffer, at an index. -/
theorem readAt_unit {sig : RefSig} {κ : Kind} {sp : Space} {e : EltTy} {d0 d1 n0 n1 : ℕ}
    (v : View sig κ sp ⟨2, ![d0, d1]⟩ e) (f : v.ty.Contents (Elt Ideal)) {off : Fin 2 → ℕ} (o0 o1 : ℕ)
    (ho : off = ![o0, o1]) (inb : ∀ a : Fin 2, off a + (![n0, n1] : Fin 2 → ℕ) a ≤ (![d0, d1] : Fin 2 → ℕ) a)
    (a : Fin n0) (b : Fin n1) (h0 : o0 + a.val < d0) (h1 : o1 + b.val < d1) :
    v.readAt (Elt Ideal) (Rect.unit (s := ⟨2, ![d0, d1]⟩) off ![n0, n1] inb).toLoadRect f (ix2 a b)
      = v.read (Elt Ideal) f (ix2 ⟨o0 + a.val, h0⟩ ⟨o1 + b.val, h1⟩) := by
  subst ho
  rw [View.readAt_apply]
  congr 1
  funext q
  match q with
  | ⟨0, _⟩ => exact Fin.ext (by show o0 + 1 * a.val = o0 + a.val; omega)
  | ⟨1, _⟩ => exact Fin.ext (by show o1 + 1 * b.val = o1 + b.val; omega)

/-- The new running maximum of a lane. -/
noncomputable def newM (m x0 x1 x2 x3 x4 : EReal) : EReal := max (max (max (max (max m x0) x1) x2) x3) x4

/-- The new running sum of a lane: the old one rescaled to the new maximum, and the five new exponentials. -/
noncomputable def newS (m s x0 x1 x2 x3 x4 : EReal) : EReal :=
  s * Ideal.exp (m - newM m x0 x1 x2 x3 x4) + Ideal.exp (x0 - newM m x0 x1 x2 x3 x4) + Ideal.exp (x1 - newM m x0 x1 x2 x3 x4)
    + Ideal.exp (x2 - newM m x0 x1 x2 x3 x4) + Ideal.exp (x3 - newM m x0 x1 x2 x3 x4) + Ideal.exp (x4 - newM m x0 x1 x2 x3 x4)

/-- The target's column less the lane's first column. -/
noncomputable def rel (arg0 : BitVec 32) (l : ℕ) (y : Ideal .f32) : BitVec 32 :=
  IntOp.subi (FloatOps.fptosi 32 y) (IntOp.addi (BitVec.ofNat 32 l) (Scalar.muli arg0 640#32))

/-- The new target logit of a lane. -/
noncomputable def newT (d : BitVec 32) (t x0 x1 x2 x3 x4 : EReal) : EReal :=
  t + (if d = 0#32 then x0 else 0) + (if d = 128#32 then x1 else 0) + (if d = 256#32 then x2 else 0)
    + (if d = 384#32 then x3 else 0) + (if d = 512#32 then x4 else 0)

theorem select_eq (a b : BitVec 32) (x y : EReal) :
    Scalar.select (IntOp.cmpi .eq a b) x y = if a = b then x else y := by
  by_cases h : a = b
  · subst h; rw [if_pos rfl]; simp [Scalar.select, IntOp.cmpi]
  · rw [if_neg h]
    have hb : (a == b) = false := beq_eq_false_iff_ne.2 h
    show (if BitVec.ofBool (a == b) = 1#1 then x else y) = y
    rw [hb]; rfl

theorem pay6_at (x0 x1 x2 x3 x4 m : Vec Ideal S16x128 .f32) (a : Fin 16) (b : Fin 128) :
    k0_pay6 (F := Ideal) x0 x1 x2 x3 x4 m (ix2 a b)
      = newM (m (ix2 a b)) (x0 (ix2 a b)) (x1 (ix2 a b)) (x2 (ix2 a b)) (x3 (ix2 a b)) (x4 (ix2 a b)) := by
  pointwise [k0_pay6]
  rfl

theorem pay1_at (x : FVec Ideal S16x128 .f32) (a : Fin 16) (b : Fin 128) :
    k0_pay1 (F := Ideal) x (ix2 a b) = x (ix2 a b) := by
  pointwise [k0_pay1]

theorem pay2_at (x0 x1 x2 x3 x4 m s : Vec Ideal S16x128 .f32) (a : Fin 16) (b : Fin 128) :
    k0_pay2 (F := Ideal) x2 x3 x4 (k0_pay6 x0 x1 x2 x3 x4 m) (k0_pay9 x0 x1 x2 x3 x4 m s) (ix2 a b)
      = newS (m (ix2 a b)) (s (ix2 a b)) (x0 (ix2 a b)) (x1 (ix2 a b)) (x2 (ix2 a b)) (x3 (ix2 a b)) (x4 (ix2 a b)) := by
  pointwise [k0_pay2, k0_pay9]
  rw [pay6_at]
  rfl

theorem pay3_at (arg0 : BitVec 32) (x0 x1 x2 x3 x4 y t : Vec Ideal S16x128 .f32) (a : Fin 16) (b : Fin 128) :
    k0_pay3 (F := Ideal) x1 x2 x3 x4 (k0_pay7 arg0 y) (k0_pay8 arg0 x0 y t) 128#32 (ix2 a b)
      = newT (rel arg0 b.val (y (ix2 a b))) (t (ix2 a b)) (x0 (ix2 a b)) (x1 (ix2 a b)) (x2 (ix2 a b)) (x3 (ix2 a b)) (x4 (ix2 a b)) := by
  pointwise [k0_pay3, k0_pay7, k0_pay8]
  rw [select_eq, select_eq, select_eq, select_eq, select_eq]
  rfl

section

variable (c : Dev nD) (i : grid0.Coords) (arg1 : Memref sig .tc .smem S6 .i32) (harg1 : arg1.IsWhole)
  (arg2 : Memref sig .tc .vmem S880x5120 .bf16) (harg2 : arg2.IsWhole) (arg3 : Memref sig .tc .vmem S880x128 .f32) (harg3 : arg3.IsWhole)
  (arg4 : Memref sig .tc .vmem S5120x640 .fp8e4m3) (harg4 : arg4.IsWhole) (arg5 : Memref sig .tc .smem S40x250 .f32) (harg5 : arg5.IsWhole)
  (arg6 : Memref sig .tc .vmem S6x256 .f32) (harg6 : arg6.IsWhole) (arg7 : Memref sig .tc .vmem S5120x640 .bf16) (harg7 : arg7.IsWhole)
  (arg8 : Memref sig .tc .vmem S880x640 .f32) (harg8 : arg8.IsWhole) (arg9 : Memref sig .tc .vmem S880x128 .f32) (harg9 : arg9.IsWhole)
  (arg10 : Memref sig .tc .vmem S880x128 .f32) (harg10 : arg10.IsWhole) (arg11 : Memref sig .tc .vmem S880x128 .f32) (harg11 : arg11.IsWhole)
  (arg12 : Memref sig .tc .vmem S1136x128 .f32) (harg12 : arg12.IsWhole)

/-- Row `r`, lane `l`, group `j` of the logits. -/
noncomputable def lg (X8 : S880x640.Idx → EReal) (j : Fin 5) (r : Fin 880) (l : Fin 128) : EReal :=
  X8 (ix2 r ⟨128 * j.val + l.val, by omega⟩)

variable (arg0 : BitVec 32) (X3 : BufTy.Contents (Elt Ideal) arg3.view.ty) (X8 : BufTy.Contents (Elt Ideal) arg8.view.ty)
  (G9 : BufTy.Contents (Elt Ideal) arg9.view.ty) (G10 : BufTy.Contents (Elt Ideal) arg10.view.ty)
  (G11 : BufTy.Contents (Elt Ideal) arg11.view.ty)

/-- A lane's running maximum after the loop. -/
noncomputable def outM (r : Fin 880) (l : Fin 128) : EReal :=
  newM (arg9.view.read (Elt Ideal) G9 (ix2 r l)) (lg (arg8.view.read (Elt Ideal) X8) 0 r l) (lg (arg8.view.read (Elt Ideal) X8) 1 r l)
    (lg (arg8.view.read (Elt Ideal) X8) 2 r l) (lg (arg8.view.read (Elt Ideal) X8) 3 r l) (lg (arg8.view.read (Elt Ideal) X8) 4 r l)

/-- A lane's running sum after the loop. -/
noncomputable def outS (r : Fin 880) (l : Fin 128) : EReal :=
  newS (arg9.view.read (Elt Ideal) G9 (ix2 r l)) (arg10.view.read (Elt Ideal) G10 (ix2 r l))
    (lg (arg8.view.read (Elt Ideal) X8) 0 r l) (lg (arg8.view.read (Elt Ideal) X8) 1 r l)
    (lg (arg8.view.read (Elt Ideal) X8) 2 r l) (lg (arg8.view.read (Elt Ideal) X8) 3 r l) (lg (arg8.view.read (Elt Ideal) X8) 4 r l)

/-- A lane's target logit after the loop. -/
noncomputable def outT (r : Fin 880) (l : Fin 128) : EReal :=
  newT (rel arg0 l.val (arg3.view.read (Elt Ideal) X3 (ix2 r l))) (arg11.view.read (Elt Ideal) G11 (ix2 r l))
    (lg (arg8.view.read (Elt Ideal) X8) 0 r l) (lg (arg8.view.read (Elt Ideal) X8) 1 r l)
    (lg (arg8.view.read (Elt Ideal) X8) 2 r l) (lg (arg8.view.read (Elt Ideal) X8) 3 r l) (lg (arg8.view.read (Elt Ideal) X8) 4 r l)

/-- What a load of a trip's rows of the logits reads. -/
theorem ld8 (j : Fin 5) (off : Fin 2 → ℕ) {k : ℕ} (ho : off = ![16 * k, 128 * j.val]) (inb) (a : Fin 16) (l : Fin 128)
    (hr : 16 * k + a.val < 880) :
    arg8.view.readAt (Elt Ideal) (Rect.unit (s := S880x640) off S16x128.size inb).toLoadRect X8 (ix2 a l)
      = lg (arg8.view.read (Elt Ideal) X8) j ⟨16 * k + a.val, hr⟩ l :=
  readAt_unit arg8.view X8 _ _ ho inb a l _ _

/-- What a load of a trip's rows of an array of 128 lanes reads. -/
theorem ld (arg : Memref sig .tc .vmem S880x128 .f32) (X : BufTy.Contents (Elt Ideal) arg.view.ty) (off : Fin 2 → ℕ) {k : ℕ}
    (ho : off = ![16 * k, 0]) (inb) (a : Fin 16) (l : Fin 128) (hr : 16 * k + a.val < 880) :
    arg.view.readAt (Elt Ideal) (Rect.unit (s := S880x128) off S16x128.size inb).toLoadRect X (ix2 a l)
      = arg.view.read (Elt Ideal) X (ix2 ⟨16 * k + a.val, hr⟩ l) := by
  refine (readAt_unit arg.view X _ _ ho inb a l hr (by omega)).trans ?_
  congr 2; exact Fin.ext (Nat.zero_add _)

/-- One trip's store of array 9: rows `16 k` to `16 k + 15` get the folded values, the others keep theirs. -/
theorem trip9 (k : Fin k0_t1_loop.trips) (f : BufTy.Contents (Elt Ideal) arg9.view.ty) (L) (r : Fin 880) (l : Fin 128) :
    arg9.view.read (Elt Ideal) (arg9.view.writes (Elt Ideal) f
        ((tripL_k0_t1 (F := Ideal) Variants.none c none i arg1 harg1 arg2 harg2 arg3 harg3 arg4 harg4 arg5 harg5 arg6 harg6 arg7 harg7 arg8 harg8 arg9 harg9 arg10 harg10 arg11 harg11 arg12 harg12 arg0 X3 X8 k G9 G10 G11).1 ++ L)) (ix2 r l)
      = if 16 * k.val ≤ r.val ∧ r.val < 16 * k.val + 16 then outM arg8 arg9 X8 G9 r l
        else arg9.view.read (Elt Ideal) (arg9.view.writes (Elt Ideal) f L) (ix2 r l) := by
  have o := k0_off46_eq k
  unfold tripL_k0_t1 trip_k0_t1
  dsimp only
  by_cases h : 16 * k.val ≤ r.val ∧ r.val < 16 * k.val + 16
  · rw [if_pos h]
    obtain ⟨r, hr⟩ := r
    obtain ⟨a, rfl⟩ : ∃ a : ℕ, r = 16 * k.val + a := Nat.exists_eq_add_of_le h.1
    have ha : a < 16 := by have := h.2; simp only at this; omega
    refine (View.read_writes_cons_rows_of_mem arg9.view f _ _ L _ (ix2 ⟨a, ha⟩ l) o rfl rfl).trans ?_
    refine (pay1_at ..).trans ?_
    refine (pay6_at ..).trans ?_
    unfold outM
    congr 1
    · exact ld arg9 G9 _ o _ ⟨a, ha⟩ l hr
    · exact ld8 arg8 X8 0 _ (k0_off41_eq k) _ ⟨a, ha⟩ l hr
    · exact ld8 arg8 X8 1 _ (k0_off42_eq k) _ ⟨a, ha⟩ l hr
    · exact ld8 arg8 X8 2 _ (k0_off43_eq k) _ ⟨a, ha⟩ l hr
    · exact ld8 arg8 X8 3 _ (k0_off44_eq k) _ ⟨a, ha⟩ l hr
    · exact ld8 arg8 X8 4 _ (k0_off45_eq k) _ ⟨a, ha⟩ l hr
  · rw [if_neg h]
    exact View.read_writes_cons_rows_of_not_mem arg9.view f _ _ L _ o rfl (by rcases not_and_or.1 h with h | h <;> [left; right] <;> show _ <;> (try exact not_lt.1 h) <;> (exact not_le.1 h))

/-- One trip's store of array 10: rows `16 k` to `16 k + 15` get the folded values, the others keep theirs. -/
theorem trip10 (k : Fin k0_t1_loop.trips) (f : BufTy.Contents (Elt Ideal) arg10.view.ty) (L) (r : Fin 880) (l : Fin 128) :
    arg10.view.read (Elt Ideal) (arg10.view.writes (Elt Ideal) f
        ((tripL_k0_t1 (F := Ideal) Variants.none c none i arg1 harg1 arg2 harg2 arg3 harg3 arg4 harg4 arg5 harg5 arg6 harg6 arg7 harg7 arg8 harg8 arg9 harg9 arg10 harg10 arg11 harg11 arg12 harg12 arg0 X3 X8 k G9 G10 G11).2.1 ++ L)) (ix2 r l)
      = if 16 * k.val ≤ r.val ∧ r.val < 16 * k.val + 16 then outS arg8 arg9 arg10 X8 G9 G10 r l
        else arg10.view.read (Elt Ideal) (arg10.view.writes (Elt Ideal) f L) (ix2 r l) := by
  have o := k0_off46_eq k
  unfold tripL_k0_t1 trip_k0_t1
  dsimp only
  by_cases h : 16 * k.val ≤ r.val ∧ r.val < 16 * k.val + 16
  · rw [if_pos h]
    obtain ⟨r, hr⟩ := r
    obtain ⟨a, rfl⟩ : ∃ a : ℕ, r = 16 * k.val + a := Nat.exists_eq_add_of_le h.1
    have ha : a < 16 := by have := h.2; simp only at this; omega
    refine (View.read_writes_cons_rows_of_mem arg10.view f _ _ L _ (ix2 ⟨a, ha⟩ l) o rfl rfl).trans ?_
    refine (pay2_at ..).trans ?_
    unfold outS
    congr 1
    · exact ld arg9 G9 _ o _ ⟨a, ha⟩ l hr
    · exact ld arg10 G10 _ o _ ⟨a, ha⟩ l hr
    · exact ld8 arg8 X8 0 _ (k0_off41_eq k) _ ⟨a, ha⟩ l hr
    · exact ld8 arg8 X8 1 _ (k0_off42_eq k) _ ⟨a, ha⟩ l hr
    · exact ld8 arg8 X8 2 _ (k0_off43_eq k) _ ⟨a, ha⟩ l hr
    · exact ld8 arg8 X8 3 _ (k0_off44_eq k) _ ⟨a, ha⟩ l hr
    · exact ld8 arg8 X8 4 _ (k0_off45_eq k) _ ⟨a, ha⟩ l hr
  · rw [if_neg h]
    exact View.read_writes_cons_rows_of_not_mem arg10.view f _ _ L _ o rfl (by rcases not_and_or.1 h with h | h <;> [left; right] <;> show _ <;> (try exact not_lt.1 h) <;> (exact not_le.1 h))

/-- One trip's store of array 11: rows `16 k` to `16 k + 15` get the folded values, the others keep theirs. -/
theorem trip11 (k : Fin k0_t1_loop.trips) (f : BufTy.Contents (Elt Ideal) arg11.view.ty) (L) (r : Fin 880) (l : Fin 128) :
    arg11.view.read (Elt Ideal) (arg11.view.writes (Elt Ideal) f
        ((tripL_k0_t1 (F := Ideal) Variants.none c none i arg1 harg1 arg2 harg2 arg3 harg3 arg4 harg4 arg5 harg5 arg6 harg6 arg7 harg7 arg8 harg8 arg9 harg9 arg10 harg10 arg11 harg11 arg12 harg12 arg0 X3 X8 k G9 G10 G11).2.2 ++ L)) (ix2 r l)
      = if 16 * k.val ≤ r.val ∧ r.val < 16 * k.val + 16 then outT arg3 arg8 arg11 arg0 X3 X8 G11 r l
        else arg11.view.read (Elt Ideal) (arg11.view.writes (Elt Ideal) f L) (ix2 r l) := by
  have o := k0_off46_eq k
  unfold tripL_k0_t1 trip_k0_t1
  dsimp only
  by_cases h : 16 * k.val ≤ r.val ∧ r.val < 16 * k.val + 16
  · rw [if_pos h]
    obtain ⟨r, hr⟩ := r
    obtain ⟨a, rfl⟩ : ∃ a : ℕ, r = 16 * k.val + a := Nat.exists_eq_add_of_le h.1
    have ha : a < 16 := by have := h.2; simp only at this; omega
    refine (View.read_writes_cons_rows_of_mem arg11.view f _ _ L _ (ix2 ⟨a, ha⟩ l) o rfl rfl).trans ?_
    refine (pay3_at ..).trans ?_
    unfold outT
    congr 1
    · congr 1; exact ld arg3 X3 _ o _ ⟨a, ha⟩ l hr
    · exact ld arg11 G11 _ o _ ⟨a, ha⟩ l hr
    · exact ld8 arg8 X8 0 _ (k0_off41_eq k) _ ⟨a, ha⟩ l hr
    · exact ld8 arg8 X8 1 _ (k0_off42_eq k) _ ⟨a, ha⟩ l hr
    · exact ld8 arg8 X8 2 _ (k0_off43_eq k) _ ⟨a, ha⟩ l hr
    · exact ld8 arg8 X8 3 _ (k0_off44_eq k) _ ⟨a, ha⟩ l hr
    · exact ld8 arg8 X8 4 _ (k0_off45_eq k) _ ⟨a, ha⟩ l hr
  · rw [if_neg h]
    exact View.read_writes_cons_rows_of_not_mem arg11.view f _ _ L _ o rfl (by rcases not_and_or.1 h with h | h <;> [left; right] <;> show _ <;> (try exact not_lt.1 h) <;> (exact not_le.1 h))

/-- After the trips before `k`, the rows below `16 k` hold the folded values and the others what they held, whatever
    contents the trips' stores are laid over. -/
theorem loop (k : ℕ) (hk : k ≤ 55) :
    (∀ f (r : Fin 880) (l : Fin 128), arg9.view.read (Elt Ideal) (arg9.view.writes (Elt Ideal) f
        (pb_k0_t1 (F := Ideal) Variants.none c none i arg1 harg1 arg2 harg2 arg3 harg3 arg4 harg4 arg5 harg5 arg6 harg6 arg7 harg7 arg8 harg8 arg9 harg9 arg10 harg10 arg11 harg11 arg12 harg12 arg0 X3 X8 G9 G10 G11 k).1) (ix2 r l)
      = if r.val < 16 * k then outM arg8 arg9 X8 G9 r l else arg9.view.read (Elt Ideal) f (ix2 r l))
    ∧ (∀ f (r : Fin 880) (l : Fin 128), arg10.view.read (Elt Ideal) (arg10.view.writes (Elt Ideal) f
        (pb_k0_t1 (F := Ideal) Variants.none c none i arg1 harg1 arg2 harg2 arg3 harg3 arg4 harg4 arg5 harg5 arg6 harg6 arg7 harg7 arg8 harg8 arg9 harg9 arg10 harg10 arg11 harg11 arg12 harg12 arg0 X3 X8 G9 G10 G11 k).2.1) (ix2 r l)
      = if r.val < 16 * k then outS arg8 arg9 arg10 X8 G9 G10 r l else arg10.view.read (Elt Ideal) f (ix2 r l))
    ∧ (∀ f (r : Fin 880) (l : Fin 128), arg11.view.read (Elt Ideal) (arg11.view.writes (Elt Ideal) f
        (pb_k0_t1 (F := Ideal) Variants.none c none i arg1 harg1 arg2 harg2 arg3 harg3 arg4 harg4 arg5 harg5 arg6 harg6 arg7 harg7 arg8 harg8 arg9 harg9 arg10 harg10 arg11 harg11 arg12 harg12 arg0 X3 X8 G9 G10 G11 k).2.2) (ix2 r l)
      = if r.val < 16 * k then outT arg3 arg8 arg11 arg0 X3 X8 G11 r l else arg11.view.read (Elt Ideal) f (ix2 r l)) := by
  induction k with
  | zero => exact ⟨fun f r l => by simp [pb_k0_t1], fun f r l => by simp [pb_k0_t1], fun f r l => by simp [pb_k0_t1]⟩
  | succ k ih =>
    obtain ⟨ih9, ih10, ih11⟩ := ih (by omega)
    have hk' : k < k0_t1_loop.trips := lt_of_lt_of_eq (by omega : k < 55) (by decide +kernel)
    have e := pb_k0_t1_succ (F := Ideal) Variants.none c none i arg1 harg1 arg2 harg2 arg3 harg3 arg4 harg4 arg5 harg5 arg6 harg6 arg7 harg7 arg8 harg8 arg9 harg9 arg10 harg10 arg11 harg11 arg12 harg12 arg0 X3 X8 G9 G10 G11 ⟨k, hk'⟩
    dsimp only at e
    generalize pb_k0_t1 (F := Ideal) Variants.none c none i arg1 harg1 arg2 harg2 arg3 harg3 arg4 harg4 arg5 harg5 arg6 harg6 arg7 harg7 arg8 harg8 arg9 harg9 arg10 harg10 arg11 harg11 arg12 harg12 arg0 X3 X8 G9 G10 G11 k = P at ih9 ih10 ih11 e
    rw [e]
    refine ⟨fun f r l => ?_, fun f r l => ?_, fun f r l => ?_⟩ <;> dsimp only
    · rw [trip9]
      rw [ih9]
      dsimp only
      by_cases h1 : r.val < 16 * k
      · rw [if_neg (by omega), if_pos h1, if_pos (by omega)]
      · by_cases h2 : r.val < 16 * k + 16
        · rw [if_pos ⟨by omega, h2⟩, if_pos (by omega)]
          unfold outM; rw [ih9, if_neg h1]
        · rw [if_neg (by omega), if_neg h1, if_neg (by omega)]
    · rw [trip10]
      rw [ih10]
      dsimp only
      by_cases h1 : r.val < 16 * k
      · rw [if_neg (by omega), if_pos h1, if_pos (by omega)]
      · by_cases h2 : r.val < 16 * k + 16
        · rw [if_pos ⟨by omega, h2⟩, if_pos (by omega)]
          unfold outS; rw [ih9, if_neg h1, ih10, if_neg h1]
        · rw [if_neg (by omega), if_neg h1, if_neg (by omega)]
    · rw [trip11]
      rw [ih11]
      dsimp only
      by_cases h1 : r.val < 16 * k
      · rw [if_neg (by omega), if_pos h1, if_pos (by omega)]
      · by_cases h2 : r.val < 16 * k + 16
        · rw [if_pos ⟨by omega, h2⟩, if_pos (by omega)]
          unfold outT; rw [ih11, if_neg h1]
        · rw [if_neg (by omega), if_neg h1, if_neg (by omega)]

end

end Cert.KernelIdeal.Trip
-- ==== Proof.Loss.lean ====
/- The last grid point's second loop over row blocks: a row's lanes are joined into the row's loss, which is stored in
   every lane of the loss buffer. -/
module

public import proofs.«01_k».proof.Proof.Trip

@[expose] public section

set_option maxRecDepth 16384

open Idealize.ShloMosaic Idealize.ShloMosaic.TcCoe

namespace Cert.KernelIdeal.Loss

open Cert.KernelIdeal Cert.KernelIdeal.Gen Cert.KernelIdeal.Trip

/-- The loss of a row from its lanes' maxima, sums and target logits. -/
noncomputable def lossOf (m s t : Fin 128 → EReal) : EReal :=
  ((Finset.univ.fold max ⊥ m) + Ideal.log (∑ l, s l * Ideal.exp (m l - Finset.univ.fold max ⊥ m))) - (∑ l, t l)
    - Ideal.ofBits .f32 0x4125F9D2#32

theorem bot_word : Ideal.ofBits .f32 0xFF800000#32 = ⊥ := by simp [Ideal.ofBits, Ideal.ieee]

theorem pay11_at (m s t : Vec Ideal S16x128 .f32) (a : Fin 16) (b : Fin 128) :
    k0_pay11 (F := Ideal) m s t (ix2 a b) = lossOf (fun l => m (ix2 a l)) (fun l => s (ix2 a l)) (fun l => t (ix2 a l)) := by
  pointwise [k0_pay11]
  rw [bot_word]
  rfl

variable (c : Dev nD) (i : grid0.Coords) (arg1 : Memref sig .tc .smem S6 .i32) (harg1 : arg1.IsWhole)
  (arg2 : Memref sig .tc .vmem S880x5120 .bf16) (harg2 : arg2.IsWhole) (arg3 : Memref sig .tc .vmem S880x128 .f32) (harg3 : arg3.IsWhole)
  (arg4 : Memref sig .tc .vmem S5120x640 .fp8e4m3) (harg4 : arg4.IsWhole) (arg5 : Memref sig .tc .smem S40x250 .f32) (harg5 : arg5.IsWhole)
  (arg6 : Memref sig .tc .vmem S6x256 .f32) (harg6 : arg6.IsWhole) (arg7 : Memref sig .tc .vmem S5120x640 .bf16) (harg7 : arg7.IsWhole)
  (arg8 : Memref sig .tc .vmem S880x640 .f32) (harg8 : arg8.IsWhole) (arg9 : Memref sig .tc .vmem S880x128 .f32) (harg9 : arg9.IsWhole)
  (arg10 : Memref sig .tc .vmem S880x128 .f32) (harg10 : arg10.IsWhole) (arg11 : Memref sig .tc .vmem S880x128 .f32) (harg11 : arg11.IsWhole)
  (arg12 : Memref sig .tc .vmem S1136x128 .f32) (harg12 : arg12.IsWhole)

variable (hl : k0_cond2 i = 1#1) (G9 : BufTy.Contents (Elt Ideal) arg9.view.ty) (G10 : BufTy.Contents (Elt Ideal) arg10.view.ty)
  (G11 : BufTy.Contents (Elt Ideal) arg11.view.ty)

/-- The loss of row `r` as the three arrays hold its lanes. -/
noncomputable def outL (r : Fin 880) : EReal :=
  lossOf (fun l => arg9.view.read (Elt Ideal) G9 (ix2 r l)) (fun l => arg10.view.read (Elt Ideal) G10 (ix2 r l))
    (fun l => arg11.view.read (Elt Ideal) G11 (ix2 r l))

/-- One trip's store: rows `16 k` to `16 k + 15` get their losses. -/
theorem trip (k : Fin k0_t2_loop.trips) (f : BufTy.Contents (Elt Ideal) arg12.view.ty) (L) (r : Fin 880) (l : Fin 128) :
    arg12.view.read (Elt Ideal) (arg12.view.writes (Elt Ideal) f
        ((tripL_k0_t2 (F := Ideal) Variants.none c none i arg1 harg1 arg2 harg2 arg3 harg3 arg4 harg4 arg5 harg5 arg6 harg6 arg7 harg7 arg8 harg8 arg9 harg9 arg10 harg10 arg11 harg11 arg12 harg12 hl G9 G10 G11 k) ++ L)) (ix2 ⟨r.val, by omega⟩ l)
      = if 16 * k.val ≤ r.val ∧ r.val < 16 * k.val + 16 then outL arg9 arg10 arg11 G9 G10 G11 r
        else arg12.view.read (Elt Ideal) (arg12.view.writes (Elt Ideal) f L) (ix2 ⟨r.val, by omega⟩ l) := by
  have o := k0_off47_eq k
  have o' := k0_off48_eq k
  unfold tripL_k0_t2 trip_k0_t2
  dsimp only
  by_cases h : 16 * k.val ≤ r.val ∧ r.val < 16 * k.val + 16
  · rw [if_pos h]
    obtain ⟨r, hr⟩ := r
    obtain ⟨a, rfl⟩ : ∃ a : ℕ, r = 16 * k.val + a := Nat.exists_eq_add_of_le h.1
    have ha : a < 16 := by have := h.2; simp only at this; omega
    refine (View.read_writes_cons_rows_of_mem arg12.view f _ _ L _ (ix2 ⟨a, ha⟩ l) o' rfl rfl).trans ?_
    refine (pay11_at ..).trans ?_
    unfold outL
    congr 1
    · exact funext fun l => ld arg9 G9 _ o _ ⟨a, ha⟩ l hr
    · exact funext fun l => ld arg10 G10 _ o _ ⟨a, ha⟩ l hr
    · exact funext fun l => ld arg11 G11 _ o _ ⟨a, ha⟩ l hr
  · rw [if_neg h]
    exact View.read_writes_cons_rows_of_not_mem arg12.view f _ _ L _ o' rfl (by rcases not_and_or.1 h with h | h <;> [left; right] <;> show _ <;> (try exact not_lt.1 h) <;> (exact not_le.1 h))

/-- After the trips before `k`, the rows below `16 k` hold their losses. -/
theorem loop (k : ℕ) (hk : k ≤ 55) (f : BufTy.Contents (Elt Ideal) arg12.view.ty) (r : Fin 880) (l : Fin 128) :
    arg12.view.read (Elt Ideal) (arg12.view.writes (Elt Ideal) f
        (pb_k0_t2 (F := Ideal) Variants.none c none i arg1 harg1 arg2 harg2 arg3 harg3 arg4 harg4 arg5 harg5 arg6 harg6 arg7 harg7 arg8 harg8 arg9 harg9 arg10 harg10 arg11 harg11 arg12 harg12 hl G9 G10 G11 k)) (ix2 ⟨r.val, by omega⟩ l)
      = if r.val < 16 * k then outL arg9 arg10 arg11 G9 G10 G11 r
        else arg12.view.read (Elt Ideal) f (ix2 ⟨r.val, by omega⟩ l) := by
  induction k with
  | zero => simp [pb_k0_t2]
  | succ k ih =>
    have ih := ih (by omega)
    have hk' : k < k0_t2_loop.trips := lt_of_lt_of_eq (by omega : k < 55) (by decide +kernel)
    have e := pb_k0_t2_succ (F := Ideal) Variants.none c none i arg1 harg1 arg2 harg2 arg3 harg3 arg4 harg4 arg5 harg5 arg6 harg6 arg7 harg7 arg8 harg8 arg9 harg9 arg10 harg10 arg11 harg11 arg12 harg12 hl G9 G10 G11 ⟨k, hk'⟩
    dsimp only at e
    rw [e, trip, ih]
    dsimp only
    by_cases h1 : r.val < 16 * k
    · rw [if_neg (by omega), if_pos h1, if_pos (by omega)]
    · by_cases h2 : r.val < 16 * k + 16
      · rw [if_pos ⟨by omega, h2⟩, if_pos (by omega)]
      · rw [if_neg (by omega), if_neg h1, if_neg (by omega)]

end Cert.KernelIdeal.Loss
-- ==== Proof.Wd.lean ====
/- The dequantised block of weights. At a grid point the body writes its scratch block of the weights in 200 tiles of
   128 by 128; every tile is the block of codes times one scale, so together they are one function of the block's index:
   the code at the index times the scale of the 128 by 128 tile it lies in. -/
module

public import proofs.«01_k».proof.Proof.Gen.KernelIdeal.Frame
public import Idealize.ShloMosaic.Lib.Pointwise

@[expose] public section

set_option maxRecDepth 65536

open Idealize.ShloMosaic Idealize.ShloMosaic.TcCoe

namespace Cert.KernelIdeal.Wd

open Cert.KernelIdeal Cert.KernelIdeal.Gen

/-- The weight at `y` of grid point `i`'s block: code times scale. -/
noncomputable def weight (i : grid0.Coords) (x2 : Vec Ideal S5120x640 .fp8e4m3) (x3 : Vec Ideal S40x250 .f32) :
    S5120x640.Idx → EReal := fun y =>
  (show EReal from x2 y) * (show EReal from x3 (ix2 ⟨(y 0).val / 128, by have := (y 0).isLt; simp at this; omega⟩
    ⟨5 * (i 0).val + (y 1).val / 128, by
      have h1 := (y 1).isLt; have h0 : (i 0).val < 50 := (i 0).isLt; simp at h1; omega⟩))

/-- The tiles `L` agree with `weight` and cover the first `n` tiles in row-major order of tiles. -/
structure Upto (i : grid0.Coords) (x2 : Vec Ideal S5120x640 .fp8e4m3) (x3 : Vec Ideal S40x250 .f32)
    (L : List (View.Piece (Elt Ideal) S5120x640 .bf16)) (n : ℕ) : Prop where
  agree : ∀ p ∈ L, ∀ x : p.1.shape.Idx, p.2 x = weight i x2 x3 (p.1.emb x)
  cover : ∀ y : S5120x640.Idx, 5 * ((y 0).val / 128) + (y 1).val / 128 < n → ∃ p ∈ L, y ∈ p.1.set

theorem upto_nil (i x2 x3) : Upto i x2 x3 [] 0 := ⟨fun _ h => by simp at h, fun _ h => by omega⟩

/-- One more tile: the codes of tile `(kb, nb)` times the scale the body reads for it. -/
theorem upto_cons {i : grid0.Coords} {x2 x3} {arg4 : Memref sig .tc .vmem S5120x640 .fp8e4m3} {harg4 : arg4.IsWhole}
    {arg5 : Memref sig .tc .smem S40x250 .f32} {harg5 : arg5.IsWhole} (kb : Fin 40) (nb : Fin 5)
    {so : Fin 2 → ℕ} (hso : so = ![kb.val, 5 * (i 0).val + nb.val]) {sinb h1} {inb}
    {L : List (View.Piece (Elt Ideal) S5120x640 .bf16)} (hL : Upto i x2 x3 L (5 * kb.val + nb.val)) :
    Upto i x2 x3 ((⟨Rect.unit (s := S5120x640) ![128 * kb.val, 128 * nb.val] S128x128.size inb,
      k0_pay28 (F := Ideal) (arg5.view.readAt (Elt Ideal) (Rect.unit (s := S40x250) so S1x1.size sinb).toLoadRect
          (harg5.unread x3) (Shape.Idx.first h1))
        (arg4.view.readAt (Elt Ideal) (Rect.unit (s := S5120x640) ![128 * kb.val, 128 * nb.val] S128x128.size inb).toLoadRect
          (harg4.unread x2))⟩ : View.Piece (Elt Ideal) S5120x640 .bf16) :: L) (5 * kb.val + nb.val + 1) := by
  subst hso
  refine ⟨?_, ?_⟩
  · intro p hp
    rcases List.mem_cons.1 hp with rfl | hp
    swap
    · exact hL.agree p hp
    intro x
    have hx0 : (x 0).val < 128 := (x 0).isLt
    have hx1 : (x 1).val < 128 := (x 1).isLt
    dsimp only
    unfold k0_pay28
    rw [View.readAt_apply, Memref.IsWhole.read_unread]
    pointwise
    rw [View.readAt_apply, Memref.IsWhole.read_unread]
    unfold weight
    have e0 : (((Rect.unit (s := S5120x640) ![128 * kb.val, 128 * nb.val] S128x128.size inb).emb x) 0).val
        = 128 * kb.val + (x 0).val := by
      show 128 * kb.val + 1 * (x 0).val = _; omega
    have e1 : (((Rect.unit (s := S5120x640) ![128 * kb.val, 128 * nb.val] S128x128.size inb).emb x) 1).val
        = 128 * nb.val + (x 1).val := by
      show 128 * nb.val + 1 * (x 1).val = _; omega
    refine Ideal.mul_congr rfl (congrArg x3 ?_)
    have h0 : kb.val = (128 * kb.val + (x 0).val) / 128 := by omega
    have h1 : nb.val = (128 * nb.val + (x 1).val) / 128 := by omega
    exact (ix2_inj _ _ _ _).2 ⟨Fin.ext (h0.trans (congrArg (· / 128) e0.symm)),
      Fin.ext (congrArg (5 * (i 0).val + ·) (h1.trans (congrArg (· / 128) e1.symm)))⟩
  · intro y hy
    by_cases h : 5 * ((y 0).val / 128) + (y 1).val / 128 < 5 * kb.val + nb.val
    · obtain ⟨p, hp, hm⟩ := hL.cover y h
      exact ⟨p, List.mem_cons_of_mem _ hp, hm⟩
    · refine ⟨_, List.mem_cons_self, ?_⟩
      have h1 : (y 1).val < 640 := (y 1).isLt
      have hn := nb.isLt
      rw [Rect.mem_set_unit]
      intro a
      match a with
      | ⟨0, _⟩ => show 128 * kb.val ≤ (y 0).val ∧ (y 0).val < 128 * kb.val + 128; omega
      | ⟨1, _⟩ => show 128 * nb.val ≤ (y 1).val ∧ (y 1).val < 128 * nb.val + 128; omega

/-- The tiles the body has written when it multiplies, at a middle point. -/
theorem upto_B (c : Dev nD) (i : grid0.Coords) (arg4 : Memref sig .tc .vmem S5120x640 .fp8e4m3) (harg4 : arg4.IsWhole)
    (arg5 : Memref sig .tc .smem S40x250 .f32) (harg5 : arg5.IsWhole) (x2 x3) :
    Upto i x2 x3 (kernelRun0_B.sl.HS0_200 (F := Ideal) c i arg4 harg4 arg5 harg5 x2 x3) 200 := by
  unfold kernelRun0_B.sl.HS0_200
  refine upto_cons 39 4 (k0_off40_eq i 4) ?_
  refine upto_cons 39 3 (k0_off40_eq i 3) ?_
  refine upto_cons 39 2 (k0_off40_eq i 2) ?_
  refine upto_cons 39 1 (k0_off40_eq i 1) ?_
  refine upto_cons 39 0 (k0_off40_eq i 0) ?_
  refine upto_cons 38 4 (k0_off39_eq i 4) ?_
  refine upto_cons 38 3 (k0_off39_eq i 3) ?_
  refine upto_cons 38 2 (k0_off39_eq i 2) ?_
  refine upto_cons 38 1 (k0_off39_eq i 1) ?_
  refine upto_cons 38 0 (k0_off39_eq i 0) ?_
  refine upto_cons 37 4 (k0_off38_eq i 4) ?_
  refine upto_cons 37 3 (k0_off38_eq i 3) ?_
  refine upto_cons 37 2 (k0_off38_eq i 2) ?_
  refine upto_cons 37 1 (k0_off38_eq i 1) ?_
  refine upto_cons 37 0 (k0_off38_eq i 0) ?_
  refine upto_cons 36 4 (k0_off37_eq i 4) ?_
  refine upto_cons 36 3 (k0_off37_eq i 3) ?_
  refine upto_cons 36 2 (k0_off37_eq i 2) ?_
  refine upto_cons 36 1 (k0_off37_eq i 1) ?_
  refine upto_cons 36 0 (k0_off37_eq i 0) ?_
  refine upto_cons 35 4 (k0_off36_eq i 4) ?_
  refine upto_cons 35 3 (k0_off36_eq i 3) ?_
  refine upto_cons 35 2 (k0_off36_eq i 2) ?_
  refine upto_cons 35 1 (k0_off36_eq i 1) ?_
  refine upto_cons 35 0 (k0_off36_eq i 0) ?_
  refine upto_cons 34 4 (k0_off35_eq i 4) ?_
  refine upto_cons 34 3 (k0_off35_eq i 3) ?_
  refine upto_cons 34 2 (k0_off35_eq i 2) ?_
  refine upto_cons 34 1 (k0_off35_eq i 1) ?_
  refine upto_cons 34 0 (k0_off35_eq i 0) ?_
  refine upto_cons 33 4 (k0_off34_eq i 4) ?_
  refine upto_cons 33 3 (k0_off34_eq i 3) ?_
  refine upto_cons 33 2 (k0_off34_eq i 2) ?_
  refine upto_cons 33 1 (k0_off34_eq i 1) ?_
  refine upto_cons 33 0 (k0_off34_eq i 0) ?_
  refine upto_cons 32 4 (k0_off33_eq i 4) ?_
  refine upto_cons 32 3 (k0_off33_eq i 3) ?_
  refine upto_cons 32 2 (k0_off33_eq i 2) ?_
  refine upto_cons 32 1 (k0_off33_eq i 1) ?_
  refine upto_cons 32 0 (k0_off33_eq i 0) ?_
  refine upto_cons 31 4 (k0_off32_eq i 4) ?_
  refine upto_cons 31 3 (k0_off32_eq i 3) ?_
  refine upto_cons 31 2 (k0_off32_eq i 2) ?_
  refine upto_cons 31 1 (k0_off32_eq i 1) ?_
  refine upto_cons 31 0 (k0_off32_eq i 0) ?_
  refine upto_cons 30 4 (k0_off31_eq i 4) ?_
  refine upto_cons 30 3 (k0_off31_eq i 3) ?_
  refine upto_cons 30 2 (k0_off31_eq i 2) ?_
  refine upto_cons 30 1 (k0_off31_eq i 1) ?_
  refine upto_cons 30 0 (k0_off31_eq i 0) ?_
  refine upto_cons 29 4 (k0_off30_eq i 4) ?_
  refine upto_cons 29 3 (k0_off30_eq i 3) ?_
  refine upto_cons 29 2 (k0_off30_eq i 2) ?_
  refine upto_cons 29 1 (k0_off30_eq i 1) ?_
  refine upto_cons 29 0 (k0_off30_eq i 0) ?_
  refine upto_cons 28 4 (k0_off29_eq i 4) ?_
  refine upto_cons 28 3 (k0_off29_eq i 3) ?_
  refine upto_cons 28 2 (k0_off29_eq i 2) ?_
  refine upto_cons 28 1 (k0_off29_eq i 1) ?_
  refine upto_cons 28 0 (k0_off29_eq i 0) ?_
  refine upto_cons 27 4 (k0_off28_eq i 4) ?_
  refine upto_cons 27 3 (k0_off28_eq i 3) ?_
  refine upto_cons 27 2 (k0_off28_eq i 2) ?_
  refine upto_cons 27 1 (k0_off28_eq i 1) ?_
  refine upto_cons 27 0 (k0_off28_eq i 0) ?_
  refine upto_cons 26 4 (k0_off27_eq i 4) ?_
  refine upto_cons 26 3 (k0_off27_eq i 3) ?_
  refine upto_cons 26 2 (k0_off27_eq i 2) ?_
  refine upto_cons 26 1 (k0_off27_eq i 1) ?_
  refine upto_cons 26 0 (k0_off27_eq i 0) ?_
  refine upto_cons 25 4 (k0_off26_eq i 4) ?_
  refine upto_cons 25 3 (k0_off26_eq i 3) ?_
  refine upto_cons 25 2 (k0_off26_eq i 2) ?_
  refine upto_cons 25 1 (k0_off26_eq i 1) ?_
  refine upto_cons 25 0 (k0_off26_eq i 0) ?_
  refine upto_cons 24 4 (k0_off25_eq i 4) ?_
  refine upto_cons 24 3 (k0_off25_eq i 3) ?_
  refine upto_cons 24 2 (k0_off25_eq i 2) ?_
  refine upto_cons 24 1 (k0_off25_eq i 1) ?_
  refine upto_cons 24 0 (k0_off25_eq i 0) ?_
  refine upto_cons 23 4 (k0_off24_eq i 4) ?_
  refine upto_cons 23 3 (k0_off24_eq i 3) ?_
  refine upto_cons 23 2 (k0_off24_eq i 2) ?_
  refine upto_cons 23 1 (k0_off24_eq i 1) ?_
  refine upto_cons 23 0 (k0_off24_eq i 0) ?_
  refine upto_cons 22 4 (k0_off23_eq i 4) ?_
  refine upto_cons 22 3 (k0_off23_eq i 3) ?_
  refine upto_cons 22 2 (k0_off23_eq i 2) ?_
  refine upto_cons 22 1 (k0_off23_eq i 1) ?_
  refine upto_cons 22 0 (k0_off23_eq i 0) ?_
  refine upto_cons 21 4 (k0_off22_eq i 4) ?_
  refine upto_cons 21 3 (k0_off22_eq i 3) ?_
  refine upto_cons 21 2 (k0_off22_eq i 2) ?_
  refine upto_cons 21 1 (k0_off22_eq i 1) ?_
  refine upto_cons 21 0 (k0_off22_eq i 0) ?_
  refine upto_cons 20 4 (k0_off21_eq i 4) ?_
  refine upto_cons 20 3 (k0_off21_eq i 3) ?_
  refine upto_cons 20 2 (k0_off21_eq i 2) ?_
  refine upto_cons 20 1 (k0_off21_eq i 1) ?_
  refine upto_cons 20 0 (k0_off21_eq i 0) ?_
  refine upto_cons 19 4 (k0_off20_eq i 4) ?_
  refine upto_cons 19 3 (k0_off20_eq i 3) ?_
  refine upto_cons 19 2 (k0_off20_eq i 2) ?_
  refine upto_cons 19 1 (k0_off20_eq i 1) ?_
  refine upto_cons 19 0 (k0_off20_eq i 0) ?_
  refine upto_cons 18 4 (k0_off19_eq i 4) ?_
  refine upto_cons 18 3 (k0_off19_eq i 3) ?_
  refine upto_cons 18 2 (k0_off19_eq i 2) ?_
  refine upto_cons 18 1 (k0_off19_eq i 1) ?_
  refine upto_cons 18 0 (k0_off19_eq i 0) ?_
  refine upto_cons 17 4 (k0_off18_eq i 4) ?_
  refine upto_cons 17 3 (k0_off18_eq i 3) ?_
  refine upto_cons 17 2 (k0_off18_eq i 2) ?_
  refine upto_cons 17 1 (k0_off18_eq i 1) ?_
  refine upto_cons 17 0 (k0_off18_eq i 0) ?_
  refine upto_cons 16 4 (k0_off17_eq i 4) ?_
  refine upto_cons 16 3 (k0_off17_eq i 3) ?_
  refine upto_cons 16 2 (k0_off17_eq i 2) ?_
  refine upto_cons 16 1 (k0_off17_eq i 1) ?_
  refine upto_cons 16 0 (k0_off17_eq i 0) ?_
  refine upto_cons 15 4 (k0_off16_eq i 4) ?_
  refine upto_cons 15 3 (k0_off16_eq i 3) ?_
  refine upto_cons 15 2 (k0_off16_eq i 2) ?_
  refine upto_cons 15 1 (k0_off16_eq i 1) ?_
  refine upto_cons 15 0 (k0_off16_eq i 0) ?_
  refine upto_cons 14 4 (k0_off15_eq i 4) ?_
  refine upto_cons 14 3 (k0_off15_eq i 3) ?_
  refine upto_cons 14 2 (k0_off15_eq i 2) ?_
  refine upto_cons 14 1 (k0_off15_eq i 1) ?_
  refine upto_cons 14 0 (k0_off15_eq i 0) ?_
  refine upto_cons 13 4 (k0_off14_eq i 4) ?_
  refine upto_cons 13 3 (k0_off14_eq i 3) ?_
  refine upto_cons 13 2 (k0_off14_eq i 2) ?_
  refine upto_cons 13 1 (k0_off14_eq i 1) ?_
  refine upto_cons 13 0 (k0_off14_eq i 0) ?_
  refine upto_cons 12 4 (k0_off13_eq i 4) ?_
  refine upto_cons 12 3 (k0_off13_eq i 3) ?_
  refine upto_cons 12 2 (k0_off13_eq i 2) ?_
  refine upto_cons 12 1 (k0_off13_eq i 1) ?_
  refine upto_cons 12 0 (k0_off13_eq i 0) ?_
  refine upto_cons 11 4 (k0_off12_eq i 4) ?_
  refine upto_cons 11 3 (k0_off12_eq i 3) ?_
  refine upto_cons 11 2 (k0_off12_eq i 2) ?_
  refine upto_cons 11 1 (k0_off12_eq i 1) ?_
  refine upto_cons 11 0 (k0_off12_eq i 0) ?_
  refine upto_cons 10 4 (k0_off11_eq i 4) ?_
  refine upto_cons 10 3 (k0_off11_eq i 3) ?_
  refine upto_cons 10 2 (k0_off11_eq i 2) ?_
  refine upto_cons 10 1 (k0_off11_eq i 1) ?_
  refine upto_cons 10 0 (k0_off11_eq i 0) ?_
  refine upto_cons 9 4 (k0_off10_eq i 4) ?_
  refine upto_cons 9 3 (k0_off10_eq i 3) ?_
  refine upto_cons 9 2 (k0_off10_eq i 2) ?_
  refine upto_cons 9 1 (k0_off10_eq i 1) ?_
  refine upto_cons 9 0 (k0_off10_eq i 0) ?_
  refine upto_cons 8 4 (k0_off9_eq i 4) ?_
  refine upto_cons 8 3 (k0_off9_eq i 3) ?_
  refine upto_cons 8 2 (k0_off9_eq i 2) ?_
  refine upto_cons 8 1 (k0_off9_eq i 1) ?_
  refine upto_cons 8 0 (k0_off9_eq i 0) ?_
  refine upto_cons 7 4 (k0_off8_eq i 4) ?_
  refine upto_cons 7 3 (k0_off8_eq i 3) ?_
  refine upto_cons 7 2 (k0_off8_eq i 2) ?_
  refine upto_cons 7 1 (k0_off8_eq i 1) ?_
  refine upto_cons 7 0 (k0_off8_eq i 0) ?_
  refine upto_cons 6 4 (k0_off7_eq i 4) ?_
  refine upto_cons 6 3 (k0_off7_eq i 3) ?_
  refine upto_cons 6 2 (k0_off7_eq i 2) ?_
  refine upto_cons 6 1 (k0_off7_eq i 1) ?_
  refine upto_cons 6 0 (k0_off7_eq i 0) ?_
  refine upto_cons 5 4 (k0_off6_eq i 4) ?_
  refine upto_cons 5 3 (k0_off6_eq i 3) ?_
  refine upto_cons 5 2 (k0_off6_eq i 2) ?_
  refine upto_cons 5 1 (k0_off6_eq i 1) ?_
  refine upto_cons 5 0 (k0_off6_eq i 0) ?_
  refine upto_cons 4 4 (k0_off5_eq i 4) ?_
  refine upto_cons 4 3 (k0_off5_eq i 3) ?_
  refine upto_cons 4 2 (k0_off5_eq i 2) ?_
  refine upto_cons 4 1 (k0_off5_eq i 1) ?_
  refine upto_cons 4 0 (k0_off5_eq i 0) ?_
  refine upto_cons 3 4 (k0_off4_eq i 4) ?_
  refine upto_cons 3 3 (k0_off4_eq i 3) ?_
  refine upto_cons 3 2 (k0_off4_eq i 2) ?_
  refine upto_cons 3 1 (k0_off4_eq i 1) ?_
  refine upto_cons 3 0 (k0_off4_eq i 0) ?_
  refine upto_cons 2 4 (k0_off3_eq i 4) ?_
  refine upto_cons 2 3 (k0_off3_eq i 3) ?_
  refine upto_cons 2 2 (k0_off3_eq i 2) ?_
  refine upto_cons 2 1 (k0_off3_eq i 1) ?_
  refine upto_cons 2 0 (k0_off3_eq i 0) ?_
  refine upto_cons 1 4 (k0_off2_eq i 4) ?_
  refine upto_cons 1 3 (k0_off2_eq i 3) ?_
  refine upto_cons 1 2 (k0_off2_eq i 2) ?_
  refine upto_cons 1 1 (k0_off2_eq i 1) ?_
  refine upto_cons 1 0 (k0_off2_eq i 0) ?_
  refine upto_cons 0 4 (k0_off1_eq i 4) ?_
  refine upto_cons 0 3 (k0_off1_eq i 3) ?_
  refine upto_cons 0 2 (k0_off1_eq i 2) ?_
  refine upto_cons 0 1 (k0_off1_eq i 1) ?_
  refine upto_cons 0 0 (k0_off1_eq i 0) ?_
  exact upto_nil i x2 x3

/-- The tiles the body has written when it multiplies, at the first point. -/
theorem upto_A (c : Dev nD) (i : grid0.Coords) (arg4 : Memref sig .tc .vmem S5120x640 .fp8e4m3) (harg4 : arg4.IsWhole)
    (arg5 : Memref sig .tc .smem S40x250 .f32) (harg5 : arg5.IsWhole) (x2 x3) :
    Upto i x2 x3 (kernelRun0_A.sl.HS0_200 (F := Ideal) c i arg4 harg4 arg5 harg5 x2 x3) 200 := by
  unfold kernelRun0_A.sl.HS0_200
  refine upto_cons 39 4 (k0_off40_eq i 4) ?_
  refine upto_cons 39 3 (k0_off40_eq i 3) ?_
  refine upto_cons 39 2 (k0_off40_eq i 2) ?_
  refine upto_cons 39 1 (k0_off40_eq i 1) ?_
  refine upto_cons 39 0 (k0_off40_eq i 0) ?_
  refine upto_cons 38 4 (k0_off39_eq i 4) ?_
  refine upto_cons 38 3 (k0_off39_eq i 3) ?_
  refine upto_cons 38 2 (k0_off39_eq i 2) ?_
  refine upto_cons 38 1 (k0_off39_eq i 1) ?_
  refine upto_cons 38 0 (k0_off39_eq i 0) ?_
  refine upto_cons 37 4 (k0_off38_eq i 4) ?_
  refine upto_cons 37 3 (k0_off38_eq i 3) ?_
  refine upto_cons 37 2 (k0_off38_eq i 2) ?_
  refine upto_cons 37 1 (k0_off38_eq i 1) ?_
  refine upto_cons 37 0 (k0_off38_eq i 0) ?_
  refine upto_cons 36 4 (k0_off37_eq i 4) ?_
  refine upto_cons 36 3 (k0_off37_eq i 3) ?_
  refine upto_cons 36 2 (k0_off37_eq i 2) ?_
  refine upto_cons 36 1 (k0_off37_eq i 1) ?_
  refine upto_cons 36 0 (k0_off37_eq i 0) ?_
  refine upto_cons 35 4 (k0_off36_eq i 4) ?_
  refine upto_cons 35 3 (k0_off36_eq i 3) ?_
  refine upto_cons 35 2 (k0_off36_eq i 2) ?_
  refine upto_cons 35 1 (k0_off36_eq i 1) ?_
  refine upto_cons 35 0 (k0_off36_eq i 0) ?_
  refine upto_cons 34 4 (k0_off35_eq i 4) ?_
  refine upto_cons 34 3 (k0_off35_eq i 3) ?_
  refine upto_cons 34 2 (k0_off35_eq i 2) ?_
  refine upto_cons 34 1 (k0_off35_eq i 1) ?_
  refine upto_cons 34 0 (k0_off35_eq i 0) ?_
  refine upto_cons 33 4 (k0_off34_eq i 4) ?_
  refine upto_cons 33 3 (k0_off34_eq i 3) ?_
  refine upto_cons 33 2 (k0_off34_eq i 2) ?_
  refine upto_cons 33 1 (k0_off34_eq i 1) ?_
  refine upto_cons 33 0 (k0_off34_eq i 0) ?_
  refine upto_cons 32 4 (k0_off33_eq i 4) ?_
  refine upto_cons 32 3 (k0_off33_eq i 3) ?_
  refine upto_cons 32 2 (k0_off33_eq i 2) ?_
  refine upto_cons 32 1 (k0_off33_eq i 1) ?_
  refine upto_cons 32 0 (k0_off33_eq i 0) ?_
  refine upto_cons 31 4 (k0_off32_eq i 4) ?_
  refine upto_cons 31 3 (k0_off32_eq i 3) ?_
  refine upto_cons 31 2 (k0_off32_eq i 2) ?_
  refine upto_cons 31 1 (k0_off32_eq i 1) ?_
  refine upto_cons 31 0 (k0_off32_eq i 0) ?_
  refine upto_cons 30 4 (k0_off31_eq i 4) ?_
  refine upto_cons 30 3 (k0_off31_eq i 3) ?_
  refine upto_cons 30 2 (k0_off31_eq i 2) ?_
  refine upto_cons 30 1 (k0_off31_eq i 1) ?_
  refine upto_cons 30 0 (k0_off31_eq i 0) ?_
  refine upto_cons 29 4 (k0_off30_eq i 4) ?_
  refine upto_cons 29 3 (k0_off30_eq i 3) ?_
  refine upto_cons 29 2 (k0_off30_eq i 2) ?_
  refine upto_cons 29 1 (k0_off30_eq i 1) ?_
  refine upto_cons 29 0 (k0_off30_eq i 0) ?_
  refine upto_cons 28 4 (k0_off29_eq i 4) ?_
  refine upto_cons 28 3 (k0_off29_eq i 3) ?_
  refine upto_cons 28 2 (k0_off29_eq i 2) ?_
  refine upto_cons 28 1 (k0_off29_eq i 1) ?_
  refine upto_cons 28 0 (k0_off29_eq i 0) ?_
  refine upto_cons 27 4 (k0_off28_eq i 4) ?_
  refine upto_cons 27 3 (k0_off28_eq i 3) ?_
  refine upto_cons 27 2 (k0_off28_eq i 2) ?_
  refine upto_cons 27 1 (k0_off28_eq i 1) ?_
  refine upto_cons 27 0 (k0_off28_eq i 0) ?_
  refine upto_cons 26 4 (k0_off27_eq i 4) ?_
  refine upto_cons 26 3 (k0_off27_eq i 3) ?_
  refine upto_cons 26 2 (k0_off27_eq i 2) ?_
  refine upto_cons 26 1 (k0_off27_eq i 1) ?_
  refine upto_cons 26 0 (k0_off27_eq i 0) ?_
  refine upto_cons 25 4 (k0_off26_eq i 4) ?_
  refine upto_cons 25 3 (k0_off26_eq i 3) ?_
  refine upto_cons 25 2 (k0_off26_eq i 2) ?_
  refine upto_cons 25 1 (k0_off26_eq i 1) ?_
  refine upto_cons 25 0 (k0_off26_eq i 0) ?_
  refine upto_cons 24 4 (k0_off25_eq i 4) ?_
  refine upto_cons 24 3 (k0_off25_eq i 3) ?_
  refine upto_cons 24 2 (k0_off25_eq i 2) ?_
  refine upto_cons 24 1 (k0_off25_eq i 1) ?_
  refine upto_cons 24 0 (k0_off25_eq i 0) ?_
  refine upto_cons 23 4 (k0_off24_eq i 4) ?_
  refine upto_cons 23 3 (k0_off24_eq i 3) ?_
  refine upto_cons 23 2 (k0_off24_eq i 2) ?_
  refine upto_cons 23 1 (k0_off24_eq i 1) ?_
  refine upto_cons 23 0 (k0_off24_eq i 0) ?_
  refine upto_cons 22 4 (k0_off23_eq i 4) ?_
  refine upto_cons 22 3 (k0_off23_eq i 3) ?_
  refine upto_cons 22 2 (k0_off23_eq i 2) ?_
  refine upto_cons 22 1 (k0_off23_eq i 1) ?_
  refine upto_cons 22 0 (k0_off23_eq i 0) ?_
  refine upto_cons 21 4 (k0_off22_eq i 4) ?_
  refine upto_cons 21 3 (k0_off22_eq i 3) ?_
  refine upto_cons 21 2 (k0_off22_eq i 2) ?_
  refine upto_cons 21 1 (k0_off22_eq i 1) ?_
  refine upto_cons 21 0 (k0_off22_eq i 0) ?_
  refine upto_cons 20 4 (k0_off21_eq i 4) ?_
  refine upto_cons 20 3 (k0_off21_eq i 3) ?_
  refine upto_cons 20 2 (k0_off21_eq i 2) ?_
  refine upto_cons 20 1 (k0_off21_eq i 1) ?_
  refine upto_cons 20 0 (k0_off21_eq i 0) ?_
  refine upto_cons 19 4 (k0_off20_eq i 4) ?_
  refine upto_cons 19 3 (k0_off20_eq i 3) ?_
  refine upto_cons 19 2 (k0_off20_eq i 2) ?_
  refine upto_cons 19 1 (k0_off20_eq i 1) ?_
  refine upto_cons 19 0 (k0_off20_eq i 0) ?_
  refine upto_cons 18 4 (k0_off19_eq i 4) ?_
  refine upto_cons 18 3 (k0_off19_eq i 3) ?_
  refine upto_cons 18 2 (k0_off19_eq i 2) ?_
  refine upto_cons 18 1 (k0_off19_eq i 1) ?_
  refine upto_cons 18 0 (k0_off19_eq i 0) ?_
  refine upto_cons 17 4 (k0_off18_eq i 4) ?_
  refine upto_cons 17 3 (k0_off18_eq i 3) ?_
  refine upto_cons 17 2 (k0_off18_eq i 2) ?_
  refine upto_cons 17 1 (k0_off18_eq i 1) ?_
  refine upto_cons 17 0 (k0_off18_eq i 0) ?_
  refine upto_cons 16 4 (k0_off17_eq i 4) ?_
  refine upto_cons 16 3 (k0_off17_eq i 3) ?_
  refine upto_cons 16 2 (k0_off17_eq i 2) ?_
  refine upto_cons 16 1 (k0_off17_eq i 1) ?_
  refine upto_cons 16 0 (k0_off17_eq i 0) ?_
  refine upto_cons 15 4 (k0_off16_eq i 4) ?_
  refine upto_cons 15 3 (k0_off16_eq i 3) ?_
  refine upto_cons 15 2 (k0_off16_eq i 2) ?_
  refine upto_cons 15 1 (k0_off16_eq i 1) ?_
  refine upto_cons 15 0 (k0_off16_eq i 0) ?_
  refine upto_cons 14 4 (k0_off15_eq i 4) ?_
  refine upto_cons 14 3 (k0_off15_eq i 3) ?_
  refine upto_cons 14 2 (k0_off15_eq i 2) ?_
  refine upto_cons 14 1 (k0_off15_eq i 1) ?_
  refine upto_cons 14 0 (k0_off15_eq i 0) ?_
  refine upto_cons 13 4 (k0_off14_eq i 4) ?_
  refine upto_cons 13 3 (k0_off14_eq i 3) ?_
  refine upto_cons 13 2 (k0_off14_eq i 2) ?_
  refine upto_cons 13 1 (k0_off14_eq i 1) ?_
  refine upto_cons 13 0 (k0_off14_eq i 0) ?_
  refine upto_cons 12 4 (k0_off13_eq i 4) ?_
  refine upto_cons 12 3 (k0_off13_eq i 3) ?_
  refine upto_cons 12 2 (k0_off13_eq i 2) ?_
  refine upto_cons 12 1 (k0_off13_eq i 1) ?_
  refine upto_cons 12 0 (k0_off13_eq i 0) ?_
  refine upto_cons 11 4 (k0_off12_eq i 4) ?_
  refine upto_cons 11 3 (k0_off12_eq i 3) ?_
  refine upto_cons 11 2 (k0_off12_eq i 2) ?_
  refine upto_cons 11 1 (k0_off12_eq i 1) ?_
  refine upto_cons 11 0 (k0_off12_eq i 0) ?_
  refine upto_cons 10 4 (k0_off11_eq i 4) ?_
  refine upto_cons 10 3 (k0_off11_eq i 3) ?_
  refine upto_cons 10 2 (k0_off11_eq i 2) ?_
  refine upto_cons 10 1 (k0_off11_eq i 1) ?_
  refine upto_cons 10 0 (k0_off11_eq i 0) ?_
  refine upto_cons 9 4 (k0_off10_eq i 4) ?_
  refine upto_cons 9 3 (k0_off10_eq i 3) ?_
  refine upto_cons 9 2 (k0_off10_eq i 2) ?_
  refine upto_cons 9 1 (k0_off10_eq i 1) ?_
  refine upto_cons 9 0 (k0_off10_eq i 0) ?_
  refine upto_cons 8 4 (k0_off9_eq i 4) ?_
  refine upto_cons 8 3 (k0_off9_eq i 3) ?_
  refine upto_cons 8 2 (k0_off9_eq i 2) ?_
  refine upto_cons 8 1 (k0_off9_eq i 1) ?_
  refine upto_cons 8 0 (k0_off9_eq i 0) ?_
  refine upto_cons 7 4 (k0_off8_eq i 4) ?_
  refine upto_cons 7 3 (k0_off8_eq i 3) ?_
  refine upto_cons 7 2 (k0_off8_eq i 2) ?_
  refine upto_cons 7 1 (k0_off8_eq i 1) ?_
  refine upto_cons 7 0 (k0_off8_eq i 0) ?_
  refine upto_cons 6 4 (k0_off7_eq i 4) ?_
  refine upto_cons 6 3 (k0_off7_eq i 3) ?_
  refine upto_cons 6 2 (k0_off7_eq i 2) ?_
  refine upto_cons 6 1 (k0_off7_eq i 1) ?_
  refine upto_cons 6 0 (k0_off7_eq i 0) ?_
  refine upto_cons 5 4 (k0_off6_eq i 4) ?_
  refine upto_cons 5 3 (k0_off6_eq i 3) ?_
  refine upto_cons 5 2 (k0_off6_eq i 2) ?_
  refine upto_cons 5 1 (k0_off6_eq i 1) ?_
  refine upto_cons 5 0 (k0_off6_eq i 0) ?_
  refine upto_cons 4 4 (k0_off5_eq i 4) ?_
  refine upto_cons 4 3 (k0_off5_eq i 3) ?_
  refine upto_cons 4 2 (k0_off5_eq i 2) ?_
  refine upto_cons 4 1 (k0_off5_eq i 1) ?_
  refine upto_cons 4 0 (k0_off5_eq i 0) ?_
  refine upto_cons 3 4 (k0_off4_eq i 4) ?_
  refine upto_cons 3 3 (k0_off4_eq i 3) ?_
  refine upto_cons 3 2 (k0_off4_eq i 2) ?_
  refine upto_cons 3 1 (k0_off4_eq i 1) ?_
  refine upto_cons 3 0 (k0_off4_eq i 0) ?_
  refine upto_cons 2 4 (k0_off3_eq i 4) ?_
  refine upto_cons 2 3 (k0_off3_eq i 3) ?_
  refine upto_cons 2 2 (k0_off3_eq i 2) ?_
  refine upto_cons 2 1 (k0_off3_eq i 1) ?_
  refine upto_cons 2 0 (k0_off3_eq i 0) ?_
  refine upto_cons 1 4 (k0_off2_eq i 4) ?_
  refine upto_cons 1 3 (k0_off2_eq i 3) ?_
  refine upto_cons 1 2 (k0_off2_eq i 2) ?_
  refine upto_cons 1 1 (k0_off2_eq i 1) ?_
  refine upto_cons 1 0 (k0_off2_eq i 0) ?_
  refine upto_cons 0 4 (k0_off1_eq i 4) ?_
  refine upto_cons 0 3 (k0_off1_eq i 3) ?_
  refine upto_cons 0 2 (k0_off1_eq i 2) ?_
  refine upto_cons 0 1 (k0_off1_eq i 1) ?_
  refine upto_cons 0 0 (k0_off1_eq i 0) ?_
  exact upto_nil i x2 x3

/-- The tiles the body has written when it multiplies, at the last point. -/
theorem upto_C (c : Dev nD) (i : grid0.Coords) (arg4 : Memref sig .tc .vmem S5120x640 .fp8e4m3) (harg4 : arg4.IsWhole)
    (arg5 : Memref sig .tc .smem S40x250 .f32) (harg5 : arg5.IsWhole) (x2 x3) :
    Upto i x2 x3 (kernelRun0_C.sl.HS0_200 (F := Ideal) c i arg4 harg4 arg5 harg5 x2 x3) 200 := by
  unfold kernelRun0_C.sl.HS0_200
  refine upto_cons 39 4 (k0_off40_eq i 4) ?_
  refine upto_cons 39 3 (k0_off40_eq i 3) ?_
  refine upto_cons 39 2 (k0_off40_eq i 2) ?_
  refine upto_cons 39 1 (k0_off40_eq i 1) ?_
  refine upto_cons 39 0 (k0_off40_eq i 0) ?_
  refine upto_cons 38 4 (k0_off39_eq i 4) ?_
  refine upto_cons 38 3 (k0_off39_eq i 3) ?_
  refine upto_cons 38 2 (k0_off39_eq i 2) ?_
  refine upto_cons 38 1 (k0_off39_eq i 1) ?_
  refine upto_cons 38 0 (k0_off39_eq i 0) ?_
  refine upto_cons 37 4 (k0_off38_eq i 4) ?_
  refine upto_cons 37 3 (k0_off38_eq i 3) ?_
  refine upto_cons 37 2 (k0_off38_eq i 2) ?_
  refine upto_cons 37 1 (k0_off38_eq i 1) ?_
  refine upto_cons 37 0 (k0_off38_eq i 0) ?_
  refine upto_cons 36 4 (k0_off37_eq i 4) ?_
  refine upto_cons 36 3 (k0_off37_eq i 3) ?_
  refine upto_cons 36 2 (k0_off37_eq i 2) ?_
  refine upto_cons 36 1 (k0_off37_eq i 1) ?_
  refine upto_cons 36 0 (k0_off37_eq i 0) ?_
  refine upto_cons 35 4 (k0_off36_eq i 4) ?_
  refine upto_cons 35 3 (k0_off36_eq i 3) ?_
  refine upto_cons 35 2 (k0_off36_eq i 2) ?_
  refine upto_cons 35 1 (k0_off36_eq i 1) ?_
  refine upto_cons 35 0 (k0_off36_eq i 0) ?_
  refine upto_cons 34 4 (k0_off35_eq i 4) ?_
  refine upto_cons 34 3 (k0_off35_eq i 3) ?_
  refine upto_cons 34 2 (k0_off35_eq i 2) ?_
  refine upto_cons 34 1 (k0_off35_eq i 1) ?_
  refine upto_cons 34 0 (k0_off35_eq i 0) ?_
  refine upto_cons 33 4 (k0_off34_eq i 4) ?_
  refine upto_cons 33 3 (k0_off34_eq i 3) ?_
  refine upto_cons 33 2 (k0_off34_eq i 2) ?_
  refine upto_cons 33 1 (k0_off34_eq i 1) ?_
  refine upto_cons 33 0 (k0_off34_eq i 0) ?_
  refine upto_cons 32 4 (k0_off33_eq i 4) ?_
  refine upto_cons 32 3 (k0_off33_eq i 3) ?_
  refine upto_cons 32 2 (k0_off33_eq i 2) ?_
  refine upto_cons 32 1 (k0_off33_eq i 1) ?_
  refine upto_cons 32 0 (k0_off33_eq i 0) ?_
  refine upto_cons 31 4 (k0_off32_eq i 4) ?_
  refine upto_cons 31 3 (k0_off32_eq i 3) ?_
  refine upto_cons 31 2 (k0_off32_eq i 2) ?_
  refine upto_cons 31 1 (k0_off32_eq i 1) ?_
  refine upto_cons 31 0 (k0_off32_eq i 0) ?_
  refine upto_cons 30 4 (k0_off31_eq i 4) ?_
  refine upto_cons 30 3 (k0_off31_eq i 3) ?_
  refine upto_cons 30 2 (k0_off31_eq i 2) ?_
  refine upto_cons 30 1 (k0_off31_eq i 1) ?_
  refine upto_cons 30 0 (k0_off31_eq i 0) ?_
  refine upto_cons 29 4 (k0_off30_eq i 4) ?_
  refine upto_cons 29 3 (k0_off30_eq i 3) ?_
  refine upto_cons 29 2 (k0_off30_eq i 2) ?_
  refine upto_cons 29 1 (k0_off30_eq i 1) ?_
  refine upto_cons 29 0 (k0_off30_eq i 0) ?_
  refine upto_cons 28 4 (k0_off29_eq i 4) ?_
  refine upto_cons 28 3 (k0_off29_eq i 3) ?_
  refine upto_cons 28 2 (k0_off29_eq i 2) ?_
  refine upto_cons 28 1 (k0_off29_eq i 1) ?_
  refine upto_cons 28 0 (k0_off29_eq i 0) ?_
  refine upto_cons 27 4 (k0_off28_eq i 4) ?_
  refine upto_cons 27 3 (k0_off28_eq i 3) ?_
  refine upto_cons 27 2 (k0_off28_eq i 2) ?_
  refine upto_cons 27 1 (k0_off28_eq i 1) ?_
  refine upto_cons 27 0 (k0_off28_eq i 0) ?_
  refine upto_cons 26 4 (k0_off27_eq i 4) ?_
  refine upto_cons 26 3 (k0_off27_eq i 3) ?_
  refine upto_cons 26 2 (k0_off27_eq i 2) ?_
  refine upto_cons 26 1 (k0_off27_eq i 1) ?_
  refine upto_cons 26 0 (k0_off27_eq i 0) ?_
  refine upto_cons 25 4 (k0_off26_eq i 4) ?_
  refine upto_cons 25 3 (k0_off26_eq i 3) ?_
  refine upto_cons 25 2 (k0_off26_eq i 2) ?_
  refine upto_cons 25 1 (k0_off26_eq i 1) ?_
  refine upto_cons 25 0 (k0_off26_eq i 0) ?_
  refine upto_cons 24 4 (k0_off25_eq i 4) ?_
  refine upto_cons 24 3 (k0_off25_eq i 3) ?_
  refine upto_cons 24 2 (k0_off25_eq i 2) ?_
  refine upto_cons 24 1 (k0_off25_eq i 1) ?_
  refine upto_cons 24 0 (k0_off25_eq i 0) ?_
  refine upto_cons 23 4 (k0_off24_eq i 4) ?_
  refine upto_cons 23 3 (k0_off24_eq i 3) ?_
  refine upto_cons 23 2 (k0_off24_eq i 2) ?_
  refine upto_cons 23 1 (k0_off24_eq i 1) ?_
  refine upto_cons 23 0 (k0_off24_eq i 0) ?_
  refine upto_cons 22 4 (k0_off23_eq i 4) ?_
  refine upto_cons 22 3 (k0_off23_eq i 3) ?_
  refine upto_cons 22 2 (k0_off23_eq i 2) ?_
  refine upto_cons 22 1 (k0_off23_eq i 1) ?_
  refine upto_cons 22 0 (k0_off23_eq i 0) ?_
  refine upto_cons 21 4 (k0_off22_eq i 4) ?_
  refine upto_cons 21 3 (k0_off22_eq i 3) ?_
  refine upto_cons 21 2 (k0_off22_eq i 2) ?_
  refine upto_cons 21 1 (k0_off22_eq i 1) ?_
  refine upto_cons 21 0 (k0_off22_eq i 0) ?_
  refine upto_cons 20 4 (k0_off21_eq i 4) ?_
  refine upto_cons 20 3 (k0_off21_eq i 3) ?_
  refine upto_cons 20 2 (k0_off21_eq i 2) ?_
  refine upto_cons 20 1 (k0_off21_eq i 1) ?_
  refine upto_cons 20 0 (k0_off21_eq i 0) ?_
  refine upto_cons 19 4 (k0_off20_eq i 4) ?_
  refine upto_cons 19 3 (k0_off20_eq i 3) ?_
  refine upto_cons 19 2 (k0_off20_eq i 2) ?_
  refine upto_cons 19 1 (k0_off20_eq i 1) ?_
  refine upto_cons 19 0 (k0_off20_eq i 0) ?_
  refine upto_cons 18 4 (k0_off19_eq i 4) ?_
  refine upto_cons 18 3 (k0_off19_eq i 3) ?_
  refine upto_cons 18 2 (k0_off19_eq i 2) ?_
  refine upto_cons 18 1 (k0_off19_eq i 1) ?_
  refine upto_cons 18 0 (k0_off19_eq i 0) ?_
  refine upto_cons 17 4 (k0_off18_eq i 4) ?_
  refine upto_cons 17 3 (k0_off18_eq i 3) ?_
  refine upto_cons 17 2 (k0_off18_eq i 2) ?_
  refine upto_cons 17 1 (k0_off18_eq i 1) ?_
  refine upto_cons 17 0 (k0_off18_eq i 0) ?_
  refine upto_cons 16 4 (k0_off17_eq i 4) ?_
  refine upto_cons 16 3 (k0_off17_eq i 3) ?_
  refine upto_cons 16 2 (k0_off17_eq i 2) ?_
  refine upto_cons 16 1 (k0_off17_eq i 1) ?_
  refine upto_cons 16 0 (k0_off17_eq i 0) ?_
  refine upto_cons 15 4 (k0_off16_eq i 4) ?_
  refine upto_cons 15 3 (k0_off16_eq i 3) ?_
  refine upto_cons 15 2 (k0_off16_eq i 2) ?_
  refine upto_cons 15 1 (k0_off16_eq i 1) ?_
  refine upto_cons 15 0 (k0_off16_eq i 0) ?_
  refine upto_cons 14 4 (k0_off15_eq i 4) ?_
  refine upto_cons 14 3 (k0_off15_eq i 3) ?_
  refine upto_cons 14 2 (k0_off15_eq i 2) ?_
  refine upto_cons 14 1 (k0_off15_eq i 1) ?_
  refine upto_cons 14 0 (k0_off15_eq i 0) ?_
  refine upto_cons 13 4 (k0_off14_eq i 4) ?_
  refine upto_cons 13 3 (k0_off14_eq i 3) ?_
  refine upto_cons 13 2 (k0_off14_eq i 2) ?_
  refine upto_cons 13 1 (k0_off14_eq i 1) ?_
  refine upto_cons 13 0 (k0_off14_eq i 0) ?_
  refine upto_cons 12 4 (k0_off13_eq i 4) ?_
  refine upto_cons 12 3 (k0_off13_eq i 3) ?_
  refine upto_cons 12 2 (k0_off13_eq i 2) ?_
  refine upto_cons 12 1 (k0_off13_eq i 1) ?_
  refine upto_cons 12 0 (k0_off13_eq i 0) ?_
  refine upto_cons 11 4 (k0_off12_eq i 4) ?_
  refine upto_cons 11 3 (k0_off12_eq i 3) ?_
  refine upto_cons 11 2 (k0_off12_eq i 2) ?_
  refine upto_cons 11 1 (k0_off12_eq i 1) ?_
  refine upto_cons 11 0 (k0_off12_eq i 0) ?_
  refine upto_cons 10 4 (k0_off11_eq i 4) ?_
  refine upto_cons 10 3 (k0_off11_eq i 3) ?_
  refine upto_cons 10 2 (k0_off11_eq i 2) ?_
  refine upto_cons 10 1 (k0_off11_eq i 1) ?_
  refine upto_cons 10 0 (k0_off11_eq i 0) ?_
  refine upto_cons 9 4 (k0_off10_eq i 4) ?_
  refine upto_cons 9 3 (k0_off10_eq i 3) ?_
  refine upto_cons 9 2 (k0_off10_eq i 2) ?_
  refine upto_cons 9 1 (k0_off10_eq i 1) ?_
  refine upto_cons 9 0 (k0_off10_eq i 0) ?_
  refine upto_cons 8 4 (k0_off9_eq i 4) ?_
  refine upto_cons 8 3 (k0_off9_eq i 3) ?_
  refine upto_cons 8 2 (k0_off9_eq i 2) ?_
  refine upto_cons 8 1 (k0_off9_eq i 1) ?_
  refine upto_cons 8 0 (k0_off9_eq i 0) ?_
  refine upto_cons 7 4 (k0_off8_eq i 4) ?_
  refine upto_cons 7 3 (k0_off8_eq i 3) ?_
  refine upto_cons 7 2 (k0_off8_eq i 2) ?_
  refine upto_cons 7 1 (k0_off8_eq i 1) ?_
  refine upto_cons 7 0 (k0_off8_eq i 0) ?_
  refine upto_cons 6 4 (k0_off7_eq i 4) ?_
  refine upto_cons 6 3 (k0_off7_eq i 3) ?_
  refine upto_cons 6 2 (k0_off7_eq i 2) ?_
  refine upto_cons 6 1 (k0_off7_eq i 1) ?_
  refine upto_cons 6 0 (k0_off7_eq i 0) ?_
  refine upto_cons 5 4 (k0_off6_eq i 4) ?_
  refine upto_cons 5 3 (k0_off6_eq i 3) ?_
  refine upto_cons 5 2 (k0_off6_eq i 2) ?_
  refine upto_cons 5 1 (k0_off6_eq i 1) ?_
  refine upto_cons 5 0 (k0_off6_eq i 0) ?_
  refine upto_cons 4 4 (k0_off5_eq i 4) ?_
  refine upto_cons 4 3 (k0_off5_eq i 3) ?_
  refine upto_cons 4 2 (k0_off5_eq i 2) ?_
  refine upto_cons 4 1 (k0_off5_eq i 1) ?_
  refine upto_cons 4 0 (k0_off5_eq i 0) ?_
  refine upto_cons 3 4 (k0_off4_eq i 4) ?_
  refine upto_cons 3 3 (k0_off4_eq i 3) ?_
  refine upto_cons 3 2 (k0_off4_eq i 2) ?_
  refine upto_cons 3 1 (k0_off4_eq i 1) ?_
  refine upto_cons 3 0 (k0_off4_eq i 0) ?_
  refine upto_cons 2 4 (k0_off3_eq i 4) ?_
  refine upto_cons 2 3 (k0_off3_eq i 3) ?_
  refine upto_cons 2 2 (k0_off3_eq i 2) ?_
  refine upto_cons 2 1 (k0_off3_eq i 1) ?_
  refine upto_cons 2 0 (k0_off3_eq i 0) ?_
  refine upto_cons 1 4 (k0_off2_eq i 4) ?_
  refine upto_cons 1 3 (k0_off2_eq i 3) ?_
  refine upto_cons 1 2 (k0_off2_eq i 2) ?_
  refine upto_cons 1 1 (k0_off2_eq i 1) ?_
  refine upto_cons 1 0 (k0_off2_eq i 0) ?_
  refine upto_cons 0 4 (k0_off1_eq i 4) ?_
  refine upto_cons 0 3 (k0_off1_eq i 3) ?_
  refine upto_cons 0 2 (k0_off1_eq i 2) ?_
  refine upto_cons 0 1 (k0_off1_eq i 1) ?_
  refine upto_cons 0 0 (k0_off1_eq i 0) ?_
  exact upto_nil i x2 x3

end Cert.KernelIdeal.Wd
-- ==== Proof.Logits.lean ====
/- The block of logits a grid point stores: rows times dequantised weights, summed over the 5120 columns of the rows. -/
module

public import proofs.«01_k».proof.Proof.Wd
public import Idealize.ShloMosaic.Lib.WritesUnit

@[expose] public section

set_option maxRecDepth 65536

open Idealize.ShloMosaic Idealize.ShloMosaic.TcCoe

namespace Cert.KernelIdeal.Logits

open Cert.KernelIdeal Cert.KernelIdeal.Gen

/-- The logit of row `r` and the block's column `v`. -/
noncomputable def logit (i : grid0.Coords) (x0 : Vec Ideal S880x5120 .bf16) (x2 : Vec Ideal S5120x640 .fp8e4m3)
    (x3 : Vec Ideal S40x250 .f32) (r : Fin 880) (v : Fin 640) : EReal :=
  ∑ k : Fin 5120, (show EReal from x0 (ix2 r k)) * Wd.weight i x2 x3 (ix2 k v)

theorem idx_whole {d0 d1 : ℕ} (inb) (y : (⟨2, ![d0, d1]⟩ : Shape).Idx) :
    (Rect.unit (s := ⟨2, ![d0, d1]⟩) ![0, 0] ![d0, d1] inb).toLoadRect.idx y = y := by
  funext q
  match q with
  | ⟨0, _⟩ => exact Fin.ext (by show 0 + 1 * (y 0).val = (y 0).val; omega)
  | ⟨1, _⟩ => exact Fin.ext (by show 0 + 1 * (y 1).val = (y 1).val; omega)

/-- The product the body takes, of the rows it loads and the 200 tiles of weights it has stored. -/
theorem pay_at (i : grid0.Coords) {arg2 : Memref sig .tc .vmem S880x5120 .bf16} {harg2 : arg2.IsWhole}
    {arg7 : Memref sig .tc .vmem S5120x640 .bf16} (x0 x2 x3) (L : List (View.Piece (Elt Ideal) S5120x640 .bf16))
    (hL : Wd.Upto i x2 x3 L 200) (inb inb') (r : Fin 880) (v : Fin 640) :
    k0_pay360 (F := Ideal) (arg2.view.readAt (Elt Ideal) (Rect.unit (s := S880x5120) ![0, 0] S880x5120.size inb).toLoadRect (harg2.unread x0))
      (arg7.view.readCov L (Rect.unit (s := S5120x640) ![0, 0] S5120x640.size inb').toLoadRect) (ix2 r v)
      = logit i x0 x2 x3 r v := by
  have hw : (arg7.view.readCov L (Rect.unit (s := S5120x640) ![0, 0] S5120x640.size inb').toLoadRect)
      = Wd.weight i x2 x3 := by
    rw [View.readCov_eq_canon']
    funext y
    rw [idx_whole]
    refine View.canon_apply_of_pieces _ L hL.agree y ?_
    refine hL.cover y ?_
    have h0 : (y 0).val < 5120 := (y 0).isLt
    have h1 : (y 1).val < 640 := (y 1).isLt
    omega
  rw [hw]
  pointwise [k0_pay360]
  unfold logit
  refine Finset.sum_congr rfl fun k _ => ?_
  rw [View.readAt_apply, Memref.IsWhole.read_unread, idx_whole]
  try rfl

/-- What the scratch block of logits holds after its one store. -/
theorem read_at (v8 : View sig .tc .vmem S880x640 .f32) (f : v8.ty.Contents (Elt Ideal)) (inb) (w) (r : Fin 880) (v : Fin 640) :
    v8.read (Elt Ideal) (v8.writes (Elt Ideal) f [(⟨Rect.unit (s := S880x640) ![0, 0] S880x640.size inb, w⟩ : View.Piece (Elt Ideal) S880x640 .f32)]) (ix2 r v)
      = w (ix2 r v) :=
  View.read_writes_cons_rows_of_mem v8 f inb w [] (ix2 r v) (ix2 r v) rfl (Nat.zero_add _).symm rfl

end Cert.KernelIdeal.Logits
-- ==== Proof.Blocks.lean ====
/- The blocks the grid points are given, at an index of the arrays they are cut from. -/
module

public import proofs.«01_k».proof.Proof.Gen.KernelIdeal.Frame
public import Idealize.ShloMosaic.Lib.Pipeline.ValueKit
public import Idealize.ShloMosaic.Lib.Pointwise

@[expose] public section

set_option maxRecDepth 16384

open Idealize.ShloMosaic Idealize.ShloMosaic.TcCoe

namespace Cert.KernelIdeal.Blocks

open Cert.KernelIdeal Cert.KernelIdeal.Gen

variable (m : (ℓ : Loc nD τ sig) → Buf (Elt Ideal) ℓ) (hO : Ok m) (c : Dev nD)

theorem coord : ∀ t : Fin grid0.N, (grid0.coords t 0).val = t.val := by decide +kernel

theorem t0 : ∀ t : Fin grid0.N, cc0_transform_0 (grid0.coords t) = ![0, 0] := by decide +kernel
theorem t1 : ∀ t : Fin grid0.N, cc0_transform_1 (grid0.coords t) = ![0, 0] := by decide +kernel
theorem t2 : ∀ t : Fin grid0.N, cc0_transform_2 (grid0.coords t) = ![0, t.val] := by decide +kernel
theorem t3 : ∀ t : Fin grid0.N, cc0_transform_3 (grid0.coords t) = ![0, 0] := by decide +kernel

theorem scale {x y n a b : ℕ} (h : x = y) (e : y * n + a = b) : x * n + a = b := h ▸ e

/-- The rows. -/
theorem blk0 (t : Fin (cfgM m hO).N) (r : Fin 880) (k : Fin 5120) :
    iblk m hO c 0 t (ix2 r k) = m ((c : Thread nD τ).loc main_arg1) (ix2 r k) := by
  blk_ext! [iblk, V]
  · exact scale (congrFun (t0 t) 0) (by simp)
  · exact scale (congrFun (t0 t) 1) (by simp)

/-- The targets. -/
theorem blk1 (t : Fin (cfgM m hO).N) (r : Fin 880) (l : Fin 128) :
    iblk m hO c 1 t (ix2 r l) = m ((c : Thread nD τ).loc main_arg2) (ix2 r l) := by
  blk_ext! [iblk, V]
  · exact scale (congrFun (t1 t) 0) (by simp)
  · exact scale (congrFun (t1 t) 1) (by simp)

/-- The codes: 640 columns of them. -/
theorem blk2 (t : Fin (cfgM m hO).N) (k : Fin 5120) (v : Fin 640) (h : 640 * t.val + v.val < 32000) :
    iblk m hO c 2 t (ix2 k v) = m ((c : Thread nD τ).loc main_arg3) (ix2 k ⟨640 * t.val + v.val, h⟩) := by
  blk_ext! [iblk, V]
  · exact scale (congrFun (t2 t) 0) (by simp)
  · exact scale (congrFun (t2 t) 1) (by simp; omega)

/-- The scales. -/
theorem blk3 (t : Fin (cfgM m hO).N) (a : Fin 40) (b : Fin 250) :
    iblk m hO c 3 t (ix2 a b) = m ((c : Thread nD τ).loc main_arg4) (ix2 a b) := by
  blk_ext! [iblk, V]
  · exact scale (congrFun (t3 t) 0) (by simp)
  · exact scale (congrFun (t3 t) 1) (by simp)

end Cert.KernelIdeal.Blocks
-- ==== Proof.Lane.lean ====
/- What the three arrays the grid points carry hold after a point: for every row and lane, the running maximum, sum and
   target logit over the columns seen so far. -/
module

public import proofs.«01_k».proof.Proof.Trip
public import proofs.«01_k».proof.Proof.Logits
public import proofs.«01_k».proof.Proof.Blocks

@[expose] public section

set_option maxRecDepth 65536

open Idealize.ShloMosaic Idealize.ShloMosaic.TcCoe

namespace Cert.KernelIdeal.Lane

open Cert.KernelIdeal Cert.KernelIdeal.Gen Cert.KernelIdeal.Trip

/-- A lane's running maximum over the columns of the first `n` blocks, of a row with logits `x`. -/
noncomputable def laneM (x : ℕ → EReal) (l : ℕ) : ℕ → EReal
  | 0 => ⊥
  | n + 1 => newM (laneM x l n) (x (640 * n + l)) (x (640 * n + (128 + l))) (x (640 * n + (256 + l))) (x (640 * n + (384 + l)))
      (x (640 * n + (512 + l)))

/-- A lane's running sum. -/
noncomputable def laneS (x : ℕ → EReal) (l : ℕ) : ℕ → EReal
  | 0 => 0
  | n + 1 => newS (laneM x l n) (laneS x l n) (x (640 * n + l)) (x (640 * n + (128 + l))) (x (640 * n + (256 + l)))
      (x (640 * n + (384 + l))) (x (640 * n + (512 + l)))

/-- A lane's target logit, `y` the row's target. -/
noncomputable def laneT (x : ℕ → EReal) (y : Ideal .f32) (l : ℕ) : ℕ → EReal
  | 0 => 0
  | n + 1 => newT (rel (BitVec.ofNat 32 n) l y) (laneT x y l n) (x (640 * n + l)) (x (640 * n + (128 + l)))
      (x (640 * n + (256 + l))) (x (640 * n + (384 + l))) (x (640 * n + (512 + l)))

/-- Row `r`'s logit at column `v` of the vocabulary. -/
noncomputable def logit (Y : S880x5120.Idx → EReal) (W : S5120x32000.Idx → EReal) (S : S40x250.Idx → EReal) (r : Fin 880)
    (v : ℕ) : EReal :=
  if h : v < 32000 then ∑ k : Fin 5120, Y (ix2 r k) * (W (ix2 k ⟨v, h⟩) * S (ix2 ⟨k.val / 128, by omega⟩ ⟨v / 128, by omega⟩))
  else 0

variable (m : (ℓ : Loc nD τ sig) → Buf (Elt Ideal) ℓ) (hO : Ok m) (hH : Hyps m hO) (c : Dev nD)

/-- Row `r`'s logits, of the arrays in memory. -/
noncomputable def row (r : Fin 880) : ℕ → EReal :=
  logit (m ((c : Thread nD τ).loc main_arg1)) (m ((c : Thread nD τ).loc main_arg3)) (m ((c : Thread nD τ).loc main_arg4)) r

/-- A grid point's block of logits is 640 columns of the logits. -/
theorem logit_blk (t : Fin (cfgM m hO).N) (r : Fin 880) (v : Fin 640) :
    Logits.logit (grid0.coords t) (iblk m hO c 0 t) (iblk m hO c 2 t) (iblk m hO c 3 t) r v = row m c r (640 * t.val + v.val) := by
  have hN : t.val < 50 := lt_of_lt_of_eq t.isLt (show (cfgM m hO).N = 50 from N_0)
  have hv : 640 * t.val + v.val < 32000 := by omega
  unfold row logit Logits.logit
  rw [dif_pos hv]
  refine Finset.sum_congr rfl fun k _ => ?_
  refine Ideal.mul_congr (Blocks.blk0 m hO c t r k) ?_
  unfold Wd.weight
  refine Ideal.mul_congr (Blocks.blk2 m hO c t k v hv) ?_
  refine (Blocks.blk3 m hO c t _ _).trans ?_
  refine congrArg _ ((ix2_inj _ _ _ _).2 ⟨Fin.ext rfl, Fin.ext ?_⟩)
  have := Blocks.coord t
  show 5 * (grid0.coords t 0).val + v.val / 128 = (640 * t.val + v.val) / 128
  rw [this]; omega

/-- The carried arrays after point `n`. -/
def At (n : ℕ) (hn : n < (cfgM m hO).N) : Prop := ∀ (r : Fin 880) (l : Fin 128),
  (outsAt0 m hO hH c n hn).2.1 (ix2 r l) = laneM (row m c r) l.val (n + 1)
  ∧ (outsAt0 m hO hH c n hn).2.2.1 (ix2 r l) = laneS (row m c r) l.val (n + 1)
  ∧ (outsAt0 m hO hH c n hn).2.2.2 (ix2 r l) = laneT (row m c r) (m ((c : Thread nD τ).loc main_arg2) (ix2 r l)) l.val (n + 1)

section step

variable (arg3 : Memref sig .tc .vmem S880x128 .f32) (arg8 : Memref sig .tc .vmem S880x640 .f32)
  (arg9 arg10 arg11 : Memref sig .tc .vmem S880x128 .f32) (X3 : BufTy.Contents (Elt Ideal) arg3.view.ty)
  (X8 : BufTy.Contents (Elt Ideal) arg8.view.ty) (G9 : BufTy.Contents (Elt Ideal) arg9.view.ty)
  (G10 : BufTy.Contents (Elt Ideal) arg10.view.ty) (G11 : BufTy.Contents (Elt Ideal) arg11.view.ty)
  (x : ℕ → EReal) (y : Ideal .f32) (n : ℕ) (r : Fin 880) (l : Fin 128)

theorem lg_of (hX : ∀ v : Fin 640, arg8.view.read (Elt Ideal) X8 (ix2 r v) = x (640 * n + v.val)) (j : Fin 5) :
    lg (arg8.view.read (Elt Ideal) X8) j r l = x (640 * n + (128 * j.val + l.val)) := hX _

theorem lg0_of (hX : ∀ v : Fin 640, arg8.view.read (Elt Ideal) X8 (ix2 r v) = x (640 * n + v.val)) :
    lg (arg8.view.read (Elt Ideal) X8) 0 r l = x (640 * n + l.val) :=
  (hX _).trans (congrArg x (by show 640 * n + (128 * 0 + l.val) = _; omega))

theorem stepM (hX : ∀ v : Fin 640, arg8.view.read (Elt Ideal) X8 (ix2 r v) = x (640 * n + v.val))
    (h9 : arg9.view.read (Elt Ideal) G9 (ix2 r l) = laneM x l.val n) : outM arg8 arg9 X8 G9 r l = laneM x l.val (n + 1) := by
  unfold outM laneM
  rw [h9, lg0_of arg8 X8 x n r l hX, lg_of arg8 X8 x n r l hX, lg_of arg8 X8 x n r l hX, lg_of arg8 X8 x n r l hX,
    lg_of arg8 X8 x n r l hX]
  rfl

theorem stepS (hX : ∀ v : Fin 640, arg8.view.read (Elt Ideal) X8 (ix2 r v) = x (640 * n + v.val))
    (h9 : arg9.view.read (Elt Ideal) G9 (ix2 r l) = laneM x l.val n) (h10 : arg10.view.read (Elt Ideal) G10 (ix2 r l) = laneS x l.val n) :
    outS arg8 arg9 arg10 X8 G9 G10 r l = laneS x l.val (n + 1) := by
  unfold outS laneS
  rw [h9, h10, lg0_of arg8 X8 x n r l hX, lg_of arg8 X8 x n r l hX, lg_of arg8 X8 x n r l hX, lg_of arg8 X8 x n r l hX,
    lg_of arg8 X8 x n r l hX]
  rfl

theorem stepT (hX : ∀ v : Fin 640, arg8.view.read (Elt Ideal) X8 (ix2 r v) = x (640 * n + v.val))
    (h3 : arg3.view.read (Elt Ideal) X3 (ix2 r l) = y) (h11 : arg11.view.read (Elt Ideal) G11 (ix2 r l) = laneT x y l.val n) :
    outT arg3 arg8 arg11 (BitVec.ofNat 32 n) X3 X8 G11 r l = laneT x y l.val (n + 1) := by
  unfold outT laneT
  rw [h3, h11, lg0_of arg8 X8 x n r l hX, lg_of arg8 X8 x n r l hX, lg_of arg8 X8 x n r l hX, lg_of arg8 X8 x n r l hX,
    lg_of arg8 X8 x n r l hX]
  rfl

end step

theorem zM (r : Fin 880) (l : Fin 128) : k0_pay25 (F := Ideal) (ix2 r l) = (⊥ : EReal) := by
  pointwise [k0_pay25]
  simp [Ideal.ofBits, Ideal.ieee]
theorem zS (r : Fin 880) (l : Fin 128) : k0_pay26 (F := Ideal) (ix2 r l) = (0 : EReal) := by
  pointwise [k0_pay26]
theorem zT (r : Fin 880) (l : Fin 128) : k0_pay27 (F := Ideal) (ix2 r l) = (0 : EReal) := by
  pointwise [k0_pay27]

theorem at_A (t : Fin (cfgM m hO).N) (h0 : t.val % 50 = 0) (h1 : ¬ t.val % 50 = 49) :
    At m hO hH c t.val t.isLt := by
  intro r l
  have ht : t.val = 0 := by
    have hN : t.val < 50 := lt_of_lt_of_eq t.isLt (show (cfgM m hO).N = 50 from N_0)
    omega
  rw [outsAt0_A m hO hH c t h0 h1]
  dsimp only
  refine ⟨?_, ?_, ?_⟩
  · unfold sout0_A_2 kernelRun0_A
    dsimp only
    rw [View.writes_append]
    refine ((loop _ _ _ _ _ _ _ _ _ _ _ _ _ _ _ _ _ _ _ _ _ _ _ _ _ _ _ _ _ _ _ _ 55 le_rfl).1 _ r l).trans ?_
    rw [if_pos (by omega)]
    refine stepM _ _ _ _ _ t.val r l (fun v => (Logits.read_at _ _ _ _ r v).trans ((Logits.pay_at _ _ _ _ _ (Wd.upto_A ..) _ _ r v).trans (logit_blk m hO c t r v))) ?_
    rw [ht]; exact (View.read_writes_cons_rows_of_mem _ _ _ _ [] (ix2 r l) (ix2 r l) rfl (Nat.zero_add _).symm rfl).trans (zM r l)
  · unfold sout0_A_3 kernelRun0_A
    dsimp only
    rw [View.writes_append]
    refine ((loop _ _ _ _ _ _ _ _ _ _ _ _ _ _ _ _ _ _ _ _ _ _ _ _ _ _ _ _ _ _ _ _ 55 le_rfl).2.1 _ r l).trans ?_
    rw [if_pos (by omega)]
    refine stepS _ _ _ _ _ _ _ t.val r l (fun v => (Logits.read_at _ _ _ _ r v).trans ((Logits.pay_at _ _ _ _ _ (Wd.upto_A ..) _ _ r v).trans (logit_blk m hO c t r v))) ?_ ?_
    · rw [ht]; exact (View.read_writes_cons_rows_of_mem _ _ _ _ [] (ix2 r l) (ix2 r l) rfl (Nat.zero_add _).symm rfl).trans (zM r l)
    · rw [ht]; exact (View.read_writes_cons_rows_of_mem _ _ _ _ [] (ix2 r l) (ix2 r l) rfl (Nat.zero_add _).symm rfl).trans (zS r l)
  · unfold sout0_A_4 kernelRun0_A
    dsimp only
    rw [View.writes_append]
    refine ((loop _ _ _ _ _ _ _ _ _ _ _ _ _ _ _ _ _ _ _ _ _ _ _ _ _ _ _ _ _ _ _ _ 55 le_rfl).2.2 _ r l).trans ?_
    rw [if_pos (by omega)]
    rw [Blocks.coord t]
    refine stepT _ _ _ _ _ _ _ _ t.val r l (fun v => (Logits.read_at _ _ _ _ r v).trans ((Logits.pay_at _ _ _ _ _ (Wd.upto_A ..) _ _ r v).trans (logit_blk m hO c t r v))) ?_ ?_
    · exact (congrFun (Memref.IsWhole.read_unread _ _) _).trans (Blocks.blk1 m hO c t r l)
    · rw [ht]; exact (View.read_writes_cons_rows_of_mem _ _ _ _ [] (ix2 r l) (ix2 r l) rfl (Nat.zero_add _).symm rfl).trans (zT r l)

theorem at_B (t : Fin (cfgM m hO).N) (h0 : ¬ t.val % 50 = 0) (h1 : ¬ t.val % 50 = 49)
    (ih : ∀ (r : Fin 880) (l : Fin 128), (outsAt0 m hO hH c (t.val - 1) (Nat.lt_of_le_of_lt (Nat.sub_le _ _) t.isLt)).2.1 (ix2 r l) = laneM (row m c r) l.val t.val
      ∧ (outsAt0 m hO hH c (t.val - 1) (Nat.lt_of_le_of_lt (Nat.sub_le _ _) t.isLt)).2.2.1 (ix2 r l) = laneS (row m c r) l.val t.val
      ∧ (outsAt0 m hO hH c (t.val - 1) (Nat.lt_of_le_of_lt (Nat.sub_le _ _) t.isLt)).2.2.2 (ix2 r l) = laneT (row m c r) (m ((c : Thread nD τ).loc main_arg2) (ix2 r l)) l.val t.val) :
    At m hO hH c t.val t.isLt := by
  intro r l
  rw [outsAt0_B m hO hH c t h0 h1]
  dsimp only
  refine ⟨?_, ?_, ?_⟩
  · unfold sout0_B_2 kernelRun0_B
    dsimp only
    refine ((loop _ _ _ _ _ _ _ _ _ _ _ _ _ _ _ _ _ _ _ _ _ _ _ _ _ _ _ _ _ _ _ _ 55 le_rfl).1 _ r l).trans ?_
    rw [if_pos (by omega)]
    refine stepM _ _ _ _ _ t.val r l (fun v => (Logits.read_at _ _ _ _ r v).trans ((Logits.pay_at _ _ _ _ _ (Wd.upto_B ..) _ _ r v).trans (logit_blk m hO c t r v))) ?_
    rw [Memref.IsWhole.read_unread]; exact (ih r l).1
  · unfold sout0_B_3 kernelRun0_B
    dsimp only
    refine ((loop _ _ _ _ _ _ _ _ _ _ _ _ _ _ _ _ _ _ _ _ _ _ _ _ _ _ _ _ _ _ _ _ 55 le_rfl).2.1 _ r l).trans ?_
    rw [if_pos (by omega)]
    refine stepS _ _ _ _ _ _ _ t.val r l (fun v => (Logits.read_at _ _ _ _ r v).trans ((Logits.pay_at _ _ _ _ _ (Wd.upto_B ..) _ _ r v).trans (logit_blk m hO c t r v))) ?_ ?_
    · rw [Memref.IsWhole.read_unread]; exact (ih r l).1
    · rw [Memref.IsWhole.read_unread]; exact (ih r l).2.1
  · unfold sout0_B_4 kernelRun0_B
    dsimp only
    refine ((loop _ _ _ _ _ _ _ _ _ _ _ _ _ _ _ _ _ _ _ _ _ _ _ _ _ _ _ _ _ _ _ _ 55 le_rfl).2.2 _ r l).trans ?_
    rw [if_pos (by omega)]
    rw [Blocks.coord t]
    refine stepT _ _ _ _ _ _ _ _ t.val r l (fun v => (Logits.read_at _ _ _ _ r v).trans ((Logits.pay_at _ _ _ _ _ (Wd.upto_B ..) _ _ r v).trans (logit_blk m hO c t r v))) ?_ ?_
    · exact (congrFun (Memref.IsWhole.read_unread _ _) _).trans (Blocks.blk1 m hO c t r l)
    · rw [Memref.IsWhole.read_unread]; exact (ih r l).2.2

theorem at_C (t : Fin (cfgM m hO).N) (h0 : ¬ t.val % 50 = 0) (h1 : t.val % 50 = 49)
    (ih : ∀ (r : Fin 880) (l : Fin 128), (outsAt0 m hO hH c (t.val - 1) (Nat.lt_of_le_of_lt (Nat.sub_le _ _) t.isLt)).2.1 (ix2 r l) = laneM (row m c r) l.val t.val
      ∧ (outsAt0 m hO hH c (t.val - 1) (Nat.lt_of_le_of_lt (Nat.sub_le _ _) t.isLt)).2.2.1 (ix2 r l) = laneS (row m c r) l.val t.val
      ∧ (outsAt0 m hO hH c (t.val - 1) (Nat.lt_of_le_of_lt (Nat.sub_le _ _) t.isLt)).2.2.2 (ix2 r l) = laneT (row m c r) (m ((c : Thread nD τ).loc main_arg2) (ix2 r l)) l.val t.val) :
    At m hO hH c t.val t.isLt := by
  intro r l
  rw [outsAt0_C m hO hH c t h0 h1]
  dsimp only
  refine ⟨?_, ?_, ?_⟩
  · unfold sout0_C_2 kernelRun0_C
    dsimp only
    refine ((loop _ _ _ _ _ _ _ _ _ _ _ _ _ _ _ _ _ _ _ _ _ _ _ _ _ _ _ _ _ _ _ _ 55 le_rfl).1 _ r l).trans ?_
    rw [if_pos (by omega)]
    refine stepM _ _ _ _ _ t.val r l (fun v => (Logits.read_at _ _ _ _ r v).trans ((Logits.pay_at _ _ _ _ _ (Wd.upto_C ..) _ _ r v).trans (logit_blk m hO c t r v))) ?_
    rw [Memref.IsWhole.read_unread]; exact (ih r l).1
  · unfold sout0_C_3 kernelRun0_C
    dsimp only
    refine ((loop _ _ _ _ _ _ _ _ _ _ _ _ _ _ _ _ _ _ _ _ _ _ _ _ _ _ _ _ _ _ _ _ 55 le_rfl).2.1 _ r l).trans ?_
    rw [if_pos (by omega)]
    refine stepS _ _ _ _ _ _ _ t.val r l (fun v => (Logits.read_at _ _ _ _ r v).trans ((Logits.pay_at _ _ _ _ _ (Wd.upto_C ..) _ _ r v).trans (logit_blk m hO c t r v))) ?_ ?_
    · rw [Memref.IsWhole.read_unread]; exact (ih r l).1
    · rw [Memref.IsWhole.read_unread]; exact (ih r l).2.1
  · unfold sout0_C_4 kernelRun0_C
    dsimp only
    refine ((loop _ _ _ _ _ _ _ _ _ _ _ _ _ _ _ _ _ _ _ _ _ _ _ _ _ _ _ _ _ _ _ _ 55 le_rfl).2.2 _ r l).trans ?_
    rw [if_pos (by omega)]
    rw [Blocks.coord t]
    refine stepT _ _ _ _ _ _ _ _ t.val r l (fun v => (Logits.read_at _ _ _ _ r v).trans ((Logits.pay_at _ _ _ _ _ (Wd.upto_C ..) _ _ r v).trans (logit_blk m hO c t r v))) ?_ ?_
    · exact (congrFun (Memref.IsWhole.read_unread _ _) _).trans (Blocks.blk1 m hO c t r l)
    · rw [Memref.IsWhole.read_unread]; exact (ih r l).2.2

/-- The carried arrays after every point. -/
theorem at_all : ∀ (n : ℕ) (hn : n < (cfgM m hO).N), At m hO hH c n hn := by
  intro n
  induction n with
  | zero => exact fun hn => at_A m hO hH c ⟨0, hn⟩ rfl (by simp)
  | succ n ih =>
    intro hn
    have hN : n + 1 < 50 := lt_of_lt_of_eq hn (show (cfgM m hO).N = 50 from N_0)
    have ih' := ih (Nat.lt_of_succ_lt hn)
    by_cases h : n + 1 = 49
    · exact at_C m hO hH c ⟨n + 1, hn⟩ (by simp; omega) (by simp; omega) ih'
    · exact at_B m hO hH c ⟨n + 1, hn⟩ (by simp; omega) (by simp; omega) ih'

end Cert.KernelIdeal.Lane
-- ==== Proof.Softmax.lean ====
/- Running maximum, sum and target logit of the lanes against those of the whole row, over the extended reals and with
   no finiteness needed: a sum of exponentials relative to a maximum, rescaled to a larger maximum, is the sum relative to
   that one. -/
module

public import proofs.«01_k».proof.Proof.Lane

@[expose] public section

set_option maxRecDepth 16384

open Idealize.ShloMosaic

namespace Cert.KernelIdeal.Softmax

open Cert.KernelIdeal.Trip Cert.KernelIdeal.Lane

theorem exp_bot : Ideal.exp ⊥ = 0 := rfl

theorem exp_nonneg (x : EReal) : 0 ≤ Ideal.exp x := by
  induction x with
  | bot => exact le_rfl
  | top => exact le_top
  | coe x => exact EReal.coe_nonneg.2 (Real.exp_pos x).le

/-- Rescaling an exponential relative to `m` to one relative to a larger `m'`. -/
theorem exp_mul {x m m' : EReal} (h : x ≤ m) (h' : m ≤ m') :
    Ideal.exp (x - m) * Ideal.exp (m - m') = Ideal.exp (x - m') := by
  induction x with
  | bot => simp [exp_bot, EReal.bot_sub]
  | top =>
    obtain rfl := top_le_iff.1 h
    obtain rfl := top_le_iff.1 h'
    simp [exp_bot]
  | coe x =>
    induction m with
    | bot => simp at h
    | top =>
      obtain rfl := top_le_iff.1 h'
      simp [exp_bot]
    | coe m =>
      induction m' with
      | bot => simp at h'
      | top => simp [exp_bot]
      | coe m' =>
        rw [← EReal.coe_sub, ← EReal.coe_sub, ← EReal.coe_sub]
        show ((Real.exp (x - m) : ℝ) : EReal) * ((Real.exp (m - m') : ℝ) : EReal) = ((Real.exp (x - m') : ℝ) : EReal)
        rw [← EReal.coe_mul, ← Real.exp_add]
        congr 2; ring

theorem sum_nonneg {s : Finset ℕ} {f : ℕ → EReal} (h : ∀ v, 0 ≤ f v) : 0 ≤ ∑ v ∈ s, f v := Finset.sum_nonneg fun v _ => h v

theorem sum_mul (s : Finset ℕ) (f : ℕ → EReal) (h : ∀ v, 0 ≤ f v) (a : EReal) : (∑ v ∈ s, f v) * a = ∑ v ∈ s, f v * a := by
  classical
  induction s using Finset.induction_on with
  | empty => simp
  | insert v s hv ih =>
    rw [Finset.sum_insert hv, Finset.sum_insert hv, EReal.right_distrib_of_nonneg (h v) (sum_nonneg h), ih]

/-- A sum of exponentials relative to `m`, rescaled to `m'`. -/
theorem sum_rescale (s : Finset ℕ) (x : ℕ → EReal) {m m' : EReal} (h : ∀ v ∈ s, x v ≤ m) (h' : m ≤ m') :
    (∑ v ∈ s, Ideal.exp (x v - m)) * Ideal.exp (m - m') = ∑ v ∈ s, Ideal.exp (x v - m') := by
  rw [sum_mul _ _ fun v => exp_nonneg _]
  exact Finset.sum_congr rfl fun v hv => exp_mul (h v hv) h'

/-- The columns of lane `l` among those of the first `n` blocks. -/
def cols (l n : ℕ) : Finset ℕ := (Finset.range (640 * n)).filter fun v => v % 128 = l

theorem cols_succ {l : ℕ} (hl : l < 128) (n : ℕ) : cols l (n + 1) = insert (640 * n + (512 + l)) (insert (640 * n + (384 + l))
    (insert (640 * n + (256 + l)) (insert (640 * n + (128 + l)) (insert (640 * n + l) (cols l n))))) := by
  ext v
  simp only [cols, Finset.mem_filter, Finset.mem_range, Finset.mem_insert]
  omega

theorem sum_succ {l : ℕ} (hl : l < 128) (n : ℕ) (f : ℕ → EReal) : ∑ v ∈ cols l (n + 1), f v
    = ∑ v ∈ cols l n, f v + f (640 * n + l) + f (640 * n + (128 + l)) + f (640 * n + (256 + l)) + f (640 * n + (384 + l))
      + f (640 * n + (512 + l)) := by
  have hm : ∀ j, j < 640 → 640 * n + j ∉ cols l n := fun j _ h => by
    simp only [cols, Finset.mem_filter, Finset.mem_range] at h; omega
  rw [cols_succ hl, Finset.sum_insert, Finset.sum_insert, Finset.sum_insert, Finset.sum_insert, Finset.sum_insert]
  · abel
  all_goals
    simp only [cols, Finset.mem_insert, Finset.mem_filter, Finset.mem_range]
    omega

theorem laneM_eq (x : ℕ → EReal) {l : ℕ} (hl : l < 128) (n : ℕ) : laneM x l n = (cols l n).sup x := by
  induction n with
  | zero => simp [laneM, cols]
  | succ n ih =>
    rw [cols_succ hl, Finset.sup_insert, Finset.sup_insert, Finset.sup_insert, Finset.sup_insert, Finset.sup_insert, ← ih]
    show newM (laneM x l n) _ _ _ _ _ = _
    unfold newM
    simp only [max_comm, max_left_comm]

theorem laneM_mono (x : ℕ → EReal) (l n : ℕ) : laneM x l n ≤ laneM x l (n + 1) := by
  show _ ≤ newM _ _ _ _ _ _
  unfold newM
  exact (le_max_left ..).trans ((le_max_left ..).trans ((le_max_left ..).trans ((le_max_left ..).trans (le_max_left ..))))

theorem laneS_eq (x : ℕ → EReal) {l : ℕ} (hl : l < 128) (n : ℕ) :
    laneS x l n = ∑ v ∈ cols l n, Ideal.exp (x v - laneM x l n) := by
  induction n with
  | zero => simp [laneS, cols]
  | succ n ih =>
    rw [sum_succ hl]
    have e := sum_rescale (cols l n) x (m := laneM x l n) (fun v hv => laneM_eq x hl n ▸ Finset.le_sup hv) (laneM_mono x l n)
    rw [← e, ← ih]
    rfl

theorem rel_eq (n l j : ℕ) (y : Ideal .f32) :
    (rel (BitVec.ofNat 32 n) l y = BitVec.ofNat 32 j) ↔ BitVec.ofNat 32 (640 * n + (j + l)) = FloatOps.fptosi 32 y := by
  unfold rel
  generalize FloatOps.fptosi 32 y = w
  have e : BitVec.ofNat 32 (640 * n + (j + l)) = BitVec.ofNat 32 j + (BitVec.ofNat 32 l + BitVec.ofNat 32 n * 640#32) := by
    apply BitVec.eq_of_toNat_eq
    simp only [BitVec.toNat_add, BitVec.toNat_mul, BitVec.toNat_ofNat]
    omega
  rw [e]
  show w - (BitVec.ofNat 32 l + BitVec.ofNat 32 n * 640#32) = _ ↔ _
  exact BitVec.sub_eq_iff_eq_add.trans eq_comm

theorem laneT_eq (x : ℕ → EReal) (y : Ideal .f32) {l : ℕ} (hl : l < 128) (n : ℕ) :
    laneT x y l n = ∑ v ∈ cols l n, if BitVec.ofNat 32 v = FloatOps.fptosi 32 y then x v else 0 := by
  induction n with
  | zero => simp [laneT, cols]
  | succ n ih =>
    rw [sum_succ hl, ← ih]
    show newT (rel (BitVec.ofNat 32 n) l y) (laneT x y l n) _ _ _ _ _ = _
    unfold newT
    have e := fun j => rel_eq n l j y
    have e0 : (rel (BitVec.ofNat 32 n) l y = 0#32) ↔ BitVec.ofNat 32 (640 * n + l) = FloatOps.fptosi 32 y := by
      have := e 0; rwa [Nat.zero_add] at this
    simp only [e0, e 128, e 256, e 384, e 512]

/-- A row's largest logit. -/
noncomputable def top (x : ℕ → EReal) : EReal := (Finset.range 32000).sup x

/-- A row's sum of exponentials relative to the largest logit. -/
noncomputable def expSum (x : ℕ → EReal) : EReal := ∑ v ∈ Finset.range 32000, Ideal.exp (x v - top x)

/-- A row's logit at the target word `w`. -/
noncomputable def target (x : ℕ → EReal) (w : BitVec 32) : EReal :=
  ∑ v ∈ Finset.range 32000, if BitVec.ofNat 32 v = w then x v else 0

/-- The lanes' columns are all the columns. -/
theorem sum_lanes (f : ℕ → EReal) : ∑ l : Fin 128, ∑ v ∈ cols l.val 50, f v = ∑ v ∈ Finset.range 32000, f v := by
  rw [Fin.sum_univ_eq_sum_range (fun l => ∑ v ∈ cols l 50, f v) 128]
  exact Finset.sum_fiberwise_of_maps_to (s := Finset.range 32000) (t := Finset.range 128) (g := fun v => v % 128)
    (fun v _ => Finset.mem_range.2 (Nat.mod_lt _ (by norm_num))) f

theorem top_lanes (x : ℕ → EReal) : (Finset.univ : Finset (Fin 128)).fold max ⊥ (fun l => laneM x l.val 50) = top x := by
  have h : (Finset.univ : Finset (Fin 128)).fold max ⊥ (fun l => laneM x l.val 50) = Finset.univ.sup fun l : Fin 128 => laneM x l.val 50 := rfl
  rw [h]
  apply le_antisymm
  · refine Finset.sup_le fun l _ => ?_
    rw [laneM_eq x l.isLt]
    exact Finset.sup_mono (Finset.filter_subset _ _)
  · refine Finset.sup_le fun v hv => ?_
    have hl : v % 128 < 128 := Nat.mod_lt _ (by norm_num)
    refine le_trans ?_ (Finset.le_sup (Finset.mem_univ (⟨v % 128, hl⟩ : Fin 128)))
    show x v ≤ laneM x (v % 128) 50
    rw [laneM_eq x hl]
    exact Finset.le_sup (f := x) (Finset.mem_filter.2 ⟨hv, rfl⟩)

theorem expSum_lanes (x : ℕ → EReal) :
    ∑ l : Fin 128, laneS x l.val 50 * Ideal.exp (laneM x l.val 50 - top x) = expSum x := by
  unfold expSum
  rw [← sum_lanes]
  refine Finset.sum_congr rfl fun l _ => ?_
  rw [laneS_eq x l.isLt]
  refine sum_rescale _ x (fun v hv => laneM_eq x l.isLt 50 ▸ Finset.le_sup hv) ?_
  rw [laneM_eq x l.isLt]
  exact Finset.sup_mono (Finset.filter_subset _ _)

theorem target_lanes (x : ℕ → EReal) (y : Ideal .f32) :
    ∑ l : Fin 128, laneT x y l.val 50 = target x (FloatOps.fptosi 32 y) := by
  unfold target
  rw [← sum_lanes]
  exact Finset.sum_congr rfl fun l _ => laneT_eq x y l.isLt 50

end Cert.KernelIdeal.Softmax
-- ==== Proof.Lens.lean ====
/- What the precondition `packed` says of the argument arrays: every length is between 0 and 256, the lengths of the six
   sequences sum to at most 880, and every lane of a target row holds what lane 0 holds. -/
module

public import proofs.«01_k».proof.Pre_packed
public import proofs.«01_k».proof.Proof.Gen.Pre_packed
public import Idealize.ShloMosaic.Lib.ReduceAll
public import Idealize.ShloMosaic.Lib.Pointwise

@[expose] public section

set_option maxRecDepth 16384

namespace Cert.Lens

open Idealize.ShloMosaic
open Cert.Pre_packed Cert.Pre_packed.Gen

/-- The lengths fit: each is at most 256, and together they are at most 880 (as natural numbers, no word wraps). -/
structure Fits (L : IVec S6 32) : Prop where
  le : ∀ b : Fin 6, (L (ix1 b)).toNat ≤ 256
  sum : (L (ix1 0)).toNat + (L (ix1 1)).toNat + (L (ix1 2)).toNat + (L (ix1 3)).toNat + (L (ix1 4)).toNat
    + (L (ix1 5)).toNat ≤ 880

/-- So does every run of them from the first. -/
theorem prefixes {a b c d e f : ℕ} (h : a + b + c + d + e + f ≤ 880) :
    a ≤ 880 ∧ a + b ≤ 880 ∧ a + b + c ≤ 880 ∧ a + b + c + d ≤ 880 ∧ a + b + c + d + e ≤ 880 := by omega

variable {F : FTy → Type} [FloatOps F]

/-- The precondition bounds the lengths. -/
theorem fits_of_pre (L : IVec S6 32) (y : FVec F S880x5120 .bf16) (t : FVec F S880x128 .f32)
    (c : FVec F S5120x32000 .fp8e4m3) (s : FVec F S40x250 .f32)
    (h : Cert.Pre_packed.fn L y t c s = fun _ => 1#1) : Fits L := by
  have e := congrFun h (ix2 0 0)
  dsimp only [fn] at e
  obtain ⟨-, e⟩ := IntOp.andi_eq_one.1 e
  obtain ⟨e1, e2⟩ := IntOp.andi_eq_one.1 e
  have hle : ∀ b : Fin 6, (L (ix1 b)).toNat ≤ 256 := by
    intro b
    have : Subsingleton S_.Idx := ⟨fun a b => funext fun i => i.elim0⟩
    have q := Host.reduce_andi_all _ _ _ _ _ e1 (ix1 b)
    obtain ⟨q1, q2⟩ := IntOp.andi_eq_one.1 q
    have q1 := IntOp.cmpi_sge.1 q1
    have q2 := IntOp.cmpi_sle.1 q2
    simp only [broadcastInDim, constantI] at q1 q2
    simp only [BitVec.toInt, BitVec.toNat_ofNat] at q1 q2
    omega
  refine ⟨hle, ?_⟩
  have q := IntOp.cmpi_sle.1 e2
  pointwise at q
  have f6 : ∀ (g : Fin 6 → BitVec 32), (Finset.univ : Finset (Fin 6)).fold IntOp.addi 0#32 g = g 0 + (g 1 + (g 2 + (g 3 + (g 4 + (g 5 + 0#32))))) := by
    intro g; rfl
  rw [f6] at q
  have h0 := hle 0; have h1 := hle 1; have h2 := hle 2; have h3 := hle 3; have h4 := hle 4; have h5 := hle 5
  simp only [BitVec.toInt, BitVec.toNat_add, BitVec.toNat_ofNat] at q
  omega

/-- The precondition makes the lanes of a target row equal (over the ideal values). -/
theorem lanes_of_pre (L : IVec S6 32) (y : FVec Ideal S880x5120 .bf16) (t : FVec Ideal S880x128 .f32)
    (c : FVec Ideal S5120x32000 .fp8e4m3) (s : FVec Ideal S40x250 .f32)
    (h : Cert.Pre_packed.fn L y t c s = fun _ => 1#1) (r : Fin 880) (l : Fin 128) : t (ix2 r l) = t (ix2 r 0) := by
  have e := congrFun h (ix2 r l)
  dsimp only [fn] at e
  obtain ⟨e, -⟩ := IntOp.andi_eq_one.1 e
  pointwise at e
  by_contra hne
  rw [decide_eq_false hne] at e
  exact absurd e (by decide)

end Cert.Lens
-- ==== Proof.Hyps.lean ====
/- The precondition gives the side conditions the kernel's body assumes: every row offset it computes from the lengths
   lies inside the buffer of the rows' losses. Stated for the kernel's own program and for its reading at ideal values. -/
module

public import proofs.«01_k».proof.Defs
public import proofs.«01_k».proof.Proof.Lens
public import proofs.«01_k».proof.Proof.Gen.Kernel.Frame
public import proofs.«01_k».proof.Proof.Gen.KernelIdeal.Frame

@[expose] public section

set_option maxRecDepth 16384

open Idealize.ShloMosaic Idealize.ShloMosaic.TcCoe

namespace Cert.KernelIdeal.Hyp

open Cert.KernelIdeal Cert.KernelIdeal.Gen

variable {F : FTy → Type} [FloatOps F]

/-- The word the body reads from the lengths' table at `b`. -/
theorem tb_word (m : (ℓ : Loc nD τ sig) → Buf (Elt F) ℓ) (b : ℕ) (hb : b < 6) (h) (h1) :
    tbM0_0.view.readAt (Elt F) (Rect.unit (s := S6) ![b] S1.size h).toLoadRect (tbl m 0) (Shape.Idx.first h1)
      = m (((0 : Dev nD) : Thread nD τ).loc main_arg0) (ix1 ⟨b, hb⟩) := by
  refine (View.readAt_apply _ _ _).trans ?_
  have e : tbM0_0.view.read (Elt F) (tbl m 0) = m (((0 : Dev nD) : Thread nD τ).loc main_arg0) := rfl
  rw [e]
  congr 1
  funext a
  match a with
  | ⟨0, _⟩ => exact Fin.ext (by simp [Rect.toLoadRect, Shape.Idx.first, ix1])

/-- No window's index map reads the table, so the pipeline's side condition is empty. -/
theorem ok (m : (ℓ : Loc nD τ sig) → Buf (Elt F) ℓ) : Ok m := trivial

theorem chk1_of (i : grid0.Coords) (v0 : BitVec 32) (h : v0.toNat ≤ 880) : k0_chk1 i v0 := by
  intro _ r a
  have hr : r.val < 2 := r.isLt
  match a with
  | ⟨0, _⟩ =>
    show (k0_off50 v0 _) 0 + 128 ≤ 1136
    simp only [k0_off50, Scalar.addi, Scalar.indexCast, Matrix.cons_val_zero]
    simp only [IntOp.addi, BitVec.toNat_add, BitVec.toNat_ofNat]
    omega
  | ⟨1, _⟩ => show 0 + 128 ≤ 128; omega

theorem chk2_of (i : grid0.Coords) (v0 v1 : BitVec 32) (h : v0.toNat + v1.toNat ≤ 880) : k0_chk2 i v0 v1 := by
  intro _ r a
  have hr : r.val < 2 := r.isLt
  match a with
  | ⟨0, _⟩ =>
    show (k0_off51 v0 v1 _) 0 + 128 ≤ 1136
    simp only [k0_off51, Scalar.addi, Scalar.indexCast, Matrix.cons_val_zero]
    simp only [IntOp.addi, BitVec.toNat_add, BitVec.toNat_ofNat]
    omega
  | ⟨1, _⟩ => show 0 + 128 ≤ 128; omega

theorem chk3_of (i : grid0.Coords) (v0 v1 v2 : BitVec 32) (h : v0.toNat + v1.toNat + v2.toNat ≤ 880) : k0_chk3 i v0 v1 v2 := by
  intro _ r a
  have hr : r.val < 2 := r.isLt
  match a with
  | ⟨0, _⟩ =>
    show (k0_off52 v0 v1 v2 _) 0 + 128 ≤ 1136
    simp only [k0_off52, Scalar.addi, Scalar.indexCast, Matrix.cons_val_zero]
    simp only [IntOp.addi, BitVec.toNat_add, BitVec.toNat_ofNat]
    omega
  | ⟨1, _⟩ => show 0 + 128 ≤ 128; omega

theorem chk4_of (i : grid0.Coords) (v0 v1 v2 v3 : BitVec 32) (h : v0.toNat + v1.toNat + v2.toNat + v3.toNat ≤ 880) : k0_chk4 i v0 v1 v2 v3 := by
  intro _ r a
  have hr : r.val < 2 := r.isLt
  match a with
  | ⟨0, _⟩ =>
    show (k0_off53 v0 v1 v2 v3 _) 0 + 128 ≤ 1136
    simp only [k0_off53, Scalar.addi, Scalar.indexCast, Matrix.cons_val_zero]
    simp only [IntOp.addi, BitVec.toNat_add, BitVec.toNat_ofNat]
    omega
  | ⟨1, _⟩ => show 0 + 128 ≤ 128; omega

theorem chk5_of (i : grid0.Coords) (v0 v1 v2 v3 v4 : BitVec 32) (h : v0.toNat + v1.toNat + v2.toNat + v3.toNat + v4.toNat ≤ 880) : k0_chk5 i v0 v1 v2 v3 v4 := by
  intro _ r a
  have hr : r.val < 2 := r.isLt
  match a with
  | ⟨0, _⟩ =>
    show (k0_off54 v0 v1 v2 v3 v4 _) 0 + 128 ≤ 1136
    simp only [k0_off54, Scalar.addi, Scalar.indexCast, Matrix.cons_val_zero]
    simp only [IntOp.addi, BitVec.toNat_add, BitVec.toNat_ofNat]
    omega
  | ⟨1, _⟩ => show 0 + 128 ≤ 128; omega

/-- The precondition implies the body's side conditions. -/
theorem hyps_of_fits (m : (ℓ : Loc nD τ sig) → Buf (Elt F) ℓ)
    (h : Cert.Lens.Fits (m (((0 : Dev nD) : Thread nD τ).loc main_arg0))) : Hyps m (ok m) := by
  have p := Cert.Lens.prefixes h.sum
  refine Hyps.of ?_ ?_ ?_ ?_ ?_
  · intro c t _; rw [tb_word m 0 (by omega)]; exact chk1_of _ _ p.1
  · intro c t _; rw [tb_word m 0 (by omega), tb_word m 1 (by omega)]; exact chk2_of _ _ _ p.2.1
  · intro c t _; rw [tb_word m 0 (by omega), tb_word m 1 (by omega), tb_word m 2 (by omega)]; exact chk3_of _ _ _ _ p.2.2.1
  · intro c t _; rw [tb_word m 0 (by omega), tb_word m 1 (by omega), tb_word m 2 (by omega), tb_word m 3 (by omega)]; exact chk4_of _ _ _ _ _ p.2.2.2.1
  · intro c t _; rw [tb_word m 0 (by omega), tb_word m 1 (by omega), tb_word m 2 (by omega), tb_word m 3 (by omega), tb_word m 4 (by omega)]; exact chk5_of _ _ _ _ _ _ p.2.2.2.2

end Cert.KernelIdeal.Hyp

namespace Cert.Kernel.Hyp

open Cert.Kernel Cert.Kernel.Gen

variable {F : FTy → Type} [FloatOps F]

/-- The word the body reads from the lengths' table at `b`. -/
theorem tb_word (m : (ℓ : Loc nD τ sig) → Buf (Elt F) ℓ) (b : ℕ) (hb : b < 6) (h) (h1) :
    tbM0_0.view.readAt (Elt F) (Rect.unit (s := S6) ![b] S1.size h).toLoadRect (tbl m 0) (Shape.Idx.first h1)
      = m (((0 : Dev nD) : Thread nD τ).loc main_arg0) (ix1 ⟨b, hb⟩) := by
  refine (View.readAt_apply _ _ _).trans ?_
  have e : tbM0_0.view.read (Elt F) (tbl m 0) = m (((0 : Dev nD) : Thread nD τ).loc main_arg0) := rfl
  rw [e]
  congr 1
  funext a
  match a with
  | ⟨0, _⟩ => exact Fin.ext (by simp [Rect.toLoadRect, Shape.Idx.first, ix1])

/-- No window's index map reads the table, so the pipeline's side condition is empty. -/
theorem ok (m : (ℓ : Loc nD τ sig) → Buf (Elt F) ℓ) : Ok m := trivial

theorem chk1_of (i : grid0.Coords) (v0 : BitVec 32) (h : v0.toNat ≤ 880) : k0_chk1 i v0 := by
  intro _ r a
  have hr : r.val < 2 := r.isLt
  match a with
  | ⟨0, _⟩ =>
    show (k0_off50 v0 _) 0 + 128 ≤ 1136
    simp only [k0_off50, Scalar.addi, Scalar.indexCast, Matrix.cons_val_zero]
    simp only [IntOp.addi, BitVec.toNat_add, BitVec.toNat_ofNat]
    omega
  | ⟨1, _⟩ => show 0 + 128 ≤ 128; omega

theorem chk2_of (i : grid0.Coords) (v0 v1 : BitVec 32) (h : v0.toNat + v1.toNat ≤ 880) : k0_chk2 i v0 v1 := by
  intro _ r a
  have hr : r.val < 2 := r.isLt
  match a with
  | ⟨0, _⟩ =>
    show (k0_off51 v0 v1 _) 0 + 128 ≤ 1136
    simp only [k0_off51, Scalar.addi, Scalar.indexCast, Matrix.cons_val_zero]
    simp only [IntOp.addi, BitVec.toNat_add, BitVec.toNat_ofNat]
    omega
  | ⟨1, _⟩ => show 0 + 128 ≤ 128; omega

theorem chk3_of (i : grid0.Coords) (v0 v1 v2 : BitVec 32) (h : v0.toNat + v1.toNat + v2.toNat ≤ 880) : k0_chk3 i v0 v1 v2 := by
  intro _ r a
  have hr : r.val < 2 := r.isLt
  match a with
  | ⟨0, _⟩ =>
    show (k0_off52 v0 v1 v2 _) 0 + 128 ≤ 1136
    simp only [k0_off52, Scalar.addi, Scalar.indexCast, Matrix.cons_val_zero]
    simp only [IntOp.addi, BitVec.toNat_add, BitVec.toNat_ofNat]
    omega
  | ⟨1, _⟩ => show 0 + 128 ≤ 128; omega

theorem chk4_of (i : grid0.Coords) (v0 v1 v2 v3 : BitVec 32) (h : v0.toNat + v1.toNat + v2.toNat + v3.toNat ≤ 880) : k0_chk4 i v0 v1 v2 v3 := by
  intro _ r a
  have hr : r.val < 2 := r.isLt
  match a with
  | ⟨0, _⟩ =>
    show (k0_off53 v0 v1 v2 v3 _) 0 + 128 ≤ 1136
    simp only [k0_off53, Scalar.addi, Scalar.indexCast, Matrix.cons_val_zero]
    simp only [IntOp.addi, BitVec.toNat_add, BitVec.toNat_ofNat]
    omega
  | ⟨1, _⟩ => show 0 + 128 ≤ 128; omega

theorem chk5_of (i : grid0.Coords) (v0 v1 v2 v3 v4 : BitVec 32) (h : v0.toNat + v1.toNat + v2.toNat + v3.toNat + v4.toNat ≤ 880) : k0_chk5 i v0 v1 v2 v3 v4 := by
  intro _ r a
  have hr : r.val < 2 := r.isLt
  match a with
  | ⟨0, _⟩ =>
    show (k0_off54 v0 v1 v2 v3 v4 _) 0 + 128 ≤ 1136
    simp only [k0_off54, Scalar.addi, Scalar.indexCast, Matrix.cons_val_zero]
    simp only [IntOp.addi, BitVec.toNat_add, BitVec.toNat_ofNat]
    omega
  | ⟨1, _⟩ => show 0 + 128 ≤ 128; omega

/-- The precondition implies the body's side conditions. -/
theorem hyps_of_fits (m : (ℓ : Loc nD τ sig) → Buf (Elt F) ℓ)
    (h : Cert.Lens.Fits (m (((0 : Dev nD) : Thread nD τ).loc main_arg0))) : Hyps m (ok m) := by
  have p := Cert.Lens.prefixes h.sum
  refine Hyps.of ?_ ?_ ?_ ?_ ?_
  · intro c t _; rw [tb_word m 0 (by omega)]; exact chk1_of _ _ p.1
  · intro c t _; rw [tb_word m 0 (by omega), tb_word m 1 (by omega)]; exact chk2_of _ _ _ p.2.1
  · intro c t _; rw [tb_word m 0 (by omega), tb_word m 1 (by omega), tb_word m 2 (by omega)]; exact chk3_of _ _ _ _ p.2.2.1
  · intro c t _; rw [tb_word m 0 (by omega), tb_word m 1 (by omega), tb_word m 2 (by omega), tb_word m 3 (by omega)]; exact chk4_of _ _ _ _ _ p.2.2.2.1
  · intro c t _; rw [tb_word m 0 (by omega), tb_word m 1 (by omega), tb_word m 2 (by omega), tb_word m 3 (by omega), tb_word m 4 (by omega)]; exact chk5_of _ _ _ _ _ _ p.2.2.2.2

end Cert.Kernel.Hyp
-- ==== Proof.Final.lean ====
/- The last grid point's output: for each sequence the losses of its own rows, taken from the loss buffer at the
   sequence's first row, and zero after its last token. -/
module

public import proofs.«01_k».proof.Proof.Loss
public import proofs.«01_k».proof.Proof.Softmax
public import proofs.«01_k».proof.Proof.Hyps

@[expose] public section

set_option maxRecDepth 65536

open Idealize.ShloMosaic Idealize.ShloMosaic.TcCoe

namespace Cert.KernelIdeal.Final

open Cert.KernelIdeal Cert.KernelIdeal.Gen

/-- The first packed row of sequence `b`. -/
def start (L : Fin 6 → ℕ) (b : Fin 6) : ℕ := ∑ k : Fin 6, if k < b then L k else 0

/-- The result: position `s` of sequence `b` gets the loss of packed row `start b + s` if the sequence has that token,
    else zero. -/
noncomputable def result (L : Fin 6 → ℕ) (loss : ℕ → EReal) : S6x256.Idx → EReal := fun y =>
  if (y 1).val < L (y 0) then loss (start L (y 0) + (y 1).val) else 0

theorem off50 (w0 : BitVec 32) (h : w0.toNat ≤ 880) :
    k0_off50 w0 0#32 = ![w0.toNat, 0] ∧ k0_off50 w0 128#32 = ![w0.toNat + 128, 0] := by
  constructor <;>
  · unfold k0_off50
    dsimp only
    refine congrArg (fun q => ![q, 0]) ?_
    simp only [Scalar.addi, Scalar.indexCast, IntOp.addi, BitVec.toNat_add, BitVec.toNat_ofNat]
    omega

theorem off51 (w0 w1 : BitVec 32) (h : w0.toNat + w1.toNat ≤ 880) :
    k0_off51 w0 w1 0#32 = ![w0.toNat + w1.toNat, 0] ∧ k0_off51 w0 w1 128#32 = ![w0.toNat + w1.toNat + 128, 0] := by
  constructor <;>
  · unfold k0_off51
    dsimp only
    refine congrArg (fun q => ![q, 0]) ?_
    simp only [Scalar.addi, Scalar.indexCast, IntOp.addi, BitVec.toNat_add, BitVec.toNat_ofNat]
    omega

theorem off52 (w0 w1 w2 : BitVec 32) (h : w0.toNat + w1.toNat + w2.toNat ≤ 880) :
    k0_off52 w0 w1 w2 0#32 = ![w0.toNat + w1.toNat + w2.toNat, 0] ∧ k0_off52 w0 w1 w2 128#32 = ![w0.toNat + w1.toNat + w2.toNat + 128, 0] := by
  constructor <;>
  · unfold k0_off52
    dsimp only
    refine congrArg (fun q => ![q, 0]) ?_
    simp only [Scalar.addi, Scalar.indexCast, IntOp.addi, BitVec.toNat_add, BitVec.toNat_ofNat]
    omega

theorem off53 (w0 w1 w2 w3 : BitVec 32) (h : w0.toNat + w1.toNat + w2.toNat + w3.toNat ≤ 880) :
    k0_off53 w0 w1 w2 w3 0#32 = ![w0.toNat + w1.toNat + w2.toNat + w3.toNat, 0] ∧ k0_off53 w0 w1 w2 w3 128#32 = ![w0.toNat + w1.toNat + w2.toNat + w3.toNat + 128, 0] := by
  constructor <;>
  · unfold k0_off53
    dsimp only
    refine congrArg (fun q => ![q, 0]) ?_
    simp only [Scalar.addi, Scalar.indexCast, IntOp.addi, BitVec.toNat_add, BitVec.toNat_ofNat]
    omega

theorem off54 (w0 w1 w2 w3 w4 : BitVec 32) (h : w0.toNat + w1.toNat + w2.toNat + w3.toNat + w4.toNat ≤ 880) :
    k0_off54 w0 w1 w2 w3 w4 0#32 = ![w0.toNat + w1.toNat + w2.toNat + w3.toNat + w4.toNat, 0] ∧ k0_off54 w0 w1 w2 w3 w4 128#32 = ![w0.toNat + w1.toNat + w2.toNat + w3.toNat + w4.toNat + 128, 0] := by
  constructor <;>
  · unfold k0_off54
    dsimp only
    refine congrArg (fun q => ![q, 0]) ?_
    simp only [Scalar.addi, Scalar.indexCast, IntOp.addi, BitVec.toNat_add, BitVec.toNat_ofNat]
    omega

/-- The select over the diagonal of a 128 by 128 block: lane `l` gets the block's entry `(l, l)` if `o + l` is below the
    word. -/
theorem diag (o : ℕ) (ho : o ≤ 128) (w : BitVec 32) (hw : w.toNat ≤ 256) (v : Fin 128 → EReal) (l : Fin 128) :
    (∑ r : Fin 128, Scalar.select (IntOp.andi (IntOp.cmpi .eq (BitVec.ofNat 32 r.val) (BitVec.ofNat 32 l.val))
      (IntOp.cmpi .slt (IntOp.addi (BitVec.ofNat 32 r.val) (BitVec.ofNat 32 o)) w)) (v r) 0)
      = if o + l.val < w.toNat then v l else 0 := by
  rw [Finset.sum_eq_single l]
  · refine if_congr ?_ rfl rfl
    refine (IntOp.andi_eq_one.trans (and_congr IntOp.cmpi_eq IntOp.cmpi_slt)).trans ?_
    have e : (IntOp.addi (BitVec.ofNat 32 l.val) (BitVec.ofNat 32 o)).toNat = o + l.val := by
      simp only [IntOp.addi, BitVec.toNat_add, BitVec.toNat_ofNat]
      omega
    rw [BitVec.toInt_eq_toNat_of_lt (by omega), BitVec.toInt_eq_toNat_of_lt (by omega), e]
    exact ⟨fun h => by exact_mod_cast h.2, fun h => ⟨rfl, by exact_mod_cast h⟩⟩
  · intro r _ hr
    refine if_neg fun h => hr (Fin.ext ?_)
    have e := congrArg BitVec.toNat (IntOp.cmpi_eq.1 (IntOp.andi_eq_one.1 h).1)
    simp only [BitVec.toNat_ofNat] at e
    omega
  · exact fun h => absurd (Finset.mem_univ l) h

theorem pay4_at (v : Vec Ideal S128x128 .f32) (w : BitVec 32) (hw : w.toNat ≤ 256) (l : Fin 128) :
    k0_pay4 (F := Ideal) v w (ix2 0 l) = if 0 + l.val < w.toNat then v (ix2 l l) else 0 := by
  pointwise [k0_pay4]
  exact (diag 0 (by omega) w hw (fun r => v (ix2 r l)) l).trans (by rw [Nat.zero_add])

theorem pay5_at (v : Vec Ideal S128x128 .f32) (w : BitVec 32) (hw : w.toNat ≤ 256) (l : Fin 128) :
    k0_pay5 (F := Ideal) v w (ix2 0 l) = if 128 + l.val < w.toNat then v (ix2 l l) else 0 := by
  pointwise [k0_pay5]
  exact diag 128 (by omega) w hw (fun r => v (ix2 r l)) l

theorem so49 {L : Fin 6 → ℕ} (hL : ∀ b, start L b + L b ≤ 880) :
    k0_off49 0#32 = ![start L 0, 0] ∧ k0_off49 128#32 = ![start L 0 + 128, 0] := by
  have e : start L 0 = 0 := by simp [start, Fin.sum_univ_six]
  rw [e]
  exact ⟨k0_off49_eq 0, k0_off49_eq 1⟩

theorem so50 {L : Fin 6 → ℕ} (hL : ∀ b, start L b + L b ≤ 880) {w0 : BitVec 32} (h0 : w0.toNat = L 0) :
    k0_off50 w0 0#32 = ![start L 1, 0] ∧ k0_off50 w0 128#32 = ![start L 1 + 128, 0] := by
  have e : start L 1 = w0.toNat := by
    rw [h0]; simp [start, Fin.sum_univ_six]
  have h := hL 1
  rw [e] at h ⊢
  exact off50 w0 (by omega)

theorem so51 {L : Fin 6 → ℕ} (hL : ∀ b, start L b + L b ≤ 880) {w0 w1 : BitVec 32} (h0 : w0.toNat = L 0) (h1 : w1.toNat = L 1) :
    k0_off51 w0 w1 0#32 = ![start L 2, 0] ∧ k0_off51 w0 w1 128#32 = ![start L 2 + 128, 0] := by
  have e : start L 2 = w0.toNat + w1.toNat := by
    rw [h0, h1]; simp [start, Fin.sum_univ_six]
  have h := hL 2
  rw [e] at h ⊢
  exact off51 w0 w1 (by omega)

theorem so52 {L : Fin 6 → ℕ} (hL : ∀ b, start L b + L b ≤ 880) {w0 w1 w2 : BitVec 32} (h0 : w0.toNat = L 0) (h1 : w1.toNat = L 1) (h2 : w2.toNat = L 2) :
    k0_off52 w0 w1 w2 0#32 = ![start L 3, 0] ∧ k0_off52 w0 w1 w2 128#32 = ![start L 3 + 128, 0] := by
  have e : start L 3 = w0.toNat + w1.toNat + w2.toNat := by
    rw [h0, h1, h2]; simp [start, Fin.sum_univ_six]
  have h := hL 3
  rw [e] at h ⊢
  exact off52 w0 w1 w2 (by omega)

theorem so53 {L : Fin 6 → ℕ} (hL : ∀ b, start L b + L b ≤ 880) {w0 w1 w2 w3 : BitVec 32} (h0 : w0.toNat = L 0) (h1 : w1.toNat = L 1) (h2 : w2.toNat = L 2) (h3 : w3.toNat = L 3) :
    k0_off53 w0 w1 w2 w3 0#32 = ![start L 4, 0] ∧ k0_off53 w0 w1 w2 w3 128#32 = ![start L 4 + 128, 0] := by
  have e : start L 4 = w0.toNat + w1.toNat + w2.toNat + w3.toNat := by
    rw [h0, h1, h2, h3]; simp [start, Fin.sum_univ_six]
  have h := hL 4
  rw [e] at h ⊢
  exact off53 w0 w1 w2 w3 (by omega)

theorem so54 {L : Fin 6 → ℕ} (hL : ∀ b, start L b + L b ≤ 880) {w0 w1 w2 w3 w4 : BitVec 32} (h0 : w0.toNat = L 0) (h1 : w1.toNat = L 1) (h2 : w2.toNat = L 2) (h3 : w3.toNat = L 3) (h4 : w4.toNat = L 4) :
    k0_off54 w0 w1 w2 w3 w4 0#32 = ![start L 5, 0] ∧ k0_off54 w0 w1 w2 w3 w4 128#32 = ![start L 5 + 128, 0] := by
  have e : start L 5 = w0.toNat + w1.toNat + w2.toNat + w3.toNat + w4.toNat := by
    rw [h0, h1, h2, h3, h4]; simp [start, Fin.sum_univ_six]
  have h := hL 5
  rw [e] at h ⊢
  exact off54 w0 w1 w2 w3 w4 (by omega)

/-- What is stored for columns 0 to 127 of sequence `b` is that part of the result. -/
theorem piece4 {arg12 : Memref sig .tc .vmem S1136x128 .f32} {X12 : BufTy.Contents (Elt Ideal) arg12.view.ty} {loss : ℕ → EReal}
    (hX : ∀ (r : Fin 880) (l : Fin 128), arg12.view.read (Elt Ideal) X12 (ix2 ⟨r.val, by omega⟩ l) = loss r.val)
    {L : Fin 6 → ℕ} (hL : ∀ b, start L b + L b ≤ 880) (hL' : ∀ b, L b ≤ 256) (b : Fin 6) {w : BitVec 32} (hw : w.toNat = L b)
    {off : Fin 2 → ℕ} (ho : off = ![start L b, 0]) {inb'}
    (inb : ∀ a, (![b.val, 0] : Fin 2 → ℕ) a + S1x128.size a ≤ S6x256.size a)
    (x : (Rect.unit (s := S6x256) ![b.val, 0] S1x128.size inb).shape.Idx) :
    k0_pay4 (F := Ideal) (arg12.view.readAt (Elt Ideal) (Rect.unit (s := S1136x128) off S128x128.size inb').toLoadRect X12) w x
      = result L loss ((Rect.unit (s := S6x256) ![b.val, 0] S1x128.size inb).emb x) := by
  obtain ⟨l, rfl⟩ : ∃ l : Fin 128, x = ix2 0 l := ⟨x 1, by
    funext a
    match a with
    | ⟨0, _⟩ => exact Subsingleton.elim (α := Fin 1) _ _
    | ⟨1, _⟩ => rfl⟩
  rw [pay4_at _ _ (hw ▸ hL' b)]
  have e0 : ((Rect.unit (s := S6x256) ![b.val, 0] S1x128.size inb).emb (ix2 0 l)) 0 = b :=
    Fin.ext (by show b.val + 1 * 0 = b.val; omega)
  have e1 : (((Rect.unit (s := S6x256) ![b.val, 0] S1x128.size inb).emb (ix2 0 l)) 1).val = 0 + l.val := by
    show 0 + 1 * l.val = _; omega
  unfold result
  rw [e0, e1, hw]
  by_cases h : 0 + l.val < L b
  · rw [if_pos h, if_pos h]
    have hb := hL b
    refine (Trip.readAt_unit arg12.view X12 _ _ ho inb' l l (by omega) (by omega)).trans ?_
    refine Eq.trans ?_ ((hX ⟨start L b + (0 + l.val), by omega⟩ l).trans rfl)
    refine congrArg _ ((ix2_inj _ _ _ _).2 ⟨Fin.ext (by show start L b + l.val = start L b + (0 + l.val); omega), Fin.ext (Nat.zero_add _)⟩)
  · rw [if_neg h, if_neg h]

/-- What is stored for columns 128 to 255 of sequence `b` is that part of the result. -/
theorem piece5 {arg12 : Memref sig .tc .vmem S1136x128 .f32} {X12 : BufTy.Contents (Elt Ideal) arg12.view.ty} {loss : ℕ → EReal}
    (hX : ∀ (r : Fin 880) (l : Fin 128), arg12.view.read (Elt Ideal) X12 (ix2 ⟨r.val, by omega⟩ l) = loss r.val)
    {L : Fin 6 → ℕ} (hL : ∀ b, start L b + L b ≤ 880) (hL' : ∀ b, L b ≤ 256) (b : Fin 6) {w : BitVec 32} (hw : w.toNat = L b)
    {off : Fin 2 → ℕ} (ho : off = ![start L b + 128, 0]) {inb'}
    (inb : ∀ a, (![b.val, 128] : Fin 2 → ℕ) a + S1x128.size a ≤ S6x256.size a)
    (x : (Rect.unit (s := S6x256) ![b.val, 128] S1x128.size inb).shape.Idx) :
    k0_pay5 (F := Ideal) (arg12.view.readAt (Elt Ideal) (Rect.unit (s := S1136x128) off S128x128.size inb').toLoadRect X12) w x
      = result L loss ((Rect.unit (s := S6x256) ![b.val, 128] S1x128.size inb).emb x) := by
  obtain ⟨l, rfl⟩ : ∃ l : Fin 128, x = ix2 0 l := ⟨x 1, by
    funext a
    match a with
    | ⟨0, _⟩ => exact Subsingleton.elim (α := Fin 1) _ _
    | ⟨1, _⟩ => rfl⟩
  rw [pay5_at _ _ (hw ▸ hL' b)]
  have e0 : ((Rect.unit (s := S6x256) ![b.val, 128] S1x128.size inb).emb (ix2 0 l)) 0 = b :=
    Fin.ext (by show b.val + 1 * 0 = b.val; omega)
  have e1 : (((Rect.unit (s := S6x256) ![b.val, 128] S1x128.size inb).emb (ix2 0 l)) 1).val = 128 + l.val := by
    show 128 + 1 * l.val = _; omega
  unfold result
  rw [e0, e1, hw]
  by_cases h : 128 + l.val < L b
  · rw [if_pos h, if_pos h]
    have hb := hL b
    refine (Trip.readAt_unit arg12.view X12 _ _ ho inb' l l (by omega) (by omega)).trans ?_
    refine Eq.trans ?_ ((hX ⟨start L b + (128 + l.val), by omega⟩ l).trans rfl)
    refine congrArg _ ((ix2_inj _ _ _ _).2 ⟨Fin.ext (Nat.add_assoc _ _ _), Fin.ext (Nat.zero_add _)⟩)
  · rw [if_neg h, if_neg h]

section

variable (m : (ℓ : Loc nD τ sig) → Buf (Elt Ideal) ℓ) (hO : Ok m) (hH : Hyps m hO) (c : Dev nD)

/-- The lengths, as natural numbers. -/
def lens (b : Fin 6) : ℕ := (m ((c : Thread nD τ).loc main_arg0) (ix1 b)).toNat

/-- The loss of packed row `n`. -/
noncomputable def lossAt (n : ℕ) : EReal :=
  if h : n < 880 then
    (Softmax.top (Lane.row m c ⟨n, h⟩) + Ideal.log (Softmax.expSum (Lane.row m c ⟨n, h⟩)))
      - Softmax.target (Lane.row m c ⟨n, h⟩) (FloatOps.fptosi (F := Ideal) (φ := .f32) 32 (m ((c : Thread nD τ).loc main_arg2) (ix2 ⟨n, h⟩ 0)))
      - Ideal.ofBits .f32 0x4125F9D2#32
  else 0

theorem lossOf_lanes (hT : ∀ (r : Fin 880) (l : Fin 128), m ((c : Thread nD τ).loc main_arg2) (ix2 r l) = m ((c : Thread nD τ).loc main_arg2) (ix2 r 0))
    (r : Fin 880) : Loss.lossOf (fun l => Lane.laneM (Lane.row m c r) l.val 50) (fun l => Lane.laneS (Lane.row m c r) l.val 50)
      (fun l => Lane.laneT (Lane.row m c r) (m ((c : Thread nD τ).loc main_arg2) (ix2 r l)) l.val 50) = lossAt m c r.val := by
  unfold Loss.lossOf lossAt
  rw [dif_pos r.isLt, Softmax.top_lanes, Softmax.expSum_lanes]
  have e : (∑ l : Fin 128, Lane.laneT (Lane.row m c r) (m ((c : Thread nD τ).loc main_arg2) (ix2 r l)) l.val 50)
      = Softmax.target (Lane.row m c r) (FloatOps.fptosi (F := Ideal) (φ := .f32) 32 (m ((c : Thread nD τ).loc main_arg2) (ix2 r 0))) := by
    rw [← Softmax.target_lanes]
    exact Finset.sum_congr rfl fun l _ => by rw [hT r l]
  rw [e]

variable (t : Fin (cfgM m hO).N) (h0 : ¬ t.val % 50 = 0) (h1 : t.val % 50 = 49)

/-- The stores of the last point's first loop. -/
noncomputable def P1 := pb_k0_t1 (F := Ideal) Variants.none c none (grid0.coords t) tbM0_0 htbM0_0 (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) (BitVec.ofNat 32 (grid0.coords t 0).val)
  ((hs0_1 m hO t).unread (iblk m hO c 1 t))
  (scM0_1.view.writes (Elt Ideal) scM0_1.view.junk (kernelRun0_C.sl.HS1_1 c (grid0.coords t) (ms0_0 m hO t) (hs0_0 m hO t) (ms0_2 m hO t)
    (hs0_2 m hO t) (ms0_3 m hO t) (hs0_3 m hO t) scM0_0 (iblk m hO c 0 t) (iblk m hO c 2 t) (iblk m hO c 3 t)))
  ((Memref.isWhole_whole cc0_scratch2).unread (outsAt0 m hO hH c (t.val - 1) (Nat.lt_of_le_of_lt (Nat.sub_le _ _) t.isLt)).2.1)
  ((Memref.isWhole_whole cc0_scratch3).unread (outsAt0 m hO hH c (t.val - 1) (Nat.lt_of_le_of_lt (Nat.sub_le _ _) t.isLt)).2.2.1)
  ((Memref.isWhole_whole cc0_scratch4).unread (outsAt0 m hO hH c (t.val - 1) (Nat.lt_of_le_of_lt (Nat.sub_le _ _) t.isLt)).2.2.2)
  (Scf.trips k0_t1_loop.lb k0_t1_loop.ub k0_t1_loop.st)

/-- The loss buffer after the last point's second loop. -/
noncomputable def X12 : BufTy.Contents (Elt Ideal) scM0_5.view.ty :=
  scM0_5.view.writes (Elt Ideal) scM0_5.view.junk (pb_k0_t2 (F := Ideal) Variants.none c none (grid0.coords t) tbM0_0 htbM0_0 (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_1 t).mpr h1)
    (scM0_2.view.writes (Elt Ideal) ((Memref.isWhole_whole cc0_scratch2).unread (outsAt0 m hO hH c (t.val - 1) (Nat.lt_of_le_of_lt (Nat.sub_le _ _) t.isLt)).2.1) (P1 m hO hH c t).1)
    (scM0_3.view.writes (Elt Ideal) ((Memref.isWhole_whole cc0_scratch3).unread (outsAt0 m hO hH c (t.val - 1) (Nat.lt_of_le_of_lt (Nat.sub_le _ _) t.isLt)).2.2.1) (P1 m hO hH c t).2.1)
    (scM0_4.view.writes (Elt Ideal) ((Memref.isWhole_whole cc0_scratch4).unread (outsAt0 m hO hH c (t.val - 1) (Nat.lt_of_le_of_lt (Nat.sub_le _ _) t.isLt)).2.2.2) (P1 m hO hH c t).2.2)
    (Scf.trips k0_t2_loop.lb k0_t2_loop.ub k0_t2_loop.st) ++ kernelRun0_C.sl.HS5_1)

include h0 in
/-- The running maximum, sum and target score of every lane after the last point's first loop. -/
theorem carried (r : Fin 880) (l : Fin 128) :
    scM0_2.view.read (Elt Ideal) (scM0_2.view.writes (Elt Ideal) ((Memref.isWhole_whole cc0_scratch2).unread (outsAt0 m hO hH c (t.val - 1) (Nat.lt_of_le_of_lt (Nat.sub_le _ _) t.isLt)).2.1) (P1 m hO hH c t).1) (ix2 r l) = Lane.laneM (Lane.row m c r) l.val (t.val + 1)
      ∧ scM0_3.view.read (Elt Ideal) (scM0_3.view.writes (Elt Ideal) ((Memref.isWhole_whole cc0_scratch3).unread (outsAt0 m hO hH c (t.val - 1) (Nat.lt_of_le_of_lt (Nat.sub_le _ _) t.isLt)).2.2.1) (P1 m hO hH c t).2.1) (ix2 r l) = Lane.laneS (Lane.row m c r) l.val (t.val + 1)
      ∧ scM0_4.view.read (Elt Ideal) (scM0_4.view.writes (Elt Ideal) ((Memref.isWhole_whole cc0_scratch4).unread (outsAt0 m hO hH c (t.val - 1) (Nat.lt_of_le_of_lt (Nat.sub_le _ _) t.isLt)).2.2.2) (P1 m hO hH c t).2.2) (ix2 r l) = Lane.laneT (Lane.row m c r) (m ((c : Thread nD τ).loc main_arg2) (ix2 r l)) l.val (t.val + 1) := by
  have hn := Lane.at_all m hO hH c (t.val - 1) (Nat.lt_of_le_of_lt (Nat.sub_le _ _) t.isLt) r l
  rw [show t.val - 1 + 1 = t.val by omega] at hn
  refine ⟨?_, ?_, ?_⟩
  · unfold P1
    refine ((Trip.loop _ _ _ _ _ _ _ _ _ _ _ _ _ _ _ _ _ _ _ _ _ _ _ _ _ _ _ _ _ _ _ _ 55 le_rfl).1 _ r l).trans ?_
    rw [if_pos (by omega)]
    refine Lane.stepM _ _ _ _ _ t.val r l (fun v => (Logits.read_at _ _ _ _ r v).trans ((Logits.pay_at _ _ _ _ _ (Wd.upto_C ..) _ _ r v).trans (Lane.logit_blk m hO c t r v))) ?_
    rw [Memref.IsWhole.read_unread]; exact hn.1
  · unfold P1
    refine ((Trip.loop _ _ _ _ _ _ _ _ _ _ _ _ _ _ _ _ _ _ _ _ _ _ _ _ _ _ _ _ _ _ _ _ 55 le_rfl).2.1 _ r l).trans ?_
    rw [if_pos (by omega)]
    refine Lane.stepS _ _ _ _ _ _ _ t.val r l (fun v => (Logits.read_at _ _ _ _ r v).trans ((Logits.pay_at _ _ _ _ _ (Wd.upto_C ..) _ _ r v).trans (Lane.logit_blk m hO c t r v))) ?_ ?_
    · rw [Memref.IsWhole.read_unread]; exact hn.1
    · rw [Memref.IsWhole.read_unread]; exact hn.2.1
  · unfold P1
    refine ((Trip.loop _ _ _ _ _ _ _ _ _ _ _ _ _ _ _ _ _ _ _ _ _ _ _ _ _ _ _ _ _ _ _ _ 55 le_rfl).2.2 _ r l).trans ?_
    rw [if_pos (by omega)]
    rw [Blocks.coord t]
    refine Lane.stepT _ _ _ _ _ _ _ _ t.val r l (fun v => (Logits.read_at _ _ _ _ r v).trans ((Logits.pay_at _ _ _ _ _ (Wd.upto_C ..) _ _ r v).trans (Lane.logit_blk m hO c t r v))) ?_ ?_
    · exact (congrFun (Memref.IsWhole.read_unread _ _) _).trans (Blocks.blk1 m hO c t r l)
    · rw [Memref.IsWhole.read_unread]; exact hn.2.2

include h0 in
/-- Every row of the loss buffer holds its loss. -/
theorem lbuf_at (hT : ∀ (r : Fin 880) (l : Fin 128), m ((c : Thread nD τ).loc main_arg2) (ix2 r l) = m ((c : Thread nD τ).loc main_arg2) (ix2 r 0))
    (r : Fin 880) (l : Fin 128) :
    scM0_5.view.read (Elt Ideal) (X12 m hO hH c t h1) (ix2 ⟨r.val, by omega⟩ l) = lossAt m c r.val := by
  have ht : t.val + 1 = 50 := by
    have : t.val < 50 := t.isLt
    omega
  unfold X12
  rw [View.writes_append]
  refine (Loss.loop _ _ _ _ _ _ _ _ _ _ _ _ _ _ _ _ _ _ _ _ _ _ _ _ _ _ _ _ _ _ 55 le_rfl _ r l).trans ?_
  rw [if_pos (by omega)]
  refine Eq.trans ?_ (lossOf_lanes m c hT r)
  unfold Loss.outL
  have hc := carried m hO hH c t h0
  rw [ht] at hc
  exact congr (congr (congrArg Loss.lossOf (funext fun l => (hc r l).1)) (funext fun l => (hc r l).2.1)) (funext fun l => (hc r l).2.2)

include h0 h1 in
/-- What the last point leaves in the output block. -/
theorem out_C (hF : Cert.Lens.Fits (m (((0 : Dev nD) : Thread nD τ).loc main_arg0)))
    (hT : ∀ (r : Fin 880) (l : Fin 128), m ((c : Thread nD τ).loc main_arg2) (ix2 r l) = m ((c : Thread nD τ).loc main_arg2) (ix2 r 0)) :
    (outsAt0 m hO hH c t.val t.isLt).1 = result (lens m c) (lossAt m c) := by
  obtain rfl : c = 0 := Subsingleton.elim _ _
  have hX := lbuf_at m hO hH 0 t h0 h1 hT
  have hL' : ∀ b, lens m 0 b ≤ 256 := hF.le
  have hL : ∀ b, start (lens m 0) b + lens m 0 b ≤ 880 := by
    have h : lens m 0 0 + lens m 0 1 + lens m 0 2 + lens m 0 3 + lens m 0 4 + lens m 0 5 ≤ 880 := hF.sum
    intro b
    fin_cases b <;> simp [start, Fin.sum_univ_six] <;> omega
  have tw : ∀ (b : ℕ) (hb : b < 6) (h) (h1), (tbM0_0.view.readAt (Elt Ideal) (Rect.unit (s := S6) ![b] S1.size h).toLoadRect (tbl m 0) (Shape.Idx.first h1)).toNat
      = lens m 0 ⟨b, hb⟩ := fun b hb h h1 => congrArg BitVec.toNat (Hyp.tb_word m b hb h h1)
  rw [outsAt0_C m hO hH 0 t h0 h1]
  dsimp only
  unfold out0_C_4
  funext y
  refine (View.read_writes_junk_apply_eq_canon _ y _).trans ?_
  refine View.canon_apply_of_pieces _ _ ?_ y (cover0_C_4 ..)
  unfold kernelRun0_C
  dsimp only
  refine List.forall_mem_cons.2 ⟨?_, ?_⟩
  · exact fun x => piece5 hX hL hL' 5 (tw 5 (by omega) _ _) (so54 hL (tw 0 (by omega) _ _) (tw 1 (by omega) _ _) (tw 2 (by omega) _ _) (tw 3 (by omega) _ _) (tw 4 (by omega) _ _)).2 inb_S6x256_S1x128_5_128 x
  refine List.forall_mem_cons.2 ⟨?_, ?_⟩
  · exact fun x => piece4 hX hL hL' 5 (tw 5 (by omega) _ _) (so54 hL (tw 0 (by omega) _ _) (tw 1 (by omega) _ _) (tw 2 (by omega) _ _) (tw 3 (by omega) _ _) (tw 4 (by omega) _ _)).1 inb_S6x256_S1x128_5_0 x
  refine List.forall_mem_cons.2 ⟨?_, ?_⟩
  · exact fun x => piece5 hX hL hL' 4 (tw 4 (by omega) _ _) (so53 hL (tw 0 (by omega) _ _) (tw 1 (by omega) _ _) (tw 2 (by omega) _ _) (tw 3 (by omega) _ _)).2 inb_S6x256_S1x128_4_128 x
  refine List.forall_mem_cons.2 ⟨?_, ?_⟩
  · exact fun x => piece4 hX hL hL' 4 (tw 4 (by omega) _ _) (so53 hL (tw 0 (by omega) _ _) (tw 1 (by omega) _ _) (tw 2 (by omega) _ _) (tw 3 (by omega) _ _)).1 inb_S6x256_S1x128_4_0 x
  refine List.forall_mem_cons.2 ⟨?_, ?_⟩
  · exact fun x => piece5 hX hL hL' 3 (tw 3 (by omega) _ _) (so52 hL (tw 0 (by omega) _ _) (tw 1 (by omega) _ _) (tw 2 (by omega) _ _)).2 inb_S6x256_S1x128_3_128 x
  refine List.forall_mem_cons.2 ⟨?_, ?_⟩
  · exact fun x => piece4 hX hL hL' 3 (tw 3 (by omega) _ _) (so52 hL (tw 0 (by omega) _ _) (tw 1 (by omega) _ _) (tw 2 (by omega) _ _)).1 inb_S6x256_S1x128_3_0 x
  refine List.forall_mem_cons.2 ⟨?_, ?_⟩
  · exact fun x => piece5 hX hL hL' 2 (tw 2 (by omega) _ _) (so51 hL (tw 0 (by omega) _ _) (tw 1 (by omega) _ _)).2 inb_S6x256_S1x128_2_128 x
  refine List.forall_mem_cons.2 ⟨?_, ?_⟩
  · exact fun x => piece4 hX hL hL' 2 (tw 2 (by omega) _ _) (so51 hL (tw 0 (by omega) _ _) (tw 1 (by omega) _ _)).1 inb_S6x256_S1x128_2_0 x
  refine List.forall_mem_cons.2 ⟨?_, ?_⟩
  · exact fun x => piece5 hX hL hL' 1 (tw 1 (by omega) _ _) (so50 hL (tw 0 (by omega) _ _)).2 inb_S6x256_S1x128_1_128 x
  refine List.forall_mem_cons.2 ⟨?_, ?_⟩
  · exact fun x => piece4 hX hL hL' 1 (tw 1 (by omega) _ _) (so50 hL (tw 0 (by omega) _ _)).1 inb_S6x256_S1x128_1_0 x
  refine List.forall_mem_cons.2 ⟨?_, ?_⟩
  · exact fun x => piece5 hX hL hL' 0 (tw 0 (by omega) _ _) (so49 hL).2 inb_S6x256_S1x128_0_128 x
  refine List.forall_mem_cons.2 ⟨?_, ?_⟩
  · exact fun x => piece4 hX hL hL' 0 (tw 0 (by omega) _ _) (so49 hL).1 inb_S6x256_S1x128_0_0 x
  exact fun _ h => absurd h List.not_mem_nil

end

end Cert.KernelIdeal.Final
-- ==== Proof.KRun.lean ====
/- The kernel's run: it ends with the result array holding the losses, the arguments unchanged. -/
module

public import proofs.«01_k».proof.Proof.Final

@[expose] public section

set_option maxRecDepth 65536

open Idealize.ShloMosaic Idealize.ShloMosaic.TcCoe Idealize.SL.Sem

namespace Cert.KernelIdeal.KRun

open Cert.KernelIdeal Cert.KernelIdeal.Gen

variable (m : (ℓ : Loc nD τ sig) → Buf (Elt Ideal) ℓ) (ρ : Dev nD → PrngReg) (hO : Ok m) (hH : Hyps m hO)

/-- The last grid point. -/
def last : Fin (cfgM m hO).N := ⟨49, by rw [show (cfgM m hO).N = 50 from N_0]; omega⟩

/-- The result is written back once, whole, at the last point. -/
theorem whole : ((cfgM m hO).win 4).WholeAt (last m hO) := by
  refine ⟨(flush0_4 _ _).2 rfl, fun t ht => Fin.ext ?_, fun a => ?_⟩
  · have h := (flush0_4 _ _).1 ht
    have : t.val < 50 := t.isLt
    show t.val = 49
    omega
  · fin_cases a <;> exact ⟨rfl, rfl⟩

theorem final (c : Dev nD) (hF : Cert.Lens.Fits (m (((0 : Dev nD) : Thread nD τ).loc main_arg0)))
    (hT : ∀ (r : Fin 880) (l : Fin 128), m ((c : Thread nD τ).loc main_arg2) (ix2 r l) = m ((c : Thread nD τ).loc main_arg2) (ix2 r 0)) :
    (dats m hO hH 0 c).arrAt 4 (cfgM m hO).N = Final.result (Final.lens m c) (Final.lossAt m c) := by
  refine (dats m hO hH 0 c).arrAt_eq_of_after_last 4 (last m hO) (whole m hO) _ fun j => ?_
  have e : (dats m hO hH 0 c).after 4 (last m hO) = Final.result (Final.lens m c) (Final.lossAt m c) :=
    (after0_4 m hO hH c (last m hO)).trans (Final.out_C m hO hH c (last m hO) (by decide : ¬ 49 % 50 = 0) (rfl : 49 % 50 = 49) hF hT)
  rw [e]
  rfl

include hO hH in
/-- The run. -/
theorem run (hF : Cert.Lens.Fits (m (((0 : Dev nD) : Thread nD τ).loc main_arg0)))
    (hT : ∀ (c : Dev nD) (r : Fin 880) (l : Fin 128), m ((c : Thread nD τ).loc main_arg2) (ix2 r l) = m ((c : Thread nD τ).loc main_arg2) (ix2 r 0)) :
    θ_run defs (onTc (τ := τ) (main (F := Ideal))) ⟨m, fun _ => 0, ρ⟩ fun r => ∀ c : Dev nD,
      r.2.mem ((c : Thread nD τ).loc main_v0) = Final.result (Final.lens m c) (Final.lossAt m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨((h c).1 4).trans (final m hO hH c hF (hT c)),
      ((h c).2 main_arg0 (by decide : main_arg0 ∈ Pipeline.restRefs sig spec0)).trans (V_main_arg0 m c),
      ((h c).1 0).trans (((dats m hO hH 0 c).arrAt_in 0 rfl _).trans ((A_eq m hO hH c 0).trans (V_main_arg1 m c))),
      ((h c).1 1).trans (((dats m hO hH 0 c).arrAt_in 1 rfl _).trans ((A_eq m hO hH c 1).trans (V_main_arg2 m c))),
      ((h c).1 2).trans (((dats m hO hH 0 c).arrAt_in 2 rfl _).trans ((A_eq m hO hH c 2).trans (V_main_arg3 m c))),
      ((h c).1 3).trans (((dats m hO hH 0 c).arrAt_in 3 rfl _).trans ((A_eq m hO hH c 3).trans (V_main_arg4 m c)))⟩)
    (run_main m ρ hO hH)

end Cert.KernelIdeal.KRun
-- ==== Proof.Ref.lean ====
/- What the reference computes: the same result, from its whole product. -/
module

public import proofs.«01_k».proof.Proof.Gen.ReferenceIdeal.Value
public import proofs.«01_k».proof.Proof.Final

@[expose] public section

set_option maxRecDepth 65536

open Idealize.ShloMosaic Idealize.ShloMosaic.TcCoe Idealize.SL.Sem

namespace Cert.ReferenceIdeal.Ref

open Cert.ReferenceIdeal Cert.ReferenceIdeal.Gen

/-- Row `r`'s logits. -/
noncomputable abbrev rowOf (Y : Vec Ideal S880x5120 .bf16) (W : Vec Ideal S5120x32000 .fp8e4m3) (S : Vec Ideal S40x250 .f32) (r : Fin 880) : ℕ → EReal :=
  Cert.KernelIdeal.Lane.logit Y W S r

/-- The loss of row `r`, its target being `w`. -/
noncomputable def lossOf (x : ℕ → EReal) (w : BitVec 32) : EReal :=
  (Cert.KernelIdeal.Softmax.top x + Ideal.log (Cert.KernelIdeal.Softmax.expSum x)) - Cert.KernelIdeal.Softmax.target x w - Ideal.ofBits .f32 0x4125F9D2#32

theorem row_at (Y : Vec Ideal S880x5120 .bf16) (W : Vec Ideal S5120x32000 .fp8e4m3) (S : Vec Ideal S40x250 .f32) (r : Fin 880) (v : Fin 32000) :
    (∑ k : Fin 5120, (show EReal from Y (ix2 r k)) * (W (ix2 k v) * S (ix2 ⟨k.val / 128, by omega⟩ ⟨v.val / 128, by omega⟩))) = rowOf Y W S r v.val := by
  unfold rowOf Cert.KernelIdeal.Lane.logit
  rw [dif_pos v.isLt]

theorem top_fin (x : ℕ → EReal) : (Finset.univ : Finset (Fin 32000)).fold max (Ideal.ofBits .f32 0xFF800000#32) (fun v => x v.val) = Cert.KernelIdeal.Softmax.top x := by
  rw [Cert.KernelIdeal.Loss.bot_word]
  show (Finset.univ : Finset (Fin 32000)).sup (fun v => x v.val) = _
  unfold Cert.KernelIdeal.Softmax.top
  apply le_antisymm
  · exact Finset.sup_le fun v _ => Finset.le_sup (f := x) (Finset.mem_range.2 v.isLt)
  · exact Finset.sup_le fun v hv => Finset.le_sup (f := fun v : Fin 32000 => x v.val) (Finset.mem_univ (⟨v, Finset.mem_range.1 hv⟩ : Fin 32000))

/-- The reference's loss of row `r`. -/
theorem pay2_at (W : Vec Ideal S5120x32000 .fp8e4m3) (S : Vec Ideal S40x250 .f32) (Y : Vec Ideal S880x5120 .bf16) (T : Vec Ideal S880x1 .f32) (r : Fin 880) :
    k0_pay2 (F := Ideal) W S Y T (ix2 r 0) = lossOf (rowOf Y W S r) (FloatOps.fptosi (F := Ideal) (φ := .f32) 32 (T (ix2 r 0))) := by
  pointwise [k0_pay2]
  simp only [row_at Y W S r]
  rw [top_fin]
  unfold lossOf
  rw [add_comm (Ideal.log _)]
  refine congrArg₂ (fun a b : EReal => Cert.KernelIdeal.Softmax.top (rowOf Y W S r) + Ideal.log a - b - Ideal.ofBits .f32 0x4125F9D2#32) ?_ ?_
  · exact Fin.sum_univ_eq_sum_range (fun v => Ideal.exp (rowOf Y W S r v - Cert.KernelIdeal.Softmax.top (rowOf Y W S r))) 32000
  · refine Eq.trans ?_ (Fin.sum_univ_eq_sum_range (fun v => if BitVec.ofNat 32 v = FloatOps.fptosi (F := Ideal) (φ := .f32) 32 (T (ix2 r 0)) then rowOf Y W S r v else 0) 32000)
    exact Finset.sum_congr rfl fun v _ => if_congr IntOp.cmpi_eq rfl rfl

/-- Position `s` of a sequence of `ln` tokens that starts at row `st`: the sum over the rows has one row that is kept. -/
theorem pay8_at (v31 : Vec Ideal S880x1 .f32) (st ln : BitVec 32) (h : st.toNat + ln.toNat ≤ 880) (h' : ln.toNat ≤ 256)
    {loss : ℕ → EReal} (hv : ∀ r : Fin 880, v31 (ix2 r 0) = loss r.val) (s : Fin 256) :
    k0_pay8 (F := Ideal) v31 kernelRun0_A.sl.v32 kernelRun0_A.sl.v33 st ln (ix2 0 s)
      = if s.val < ln.toNat then loss (st.toNat + s.val) else 0 := by
  have e0 : ∀ r : Fin 880, kernelRun0_A.sl.v32 (ix2 r s) = BitVec.ofNat 32 r.val := fun r => by pointwise [kernelRun0_A.sl.v32]
  have e1 : ∀ r : Fin 880, kernelRun0_A.sl.v33 (ix2 r s) = BitVec.ofNat 32 s.val := fun r => by pointwise [kernelRun0_A.sl.v33]
  have hs : (BitVec.ofNat 32 s.val).toNat = s.val := by rw [BitVec.toNat_ofNat]; omega
  have ha : (IntOp.addi st (BitVec.ofNat 32 s.val)).toNat = st.toNat + s.val := by
    simp only [IntOp.addi, BitVec.toNat_add, BitVec.toNat_ofNat]; omega
  have hc : ∀ r : Fin 880, (IntOp.andi (IntOp.cmpi .slt (BitVec.ofNat 32 s.val) ln)
      (IntOp.cmpi .eq (BitVec.ofNat 32 r.val) (IntOp.addi st (BitVec.ofNat 32 s.val))) = 1) ↔ (s.val < ln.toNat ∧ r.val = st.toNat + s.val) := fun r => by
    refine (IntOp.andi_eq_one.trans (and_congr IntOp.cmpi_slt IntOp.cmpi_eq)).trans ?_
    rw [BitVec.toInt_eq_toNat_of_lt (by omega), BitVec.toInt_eq_toNat_of_lt (by omega), hs, ← BitVec.toNat_inj, ha, BitVec.toNat_ofNat]
    constructor
    · exact fun h => ⟨by exact_mod_cast h.1, by omega⟩
    · exact fun h => ⟨by exact_mod_cast h.1, by omega⟩
  pointwise [k0_pay8]
  simp only [e0, e1]
  by_cases hlt : s.val < ln.toNat
  · rw [if_pos hlt, Finset.sum_eq_single (⟨st.toNat + s.val, by omega⟩ : Fin 880)]
    · exact (if_pos ((hc _).2 ⟨hlt, rfl⟩)).trans (hv _)
    · exact fun r _ hr => if_neg fun h => hr (Fin.ext ((hc r).1 h).2)
    · exact fun h => absurd (Finset.mem_univ _) h
  · rw [if_neg hlt]
    exact Finset.sum_eq_zero fun r _ => if_neg fun h => hlt ((hc r).1 h).1

/-- What is stored for sequence `b` is its part of the result. -/
theorem piece {v31 : Vec Ideal S880x1 .f32} {loss : ℕ → EReal} (hv : ∀ r : Fin 880, v31 (ix2 r 0) = loss r.val)
    {L : Fin 6 → ℕ} (hL : ∀ b, Cert.KernelIdeal.Final.start L b + L b ≤ 880) (hL' : ∀ b, L b ≤ 256) (b : Fin 6) {st ln : BitVec 32}
    (hs : st.toNat = Cert.KernelIdeal.Final.start L b) (hl : ln.toNat = L b) (inb : ∀ a, (![b.val, 0] : Fin 2 → ℕ) a + S1x256.size a ≤ S6x256.size a)
    (x : (Rect.unit (s := S6x256) ![b.val, 0] S1x256.size inb).shape.Idx) :
    k0_pay8 (F := Ideal) v31 kernelRun0_A.sl.v32 kernelRun0_A.sl.v33 st ln x
      = Cert.KernelIdeal.Final.result L loss ((Rect.unit (s := S6x256) ![b.val, 0] S1x256.size inb).emb x) := by
  obtain ⟨s, rfl⟩ : ∃ s : Fin 256, x = ix2 0 s := ⟨x 1, by
    funext a
    match a with
    | ⟨0, _⟩ => exact Subsingleton.elim (α := Fin 1) _ _
    | ⟨1, _⟩ => rfl⟩
  rw [pay8_at v31 st ln (by rw [hs, hl]; exact hL b) (by rw [hl]; exact hL' b) hv]
  have e0 : ((Rect.unit (s := S6x256) ![b.val, 0] S1x256.size inb).emb (ix2 0 s)) 0 = b :=
    Fin.ext (by show b.val + 1 * 0 = b.val; omega)
  have e1 : (((Rect.unit (s := S6x256) ![b.val, 0] S1x256.size inb).emb (ix2 0 s)) 1).val = s.val := by
    show 0 + 1 * s.val = _; omega
  unfold Cert.KernelIdeal.Final.result
  rw [e0, e1, hs, hl]

theorem st0 {L : Fin 6 → ℕ} (hL : ∀ b, Cert.KernelIdeal.Final.start L b + L b ≤ 880) : (0#32).toNat = Cert.KernelIdeal.Final.start L 0 := by
  simp [Cert.KernelIdeal.Final.start]

theorem st1 {L : Fin 6 → ℕ} (hL : ∀ b, Cert.KernelIdeal.Final.start L b + L b ≤ 880) {w0 : BitVec 32} (h0 : w0.toNat = L 0) :
    (Scalar.addi 0#32 w0).toNat = Cert.KernelIdeal.Final.start L 1 := by
  have h := hL 1
  have e : Cert.KernelIdeal.Final.start L 1 = L 0 := by simp [Cert.KernelIdeal.Final.start, Fin.sum_univ_six]
  rw [e] at h ⊢
  simp only [Scalar.addi, IntOp.addi, BitVec.toNat_add, BitVec.toNat_ofNat, h0]
  omega

theorem st2 {L : Fin 6 → ℕ} (hL : ∀ b, Cert.KernelIdeal.Final.start L b + L b ≤ 880) {w0 w1 : BitVec 32} (h0 : w0.toNat = L 0) (h1 : w1.toNat = L 1) :
    (Scalar.addi (Scalar.addi 0#32 w0) w1).toNat = Cert.KernelIdeal.Final.start L 2 := by
  have h := hL 2
  have e : Cert.KernelIdeal.Final.start L 2 = L 0 + L 1 := by simp [Cert.KernelIdeal.Final.start, Fin.sum_univ_six]
  rw [e] at h ⊢
  simp only [Scalar.addi, IntOp.addi, BitVec.toNat_add, BitVec.toNat_ofNat, h0, h1]
  omega

theorem st3 {L : Fin 6 → ℕ} (hL : ∀ b, Cert.KernelIdeal.Final.start L b + L b ≤ 880) {w0 w1 w2 : BitVec 32} (h0 : w0.toNat = L 0) (h1 : w1.toNat = L 1) (h2 : w2.toNat = L 2) :
    (Scalar.addi (Scalar.addi (Scalar.addi 0#32 w0) w1) w2).toNat = Cert.KernelIdeal.Final.start L 3 := by
  have h := hL 3
  have e : Cert.KernelIdeal.Final.start L 3 = L 0 + L 1 + L 2 := by simp [Cert.KernelIdeal.Final.start, Fin.sum_univ_six]
  rw [e] at h ⊢
  simp only [Scalar.addi, IntOp.addi, BitVec.toNat_add, BitVec.toNat_ofNat, h0, h1, h2]
  omega

theorem st4 {L : Fin 6 → ℕ} (hL : ∀ b, Cert.KernelIdeal.Final.start L b + L b ≤ 880) {w0 w1 w2 w3 : BitVec 32} (h0 : w0.toNat = L 0) (h1 : w1.toNat = L 1) (h2 : w2.toNat = L 2) (h3 : w3.toNat = L 3) :
    (Scalar.addi (Scalar.addi (Scalar.addi (Scalar.addi 0#32 w0) w1) w2) w3).toNat = Cert.KernelIdeal.Final.start L 4 := by
  have h := hL 4
  have e : Cert.KernelIdeal.Final.start L 4 = L 0 + L 1 + L 2 + L 3 := by simp [Cert.KernelIdeal.Final.start, Fin.sum_univ_six]
  rw [e] at h ⊢
  simp only [Scalar.addi, IntOp.addi, BitVec.toNat_add, BitVec.toNat_ofNat, h0, h1, h2, h3]
  omega

theorem st5 {L : Fin 6 → ℕ} (hL : ∀ b, Cert.KernelIdeal.Final.start L b + L b ≤ 880) {w0 w1 w2 w3 w4 : BitVec 32} (h0 : w0.toNat = L 0) (h1 : w1.toNat = L 1) (h2 : w2.toNat = L 2) (h3 : w3.toNat = L 3) (h4 : w4.toNat = L 4) :
    (Scalar.addi (Scalar.addi (Scalar.addi (Scalar.addi (Scalar.addi 0#32 w0) w1) w2) w3) w4).toNat = Cert.KernelIdeal.Final.start L 5 := by
  have h := hL 5
  have e : Cert.KernelIdeal.Final.start L 5 = L 0 + L 1 + L 2 + L 3 + L 4 := by simp [Cert.KernelIdeal.Final.start, Fin.sum_univ_six]
  rw [e] at h ⊢
  simp only [Scalar.addi, IntOp.addi, BitVec.toNat_add, BitVec.toNat_ofNat, h0, h1, h2, h3, h4]
  omega

section

variable (m : (ℓ : Loc nD τ sig) → Buf (Elt Ideal) ℓ) (c : Dev nD)

theorem zero_scale (n a : ℕ) : 0 * n + a = a := by omega

theorem blk0 (t : Fin cfg0.N) (b : Fin 6) : iblk m c 0 t (ix1 b) = m ((c : Thread nD τ).loc main_arg0) (ix1 b) := by
  blk_ext! [iblk, V] <;> exact zero_scale _ _
theorem blk1 (t : Fin cfg0.N) (r : Fin 880) (k : Fin 5120) : iblk m c 1 t (ix2 r k) = m ((c : Thread nD τ).loc main_arg1) (ix2 r k) := by
  blk_ext! [iblk, V] <;> exact zero_scale _ _
theorem blk2 (t : Fin cfg0.N) (r : Fin 880) (l : Fin 128) : iblk m c 2 t (ix2 r l) = m ((c : Thread nD τ).loc main_arg2) (ix2 r l) := by
  blk_ext! [iblk, V] <;> exact zero_scale _ _
theorem blk3 (t : Fin cfg0.N) (k : Fin 5120) (v : Fin 32000) : iblk m c 3 t (ix2 k v) = m ((c : Thread nD τ).loc main_arg3) (ix2 k v) := by
  blk_ext! [iblk, V] <;> exact zero_scale _ _
theorem blk4 (t : Fin cfg0.N) (a : Fin 40) (b : Fin 250) : iblk m c 4 t (ix2 a b) = m ((c : Thread nD τ).loc main_arg4) (ix2 a b) := by
  blk_ext! [iblk, V] <;> exact zero_scale _ _

/-- Loading a whole array gives what it holds. -/
theorem load_whole {sp : Space} {d0 d1 : ℕ} {e : EltTy} {a : Memref sig .tc sp ⟨2, ![d0, d1]⟩ e} (ha : a.IsWhole) (x) (inb)
    (y : (⟨2, ![d0, d1]⟩ : Shape).Idx) :
    a.view.readAt (Elt Ideal) (Rect.unit (s := ⟨2, ![d0, d1]⟩) ![0, 0] ![d0, d1] inb).toLoadRect (ha.unread x) y = x y := by
  rw [View.readAt_apply, Memref.IsWhole.read_unread, Cert.KernelIdeal.Logits.idx_whole]

theorem row_congr {Y Y' : Vec Ideal S880x5120 .bf16} {W W' : Vec Ideal S5120x32000 .fp8e4m3} {S S' : Vec Ideal S40x250 .f32} {r : Fin 880}
    (hY : ∀ k, Y (ix2 r k) = Y' (ix2 r k)) (hW : ∀ k v, W (ix2 k v) = W' (ix2 k v)) (hS : ∀ a b, S (ix2 a b) = S' (ix2 a b)) :
    rowOf Y W S r = rowOf Y' W' S' r := by
  funext v
  unfold rowOf Cert.KernelIdeal.Lane.logit
  by_cases h : v < 32000
  · rw [dif_pos h, dif_pos h]
    refine Finset.sum_congr rfl fun k _ => ?_
    rw [hY, hW, hS]
  · rw [dif_neg h, dif_neg h]

/-- The lengths, as natural numbers. -/
def lens (b : Fin 6) : ℕ := (m ((c : Thread nD τ).loc main_arg0) (ix1 b)).toNat

/-- The loss of packed row `n`. -/
noncomputable def lossAt (n : ℕ) : EReal :=
  if h : n < 880 then
    lossOf (rowOf (m ((c : Thread nD τ).loc main_arg1)) (m ((c : Thread nD τ).loc main_arg3)) (m ((c : Thread nD τ).loc main_arg4)) ⟨n, h⟩)
      (FloatOps.fptosi (F := Ideal) (φ := .f32) 32 (m ((c : Thread nD τ).loc main_arg2) (ix2 ⟨n, h⟩ 0)))
  else 0

/-- A length, as the body reads it. -/
theorem word_at {arg0 : Memref sig .tc .smem S6 .i32} {harg0 : arg0.IsWhole} (t : Fin cfg0.N) (b : ℕ) (hb : b < 6)
    (h : ∀ a, (![b] : Fin 1 → ℕ) a + S1.size a ≤ S6.size a) (h1) :
    (arg0.view.readAt (Elt Ideal) (Rect.unit (s := S6) ![b] S1.size h).toLoadRect (harg0.unread (iblk m c 0 t)) (Shape.Idx.first h1)).toNat
      = lens m c ⟨b, hb⟩ := by
  refine congrArg BitVec.toNat (Eq.trans ?_ (blk0 m c t ⟨b, hb⟩))
  rw [View.readAt_apply, Memref.IsWhole.read_unread]
  refine congrArg _ (funext fun a => ?_)
  fin_cases a
  exact Fin.ext (by show b + 1 * _ = b; simp [Shape.Idx.first])

/-- What the one point leaves in the output block. -/
theorem out (hF : Cert.Lens.Fits (m ((c : Thread nD τ).loc main_arg0))) (t : Fin cfg0.N) :
    outsAt0 m c t = Cert.KernelIdeal.Final.result (lens m c) (lossAt m c) := by
  have hL' : ∀ b, lens m c b ≤ 256 := hF.le
  have hL : ∀ b, Cert.KernelIdeal.Final.start (lens m c) b + lens m c b ≤ 880 := by
    have h : lens m c 0 + lens m c 1 + lens m c 2 + lens m c 3 + lens m c 4 + lens m c 5 ≤ 880 := hF.sum
    intro b
    fin_cases b <;> simp [Cert.KernelIdeal.Final.start, Fin.sum_univ_six] <;> omega
  have hv : ∀ r : Fin 880, kernelRun0_A.sl.r_1 (F := Ideal) c (ms0_1 t) (hs0_1 t) (ms0_2 t) (hs0_2 t) (ms0_3 t) (hs0_3 t) (ms0_4 t) (hs0_4 t)
      (iblk m c 1 t) (iblk m c 2 t) (iblk m c 3 t) (iblk m c 4 t) (ix2 r 0) = lossAt m c r.val := fun r => by
    unfold kernelRun0_A.sl.r_1
    refine (pay2_at _ _ _ _ r).trans ?_
    unfold lossAt
    rw [dif_pos r.isLt]
    refine congrArg₂ lossOf (row_congr (fun k => ?_) (fun k v => ?_) (fun a b => ?_)) (congrArg _ ?_)
    · exact (load_whole _ _ _ _).trans (blk1 m c t r k)
    · exact (load_whole _ _ _ _).trans (blk3 m c t k v)
    · exact (load_whole _ _ _ _).trans (blk4 m c t a b)
    · refine Eq.trans ?_ (blk2 m c t r 0)
      rw [View.readAt_apply, Memref.IsWhole.read_unread]
      refine congrArg _ (funext fun a => ?_)
      match a with
      | ⟨0, _⟩ => exact Fin.ext (by show 0 + 1 * r.val = r.val; omega)
      | ⟨1, _⟩ => exact Fin.ext (by show 0 + 1 * 0 = 0; omega)
  have w := fun b hb h h1 => word_at m c (arg0 := ms0_0 t) (harg0 := hs0_0 t) t b hb h h1
  unfold outsAt0 out0_A_5
  funext y
  refine (View.read_writes_junk_apply_eq_canon _ y _).trans ?_
  refine View.canon_apply_of_pieces _ _ ?_ y (cover0_A_5 ..)
  unfold kernelRun0_A
  dsimp only
  refine List.forall_mem_cons.2 ⟨?_, ?_⟩
  · exact fun x => piece hv hL hL' 5 (st5 hL (w 0 (by omega) _ _) (w 1 (by omega) _ _) (w 2 (by omega) _ _) (w 3 (by omega) _ _) (w 4 (by omega) _ _)) (w 5 (by omega) _ _) inb_S6x256_S1x256_5_0 x
  refine List.forall_mem_cons.2 ⟨?_, ?_⟩
  · exact fun x => piece hv hL hL' 4 (st4 hL (w 0 (by omega) _ _) (w 1 (by omega) _ _) (w 2 (by omega) _ _) (w 3 (by omega) _ _)) (w 4 (by omega) _ _) inb_S6x256_S1x256_4_0 x
  refine List.forall_mem_cons.2 ⟨?_, ?_⟩
  · exact fun x => piece hv hL hL' 3 (st3 hL (w 0 (by omega) _ _) (w 1 (by omega) _ _) (w 2 (by omega) _ _)) (w 3 (by omega) _ _) inb_S6x256_S1x256_3_0 x
  refine List.forall_mem_cons.2 ⟨?_, ?_⟩
  · exact fun x => piece hv hL hL' 2 (st2 hL (w 0 (by omega) _ _) (w 1 (by omega) _ _)) (w 2 (by omega) _ _) inb_S6x256_S1x256_2_0 x
  refine List.forall_mem_cons.2 ⟨?_, ?_⟩
  · exact fun x => piece hv hL hL' 1 (st1 hL (w 0 (by omega) _ _)) (w 1 (by omega) _ _) inb_S6x256_S1x256_1_0 x
  refine List.forall_mem_cons.2 ⟨?_, ?_⟩
  · exact fun x => piece hv hL hL' 0 (st0 hL ) (w 0 (by omega) _ _) inb_S6x256_S1x256_0_0 x
  exact fun _ h => absurd h List.not_mem_nil

/-- The run. -/
theorem run (ρ : Dev nD → PrngReg) (hF : ∀ c : Dev nD, Cert.Lens.Fits (m ((c : Thread nD τ).loc main_arg0))) :
    θ_run defs (onTc (τ := τ) (main (F := Ideal))) ⟨m, fun _ => 0, ρ⟩ fun r => ∀ c : Dev nD,
      r.2.mem ((c : Thread nD τ).loc main_v0) = Cert.KernelIdeal.Final.result (lens m c) (lossAt m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (by
    refine (dats m 0 c).arrAt_eq_of_after_last 5 (⟨0, by decide⟩ : Fin grid0.N) (by decide +kernel) _ fun j => ?_
    have e : (dats m 0 c).after 5 (⟨0, by decide⟩ : Fin grid0.N) = Cert.KernelIdeal.Final.result (lens m c) (lossAt m c) :=
      (after0_5 m c _).trans (out m c (hF c) _)
    rw [e]
    rfl), (h c).2⟩) (Value.run_blocks m ρ)

end

end Cert.ReferenceIdeal.Ref
-- ==== Proof.Equation.lean ====
/- The equation: from equal arguments, the kernel's result is the reference's. -/
module

public import proofs.«01_k».proof.Proof.KRun
public import proofs.«01_k».proof.Proof.Ref
public import proofs.«01_k».proof.Defs

@[expose] public section

set_option maxRecDepth 65536

open Idealize.ShloMosaic Idealize.ShloMosaic.TcCoe Idealize.SL.Sem

namespace Cert.Equation

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The two results are the same function of the arguments. -/
theorem result_eq (c : Dev 1)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.KernelIdeal.Final.result (Cert.ReferenceIdeal.Ref.lens m' c) (Cert.ReferenceIdeal.Ref.lossAt m' c)
      = Cert.KernelIdeal.Final.result (Cert.KernelIdeal.Final.lens m c) (Cert.KernelIdeal.Final.lossAt m c) := by
  refine congrArg₂ Cert.KernelIdeal.Final.result ?_ ?_
  · unfold Cert.ReferenceIdeal.Ref.lens Cert.KernelIdeal.Final.lens
    rw [h0]
  · funext n
    unfold Cert.ReferenceIdeal.Ref.lossAt Cert.KernelIdeal.Final.lossAt
    by_cases h : n < 880
    · rw [dif_pos h, dif_pos h, h1, h2, h3, h4]
      rfl
    · rw [dif_neg h, dif_neg h]

/-- The kernel and the reference compute the same function over the extended reals. -/
theorem algebraic : Cert.algebraic_KernelIdeal_ReferenceIdeal (hKernelIdeal := Cert.KernelIdeal.Gen.facts)
    (hReferenceIdeal := Cert.ReferenceIdeal.Gen.facts) (hPre_packed := Cert.Pre_packed.Gen.facts) := by
  intro m g m' g' hp ha
  have hF : ∀ c : Dev 1, Cert.Lens.Fits (m ((c.tc : Thread Cert.KernelIdeal.nD Cert.KernelIdeal.τ).loc Cert.KernelIdeal.main_arg0)) :=
    fun c => Cert.Lens.fits_of_pre _ _ _ _ _ (hp c)
  refine ⟨fun c => Cert.KernelIdeal.Final.result (Cert.KernelIdeal.Final.lens m c) (Cert.KernelIdeal.Final.lossAt m c),
    Cert.KernelIdeal.KRun.run m g (Cert.KernelIdeal.Hyp.ok m) (Cert.KernelIdeal.Hyp.hyps_of_fits m (hF 0)) (hF 0)
      (fun c r l => Cert.Lens.lanes_of_pre _ _ _ _ _ (hp c) r l), ?_⟩
  refine (θ_run Cert.ReferenceIdeal.defs _ _).mono (fun r h c => ⟨(h c).1.trans ?_, (h c).2⟩)
    (Cert.ReferenceIdeal.Ref.run m' g' fun c => (ha c).1 ▸ hF c)
  exact result_eq m m' c (ha c).1 (ha c).2.1 (ha c).2.2.1 (ha c).2.2.2.1 (ha c).2.2.2.2

end Cert.Equation
-- ==== Proof.ProjIdealKit.lean ====
/- The projection's frame, written out: what the launch hands the body, the branch conditions in closed form, the buffers. -/
module

public import proofs.«01_k».proof.Proof.Gen.ProjIdeal.Launch
public import proofs.«01_k».proof.Proof.Gen.ProjIdeal.Skeleton
public import proofs.«01_k».proof.Proof.Gen.ProjIdeal.Loops
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.ProjIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.ProjIdeal Cert.ProjIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers when the call starts: as launched. -/
abbrev V (c : Dev nD) (b : Ref sig .tc) : Buf (Elt F) ((c : Thread nD τ).loc b) := m ((c : Thread nD τ).loc b)

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The lengths, as the call finds them. -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
theorem ok : ok0 (F := F) (tbl m) := trivial
abbrev adm : (pcfg0 (F := F)).Adm := ⟨tbl m, ok m⟩
abbrev cfgM : Pipeline.Cfg sig Λ₀ := cfg0 (adm m)

/-- The lengths' buffer as the body is handed it. -/
abbrev tbM0_0 : Memref sig .tc .smem S6 .i32 := Memref.whole main_arg0
abbrev htbM0_0 : tbM0_0.IsWhole := Memref.isWhole_whole _

/-- That buffer held at half the full share, for reading. -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f
theorem PhiT_eq (c : Dev nD) : (Pipeline.ΦT pre0 (tbl m) c : sProp 𝕄) = iprop(tbPt c tbM0_0 (tbl m 0)) := by
  unfold Pipeline.ΦT Pipeline.prefHeld
  rw [show (Finset.univ : Finset (Fin 1)) = {(0 : Fin 1)} from by decide, bigSep_singleton]
  rfl

/-- The block of input window `w` at point `t`. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- The body's three branch conditions: the first column block; the first point; the last column block. -/
abbrev cond1 (i : grid0.Coords) : Prop := k0_cond1 i = 1#1
abbrev cond2 (i : grid0.Coords) : Prop := k0_cond2 i = 1#1
abbrev cond3 (i : grid0.Coords) : Prop := k0_cond3 i = 1#1
theorem coords0 (t : Fin grid0.N) : (grid0.coords t 0).val = t.val / 10 % 6 := Pipeline.Grid.coords_val t 0 (by decide) rfl
theorem coords1 (t : Fin grid0.N) : (grid0.coords t 1).val = t.val / 1 % 10 := Pipeline.Grid.coords_val t 1 (by decide) rfl
theorem hcond1 (t : Fin grid0.N) : cond1 (grid0.coords t) ↔ t.val % 10 = 0 := by
  have ht : t.val < 60 := Nat.lt_of_lt_of_eq t.isLt N_0
  simp only [cond1, k0_cond1, coords1 t]
  word_cmp
theorem hcond3 (t : Fin grid0.N) : cond3 (grid0.coords t) ↔ t.val % 10 = 9 := by
  have ht : t.val < 60 := Nat.lt_of_lt_of_eq t.isLt N_0
  simp only [cond3, k0_cond3, coords1 t]
  word_cmp
theorem hcond2 : ∀ t : Fin grid0.N, cond2 (grid0.coords t) ↔ t.val = 0 := by
  decide +kernel

/-- Each window's staging buffer at point `t`. -/
abbrev ms0 (t : Fin (cfgM m).N) : Memref sig .tc .vmem S256x10240 .fp8e4m3 := spec0_0.stage ((cfgM m).slots t 0)
abbrev hs0 (t : Fin (cfgM m).N) : (ms0 m t).IsWhole := hstage0_0 (((cfgM m).slots t 0).cast nbuf0_0)
abbrev ms1 (t : Fin (cfgM m).N) : Memref sig .tc .vmem S256x80 .f32 := spec0_1.stage ((cfgM m).slots t 1)
abbrev hs1 (t : Fin (cfgM m).N) : (ms1 m t).IsWhole := hstage0_1 (((cfgM m).slots t 1).cast nbuf0_1)
abbrev ms2 (t : Fin (cfgM m).N) : Memref sig .tc .vmem S10240x512 .fp8e4m3 := spec0_2.stage ((cfgM m).slots t 2)
abbrev hs2 (t : Fin (cfgM m).N) : (ms2 m t).IsWhole := hstage0_2 (((cfgM m).slots t 2).cast nbuf0_2)
abbrev ms3 (t : Fin (cfgM m).N) : Memref sig .tc .smem S80x40 .f32 := spec0_3.stage ((cfgM m).slots t 3)
abbrev hs3 (t : Fin (cfgM m).N) : (ms3 m t).IsWhole := hstage0_3 (((cfgM m).slots t 3).cast nbuf0_3)
abbrev ms4 (t : Fin (cfgM m).N) : Memref sig .tc .vmem S1x5120 .f32 := spec0_4.stage ((cfgM m).slots t 4)
abbrev hs4 (t : Fin (cfgM m).N) : (ms4 m t).IsWhole := hstage0_4 (((cfgM m).slots t 4).cast nbuf0_4)
abbrev ms5 (t : Fin (cfgM m).N) : Memref sig .tc .vmem S256x1 .i32 := spec0_5.stage ((cfgM m).slots t 5)
abbrev hs5 (t : Fin (cfgM m).N) : (ms5 m t).IsWhole := hstage0_5 (((cfgM m).slots t 5).cast nbuf0_5)
abbrev ms6 (t : Fin (cfgM m).N) : Memref sig .tc .vmem S256x512 .bf16 := spec0_6.stage ((cfgM m).slots t 6)
abbrev hs6 (t : Fin (cfgM m).N) : (ms6 m t).IsWhole := hstage0_6 (((cfgM m).slots t 6).cast nbuf0_6)
abbrev ms7 (t : Fin (cfgM m).N) : Memref sig .tc .vmem S256x5120 .fp8e4m3 := spec0_7.stage ((cfgM m).slots t 7)
abbrev hs7 (t : Fin (cfgM m).N) : (ms7 m t).IsWhole := hstage0_7 (((cfgM m).slots t 7).cast nbuf0_7)
abbrev ms8 (t : Fin (cfgM m).N) : Memref sig .tc .vmem S256x40 .f32 := spec0_8.stage ((cfgM m).slots t 8)
abbrev hs8 (t : Fin (cfgM m).N) : (ms8 m t).IsWhole := hstage0_8 (((cfgM m).slots t 8).cast nbuf0_8)
abbrev ms9 (t : Fin (cfgM m).N) : Memref sig .tc .vmem S880x5120 .bf16 := spec0_9.stage ((cfgM m).slots t 9)
abbrev hs9 (t : Fin (cfgM m).N) : (ms9 m t).IsWhole := hstage0_9 (((cfgM m).slots t 9).cast nbuf0_9)
abbrev ms10 (t : Fin (cfgM m).N) : Memref sig .tc .vmem S880x128 .f32 := spec0_10.stage ((cfgM m).slots t 10)
abbrev hs10 (t : Fin (cfgM m).N) : (ms10 m t).IsWhole := hstage0_10 (((cfgM m).slots t 10).cast nbuf0_10)

/-- The scratch buffers: the dequantised rows of x, the dequantised block of w, the product's rows, the normalised rows. -/
abbrev sc0 : Memref sig .tc .vmem S256x10240 .bf16 := Memref.whole cc0_scratch0
abbrev sc1 : Memref sig .tc .vmem S10240x512 .bf16 := Memref.whole cc0_scratch1
abbrev sc2 : Memref sig .tc .vmem S256x5120 .f32 := Memref.whole cc0_scratch2
abbrev sc3 : Memref sig .tc .vmem S41x288x128 .f32 := Memref.whole cc0_scratch3
theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

theorem before0_of {c : Dev nD} (dat : Dat τ (Elt F) Unit ℕ (UR sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ (cfgM m) c) (hA : dat.A 2 = V m c (Pipeline.arrRef spec0 2))
    (hafter : ∀ t, dat.after 2 t = iblk m c 2 t) (t : Fin (cfgM m).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ (cfgM m) c) (hA : dat.A 3 = V m c (Pipeline.arrRef spec0 3))
    (hafter : ∀ t, dat.after 3 t = iblk m c 3 t) (t : Fin (cfgM m).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ (cfgM m) c) (hA : dat.A 4 = V m c (Pipeline.arrRef spec0 4))
    (hafter : ∀ t, dat.after 4 t = iblk m c 4 t) (t : Fin (cfgM m).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ (cfgM m) c) (hA : dat.A 5 = V m c (Pipeline.arrRef spec0 5))
    (hafter : ∀ t, dat.after 5 t = iblk m c 5 t) (t : Fin (cfgM m).N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

end Cert.ProjIdeal.Hand

end
-- ==== Proof.ProjIdealDq.lean ====
/- What the loop that dequantises the rows of x leaves in their buffer. -/
module

public import proofs.«01_k».proof.Proof.ProjIdealKit

@[expose] public section

set_option maxRecDepth 16384

noncomputable section

namespace Cert.ProjIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.ProjIdeal Cert.ProjIdeal.Gen

variable {F : FTy → Type} [FloatOps F]

local notation "𝕄" => MT nD τ sig Unit (Elt F) ℕ (UR sig nD τ) ℕ

/-- What the dequantised rows' buffer holds after the loop that fills it: the loop's pieces over some contents. -/
def DqOf (c : Dev nD) (i : grid0.Coords) (arg2 : Memref sig .tc .smem S6 .i32) (harg2 : arg2.IsWhole) (arg3 : Memref sig .tc .vmem S256x10240 .fp8e4m3) (harg3 : arg3.IsWhole) (arg4 : Memref sig .tc .vmem S256x80 .f32) (harg4 : arg4.IsWhole) (arg5 : Memref sig .tc .vmem S10240x512 .fp8e4m3) (harg5 : arg5.IsWhole) (arg6 : Memref sig .tc .smem S80x40 .f32) (harg6 : arg6.IsWhole) (arg7 : Memref sig .tc .vmem S1x5120 .f32) (harg7 : arg7.IsWhole) (arg8 : Memref sig .tc .vmem S256x1 .i32) (harg8 : arg8.IsWhole) (arg9 : Memref sig .tc .vmem S256x512 .bf16) (harg9 : arg9.IsWhole) (arg10 : Memref sig .tc .vmem S256x5120 .fp8e4m3) (harg10 : arg10.IsWhole) (arg11 : Memref sig .tc .vmem S256x40 .f32) (harg11 : arg11.IsWhole) (arg12 : Memref sig .tc .vmem S880x5120 .bf16) (harg12 : arg12.IsWhole) (arg13 : Memref sig .tc .vmem S880x128 .f32) (harg13 : arg13.IsWhole) (arg14 : Memref sig .tc .vmem S256x10240 .bf16) (harg14 : arg14.IsWhole) (arg15 : Memref sig .tc .vmem S10240x512 .bf16) (harg15 : arg15.IsWhole) (arg16 : Memref sig .tc .vmem S256x5120 .f32) (harg16 : arg16.IsWhole) (arg17 : Memref sig .tc .vmem S41x288x128 .f32) (harg17 : arg17.IsWhole) (h : cond1 i)
    (x0 : Vec F S256x10240 .fp8e4m3) (x1 : Vec F S256x80 .f32) (f : BufTy.Contents (Elt F) arg14.view.ty) : Prop :=
  ∃ g, f = arg14.view.writes (Elt F) g (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h (harg3.unread x0) (harg4.unread x1) k0_t1_loop.trips)

/-- After that loop the buffer is held at contents of which this alone is remembered. -/
instance dqExit (c : Dev nD) (E : Set ℕ) (i : grid0.Coords) (arg2 : Memref sig .tc .smem S6 .i32) (harg2 : arg2.IsWhole) (arg3 : Memref sig .tc .vmem S256x10240 .fp8e4m3) (harg3 : arg3.IsWhole) (arg4 : Memref sig .tc .vmem S256x80 .f32) (harg4 : arg4.IsWhole) (arg5 : Memref sig .tc .vmem S10240x512 .fp8e4m3) (harg5 : arg5.IsWhole) (arg6 : Memref sig .tc .smem S80x40 .f32) (harg6 : arg6.IsWhole) (arg7 : Memref sig .tc .vmem S1x5120 .f32) (harg7 : arg7.IsWhole) (arg8 : Memref sig .tc .vmem S256x1 .i32) (harg8 : arg8.IsWhole) (arg9 : Memref sig .tc .vmem S256x512 .bf16) (harg9 : arg9.IsWhole) (arg10 : Memref sig .tc .vmem S256x5120 .fp8e4m3) (harg10 : arg10.IsWhole) (arg11 : Memref sig .tc .vmem S256x40 .f32) (harg11 : arg11.IsWhole) (arg12 : Memref sig .tc .vmem S880x5120 .bf16) (harg12 : arg12.IsWhole) (arg13 : Memref sig .tc .vmem S880x128 .f32) (harg13 : arg13.IsWhole) (arg14 : Memref sig .tc .vmem S256x10240 .bf16) (harg14 : arg14.IsWhole) (arg15 : Memref sig .tc .vmem S10240x512 .bf16) (harg15 : arg15.IsWhole) (arg16 : Memref sig .tc .vmem S256x5120 .f32) (harg16 : arg16.IsWhole) (arg17 : Memref sig .tc .vmem S41x288x128 .f32) (harg17 : arg17.IsWhole) (h : k0_cond1 i = 1#1)
    (x0 : Vec F S256x10240 .fp8e4m3) (x1 : Vec F S256x80 .f32) (G : BufTy.Contents (Elt F) arg14.view.ty) :
    LoopExit (loopInv_k0_t1 (F := F) Variants.none c none E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h (harg3.unread x0) (harg4.unread x1) G) where
  post _ := iprop((arg3.view.loc (c : Thread nD τ) ↦[arg3.view.set]{fullShare} harg3.unread x0) ∗ (arg4.view.loc (c : Thread nD τ) ↦[arg4.view.set]{fullShare} harg4.unread x1)
    ∗ (∃ f, (arg14.view.loc (c : Thread nD τ) ↦[arg14.view.set]{fullShare} f) ∗ ⌜DqOf c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h x0 x1 f⌝))
  exit acc := by
    show inv_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h (harg3.unread x0) (harg4.unread x1) G k0_t1_loop.trips acc ⊢ _
    iintro ⟨H3, H4, ⟨%f, H14, %hf⟩⟩
    isplitl [H3]; · iexact H3
    isplitl [H4]; · iexact H4
    iexists f; isplitl [H14]; · iexact H14
    ipureintro; exact ⟨G, hf⟩

end Cert.ProjIdeal.Hand

end
-- ==== Proof.ProjIdealRunA.lean ====
/- The run of the projection's body in case A. -/
module

public import proofs.«01_k».proof.Proof.ProjIdealDq

@[expose] public section

set_option maxRecDepth 16384

noncomputable section

namespace Cert.ProjIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.ProjIdeal Cert.ProjIdeal.Gen

variable {F : FTy → Type} [FloatOps F]

local notation "𝕄" => MT nD τ sig Unit (Elt F) ℕ (UR sig nD τ) ℕ

set_option maxHeartbeats 40000000 in
/-- The body's run at the first point of all: the rows of x are dequantised and the packed rows cleared. The pieces stored into the block of `ph`, as a function of what the dequantised rows' buffer then holds, are found by the run; the
    inputs are left as they were, the dequantised rows are written, and everything else ends at some contents. -/
noncomputable def runA (c : Dev nD) (i : grid0.Coords) (arg3 : Memref sig .tc .vmem S256x10240 .fp8e4m3) (harg3 : arg3.IsWhole) (arg4 : Memref sig .tc .vmem S256x80 .f32) (harg4 : arg4.IsWhole) (arg5 : Memref sig .tc .vmem S10240x512 .fp8e4m3) (harg5 : arg5.IsWhole) (arg6 : Memref sig .tc .smem S80x40 .f32) (harg6 : arg6.IsWhole) (arg7 : Memref sig .tc .vmem S1x5120 .f32) (harg7 : arg7.IsWhole) (arg8 : Memref sig .tc .vmem S256x1 .i32) (harg8 : arg8.IsWhole) (arg9 : Memref sig .tc .vmem S256x512 .bf16) (harg9 : arg9.IsWhole) (arg10 : Memref sig .tc .vmem S256x5120 .fp8e4m3) (harg10 : arg10.IsWhole) (arg11 : Memref sig .tc .vmem S256x40 .f32) (harg11 : arg11.IsWhole) (arg12 : Memref sig .tc .vmem S880x5120 .bf16) (harg12 : arg12.IsWhole) (arg13 : Memref sig .tc .vmem S880x128 .f32) (harg13 : arg13.IsWhole) (arg14 : Memref sig .tc .vmem S256x10240 .bf16) (harg14 : arg14.IsWhole) (arg15 : Memref sig .tc .vmem S10240x512 .bf16) (harg15 : arg15.IsWhole) (arg16 : Memref sig .tc .vmem S256x5120 .f32) (harg16 : arg16.IsWhole) (arg17 : Memref sig .tc .vmem S41x288x128 .f32) (harg17 : arg17.IsWhole)
    (hc1 : cond1 i) (hc2 : cond2 i) (hc3 : ¬cond3 i)
    (x0 : Vec F S256x10240 .fp8e4m3) (x1 : Vec F S256x80 .f32) (x2 : Vec F S10240x512 .fp8e4m3) (x3 : Vec F S80x40 .f32) (x4 : Vec F S1x5120 .f32) (x5 : Vec F S256x1 .i32) (xt : TbBuf (F := F) c tbM0_0) :
     { L9 : BufTy.Contents (Elt F) arg14.view.ty → List (View.Piece (Elt F) S256x512 .bf16) //
      ∀ (E : Set ℕ) (K : PUnit → sProp 𝕄),
        iprop((owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ tbPt c tbM0_0 xt) ∗ ((∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg15 fullShare d) ∗ (∃ d, owns (c : Thread nD τ) arg16 fullShare d) ∗ (∃ d, owns (c : Thread nD τ) arg17 fullShare d)) ∗ (∃ d, owns (c : Thread nD τ) arg9 fullShare d) ∗ (∃ d, owns (c : Thread nD τ) arg14 fullShare d)
            ∗ (iprop((owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ tbPt c tbM0_0 xt) ∗ ((∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg15 fullShare d) ∗ (∃ d, owns (c : Thread nD τ) arg16 fullShare d) ∗ (∃ d, owns (c : Thread nD τ) arg17 fullShare d)) ∗ ∃ f14, ⌜DqOf c i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 x0 x1 f14⌝ ∗ (arg14.view.loc (c : Thread nD τ) ↦[arg14.view.set]{fullShare} f14) ∗ (∃ f, arg9.view.loc (c : Thread nD τ) ↦[arg9.view.set]{fullShare} arg9.view.writes (Elt F) f (L9 f14))) -∗ K ⟨⟩))
          ⊢ wp frame (wpE (defs₀ (F := F)) Variants.none c none) E (cc0_proj i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, fun E K => ?run⟩
  case run =>
    simp only [cc0_proj_eq_skeleton]; unfold cc0_proj_skel
    simp only [k0_part315_eq_skeleton, k0_part316_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton]
    unfold owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, HT⟩, ⟨⟨%d10, %f10, -, H10⟩, ⟨%d11, %f11, -, H11⟩, ⟨%d12, %f12, -, H12⟩, ⟨%d13, %f13, -, H13⟩, ⟨%d15, %f15, -, H15⟩, ⟨%d16, %f16, -, H16⟩, ⟨%d17, %f17, -, H17⟩⟩, ⟨%d9, %f9, -, H9⟩, ⟨%d14, %f14, -, H14⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5

    sl_exec (disch := first | sl_exact hc1 | sl_exact hc2 | sl_exact hc3)
    sl_step
    iapply Hk
    isplitl [H0 H1 H2 H3 H4 H5 HT]
    · isplitl [H0]
      · iexists _; isplitr; · ipureintro; exact harg3.read_unread _
        iexact H0
      isplitl [H1]
      · iexists _; isplitr; · ipureintro; exact harg4.read_unread _
        iexact H1
      isplitl [H2]
      · iexists _; isplitr; · ipureintro; exact harg5.read_unread _
        iexact H2
      isplitl [H3]
      · iexists _; isplitr; · ipureintro; exact harg6.read_unread _
        iexact H3
      isplitl [H4]
      · iexists _; isplitr; · ipureintro; exact harg7.read_unread _
        iexact H4
      isplitl [H5]
      · iexists _; isplitr; · ipureintro; exact harg8.read_unread _
        iexact H5
      iexact HT
    isplitl [H10 H11 H12 H13 H15 H16 H17]
    · isplitl [H10]
      · iexists _, _; isplitr; swap; · iexact H10
        ipureintro; rfl
      isplitl [H11]
      · iexists _, _; isplitr; swap; · iexact H11
        ipureintro; rfl
      isplitl [H12]
      · iexists _, _; isplitr; swap; · iexact H12
        ipureintro; rfl
      isplitl [H13]
      · iexists _, _; isplitr; swap; · iexact H13
        ipureintro; rfl
      isplitl [H15]
      · iexists _, _; isplitr; swap; · iexact H15
        ipureintro; rfl
      isplitl [H16]
      · iexists _, _; isplitr; swap; · iexact H16
        ipureintro; rfl
      iexists _, _; isplitr; swap; · iexact H17
      ipureintro; rfl
    iexists fL0; isplitr; · ipureintro; assumption
    isplitl [H14]; · iexact H14
    iexists _; iexact H9

end Cert.ProjIdeal.Hand

end
-- ==== Proof.ProjIdealRunB.lean ====
/- The run of the projection's body in case B. -/
module

public import proofs.«01_k».proof.Proof.ProjIdealDq

@[expose] public section

set_option maxRecDepth 16384

noncomputable section

namespace Cert.ProjIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.ProjIdeal Cert.ProjIdeal.Gen

variable {F : FTy → Type} [FloatOps F]

local notation "𝕄" => MT nD τ sig Unit (Elt F) ℕ (UR sig nD τ) ℕ

set_option maxHeartbeats 40000000 in
/-- The body's run at the first column block of a later row block: the rows of x are dequantised. The pieces stored into the block of `ph`, as a function of what the dequantised rows' buffer then holds, are found by the run; the
    inputs are left as they were, the dequantised rows are written, and everything else ends at some contents. -/
noncomputable def runB (c : Dev nD) (i : grid0.Coords) (arg3 : Memref sig .tc .vmem S256x10240 .fp8e4m3) (harg3 : arg3.IsWhole) (arg4 : Memref sig .tc .vmem S256x80 .f32) (harg4 : arg4.IsWhole) (arg5 : Memref sig .tc .vmem S10240x512 .fp8e4m3) (harg5 : arg5.IsWhole) (arg6 : Memref sig .tc .smem S80x40 .f32) (harg6 : arg6.IsWhole) (arg7 : Memref sig .tc .vmem S1x5120 .f32) (harg7 : arg7.IsWhole) (arg8 : Memref sig .tc .vmem S256x1 .i32) (harg8 : arg8.IsWhole) (arg9 : Memref sig .tc .vmem S256x512 .bf16) (harg9 : arg9.IsWhole) (arg10 : Memref sig .tc .vmem S256x5120 .fp8e4m3) (harg10 : arg10.IsWhole) (arg11 : Memref sig .tc .vmem S256x40 .f32) (harg11 : arg11.IsWhole) (arg12 : Memref sig .tc .vmem S880x5120 .bf16) (harg12 : arg12.IsWhole) (arg13 : Memref sig .tc .vmem S880x128 .f32) (harg13 : arg13.IsWhole) (arg14 : Memref sig .tc .vmem S256x10240 .bf16) (harg14 : arg14.IsWhole) (arg15 : Memref sig .tc .vmem S10240x512 .bf16) (harg15 : arg15.IsWhole) (arg16 : Memref sig .tc .vmem S256x5120 .f32) (harg16 : arg16.IsWhole) (arg17 : Memref sig .tc .vmem S41x288x128 .f32) (harg17 : arg17.IsWhole)
    (hc1 : cond1 i) (hc2 : ¬cond2 i) (hc3 : ¬cond3 i)
    (x0 : Vec F S256x10240 .fp8e4m3) (x1 : Vec F S256x80 .f32) (x2 : Vec F S10240x512 .fp8e4m3) (x3 : Vec F S80x40 .f32) (x4 : Vec F S1x5120 .f32) (x5 : Vec F S256x1 .i32) (xt : TbBuf (F := F) c tbM0_0) :
     { L9 : BufTy.Contents (Elt F) arg14.view.ty → List (View.Piece (Elt F) S256x512 .bf16) //
      ∀ (E : Set ℕ) (K : PUnit → sProp 𝕄),
        iprop((owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ tbPt c tbM0_0 xt) ∗ ((∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg15 fullShare d) ∗ (∃ d, owns (c : Thread nD τ) arg16 fullShare d) ∗ (∃ d, owns (c : Thread nD τ) arg17 fullShare d)) ∗ (∃ d, owns (c : Thread nD τ) arg9 fullShare d) ∗ (∃ d, owns (c : Thread nD τ) arg14 fullShare d)
            ∗ (iprop((owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ tbPt c tbM0_0 xt) ∗ ((∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg15 fullShare d) ∗ (∃ d, owns (c : Thread nD τ) arg16 fullShare d) ∗ (∃ d, owns (c : Thread nD τ) arg17 fullShare d)) ∗ ∃ f14, ⌜DqOf c i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 x0 x1 f14⌝ ∗ (arg14.view.loc (c : Thread nD τ) ↦[arg14.view.set]{fullShare} f14) ∗ (∃ f, arg9.view.loc (c : Thread nD τ) ↦[arg9.view.set]{fullShare} arg9.view.writes (Elt F) f (L9 f14))) -∗ K ⟨⟩))
          ⊢ wp frame (wpE (defs₀ (F := F)) Variants.none c none) E (cc0_proj i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, fun E K => ?run⟩
  case run =>
    simp only [cc0_proj_eq_skeleton]; unfold cc0_proj_skel
    simp only [k0_part315_eq_skeleton, k0_part316_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton]
    unfold owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, HT⟩, ⟨⟨%d10, %f10, -, H10⟩, ⟨%d11, %f11, -, H11⟩, ⟨%d12, %f12, -, H12⟩, ⟨%d13, %f13, -, H13⟩, ⟨%d15, %f15, -, H15⟩, ⟨%d16, %f16, -, H16⟩, ⟨%d17, %f17, -, H17⟩⟩, ⟨%d9, %f9, -, H9⟩, ⟨%d14, %f14, -, H14⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5

    sl_exec (disch := first | sl_exact hc1 | sl_exact hc2 | sl_exact hc3)
    sl_step
    iapply Hk
    isplitl [H0 H1 H2 H3 H4 H5 HT]
    · isplitl [H0]
      · iexists _; isplitr; · ipureintro; exact harg3.read_unread _
        iexact H0
      isplitl [H1]
      · iexists _; isplitr; · ipureintro; exact harg4.read_unread _
        iexact H1
      isplitl [H2]
      · iexists _; isplitr; · ipureintro; exact harg5.read_unread _
        iexact H2
      isplitl [H3]
      · iexists _; isplitr; · ipureintro; exact harg6.read_unread _
        iexact H3
      isplitl [H4]
      · iexists _; isplitr; · ipureintro; exact harg7.read_unread _
        iexact H4
      isplitl [H5]
      · iexists _; isplitr; · ipureintro; exact harg8.read_unread _
        iexact H5
      iexact HT
    isplitl [H10 H11 H12 H13 H15 H16 H17]
    · isplitl [H10]
      · iexists _, _; isplitr; swap; · iexact H10
        ipureintro; rfl
      isplitl [H11]
      · iexists _, _; isplitr; swap; · iexact H11
        ipureintro; rfl
      isplitl [H12]
      · iexists _, _; isplitr; swap; · iexact H12
        ipureintro; rfl
      isplitl [H13]
      · iexists _, _; isplitr; swap; · iexact H13
        ipureintro; rfl
      isplitl [H15]
      · iexists _, _; isplitr; swap; · iexact H15
        ipureintro; rfl
      isplitl [H16]
      · iexists _, _; isplitr; swap; · iexact H16
        ipureintro; rfl
      iexists _, _; isplitr; swap; · iexact H17
      ipureintro; rfl
    iexists fL0; isplitr; · ipureintro; assumption
    isplitl [H14]; · iexact H14
    iexists _; iexact H9

end Cert.ProjIdeal.Hand

end
-- ==== Proof.ProjIdealRunC.lean ====
/- The run of the projection's body in case C. -/
module

public import proofs.«01_k».proof.Proof.ProjIdealDq

@[expose] public section

set_option maxRecDepth 16384

noncomputable section

namespace Cert.ProjIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.ProjIdeal Cert.ProjIdeal.Gen

variable {F : FTy → Type} [FloatOps F]

local notation "𝕄" => MT nD τ sig Unit (Elt F) ℕ (UR sig nD τ) ℕ

set_option maxHeartbeats 40000000 in
/-- The body's run at a column block that is neither first nor last. The pieces stored into the block of `ph` are found by the run; the
    inputs are left as they were, the dequantised rows are left as they were, and everything else ends at some contents. -/
noncomputable def runC (c : Dev nD) (i : grid0.Coords) (arg3 : Memref sig .tc .vmem S256x10240 .fp8e4m3) (harg3 : arg3.IsWhole) (arg4 : Memref sig .tc .vmem S256x80 .f32) (harg4 : arg4.IsWhole) (arg5 : Memref sig .tc .vmem S10240x512 .fp8e4m3) (harg5 : arg5.IsWhole) (arg6 : Memref sig .tc .smem S80x40 .f32) (harg6 : arg6.IsWhole) (arg7 : Memref sig .tc .vmem S1x5120 .f32) (harg7 : arg7.IsWhole) (arg8 : Memref sig .tc .vmem S256x1 .i32) (harg8 : arg8.IsWhole) (arg9 : Memref sig .tc .vmem S256x512 .bf16) (harg9 : arg9.IsWhole) (arg10 : Memref sig .tc .vmem S256x5120 .fp8e4m3) (harg10 : arg10.IsWhole) (arg11 : Memref sig .tc .vmem S256x40 .f32) (harg11 : arg11.IsWhole) (arg12 : Memref sig .tc .vmem S880x5120 .bf16) (harg12 : arg12.IsWhole) (arg13 : Memref sig .tc .vmem S880x128 .f32) (harg13 : arg13.IsWhole) (arg14 : Memref sig .tc .vmem S256x10240 .bf16) (harg14 : arg14.IsWhole) (arg15 : Memref sig .tc .vmem S10240x512 .bf16) (harg15 : arg15.IsWhole) (arg16 : Memref sig .tc .vmem S256x5120 .f32) (harg16 : arg16.IsWhole) (arg17 : Memref sig .tc .vmem S41x288x128 .f32) (harg17 : arg17.IsWhole)
    (hc1 : ¬cond1 i) (hc2 : ¬cond2 i) (hc3 : ¬cond3 i)
    (x0 : Vec F S256x10240 .fp8e4m3) (x1 : Vec F S256x80 .f32) (x2 : Vec F S10240x512 .fp8e4m3) (x3 : Vec F S80x40 .f32) (x4 : Vec F S1x5120 .f32) (x5 : Vec F S256x1 .i32) (xt : TbBuf (F := F) c tbM0_0) (xs : Vec F S256x10240 .bf16) :
     { L9 : List (View.Piece (Elt F) S256x512 .bf16) //
      ∀ (E : Set ℕ) (K : PUnit → sProp 𝕄),
        iprop((owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ tbPt c tbM0_0 xt) ∗ ((∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg15 fullShare d) ∗ (∃ d, owns (c : Thread nD τ) arg16 fullShare d) ∗ (∃ d, owns (c : Thread nD τ) arg17 fullShare d)) ∗ (∃ d, owns (c : Thread nD τ) arg9 fullShare d) ∗ owns (c : Thread nD τ) arg14 fullShare xs
            ∗ (iprop((owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ tbPt c tbM0_0 xt) ∗ ((∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg15 fullShare d) ∗ (∃ d, owns (c : Thread nD τ) arg16 fullShare d) ∗ (∃ d, owns (c : Thread nD τ) arg17 fullShare d)) ∗ (∃ f, arg9.view.loc (c : Thread nD τ) ↦[arg9.view.set]{fullShare} arg9.view.writes (Elt F) f L9) ∗ owns (c : Thread nD τ) arg14 fullShare xs) -∗ K ⟨⟩))
          ⊢ wp frame (wpE (defs₀ (F := F)) Variants.none c none) E (cc0_proj i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, fun E K => ?run⟩
  case run =>
    simp only [cc0_proj_eq_skeleton]; unfold cc0_proj_skel
    simp only [k0_part315_eq_skeleton, k0_part316_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton]
    unfold owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, HT⟩, ⟨⟨%d10, %f10, -, H10⟩, ⟨%d11, %f11, -, H11⟩, ⟨%d12, %f12, -, H12⟩, ⟨%d13, %f13, -, H13⟩, ⟨%d15, %f15, -, H15⟩, ⟨%d16, %f16, -, H16⟩, ⟨%d17, %f17, -, H17⟩⟩, ⟨%d9, %f9, -, H9⟩, ⟨%f14, %hf14, H14⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    obtain rfl := harg14.eq_unread hf14
    sl_exec (disch := first | sl_exact hc1 | sl_exact hc2 | sl_exact hc3)
    sl_step
    iapply Hk
    isplitl [H0 H1 H2 H3 H4 H5 HT]
    · isplitl [H0]
      · iexists _; isplitr; · ipureintro; exact harg3.read_unread _
        iexact H0
      isplitl [H1]
      · iexists _; isplitr; · ipureintro; exact harg4.read_unread _
        iexact H1
      isplitl [H2]
      · iexists _; isplitr; · ipureintro; exact harg5.read_unread _
        iexact H2
      isplitl [H3]
      · iexists _; isplitr; · ipureintro; exact harg6.read_unread _
        iexact H3
      isplitl [H4]
      · iexists _; isplitr; · ipureintro; exact harg7.read_unread _
        iexact H4
      isplitl [H5]
      · iexists _; isplitr; · ipureintro; exact harg8.read_unread _
        iexact H5
      iexact HT
    isplitl [H10 H11 H12 H13 H15 H16 H17]
    · isplitl [H10]
      · iexists _, _; isplitr; swap; · iexact H10
        ipureintro; rfl
      isplitl [H11]
      · iexists _, _; isplitr; swap; · iexact H11
        ipureintro; rfl
      isplitl [H12]
      · iexists _, _; isplitr; swap; · iexact H12
        ipureintro; rfl
      isplitl [H13]
      · iexists _, _; isplitr; swap; · iexact H13
        ipureintro; rfl
      isplitl [H15]
      · iexists _, _; isplitr; swap; · iexact H15
        ipureintro; rfl
      isplitl [H16]
      · iexists _, _; isplitr; swap; · iexact H16
        ipureintro; rfl
      iexists _, _; isplitr; swap; · iexact H17
      ipureintro; rfl
    isplitl [H9]; · iexists _; iexact H9
    iexists _; isplitr; · ipureintro; exact harg14.read_unread _
    iexact H14

end Cert.ProjIdeal.Hand

end
-- ==== Proof.ProjIdealRunD.lean ====
/- The run of the projection's body in case D. -/
module

public import proofs.«01_k».proof.Proof.ProjIdealDq

@[expose] public section

set_option maxRecDepth 16384

noncomputable section

namespace Cert.ProjIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.ProjIdeal Cert.ProjIdeal.Gen

variable {F : FTy → Type} [FloatOps F]

local notation "𝕄" => MT nD τ sig Unit (Elt F) ℕ (UR sig nD τ) ℕ

set_option maxHeartbeats 40000000 in
/-- The body's run at the last column block: the rows are normalised, quantised and packed. The pieces stored into the block of `ph` are found by the run; the
    inputs are left as they were, the dequantised rows are left as they were, and everything else ends at some contents. -/
noncomputable def runD (c : Dev nD) (i : grid0.Coords) (arg3 : Memref sig .tc .vmem S256x10240 .fp8e4m3) (harg3 : arg3.IsWhole) (arg4 : Memref sig .tc .vmem S256x80 .f32) (harg4 : arg4.IsWhole) (arg5 : Memref sig .tc .vmem S10240x512 .fp8e4m3) (harg5 : arg5.IsWhole) (arg6 : Memref sig .tc .smem S80x40 .f32) (harg6 : arg6.IsWhole) (arg7 : Memref sig .tc .vmem S1x5120 .f32) (harg7 : arg7.IsWhole) (arg8 : Memref sig .tc .vmem S256x1 .i32) (harg8 : arg8.IsWhole) (arg9 : Memref sig .tc .vmem S256x512 .bf16) (harg9 : arg9.IsWhole) (arg10 : Memref sig .tc .vmem S256x5120 .fp8e4m3) (harg10 : arg10.IsWhole) (arg11 : Memref sig .tc .vmem S256x40 .f32) (harg11 : arg11.IsWhole) (arg12 : Memref sig .tc .vmem S880x5120 .bf16) (harg12 : arg12.IsWhole) (arg13 : Memref sig .tc .vmem S880x128 .f32) (harg13 : arg13.IsWhole) (arg14 : Memref sig .tc .vmem S256x10240 .bf16) (harg14 : arg14.IsWhole) (arg15 : Memref sig .tc .vmem S10240x512 .bf16) (harg15 : arg15.IsWhole) (arg16 : Memref sig .tc .vmem S256x5120 .f32) (harg16 : arg16.IsWhole) (arg17 : Memref sig .tc .vmem S41x288x128 .f32) (harg17 : arg17.IsWhole)
    (hc1 : ¬cond1 i) (hc2 : ¬cond2 i) (hc3 : cond3 i)
    (x0 : Vec F S256x10240 .fp8e4m3) (x1 : Vec F S256x80 .f32) (x2 : Vec F S10240x512 .fp8e4m3) (x3 : Vec F S80x40 .f32) (x4 : Vec F S1x5120 .f32) (x5 : Vec F S256x1 .i32) (xt : TbBuf (F := F) c tbM0_0) (xs : Vec F S256x10240 .bf16) (hw : ∀ h : k0_cond3 i = 1#1, k0_chk1 i (tbM0_0.view.readAt (Elt F) (Rect.unit (s := S6) ![0] S1.size inb_S6_S1_0).toLoadRect xt (Shape.Idx.first (numel1_S1.symm ▸ Nat.one_pos))) (tbM0_0.view.readAt (Elt F) (Rect.unit (s := S6) ![1] S1.size inb_S6_S1_1).toLoadRect xt (Shape.Idx.first (numel1_S1.symm ▸ Nat.one_pos))) (tbM0_0.view.readAt (Elt F) (Rect.unit (s := S6) ![2] S1.size inb_S6_S1_2).toLoadRect xt (Shape.Idx.first (numel1_S1.symm ▸ Nat.one_pos))) (tbM0_0.view.readAt (Elt F) (Rect.unit (s := S6) ![3] S1.size inb_S6_S1_3).toLoadRect xt (Shape.Idx.first (numel1_S1.symm ▸ Nat.one_pos))) (tbM0_0.view.readAt (Elt F) (Rect.unit (s := S6) ![4] S1.size inb_S6_S1_4).toLoadRect xt (Shape.Idx.first (numel1_S1.symm ▸ Nat.one_pos))) (tbM0_0.view.readAt (Elt F) (Rect.unit (s := S6) ![5] S1.size inb_S6_S1_5).toLoadRect xt (Shape.Idx.first (numel1_S1.symm ▸ Nat.one_pos))) (tbM0_0.view.readAt (Elt F) (Rect.unit (s := S6) (k0_off242 i) S1.size (k0_off242_inb i h)).toLoadRect xt (Shape.Idx.first (numel1_S1.symm ▸ Nat.one_pos)))) :
     { L9 : List (View.Piece (Elt F) S256x512 .bf16) //
      ∀ (E : Set ℕ) (K : PUnit → sProp 𝕄),
        iprop((owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ tbPt c tbM0_0 xt) ∗ ((∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg15 fullShare d) ∗ (∃ d, owns (c : Thread nD τ) arg16 fullShare d) ∗ (∃ d, owns (c : Thread nD τ) arg17 fullShare d)) ∗ (∃ d, owns (c : Thread nD τ) arg9 fullShare d) ∗ owns (c : Thread nD τ) arg14 fullShare xs
            ∗ (iprop((owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ tbPt c tbM0_0 xt) ∗ ((∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg15 fullShare d) ∗ (∃ d, owns (c : Thread nD τ) arg16 fullShare d) ∗ (∃ d, owns (c : Thread nD τ) arg17 fullShare d)) ∗ (∃ f, arg9.view.loc (c : Thread nD τ) ↦[arg9.view.set]{fullShare} arg9.view.writes (Elt F) f L9) ∗ owns (c : Thread nD τ) arg14 fullShare xs) -∗ K ⟨⟩))
          ⊢ wp frame (wpE (defs₀ (F := F)) Variants.none c none) E (cc0_proj i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, fun E K => ?run⟩
  case run =>
    simp only [cc0_proj_eq_skeleton]; unfold cc0_proj_skel
    simp only [k0_part315_eq_skeleton, k0_part316_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton]
    unfold owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, HT⟩, ⟨⟨%d10, %f10, -, H10⟩, ⟨%d11, %f11, -, H11⟩, ⟨%d12, %f12, -, H12⟩, ⟨%d13, %f13, -, H13⟩, ⟨%d15, %f15, -, H15⟩, ⟨%d16, %f16, -, H16⟩, ⟨%d17, %f17, -, H17⟩⟩, ⟨%d9, %f9, -, H9⟩, ⟨%f14, %hf14, H14⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    obtain rfl := harg14.eq_unread hf14
    sl_exec (disch := first | sl_exact hc1 | sl_exact hc2 | sl_exact hc3 | sl_exact hw hc3)
    sl_step
    iapply Hk
    isplitl [H0 H1 H2 H3 H4 H5 HT]
    · isplitl [H0]
      · iexists _; isplitr; · ipureintro; exact harg3.read_unread _
        iexact H0
      isplitl [H1]
      · iexists _; isplitr; · ipureintro; exact harg4.read_unread _
        iexact H1
      isplitl [H2]
      · iexists _; isplitr; · ipureintro; exact harg5.read_unread _
        iexact H2
      isplitl [H3]
      · iexists _; isplitr; · ipureintro; exact harg6.read_unread _
        iexact H3
      isplitl [H4]
      · iexists _; isplitr; · ipureintro; exact harg7.read_unread _
        iexact H4
      isplitl [H5]
      · iexists _; isplitr; · ipureintro; exact harg8.read_unread _
        iexact H5
      iexact HT
    isplitl [H10 H11 H12 H13 H15 H16 H17]
    · isplitl [H10]
      · iexists _, _; isplitr; swap; · iexact H10
        ipureintro; rfl
      isplitl [H11]
      · iexists _, _; isplitr; swap; · iexact H11
        ipureintro; rfl
      isplitl [H12]
      · iexists _, _; isplitr; swap; · iexact H12
        ipureintro; rfl
      isplitl [H13]
      · iexists _, _; isplitr; swap; · iexact H13
        ipureintro; rfl
      isplitl [H15]
      · iexists _, _; isplitr; swap; · iexact H15
        ipureintro; rfl
      isplitl [H16]
      · iexists _, _; isplitr; swap; · iexact H16
        ipureintro; rfl
      iexists _, _; isplitr; swap; · iexact H17
      ipureintro; rfl
    isplitl [H9]; · iexists _; iexact H9
    iexists _; isplitr; · ipureintro; exact harg14.read_unread _
    iexact H14

end Cert.ProjIdeal.Hand

end
-- ==== Proof.ProjIdealFrame.lean ====
/- The projection's frame: the body's obligation at every point, over the four cases, and the launch. -/
module

public import proofs.«01_k».proof.Proof.ProjIdealRunA
public import proofs.«01_k».proof.Proof.ProjIdealRunB
public import proofs.«01_k».proof.Proof.ProjIdealRunC
public import proofs.«01_k».proof.Proof.ProjIdealRunD

@[expose] public section

set_option maxRecDepth 16384

noncomputable section

namespace Cert.ProjIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.ProjIdeal Cert.ProjIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The side condition the body assumes of the lengths it loads, at every last column block. -/
def Hyps : Prop := ∀ (c : Dev nD) (t : Fin (cfgM m).N) (h : cond3 (grid0.coords t)),
  k0_chk1 (grid0.coords t) (tbM0_0.view.readAt (Elt F) (Rect.unit (s := S6) ![0] S1.size inb_S6_S1_0).toLoadRect (tbl m 0) (Shape.Idx.first (numel1_S1.symm ▸ Nat.one_pos))) (tbM0_0.view.readAt (Elt F) (Rect.unit (s := S6) ![1] S1.size inb_S6_S1_1).toLoadRect (tbl m 0) (Shape.Idx.first (numel1_S1.symm ▸ Nat.one_pos))) (tbM0_0.view.readAt (Elt F) (Rect.unit (s := S6) ![2] S1.size inb_S6_S1_2).toLoadRect (tbl m 0) (Shape.Idx.first (numel1_S1.symm ▸ Nat.one_pos))) (tbM0_0.view.readAt (Elt F) (Rect.unit (s := S6) ![3] S1.size inb_S6_S1_3).toLoadRect (tbl m 0) (Shape.Idx.first (numel1_S1.symm ▸ Nat.one_pos))) (tbM0_0.view.readAt (Elt F) (Rect.unit (s := S6) ![4] S1.size inb_S6_S1_4).toLoadRect (tbl m 0) (Shape.Idx.first (numel1_S1.symm ▸ Nat.one_pos))) (tbM0_0.view.readAt (Elt F) (Rect.unit (s := S6) ![5] S1.size inb_S6_S1_5).toLoadRect (tbl m 0) (Shape.Idx.first (numel1_S1.symm ▸ Nat.one_pos))) (tbM0_0.view.readAt (Elt F) (Rect.unit (s := S6) (k0_off242 (grid0.coords t)) S1.size (k0_off242_inb (grid0.coords t) h)).toLoadRect (tbl m 0) (Shape.Idx.first (numel1_S1.symm ▸ Nat.one_pos)))

/-! The run of each case at point `t`, on the buffers the pipeline passes. -/
noncomputable abbrev RA (c : Dev nD) (t : Fin (cfgM m).N) (h1 : cond1 (grid0.coords t)) (h2 : cond2 (grid0.coords t)) (h3 : ¬cond3 (grid0.coords t)) :=
  runA (F := F) c (grid0.coords t) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) (ms8 m t) (hs8 m t) (ms9 m t) (hs9 m t) (ms10 m t) (hs10 m t) sc0 (Memref.isWhole_whole _) sc1 (Memref.isWhole_whole _) sc2 (Memref.isWhole_whole _) sc3 (Memref.isWhole_whole _) h1 h2 h3 (iblk m c 0 t) (iblk m c 1 t) (iblk m c 2 t) (iblk m c 3 t) (iblk m c 4 t) (iblk m c 5 t) (tbl m 0)
noncomputable abbrev RB (c : Dev nD) (t : Fin (cfgM m).N) (h1 : cond1 (grid0.coords t)) (h2 : ¬cond2 (grid0.coords t)) (h3 : ¬cond3 (grid0.coords t)) :=
  runB (F := F) c (grid0.coords t) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) (ms8 m t) (hs8 m t) (ms9 m t) (hs9 m t) (ms10 m t) (hs10 m t) sc0 (Memref.isWhole_whole _) sc1 (Memref.isWhole_whole _) sc2 (Memref.isWhole_whole _) sc3 (Memref.isWhole_whole _) h1 h2 h3 (iblk m c 0 t) (iblk m c 1 t) (iblk m c 2 t) (iblk m c 3 t) (iblk m c 4 t) (iblk m c 5 t) (tbl m 0)
noncomputable abbrev RC (c : Dev nD) (t : Fin (cfgM m).N) (h1 : ¬cond1 (grid0.coords t)) (h2 : ¬cond2 (grid0.coords t)) (h3 : ¬cond3 (grid0.coords t)) (xs : Vec F S256x10240 .bf16) :=
  runC (F := F) c (grid0.coords t) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) (ms8 m t) (hs8 m t) (ms9 m t) (hs9 m t) (ms10 m t) (hs10 m t) sc0 (Memref.isWhole_whole _) sc1 (Memref.isWhole_whole _) sc2 (Memref.isWhole_whole _) sc3 (Memref.isWhole_whole _) h1 h2 h3 (iblk m c 0 t) (iblk m c 1 t) (iblk m c 2 t) (iblk m c 3 t) (iblk m c 4 t) (iblk m c 5 t) (tbl m 0) xs
noncomputable abbrev RD (hH : Hyps m) (c : Dev nD) (t : Fin (cfgM m).N) (h1 : ¬cond1 (grid0.coords t)) (h2 : ¬cond2 (grid0.coords t)) (h3 : cond3 (grid0.coords t)) (xs : Vec F S256x10240 .bf16) :=
  runD (F := F) c (grid0.coords t) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) (ms8 m t) (hs8 m t) (ms9 m t) (hs9 m t) (ms10 m t) (hs10 m t) sc0 (Memref.isWhole_whole _) sc1 (Memref.isWhole_whole _) sc2 (Memref.isWhole_whole _) sc3 (Memref.isWhole_whole _) h1 h2 h3 (iblk m c 0 t) (iblk m c 1 t) (iblk m c 2 t) (iblk m c 3 t) (iblk m c 4 t) (iblk m c 5 t) (tbl m 0) xs (hH c t)

/-- The kernel body at point `t`, on what the pipeline calls it with. -/
abbrev bodyAt (t : Fin (cfgM m).N) : Prog (TpuEff nD τ sig (Elt F) Λ₀ .tc) PUnit :=
  cc0_proj (grid0.coords t) tbM0_0 htbM0_0 (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) (ms8 m t) (hs8 m t) (ms9 m t) (hs9 m t) (ms10 m t) (hs10 m t) sc0 (Memref.isWhole_whole _) sc1 (Memref.isWhole_whole _) sc2 (Memref.isWhole_whole _) sc3 (Memref.isWhole_whole _)

/-- What the dequantised rows' buffer holds after the first column block's loop at point `t`. -/
abbrev Dq (c : Dev nD) (t : Fin (cfgM m).N) (h1 : cond1 (grid0.coords t)) (f : BufTy.Contents (Elt F) sc0.view.ty) : Prop :=
  DqOf c (grid0.coords t) tbM0_0 htbM0_0 (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) (ms8 m t) (hs8 m t) (ms9 m t) (hs9 m t) (ms10 m t) (hs10 m t) sc0 (Memref.isWhole_whole _) sc1 (Memref.isWhole_whole _) sc2 (Memref.isWhole_whole _) sc3 (Memref.isWhole_whole _) h1 (iblk m c 0 t) (iblk m c 1 t) f
/-- The block of `ph` the run of case A leaves, over any contents `f` of its buffer. -/
noncomputable def outA (c : Dev nD) (t : Fin (cfgM m).N) (h1 : cond1 (grid0.coords t)) (h2 : cond2 (grid0.coords t)) (h3 : ¬cond3 (grid0.coords t)) (g : BufTy.Contents (Elt F) sc0.view.ty)
    (f : BufTy.Contents (Elt F) (ms6 m t).view.ty) : Vec F S256x512 .bf16 := (ms6 m t).view.read (Elt F) ((ms6 m t).view.writes (Elt F) f ((RA m c t h1 h2 h3).1 g))
/-- The block of `ph` the run of case B leaves, over any contents `f` of its buffer. -/
noncomputable def outB (c : Dev nD) (t : Fin (cfgM m).N) (h1 : cond1 (grid0.coords t)) (h2 : ¬cond2 (grid0.coords t)) (h3 : ¬cond3 (grid0.coords t)) (g : BufTy.Contents (Elt F) sc0.view.ty)
    (f : BufTy.Contents (Elt F) (ms6 m t).view.ty) : Vec F S256x512 .bf16 := (ms6 m t).view.read (Elt F) ((ms6 m t).view.writes (Elt F) f ((RB m c t h1 h2 h3).1 g))
/-- The block of `ph` the run of case C leaves, over any contents `f` of its buffer. -/
noncomputable def outC (c : Dev nD) (t : Fin (cfgM m).N) (h1 : ¬cond1 (grid0.coords t)) (h2 : ¬cond2 (grid0.coords t)) (h3 : ¬cond3 (grid0.coords t)) (xs : Vec F S256x10240 .bf16)
    (f : BufTy.Contents (Elt F) (ms6 m t).view.ty) : Vec F S256x512 .bf16 := (ms6 m t).view.read (Elt F) ((ms6 m t).view.writes (Elt F) f (RC m c t h1 h2 h3 xs).1)
/-- The block of `ph` the run of case D leaves, over any contents `f` of its buffer. -/
noncomputable def outD (hH : Hyps m) (c : Dev nD) (t : Fin (cfgM m).N) (h1 : ¬cond1 (grid0.coords t)) (h2 : ¬cond2 (grid0.coords t)) (h3 : cond3 (grid0.coords t)) (xs : Vec F S256x10240 .bf16)
    (f : BufTy.Contents (Elt F) (ms6 m t).view.ty) : Vec F S256x512 .bf16 := (ms6 m t).view.read (Elt F) ((ms6 m t).view.writes (Elt F) f (RD m hH c t h1 h2 h3 xs).1)

/-- What is claimed of the run, point by point: `XR n` of the dequantised rows' buffer before point `n`, `PH t` of the
    block of `ph` left at point `t`, with the proof that each case's stores establish them. -/
structure Spec (F : FTy → Type) [FloatOps F] where
  XR : Dev nD → ℕ → Vec F S256x10240 .bf16 → Prop
  PH : Dev nD → ℕ → Vec F S256x512 .bf16 → Prop

/-- Each case's stores establish what is claimed. -/
structure Spec.Ok (hH : Hyps m) (S : Spec F) : Prop where
  x0 : ∀ (c : Dev nD) (d : Vec F S256x10240 .bf16), S.XR c 0 d
  xA : ∀ (c : Dev nD) (t : Fin (cfgM m).N) (h1 : cond1 (grid0.coords t)) (f : BufTy.Contents (Elt F) sc0.view.ty), Dq m c t h1 f → S.XR c (t.val + 1) (sc0.view.read (Elt F) f)
  xC : ∀ (c : Dev nD) (t : Fin (cfgM m).N), ¬cond1 (grid0.coords t) → ∀ d : Vec F S256x10240 .bf16, S.XR c t.val d → S.XR c (t.val + 1) d
  pA : ∀ (c : Dev nD) (t : Fin (cfgM m).N) (h1 : cond1 (grid0.coords t)) (h2 : cond2 (grid0.coords t)) (h3 : ¬cond3 (grid0.coords t)) (g : BufTy.Contents (Elt F) sc0.view.ty) (f : BufTy.Contents (Elt F) (ms6 m t).view.ty), Dq m c t h1 g → S.PH c t.val (outA m c t h1 h2 h3 g f)
  pB : ∀ (c : Dev nD) (t : Fin (cfgM m).N) (h1 : cond1 (grid0.coords t)) (h2 : ¬cond2 (grid0.coords t)) (h3 : ¬cond3 (grid0.coords t)) (g : BufTy.Contents (Elt F) sc0.view.ty) (f : BufTy.Contents (Elt F) (ms6 m t).view.ty), Dq m c t h1 g → S.PH c t.val (outB m c t h1 h2 h3 g f)
  pC : ∀ (c : Dev nD) (t : Fin (cfgM m).N) (h1 : ¬cond1 (grid0.coords t)) (h2 : ¬cond2 (grid0.coords t)) (h3 : ¬cond3 (grid0.coords t)) (xs : Vec F S256x10240 .bf16) (f : BufTy.Contents (Elt F) (ms6 m t).view.ty), S.XR c t.val xs → S.PH c t.val (outC m c t h1 h2 h3 xs f)
  pD : ∀ (c : Dev nD) (t : Fin (cfgM m).N) (h1 : ¬cond1 (grid0.coords t)) (h2 : ¬cond2 (grid0.coords t)) (h3 : cond3 (grid0.coords t)) (xs : Vec F S256x10240 .bf16) (f : BufTy.Contents (Elt F) (ms6 m t).view.ty), S.XR c t.val xs → S.PH c t.val (outD m hH c t h1 h2 h3 xs f)

/-- Nothing claimed. -/
def Spec.none : Spec F := ⟨fun _ _ _ => True, fun _ _ _ => True⟩
theorem Spec.none_ok (hH : Hyps m) : Spec.Ok m hH (Spec.none (F := F)) :=
  ⟨fun _ _ => trivial, fun _ _ _ _ _ => trivial, fun _ _ _ _ _ => trivial, fun _ _ _ _ _ _ _ _ => trivial, fun _ _ _ _ _ _ _ _ => trivial,
    fun _ _ _ _ _ _ _ _ => trivial, fun _ _ _ _ _ _ _ _ => trivial⟩

variable (S : Spec F) {hH : Hyps m} (hS : S.Ok m hH)

/-- The invariant before point `n`. -/
def Phi (c : Dev nD) (n : ℕ) : sProp 𝕄 :=
  iprop(((∃ d, ⌜S.XR c n d⌝ ∗ owns (c : Thread nD τ) sc0 fullShare d) ∗ (∃ d, owns (c : Thread nD τ) sc1 fullShare d) ∗ (∃ d, owns (c : Thread nD τ) sc2 fullShare d) ∗ (∃ d, owns (c : Thread nD τ) sc3 fullShare d))
    ∗ (∃ r, prngReg c r) ∗ tbPt c tbM0_0 (tbl m 0))

/-- The proof data: the inputs' buffers are left as found, `ph`'s block satisfies `PH`, the other outputs hold anything. -/
def rdat (c : Dev nD) : Pipeline.RDat τ (Elt F) Unit ℕ (UR sig nD τ) ℕ (cfgM m) c where
  A w := V m c (Pipeline.arrRef spec0 w)
  after w t Y X := match w with
    | ⟨0, _⟩ => X = Y
    | ⟨1, _⟩ => X = Y
    | ⟨2, _⟩ => X = Y
    | ⟨3, _⟩ => X = Y
    | ⟨4, _⟩ => X = Y
    | ⟨5, _⟩ => X = Y
    | ⟨6, _⟩ => S.PH c t.val X
    | _ => True
  Φ t := Phi m S c t.val
  q _ := fullShare
  owed _ := 0

theorem finds0 (c : Dev nD) (t : Fin (cfgM m).N) (Y) (h : (rdat m S c).Finds 0 t Y) : Y = iblk m c 0 t := by
  obtain ⟨d, hd⟩ := Pipeline.RDat.finds_in_eq_fetched (rdat m S c) 0 rfl (fun _ _ _ => rfl) (fun _ _ _ h => h) t Y h
  rw [hd]; unfold Pipeline.RDat.fetched Pipeline.RDat.blockOf iblk; rfl
theorem finds1 (c : Dev nD) (t : Fin (cfgM m).N) (Y) (h : (rdat m S c).Finds 1 t Y) : Y = iblk m c 1 t := by
  obtain ⟨d, hd⟩ := Pipeline.RDat.finds_in_eq_fetched (rdat m S c) 1 rfl (fun _ _ _ => rfl) (fun _ _ _ h => h) t Y h
  rw [hd]; unfold Pipeline.RDat.fetched Pipeline.RDat.blockOf iblk; rfl
theorem finds2 (c : Dev nD) (t : Fin (cfgM m).N) (Y) (h : (rdat m S c).Finds 2 t Y) : Y = iblk m c 2 t := by
  obtain ⟨d, hd⟩ := Pipeline.RDat.finds_in_eq_fetched (rdat m S c) 2 rfl (fun _ _ _ => rfl) (fun _ _ _ h => h) t Y h
  rw [hd]; unfold Pipeline.RDat.fetched Pipeline.RDat.blockOf iblk; rfl
theorem finds3 (c : Dev nD) (t : Fin (cfgM m).N) (Y) (h : (rdat m S c).Finds 3 t Y) : Y = iblk m c 3 t := by
  obtain ⟨d, hd⟩ := Pipeline.RDat.finds_in_eq_fetched (rdat m S c) 3 rfl (fun _ _ _ => rfl) (fun _ _ _ h => h) t Y h
  rw [hd]; unfold Pipeline.RDat.fetched Pipeline.RDat.blockOf iblk; rfl
theorem finds4 (c : Dev nD) (t : Fin (cfgM m).N) (Y) (h : (rdat m S c).Finds 4 t Y) : Y = iblk m c 4 t := by
  obtain ⟨d, hd⟩ := Pipeline.RDat.finds_in_eq_fetched (rdat m S c) 4 rfl (fun _ _ _ => rfl) (fun _ _ _ h => h) t Y h
  rw [hd]; unfold Pipeline.RDat.fetched Pipeline.RDat.blockOf iblk; rfl
theorem finds5 (c : Dev nD) (t : Fin (cfgM m).N) (Y) (h : (rdat m S c).Finds 5 t Y) : Y = iblk m c 5 t := by
  obtain ⟨d, hd⟩ := Pipeline.RDat.finds_in_eq_fetched (rdat m S c) 5 rfl (fun _ _ _ => rfl) (fun _ _ _ h => h) t Y h
  rw [hd]; unfold Pipeline.RDat.fetched Pipeline.RDat.blockOf iblk; rfl

/-- What the body is called with at point `t`, and what it returns. -/
def bodyPre (c : Dev nD) (t : Fin (cfgM m).N) (Y : (w : Fin (cfgM m).W) → ((cfgM m).win w).block.Idx → Elt F ((cfgM m).win w).elt) : sProp 𝕄 :=
  iprop(Phi m S c t.val ∗ (rdat m S c).owesAt () t.castSucc ∗ owns (c : Thread nD τ) (ms0 m t) fullShare (Y 0) ∗ owns (c : Thread nD τ) (ms1 m t) fullShare (Y 1) ∗ owns (c : Thread nD τ) (ms2 m t) fullShare (Y 2) ∗ owns (c : Thread nD τ) (ms3 m t) fullShare (Y 3) ∗ owns (c : Thread nD τ) (ms4 m t) fullShare (Y 4) ∗ owns (c : Thread nD τ) (ms5 m t) fullShare (Y 5) ∗ owns (c : Thread nD τ) (ms6 m t) fullShare (Y 6) ∗ owns (c : Thread nD τ) (ms7 m t) fullShare (Y 7) ∗ owns (c : Thread nD τ) (ms8 m t) fullShare (Y 8) ∗ owns (c : Thread nD τ) (ms9 m t) fullShare (Y 9) ∗ owns (c : Thread nD τ) (ms10 m t) fullShare (Y 10))
def bodyPost (c : Dev nD) (t : Fin (cfgM m).N) (Y : (w : Fin (cfgM m).W) → ((cfgM m).win w).block.Idx → Elt F ((cfgM m).win w).elt) : sProp 𝕄 :=
  iprop(Phi m S c (t.val + 1) ∗ (rdat m S c).owesAt () t.castSucc ∗ (∃ X, ⌜X = Y 0⌝ ∗ owns (c : Thread nD τ) (ms0 m t) fullShare X) ∗ (∃ X, ⌜X = Y 1⌝ ∗ owns (c : Thread nD τ) (ms1 m t) fullShare X) ∗ (∃ X, ⌜X = Y 2⌝ ∗ owns (c : Thread nD τ) (ms2 m t) fullShare X) ∗ (∃ X, ⌜X = Y 3⌝ ∗ owns (c : Thread nD τ) (ms3 m t) fullShare X) ∗ (∃ X, ⌜X = Y 4⌝ ∗ owns (c : Thread nD τ) (ms4 m t) fullShare X) ∗ (∃ X, ⌜X = Y 5⌝ ∗ owns (c : Thread nD τ) (ms5 m t) fullShare X) ∗ (∃ X, ⌜S.PH c t.val X⌝ ∗ owns (c : Thread nD τ) (ms6 m t) fullShare X) ∗ (∃ X, ⌜True⌝ ∗ owns (c : Thread nD τ) (ms7 m t) fullShare X) ∗ (∃ X, ⌜True⌝ ∗ owns (c : Thread nD τ) (ms8 m t) fullShare X) ∗ (∃ X, ⌜True⌝ ∗ owns (c : Thread nD τ) (ms9 m t) fullShare X) ∗ (∃ X, ⌜True⌝ ∗ owns (c : Thread nD τ) (ms10 m t) fullShare X))

include hS in
set_option maxHeartbeats 4000000 in
/-- The body at a point of case A. -/
theorem soundA (c : Dev nD) (t : Fin (cfgM m).N) (h1 : cond1 (grid0.coords t)) (h2 : cond2 (grid0.coords t)) (h3 : ¬cond3 (grid0.coords t)) (Y) (hY : ∀ w, (rdat m S c).Finds w t (Y w)) :
    bodyPre m S c t Y ⊢ wp frame (wpE (defs₀ (F := F)) Variants.none c none) Set.univ (bodyAt m t) (fun _ => bodyPost m S c t Y) := by
  unfold bodyPre bodyPost Phi bodyAt
  have e0 := finds0 m S c t _ (hY 0) ; have e1 := finds1 m S c t _ (hY 1) ; have e2 := finds2 m S c t _ (hY 2) ; have e3 := finds3 m S c t _ (hY 3) ; have e4 := finds4 m S c t _ (hY 4) ; have e5 := finds5 m S c t _ (hY 5)
  rw [e0, e1, e2, e3, e4, e5]
  iintro ⟨⟨⟨⟨%xs, %hx, S0⟩, S1, S2, S3⟩, Hg, HT⟩, Ho, H0, H1, H2, H3, H4, H5, H6, H7, H8, H9, H10⟩
  iapply ((RA m c t h1 h2 h3).2 Set.univ _)
  isplitl [H0 H1 H2 H3 H4 H5 HT]
  · isplitl [H0]; · iexact H0
    isplitl [H1]; · iexact H1
    isplitl [H2]; · iexact H2
    isplitl [H3]; · iexact H3
    isplitl [H4]; · iexact H4
    isplitl [H5]; · iexact H5
    iexact HT
  isplitl [H7 H8 H9 H10 S1 S2 S3]
  · isplitl [H7]; · iexists _; iexact H7
    isplitl [H8]; · iexists _; iexact H8
    isplitl [H9]; · iexists _; iexact H9
    isplitl [H10]; · iexists _; iexact H10
    isplitl [S1]; · iexact S1
    isplitl [S2]; · iexact S2
    iexact S3
  isplitl [H6]; · iexists _; iexact H6
  isplitl [S0]; · iexists _; iexact S0
  iintro ⟨⟨H0, H1, H2, H3, H4, H5, HT⟩, ⟨⟨%y7, H7⟩, ⟨%y8, H8⟩, ⟨%y9, H9⟩, ⟨%y10, H10⟩, S1, S2, S3⟩, ⟨%f0, %hf0, S0, ⟨%f6, H6⟩⟩⟩
  isplitl [S0 S1 S2 S3 Hg HT]
  · isplitl [S0 S1 S2 S3]
    · isplitl [S0]
      · iexists _; isplitr; swap
        · unfold owns; iexists _; isplitr; swap; · iexact S0
          ipureintro; rfl
        · ipureintro; exact hS.xA c t h1 f0 hf0
      isplitl [S1]; · iexact S1
      isplitl [S2]; · iexact S2
      iexact S3
    isplitl [Hg]; · iexact Hg
    iexact HT
  isplitl [Ho]; · iexact Ho
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap
    · unfold owns; iexists _; isplitr; swap; · iexact H6
      ipureintro; rfl
    · ipureintro; exact hS.pA c t h1 h2 h3 f0 f6 hf0
  isplitl [H7]
  · iexists _; isplitr; swap; · iexact H7
    ipureintro; trivial
  isplitl [H8]
  · iexists _; isplitr; swap; · iexact H8
    ipureintro; trivial
  isplitl [H9]
  · iexists _; isplitr; swap; · iexact H9
    ipureintro; trivial
  iexists _; isplitr; swap; · iexact H10
  ipureintro; trivial

include hS in
set_option maxHeartbeats 4000000 in
/-- The body at a point of case B. -/
theorem soundB (c : Dev nD) (t : Fin (cfgM m).N) (h1 : cond1 (grid0.coords t)) (h2 : ¬cond2 (grid0.coords t)) (h3 : ¬cond3 (grid0.coords t)) (Y) (hY : ∀ w, (rdat m S c).Finds w t (Y w)) :
    bodyPre m S c t Y ⊢ wp frame (wpE (defs₀ (F := F)) Variants.none c none) Set.univ (bodyAt m t) (fun _ => bodyPost m S c t Y) := by
  unfold bodyPre bodyPost Phi bodyAt
  have e0 := finds0 m S c t _ (hY 0) ; have e1 := finds1 m S c t _ (hY 1) ; have e2 := finds2 m S c t _ (hY 2) ; have e3 := finds3 m S c t _ (hY 3) ; have e4 := finds4 m S c t _ (hY 4) ; have e5 := finds5 m S c t _ (hY 5)
  rw [e0, e1, e2, e3, e4, e5]
  iintro ⟨⟨⟨⟨%xs, %hx, S0⟩, S1, S2, S3⟩, Hg, HT⟩, Ho, H0, H1, H2, H3, H4, H5, H6, H7, H8, H9, H10⟩
  iapply ((RB m c t h1 h2 h3).2 Set.univ _)
  isplitl [H0 H1 H2 H3 H4 H5 HT]
  · isplitl [H0]; · iexact H0
    isplitl [H1]; · iexact H1
    isplitl [H2]; · iexact H2
    isplitl [H3]; · iexact H3
    isplitl [H4]; · iexact H4
    isplitl [H5]; · iexact H5
    iexact HT
  isplitl [H7 H8 H9 H10 S1 S2 S3]
  · isplitl [H7]; · iexists _; iexact H7
    isplitl [H8]; · iexists _; iexact H8
    isplitl [H9]; · iexists _; iexact H9
    isplitl [H10]; · iexists _; iexact H10
    isplitl [S1]; · iexact S1
    isplitl [S2]; · iexact S2
    iexact S3
  isplitl [H6]; · iexists _; iexact H6
  isplitl [S0]; · iexists _; iexact S0
  iintro ⟨⟨H0, H1, H2, H3, H4, H5, HT⟩, ⟨⟨%y7, H7⟩, ⟨%y8, H8⟩, ⟨%y9, H9⟩, ⟨%y10, H10⟩, S1, S2, S3⟩, ⟨%f0, %hf0, S0, ⟨%f6, H6⟩⟩⟩
  isplitl [S0 S1 S2 S3 Hg HT]
  · isplitl [S0 S1 S2 S3]
    · isplitl [S0]
      · iexists _; isplitr; swap
        · unfold owns; iexists _; isplitr; swap; · iexact S0
          ipureintro; rfl
        · ipureintro; exact hS.xA c t h1 f0 hf0
      isplitl [S1]; · iexact S1
      isplitl [S2]; · iexact S2
      iexact S3
    isplitl [Hg]; · iexact Hg
    iexact HT
  isplitl [Ho]; · iexact Ho
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap
    · unfold owns; iexists _; isplitr; swap; · iexact H6
      ipureintro; rfl
    · ipureintro; exact hS.pB c t h1 h2 h3 f0 f6 hf0
  isplitl [H7]
  · iexists _; isplitr; swap; · iexact H7
    ipureintro; trivial
  isplitl [H8]
  · iexists _; isplitr; swap; · iexact H8
    ipureintro; trivial
  isplitl [H9]
  · iexists _; isplitr; swap; · iexact H9
    ipureintro; trivial
  iexists _; isplitr; swap; · iexact H10
  ipureintro; trivial

include hS in
set_option maxHeartbeats 4000000 in
/-- The body at a point of case C. -/
theorem soundC (c : Dev nD) (t : Fin (cfgM m).N) (h1 : ¬cond1 (grid0.coords t)) (h2 : ¬cond2 (grid0.coords t)) (h3 : ¬cond3 (grid0.coords t)) (Y) (hY : ∀ w, (rdat m S c).Finds w t (Y w)) :
    bodyPre m S c t Y ⊢ wp frame (wpE (defs₀ (F := F)) Variants.none c none) Set.univ (bodyAt m t) (fun _ => bodyPost m S c t Y) := by
  unfold bodyPre bodyPost Phi bodyAt
  have e0 := finds0 m S c t _ (hY 0) ; have e1 := finds1 m S c t _ (hY 1) ; have e2 := finds2 m S c t _ (hY 2) ; have e3 := finds3 m S c t _ (hY 3) ; have e4 := finds4 m S c t _ (hY 4) ; have e5 := finds5 m S c t _ (hY 5)
  rw [e0, e1, e2, e3, e4, e5]
  iintro ⟨⟨⟨⟨%xs, %hx, S0⟩, S1, S2, S3⟩, Hg, HT⟩, Ho, H0, H1, H2, H3, H4, H5, H6, H7, H8, H9, H10⟩
  iapply ((RC m c t h1 h2 h3 xs).2 Set.univ _)
  isplitl [H0 H1 H2 H3 H4 H5 HT]
  · isplitl [H0]; · iexact H0
    isplitl [H1]; · iexact H1
    isplitl [H2]; · iexact H2
    isplitl [H3]; · iexact H3
    isplitl [H4]; · iexact H4
    isplitl [H5]; · iexact H5
    iexact HT
  isplitl [H7 H8 H9 H10 S1 S2 S3]
  · isplitl [H7]; · iexists _; iexact H7
    isplitl [H8]; · iexists _; iexact H8
    isplitl [H9]; · iexists _; iexact H9
    isplitl [H10]; · iexists _; iexact H10
    isplitl [S1]; · iexact S1
    isplitl [S2]; · iexact S2
    iexact S3
  isplitl [H6]; · iexists _; iexact H6
  isplitl [S0]; · iexact S0
  iintro ⟨⟨H0, H1, H2, H3, H4, H5, HT⟩, ⟨⟨%y7, H7⟩, ⟨%y8, H8⟩, ⟨%y9, H9⟩, ⟨%y10, H10⟩, S1, S2, S3⟩, ⟨%f6, H6⟩, S0⟩
  isplitl [S0 S1 S2 S3 Hg HT]
  · isplitl [S0 S1 S2 S3]
    · isplitl [S0]
      · iexists xs; isplitr
        · ipureintro; exact hS.xC c t h1 xs hx
        · iexact S0
      isplitl [S1]; · iexact S1
      isplitl [S2]; · iexact S2
      iexact S3
    isplitl [Hg]; · iexact Hg
    iexact HT
  isplitl [Ho]; · iexact Ho
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap
    · unfold owns; iexists _; isplitr; swap; · iexact H6
      ipureintro; rfl
    · ipureintro; exact hS.pC c t h1 h2 h3 xs f6 hx
  isplitl [H7]
  · iexists _; isplitr; swap; · iexact H7
    ipureintro; trivial
  isplitl [H8]
  · iexists _; isplitr; swap; · iexact H8
    ipureintro; trivial
  isplitl [H9]
  · iexists _; isplitr; swap; · iexact H9
    ipureintro; trivial
  iexists _; isplitr; swap; · iexact H10
  ipureintro; trivial

include hS in
set_option maxHeartbeats 4000000 in
/-- The body at a point of case D. -/
theorem soundD (c : Dev nD) (t : Fin (cfgM m).N) (h1 : ¬cond1 (grid0.coords t)) (h2 : ¬cond2 (grid0.coords t)) (h3 : cond3 (grid0.coords t)) (Y) (hY : ∀ w, (rdat m S c).Finds w t (Y w)) :
    bodyPre m S c t Y ⊢ wp frame (wpE (defs₀ (F := F)) Variants.none c none) Set.univ (bodyAt m t) (fun _ => bodyPost m S c t Y) := by
  unfold bodyPre bodyPost Phi bodyAt
  have e0 := finds0 m S c t _ (hY 0) ; have e1 := finds1 m S c t _ (hY 1) ; have e2 := finds2 m S c t _ (hY 2) ; have e3 := finds3 m S c t _ (hY 3) ; have e4 := finds4 m S c t _ (hY 4) ; have e5 := finds5 m S c t _ (hY 5)
  rw [e0, e1, e2, e3, e4, e5]
  iintro ⟨⟨⟨⟨%xs, %hx, S0⟩, S1, S2, S3⟩, Hg, HT⟩, Ho, H0, H1, H2, H3, H4, H5, H6, H7, H8, H9, H10⟩
  iapply ((RD m hH c t h1 h2 h3 xs).2 Set.univ _)
  isplitl [H0 H1 H2 H3 H4 H5 HT]
  · isplitl [H0]; · iexact H0
    isplitl [H1]; · iexact H1
    isplitl [H2]; · iexact H2
    isplitl [H3]; · iexact H3
    isplitl [H4]; · iexact H4
    isplitl [H5]; · iexact H5
    iexact HT
  isplitl [H7 H8 H9 H10 S1 S2 S3]
  · isplitl [H7]; · iexists _; iexact H7
    isplitl [H8]; · iexists _; iexact H8
    isplitl [H9]; · iexists _; iexact H9
    isplitl [H10]; · iexists _; iexact H10
    isplitl [S1]; · iexact S1
    isplitl [S2]; · iexact S2
    iexact S3
  isplitl [H6]; · iexists _; iexact H6
  isplitl [S0]; · iexact S0
  iintro ⟨⟨H0, H1, H2, H3, H4, H5, HT⟩, ⟨⟨%y7, H7⟩, ⟨%y8, H8⟩, ⟨%y9, H9⟩, ⟨%y10, H10⟩, S1, S2, S3⟩, ⟨%f6, H6⟩, S0⟩
  isplitl [S0 S1 S2 S3 Hg HT]
  · isplitl [S0 S1 S2 S3]
    · isplitl [S0]
      · iexists xs; isplitr
        · ipureintro; exact hS.xC c t h1 xs hx
        · iexact S0
      isplitl [S1]; · iexact S1
      isplitl [S2]; · iexact S2
      iexact S3
    isplitl [Hg]; · iexact Hg
    iexact HT
  isplitl [Ho]; · iexact Ho
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap
    · unfold owns; iexists _; isplitr; swap; · iexact H6
      ipureintro; rfl
    · ipureintro; exact hS.pD c t h1 h2 h3 xs f6 hx
  isplitl [H7]
  · iexists _; isplitr; swap; · iexact H7
    ipureintro; trivial
  isplitl [H8]
  · iexists _; isplitr; swap; · iexact H8
    ipureintro; trivial
  isplitl [H9]
  · iexists _; isplitr; swap; · iexact H9
    ipureintro; trivial
  iexists _; isplitr; swap; · iexact H10
  ipureintro; trivial

include hS in
/-- The body at any point. -/
theorem sound (c : Dev nD) (t : Fin (cfgM m).N) (Y) (hY : ∀ w, (rdat m S c).Finds w t (Y w)) :
    bodyPre m S c t Y ⊢ wp frame (wpE (defs₀ (F := F)) Variants.none c none) Set.univ (bodyAt m t) (fun _ => bodyPost m S c t Y) := by
  have e1 := hcond1 t
  have e2 := hcond2 t
  have e3 := hcond3 t
  by_cases h1 : cond1 (grid0.coords t)
  · have h3 : ¬cond3 (grid0.coords t) := fun h => by have := e1.1 h1; have := e3.1 h; omega
    by_cases h2 : cond2 (grid0.coords t)
    · exact soundA m S hS c t h1 h2 h3 Y hY
    · exact soundB m S hS c t h1 h2 h3 Y hY
  · have h2 : ¬cond2 (grid0.coords t) := fun h => h1 (e1.2 (by rw [e2.1 h]))
    by_cases h3 : cond3 (grid0.coords t)
    · exact soundD m S hS c t h1 h2 h3 Y hY
    · exact soundC m S hS c t h1 h2 h3 Y hY

theorem defs₀_row (t : Fin (cfgM m).N) :
    defs₀ (F := F) .tc (cfgM m).body ((cfgM m).bodyArgs t ((cfgM m).slots t)) = bodyAt m t := by
  unfold defs₀; rw [Defs.onTc_tc]

include hS in
theorem body_obligation (c : Dev nD) : (rdat m S c).BodyObligation (defs₀ (F := F)) Variants.none () Set.univ := fun t Y hY => by
  rw [bigSep_W0, bigSep_W0, defs₀_row m]
  exact triple_restated (sound m S hS c t Y hY) rfl .rfl fun _ => .rfl

include hS in
theorem hin (c : Dev nD) : iprop(Pipeline.ΦA spec0 c ∗ Pipeline.ΦT pre0 (tbl m) c) ⊢ (rdat m S c).Φ 0 := by
  rw [show (rdat m S c).Φ 0 = Phi m S c 0 from rfl, PhiA_eq, PhiT_eq]
  unfold Phi
  iintro ⟨⟨⟨⟨%d, S0⟩, S1, S2, S3⟩, Hg⟩, HT⟩
  isplitl [S0 S1 S2 S3]
  · isplitl [S0]
    · iexists d; isplitr; · ipureintro; exact hS.x0 c d
      iexact S0
    isplitl [S1]; · iexact S1
    isplitl [S2]; · iexact S2
    iexact S3
  isplitl [Hg]; · iexact Hg
  iexact HT

theorem hout (c : Dev nD) : (rdat m S c).Φ (Fin.last (cfgM m).N) ⊢ Pipeline.ΦA spec0 c := by
  rw [show (rdat m S c).Φ (Fin.last (cfgM m).N) = Phi m S c (cfgM m).N from rfl, PhiA_eq]
  unfold Phi
  iintro ⟨⟨⟨%d, -, S0⟩, S1, S2, S3⟩, Hg, -⟩
  isplitl [S0 S1 S2 S3]
  · isplitl [S0]; · iexists d; iexact S0
    isplitl [S1]; · iexact S1
    isplitl [S2]; · iexact S2
    iexact S3
  iexact Hg

include hS in
-- the launch theorem's implicit arguments are found by unifying its conclusion with this one
set_option backward.isDefEq.respectTransparency.types false in
/-- The launch: every execution terminates, the arrays end as the proof data say, and every counter at zero. -/
theorem run_quiescent : θ_run defs (onTc (τ := τ) (main (F := F))) (s₀ m ρ)
    (fun r => Pipeline.RDat.FramePost (cfgM m) (rdat m S) (V m) r ∧ r.2.sem = fun _ => 0) :=
  Pipeline.RDat.θ_run_frameP_track (Q' := _) pcfgs (fun _ => adm m) (0 : Fin 1) launch0 defs₀ Variants.none (rdat m S) m ρ main
    (hbody := fun c => body_obligation m S hS c) (hshare := fun c w => by unfold Pipeline.RDat.share; split <;> rfl)
    (howed := fun _ _ => rfl) (V := V m) (hmain := hmain m Variants.none) (hA := fun _ _ => rfl) (hpf := V_pre m)
    (hin := hin m S hS) (hout := hout m S)

include hS in
/-- The frame: the arguments end unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨(h.1 c).2 main_arg0 (by decide : main_arg0 ∈ Pipeline.restRefs sig spec0),
    h.1.arr_in c 0 rfl,
    h.1.arr_in c 1 rfl,
    h.1.arr_in c 2 rfl,
    h.1.arr_in c 3 rfl,
    h.1.arr_in c 4 rfl,
    h.1.arr_in c 5 rfl⟩, h.2⟩) (run_quiescent m ρ S hS)

end Cert.ProjIdeal.Hand

end
-- ==== Proof.ProjIdealWd.lean ====
/- The dequantised block of the projection's weights. At a grid point the body writes its scratch block of the weights in
   320 tiles of 128 by 128; every tile is the block of codes times one scale, so together they are one function of the
   block's index: the code at the index times the scale of the tile it lies in. -/
module

public import proofs.«01_k».proof.Proof.ProjIdealRunA
public import proofs.«01_k».proof.Proof.ProjIdealRunB
public import proofs.«01_k».proof.Proof.ProjIdealRunC
public import proofs.«01_k».proof.Proof.ProjIdealRunD
public import Idealize.ShloMosaic.Lib.Pointwise

@[expose] public section

set_option maxRecDepth 65536

open Idealize.ShloMosaic Idealize.ShloMosaic.TcCoe

namespace Cert.ProjIdeal.Wd

open Cert.ProjIdeal Cert.ProjIdeal.Gen Cert.ProjIdeal.Hand

/-- The weight at `y` of grid point `i`'s block: code times scale. -/
noncomputable def weight (i : grid0.Coords) (x2 : Vec Ideal S10240x512 .fp8e4m3) (x3 : Vec Ideal S80x40 .f32) :
    S10240x512.Idx → EReal := fun y =>
  (show EReal from x2 y) * (show EReal from x3 (ix2 ⟨(y 0).val / 128, by have := (y 0).isLt; simp at this; omega⟩
    ⟨4 * (i 1).val + (y 1).val / 128, by
      have h1 := (y 1).isLt; have h0 : (i 1).val < 10 := (i 1).isLt; simp at h1; omega⟩))

/-- The tiles `L` agree with `weight` and cover the first `n` tiles in row-major order of tiles. -/
structure Upto (i : grid0.Coords) (x2 : Vec Ideal S10240x512 .fp8e4m3) (x3 : Vec Ideal S80x40 .f32)
    (L : List (View.Piece (Elt Ideal) S10240x512 .bf16)) (n : ℕ) : Prop where
  agree : ∀ p ∈ L, ∀ x : p.1.shape.Idx, p.2 x = weight i x2 x3 (p.1.emb x)
  cover : ∀ y : S10240x512.Idx, 4 * ((y 0).val / 128) + (y 1).val / 128 < n → ∃ p ∈ L, y ∈ p.1.set

theorem upto_nil (i x2 x3) : Upto i x2 x3 [] 0 := ⟨fun _ h => by simp at h, fun _ h => by omega⟩

section

variable {i : grid0.Coords} {x2 : Vec Ideal S10240x512 .fp8e4m3} {x3 : Vec Ideal S80x40 .f32}
  {arg5 : Memref sig .tc .vmem S10240x512 .fp8e4m3} {harg5 : arg5.IsWhole} {arg6 : Memref sig .tc .smem S80x40 .f32} {harg6 : arg6.IsWhole}

/-- One more tile: the codes of tile `(kb, nb)` times the scale the body reads for it. -/
theorem upto_cons (kb : Fin 80) (nb : Fin 4)
    {so : Fin 2 → ℕ} (hso : so = ![kb.val, 4 * (i 1).val + nb.val]) {sinb h1} {inb}
    {L : List (View.Piece (Elt Ideal) S10240x512 .bf16)} (hL : Upto i x2 x3 L (4 * kb.val + nb.val)) :
    Upto i x2 x3 ((⟨Rect.unit (s := S10240x512) ![128 * kb.val, 128 * nb.val] S128x128.size inb,
      k0_pay1140 (F := Ideal) (arg6.view.readAt (Elt Ideal) (Rect.unit (s := S80x40) so S1x1.size sinb).toLoadRect
          (harg6.unread x3) (Shape.Idx.first h1))
        (arg5.view.readAt (Elt Ideal) (Rect.unit (s := S10240x512) ![128 * kb.val, 128 * nb.val] S128x128.size inb).toLoadRect
          (harg5.unread x2))⟩ : View.Piece (Elt Ideal) S10240x512 .bf16) :: L) (4 * kb.val + nb.val + 1) := by
  subst hso
  refine ⟨?_, ?_⟩
  · intro p hp
    rcases List.mem_cons.1 hp with rfl | hp
    swap
    · exact hL.agree p hp
    intro x
    have hx0 : (x 0).val < 128 := (x 0).isLt
    have hx1 : (x 1).val < 128 := (x 1).isLt
    dsimp only
    unfold k0_pay1140
    rw [View.readAt_apply, Memref.IsWhole.read_unread]
    pointwise
    rw [View.readAt_apply, Memref.IsWhole.read_unread]
    unfold weight
    have e0 : (((Rect.unit (s := S10240x512) ![128 * kb.val, 128 * nb.val] S128x128.size inb).emb x) 0).val
        = 128 * kb.val + (x 0).val := by
      show 128 * kb.val + 1 * (x 0).val = _; omega
    have e1 : (((Rect.unit (s := S10240x512) ![128 * kb.val, 128 * nb.val] S128x128.size inb).emb x) 1).val
        = 128 * nb.val + (x 1).val := by
      show 128 * nb.val + 1 * (x 1).val = _; omega
    refine Ideal.mul_congr rfl (congrArg x3 ?_)
    have h0 : kb.val = (128 * kb.val + (x 0).val) / 128 := by omega
    have h1 : nb.val = (128 * nb.val + (x 1).val) / 128 := by omega
    exact (ix2_inj _ _ _ _).2 ⟨Fin.ext (h0.trans (congrArg (· / 128) e0.symm)),
      Fin.ext (congrArg (4 * (i 1).val + ·) (h1.trans (congrArg (· / 128) e1.symm)))⟩
  · intro y hy
    by_cases h : 4 * ((y 0).val / 128) + (y 1).val / 128 < 4 * kb.val + nb.val
    · obtain ⟨p, hp, hm⟩ := hL.cover y h
      exact ⟨p, List.mem_cons_of_mem _ hp, hm⟩
    · refine ⟨_, List.mem_cons_self, ?_⟩
      have h1 : (y 1).val < 512 := (y 1).isLt
      have hn := nb.isLt
      rw [Rect.mem_set_unit]
      intro a
      match a with
      | ⟨0, _⟩ => show 128 * kb.val ≤ (y 0).val ∧ (y 0).val < 128 * kb.val + 128; omega
      | ⟨1, _⟩ => show 128 * nb.val ≤ (y 1).val ∧ (y 1).val < 128 * nb.val + 128; omega

/-- One more row of four tiles. -/
theorem upto_row (kb : Fin 80) {so : BitVec 32 → Fin 2 → ℕ} (hso : ∀ r : Fin 4, so (BitVec.ofNat 32 r.val) = ![kb.val, 4 * (i 1).val + r.val])
    {s0 s1 s2 s3 g0 g1 g2 g3 b0 b1 b2 b3} {L : List (View.Piece (Elt Ideal) S10240x512 .bf16)} (hL : Upto i x2 x3 L (4 * kb.val)) :
    Upto i x2 x3 (
      (⟨Rect.unit (s := S10240x512) ![128 * kb.val, 384] S128x128.size b3,
        k0_pay1140 (F := Ideal) (arg6.view.readAt (Elt Ideal) (Rect.unit (s := S80x40) (so 3#32) S1x1.size s3).toLoadRect (harg6.unread x3) (Shape.Idx.first g3))
          (arg5.view.readAt (Elt Ideal) (Rect.unit (s := S10240x512) ![128 * kb.val, 384] S128x128.size b3).toLoadRect (harg5.unread x2))⟩ : View.Piece (Elt Ideal) S10240x512 .bf16)
      :: (⟨Rect.unit (s := S10240x512) ![128 * kb.val, 256] S128x128.size b2,
        k0_pay1140 (F := Ideal) (arg6.view.readAt (Elt Ideal) (Rect.unit (s := S80x40) (so 2#32) S1x1.size s2).toLoadRect (harg6.unread x3) (Shape.Idx.first g2))
          (arg5.view.readAt (Elt Ideal) (Rect.unit (s := S10240x512) ![128 * kb.val, 256] S128x128.size b2).toLoadRect (harg5.unread x2))⟩ : View.Piece (Elt Ideal) S10240x512 .bf16)
      :: (⟨Rect.unit (s := S10240x512) ![128 * kb.val, 128] S128x128.size b1,
        k0_pay1140 (F := Ideal) (arg6.view.readAt (Elt Ideal) (Rect.unit (s := S80x40) (so 1#32) S1x1.size s1).toLoadRect (harg6.unread x3) (Shape.Idx.first g1))
          (arg5.view.readAt (Elt Ideal) (Rect.unit (s := S10240x512) ![128 * kb.val, 128] S128x128.size b1).toLoadRect (harg5.unread x2))⟩ : View.Piece (Elt Ideal) S10240x512 .bf16)
      :: (⟨Rect.unit (s := S10240x512) ![128 * kb.val, 0] S128x128.size b0,
        k0_pay1140 (F := Ideal) (arg6.view.readAt (Elt Ideal) (Rect.unit (s := S80x40) (so 0#32) S1x1.size s0).toLoadRect (harg6.unread x3) (Shape.Idx.first g0))
          (arg5.view.readAt (Elt Ideal) (Rect.unit (s := S10240x512) ![128 * kb.val, 0] S128x128.size b0).toLoadRect (harg5.unread x2))⟩ : View.Piece (Elt Ideal) S10240x512 .bf16)
      :: L) (4 * (kb.val + 1)) :=
  upto_cons kb 3 (hso 3) (upto_cons kb 2 (hso 2) (upto_cons kb 1 (hso 1) (upto_cons kb 0 (hso 0) hL)))

end

section

variable (c : Dev nD) (i : grid0.Coords) (arg5 : Memref sig .tc .vmem S10240x512 .fp8e4m3) (harg5 : arg5.IsWhole)
  (arg6 : Memref sig .tc .smem S80x40 .f32) (harg6 : arg6.IsWhole) (x2 : Vec Ideal S10240x512 .fp8e4m3) (x3 : Vec Ideal S80x40 .f32)

/-- The tiles the body has written when it multiplies. -/
theorem upto_C : Upto i x2 x3 (runC.sl.H15_320 (F := Ideal) c i arg5 harg5 arg6 harg6 x2 x3) 320 := by
  unfold runC.sl.H15_320
  refine upto_row 79 (k0_off240_eq i) ?_
  refine upto_row 78 (k0_off239_eq i) ?_
  refine upto_row 77 (k0_off238_eq i) ?_
  refine upto_row 76 (k0_off237_eq i) ?_
  refine upto_row 75 (k0_off236_eq i) ?_
  refine upto_row 74 (k0_off235_eq i) ?_
  refine upto_row 73 (k0_off234_eq i) ?_
  refine upto_row 72 (k0_off233_eq i) ?_
  refine upto_row 71 (k0_off232_eq i) ?_
  refine upto_row 70 (k0_off231_eq i) ?_
  refine upto_row 69 (k0_off230_eq i) ?_
  refine upto_row 68 (k0_off229_eq i) ?_
  refine upto_row 67 (k0_off228_eq i) ?_
  refine upto_row 66 (k0_off227_eq i) ?_
  refine upto_row 65 (k0_off226_eq i) ?_
  refine upto_row 64 (k0_off225_eq i) ?_
  refine upto_row 63 (k0_off224_eq i) ?_
  refine upto_row 62 (k0_off223_eq i) ?_
  refine upto_row 61 (k0_off222_eq i) ?_
  refine upto_row 60 (k0_off221_eq i) ?_
  refine upto_row 59 (k0_off220_eq i) ?_
  refine upto_row 58 (k0_off219_eq i) ?_
  refine upto_row 57 (k0_off218_eq i) ?_
  refine upto_row 56 (k0_off217_eq i) ?_
  refine upto_row 55 (k0_off216_eq i) ?_
  refine upto_row 54 (k0_off215_eq i) ?_
  refine upto_row 53 (k0_off214_eq i) ?_
  refine upto_row 52 (k0_off213_eq i) ?_
  refine upto_row 51 (k0_off212_eq i) ?_
  refine upto_row 50 (k0_off211_eq i) ?_
  refine upto_row 49 (k0_off210_eq i) ?_
  refine upto_row 48 (k0_off209_eq i) ?_
  refine upto_row 47 (k0_off208_eq i) ?_
  refine upto_row 46 (k0_off207_eq i) ?_
  refine upto_row 45 (k0_off206_eq i) ?_
  refine upto_row 44 (k0_off205_eq i) ?_
  refine upto_row 43 (k0_off204_eq i) ?_
  refine upto_row 42 (k0_off203_eq i) ?_
  refine upto_row 41 (k0_off202_eq i) ?_
  refine upto_row 40 (k0_off201_eq i) ?_
  refine upto_row 39 (k0_off200_eq i) ?_
  refine upto_row 38 (k0_off199_eq i) ?_
  refine upto_row 37 (k0_off198_eq i) ?_
  refine upto_row 36 (k0_off197_eq i) ?_
  refine upto_row 35 (k0_off196_eq i) ?_
  refine upto_row 34 (k0_off195_eq i) ?_
  refine upto_row 33 (k0_off194_eq i) ?_
  refine upto_row 32 (k0_off193_eq i) ?_
  refine upto_row 31 (k0_off192_eq i) ?_
  refine upto_row 30 (k0_off191_eq i) ?_
  refine upto_row 29 (k0_off190_eq i) ?_
  refine upto_row 28 (k0_off189_eq i) ?_
  refine upto_row 27 (k0_off188_eq i) ?_
  refine upto_row 26 (k0_off187_eq i) ?_
  refine upto_row 25 (k0_off186_eq i) ?_
  refine upto_row 24 (k0_off185_eq i) ?_
  refine upto_row 23 (k0_off184_eq i) ?_
  refine upto_row 22 (k0_off183_eq i) ?_
  refine upto_row 21 (k0_off182_eq i) ?_
  refine upto_row 20 (k0_off181_eq i) ?_
  refine upto_row 19 (k0_off180_eq i) ?_
  refine upto_row 18 (k0_off179_eq i) ?_
  refine upto_row 17 (k0_off178_eq i) ?_
  refine upto_row 16 (k0_off177_eq i) ?_
  refine upto_row 15 (k0_off176_eq i) ?_
  refine upto_row 14 (k0_off175_eq i) ?_
  refine upto_row 13 (k0_off174_eq i) ?_
  refine upto_row 12 (k0_off173_eq i) ?_
  refine upto_row 11 (k0_off172_eq i) ?_
  refine upto_row 10 (k0_off171_eq i) ?_
  refine upto_row 9 (k0_off170_eq i) ?_
  refine upto_row 8 (k0_off169_eq i) ?_
  refine upto_row 7 (k0_off168_eq i) ?_
  refine upto_row 6 (k0_off167_eq i) ?_
  refine upto_row 5 (k0_off166_eq i) ?_
  refine upto_row 4 (k0_off165_eq i) ?_
  refine upto_row 3 (k0_off164_eq i) ?_
  refine upto_row 2 (k0_off163_eq i) ?_
  refine upto_row 1 (k0_off162_eq i) ?_
  refine upto_row 0 (k0_off161_eq i) ?_
  exact upto_nil _ _ _

/-! The other cases write the same tiles. -/
theorem upto_A : Upto i x2 x3 (runA.sl.H15_320 (F := Ideal) c i arg5 harg5 arg6 harg6 x2 x3) 320 := upto_C c i arg5 harg5 arg6 harg6 x2 x3
theorem upto_B : Upto i x2 x3 (runB.sl.H15_320 (F := Ideal) c i arg5 harg5 arg6 harg6 x2 x3) 320 := upto_C c i arg5 harg5 arg6 harg6 x2 x3
theorem upto_D : Upto i x2 x3 (runD.sl.H15_320 (F := Ideal) c i arg5 harg5 arg6 harg6 x2 x3) 320 := upto_C c i arg5 harg5 arg6 harg6 x2 x3

end

end Cert.ProjIdeal.Wd
-- ==== Proof.ProjIdealXd.lean ====
/- The dequantised rows of the projection. At the first column block of a row block the body fills its scratch copy of
   the rows, 32 rows at a time in tiles of 128 columns; every tile is the block of codes times the rows' scales, so
   together they are one function of the index: the code at the index times the scale of its row and its tile. -/
module

public import proofs.«01_k».proof.Proof.ProjIdealDq
public import Idealize.ShloMosaic.Lib.Pointwise
public import Idealize.ShloMosaic.Lib.WritesUnit

@[expose] public section

set_option maxRecDepth 65536

open Idealize.ShloMosaic Idealize.ShloMosaic.TcCoe

namespace Cert.ProjIdeal.Xd

open Cert.ProjIdeal Cert.ProjIdeal.Gen Cert.ProjIdeal.Hand

/-- The dequantised row entry at `y`: code times scale. -/
noncomputable def entry (x0 : Vec Ideal S256x10240 .fp8e4m3) (x1 : Vec Ideal S256x80 .f32) : S256x10240.Idx → EReal := fun y =>
  (show EReal from x0 y) * (show EReal from x1 (ix2 (y 0) ⟨(y 1).val / 128, by have := (y 1).isLt; simp at this; omega⟩))

/-- The tiles `L` agree with `entry` and cover the first `n` tiles in row-major order of tiles. -/
structure Upto (x0 : Vec Ideal S256x10240 .fp8e4m3) (x1 : Vec Ideal S256x80 .f32)
    (L : List (View.Piece (Elt Ideal) S256x10240 .bf16)) (n : ℕ) : Prop where
  agree : ∀ p ∈ L, ∀ x : p.1.shape.Idx, p.2 x = entry x0 x1 (p.1.emb x)
  cover : ∀ y : S256x10240.Idx, 80 * ((y 0).val / 32) + (y 1).val / 128 < n → ∃ p ∈ L, y ∈ p.1.set

theorem upto_nil (x0 x1) : Upto x0 x1 [] 0 := ⟨fun _ h => by simp at h, fun _ h => by omega⟩

/-- One more tile: the codes of tile `j` of rows `32 k` to `32 k + 31` times the scales the body reads for it. -/
theorem upto_cons {x0 : Vec Ideal S256x10240 .fp8e4m3} {x1 : Vec Ideal S256x80 .f32}
    {arg3 : Memref sig .tc .vmem S256x10240 .fp8e4m3} {harg3 : arg3.IsWhole} {arg4 : Memref sig .tc .vmem S256x80 .f32} {harg4 : arg4.IsWhole}
    {k : ℕ} (j : Fin 80) {co so : Fin 2 → ℕ} (hco : co = ![32 * k, 128 * j.val]) (hso : so = ![32 * k, j.val]) {inb sinb}
    {L P : List (View.Piece (Elt Ideal) S256x10240 .bf16)} (hL : Upto x0 x1 (L ++ P) (80 * k + j.val)) :
    Upto x0 x1 (((⟨Rect.unit (s := S256x10240) co S32x128.size inb,
      k0_pay102 (F := Ideal) (arg3.view.readAt (Elt Ideal) (Rect.unit (s := S256x10240) co S32x128.size inb).toLoadRect (harg3.unread x0))
        (arg4.view.readAt (Elt Ideal) (Rect.unit (s := S256x80) so S32x1.size sinb).toLoadRect (harg4.unread x1))⟩
        : View.Piece (Elt Ideal) S256x10240 .bf16) :: L) ++ P) (80 * k + j.val + 1) := by
  subst hco; subst hso
  refine ⟨?_, ?_⟩
  · intro p hp
    rcases List.mem_cons.1 hp with rfl | hp
    swap
    · exact hL.agree p hp
    intro x
    have hx0 : (x 0).val < 32 := (x 0).isLt
    have hx1 : (x 1).val < 128 := (x 1).isLt
    dsimp only
    unfold k0_pay102
    pointwise
    rw [View.readAt_apply, Memref.IsWhole.read_unread, View.readAt_apply, Memref.IsWhole.read_unread]
    unfold entry
    have e1 : (((Rect.unit (s := S256x10240) ![32 * k, 128 * j.val] S32x128.size inb).emb x) 1).val
        = 128 * j.val + (x 1).val := by
      show 128 * j.val + 1 * (x 1).val = _; omega
    refine Ideal.mul_congr rfl (congrArg x1 ?_)
    funext a
    match a with
    | ⟨0, _⟩ => exact Fin.ext rfl
    | ⟨1, _⟩ =>
      refine Fin.ext ?_
      show j.val + 1 * 0 = (((Rect.unit (s := S256x10240) ![32 * k, 128 * j.val] S32x128.size inb).emb x) 1).val / 128
      rw [e1]; omega
  · intro y hy
    by_cases h : 80 * ((y 0).val / 32) + (y 1).val / 128 < 80 * k + j.val
    · obtain ⟨p, hp, hm⟩ := hL.cover y h
      exact ⟨p, List.mem_cons_of_mem _ hp, hm⟩
    · refine ⟨_, List.mem_cons_self, ?_⟩
      have h1 : (y 1).val < 10240 := (y 1).isLt
      have hn := j.isLt
      rw [Rect.mem_set_unit]
      intro a
      match a with
      | ⟨0, _⟩ => show 32 * k ≤ (y 0).val ∧ (y 0).val < 32 * k + 32; omega
      | ⟨1, _⟩ => show 128 * j.val ≤ (y 1).val ∧ (y 1).val < 128 * j.val + 128; omega

section

variable (c : Dev nD) (i : grid0.Coords) (arg2 : Memref sig .tc .smem S6 .i32) (harg2 : arg2.IsWhole) (arg3 : Memref sig .tc .vmem S256x10240 .fp8e4m3) (harg3 : arg3.IsWhole) (arg4 : Memref sig .tc .vmem S256x80 .f32) (harg4 : arg4.IsWhole) (arg5 : Memref sig .tc .vmem S10240x512 .fp8e4m3) (harg5 : arg5.IsWhole) (arg6 : Memref sig .tc .smem S80x40 .f32) (harg6 : arg6.IsWhole) (arg7 : Memref sig .tc .vmem S1x5120 .f32) (harg7 : arg7.IsWhole) (arg8 : Memref sig .tc .vmem S256x1 .i32) (harg8 : arg8.IsWhole) (arg9 : Memref sig .tc .vmem S256x512 .bf16) (harg9 : arg9.IsWhole) (arg10 : Memref sig .tc .vmem S256x5120 .fp8e4m3) (harg10 : arg10.IsWhole) (arg11 : Memref sig .tc .vmem S256x40 .f32) (harg11 : arg11.IsWhole) (arg12 : Memref sig .tc .vmem S880x5120 .bf16) (harg12 : arg12.IsWhole) (arg13 : Memref sig .tc .vmem S880x128 .f32) (harg13 : arg13.IsWhole) (arg14 : Memref sig .tc .vmem S256x10240 .bf16) (harg14 : arg14.IsWhole) (arg15 : Memref sig .tc .vmem S10240x512 .bf16) (harg15 : arg15.IsWhole) (arg16 : Memref sig .tc .vmem S256x5120 .f32) (harg16 : arg16.IsWhole) (arg17 : Memref sig .tc .vmem S41x288x128 .f32) (harg17 : arg17.IsWhole)
  (h : k0_cond1 i = 1#1) (x0 : Vec Ideal S256x10240 .fp8e4m3) (x1 : Vec Ideal S256x80 .f32)

/-- One trip's tiles, on those of the trips before it. -/
theorem upto_trip (k : Fin k0_t1_loop.trips) (P : List (View.Piece (Elt Ideal) S256x10240 .bf16)) (hP : Upto x0 x1 P (80 * k.val)) :
    Upto x0 x1 (tripL_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h (harg3.unread x0) (harg4.unread x1) k ++ P) (80 * (k.val + 1)) := by
  unfold tripL_k0_t1 trip_k0_t1
  dsimp only
  refine upto_cons (arg3 := arg3) (harg3 := harg3) (arg4 := arg4) (harg4 := harg4) 79 (k0_off159_eq k) (k0_off160_eq k) ?_
  refine upto_cons (arg3 := arg3) (harg3 := harg3) (arg4 := arg4) (harg4 := harg4) 78 (k0_off157_eq k) (k0_off158_eq k) ?_
  refine upto_cons (arg3 := arg3) (harg3 := harg3) (arg4 := arg4) (harg4 := harg4) 77 (k0_off155_eq k) (k0_off156_eq k) ?_
  refine upto_cons (arg3 := arg3) (harg3 := harg3) (arg4 := arg4) (harg4 := harg4) 76 (k0_off153_eq k) (k0_off154_eq k) ?_
  refine upto_cons (arg3 := arg3) (harg3 := harg3) (arg4 := arg4) (harg4 := harg4) 75 (k0_off151_eq k) (k0_off152_eq k) ?_
  refine upto_cons (arg3 := arg3) (harg3 := harg3) (arg4 := arg4) (harg4 := harg4) 74 (k0_off149_eq k) (k0_off150_eq k) ?_
  refine upto_cons (arg3 := arg3) (harg3 := harg3) (arg4 := arg4) (harg4 := harg4) 73 (k0_off147_eq k) (k0_off148_eq k) ?_
  refine upto_cons (arg3 := arg3) (harg3 := harg3) (arg4 := arg4) (harg4 := harg4) 72 (k0_off145_eq k) (k0_off146_eq k) ?_
  refine upto_cons (arg3 := arg3) (harg3 := harg3) (arg4 := arg4) (harg4 := harg4) 71 (k0_off143_eq k) (k0_off144_eq k) ?_
  refine upto_cons (arg3 := arg3) (harg3 := harg3) (arg4 := arg4) (harg4 := harg4) 70 (k0_off141_eq k) (k0_off142_eq k) ?_
  refine upto_cons (arg3 := arg3) (harg3 := harg3) (arg4 := arg4) (harg4 := harg4) 69 (k0_off139_eq k) (k0_off140_eq k) ?_
  refine upto_cons (arg3 := arg3) (harg3 := harg3) (arg4 := arg4) (harg4 := harg4) 68 (k0_off137_eq k) (k0_off138_eq k) ?_
  refine upto_cons (arg3 := arg3) (harg3 := harg3) (arg4 := arg4) (harg4 := harg4) 67 (k0_off135_eq k) (k0_off136_eq k) ?_
  refine upto_cons (arg3 := arg3) (harg3 := harg3) (arg4 := arg4) (harg4 := harg4) 66 (k0_off133_eq k) (k0_off134_eq k) ?_
  refine upto_cons (arg3 := arg3) (harg3 := harg3) (arg4 := arg4) (harg4 := harg4) 65 (k0_off131_eq k) (k0_off132_eq k) ?_
  refine upto_cons (arg3 := arg3) (harg3 := harg3) (arg4 := arg4) (harg4 := harg4) 64 (k0_off129_eq k) (k0_off130_eq k) ?_
  refine upto_cons (arg3 := arg3) (harg3 := harg3) (arg4 := arg4) (harg4 := harg4) 63 (k0_off127_eq k) (k0_off128_eq k) ?_
  refine upto_cons (arg3 := arg3) (harg3 := harg3) (arg4 := arg4) (harg4 := harg4) 62 (k0_off125_eq k) (k0_off126_eq k) ?_
  refine upto_cons (arg3 := arg3) (harg3 := harg3) (arg4 := arg4) (harg4 := harg4) 61 (k0_off123_eq k) (k0_off124_eq k) ?_
  refine upto_cons (arg3 := arg3) (harg3 := harg3) (arg4 := arg4) (harg4 := harg4) 60 (k0_off121_eq k) (k0_off122_eq k) ?_
  refine upto_cons (arg3 := arg3) (harg3 := harg3) (arg4 := arg4) (harg4 := harg4) 59 (k0_off119_eq k) (k0_off120_eq k) ?_
  refine upto_cons (arg3 := arg3) (harg3 := harg3) (arg4 := arg4) (harg4 := harg4) 58 (k0_off117_eq k) (k0_off118_eq k) ?_
  refine upto_cons (arg3 := arg3) (harg3 := harg3) (arg4 := arg4) (harg4 := harg4) 57 (k0_off115_eq k) (k0_off116_eq k) ?_
  refine upto_cons (arg3 := arg3) (harg3 := harg3) (arg4 := arg4) (harg4 := harg4) 56 (k0_off113_eq k) (k0_off114_eq k) ?_
  refine upto_cons (arg3 := arg3) (harg3 := harg3) (arg4 := arg4) (harg4 := harg4) 55 (k0_off111_eq k) (k0_off112_eq k) ?_
  refine upto_cons (arg3 := arg3) (harg3 := harg3) (arg4 := arg4) (harg4 := harg4) 54 (k0_off109_eq k) (k0_off110_eq k) ?_
  refine upto_cons (arg3 := arg3) (harg3 := harg3) (arg4 := arg4) (harg4 := harg4) 53 (k0_off107_eq k) (k0_off108_eq k) ?_
  refine upto_cons (arg3 := arg3) (harg3 := harg3) (arg4 := arg4) (harg4 := harg4) 52 (k0_off105_eq k) (k0_off106_eq k) ?_
  refine upto_cons (arg3 := arg3) (harg3 := harg3) (arg4 := arg4) (harg4 := harg4) 51 (k0_off103_eq k) (k0_off104_eq k) ?_
  refine upto_cons (arg3 := arg3) (harg3 := harg3) (arg4 := arg4) (harg4 := harg4) 50 (k0_off101_eq k) (k0_off102_eq k) ?_
  refine upto_cons (arg3 := arg3) (harg3 := harg3) (arg4 := arg4) (harg4 := harg4) 49 (k0_off99_eq k) (k0_off100_eq k) ?_
  refine upto_cons (arg3 := arg3) (harg3 := harg3) (arg4 := arg4) (harg4 := harg4) 48 (k0_off97_eq k) (k0_off98_eq k) ?_
  refine upto_cons (arg3 := arg3) (harg3 := harg3) (arg4 := arg4) (harg4 := harg4) 47 (k0_off95_eq k) (k0_off96_eq k) ?_
  refine upto_cons (arg3 := arg3) (harg3 := harg3) (arg4 := arg4) (harg4 := harg4) 46 (k0_off93_eq k) (k0_off94_eq k) ?_
  refine upto_cons (arg3 := arg3) (harg3 := harg3) (arg4 := arg4) (harg4 := harg4) 45 (k0_off91_eq k) (k0_off92_eq k) ?_
  refine upto_cons (arg3 := arg3) (harg3 := harg3) (arg4 := arg4) (harg4 := harg4) 44 (k0_off89_eq k) (k0_off90_eq k) ?_
  refine upto_cons (arg3 := arg3) (harg3 := harg3) (arg4 := arg4) (harg4 := harg4) 43 (k0_off87_eq k) (k0_off88_eq k) ?_
  refine upto_cons (arg3 := arg3) (harg3 := harg3) (arg4 := arg4) (harg4 := harg4) 42 (k0_off85_eq k) (k0_off86_eq k) ?_
  refine upto_cons (arg3 := arg3) (harg3 := harg3) (arg4 := arg4) (harg4 := harg4) 41 (k0_off83_eq k) (k0_off84_eq k) ?_
  refine upto_cons (arg3 := arg3) (harg3 := harg3) (arg4 := arg4) (harg4 := harg4) 40 (k0_off81_eq k) (k0_off82_eq k) ?_
  refine upto_cons (arg3 := arg3) (harg3 := harg3) (arg4 := arg4) (harg4 := harg4) 39 (k0_off79_eq k) (k0_off80_eq k) ?_
  refine upto_cons (arg3 := arg3) (harg3 := harg3) (arg4 := arg4) (harg4 := harg4) 38 (k0_off77_eq k) (k0_off78_eq k) ?_
  refine upto_cons (arg3 := arg3) (harg3 := harg3) (arg4 := arg4) (harg4 := harg4) 37 (k0_off75_eq k) (k0_off76_eq k) ?_
  refine upto_cons (arg3 := arg3) (harg3 := harg3) (arg4 := arg4) (harg4 := harg4) 36 (k0_off73_eq k) (k0_off74_eq k) ?_
  refine upto_cons (arg3 := arg3) (harg3 := harg3) (arg4 := arg4) (harg4 := harg4) 35 (k0_off71_eq k) (k0_off72_eq k) ?_
  refine upto_cons (arg3 := arg3) (harg3 := harg3) (arg4 := arg4) (harg4 := harg4) 34 (k0_off69_eq k) (k0_off70_eq k) ?_
  refine upto_cons (arg3 := arg3) (harg3 := harg3) (arg4 := arg4) (harg4 := harg4) 33 (k0_off67_eq k) (k0_off68_eq k) ?_
  refine upto_cons (arg3 := arg3) (harg3 := harg3) (arg4 := arg4) (harg4 := harg4) 32 (k0_off65_eq k) (k0_off66_eq k) ?_
  refine upto_cons (arg3 := arg3) (harg3 := harg3) (arg4 := arg4) (harg4 := harg4) 31 (k0_off63_eq k) (k0_off64_eq k) ?_
  refine upto_cons (arg3 := arg3) (harg3 := harg3) (arg4 := arg4) (harg4 := harg4) 30 (k0_off61_eq k) (k0_off62_eq k) ?_
  refine upto_cons (arg3 := arg3) (harg3 := harg3) (arg4 := arg4) (harg4 := harg4) 29 (k0_off59_eq k) (k0_off60_eq k) ?_
  refine upto_cons (arg3 := arg3) (harg3 := harg3) (arg4 := arg4) (harg4 := harg4) 28 (k0_off57_eq k) (k0_off58_eq k) ?_
  refine upto_cons (arg3 := arg3) (harg3 := harg3) (arg4 := arg4) (harg4 := harg4) 27 (k0_off55_eq k) (k0_off56_eq k) ?_
  refine upto_cons (arg3 := arg3) (harg3 := harg3) (arg4 := arg4) (harg4 := harg4) 26 (k0_off53_eq k) (k0_off54_eq k) ?_
  refine upto_cons (arg3 := arg3) (harg3 := harg3) (arg4 := arg4) (harg4 := harg4) 25 (k0_off51_eq k) (k0_off52_eq k) ?_
  refine upto_cons (arg3 := arg3) (harg3 := harg3) (arg4 := arg4) (harg4 := harg4) 24 (k0_off49_eq k) (k0_off50_eq k) ?_
  refine upto_cons (arg3 := arg3) (harg3 := harg3) (arg4 := arg4) (harg4 := harg4) 23 (k0_off47_eq k) (k0_off48_eq k) ?_
  refine upto_cons (arg3 := arg3) (harg3 := harg3) (arg4 := arg4) (harg4 := harg4) 22 (k0_off45_eq k) (k0_off46_eq k) ?_
  refine upto_cons (arg3 := arg3) (harg3 := harg3) (arg4 := arg4) (harg4 := harg4) 21 (k0_off43_eq k) (k0_off44_eq k) ?_
  refine upto_cons (arg3 := arg3) (harg3 := harg3) (arg4 := arg4) (harg4 := harg4) 20 (k0_off41_eq k) (k0_off42_eq k) ?_
  refine upto_cons (arg3 := arg3) (harg3 := harg3) (arg4 := arg4) (harg4 := harg4) 19 (k0_off39_eq k) (k0_off40_eq k) ?_
  refine upto_cons (arg3 := arg3) (harg3 := harg3) (arg4 := arg4) (harg4 := harg4) 18 (k0_off37_eq k) (k0_off38_eq k) ?_
  refine upto_cons (arg3 := arg3) (harg3 := harg3) (arg4 := arg4) (harg4 := harg4) 17 (k0_off35_eq k) (k0_off36_eq k) ?_
  refine upto_cons (arg3 := arg3) (harg3 := harg3) (arg4 := arg4) (harg4 := harg4) 16 (k0_off33_eq k) (k0_off34_eq k) ?_
  refine upto_cons (arg3 := arg3) (harg3 := harg3) (arg4 := arg4) (harg4 := harg4) 15 (k0_off31_eq k) (k0_off32_eq k) ?_
  refine upto_cons (arg3 := arg3) (harg3 := harg3) (arg4 := arg4) (harg4 := harg4) 14 (k0_off29_eq k) (k0_off30_eq k) ?_
  refine upto_cons (arg3 := arg3) (harg3 := harg3) (arg4 := arg4) (harg4 := harg4) 13 (k0_off27_eq k) (k0_off28_eq k) ?_
  refine upto_cons (arg3 := arg3) (harg3 := harg3) (arg4 := arg4) (harg4 := harg4) 12 (k0_off25_eq k) (k0_off26_eq k) ?_
  refine upto_cons (arg3 := arg3) (harg3 := harg3) (arg4 := arg4) (harg4 := harg4) 11 (k0_off23_eq k) (k0_off24_eq k) ?_
  refine upto_cons (arg3 := arg3) (harg3 := harg3) (arg4 := arg4) (harg4 := harg4) 10 (k0_off21_eq k) (k0_off22_eq k) ?_
  refine upto_cons (arg3 := arg3) (harg3 := harg3) (arg4 := arg4) (harg4 := harg4) 9 (k0_off19_eq k) (k0_off20_eq k) ?_
  refine upto_cons (arg3 := arg3) (harg3 := harg3) (arg4 := arg4) (harg4 := harg4) 8 (k0_off17_eq k) (k0_off18_eq k) ?_
  refine upto_cons (arg3 := arg3) (harg3 := harg3) (arg4 := arg4) (harg4 := harg4) 7 (k0_off15_eq k) (k0_off16_eq k) ?_
  refine upto_cons (arg3 := arg3) (harg3 := harg3) (arg4 := arg4) (harg4 := harg4) 6 (k0_off13_eq k) (k0_off14_eq k) ?_
  refine upto_cons (arg3 := arg3) (harg3 := harg3) (arg4 := arg4) (harg4 := harg4) 5 (k0_off11_eq k) (k0_off12_eq k) ?_
  refine upto_cons (arg3 := arg3) (harg3 := harg3) (arg4 := arg4) (harg4 := harg4) 4 (k0_off9_eq k) (k0_off10_eq k) ?_
  refine upto_cons (arg3 := arg3) (harg3 := harg3) (arg4 := arg4) (harg4 := harg4) 3 (k0_off7_eq k) (k0_off8_eq k) ?_
  refine upto_cons (arg3 := arg3) (harg3 := harg3) (arg4 := arg4) (harg4 := harg4) 2 (k0_off5_eq k) (k0_off6_eq k) ?_
  refine upto_cons (arg3 := arg3) (harg3 := harg3) (arg4 := arg4) (harg4 := harg4) 1 (k0_off3_eq k) (k0_off4_eq k) ?_
  refine upto_cons (arg3 := arg3) (harg3 := harg3) (arg4 := arg4) (harg4 := harg4) 0 (k0_off1_eq k) (k0_off2_eq k) ?_
  exact hP

/-- The tiles of the trips before `k`. -/
theorem upto_loop (k : ℕ) (hk : k ≤ 8) :
    Upto x0 x1 (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h (harg3.unread x0) (harg4.unread x1) k) (80 * k) := by
  induction k with
  | zero => exact upto_nil x0 x1
  | succ k ih =>
    have hk' : k < k0_t1_loop.trips := lt_of_lt_of_eq (by omega : k < 8) (by decide +kernel)
    have e := pb_k0_t1_succ (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h (harg3.unread x0) (harg4.unread x1) ⟨k, hk'⟩
    dsimp only at e
    rw [e]
    exact upto_trip c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h x0 x1 ⟨k, hk'⟩ _ (ih (by omega))

/-- After the loop the rows' buffer holds the dequantised rows. -/
theorem read_of_dq (f : BufTy.Contents (Elt Ideal) arg14.view.ty)
    (hf : DqOf (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h x0 x1 f) : arg14.view.read (Elt Ideal) f = entry x0 x1 := by
  obtain ⟨g, rfl⟩ := hf
  have e : k0_t1_loop.trips = 8 := by decide +kernel
  have u := upto_loop c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h x0 x1 8 le_rfl
  rw [e]
  funext y
  refine View.read_writes_apply_of_pieces arg14.view _ _ _ u.agree y ?_
  refine u.cover y ?_
  have h0 : (y 0).val < 256 := (y 0).isLt
  have h1 : (y 1).val < 10240 := (y 1).isLt
  omega

end

end Cert.ProjIdeal.Xd
-- ==== Proof.ProjIdealValue.lean ====
/- The block of the projection a grid point stores: dequantised rows times dequantised weights, summed over the 10240
   columns of the rows; in each of the four cases of the body, that block is what the point's buffer of results ends with. -/
module

public import proofs.«01_k».proof.Proof.ProjIdealFrame
public import proofs.«01_k».proof.Proof.ProjIdealWd
public import proofs.«01_k».proof.Proof.ProjIdealXd
public import Idealize.ShloMosaic.Lib.WritesUnit

@[expose] public section

set_option maxRecDepth 65536

open Idealize.ShloMosaic Idealize.ShloMosaic.TcCoe

namespace Cert.ProjIdeal.Block

open Cert.ProjIdeal Cert.ProjIdeal.Gen Cert.ProjIdeal.Hand

/-- The entry at row `r` and column `v` of grid point `i`'s block. -/
noncomputable def proj (i : grid0.Coords) (x0 : Vec Ideal S256x10240 .fp8e4m3) (x1 : Vec Ideal S256x80 .f32)
    (x2 : Vec Ideal S10240x512 .fp8e4m3) (x3 : Vec Ideal S80x40 .f32) (r : Fin 256) (v : Fin 512) : EReal :=
  ∑ k : Fin 10240, Xd.entry x0 x1 (ix2 r k) * Wd.weight i x2 x3 (ix2 k v)

theorem idx_whole {d0 d1 : ℕ} (inb) (y : (⟨2, ![d0, d1]⟩ : Shape).Idx) :
    (Rect.unit (s := ⟨2, ![d0, d1]⟩) ![0, 0] ![d0, d1] inb).toLoadRect.idx y = y := by
  funext q
  match q with
  | ⟨0, _⟩ => exact Fin.ext (by show 0 + 1 * (y 0).val = (y 0).val; omega)
  | ⟨1, _⟩ => exact Fin.ext (by show 0 + 1 * (y 1).val = (y 1).val; omega)

/-- The product the body stores, of the rows' buffer (holding the dequantised rows) and the 320 tiles of weights. -/
theorem pay_at (i : grid0.Coords) {arg14 : Memref sig .tc .vmem S256x10240 .bf16} {arg15 : Memref sig .tc .vmem S10240x512 .bf16}
    (x0 x1 x2 x3) (g : BufTy.Contents (Elt Ideal) arg14.view.ty) (hg : arg14.view.read (Elt Ideal) g = Xd.entry x0 x1)
    (L : List (View.Piece (Elt Ideal) S10240x512 .bf16)) (hL : Wd.Upto i x2 x3 L 320) (inb inb') (r : Fin 256) (v : Fin 512) :
    k0_pay1 (F := Ideal) (k0_pay1141 (F := Ideal) (arg14.view.readAt (Elt Ideal) (Rect.unit (s := S256x10240) ![0, 0] S256x10240.size inb).toLoadRect g)
      (arg15.view.readCov L (Rect.unit (s := S10240x512) ![0, 0] S10240x512.size inb').toLoadRect)) (ix2 r v)
      = proj i x0 x1 x2 x3 r v := by
  have hw : (arg15.view.readCov L (Rect.unit (s := S10240x512) ![0, 0] S10240x512.size inb').toLoadRect)
      = Wd.weight i x2 x3 := by
    rw [View.readCov_eq_canon']
    funext y
    rw [idx_whole]
    refine View.canon_apply_of_pieces _ L hL.agree y ?_
    refine hL.cover y ?_
    have h0 : (y 0).val < 10240 := (y 0).isLt
    have h1 : (y 1).val < 512 := (y 1).isLt
    omega
  have hx : arg14.view.readAt (Elt Ideal) (Rect.unit (s := S256x10240) ![0, 0] S256x10240.size inb).toLoadRect g = Xd.entry x0 x1 := by
    funext y
    rw [View.readAt_apply, hg, idx_whole]
  rw [hw, hx]
  pointwise [k0_pay1, k0_pay1141]
  try rfl

/-- What the block's buffer holds after its one store. -/
theorem read_at (v8 : View sig .tc .vmem S256x512 .bf16) (f : v8.ty.Contents (Elt Ideal)) (inb) (w) (r : Fin 256) (v : Fin 512) :
    v8.read (Elt Ideal) (v8.writes (Elt Ideal) f [(⟨Rect.unit (s := S256x512) ![0, 0] S256x512.size inb, w⟩ : View.Piece (Elt Ideal) S256x512 .bf16)]) (ix2 r v)
      = w (ix2 r v) :=
  View.read_writes_cons_rows_of_mem v8 f inb w [] (ix2 r v) (ix2 r v) rfl (Nat.zero_add _).symm rfl

variable (m : (ℓ : Loc nD τ sig) → Buf (Elt Ideal) ℓ) (c : Dev nD) (t : Fin (cfgM m).N)

/-- The block point `t` stores, of the blocks it is given. -/
noncomputable abbrev at_ (r : Fin 256) (v : Fin 512) : EReal :=
  proj (grid0.coords t) (iblk m c 0 t) (iblk m c 1 t) (iblk m c 2 t) (iblk m c 3 t) r v

/-- After a first column block's loop the rows' buffer holds the dequantised rows. -/
theorem rows_of_dq (h1 : cond1 (grid0.coords t)) (g) (hg : Dq m c t h1 g) :
    sc0.view.read (Elt Ideal) g = Xd.entry (iblk m c 0 t) (iblk m c 1 t) :=
  Xd.read_of_dq c (grid0.coords t) _ _ _ _ _ _ _ _ _ _ _ _ _ _ _ _ _ _ _ _ _ _ _ _ _ _ _ _ _ _ _ _ h1 _ _ g hg

theorem out_A (h1 : cond1 (grid0.coords t)) (h2 : cond2 (grid0.coords t)) (h3 : ¬cond3 (grid0.coords t)) (g) (f) (hg : Dq m c t h1 g)
    (r : Fin 256) (v : Fin 512) : outA m c t h1 h2 h3 g f (ix2 r v) = at_ m c t r v := by
  refine (read_at (ms6 m t).view f _ (k0_pay1 (F := Ideal) (runA.sl.r_321 c (grid0.coords t) (ms2 m t) (hs2 m t) (ms3 m t) (hs3 m t) sc0 sc1 (iblk m c 2 t) (iblk m c 3 t) g)) r v).trans ?_
  exact pay_at (grid0.coords t) (arg14 := sc0) (arg15 := sc1) _ _ _ _ g (rows_of_dq m c t h1 g hg) _ (Wd.upto_A c (grid0.coords t) (ms2 m t) (hs2 m t) (ms3 m t) (hs3 m t) _ _) _ _ r v

theorem out_B (h1 : cond1 (grid0.coords t)) (h2 : ¬cond2 (grid0.coords t)) (h3 : ¬cond3 (grid0.coords t)) (g) (f) (hg : Dq m c t h1 g)
    (r : Fin 256) (v : Fin 512) : outB m c t h1 h2 h3 g f (ix2 r v) = at_ m c t r v := by
  refine (read_at (ms6 m t).view f _ (k0_pay1 (F := Ideal) (runB.sl.r_321 c (grid0.coords t) (ms2 m t) (hs2 m t) (ms3 m t) (hs3 m t) sc0 sc1 (iblk m c 2 t) (iblk m c 3 t) g)) r v).trans ?_
  exact pay_at (grid0.coords t) (arg14 := sc0) (arg15 := sc1) _ _ _ _ g (rows_of_dq m c t h1 g hg) _ (Wd.upto_B c (grid0.coords t) (ms2 m t) (hs2 m t) (ms3 m t) (hs3 m t) _ _) _ _ r v

theorem out_C (h1 : ¬cond1 (grid0.coords t)) (h2 : ¬cond2 (grid0.coords t)) (h3 : ¬cond3 (grid0.coords t)) (xs) (f) (hx : xs = Xd.entry (iblk m c 0 t) (iblk m c 1 t))
    (r : Fin 256) (v : Fin 512) : outC m c t h1 h2 h3 xs f (ix2 r v) = at_ m c t r v := by
  refine (read_at (ms6 m t).view f _ (k0_pay1 (F := Ideal) (runC.sl.r_321 c (grid0.coords t) (ms2 m t) (hs2 m t) (ms3 m t) (hs3 m t) sc0 (Memref.isWhole_whole _) sc1 (iblk m c 2 t) (iblk m c 3 t) xs)) r v).trans ?_
  exact pay_at (grid0.coords t) (arg14 := sc0) (arg15 := sc1) _ _ _ _ ((Memref.isWhole_whole _ : sc0.IsWhole).unread xs) ((Memref.IsWhole.read_unread _ _).trans hx) _ (Wd.upto_C c (grid0.coords t) (ms2 m t) (hs2 m t) (ms3 m t) (hs3 m t) _ _) _ _ r v

theorem out_D (hH : Hyps m) (h1 : ¬cond1 (grid0.coords t)) (h2 : ¬cond2 (grid0.coords t)) (h3 : cond3 (grid0.coords t)) (xs) (f) (hx : xs = Xd.entry (iblk m c 0 t) (iblk m c 1 t))
    (r : Fin 256) (v : Fin 512) : outD m hH c t h1 h2 h3 xs f (ix2 r v) = at_ m c t r v := by
  refine (read_at (ms6 m t).view f _ (k0_pay1 (F := Ideal) (runD.sl.r_321 c (grid0.coords t) (ms2 m t) (hs2 m t) (ms3 m t) (hs3 m t) sc0 (Memref.isWhole_whole _) sc1 (iblk m c 2 t) (iblk m c 3 t) xs)) r v).trans ?_
  exact pay_at (grid0.coords t) (arg14 := sc0) (arg15 := sc1) _ _ _ _ ((Memref.isWhole_whole _ : sc0.IsWhole).unread xs) ((Memref.IsWhole.read_unread _ _).trans hx) _ (Wd.upto_D c (grid0.coords t) (ms2 m t) (hs2 m t) (ms3 m t) (hs3 m t) _ _) _ _ r v

end Cert.ProjIdeal.Block
-- ==== Proof.ProjIdealBlocks.lean ====
/- The blocks the projection's grid points are given, at an index of the arrays they are cut from: point `t` works on rows
   256·(t/10) on and on columns 512·(t%10) on. -/
module

public import proofs.«01_k».proof.Proof.ProjIdealValue
public import Idealize.ShloMosaic.Lib.Pipeline.ValueKit
public import Idealize.ShloMosaic.Lib.Pointwise

@[expose] public section

set_option maxRecDepth 65536

open Idealize.ShloMosaic Idealize.ShloMosaic.TcCoe

namespace Cert.ProjIdeal.Blocks

open Cert.ProjIdeal Cert.ProjIdeal.Gen Cert.ProjIdeal.Hand

variable (m : (ℓ : Loc nD τ sig) → Buf (Elt Ideal) ℓ) (c : Dev nD)

theorem t0 : ∀ t : Fin grid0.N, cc0_transform_0 (grid0.coords t) = ![t.val / 10, 0] := by decide +kernel
theorem t1 : ∀ t : Fin grid0.N, cc0_transform_1 (grid0.coords t) = ![t.val / 10, 0] := by decide +kernel
theorem t2 : ∀ t : Fin grid0.N, cc0_transform_2 (grid0.coords t) = ![0, t.val % 10] := by decide +kernel
theorem t3 : ∀ t : Fin grid0.N, cc0_transform_3 (grid0.coords t) = ![0, 0] := by decide +kernel
theorem t6 : ∀ t : Fin grid0.N, cc0_transform_6 (grid0.coords t) = ![t.val / 10, t.val % 10] := by decide +kernel

theorem scale {x y n a b : ℕ} (h : x = y) (e : y * n + a = b) : x * n + a = b := h ▸ e

/-- The codes of the rows. -/
theorem blk0 (t : Fin (cfgM m).N) (r : Fin 256) (k : Fin 10240) (h : 256 * (t.val / 10) + r.val < 1536) :
    iblk m c 0 t (ix2 r k) = m ((c : Thread nD τ).loc main_arg1) (ix2 ⟨256 * (t.val / 10) + r.val, h⟩ k) := by
  blk_ext! [iblk, V]
  · exact scale (congrFun (t0 t) 0) (by simp; omega)
  · exact scale (congrFun (t0 t) 1) (by simp)

/-- The scales of the rows. -/
theorem blk1 (t : Fin (cfgM m).N) (r : Fin 256) (k : Fin 80) (h : 256 * (t.val / 10) + r.val < 1536) :
    iblk m c 1 t (ix2 r k) = m ((c : Thread nD τ).loc main_arg2) (ix2 ⟨256 * (t.val / 10) + r.val, h⟩ k) := by
  blk_ext! [iblk, V]
  · exact scale (congrFun (t1 t) 0) (by simp; omega)
  · exact scale (congrFun (t1 t) 1) (by simp)

/-- The codes of the weights: 512 columns of them. -/
theorem blk2 (t : Fin (cfgM m).N) (k : Fin 10240) (v : Fin 512) (h : 512 * (t.val % 10) + v.val < 5120) :
    iblk m c 2 t (ix2 k v) = m ((c : Thread nD τ).loc main_arg3) (ix2 k ⟨512 * (t.val % 10) + v.val, h⟩) := by
  blk_ext! [iblk, V]
  · exact scale (congrFun (t2 t) 0) (by simp)
  · exact scale (congrFun (t2 t) 1) (by simp; omega)

/-- The scales of the weights. -/
theorem blk3 (t : Fin (cfgM m).N) (a : Fin 80) (b : Fin 40) :
    iblk m c 3 t (ix2 a b) = m ((c : Thread nD τ).loc main_arg4) (ix2 a b) := by
  blk_ext! [iblk, V]
  · exact scale (congrFun (t3 t) 0) (by simp)
  · exact scale (congrFun (t3 t) 1) (by simp)

/-- Every point writes its block of results back. -/
theorem flush6 : ∀ t : Fin (cfgM m).N, ((cfgM m).win 6).flush t = true :=
  (by decide +kernel : ∀ t : Fin grid0.N, Pipeline.Window.flushOf grid0 true cc0_transform_6 t = true)

/-- Where point `t`'s block of results lies. -/
theorem emb6 (t : Fin (cfgM m).N) (r : Fin 256) (v : Fin 512) (h0 : 256 * (t.val / 10) + r.val < 1536) (h1 : 512 * (t.val % 10) + v.val < 5120) :
    (((cfgM m).win 6).blk t).view.emb (ix2 r v : S256x512.Idx) = (ix2 ⟨256 * (t.val / 10) + r.val, h0⟩ ⟨512 * (t.val % 10) + v.val, h1⟩ : S1536x5120.Idx) := by
  funext a
  apply Fin.ext
  match a with
  | ⟨0, _⟩ =>
    show cc0_transform_6 (grid0.coords t) 0 * 256 + 1 * r.val = 256 * (t.val / 10) + r.val
    exact scale (congrFun (t6 t) 0) (by simp; omega)
  | ⟨1, _⟩ =>
    show cc0_transform_6 (grid0.coords t) 1 * 512 + 1 * v.val = 512 * (t.val % 10) + v.val
    exact scale (congrFun (t6 t) 1) (by simp; omega)

end Cert.ProjIdeal.Blocks
-- ==== Proof.ProjIdealKRun.lean ====
/- The projection's run: it ends with the result array holding dequantised rows times dequantised weights, the arguments
   unchanged. Before every point that is not first in its row block, the rows' buffer holds that block's dequantised rows,
   written at the first; so every point's block of results is its part of one array. -/
module

public import proofs.«01_k».proof.Proof.ProjIdealBlocks
public import Idealize.ShloMosaic.Lib.Pipeline.ArrRel

@[expose] public section

set_option maxRecDepth 65536

open Idealize.ShloMosaic Idealize.ShloMosaic.TcCoe Idealize.SL.Sem

namespace Cert.ProjIdeal.KRun

open Cert.ProjIdeal Cert.ProjIdeal.Gen Cert.ProjIdeal.Hand

/-- Dequantised rows times dequantised weights, of the arrays of codes and scales. -/
noncomputable def product (X : Vec Ideal S1536x10240 .fp8e4m3) (XS : Vec Ideal S1536x80 .f32) (W : Vec Ideal S10240x5120 .fp8e4m3)
    (WS : Vec Ideal S80x40 .f32) : S1536x5120.Idx → EReal := fun y =>
  ∑ k : Fin 10240, ((show EReal from X (ix2 (y 0) k)) * (show EReal from XS (ix2 (y 0) ⟨k.val / 128, by omega⟩)))
    * ((show EReal from W (ix2 k (y 1))) * (show EReal from WS (ix2 ⟨k.val / 128, by omega⟩
        ⟨(y 1).val / 128, by have h : (y 1).val < 5120 := (y 1).isLt; omega⟩)))

variable (m : (ℓ : Loc nD τ sig) → Buf (Elt Ideal) ℓ)

/-- The result array. -/
noncomputable def result (c : Dev nD) : S1536x5120.Idx → EReal :=
  product (m ((c : Thread nD τ).loc main_arg1)) (m ((c : Thread nD τ).loc main_arg2)) (m ((c : Thread nD τ).loc main_arg3))
    (m ((c : Thread nD τ).loc main_arg4))

theorem bounds (t : Fin (cfgM m).N) (r : Fin 256) (v : Fin 512) :
    256 * (t.val / 10) + r.val < 1536 ∧ 512 * (t.val % 10) + v.val < 5120 := by
  have h : t.val < 60 := t.isLt
  omega

/-- Point `t`'s block of results is its part of the result array. -/
theorem at_eq (c : Dev nD) (t : Fin (cfgM m).N) (r : Fin 256) (v : Fin 512) :
    Block.at_ m c t r v = result m c (ix2 ⟨256 * (t.val / 10) + r.val, (bounds m t r v).1⟩ ⟨512 * (t.val % 10) + v.val, (bounds m t r v).2⟩) := by
  unfold Block.at_ Block.proj result product
  refine Finset.sum_congr rfl fun k _ => ?_
  unfold Xd.entry Wd.weight
  refine Ideal.mul_congr (Ideal.mul_congr ?_ ?_) (Ideal.mul_congr ?_ ?_)
  · exact Blocks.blk0 m c t r k (bounds m t r v).1
  · exact Blocks.blk1 m c t r _ (bounds m t r v).1
  · exact Blocks.blk2 m c t k v (bounds m t r v).2
  · refine (Blocks.blk3 m c t _ _).trans (congrArg (m ((c : Thread nD τ).loc main_arg4)) ?_)
    refine congrArg₂ ix2 (Fin.ext rfl) (Fin.ext ?_)
    show 4 * (grid0.coords t 1).val + v.val / 128 = (512 * (t.val % 10) + v.val) / 128
    rw [coords1 t]
    omega

/-- Points of one row block are given the same rows. -/
theorem rows_congr (c : Dev nD) (t t' : Fin (cfgM m).N) (h : t.val / 10 = t'.val / 10) :
    Xd.entry (iblk m c 0 t) (iblk m c 1 t) = Xd.entry (iblk m c 0 t') (iblk m c 1 t') := by
  funext y
  rw [eq_ix2 y]
  unfold Xd.entry
  refine Ideal.mul_congr ?_ ?_
  · refine (Blocks.blk0 m c t _ _ (bounds m t (y 0) 0).1).trans (Eq.trans ?_ (Blocks.blk0 m c t' _ _ (bounds m t' (y 0) 0).1).symm)
    exact congrArg (m ((c : Thread nD τ).loc main_arg1)) (congrArg₂ ix2 (Fin.ext (by show 256 * (t.val / 10) + _ = 256 * (t'.val / 10) + _; rw [h])) rfl)
  · refine (Blocks.blk1 m c t _ _ (bounds m t (y 0) 0).1).trans (Eq.trans ?_ (Blocks.blk1 m c t' _ _ (bounds m t' (y 0) 0).1).symm)
    exact congrArg (m ((c : Thread nD τ).loc main_arg2)) (congrArg₂ ix2 (Fin.ext (by show 256 * (t.val / 10) + _ = 256 * (t'.val / 10) + _; rw [h])) rfl)

/-- What is claimed of the run, point by point. -/
def spec : Spec Ideal where
  XR c n d := n % 10 ≠ 0 → ∀ t : Fin (cfgM m).N, t.val / 10 = n / 10 → d = Xd.entry (iblk m c 0 t) (iblk m c 1 t)
  PH c n X := ∀ t : Fin (cfgM m).N, t.val = n → ∀ (r : Fin 256) (v : Fin 512), X (ix2 r v) = Block.at_ m c t r v

/-- Each case's stores establish it. -/
theorem spec_ok (hH : Hyps m) : (spec m).Ok m hH where
  x0 _ _ h := absurd rfl h
  xA c t h1 f hf h t' e := by
    have h0 : t.val % 10 = 0 := (hcond1 t).1 h1
    exact (Block.rows_of_dq m c t h1 f hf).trans (rows_congr m c t t' (by omega))
  xC c t h1 d hd h t' e := by
    have h0 : ¬t.val % 10 = 0 := fun h0 => h1 ((hcond1 t).2 h0)
    exact hd h0 t' (by omega)
  pA c t h1 h2 h3 g f hg t' e r v := by
    obtain rfl : t' = t := Fin.ext e
    exact Block.out_A m c t' h1 h2 h3 g f hg r v
  pB c t h1 h2 h3 g f hg t' e r v := by
    obtain rfl : t' = t := Fin.ext e
    exact Block.out_B m c t' h1 h2 h3 g f hg r v
  pC c t h1 h2 h3 xs f hx t' e r v := by
    obtain rfl : t' = t := Fin.ext e
    exact Block.out_C m c t' h1 h2 h3 xs f (hx (fun h0 => h1 ((hcond1 t').2 h0)) t' rfl) r v
  pD c t h1 h2 h3 xs f hx t' e r v := by
    obtain rfl : t' = t := Fin.ext e
    exact Block.out_D m c t' hH h1 h2 h3 xs f (hx (fun h0 => h1 ((hcond1 t').2 h0)) t' rfl) r v

/-- Every index of the result array is in some point's block. -/
theorem covered (i : S1536x5120.Idx) :
    ∃ t : Fin (cfgM m).N, ((cfgM m).win 6).flush t = true ∧ i ∈ (((cfgM m).win 6).blk t).view.set := by
  have h0 : (i 0).val < 1536 := (i 0).isLt
  have h1 : (i 1).val < 5120 := (i 1).isLt
  have hN : (cfgM m).N = 60 := N_0
  let t : Fin (cfgM m).N := ⟨10 * ((i 0).val / 256) + (i 1).val / 512, by omega⟩
  let r : Fin 256 := ⟨(i 0).val % 256, by omega⟩
  let v : Fin 512 := ⟨(i 1).val % 512, by omega⟩
  refine ⟨t, Blocks.flush6 m t, ?_⟩
  have e : (((cfgM m).win 6).blk t).view.emb (ix2 r v : S256x512.Idx) = i := by
    rw [Blocks.emb6 m t r v (bounds m t r v).1 (bounds m t r v).2, eq_ix2 i]
    refine congrArg₂ ix2 (Fin.ext ?_) (Fin.ext ?_)
    · show 256 * ((10 * ((i 0).val / 256) + (i 1).val / 512) / 10) + (i 0).val % 256 = (i 0).val
      omega
    · show 512 * ((10 * ((i 0).val / 256) + (i 1).val / 512) % 10) + (i 1).val % 512 = (i 1).val
      omega
  have h := (((cfgM m).win 6).blk t).view.emb_mem_set (ix2 r v : S256x512.Idx)
  rwa [e] at h

/-- The array of results after the run. -/
theorem final (hH : Hyps m) (r : PUnit × MemSt nD τ sig (Elt Ideal))
    (h : Pipeline.RDat.FramePost (cfgM m) (rdat m (spec m)) (V m) r) (c : Dev nD) :
    r.2.mem ((c : Thread nD τ).loc main_v0_0) = result m c := by
  obtain ⟨after, hL, hA⟩ := h.exists_exact c
  refine (hA 6).trans ?_
  refine ((rdat m (spec m) c).withAfter after).arrAt_eq_of_cover 6 (result m c) (fun t hf => ?_) (covered m)
  obtain ⟨Y, -, hX⟩ := hL 6 t hf
  have hX : ∀ (r : Fin 256) (v : Fin 512), after 6 t (ix2 r v : S256x512.Idx) = Block.at_ m c t r v := hX t rfl
  funext j
  obtain ⟨r, v, rfl⟩ : ∃ (r : Fin 256) (v : Fin 512), j = (ix2 r v : S256x512.Idx)
    := ⟨(show S256x512.Idx from j) 0, (show S256x512.Idx from j) 1, eq_ix2 (show S256x512.Idx from j)⟩
  refine Eq.trans (?_ : _ = after 6 t (ix2 r v : S256x512.Idx)) ((hX r v).trans ((at_eq m c t r v).trans ?_))
  · rfl
  · exact congrArg (result m c) (Blocks.emb6 m t r v (bounds m t r v).1 (bounds m t r v).2).symm

/-- The run. -/
theorem run (ρ : Dev nD → PrngReg) (hH : Hyps m) :
    θ_run defs (onTc (τ := τ) (main (F := Ideal))) ⟨m, fun _ => 0, ρ⟩ fun r => ∀ c : Dev nD,
      r.2.mem ((c : Thread nD τ).loc main_v0_0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨final m hH r h.1 c,
      (h.1 c).2 main_arg0 (by decide : main_arg0 ∈ Pipeline.restRefs sig spec0),
      h.1.arr_in c 0 rfl, h.1.arr_in c 1 rfl, h.1.arr_in c 2 rfl, h.1.arr_in c 3 rfl, h.1.arr_in c 4 rfl, h.1.arr_in c 5 rfl⟩)
    (run_quiescent m ρ (spec m) (spec_ok m hH))

end Cert.ProjIdeal.KRun
-- ==== Proof.ProjWords.lean ====
/- The words the projection kernel computes from the lengths of the sequences when it copies a sequence's rows to their
   place among the packed rows: the first row of the sequence, the blocks of sixteen packed rows it meets, and for each
   of those blocks the row it starts at and the row of the sequence's buffer it is copied from. -/
module

public import Idealize.ShloMosaic.PureOps
public import Idealize.ShloMosaic.Lib.Scf
public import Idealize.ShloMosaic.Lib.Affine
public import Idealize.ShloMosaic.Lib.Pointwise

@[expose] public section

set_option maxRecDepth 16384

open Idealize.ShloMosaic

namespace Cert.ProjWords

/-- The quotient by sixteen, rounded down, as the body computes it. -/
def fdiv (x : BitVec 32) : BitVec 32 :=
  Scalar.select (Scalar.andi
      (Scalar.cmpi .ne (Scalar.subi (Scalar.extui (Scalar.cmpi .sgt x 0#32)) (Scalar.extui (Scalar.cmpi .slt x 0#32)))
        (Scalar.subi (Scalar.extui (Scalar.cmpi .sgt 16#32 0#32)) (Scalar.extui (Scalar.cmpi .slt 16#32 0#32))))
      (Scalar.cmpi .ne (Scalar.remsi x 16#32) 0#32))
    (Scalar.subi (Scalar.divsi x 16#32) 1#32) (Scalar.divsi x 16#32)

/-- The sum of the lengths of the sequences before sequence `b`, as the body computes it. -/
def off (b : ℕ) (w0 w1 w2 w3 w4 w5 : BitVec 32) : BitVec 32 :=
  Scalar.addi (Scalar.addi (Scalar.addi (Scalar.addi (Scalar.addi (Scalar.addi 0#32
    (Scalar.select (Scalar.cmpi .sgt (BitVec.ofNat 32 b) 0#32) w0 0#32))
    (Scalar.select (Scalar.cmpi .sgt (BitVec.ofNat 32 b) 1#32) w1 0#32))
    (Scalar.select (Scalar.cmpi .sgt (BitVec.ofNat 32 b) 2#32) w2 0#32))
    (Scalar.select (Scalar.cmpi .sgt (BitVec.ofNat 32 b) 3#32) w3 0#32))
    (Scalar.select (Scalar.cmpi .sgt (BitVec.ofNat 32 b) 4#32) w4 0#32))
    (Scalar.select (Scalar.cmpi .sgt (BitVec.ofNat 32 b) 5#32) w5 0#32)

/-- The blocks the first loop runs over, of a sequence of `l` rows from row `o`, -/
def loopA (o l : BitVec 32) : Scf.Loop 32 :=
  ⟨fdiv o, Scalar.addi (fdiv o) (Scalar.muli (Scalar.divsi (Scalar.subi (fdiv (Scalar.addi (Scalar.addi o l) 15#32)) (fdiv o)) 1#32) 1#32), 1#32⟩

/-- and those left for the second. -/
def loopB (o l : BitVec 32) : Scf.Loop 32 :=
  ⟨Scalar.addi (fdiv o) (Scalar.muli (Scalar.divsi (Scalar.subi (fdiv (Scalar.addi (Scalar.addi o l) 15#32)) (fdiv o)) 1#32) 1#32),
    Scalar.addi (fdiv o) (Scalar.subi (fdiv (Scalar.addi (Scalar.addi o l) 15#32)) (fdiv o)), 1#32⟩

/-- The first packed row of the block of trip `k`, -/
def row (o : BitVec 32) (k : ℕ) : BitVec 32 := Scalar.muli (Scf.iv (fdiv o) 1#32 k) 16#32

/-- and the row of the sequence's buffer copied there. -/
def src (o : BitVec 32) (k : ℕ) : BitVec 32 := Scalar.subi (Scalar.addi 16#32 (row o k)) o

theorem fdiv_fin : ∀ n : Fin 1024, fdiv (BitVec.ofNat 32 n.val) = BitVec.ofNat 32 (n.val / 16) := by decide +kernel

theorem divsi_one_fin : ∀ n : Fin 1024, Scalar.muli (Scalar.divsi (BitVec.ofNat 32 n.val) 1#32) 1#32 = BitVec.ofNat 32 n.val := by
  decide +kernel

theorem fdiv_toNat (x : BitVec 32) (h : x.toNat < 1024) : (fdiv x).toNat = x.toNat / 16 := by
  have e := fdiv_fin ⟨x.toNat, h⟩
  dsimp only at e
  rw [BitVec.ofNat_toNat, BitVec.setWidth_eq] at e
  rw [e, BitVec.toNat_ofNat]; omega

theorem divsi_one (x : BitVec 32) (h : x.toNat < 1024) : Scalar.muli (Scalar.divsi x 1#32) 1#32 = x := by
  have e := divsi_one_fin ⟨x.toNat, h⟩
  dsimp only at e
  rwa [BitVec.ofNat_toNat, BitVec.setWidth_eq] at e

theorem addi_toNat (x y : BitVec 32) : (Scalar.addi x y).toNat = (x.toNat + y.toNat) % 2 ^ 32 := BitVec.toNat_add x y

theorem subi_toNat (x y : BitVec 32) : (Scalar.subi x y).toNat = (2 ^ 32 - y.toNat + x.toNat) % 2 ^ 32 := BitVec.toNat_sub x y

/-- A sequence ends where the lengths up to it sum to, within the packed rows. -/
theorem off_le (b : ℕ) (hb : b < 6) (w : Fin 6 → BitVec 32)
    (h : (w 0).toNat + (w 1).toNat + (w 2).toNat + (w 3).toNat + (w 4).toNat + (w 5).toNat ≤ 880) :
    (off b (w 0) (w 1) (w 2) (w 3) (w 4) (w 5)).toNat + (w ⟨b, hb⟩).toNat ≤ 880 := by
  have s1 : ∀ x : BitVec 32, Scalar.select 1#1 x 0#32 = x := fun _ => rfl
  have s0 : ∀ x : BitVec 32, Scalar.select 0#1 x 0#32 = 0#32 := fun _ => rfl
  have c : ∀ b k : Fin 6, Scalar.cmpi .sgt (BitVec.ofNat 32 b.val) (BitVec.ofNat 32 k.val) = if k.val < b.val then 1#1 else 0#1 := by
    decide +kernel
  have c0 := c ⟨b, hb⟩ 0; have c1 := c ⟨b, hb⟩ 1; have c2 := c ⟨b, hb⟩ 2; have c3 := c ⟨b, hb⟩ 3; have c4 := c ⟨b, hb⟩ 4
  have c5 := c ⟨b, hb⟩ 5
  dsimp only at c0 c1 c2 c3 c4 c5
  change Scalar.cmpi .sgt (BitVec.ofNat 32 b) 0#32 = if 0 < b then 1#1 else 0#1 at c0
  change Scalar.cmpi .sgt (BitVec.ofNat 32 b) 1#32 = if 1 < b then 1#1 else 0#1 at c1
  change Scalar.cmpi .sgt (BitVec.ofNat 32 b) 2#32 = if 2 < b then 1#1 else 0#1 at c2
  change Scalar.cmpi .sgt (BitVec.ofNat 32 b) 3#32 = if 3 < b then 1#1 else 0#1 at c3
  change Scalar.cmpi .sgt (BitVec.ofNat 32 b) 4#32 = if 4 < b then 1#1 else 0#1 at c4
  change Scalar.cmpi .sgt (BitVec.ofNat 32 b) 5#32 = if 5 < b then 1#1 else 0#1 at c5
  unfold off
  rw [c0, c1, c2, c3, c4, c5]
  interval_cases b <;> simp only [s1, s0, addi_toNat, BitVec.toNat_ofNat, reduceIte, Nat.reduceLT, Nat.lt_irrefl] <;>
    (first | change _ + (w 0).toNat ≤ _ | change _ + (w 1).toNat ≤ _ | change _ + (w 2).toNat ≤ _ | change _ + (w 3).toNat ≤ _
           | change _ + (w 4).toNat ≤ _ | change _ + (w 5).toNat ≤ _) <;> omega

section

variable {o l : BitVec 32} (h : o.toNat + l.toNat ≤ 880) (hl : l.toNat ≤ 256)
include h

theorem end_toNat : (fdiv (Scalar.addi (Scalar.addi o l) 15#32)).toNat = (o.toNat + l.toNat + 15) / 16 := by
  have e : (Scalar.addi (Scalar.addi o l) 15#32).toNat = o.toNat + l.toNat + 15 := by
    rw [addi_toNat, addi_toNat, BitVec.toNat_ofNat]; omega
  rw [fdiv_toNat _ (by omega), e]

theorem start_toNat : (fdiv o).toNat = o.toNat / 16 := fdiv_toNat _ (by omega)

theorem diff_toNat : (Scalar.subi (fdiv (Scalar.addi (Scalar.addi o l) 15#32)) (fdiv o)).toNat
    = (o.toNat + l.toNat + 15) / 16 - o.toNat / 16 := by
  rw [subi_toNat, end_toNat h, start_toNat h]; omega

theorem bound_toNat : ((loopA o l).ub).toNat = (o.toNat + l.toNat + 15) / 16 := by
  show (Scalar.addi (fdiv o) _).toNat = _
  rw [divsi_one _ (by rw [diff_toNat h]; omega), addi_toNat, diff_toNat h, start_toNat h]; omega

theorem toInt_of (x : BitVec 32) (n : ℕ) (e : x.toNat = n) (hn : n < 1024) : x.toInt = n := by
  rw [BitVec.toInt, e]; norm_num; omega

theorem tripsA : (loopA o l).trips = (o.toNat + l.toNat + 15) / 16 - o.toNat / 16 := by
  have e1 := toInt_of h _ _ (bound_toNat h) (by omega)
  have e2 := toInt_of h _ _ (start_toNat h) (by omega)
  show ((((loopA o l).ub).toInt - (fdiv o).toInt + (1#32).toInt - 1) / (1#32).toInt).toNat = _
  rw [e1, e2, show (1#32).toInt = 1 from rfl]; omega

theorem okA : (loopA o l).OK := by
  refine ⟨(by decide : 0 < (1#32).toInt), ?_⟩
  have e2 := toInt_of h _ _ (start_toNat h) (by omega)
  show (fdiv o).toInt + ((loopA o l).trips : Int) * (1#32).toInt < _
  rw [tripsA h, e2, show (1#32).toInt = 1 from rfl]; norm_num; omega

theorem loopB_eq : (loopB o l).ub = (loopB o l).lb := by
  show Scalar.addi _ _ = Scalar.addi _ _
  rw [divsi_one _ (by rw [diff_toNat h]; omega)]

/-- The second loop has no trips. -/
theorem tripsB : (loopB o l).trips = 0 := by
  show ((((loopB o l).ub).toInt - ((loopB o l).lb).toInt + (1#32).toInt - 1) / (1#32).toInt).toNat = 0
  rw [loopB_eq h, show (1#32).toInt = 1 from rfl]; omega

theorem okB : (loopB o l).OK := by
  refine ⟨(by decide : 0 < (1#32).toInt), ?_⟩
  have e : ((loopB o l).lb).toInt = _ := toInt_of h _ _ (bound_toNat h) (by omega)
  show ((loopB o l).lb).toInt + ((loopB o l).trips : Int) * (1#32).toInt < _
  rw [tripsB h, e, show (1#32).toInt = 1 from rfl]; norm_num; omega

theorem row_toNat {k : ℕ} (hk : k < (loopA o l).trips) : (row o k).toNat = 16 * (o.toNat / 16 + k) := by
  rw [tripsA h] at hk
  show ((fdiv o + BitVec.ofNat 32 k * 1#32) * 16#32).toNat = _
  rw [BitVec.toNat_mul, BitVec.toNat_add, BitVec.toNat_mul, start_toNat h, BitVec.toNat_ofNat, BitVec.toNat_ofNat, BitVec.toNat_ofNat]
  omega

/-- The block starts at a multiple of sixteen -/
theorem row_dvd {k : ℕ} (hk : k < (loopA o l).trips) : 16 ∣ (row o k).toNat := ⟨_, row_toNat h hk⟩

/-- and lies among the 880 packed rows; -/
theorem row_le {k : ℕ} (hk : k < (loopA o l).trips) : (row o k).toNat + 16 ≤ 880 := by
  rw [row_toNat h hk]; rw [tripsA h] at hk; omega

include hl in
/-- what it is copied from lies in the sequence's buffer. -/
theorem src_le {k : ℕ} (hk : k < (loopA o l).trips) : (src o k).toNat + 16 ≤ 288 := by
  unfold src
  rw [subi_toNat, addi_toNat, row_toNat h hk, BitVec.toNat_ofNat]
  rw [tripsA h] at hk; omega

end

end Cert.ProjWords
-- ==== Proof.ProjIdealHyps.lean ====
/- The precondition `fits` gives the side conditions the projection kernel's body assumes when it copies a sequence's rows
   to their place: every rectangle it reads or writes there lies inside its buffer, and covers whole pairs of rows. -/
module

public import proofs.«01_k».proof.Defs
public import proofs.«01_k».proof.Proof.Lens
public import proofs.«01_k».proof.Proof.ProjWords
public import proofs.«01_k».proof.Proof.ProjIdealFrame

@[expose] public section

set_option maxRecDepth 65536

open Idealize.ShloMosaic Idealize.ShloMosaic.TcCoe

namespace Cert.ProjIdeal.Hand

open Cert.ProjIdeal Cert.ProjIdeal.Gen Cert.ProjWords

variable {F : FTy → Type} [FloatOps F]

section

variable (i : grid0.Coords) (w0 w1 w2 w3 w4 w5 l : BitVec 32)

/-! The words of the body are those of `ProjWords`. -/
theorem loopA_eq : k0_t3_loop i w0 w1 w2 w3 w4 w5 l = loopA (off (i 0).val w0 w1 w2 w3 w4 w5) l := rfl
theorem loopB_eq' : k0_t4_loop i w0 w1 w2 w3 w4 w5 l = loopB (off (i 0).val w0 w1 w2 w3 w4 w5) l := rfl
theorem mult_eq (t) : k0_mult4 i w0 w1 w2 w3 w4 w5 l t = row (off (i 0).val w0 w1 w2 w3 w4 w5) t.val := rfl

end

/-- A block of sixteen rows and a tile's columns lie in the packed rows. -/
theorem in_rows {n : ℕ} {o : Fin 2 → ℕ} (x c : ℕ) (ho : o = ![x, c]) (hx : x + 16 ≤ 880) (hc : c + 128 ≤ n) :
    ∀ a, o a + S16x128.size a ≤ (⟨2, ![880, n]⟩ : Shape).size a := fun a => by
  subst ho
  match a with
  | ⟨0, _⟩ => exact hx
  | ⟨1, _⟩ => exact hc

/-- A block of sixteen rows of a tile lies in the sequence's buffer. -/
theorem in_buf {o : Fin 3 → ℕ} (g x : ℕ) (ho : o = ![g, x, 0]) (hg : g < 41) (hx : x + 16 ≤ 288) :
    ∀ a, o a + S1x16x128.size a ≤ S41x288x128.size a := fun a => by
  subst ho
  match a with
  | ⟨0, _⟩ => exact hg
  | ⟨1, _⟩ => exact hx
  | ⟨2, _⟩ => show 0 + 128 ≤ 128; omega

/-- Sixteen rows from a multiple of sixteen are whole pairs of rows. -/
theorem packed_of {o : Fin 2 → ℕ} (x c : ℕ) (ho : o = ![x, c]) (hx : 16 ∣ x) (hinb : ∀ a, o a + S16x128.size a ≤ S880x5120.size a) :
    (Rect.unit (s := S880x5120) o S16x128.size hinb).PackedRows (EltTy.packing .bf16) := by
  subst ho
  have e : S880x5120.rowAx (show 2 ≤ 2 by omega) = 0 := rfl
  have p : EltTy.packing .bf16 = 2 := by decide +kernel
  refine Affine.packed_dvd (show 2 ≤ 2 by omega) ?_ ?_
  · rw [e, p]; exact Dvd.dvd.trans (show 2 ∣ 16 by decide) hx
  · rw [e, p]; show 2 ∣ 16; decide

/-- The side conditions hold of lengths that sum to at most 880, none above 256. -/
theorem chk1_of (i : grid0.Coords) (w : Fin 6 → BitVec 32) (l : BitVec 32)
    (h : (off (i 0).val (w 0) (w 1) (w 2) (w 3) (w 4) (w 5)).toNat + l.toNat ≤ 880) (hl : l.toNat ≤ 256) :
    k0_chk1 i (w 0) (w 1) (w 2) (w 3) (w 4) (w 5) l := by
  have noB : ∀ {P : Prop}, Fin (k0_t4_loop i (w 0) (w 1) (w 2) (w 3) (w 4) (w 5) l).trips → P := fun t =>
    absurd (lt_of_lt_of_eq t.isLt (show (k0_t4_loop i (w 0) (w 1) (w 2) (w 3) (w 4) (w 5) l).trips = 0 from tripsB h)) (Nat.not_lt_zero _)
  have dvd : ∀ t : Fin (k0_t3_loop i (w 0) (w 1) (w 2) (w 3) (w 4) (w 5) l).trips, 16 ∣ (row (off (i 0).val (w 0) (w 1) (w 2) (w 3) (w 4) (w 5)) t.val).toNat :=
    fun t => row_dvd h t.isLt
  have le : ∀ t : Fin (k0_t3_loop i (w 0) (w 1) (w 2) (w 3) (w 4) (w 5) l).trips, (row (off (i 0).val (w 0) (w 1) (w 2) (w 3) (w 4) (w 5)) t.val).toNat + 16 ≤ 880 :=
    fun t => row_le h t.isLt
  have sle : ∀ t : Fin (k0_t3_loop i (w 0) (w 1) (w 2) (w 3) (w 4) (w 5) l).trips, (src (off (i 0).val (w 0) (w 1) (w 2) (w 3) (w 4) (w 5)) t.val).toNat + 16 ≤ 288 :=
    fun t => src_le h hl t.isLt
  unfold k0_chk1 k0_chk1_0 k0_chk1_1 k0_chk1_2 k0_chk1_3 k0_chk1_4 k0_chk1_5 k0_chk1_6 k0_chk1_7
  repeat' apply And.intro
  exact fun _ => okA h
  exact fun t _ => dvd t
  iterate 40
    exact fun t _ => in_rows _ _ rfl (le t) (by decide)
    exact fun t _ => in_buf _ _ rfl (by decide) (sle t)
    exact fun t _ hinb => packed_of _ _ rfl (dvd t) hinb
  exact fun t _ => in_buf _ _ rfl (by decide) (sle t)
  exact fun t _ => in_rows _ _ rfl (le t) (by decide)
  exact fun _ => okB h
  all_goals exact fun t => noB t

/-- The word the body reads from the lengths' table at `b`. -/
theorem tb_word (m : (ℓ : Loc nD τ sig) → Buf (Elt F) ℓ) (b : ℕ) (hb : b < 6) (off : Fin 1 → ℕ) (ho : off = ![b]) (h) (h1) :
    tbM0_0.view.readAt (Elt F) (Rect.unit (s := S6) off S1.size h).toLoadRect (tbl m 0) (Shape.Idx.first h1)
      = m (((0 : Dev nD) : Thread nD τ).loc main_arg0) (ix1 ⟨b, hb⟩) := by
  subst ho
  refine (View.readAt_apply _ _ _).trans ?_
  have e : tbM0_0.view.read (Elt F) (tbl m 0) = m (((0 : Dev nD) : Thread nD τ).loc main_arg0) := rfl
  rw [e]
  congr 1
  funext a
  match a with
  | ⟨0, _⟩ => exact Fin.ext (by simp [Rect.toLoadRect, Shape.Idx.first, ix1])

theorem off242 (i : grid0.Coords) : k0_off242 i = ![(i 0).val] := by
  have e : ∀ b : Fin 6, (BitVec.ofNat 32 b.val).toNat = b.val := by decide
  exact congrArg (fun x : ℕ => (![x] : Fin 1 → ℕ)) (e (i 0))

/-- The side conditions of every point, from lengths that fit. -/
theorem hyps_of_fits (m : (ℓ : Loc nD τ sig) → Buf (Elt F) ℓ)
    (hf : Lens.Fits (m (((0 : Dev nD) : Thread nD τ).loc main_arg0))) : Hyps m := by
  intro c t h3
  have hi : ((grid0.coords t) 0).val < 6 := ((grid0.coords t) 0).isLt
  rw [tb_word m 0 (by omega) _ rfl, tb_word m 1 (by omega) _ rfl, tb_word m 2 (by omega) _ rfl, tb_word m 3 (by omega) _ rfl,
    tb_word m 4 (by omega) _ rfl, tb_word m 5 (by omega) _ rfl, tb_word m _ hi _ (off242 _)]
  exact chk1_of _ (fun b : Fin 6 => m (((0 : Dev nD) : Thread nD τ).loc main_arg0) (ix1 b)) _ (off_le _ hi (fun b : Fin 6 => m (((0 : Dev nD) : Thread nD τ).loc main_arg0) (ix1 b)) hf.sum) (hf.le _)

end Cert.ProjIdeal.Hand
-- ==== Proof.ProjLens.lean ====
/- What the precondition `fits` says of the lengths: every length is between 0 and 256, and together they are at most 880. -/
module

public import proofs.«01_k».proof.Pre_fits
public import proofs.«01_k».proof.Proof.Gen.Pre_fits
public import proofs.«01_k».proof.Proof.Lens

@[expose] public section

set_option maxRecDepth 16384

namespace Cert.Lens

open Idealize.ShloMosaic
open Cert.Pre_fits Cert.Pre_fits.Gen

variable {F : FTy → Type} [FloatOps F]

/-- The precondition bounds the lengths. -/
theorem fits_of_pre_fits (L : IVec S6 32) (x : FVec F S1536x10240 .fp8e4m3) (xs : FVec F S1536x80 .f32) (w : FVec F S10240x5120 .fp8e4m3)
    (ws : FVec F S80x40 .f32) (wf : FVec F S1x5120 .f32) (tgt : IVec S1536x1 32)
    (h : Cert.Pre_fits.fn L x xs w ws wf tgt = fun _ => 1#1) : Fits L := by
  have e := congrFun h (fun i => i.elim0)
  dsimp only [fn] at e
  obtain ⟨e1, e2⟩ := IntOp.andi_eq_one.1 e
  have hle : ∀ b : Fin 6, (L (ix1 b)).toNat ≤ 256 := by
    intro b
    have : Subsingleton S_.Idx := ⟨fun a b => funext fun i => i.elim0⟩
    have q := Host.reduce_andi_all _ _ _ _ _ e1 (ix1 b)
    obtain ⟨q1, q2⟩ := IntOp.andi_eq_one.1 q
    have q1 := IntOp.cmpi_sge.1 q1
    have q2 := IntOp.cmpi_sle.1 q2
    simp only [broadcastInDim, constantI] at q1 q2
    simp only [BitVec.toInt, BitVec.toNat_ofNat] at q1 q2
    omega
  refine ⟨hle, ?_⟩
  have q := IntOp.cmpi_sle.1 e2
  pointwise at q
  have f6 : ∀ (g : Fin 6 → BitVec 32), (Finset.univ : Finset (Fin 6)).fold IntOp.addi 0#32 g = g 0 + (g 1 + (g 2 + (g 3 + (g 4 + (g 5 + 0#32))))) := by
    intro g; rfl
  rw [f6] at q
  have h0 := hle 0; have h1 := hle 1; have h2 := hle 2; have h3 := hle 3; have h4 := hle 4; have h5 := hle 5
  simp only [BitVec.toInt, BitVec.toNat_add, BitVec.toNat_ofNat] at q
  omega

end Cert.Lens
-- ==== Proof.ProjRef.lean ====
/- What the projection's reference computes: the same product, and so the equation of the two results. -/
module

public import proofs.«01_k».proof.Proof.Gen.ProjReferenceIdeal.Value
public import proofs.«01_k».proof.Proof.ProjIdealKRun
public import proofs.«01_k».proof.Proof.ProjIdealHyps
public import proofs.«01_k».proof.Proof.ProjLens
public import proofs.«01_k».proof.Defs

@[expose] public section

set_option maxRecDepth 65536

open Idealize.ShloMosaic Idealize.ShloMosaic.TcCoe Idealize.SL.Sem

namespace Cert.ProjReferenceIdeal.Ref

open Cert.ProjReferenceIdeal Cert.ProjReferenceIdeal.Gen

/-- The reference's value at an index: the product of the dequantised rows and weights. -/
theorem value (X : Vec Ideal S1536x10240 .fp8e4m3) (XS : Vec Ideal S1536x80 .f32) (W : Vec Ideal S10240x5120 .fp8e4m3)
    (WS : Vec Ideal S80x40 .f32) : k0_pay1 (F := Ideal) X XS W WS = Cert.ProjIdeal.KRun.product X XS W WS := by
  funext y
  obtain ⟨r, v, rfl⟩ : ∃ (r : Fin 1536) (v : Fin 5120), y = (ix2 r v : S1536x5120.Idx) := ⟨y 0, y 1, eq_ix2 y⟩
  pointwise [k0_pay1]
  unfold Cert.ProjIdeal.KRun.product
  refine Finset.sum_congr rfl fun k _ => ?_
  rfl

/-- The kernel and the reference compute the same product over the extended reals. -/
theorem algebraic : Cert.algebraic_ProjIdeal_ProjReferenceIdeal (hProjIdeal := Cert.ProjIdeal.Gen.facts)
    (hProjReferenceIdeal := Cert.ProjReferenceIdeal.Gen.facts) (hPre_fits := Cert.Pre_fits.Gen.facts) := by
  intro m g m' g' hp ha
  have hF : Cert.Lens.Fits (m (((0 : Dev Cert.ProjIdeal.nD).tc : Thread Cert.ProjIdeal.nD Cert.ProjIdeal.τ).loc Cert.ProjIdeal.main_arg0)) :=
    Cert.Lens.fits_of_pre_fits _ _ _ _ _ _ _ (hp 0)
  refine ⟨fun c => Cert.ProjIdeal.KRun.result m c, Cert.ProjIdeal.KRun.run m g (Cert.ProjIdeal.Hand.hyps_of_fits m hF), ?_⟩
  refine (θ_run Cert.ProjReferenceIdeal.defs _ _).mono (fun r h c => ⟨(h c).1.trans ?_, (h c).2⟩) (Value.run m' g')
  refine (value _ _ _ _).trans ?_
  unfold Cert.ProjIdeal.KRun.result
  rw [(ha c).2.1, (ha c).2.2.1, (ha c).2.2.2.1, (ha c).2.2.2.2.1]

end Cert.ProjReferenceIdeal.Ref
-- ==== Proof.ProjKit.lean ====
/- The projection's frame, written out: what the launch hands the body, the branch conditions in closed form, the buffers. -/
module

public import proofs.«01_k».proof.Proof.Gen.Proj.Launch
public import proofs.«01_k».proof.Proof.Gen.Proj.Skeleton
public import proofs.«01_k».proof.Proof.Gen.Proj.Loops
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Proj.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Proj Cert.Proj.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers when the call starts: as launched. -/
abbrev V (c : Dev nD) (b : Ref sig .tc) : Buf (Elt F) ((c : Thread nD τ).loc b) := m ((c : Thread nD τ).loc b)

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The lengths, as the call finds them. -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
theorem ok : ok0 (F := F) (tbl m) := trivial
abbrev adm : (pcfg0 (F := F)).Adm := ⟨tbl m, ok m⟩
abbrev cfgM : Pipeline.Cfg sig Λ₀ := cfg0 (adm m)

/-- The lengths' buffer as the body is handed it. -/
abbrev tbM0_0 : Memref sig .tc .smem S6 .i32 := Memref.whole main_arg0
abbrev htbM0_0 : tbM0_0.IsWhole := Memref.isWhole_whole _

/-- That buffer held at half the full share, for reading. -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f
theorem PhiT_eq (c : Dev nD) : (Pipeline.ΦT pre0 (tbl m) c : sProp 𝕄) = iprop(tbPt c tbM0_0 (tbl m 0)) := by
  unfold Pipeline.ΦT Pipeline.prefHeld
  rw [show (Finset.univ : Finset (Fin 1)) = {(0 : Fin 1)} from by decide, bigSep_singleton]
  rfl

/-- The block of input window `w` at point `t`. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- The body's three branch conditions: the first column block; the first point; the last column block. -/
abbrev cond1 (i : grid0.Coords) : Prop := k0_cond1 i = 1#1
abbrev cond2 (i : grid0.Coords) : Prop := k0_cond2 i = 1#1
abbrev cond3 (i : grid0.Coords) : Prop := k0_cond3 i = 1#1
theorem coords0 (t : Fin grid0.N) : (grid0.coords t 0).val = t.val / 10 % 6 := Pipeline.Grid.coords_val t 0 (by decide) rfl
theorem coords1 (t : Fin grid0.N) : (grid0.coords t 1).val = t.val / 1 % 10 := Pipeline.Grid.coords_val t 1 (by decide) rfl
theorem hcond1 (t : Fin grid0.N) : cond1 (grid0.coords t) ↔ t.val % 10 = 0 := by
  have ht : t.val < 60 := Nat.lt_of_lt_of_eq t.isLt N_0
  simp only [cond1, k0_cond1, coords1 t]
  word_cmp
theorem hcond3 (t : Fin grid0.N) : cond3 (grid0.coords t) ↔ t.val % 10 = 9 := by
  have ht : t.val < 60 := Nat.lt_of_lt_of_eq t.isLt N_0
  simp only [cond3, k0_cond3, coords1 t]
  word_cmp
theorem hcond2 : ∀ t : Fin grid0.N, cond2 (grid0.coords t) ↔ t.val = 0 := by
  decide +kernel

/-- Each window's staging buffer at point `t`. -/
abbrev ms0 (t : Fin (cfgM m).N) : Memref sig .tc .vmem S256x10240 .fp8e4m3 := spec0_0.stage ((cfgM m).slots t 0)
abbrev hs0 (t : Fin (cfgM m).N) : (ms0 m t).IsWhole := hstage0_0 (((cfgM m).slots t 0).cast nbuf0_0)
abbrev ms1 (t : Fin (cfgM m).N) : Memref sig .tc .vmem S256x80 .f32 := spec0_1.stage ((cfgM m).slots t 1)
abbrev hs1 (t : Fin (cfgM m).N) : (ms1 m t).IsWhole := hstage0_1 (((cfgM m).slots t 1).cast nbuf0_1)
abbrev ms2 (t : Fin (cfgM m).N) : Memref sig .tc .vmem S10240x512 .fp8e4m3 := spec0_2.stage ((cfgM m).slots t 2)
abbrev hs2 (t : Fin (cfgM m).N) : (ms2 m t).IsWhole := hstage0_2 (((cfgM m).slots t 2).cast nbuf0_2)
abbrev ms3 (t : Fin (cfgM m).N) : Memref sig .tc .smem S80x40 .f32 := spec0_3.stage ((cfgM m).slots t 3)
abbrev hs3 (t : Fin (cfgM m).N) : (ms3 m t).IsWhole := hstage0_3 (((cfgM m).slots t 3).cast nbuf0_3)
abbrev ms4 (t : Fin (cfgM m).N) : Memref sig .tc .vmem S1x5120 .f32 := spec0_4.stage ((cfgM m).slots t 4)
abbrev hs4 (t : Fin (cfgM m).N) : (ms4 m t).IsWhole := hstage0_4 (((cfgM m).slots t 4).cast nbuf0_4)
abbrev ms5 (t : Fin (cfgM m).N) : Memref sig .tc .vmem S256x1 .i32 := spec0_5.stage ((cfgM m).slots t 5)
abbrev hs5 (t : Fin (cfgM m).N) : (ms5 m t).IsWhole := hstage0_5 (((cfgM m).slots t 5).cast nbuf0_5)
abbrev ms6 (t : Fin (cfgM m).N) : Memref sig .tc .vmem S256x512 .bf16 := spec0_6.stage ((cfgM m).slots t 6)
abbrev hs6 (t : Fin (cfgM m).N) : (ms6 m t).IsWhole := hstage0_6 (((cfgM m).slots t 6).cast nbuf0_6)
abbrev ms7 (t : Fin (cfgM m).N) : Memref sig .tc .vmem S256x5120 .fp8e4m3 := spec0_7.stage ((cfgM m).slots t 7)
abbrev hs7 (t : Fin (cfgM m).N) : (ms7 m t).IsWhole := hstage0_7 (((cfgM m).slots t 7).cast nbuf0_7)
abbrev ms8 (t : Fin (cfgM m).N) : Memref sig .tc .vmem S256x40 .f32 := spec0_8.stage ((cfgM m).slots t 8)
abbrev hs8 (t : Fin (cfgM m).N) : (ms8 m t).IsWhole := hstage0_8 (((cfgM m).slots t 8).cast nbuf0_8)
abbrev ms9 (t : Fin (cfgM m).N) : Memref sig .tc .vmem S880x5120 .bf16 := spec0_9.stage ((cfgM m).slots t 9)
abbrev hs9 (t : Fin (cfgM m).N) : (ms9 m t).IsWhole := hstage0_9 (((cfgM m).slots t 9).cast nbuf0_9)
abbrev ms10 (t : Fin (cfgM m).N) : Memref sig .tc .vmem S880x128 .f32 := spec0_10.stage ((cfgM m).slots t 10)
abbrev hs10 (t : Fin (cfgM m).N) : (ms10 m t).IsWhole := hstage0_10 (((cfgM m).slots t 10).cast nbuf0_10)

/-- The scratch buffers: the dequantised rows of x, the dequantised block of w, the product's rows, the normalised rows. -/
abbrev sc0 : Memref sig .tc .vmem S256x10240 .bf16 := Memref.whole cc0_scratch0
abbrev sc1 : Memref sig .tc .vmem S10240x512 .bf16 := Memref.whole cc0_scratch1
abbrev sc2 : Memref sig .tc .vmem S256x5120 .f32 := Memref.whole cc0_scratch2
abbrev sc3 : Memref sig .tc .vmem S41x288x128 .f32 := Memref.whole cc0_scratch3
theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

theorem before0_of {c : Dev nD} (dat : Dat τ (Elt F) Unit ℕ (UR sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ (cfgM m) c) (hA : dat.A 2 = V m c (Pipeline.arrRef spec0 2))
    (hafter : ∀ t, dat.after 2 t = iblk m c 2 t) (t : Fin (cfgM m).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ (cfgM m) c) (hA : dat.A 3 = V m c (Pipeline.arrRef spec0 3))
    (hafter : ∀ t, dat.after 3 t = iblk m c 3 t) (t : Fin (cfgM m).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ (cfgM m) c) (hA : dat.A 4 = V m c (Pipeline.arrRef spec0 4))
    (hafter : ∀ t, dat.after 4 t = iblk m c 4 t) (t : Fin (cfgM m).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ (cfgM m) c) (hA : dat.A 5 = V m c (Pipeline.arrRef spec0 5))
    (hafter : ∀ t, dat.after 5 t = iblk m c 5 t) (t : Fin (cfgM m).N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

end Cert.Proj.Hand

end
-- ==== Proof.ProjDq.lean ====
/- What the loop that dequantises the rows of x leaves in their buffer. -/
module

public import proofs.«01_k».proof.Proof.ProjKit

@[expose] public section

set_option maxRecDepth 16384

noncomputable section

namespace Cert.Proj.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Proj Cert.Proj.Gen

variable {F : FTy → Type} [FloatOps F]

local notation "𝕄" => MT nD τ sig Unit (Elt F) ℕ (UR sig nD τ) ℕ

/-- What the dequantised rows' buffer holds after the loop that fills it: the loop's pieces over some contents. -/
def DqOf (c : Dev nD) (i : grid0.Coords) (arg2 : Memref sig .tc .smem S6 .i32) (harg2 : arg2.IsWhole) (arg3 : Memref sig .tc .vmem S256x10240 .fp8e4m3) (harg3 : arg3.IsWhole) (arg4 : Memref sig .tc .vmem S256x80 .f32) (harg4 : arg4.IsWhole) (arg5 : Memref sig .tc .vmem S10240x512 .fp8e4m3) (harg5 : arg5.IsWhole) (arg6 : Memref sig .tc .smem S80x40 .f32) (harg6 : arg6.IsWhole) (arg7 : Memref sig .tc .vmem S1x5120 .f32) (harg7 : arg7.IsWhole) (arg8 : Memref sig .tc .vmem S256x1 .i32) (harg8 : arg8.IsWhole) (arg9 : Memref sig .tc .vmem S256x512 .bf16) (harg9 : arg9.IsWhole) (arg10 : Memref sig .tc .vmem S256x5120 .fp8e4m3) (harg10 : arg10.IsWhole) (arg11 : Memref sig .tc .vmem S256x40 .f32) (harg11 : arg11.IsWhole) (arg12 : Memref sig .tc .vmem S880x5120 .bf16) (harg12 : arg12.IsWhole) (arg13 : Memref sig .tc .vmem S880x128 .f32) (harg13 : arg13.IsWhole) (arg14 : Memref sig .tc .vmem S256x10240 .bf16) (harg14 : arg14.IsWhole) (arg15 : Memref sig .tc .vmem S10240x512 .bf16) (harg15 : arg15.IsWhole) (arg16 : Memref sig .tc .vmem S256x5120 .f32) (harg16 : arg16.IsWhole) (arg17 : Memref sig .tc .vmem S41x288x128 .f32) (harg17 : arg17.IsWhole) (h : cond1 i)
    (x0 : Vec F S256x10240 .fp8e4m3) (x1 : Vec F S256x80 .f32) (f : BufTy.Contents (Elt F) arg14.view.ty) : Prop :=
  ∃ g, f = arg14.view.writes (Elt F) g (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h (harg3.unread x0) (harg4.unread x1) k0_t1_loop.trips)

/-- After that loop the buffer is held at contents of which this alone is remembered. -/
instance dqExit (c : Dev nD) (E : Set ℕ) (i : grid0.Coords) (arg2 : Memref sig .tc .smem S6 .i32) (harg2 : arg2.IsWhole) (arg3 : Memref sig .tc .vmem S256x10240 .fp8e4m3) (harg3 : arg3.IsWhole) (arg4 : Memref sig .tc .vmem S256x80 .f32) (harg4 : arg4.IsWhole) (arg5 : Memref sig .tc .vmem S10240x512 .fp8e4m3) (harg5 : arg5.IsWhole) (arg6 : Memref sig .tc .smem S80x40 .f32) (harg6 : arg6.IsWhole) (arg7 : Memref sig .tc .vmem S1x5120 .f32) (harg7 : arg7.IsWhole) (arg8 : Memref sig .tc .vmem S256x1 .i32) (harg8 : arg8.IsWhole) (arg9 : Memref sig .tc .vmem S256x512 .bf16) (harg9 : arg9.IsWhole) (arg10 : Memref sig .tc .vmem S256x5120 .fp8e4m3) (harg10 : arg10.IsWhole) (arg11 : Memref sig .tc .vmem S256x40 .f32) (harg11 : arg11.IsWhole) (arg12 : Memref sig .tc .vmem S880x5120 .bf16) (harg12 : arg12.IsWhole) (arg13 : Memref sig .tc .vmem S880x128 .f32) (harg13 : arg13.IsWhole) (arg14 : Memref sig .tc .vmem S256x10240 .bf16) (harg14 : arg14.IsWhole) (arg15 : Memref sig .tc .vmem S10240x512 .bf16) (harg15 : arg15.IsWhole) (arg16 : Memref sig .tc .vmem S256x5120 .f32) (harg16 : arg16.IsWhole) (arg17 : Memref sig .tc .vmem S41x288x128 .f32) (harg17 : arg17.IsWhole) (h : k0_cond1 i = 1#1)
    (x0 : Vec F S256x10240 .fp8e4m3) (x1 : Vec F S256x80 .f32) (G : BufTy.Contents (Elt F) arg14.view.ty) :
    LoopExit (loopInv_k0_t1 (F := F) Variants.none c none E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h (harg3.unread x0) (harg4.unread x1) G) where
  post _ := iprop((arg3.view.loc (c : Thread nD τ) ↦[arg3.view.set]{fullShare} harg3.unread x0) ∗ (arg4.view.loc (c : Thread nD τ) ↦[arg4.view.set]{fullShare} harg4.unread x1)
    ∗ (∃ f, (arg14.view.loc (c : Thread nD τ) ↦[arg14.view.set]{fullShare} f) ∗ ⌜DqOf c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h x0 x1 f⌝))
  exit acc := by
    show inv_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h (harg3.unread x0) (harg4.unread x1) G k0_t1_loop.trips acc ⊢ _
    iintro ⟨H3, H4, ⟨%f, H14, %hf⟩⟩
    isplitl [H3]; · iexact H3
    isplitl [H4]; · iexact H4
    iexists f; isplitl [H14]; · iexact H14
    ipureintro; exact ⟨G, hf⟩

end Cert.Proj.Hand

end
-- ==== Proof.ProjRunA.lean ====
/- The run of the projection's body in case A. -/
module

public import proofs.«01_k».proof.Proof.ProjDq

@[expose] public section

set_option maxRecDepth 16384

noncomputable section

namespace Cert.Proj.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Proj Cert.Proj.Gen

variable {F : FTy → Type} [FloatOps F]

local notation "𝕄" => MT nD τ sig Unit (Elt F) ℕ (UR sig nD τ) ℕ

set_option maxHeartbeats 40000000 in
/-- The body's run at the first point of all: the rows of x are dequantised and the packed rows cleared. The pieces stored into the block of `ph`, as a function of what the dequantised rows' buffer then holds, are found by the run; the
    inputs are left as they were, the dequantised rows are written, and everything else ends at some contents. -/
noncomputable def runA (c : Dev nD) (i : grid0.Coords) (arg3 : Memref sig .tc .vmem S256x10240 .fp8e4m3) (harg3 : arg3.IsWhole) (arg4 : Memref sig .tc .vmem S256x80 .f32) (harg4 : arg4.IsWhole) (arg5 : Memref sig .tc .vmem S10240x512 .fp8e4m3) (harg5 : arg5.IsWhole) (arg6 : Memref sig .tc .smem S80x40 .f32) (harg6 : arg6.IsWhole) (arg7 : Memref sig .tc .vmem S1x5120 .f32) (harg7 : arg7.IsWhole) (arg8 : Memref sig .tc .vmem S256x1 .i32) (harg8 : arg8.IsWhole) (arg9 : Memref sig .tc .vmem S256x512 .bf16) (harg9 : arg9.IsWhole) (arg10 : Memref sig .tc .vmem S256x5120 .fp8e4m3) (harg10 : arg10.IsWhole) (arg11 : Memref sig .tc .vmem S256x40 .f32) (harg11 : arg11.IsWhole) (arg12 : Memref sig .tc .vmem S880x5120 .bf16) (harg12 : arg12.IsWhole) (arg13 : Memref sig .tc .vmem S880x128 .f32) (harg13 : arg13.IsWhole) (arg14 : Memref sig .tc .vmem S256x10240 .bf16) (harg14 : arg14.IsWhole) (arg15 : Memref sig .tc .vmem S10240x512 .bf16) (harg15 : arg15.IsWhole) (arg16 : Memref sig .tc .vmem S256x5120 .f32) (harg16 : arg16.IsWhole) (arg17 : Memref sig .tc .vmem S41x288x128 .f32) (harg17 : arg17.IsWhole)
    (hc1 : cond1 i) (hc2 : cond2 i) (hc3 : ¬cond3 i)
    (x0 : Vec F S256x10240 .fp8e4m3) (x1 : Vec F S256x80 .f32) (x2 : Vec F S10240x512 .fp8e4m3) (x3 : Vec F S80x40 .f32) (x4 : Vec F S1x5120 .f32) (x5 : Vec F S256x1 .i32) (xt : TbBuf (F := F) c tbM0_0) :
     { L9 : BufTy.Contents (Elt F) arg14.view.ty → List (View.Piece (Elt F) S256x512 .bf16) //
      ∀ (E : Set ℕ) (K : PUnit → sProp 𝕄),
        iprop((owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ tbPt c tbM0_0 xt) ∗ ((∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg15 fullShare d) ∗ (∃ d, owns (c : Thread nD τ) arg16 fullShare d) ∗ (∃ d, owns (c : Thread nD τ) arg17 fullShare d)) ∗ (∃ d, owns (c : Thread nD τ) arg9 fullShare d) ∗ (∃ d, owns (c : Thread nD τ) arg14 fullShare d)
            ∗ (iprop((owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ tbPt c tbM0_0 xt) ∗ ((∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg15 fullShare d) ∗ (∃ d, owns (c : Thread nD τ) arg16 fullShare d) ∗ (∃ d, owns (c : Thread nD τ) arg17 fullShare d)) ∗ ∃ f14, ⌜DqOf c i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 x0 x1 f14⌝ ∗ (arg14.view.loc (c : Thread nD τ) ↦[arg14.view.set]{fullShare} f14) ∗ (∃ f, arg9.view.loc (c : Thread nD τ) ↦[arg9.view.set]{fullShare} arg9.view.writes (Elt F) f (L9 f14))) -∗ K ⟨⟩))
          ⊢ wp frame (wpE (defs₀ (F := F)) Variants.none c none) E (cc0_proj i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, fun E K => ?run⟩
  case run =>
    simp only [cc0_proj_eq_skeleton]; unfold cc0_proj_skel
    simp only [k0_part315_eq_skeleton, k0_part316_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton]
    unfold owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, HT⟩, ⟨⟨%d10, %f10, -, H10⟩, ⟨%d11, %f11, -, H11⟩, ⟨%d12, %f12, -, H12⟩, ⟨%d13, %f13, -, H13⟩, ⟨%d15, %f15, -, H15⟩, ⟨%d16, %f16, -, H16⟩, ⟨%d17, %f17, -, H17⟩⟩, ⟨%d9, %f9, -, H9⟩, ⟨%d14, %f14, -, H14⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5

    sl_exec (disch := first | sl_exact hc1 | sl_exact hc2 | sl_exact hc3)
    sl_step
    iapply Hk
    isplitl [H0 H1 H2 H3 H4 H5 HT]
    · isplitl [H0]
      · iexists _; isplitr; · ipureintro; exact harg3.read_unread _
        iexact H0
      isplitl [H1]
      · iexists _; isplitr; · ipureintro; exact harg4.read_unread _
        iexact H1
      isplitl [H2]
      · iexists _; isplitr; · ipureintro; exact harg5.read_unread _
        iexact H2
      isplitl [H3]
      · iexists _; isplitr; · ipureintro; exact harg6.read_unread _
        iexact H3
      isplitl [H4]
      · iexists _; isplitr; · ipureintro; exact harg7.read_unread _
        iexact H4
      isplitl [H5]
      · iexists _; isplitr; · ipureintro; exact harg8.read_unread _
        iexact H5
      iexact HT
    isplitl [H10 H11 H12 H13 H15 H16 H17]
    · isplitl [H10]
      · iexists _, _; isplitr; swap; · iexact H10
        ipureintro; rfl
      isplitl [H11]
      · iexists _, _; isplitr; swap; · iexact H11
        ipureintro; rfl
      isplitl [H12]
      · iexists _, _; isplitr; swap; · iexact H12
        ipureintro; rfl
      isplitl [H13]
      · iexists _, _; isplitr; swap; · iexact H13
        ipureintro; rfl
      isplitl [H15]
      · iexists _, _; isplitr; swap; · iexact H15
        ipureintro; rfl
      isplitl [H16]
      · iexists _, _; isplitr; swap; · iexact H16
        ipureintro; rfl
      iexists _, _; isplitr; swap; · iexact H17
      ipureintro; rfl
    iexists fL0; isplitr; · ipureintro; assumption
    isplitl [H14]; · iexact H14
    iexists _; iexact H9

end Cert.Proj.Hand

end
-- ==== Proof.ProjRunB.lean ====
/- The run of the projection's body in case B. -/
module

public import proofs.«01_k».proof.Proof.ProjDq

@[expose] public section

set_option maxRecDepth 16384

noncomputable section

namespace Cert.Proj.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Proj Cert.Proj.Gen

variable {F : FTy → Type} [FloatOps F]

local notation "𝕄" => MT nD τ sig Unit (Elt F) ℕ (UR sig nD τ) ℕ

set_option maxHeartbeats 40000000 in
/-- The body's run at the first column block of a later row block: the rows of x are dequantised. The pieces stored into the block of `ph`, as a function of what the dequantised rows' buffer then holds, are found by the run; the
    inputs are left as they were, the dequantised rows are written, and everything else ends at some contents. -/
noncomputable def runB (c : Dev nD) (i : grid0.Coords) (arg3 : Memref sig .tc .vmem S256x10240 .fp8e4m3) (harg3 : arg3.IsWhole) (arg4 : Memref sig .tc .vmem S256x80 .f32) (harg4 : arg4.IsWhole) (arg5 : Memref sig .tc .vmem S10240x512 .fp8e4m3) (harg5 : arg5.IsWhole) (arg6 : Memref sig .tc .smem S80x40 .f32) (harg6 : arg6.IsWhole) (arg7 : Memref sig .tc .vmem S1x5120 .f32) (harg7 : arg7.IsWhole) (arg8 : Memref sig .tc .vmem S256x1 .i32) (harg8 : arg8.IsWhole) (arg9 : Memref sig .tc .vmem S256x512 .bf16) (harg9 : arg9.IsWhole) (arg10 : Memref sig .tc .vmem S256x5120 .fp8e4m3) (harg10 : arg10.IsWhole) (arg11 : Memref sig .tc .vmem S256x40 .f32) (harg11 : arg11.IsWhole) (arg12 : Memref sig .tc .vmem S880x5120 .bf16) (harg12 : arg12.IsWhole) (arg13 : Memref sig .tc .vmem S880x128 .f32) (harg13 : arg13.IsWhole) (arg14 : Memref sig .tc .vmem S256x10240 .bf16) (harg14 : arg14.IsWhole) (arg15 : Memref sig .tc .vmem S10240x512 .bf16) (harg15 : arg15.IsWhole) (arg16 : Memref sig .tc .vmem S256x5120 .f32) (harg16 : arg16.IsWhole) (arg17 : Memref sig .tc .vmem S41x288x128 .f32) (harg17 : arg17.IsWhole)
    (hc1 : cond1 i) (hc2 : ¬cond2 i) (hc3 : ¬cond3 i)
    (x0 : Vec F S256x10240 .fp8e4m3) (x1 : Vec F S256x80 .f32) (x2 : Vec F S10240x512 .fp8e4m3) (x3 : Vec F S80x40 .f32) (x4 : Vec F S1x5120 .f32) (x5 : Vec F S256x1 .i32) (xt : TbBuf (F := F) c tbM0_0) :
     { L9 : BufTy.Contents (Elt F) arg14.view.ty → List (View.Piece (Elt F) S256x512 .bf16) //
      ∀ (E : Set ℕ) (K : PUnit → sProp 𝕄),
        iprop((owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ tbPt c tbM0_0 xt) ∗ ((∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg15 fullShare d) ∗ (∃ d, owns (c : Thread nD τ) arg16 fullShare d) ∗ (∃ d, owns (c : Thread nD τ) arg17 fullShare d)) ∗ (∃ d, owns (c : Thread nD τ) arg9 fullShare d) ∗ (∃ d, owns (c : Thread nD τ) arg14 fullShare d)
            ∗ (iprop((owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ tbPt c tbM0_0 xt) ∗ ((∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg15 fullShare d) ∗ (∃ d, owns (c : Thread nD τ) arg16 fullShare d) ∗ (∃ d, owns (c : Thread nD τ) arg17 fullShare d)) ∗ ∃ f14, ⌜DqOf c i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 x0 x1 f14⌝ ∗ (arg14.view.loc (c : Thread nD τ) ↦[arg14.view.set]{fullShare} f14) ∗ (∃ f, arg9.view.loc (c : Thread nD τ) ↦[arg9.view.set]{fullShare} arg9.view.writes (Elt F) f (L9 f14))) -∗ K ⟨⟩))
          ⊢ wp frame (wpE (defs₀ (F := F)) Variants.none c none) E (cc0_proj i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, fun E K => ?run⟩
  case run =>
    simp only [cc0_proj_eq_skeleton]; unfold cc0_proj_skel
    simp only [k0_part315_eq_skeleton, k0_part316_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton]
    unfold owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, HT⟩, ⟨⟨%d10, %f10, -, H10⟩, ⟨%d11, %f11, -, H11⟩, ⟨%d12, %f12, -, H12⟩, ⟨%d13, %f13, -, H13⟩, ⟨%d15, %f15, -, H15⟩, ⟨%d16, %f16, -, H16⟩, ⟨%d17, %f17, -, H17⟩⟩, ⟨%d9, %f9, -, H9⟩, ⟨%d14, %f14, -, H14⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5

    sl_exec (disch := first | sl_exact hc1 | sl_exact hc2 | sl_exact hc3)
    sl_step
    iapply Hk
    isplitl [H0 H1 H2 H3 H4 H5 HT]
    · isplitl [H0]
      · iexists _; isplitr; · ipureintro; exact harg3.read_unread _
        iexact H0
      isplitl [H1]
      · iexists _; isplitr; · ipureintro; exact harg4.read_unread _
        iexact H1
      isplitl [H2]
      · iexists _; isplitr; · ipureintro; exact harg5.read_unread _
        iexact H2
      isplitl [H3]
      · iexists _; isplitr; · ipureintro; exact harg6.read_unread _
        iexact H3
      isplitl [H4]
      · iexists _; isplitr; · ipureintro; exact harg7.read_unread _
        iexact H4
      isplitl [H5]
      · iexists _; isplitr; · ipureintro; exact harg8.read_unread _
        iexact H5
      iexact HT
    isplitl [H10 H11 H12 H13 H15 H16 H17]
    · isplitl [H10]
      · iexists _, _; isplitr; swap; · iexact H10
        ipureintro; rfl
      isplitl [H11]
      · iexists _, _; isplitr; swap; · iexact H11
        ipureintro; rfl
      isplitl [H12]
      · iexists _, _; isplitr; swap; · iexact H12
        ipureintro; rfl
      isplitl [H13]
      · iexists _, _; isplitr; swap; · iexact H13
        ipureintro; rfl
      isplitl [H15]
      · iexists _, _; isplitr; swap; · iexact H15
        ipureintro; rfl
      isplitl [H16]
      · iexists _, _; isplitr; swap; · iexact H16
        ipureintro; rfl
      iexists _, _; isplitr; swap; · iexact H17
      ipureintro; rfl
    iexists fL0; isplitr; · ipureintro; assumption
    isplitl [H14]; · iexact H14
    iexists _; iexact H9

end Cert.Proj.Hand

end
-- ==== Proof.ProjRunC.lean ====
/- The run of the projection's body in case C. -/
module

public import proofs.«01_k».proof.Proof.ProjDq

@[expose] public section

set_option maxRecDepth 16384

noncomputable section

namespace Cert.Proj.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Proj Cert.Proj.Gen

variable {F : FTy → Type} [FloatOps F]

local notation "𝕄" => MT nD τ sig Unit (Elt F) ℕ (UR sig nD τ) ℕ

set_option maxHeartbeats 40000000 in
/-- The body's run at a column block that is neither first nor last. The pieces stored into the block of `ph` are found by the run; the
    inputs are left as they were, the dequantised rows are left as they were, and everything else ends at some contents. -/
noncomputable def runC (c : Dev nD) (i : grid0.Coords) (arg3 : Memref sig .tc .vmem S256x10240 .fp8e4m3) (harg3 : arg3.IsWhole) (arg4 : Memref sig .tc .vmem S256x80 .f32) (harg4 : arg4.IsWhole) (arg5 : Memref sig .tc .vmem S10240x512 .fp8e4m3) (harg5 : arg5.IsWhole) (arg6 : Memref sig .tc .smem S80x40 .f32) (harg6 : arg6.IsWhole) (arg7 : Memref sig .tc .vmem S1x5120 .f32) (harg7 : arg7.IsWhole) (arg8 : Memref sig .tc .vmem S256x1 .i32) (harg8 : arg8.IsWhole) (arg9 : Memref sig .tc .vmem S256x512 .bf16) (harg9 : arg9.IsWhole) (arg10 : Memref sig .tc .vmem S256x5120 .fp8e4m3) (harg10 : arg10.IsWhole) (arg11 : Memref sig .tc .vmem S256x40 .f32) (harg11 : arg11.IsWhole) (arg12 : Memref sig .tc .vmem S880x5120 .bf16) (harg12 : arg12.IsWhole) (arg13 : Memref sig .tc .vmem S880x128 .f32) (harg13 : arg13.IsWhole) (arg14 : Memref sig .tc .vmem S256x10240 .bf16) (harg14 : arg14.IsWhole) (arg15 : Memref sig .tc .vmem S10240x512 .bf16) (harg15 : arg15.IsWhole) (arg16 : Memref sig .tc .vmem S256x5120 .f32) (harg16 : arg16.IsWhole) (arg17 : Memref sig .tc .vmem S41x288x128 .f32) (harg17 : arg17.IsWhole)
    (hc1 : ¬cond1 i) (hc2 : ¬cond2 i) (hc3 : ¬cond3 i)
    (x0 : Vec F S256x10240 .fp8e4m3) (x1 : Vec F S256x80 .f32) (x2 : Vec F S10240x512 .fp8e4m3) (x3 : Vec F S80x40 .f32) (x4 : Vec F S1x5120 .f32) (x5 : Vec F S256x1 .i32) (xt : TbBuf (F := F) c tbM0_0) (xs : Vec F S256x10240 .bf16) :
     { L9 : List (View.Piece (Elt F) S256x512 .bf16) //
      ∀ (E : Set ℕ) (K : PUnit → sProp 𝕄),
        iprop((owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ tbPt c tbM0_0 xt) ∗ ((∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg15 fullShare d) ∗ (∃ d, owns (c : Thread nD τ) arg16 fullShare d) ∗ (∃ d, owns (c : Thread nD τ) arg17 fullShare d)) ∗ (∃ d, owns (c : Thread nD τ) arg9 fullShare d) ∗ owns (c : Thread nD τ) arg14 fullShare xs
            ∗ (iprop((owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ tbPt c tbM0_0 xt) ∗ ((∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg15 fullShare d) ∗ (∃ d, owns (c : Thread nD τ) arg16 fullShare d) ∗ (∃ d, owns (c : Thread nD τ) arg17 fullShare d)) ∗ (∃ f, arg9.view.loc (c : Thread nD τ) ↦[arg9.view.set]{fullShare} arg9.view.writes (Elt F) f L9) ∗ owns (c : Thread nD τ) arg14 fullShare xs) -∗ K ⟨⟩))
          ⊢ wp frame (wpE (defs₀ (F := F)) Variants.none c none) E (cc0_proj i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, fun E K => ?run⟩
  case run =>
    simp only [cc0_proj_eq_skeleton]; unfold cc0_proj_skel
    simp only [k0_part315_eq_skeleton, k0_part316_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton]
    unfold owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, HT⟩, ⟨⟨%d10, %f10, -, H10⟩, ⟨%d11, %f11, -, H11⟩, ⟨%d12, %f12, -, H12⟩, ⟨%d13, %f13, -, H13⟩, ⟨%d15, %f15, -, H15⟩, ⟨%d16, %f16, -, H16⟩, ⟨%d17, %f17, -, H17⟩⟩, ⟨%d9, %f9, -, H9⟩, ⟨%f14, %hf14, H14⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    obtain rfl := harg14.eq_unread hf14
    sl_exec (disch := first | sl_exact hc1 | sl_exact hc2 | sl_exact hc3)
    sl_step
    iapply Hk
    isplitl [H0 H1 H2 H3 H4 H5 HT]
    · isplitl [H0]
      · iexists _; isplitr; · ipureintro; exact harg3.read_unread _
        iexact H0
      isplitl [H1]
      · iexists _; isplitr; · ipureintro; exact harg4.read_unread _
        iexact H1
      isplitl [H2]
      · iexists _; isplitr; · ipureintro; exact harg5.read_unread _
        iexact H2
      isplitl [H3]
      · iexists _; isplitr; · ipureintro; exact harg6.read_unread _
        iexact H3
      isplitl [H4]
      · iexists _; isplitr; · ipureintro; exact harg7.read_unread _
        iexact H4
      isplitl [H5]
      · iexists _; isplitr; · ipureintro; exact harg8.read_unread _
        iexact H5
      iexact HT
    isplitl [H10 H11 H12 H13 H15 H16 H17]
    · isplitl [H10]
      · iexists _, _; isplitr; swap; · iexact H10
        ipureintro; rfl
      isplitl [H11]
      · iexists _, _; isplitr; swap; · iexact H11
        ipureintro; rfl
      isplitl [H12]
      · iexists _, _; isplitr; swap; · iexact H12
        ipureintro; rfl
      isplitl [H13]
      · iexists _, _; isplitr; swap; · iexact H13
        ipureintro; rfl
      isplitl [H15]
      · iexists _, _; isplitr; swap; · iexact H15
        ipureintro; rfl
      isplitl [H16]
      · iexists _, _; isplitr; swap; · iexact H16
        ipureintro; rfl
      iexists _, _; isplitr; swap; · iexact H17
      ipureintro; rfl
    isplitl [H9]; · iexists _; iexact H9
    iexists _; isplitr; · ipureintro; exact harg14.read_unread _
    iexact H14

end Cert.Proj.Hand

end
-- ==== Proof.ProjRunD.lean ====
/- The run of the projection's body in case D. -/
module

public import proofs.«01_k».proof.Proof.ProjDq

@[expose] public section

set_option maxRecDepth 16384

noncomputable section

namespace Cert.Proj.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Proj Cert.Proj.Gen

variable {F : FTy → Type} [FloatOps F]

local notation "𝕄" => MT nD τ sig Unit (Elt F) ℕ (UR sig nD τ) ℕ

set_option maxHeartbeats 40000000 in
/-- The body's run at the last column block: the rows are normalised, quantised and packed. The pieces stored into the block of `ph` are found by the run; the
    inputs are left as they were, the dequantised rows are left as they were, and everything else ends at some contents. -/
noncomputable def runD (c : Dev nD) (i : grid0.Coords) (arg3 : Memref sig .tc .vmem S256x10240 .fp8e4m3) (harg3 : arg3.IsWhole) (arg4 : Memref sig .tc .vmem S256x80 .f32) (harg4 : arg4.IsWhole) (arg5 : Memref sig .tc .vmem S10240x512 .fp8e4m3) (harg5 : arg5.IsWhole) (arg6 : Memref sig .tc .smem S80x40 .f32) (harg6 : arg6.IsWhole) (arg7 : Memref sig .tc .vmem S1x5120 .f32) (harg7 : arg7.IsWhole) (arg8 : Memref sig .tc .vmem S256x1 .i32) (harg8 : arg8.IsWhole) (arg9 : Memref sig .tc .vmem S256x512 .bf16) (harg9 : arg9.IsWhole) (arg10 : Memref sig .tc .vmem S256x5120 .fp8e4m3) (harg10 : arg10.IsWhole) (arg11 : Memref sig .tc .vmem S256x40 .f32) (harg11 : arg11.IsWhole) (arg12 : Memref sig .tc .vmem S880x5120 .bf16) (harg12 : arg12.IsWhole) (arg13 : Memref sig .tc .vmem S880x128 .f32) (harg13 : arg13.IsWhole) (arg14 : Memref sig .tc .vmem S256x10240 .bf16) (harg14 : arg14.IsWhole) (arg15 : Memref sig .tc .vmem S10240x512 .bf16) (harg15 : arg15.IsWhole) (arg16 : Memref sig .tc .vmem S256x5120 .f32) (harg16 : arg16.IsWhole) (arg17 : Memref sig .tc .vmem S41x288x128 .f32) (harg17 : arg17.IsWhole)
    (hc1 : ¬cond1 i) (hc2 : ¬cond2 i) (hc3 : cond3 i)
    (x0 : Vec F S256x10240 .fp8e4m3) (x1 : Vec F S256x80 .f32) (x2 : Vec F S10240x512 .fp8e4m3) (x3 : Vec F S80x40 .f32) (x4 : Vec F S1x5120 .f32) (x5 : Vec F S256x1 .i32) (xt : TbBuf (F := F) c tbM0_0) (xs : Vec F S256x10240 .bf16) (hw : ∀ h : k0_cond3 i = 1#1, k0_chk1 i (tbM0_0.view.readAt (Elt F) (Rect.unit (s := S6) ![0] S1.size inb_S6_S1_0).toLoadRect xt (Shape.Idx.first (numel1_S1.symm ▸ Nat.one_pos))) (tbM0_0.view.readAt (Elt F) (Rect.unit (s := S6) ![1] S1.size inb_S6_S1_1).toLoadRect xt (Shape.Idx.first (numel1_S1.symm ▸ Nat.one_pos))) (tbM0_0.view.readAt (Elt F) (Rect.unit (s := S6) ![2] S1.size inb_S6_S1_2).toLoadRect xt (Shape.Idx.first (numel1_S1.symm ▸ Nat.one_pos))) (tbM0_0.view.readAt (Elt F) (Rect.unit (s := S6) ![3] S1.size inb_S6_S1_3).toLoadRect xt (Shape.Idx.first (numel1_S1.symm ▸ Nat.one_pos))) (tbM0_0.view.readAt (Elt F) (Rect.unit (s := S6) ![4] S1.size inb_S6_S1_4).toLoadRect xt (Shape.Idx.first (numel1_S1.symm ▸ Nat.one_pos))) (tbM0_0.view.readAt (Elt F) (Rect.unit (s := S6) ![5] S1.size inb_S6_S1_5).toLoadRect xt (Shape.Idx.first (numel1_S1.symm ▸ Nat.one_pos))) (tbM0_0.view.readAt (Elt F) (Rect.unit (s := S6) (k0_off242 i) S1.size (k0_off242_inb i h)).toLoadRect xt (Shape.Idx.first (numel1_S1.symm ▸ Nat.one_pos)))) :
     { L9 : List (View.Piece (Elt F) S256x512 .bf16) //
      ∀ (E : Set ℕ) (K : PUnit → sProp 𝕄),
        iprop((owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ tbPt c tbM0_0 xt) ∗ ((∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg15 fullShare d) ∗ (∃ d, owns (c : Thread nD τ) arg16 fullShare d) ∗ (∃ d, owns (c : Thread nD τ) arg17 fullShare d)) ∗ (∃ d, owns (c : Thread nD τ) arg9 fullShare d) ∗ owns (c : Thread nD τ) arg14 fullShare xs
            ∗ (iprop((owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ tbPt c tbM0_0 xt) ∗ ((∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg15 fullShare d) ∗ (∃ d, owns (c : Thread nD τ) arg16 fullShare d) ∗ (∃ d, owns (c : Thread nD τ) arg17 fullShare d)) ∗ (∃ f, arg9.view.loc (c : Thread nD τ) ↦[arg9.view.set]{fullShare} arg9.view.writes (Elt F) f L9) ∗ owns (c : Thread nD τ) arg14 fullShare xs) -∗ K ⟨⟩))
          ⊢ wp frame (wpE (defs₀ (F := F)) Variants.none c none) E (cc0_proj i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, fun E K => ?run⟩
  case run =>
    simp only [cc0_proj_eq_skeleton]; unfold cc0_proj_skel
    simp only [k0_part315_eq_skeleton, k0_part316_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton]
    unfold owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, HT⟩, ⟨⟨%d10, %f10, -, H10⟩, ⟨%d11, %f11, -, H11⟩, ⟨%d12, %f12, -, H12⟩, ⟨%d13, %f13, -, H13⟩, ⟨%d15, %f15, -, H15⟩, ⟨%d16, %f16, -, H16⟩, ⟨%d17, %f17, -, H17⟩⟩, ⟨%d9, %f9, -, H9⟩, ⟨%f14, %hf14, H14⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    obtain rfl := harg14.eq_unread hf14
    sl_exec (disch := first | sl_exact hc1 | sl_exact hc2 | sl_exact hc3 | sl_exact hw hc3)
    sl_step
    iapply Hk
    isplitl [H0 H1 H2 H3 H4 H5 HT]
    · isplitl [H0]
      · iexists _; isplitr; · ipureintro; exact harg3.read_unread _
        iexact H0
      isplitl [H1]
      · iexists _; isplitr; · ipureintro; exact harg4.read_unread _
        iexact H1
      isplitl [H2]
      · iexists _; isplitr; · ipureintro; exact harg5.read_unread _
        iexact H2
      isplitl [H3]
      · iexists _; isplitr; · ipureintro; exact harg6.read_unread _
        iexact H3
      isplitl [H4]
      · iexists _; isplitr; · ipureintro; exact harg7.read_unread _
        iexact H4
      isplitl [H5]
      · iexists _; isplitr; · ipureintro; exact harg8.read_unread _
        iexact H5
      iexact HT
    isplitl [H10 H11 H12 H13 H15 H16 H17]
    · isplitl [H10]
      · iexists _, _; isplitr; swap; · iexact H10
        ipureintro; rfl
      isplitl [H11]
      · iexists _, _; isplitr; swap; · iexact H11
        ipureintro; rfl
      isplitl [H12]
      · iexists _, _; isplitr; swap; · iexact H12
        ipureintro; rfl
      isplitl [H13]
      · iexists _, _; isplitr; swap; · iexact H13
        ipureintro; rfl
      isplitl [H15]
      · iexists _, _; isplitr; swap; · iexact H15
        ipureintro; rfl
      isplitl [H16]
      · iexists _, _; isplitr; swap; · iexact H16
        ipureintro; rfl
      iexists _, _; isplitr; swap; · iexact H17
      ipureintro; rfl
    isplitl [H9]; · iexists _; iexact H9
    iexists _; isplitr; · ipureintro; exact harg14.read_unread _
    iexact H14

end Cert.Proj.Hand

end
-- ==== Proof.ProjFrame.lean ====
/- The projection's frame: the body's obligation at every point, over the four cases, and the launch. -/
module

public import proofs.«01_k».proof.Proof.ProjRunA
public import proofs.«01_k».proof.Proof.ProjRunB
public import proofs.«01_k».proof.Proof.ProjRunC
public import proofs.«01_k».proof.Proof.ProjRunD

@[expose] public section

set_option maxRecDepth 16384

noncomputable section

namespace Cert.Proj.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Proj Cert.Proj.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The side condition the body assumes of the lengths it loads, at every last column block. -/
def Hyps : Prop := ∀ (c : Dev nD) (t : Fin (cfgM m).N) (h : cond3 (grid0.coords t)),
  k0_chk1 (grid0.coords t) (tbM0_0.view.readAt (Elt F) (Rect.unit (s := S6) ![0] S1.size inb_S6_S1_0).toLoadRect (tbl m 0) (Shape.Idx.first (numel1_S1.symm ▸ Nat.one_pos))) (tbM0_0.view.readAt (Elt F) (Rect.unit (s := S6) ![1] S1.size inb_S6_S1_1).toLoadRect (tbl m 0) (Shape.Idx.first (numel1_S1.symm ▸ Nat.one_pos))) (tbM0_0.view.readAt (Elt F) (Rect.unit (s := S6) ![2] S1.size inb_S6_S1_2).toLoadRect (tbl m 0) (Shape.Idx.first (numel1_S1.symm ▸ Nat.one_pos))) (tbM0_0.view.readAt (Elt F) (Rect.unit (s := S6) ![3] S1.size inb_S6_S1_3).toLoadRect (tbl m 0) (Shape.Idx.first (numel1_S1.symm ▸ Nat.one_pos))) (tbM0_0.view.readAt (Elt F) (Rect.unit (s := S6) ![4] S1.size inb_S6_S1_4).toLoadRect (tbl m 0) (Shape.Idx.first (numel1_S1.symm ▸ Nat.one_pos))) (tbM0_0.view.readAt (Elt F) (Rect.unit (s := S6) ![5] S1.size inb_S6_S1_5).toLoadRect (tbl m 0) (Shape.Idx.first (numel1_S1.symm ▸ Nat.one_pos))) (tbM0_0.view.readAt (Elt F) (Rect.unit (s := S6) (k0_off242 (grid0.coords t)) S1.size (k0_off242_inb (grid0.coords t) h)).toLoadRect (tbl m 0) (Shape.Idx.first (numel1_S1.symm ▸ Nat.one_pos)))

/-! The run of each case at point `t`, on the buffers the pipeline passes. -/
noncomputable abbrev RA (c : Dev nD) (t : Fin (cfgM m).N) (h1 : cond1 (grid0.coords t)) (h2 : cond2 (grid0.coords t)) (h3 : ¬cond3 (grid0.coords t)) :=
  runA (F := F) c (grid0.coords t) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) (ms8 m t) (hs8 m t) (ms9 m t) (hs9 m t) (ms10 m t) (hs10 m t) sc0 (Memref.isWhole_whole _) sc1 (Memref.isWhole_whole _) sc2 (Memref.isWhole_whole _) sc3 (Memref.isWhole_whole _) h1 h2 h3 (iblk m c 0 t) (iblk m c 1 t) (iblk m c 2 t) (iblk m c 3 t) (iblk m c 4 t) (iblk m c 5 t) (tbl m 0)
noncomputable abbrev RB (c : Dev nD) (t : Fin (cfgM m).N) (h1 : cond1 (grid0.coords t)) (h2 : ¬cond2 (grid0.coords t)) (h3 : ¬cond3 (grid0.coords t)) :=
  runB (F := F) c (grid0.coords t) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) (ms8 m t) (hs8 m t) (ms9 m t) (hs9 m t) (ms10 m t) (hs10 m t) sc0 (Memref.isWhole_whole _) sc1 (Memref.isWhole_whole _) sc2 (Memref.isWhole_whole _) sc3 (Memref.isWhole_whole _) h1 h2 h3 (iblk m c 0 t) (iblk m c 1 t) (iblk m c 2 t) (iblk m c 3 t) (iblk m c 4 t) (iblk m c 5 t) (tbl m 0)
noncomputable abbrev RC (c : Dev nD) (t : Fin (cfgM m).N) (h1 : ¬cond1 (grid0.coords t)) (h2 : ¬cond2 (grid0.coords t)) (h3 : ¬cond3 (grid0.coords t)) (xs : Vec F S256x10240 .bf16) :=
  runC (F := F) c (grid0.coords t) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) (ms8 m t) (hs8 m t) (ms9 m t) (hs9 m t) (ms10 m t) (hs10 m t) sc0 (Memref.isWhole_whole _) sc1 (Memref.isWhole_whole _) sc2 (Memref.isWhole_whole _) sc3 (Memref.isWhole_whole _) h1 h2 h3 (iblk m c 0 t) (iblk m c 1 t) (iblk m c 2 t) (iblk m c 3 t) (iblk m c 4 t) (iblk m c 5 t) (tbl m 0) xs
noncomputable abbrev RD (hH : Hyps m) (c : Dev nD) (t : Fin (cfgM m).N) (h1 : ¬cond1 (grid0.coords t)) (h2 : ¬cond2 (grid0.coords t)) (h3 : cond3 (grid0.coords t)) (xs : Vec F S256x10240 .bf16) :=
  runD (F := F) c (grid0.coords t) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) (ms8 m t) (hs8 m t) (ms9 m t) (hs9 m t) (ms10 m t) (hs10 m t) sc0 (Memref.isWhole_whole _) sc1 (Memref.isWhole_whole _) sc2 (Memref.isWhole_whole _) sc3 (Memref.isWhole_whole _) h1 h2 h3 (iblk m c 0 t) (iblk m c 1 t) (iblk m c 2 t) (iblk m c 3 t) (iblk m c 4 t) (iblk m c 5 t) (tbl m 0) xs (hH c t)

/-- The kernel body at point `t`, on what the pipeline calls it with. -/
abbrev bodyAt (t : Fin (cfgM m).N) : Prog (TpuEff nD τ sig (Elt F) Λ₀ .tc) PUnit :=
  cc0_proj (grid0.coords t) tbM0_0 htbM0_0 (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) (ms8 m t) (hs8 m t) (ms9 m t) (hs9 m t) (ms10 m t) (hs10 m t) sc0 (Memref.isWhole_whole _) sc1 (Memref.isWhole_whole _) sc2 (Memref.isWhole_whole _) sc3 (Memref.isWhole_whole _)

/-- What the dequantised rows' buffer holds after the first column block's loop at point `t`. -/
abbrev Dq (c : Dev nD) (t : Fin (cfgM m).N) (h1 : cond1 (grid0.coords t)) (f : BufTy.Contents (Elt F) sc0.view.ty) : Prop :=
  DqOf c (grid0.coords t) tbM0_0 htbM0_0 (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) (ms8 m t) (hs8 m t) (ms9 m t) (hs9 m t) (ms10 m t) (hs10 m t) sc0 (Memref.isWhole_whole _) sc1 (Memref.isWhole_whole _) sc2 (Memref.isWhole_whole _) sc3 (Memref.isWhole_whole _) h1 (iblk m c 0 t) (iblk m c 1 t) f
/-- The block of `ph` the run of case A leaves, over any contents `f` of its buffer. -/
noncomputable def outA (c : Dev nD) (t : Fin (cfgM m).N) (h1 : cond1 (grid0.coords t)) (h2 : cond2 (grid0.coords t)) (h3 : ¬cond3 (grid0.coords t)) (g : BufTy.Contents (Elt F) sc0.view.ty)
    (f : BufTy.Contents (Elt F) (ms6 m t).view.ty) : Vec F S256x512 .bf16 := (ms6 m t).view.read (Elt F) ((ms6 m t).view.writes (Elt F) f ((RA m c t h1 h2 h3).1 g))
/-- The block of `ph` the run of case B leaves, over any contents `f` of its buffer. -/
noncomputable def outB (c : Dev nD) (t : Fin (cfgM m).N) (h1 : cond1 (grid0.coords t)) (h2 : ¬cond2 (grid0.coords t)) (h3 : ¬cond3 (grid0.coords t)) (g : BufTy.Contents (Elt F) sc0.view.ty)
    (f : BufTy.Contents (Elt F) (ms6 m t).view.ty) : Vec F S256x512 .bf16 := (ms6 m t).view.read (Elt F) ((ms6 m t).view.writes (Elt F) f ((RB m c t h1 h2 h3).1 g))
/-- The block of `ph` the run of case C leaves, over any contents `f` of its buffer. -/
noncomputable def outC (c : Dev nD) (t : Fin (cfgM m).N) (h1 : ¬cond1 (grid0.coords t)) (h2 : ¬cond2 (grid0.coords t)) (h3 : ¬cond3 (grid0.coords t)) (xs : Vec F S256x10240 .bf16)
    (f : BufTy.Contents (Elt F) (ms6 m t).view.ty) : Vec F S256x512 .bf16 := (ms6 m t).view.read (Elt F) ((ms6 m t).view.writes (Elt F) f (RC m c t h1 h2 h3 xs).1)
/-- The block of `ph` the run of case D leaves, over any contents `f` of its buffer. -/
noncomputable def outD (hH : Hyps m) (c : Dev nD) (t : Fin (cfgM m).N) (h1 : ¬cond1 (grid0.coords t)) (h2 : ¬cond2 (grid0.coords t)) (h3 : cond3 (grid0.coords t)) (xs : Vec F S256x10240 .bf16)
    (f : BufTy.Contents (Elt F) (ms6 m t).view.ty) : Vec F S256x512 .bf16 := (ms6 m t).view.read (Elt F) ((ms6 m t).view.writes (Elt F) f (RD m hH c t h1 h2 h3 xs).1)

/-- What is claimed of the run, point by point: `XR n` of the dequantised rows' buffer before point `n`, `PH t` of the
    block of `ph` left at point `t`, with the proof that each case's stores establish them. -/
structure Spec (F : FTy → Type) [FloatOps F] where
  XR : Dev nD → ℕ → Vec F S256x10240 .bf16 → Prop
  PH : Dev nD → ℕ → Vec F S256x512 .bf16 → Prop

/-- Each case's stores establish what is claimed. -/
structure Spec.Ok (hH : Hyps m) (S : Spec F) : Prop where
  x0 : ∀ (c : Dev nD) (d : Vec F S256x10240 .bf16), S.XR c 0 d
  xA : ∀ (c : Dev nD) (t : Fin (cfgM m).N) (h1 : cond1 (grid0.coords t)) (f : BufTy.Contents (Elt F) sc0.view.ty), Dq m c t h1 f → S.XR c (t.val + 1) (sc0.view.read (Elt F) f)
  xC : ∀ (c : Dev nD) (t : Fin (cfgM m).N), ¬cond1 (grid0.coords t) → ∀ d : Vec F S256x10240 .bf16, S.XR c t.val d → S.XR c (t.val + 1) d
  pA : ∀ (c : Dev nD) (t : Fin (cfgM m).N) (h1 : cond1 (grid0.coords t)) (h2 : cond2 (grid0.coords t)) (h3 : ¬cond3 (grid0.coords t)) (g : BufTy.Contents (Elt F) sc0.view.ty) (f : BufTy.Contents (Elt F) (ms6 m t).view.ty), Dq m c t h1 g → S.PH c t.val (outA m c t h1 h2 h3 g f)
  pB : ∀ (c : Dev nD) (t : Fin (cfgM m).N) (h1 : cond1 (grid0.coords t)) (h2 : ¬cond2 (grid0.coords t)) (h3 : ¬cond3 (grid0.coords t)) (g : BufTy.Contents (Elt F) sc0.view.ty) (f : BufTy.Contents (Elt F) (ms6 m t).view.ty), Dq m c t h1 g → S.PH c t.val (outB m c t h1 h2 h3 g f)
  pC : ∀ (c : Dev nD) (t : Fin (cfgM m).N) (h1 : ¬cond1 (grid0.coords t)) (h2 : ¬cond2 (grid0.coords t)) (h3 : ¬cond3 (grid0.coords t)) (xs : Vec F S256x10240 .bf16) (f : BufTy.Contents (Elt F) (ms6 m t).view.ty), S.XR c t.val xs → S.PH c t.val (outC m c t h1 h2 h3 xs f)
  pD : ∀ (c : Dev nD) (t : Fin (cfgM m).N) (h1 : ¬cond1 (grid0.coords t)) (h2 : ¬cond2 (grid0.coords t)) (h3 : cond3 (grid0.coords t)) (xs : Vec F S256x10240 .bf16) (f : BufTy.Contents (Elt F) (ms6 m t).view.ty), S.XR c t.val xs → S.PH c t.val (outD m hH c t h1 h2 h3 xs f)

/-- Nothing claimed. -/
def Spec.none : Spec F := ⟨fun _ _ _ => True, fun _ _ _ => True⟩
theorem Spec.none_ok (hH : Hyps m) : Spec.Ok m hH (Spec.none (F := F)) :=
  ⟨fun _ _ => trivial, fun _ _ _ _ _ => trivial, fun _ _ _ _ _ => trivial, fun _ _ _ _ _ _ _ _ => trivial, fun _ _ _ _ _ _ _ _ => trivial,
    fun _ _ _ _ _ _ _ _ => trivial, fun _ _ _ _ _ _ _ _ => trivial⟩

variable (S : Spec F) {hH : Hyps m} (hS : S.Ok m hH)

/-- The invariant before point `n`. -/
def Phi (c : Dev nD) (n : ℕ) : sProp 𝕄 :=
  iprop(((∃ d, ⌜S.XR c n d⌝ ∗ owns (c : Thread nD τ) sc0 fullShare d) ∗ (∃ d, owns (c : Thread nD τ) sc1 fullShare d) ∗ (∃ d, owns (c : Thread nD τ) sc2 fullShare d) ∗ (∃ d, owns (c : Thread nD τ) sc3 fullShare d))
    ∗ (∃ r, prngReg c r) ∗ tbPt c tbM0_0 (tbl m 0))

/-- The proof data: the inputs' buffers are left as found, `ph`'s block satisfies `PH`, the other outputs hold anything. -/
def rdat (c : Dev nD) : Pipeline.RDat τ (Elt F) Unit ℕ (UR sig nD τ) ℕ (cfgM m) c where
  A w := V m c (Pipeline.arrRef spec0 w)
  after w t Y X := match w with
    | ⟨0, _⟩ => X = Y
    | ⟨1, _⟩ => X = Y
    | ⟨2, _⟩ => X = Y
    | ⟨3, _⟩ => X = Y
    | ⟨4, _⟩ => X = Y
    | ⟨5, _⟩ => X = Y
    | ⟨6, _⟩ => S.PH c t.val X
    | _ => True
  Φ t := Phi m S c t.val
  q _ := fullShare
  owed _ := 0

theorem finds0 (c : Dev nD) (t : Fin (cfgM m).N) (Y) (h : (rdat m S c).Finds 0 t Y) : Y = iblk m c 0 t := by
  obtain ⟨d, hd⟩ := Pipeline.RDat.finds_in_eq_fetched (rdat m S c) 0 rfl (fun _ _ _ => rfl) (fun _ _ _ h => h) t Y h
  rw [hd]; unfold Pipeline.RDat.fetched Pipeline.RDat.blockOf iblk; rfl
theorem finds1 (c : Dev nD) (t : Fin (cfgM m).N) (Y) (h : (rdat m S c).Finds 1 t Y) : Y = iblk m c 1 t := by
  obtain ⟨d, hd⟩ := Pipeline.RDat.finds_in_eq_fetched (rdat m S c) 1 rfl (fun _ _ _ => rfl) (fun _ _ _ h => h) t Y h
  rw [hd]; unfold Pipeline.RDat.fetched Pipeline.RDat.blockOf iblk; rfl
theorem finds2 (c : Dev nD) (t : Fin (cfgM m).N) (Y) (h : (rdat m S c).Finds 2 t Y) : Y = iblk m c 2 t := by
  obtain ⟨d, hd⟩ := Pipeline.RDat.finds_in_eq_fetched (rdat m S c) 2 rfl (fun _ _ _ => rfl) (fun _ _ _ h => h) t Y h
  rw [hd]; unfold Pipeline.RDat.fetched Pipeline.RDat.blockOf iblk; rfl
theorem finds3 (c : Dev nD) (t : Fin (cfgM m).N) (Y) (h : (rdat m S c).Finds 3 t Y) : Y = iblk m c 3 t := by
  obtain ⟨d, hd⟩ := Pipeline.RDat.finds_in_eq_fetched (rdat m S c) 3 rfl (fun _ _ _ => rfl) (fun _ _ _ h => h) t Y h
  rw [hd]; unfold Pipeline.RDat.fetched Pipeline.RDat.blockOf iblk; rfl
theorem finds4 (c : Dev nD) (t : Fin (cfgM m).N) (Y) (h : (rdat m S c).Finds 4 t Y) : Y = iblk m c 4 t := by
  obtain ⟨d, hd⟩ := Pipeline.RDat.finds_in_eq_fetched (rdat m S c) 4 rfl (fun _ _ _ => rfl) (fun _ _ _ h => h) t Y h
  rw [hd]; unfold Pipeline.RDat.fetched Pipeline.RDat.blockOf iblk; rfl
theorem finds5 (c : Dev nD) (t : Fin (cfgM m).N) (Y) (h : (rdat m S c).Finds 5 t Y) : Y = iblk m c 5 t := by
  obtain ⟨d, hd⟩ := Pipeline.RDat.finds_in_eq_fetched (rdat m S c) 5 rfl (fun _ _ _ => rfl) (fun _ _ _ h => h) t Y h
  rw [hd]; unfold Pipeline.RDat.fetched Pipeline.RDat.blockOf iblk; rfl

/-- What the body is called with at point `t`, and what it returns. -/
def bodyPre (c : Dev nD) (t : Fin (cfgM m).N) (Y : (w : Fin (cfgM m).W) → ((cfgM m).win w).block.Idx → Elt F ((cfgM m).win w).elt) : sProp 𝕄 :=
  iprop(Phi m S c t.val ∗ (rdat m S c).owesAt () t.castSucc ∗ owns (c : Thread nD τ) (ms0 m t) fullShare (Y 0) ∗ owns (c : Thread nD τ) (ms1 m t) fullShare (Y 1) ∗ owns (c : Thread nD τ) (ms2 m t) fullShare (Y 2) ∗ owns (c : Thread nD τ) (ms3 m t) fullShare (Y 3) ∗ owns (c : Thread nD τ) (ms4 m t) fullShare (Y 4) ∗ owns (c : Thread nD τ) (ms5 m t) fullShare (Y 5) ∗ owns (c : Thread nD τ) (ms6 m t) fullShare (Y 6) ∗ owns (c : Thread nD τ) (ms7 m t) fullShare (Y 7) ∗ owns (c : Thread nD τ) (ms8 m t) fullShare (Y 8) ∗ owns (c : Thread nD τ) (ms9 m t) fullShare (Y 9) ∗ owns (c : Thread nD τ) (ms10 m t) fullShare (Y 10))
def bodyPost (c : Dev nD) (t : Fin (cfgM m).N) (Y : (w : Fin (cfgM m).W) → ((cfgM m).win w).block.Idx → Elt F ((cfgM m).win w).elt) : sProp 𝕄 :=
  iprop(Phi m S c (t.val + 1) ∗ (rdat m S c).owesAt () t.castSucc ∗ (∃ X, ⌜X = Y 0⌝ ∗ owns (c : Thread nD τ) (ms0 m t) fullShare X) ∗ (∃ X, ⌜X = Y 1⌝ ∗ owns (c : Thread nD τ) (ms1 m t) fullShare X) ∗ (∃ X, ⌜X = Y 2⌝ ∗ owns (c : Thread nD τ) (ms2 m t) fullShare X) ∗ (∃ X, ⌜X = Y 3⌝ ∗ owns (c : Thread nD τ) (ms3 m t) fullShare X) ∗ (∃ X, ⌜X = Y 4⌝ ∗ owns (c : Thread nD τ) (ms4 m t) fullShare X) ∗ (∃ X, ⌜X = Y 5⌝ ∗ owns (c : Thread nD τ) (ms5 m t) fullShare X) ∗ (∃ X, ⌜S.PH c t.val X⌝ ∗ owns (c : Thread nD τ) (ms6 m t) fullShare X) ∗ (∃ X, ⌜True⌝ ∗ owns (c : Thread nD τ) (ms7 m t) fullShare X) ∗ (∃ X, ⌜True⌝ ∗ owns (c : Thread nD τ) (ms8 m t) fullShare X) ∗ (∃ X, ⌜True⌝ ∗ owns (c : Thread nD τ) (ms9 m t) fullShare X) ∗ (∃ X, ⌜True⌝ ∗ owns (c : Thread nD τ) (ms10 m t) fullShare X))

include hS in
set_option maxHeartbeats 4000000 in
/-- The body at a point of case A. -/
theorem soundA (c : Dev nD) (t : Fin (cfgM m).N) (h1 : cond1 (grid0.coords t)) (h2 : cond2 (grid0.coords t)) (h3 : ¬cond3 (grid0.coords t)) (Y) (hY : ∀ w, (rdat m S c).Finds w t (Y w)) :
    bodyPre m S c t Y ⊢ wp frame (wpE (defs₀ (F := F)) Variants.none c none) Set.univ (bodyAt m t) (fun _ => bodyPost m S c t Y) := by
  unfold bodyPre bodyPost Phi bodyAt
  have e0 := finds0 m S c t _ (hY 0) ; have e1 := finds1 m S c t _ (hY 1) ; have e2 := finds2 m S c t _ (hY 2) ; have e3 := finds3 m S c t _ (hY 3) ; have e4 := finds4 m S c t _ (hY 4) ; have e5 := finds5 m S c t _ (hY 5)
  rw [e0, e1, e2, e3, e4, e5]
  iintro ⟨⟨⟨⟨%xs, %hx, S0⟩, S1, S2, S3⟩, Hg, HT⟩, Ho, H0, H1, H2, H3, H4, H5, H6, H7, H8, H9, H10⟩
  iapply ((RA m c t h1 h2 h3).2 Set.univ _)
  isplitl [H0 H1 H2 H3 H4 H5 HT]
  · isplitl [H0]; · iexact H0
    isplitl [H1]; · iexact H1
    isplitl [H2]; · iexact H2
    isplitl [H3]; · iexact H3
    isplitl [H4]; · iexact H4
    isplitl [H5]; · iexact H5
    iexact HT
  isplitl [H7 H8 H9 H10 S1 S2 S3]
  · isplitl [H7]; · iexists _; iexact H7
    isplitl [H8]; · iexists _; iexact H8
    isplitl [H9]; · iexists _; iexact H9
    isplitl [H10]; · iexists _; iexact H10
    isplitl [S1]; · iexact S1
    isplitl [S2]; · iexact S2
    iexact S3
  isplitl [H6]; · iexists _; iexact H6
  isplitl [S0]; · iexists _; iexact S0
  iintro ⟨⟨H0, H1, H2, H3, H4, H5, HT⟩, ⟨⟨%y7, H7⟩, ⟨%y8, H8⟩, ⟨%y9, H9⟩, ⟨%y10, H10⟩, S1, S2, S3⟩, ⟨%f0, %hf0, S0, ⟨%f6, H6⟩⟩⟩
  isplitl [S0 S1 S2 S3 Hg HT]
  · isplitl [S0 S1 S2 S3]
    · isplitl [S0]
      · iexists _; isplitr; swap
        · unfold owns; iexists _; isplitr; swap; · iexact S0
          ipureintro; rfl
        · ipureintro; exact hS.xA c t h1 f0 hf0
      isplitl [S1]; · iexact S1
      isplitl [S2]; · iexact S2
      iexact S3
    isplitl [Hg]; · iexact Hg
    iexact HT
  isplitl [Ho]; · iexact Ho
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap
    · unfold owns; iexists _; isplitr; swap; · iexact H6
      ipureintro; rfl
    · ipureintro; exact hS.pA c t h1 h2 h3 f0 f6 hf0
  isplitl [H7]
  · iexists _; isplitr; swap; · iexact H7
    ipureintro; trivial
  isplitl [H8]
  · iexists _; isplitr; swap; · iexact H8
    ipureintro; trivial
  isplitl [H9]
  · iexists _; isplitr; swap; · iexact H9
    ipureintro; trivial
  iexists _; isplitr; swap; · iexact H10
  ipureintro; trivial

include hS in
set_option maxHeartbeats 4000000 in
/-- The body at a point of case B. -/
theorem soundB (c : Dev nD) (t : Fin (cfgM m).N) (h1 : cond1 (grid0.coords t)) (h2 : ¬cond2 (grid0.coords t)) (h3 : ¬cond3 (grid0.coords t)) (Y) (hY : ∀ w, (rdat m S c).Finds w t (Y w)) :
    bodyPre m S c t Y ⊢ wp frame (wpE (defs₀ (F := F)) Variants.none c none) Set.univ (bodyAt m t) (fun _ => bodyPost m S c t Y) := by
  unfold bodyPre bodyPost Phi bodyAt
  have e0 := finds0 m S c t _ (hY 0) ; have e1 := finds1 m S c t _ (hY 1) ; have e2 := finds2 m S c t _ (hY 2) ; have e3 := finds3 m S c t _ (hY 3) ; have e4 := finds4 m S c t _ (hY 4) ; have e5 := finds5 m S c t _ (hY 5)
  rw [e0, e1, e2, e3, e4, e5]
  iintro ⟨⟨⟨⟨%xs, %hx, S0⟩, S1, S2, S3⟩, Hg, HT⟩, Ho, H0, H1, H2, H3, H4, H5, H6, H7, H8, H9, H10⟩
  iapply ((RB m c t h1 h2 h3).2 Set.univ _)
  isplitl [H0 H1 H2 H3 H4 H5 HT]
  · isplitl [H0]; · iexact H0
    isplitl [H1]; · iexact H1
    isplitl [H2]; · iexact H2
    isplitl [H3]; · iexact H3
    isplitl [H4]; · iexact H4
    isplitl [H5]; · iexact H5
    iexact HT
  isplitl [H7 H8 H9 H10 S1 S2 S3]
  · isplitl [H7]; · iexists _; iexact H7
    isplitl [H8]; · iexists _; iexact H8
    isplitl [H9]; · iexists _; iexact H9
    isplitl [H10]; · iexists _; iexact H10
    isplitl [S1]; · iexact S1
    isplitl [S2]; · iexact S2
    iexact S3
  isplitl [H6]; · iexists _; iexact H6
  isplitl [S0]; · iexists _; iexact S0
  iintro ⟨⟨H0, H1, H2, H3, H4, H5, HT⟩, ⟨⟨%y7, H7⟩, ⟨%y8, H8⟩, ⟨%y9, H9⟩, ⟨%y10, H10⟩, S1, S2, S3⟩, ⟨%f0, %hf0, S0, ⟨%f6, H6⟩⟩⟩
  isplitl [S0 S1 S2 S3 Hg HT]
  · isplitl [S0 S1 S2 S3]
    · isplitl [S0]
      · iexists _; isplitr; swap
        · unfold owns; iexists _; isplitr; swap; · iexact S0
          ipureintro; rfl
        · ipureintro; exact hS.xA c t h1 f0 hf0
      isplitl [S1]; · iexact S1
      isplitl [S2]; · iexact S2
      iexact S3
    isplitl [Hg]; · iexact Hg
    iexact HT
  isplitl [Ho]; · iexact Ho
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap
    · unfold owns; iexists _; isplitr; swap; · iexact H6
      ipureintro; rfl
    · ipureintro; exact hS.pB c t h1 h2 h3 f0 f6 hf0
  isplitl [H7]
  · iexists _; isplitr; swap; · iexact H7
    ipureintro; trivial
  isplitl [H8]
  · iexists _; isplitr; swap; · iexact H8
    ipureintro; trivial
  isplitl [H9]
  · iexists _; isplitr; swap; · iexact H9
    ipureintro; trivial
  iexists _; isplitr; swap; · iexact H10
  ipureintro; trivial

include hS in
set_option maxHeartbeats 4000000 in
/-- The body at a point of case C. -/
theorem soundC (c : Dev nD) (t : Fin (cfgM m).N) (h1 : ¬cond1 (grid0.coords t)) (h2 : ¬cond2 (grid0.coords t)) (h3 : ¬cond3 (grid0.coords t)) (Y) (hY : ∀ w, (rdat m S c).Finds w t (Y w)) :
    bodyPre m S c t Y ⊢ wp frame (wpE (defs₀ (F := F)) Variants.none c none) Set.univ (bodyAt m t) (fun _ => bodyPost m S c t Y) := by
  unfold bodyPre bodyPost Phi bodyAt
  have e0 := finds0 m S c t _ (hY 0) ; have e1 := finds1 m S c t _ (hY 1) ; have e2 := finds2 m S c t _ (hY 2) ; have e3 := finds3 m S c t _ (hY 3) ; have e4 := finds4 m S c t _ (hY 4) ; have e5 := finds5 m S c t _ (hY 5)
  rw [e0, e1, e2, e3, e4, e5]
  iintro ⟨⟨⟨⟨%xs, %hx, S0⟩, S1, S2, S3⟩, Hg, HT⟩, Ho, H0, H1, H2, H3, H4, H5, H6, H7, H8, H9, H10⟩
  iapply ((RC m c t h1 h2 h3 xs).2 Set.univ _)
  isplitl [H0 H1 H2 H3 H4 H5 HT]
  · isplitl [H0]; · iexact H0
    isplitl [H1]; · iexact H1
    isplitl [H2]; · iexact H2
    isplitl [H3]; · iexact H3
    isplitl [H4]; · iexact H4
    isplitl [H5]; · iexact H5
    iexact HT
  isplitl [H7 H8 H9 H10 S1 S2 S3]
  · isplitl [H7]; · iexists _; iexact H7
    isplitl [H8]; · iexists _; iexact H8
    isplitl [H9]; · iexists _; iexact H9
    isplitl [H10]; · iexists _; iexact H10
    isplitl [S1]; · iexact S1
    isplitl [S2]; · iexact S2
    iexact S3
  isplitl [H6]; · iexists _; iexact H6
  isplitl [S0]; · iexact S0
  iintro ⟨⟨H0, H1, H2, H3, H4, H5, HT⟩, ⟨⟨%y7, H7⟩, ⟨%y8, H8⟩, ⟨%y9, H9⟩, ⟨%y10, H10⟩, S1, S2, S3⟩, ⟨%f6, H6⟩, S0⟩
  isplitl [S0 S1 S2 S3 Hg HT]
  · isplitl [S0 S1 S2 S3]
    · isplitl [S0]
      · iexists xs; isplitr
        · ipureintro; exact hS.xC c t h1 xs hx
        · iexact S0
      isplitl [S1]; · iexact S1
      isplitl [S2]; · iexact S2
      iexact S3
    isplitl [Hg]; · iexact Hg
    iexact HT
  isplitl [Ho]; · iexact Ho
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap
    · unfold owns; iexists _; isplitr; swap; · iexact H6
      ipureintro; rfl
    · ipureintro; exact hS.pC c t h1 h2 h3 xs f6 hx
  isplitl [H7]
  · iexists _; isplitr; swap; · iexact H7
    ipureintro; trivial
  isplitl [H8]
  · iexists _; isplitr; swap; · iexact H8
    ipureintro; trivial
  isplitl [H9]
  · iexists _; isplitr; swap; · iexact H9
    ipureintro; trivial
  iexists _; isplitr; swap; · iexact H10
  ipureintro; trivial

include hS in
set_option maxHeartbeats 4000000 in
/-- The body at a point of case D. -/
theorem soundD (c : Dev nD) (t : Fin (cfgM m).N) (h1 : ¬cond1 (grid0.coords t)) (h2 : ¬cond2 (grid0.coords t)) (h3 : cond3 (grid0.coords t)) (Y) (hY : ∀ w, (rdat m S c).Finds w t (Y w)) :
    bodyPre m S c t Y ⊢ wp frame (wpE (defs₀ (F := F)) Variants.none c none) Set.univ (bodyAt m t) (fun _ => bodyPost m S c t Y) := by
  unfold bodyPre bodyPost Phi bodyAt
  have e0 := finds0 m S c t _ (hY 0) ; have e1 := finds1 m S c t _ (hY 1) ; have e2 := finds2 m S c t _ (hY 2) ; have e3 := finds3 m S c t _ (hY 3) ; have e4 := finds4 m S c t _ (hY 4) ; have e5 := finds5 m S c t _ (hY 5)
  rw [e0, e1, e2, e3, e4, e5]
  iintro ⟨⟨⟨⟨%xs, %hx, S0⟩, S1, S2, S3⟩, Hg, HT⟩, Ho, H0, H1, H2, H3, H4, H5, H6, H7, H8, H9, H10⟩
  iapply ((RD m hH c t h1 h2 h3 xs).2 Set.univ _)
  isplitl [H0 H1 H2 H3 H4 H5 HT]
  · isplitl [H0]; · iexact H0
    isplitl [H1]; · iexact H1
    isplitl [H2]; · iexact H2
    isplitl [H3]; · iexact H3
    isplitl [H4]; · iexact H4
    isplitl [H5]; · iexact H5
    iexact HT
  isplitl [H7 H8 H9 H10 S1 S2 S3]
  · isplitl [H7]; · iexists _; iexact H7
    isplitl [H8]; · iexists _; iexact H8
    isplitl [H9]; · iexists _; iexact H9
    isplitl [H10]; · iexists _; iexact H10
    isplitl [S1]; · iexact S1
    isplitl [S2]; · iexact S2
    iexact S3
  isplitl [H6]; · iexists _; iexact H6
  isplitl [S0]; · iexact S0
  iintro ⟨⟨H0, H1, H2, H3, H4, H5, HT⟩, ⟨⟨%y7, H7⟩, ⟨%y8, H8⟩, ⟨%y9, H9⟩, ⟨%y10, H10⟩, S1, S2, S3⟩, ⟨%f6, H6⟩, S0⟩
  isplitl [S0 S1 S2 S3 Hg HT]
  · isplitl [S0 S1 S2 S3]
    · isplitl [S0]
      · iexists xs; isplitr
        · ipureintro; exact hS.xC c t h1 xs hx
        · iexact S0
      isplitl [S1]; · iexact S1
      isplitl [S2]; · iexact S2
      iexact S3
    isplitl [Hg]; · iexact Hg
    iexact HT
  isplitl [Ho]; · iexact Ho
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap
    · unfold owns; iexists _; isplitr; swap; · iexact H6
      ipureintro; rfl
    · ipureintro; exact hS.pD c t h1 h2 h3 xs f6 hx
  isplitl [H7]
  · iexists _; isplitr; swap; · iexact H7
    ipureintro; trivial
  isplitl [H8]
  · iexists _; isplitr; swap; · iexact H8
    ipureintro; trivial
  isplitl [H9]
  · iexists _; isplitr; swap; · iexact H9
    ipureintro; trivial
  iexists _; isplitr; swap; · iexact H10
  ipureintro; trivial

include hS in
/-- The body at any point. -/
theorem sound (c : Dev nD) (t : Fin (cfgM m).N) (Y) (hY : ∀ w, (rdat m S c).Finds w t (Y w)) :
    bodyPre m S c t Y ⊢ wp frame (wpE (defs₀ (F := F)) Variants.none c none) Set.univ (bodyAt m t) (fun _ => bodyPost m S c t Y) := by
  have e1 := hcond1 t
  have e2 := hcond2 t
  have e3 := hcond3 t
  by_cases h1 : cond1 (grid0.coords t)
  · have h3 : ¬cond3 (grid0.coords t) := fun h => by have := e1.1 h1; have := e3.1 h; omega
    by_cases h2 : cond2 (grid0.coords t)
    · exact soundA m S hS c t h1 h2 h3 Y hY
    · exact soundB m S hS c t h1 h2 h3 Y hY
  · have h2 : ¬cond2 (grid0.coords t) := fun h => h1 (e1.2 (by rw [e2.1 h]))
    by_cases h3 : cond3 (grid0.coords t)
    · exact soundD m S hS c t h1 h2 h3 Y hY
    · exact soundC m S hS c t h1 h2 h3 Y hY

theorem defs₀_row (t : Fin (cfgM m).N) :
    defs₀ (F := F) .tc (cfgM m).body ((cfgM m).bodyArgs t ((cfgM m).slots t)) = bodyAt m t := by
  unfold defs₀; rw [Defs.onTc_tc]

include hS in
theorem body_obligation (c : Dev nD) : (rdat m S c).BodyObligation (defs₀ (F := F)) Variants.none () Set.univ := fun t Y hY => by
  rw [bigSep_W0, bigSep_W0, defs₀_row m]
  exact triple_restated (sound m S hS c t Y hY) rfl .rfl fun _ => .rfl

include hS in
theorem hin (c : Dev nD) : iprop(Pipeline.ΦA spec0 c ∗ Pipeline.ΦT pre0 (tbl m) c) ⊢ (rdat m S c).Φ 0 := by
  rw [show (rdat m S c).Φ 0 = Phi m S c 0 from rfl, PhiA_eq, PhiT_eq]
  unfold Phi
  iintro ⟨⟨⟨⟨%d, S0⟩, S1, S2, S3⟩, Hg⟩, HT⟩
  isplitl [S0 S1 S2 S3]
  · isplitl [S0]
    · iexists d; isplitr; · ipureintro; exact hS.x0 c d
      iexact S0
    isplitl [S1]; · iexact S1
    isplitl [S2]; · iexact S2
    iexact S3
  isplitl [Hg]; · iexact Hg
  iexact HT

theorem hout (c : Dev nD) : (rdat m S c).Φ (Fin.last (cfgM m).N) ⊢ Pipeline.ΦA spec0 c := by
  rw [show (rdat m S c).Φ (Fin.last (cfgM m).N) = Phi m S c (cfgM m).N from rfl, PhiA_eq]
  unfold Phi
  iintro ⟨⟨⟨%d, -, S0⟩, S1, S2, S3⟩, Hg, -⟩
  isplitl [S0 S1 S2 S3]
  · isplitl [S0]; · iexists d; iexact S0
    isplitl [S1]; · iexact S1
    isplitl [S2]; · iexact S2
    iexact S3
  iexact Hg

include hS in
-- the launch theorem's implicit arguments are found by unifying its conclusion with this one
set_option backward.isDefEq.respectTransparency.types false in
/-- The launch: every execution terminates, the arrays end as the proof data say, and every counter at zero. -/
theorem run_quiescent : θ_run defs (onTc (τ := τ) (main (F := F))) (s₀ m ρ)
    (fun r => Pipeline.RDat.FramePost (cfgM m) (rdat m S) (V m) r ∧ r.2.sem = fun _ => 0) :=
  Pipeline.RDat.θ_run_frameP_track (Q' := _) pcfgs (fun _ => adm m) (0 : Fin 1) launch0 defs₀ Variants.none (rdat m S) m ρ main
    (hbody := fun c => body_obligation m S hS c) (hshare := fun c w => by unfold Pipeline.RDat.share; split <;> rfl)
    (howed := fun _ _ => rfl) (V := V m) (hmain := hmain m Variants.none) (hA := fun _ _ => rfl) (hpf := V_pre m)
    (hin := hin m S hS) (hout := hout m S)

include hS in
/-- The frame: the arguments end unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨(h.1 c).2 main_arg0 (by decide : main_arg0 ∈ Pipeline.restRefs sig spec0),
    h.1.arr_in c 0 rfl,
    h.1.arr_in c 1 rfl,
    h.1.arr_in c 2 rfl,
    h.1.arr_in c 3 rfl,
    h.1.arr_in c 4 rfl,
    h.1.arr_in c 5 rfl⟩, h.2⟩) (run_quiescent m ρ S hS)

end Cert.Proj.Hand

end
-- ==== Proof.ProjHyps.lean ====
/- The precondition `fits` gives the side conditions the projection kernel's body assumes when it copies a sequence's rows
   to their place: every rectangle it reads or writes there lies inside its buffer, and covers whole pairs of rows. -/
module

public import proofs.«01_k».proof.Defs
public import proofs.«01_k».proof.Proof.Lens
public import proofs.«01_k».proof.Proof.ProjWords
public import proofs.«01_k».proof.Proof.ProjFrame

@[expose] public section

set_option maxRecDepth 65536

open Idealize.ShloMosaic Idealize.ShloMosaic.TcCoe

namespace Cert.Proj.Hand

open Cert.Proj Cert.Proj.Gen Cert.ProjWords

variable {F : FTy → Type} [FloatOps F]

section

variable (i : grid0.Coords) (w0 w1 w2 w3 w4 w5 l : BitVec 32)

/-! The words of the body are those of `ProjWords`. -/
theorem loopA_eq : k0_t3_loop i w0 w1 w2 w3 w4 w5 l = loopA (off (i 0).val w0 w1 w2 w3 w4 w5) l := rfl
theorem loopB_eq' : k0_t4_loop i w0 w1 w2 w3 w4 w5 l = loopB (off (i 0).val w0 w1 w2 w3 w4 w5) l := rfl
theorem mult_eq (t) : k0_mult4 i w0 w1 w2 w3 w4 w5 l t = row (off (i 0).val w0 w1 w2 w3 w4 w5) t.val := rfl

end

/-- A block of sixteen rows and a tile's columns lie in the packed rows. -/
theorem in_rows {n : ℕ} {o : Fin 2 → ℕ} (x c : ℕ) (ho : o = ![x, c]) (hx : x + 16 ≤ 880) (hc : c + 128 ≤ n) :
    ∀ a, o a + S16x128.size a ≤ (⟨2, ![880, n]⟩ : Shape).size a := fun a => by
  subst ho
  match a with
  | ⟨0, _⟩ => exact hx
  | ⟨1, _⟩ => exact hc

/-- A block of sixteen rows of a tile lies in the sequence's buffer. -/
theorem in_buf {o : Fin 3 → ℕ} (g x : ℕ) (ho : o = ![g, x, 0]) (hg : g < 41) (hx : x + 16 ≤ 288) :
    ∀ a, o a + S1x16x128.size a ≤ S41x288x128.size a := fun a => by
  subst ho
  match a with
  | ⟨0, _⟩ => exact hg
  | ⟨1, _⟩ => exact hx
  | ⟨2, _⟩ => show 0 + 128 ≤ 128; omega

/-- Sixteen rows from a multiple of sixteen are whole pairs of rows. -/
theorem packed_of {o : Fin 2 → ℕ} (x c : ℕ) (ho : o = ![x, c]) (hx : 16 ∣ x) (hinb : ∀ a, o a + S16x128.size a ≤ S880x5120.size a) :
    (Rect.unit (s := S880x5120) o S16x128.size hinb).PackedRows (EltTy.packing .bf16) := by
  subst ho
  have e : S880x5120.rowAx (show 2 ≤ 2 by omega) = 0 := rfl
  have p : EltTy.packing .bf16 = 2 := by decide +kernel
  refine Affine.packed_dvd (show 2 ≤ 2 by omega) ?_ ?_
  · rw [e, p]; exact Dvd.dvd.trans (show 2 ∣ 16 by decide) hx
  · rw [e, p]; show 2 ∣ 16; decide

/-- The side conditions hold of lengths that sum to at most 880, none above 256. -/
theorem chk1_of (i : grid0.Coords) (w : Fin 6 → BitVec 32) (l : BitVec 32)
    (h : (off (i 0).val (w 0) (w 1) (w 2) (w 3) (w 4) (w 5)).toNat + l.toNat ≤ 880) (hl : l.toNat ≤ 256) :
    k0_chk1 i (w 0) (w 1) (w 2) (w 3) (w 4) (w 5) l := by
  have noB : ∀ {P : Prop}, Fin (k0_t4_loop i (w 0) (w 1) (w 2) (w 3) (w 4) (w 5) l).trips → P := fun t =>
    absurd (lt_of_lt_of_eq t.isLt (show (k0_t4_loop i (w 0) (w 1) (w 2) (w 3) (w 4) (w 5) l).trips = 0 from tripsB h)) (Nat.not_lt_zero _)
  have dvd : ∀ t : Fin (k0_t3_loop i (w 0) (w 1) (w 2) (w 3) (w 4) (w 5) l).trips, 16 ∣ (row (off (i 0).val (w 0) (w 1) (w 2) (w 3) (w 4) (w 5)) t.val).toNat :=
    fun t => row_dvd h t.isLt
  have le : ∀ t : Fin (k0_t3_loop i (w 0) (w 1) (w 2) (w 3) (w 4) (w 5) l).trips, (row (off (i 0).val (w 0) (w 1) (w 2) (w 3) (w 4) (w 5)) t.val).toNat + 16 ≤ 880 :=
    fun t => row_le h t.isLt
  have sle : ∀ t : Fin (k0_t3_loop i (w 0) (w 1) (w 2) (w 3) (w 4) (w 5) l).trips, (src (off (i 0).val (w 0) (w 1) (w 2) (w 3) (w 4) (w 5)) t.val).toNat + 16 ≤ 288 :=
    fun t => src_le h hl t.isLt
  unfold k0_chk1 k0_chk1_0 k0_chk1_1 k0_chk1_2 k0_chk1_3 k0_chk1_4 k0_chk1_5 k0_chk1_6 k0_chk1_7
  repeat' apply And.intro
  exact fun _ => okA h
  exact fun t _ => dvd t
  iterate 40
    exact fun t _ => in_rows _ _ rfl (le t) (by decide)
    exact fun t _ => in_buf _ _ rfl (by decide) (sle t)
    exact fun t _ hinb => packed_of _ _ rfl (dvd t) hinb
  exact fun t _ => in_buf _ _ rfl (by decide) (sle t)
  exact fun t _ => in_rows _ _ rfl (le t) (by decide)
  exact fun _ => okB h
  all_goals exact fun t => noB t

/-- The word the body reads from the lengths' table at `b`. -/
theorem tb_word (m : (ℓ : Loc nD τ sig) → Buf (Elt F) ℓ) (b : ℕ) (hb : b < 6) (off : Fin 1 → ℕ) (ho : off = ![b]) (h) (h1) :
    tbM0_0.view.readAt (Elt F) (Rect.unit (s := S6) off S1.size h).toLoadRect (tbl m 0) (Shape.Idx.first h1)
      = m (((0 : Dev nD) : Thread nD τ).loc main_arg0) (ix1 ⟨b, hb⟩) := by
  subst ho
  refine (View.readAt_apply _ _ _).trans ?_
  have e : tbM0_0.view.read (Elt F) (tbl m 0) = m (((0 : Dev nD) : Thread nD τ).loc main_arg0) := rfl
  rw [e]
  congr 1
  funext a
  match a with
  | ⟨0, _⟩ => exact Fin.ext (by simp [Rect.toLoadRect, Shape.Idx.first, ix1])

theorem off242 (i : grid0.Coords) : k0_off242 i = ![(i 0).val] := by
  have e : ∀ b : Fin 6, (BitVec.ofNat 32 b.val).toNat = b.val := by decide
  exact congrArg (fun x : ℕ => (![x] : Fin 1 → ℕ)) (e (i 0))

/-- The side conditions of every point, from lengths that fit. -/
theorem hyps_of_fits (m : (ℓ : Loc nD τ sig) → Buf (Elt F) ℓ)
    (hf : Lens.Fits (m (((0 : Dev nD) : Thread nD τ).loc main_arg0))) : Hyps m := by
  intro c t h3
  have hi : ((grid0.coords t) 0).val < 6 := ((grid0.coords t) 0).isLt
  rw [tb_word m 0 (by omega) _ rfl, tb_word m 1 (by omega) _ rfl, tb_word m 2 (by omega) _ rfl, tb_word m 3 (by omega) _ rfl,
    tb_word m 4 (by omega) _ rfl, tb_word m 5 (by omega) _ rfl, tb_word m _ hi _ (off242 _)]
  exact chk1_of _ (fun b : Fin 6 => m (((0 : Dev nD) : Thread nD τ).loc main_arg0) (ix1 b)) _ (off_le _ hi (fun b : Fin 6 => m (((0 : Dev nD) : Thread nD τ).loc main_arg0) (ix1 b)) hf.sum) (hf.le _)

end Cert.Proj.Hand
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Gen.Pre_packed
public import proofs.«01_k».proof.Proof.Gen.Pre_fits
public import proofs.«01_k».proof.Proof.Gen.Proj
public import proofs.«01_k».proof.Proof.Gen.Proj.Skeleton
public import proofs.«01_k».proof.Proof.Gen.Proj.Loops
public import proofs.«01_k».proof.Proof.Gen.Proj.Launch
public import proofs.«01_k».proof.Proof.Gen.ProjIdeal
public import proofs.«01_k».proof.Proof.Gen.ProjIdeal.Skeleton
public import proofs.«01_k».proof.Proof.Gen.ProjIdeal.Loops
public import proofs.«01_k».proof.Proof.Gen.ProjIdeal.Launch
public import proofs.«01_k».proof.Proof.Gen.ProjReferenceIdeal
public import proofs.«01_k».proof.Proof.Gen.ProjReferenceIdeal.Skeleton
public import proofs.«01_k».proof.Proof.Gen.ProjReferenceIdeal.Launch
public import proofs.«01_k».proof.Proof.Gen.ProjReferenceIdeal.Points
public import proofs.«01_k».proof.Proof.Gen.ProjReferenceIdeal.Frame
public import proofs.«01_k».proof.Proof.Gen.ProjReferenceIdeal.Value
public import proofs.«01_k».proof.Proof.Equation
public import proofs.«01_k».proof.Proof.Hyps
public import proofs.«01_k».proof.Proof.ProjRef
public import proofs.«01_k».proof.Proof.ProjHyps
public import Idealize.ShloMosaic.Adequacy
public import Idealize.ShloMosaic.Init

@[expose] public section

noncomputable section

namespace Cert.Proof

open Idealize.ShloMosaic Idealize.SL.Sem Cert.Kernel

/-- Everything the certificate claims, of the head and of the projection. The kernels' frames use that the lengths fit the
    packed rows, so that what they load and store at offsets made of the lengths stays inside its buffer. -/
theorem claim : Cert.Claim := ⟨Cert.Kernel.Gen.facts, Cert.KernelIdeal.Gen.facts, Cert.ReferenceIdeal.Gen.facts,
  Cert.Proj.Gen.facts, Cert.ProjIdeal.Gen.facts, Cert.ProjReferenceIdeal.Gen.facts, Cert.Pre_packed.Gen.facts, Cert.Pre_fits.Gen.facts,
  fun m g hp => Cert.Kernel.Gen.frame m g (Cert.Kernel.Hyp.ok m) (Cert.Kernel.Hyp.hyps_of_fits m (Cert.Lens.fits_of_pre _ _ _ _ _ (hp 0))),
  fun m g hp => Cert.KernelIdeal.Gen.frame m g (Cert.KernelIdeal.Hyp.ok m) (Cert.KernelIdeal.Hyp.hyps_of_fits m (Cert.Lens.fits_of_pre _ _ _ _ _ (hp 0))),
  fun m g _ => Cert.ReferenceIdeal.Gen.frame m g,
  fun m g _ => Cert.ReferenceIdeal.Gen.frame m g,
  fun m g hp => Cert.Proj.Hand.frame m g Cert.Proj.Hand.Spec.none (Cert.Proj.Hand.Spec.none_ok m (Cert.Proj.Hand.hyps_of_fits m (Cert.Lens.fits_of_pre_fits _ _ _ _ _ _ _ (hp 0)))),
  fun m g hp => Cert.ProjIdeal.Hand.frame m g Cert.ProjIdeal.Hand.Spec.none (Cert.ProjIdeal.Hand.Spec.none_ok m (Cert.ProjIdeal.Hand.hyps_of_fits m (Cert.Lens.fits_of_pre_fits _ _ _ _ _ _ _ (hp 0)))),
  fun m g _ => Cert.ProjReferenceIdeal.Gen.frame m g,
  fun m g _ => Cert.ProjReferenceIdeal.Gen.frame m g,
  trivial,
  Cert.Equation.algebraic,
  trivial,
  Cert.ProjReferenceIdeal.Ref.algebraic⟩

end Cert.Proof

end
